-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_heads [hPre_finite_heads : Cert.Pre_finite_heads.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_heads.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_heads [hPre_finite_heads : Cert.Pre_finite_heads.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_heads.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_finite_heads [hKernel18Ideal : Cert.Kernel18Ideal.Facts] [hPre_finite_heads : Cert.Pre_finite_heads.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_heads m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_finite_heads [hReference18Ideal : Cert.Reference18Ideal.Facts] [hPre_finite_heads : Cert.Pre_finite_heads.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_heads m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v220)) (v1 : (c : Dev Cert.KernelIdeal.nD) → Buf (Elt Ideal) ((c.tc : Thread Cert.KernelIdeal.nD Cert.KernelIdeal.τ).loc Cert.KernelIdeal.main_v223)) (v2 : (c : Dev Cert.KernelIdeal.nD) → Buf (Elt Ideal) ((c.tc : Thread Cert.KernelIdeal.nD Cert.KernelIdeal.τ).loc Cert.KernelIdeal.main_v229)) (v3 : (c : Dev Cert.KernelIdeal.nD) → Buf (Elt Ideal) ((c.tc : Thread Cert.KernelIdeal.nD Cert.KernelIdeal.τ).loc Cert.KernelIdeal.main_v228)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v220) = v0 c
          ∧ r.2.mem ((c.tc : Thread Cert.KernelIdeal.nD Cert.KernelIdeal.τ).loc Cert.KernelIdeal.main_v223) = v1 c
          ∧ r.2.mem ((c.tc : Thread Cert.KernelIdeal.nD Cert.KernelIdeal.τ).loc Cert.KernelIdeal.main_v229) = v2 c
          ∧ r.2.mem ((c.tc : Thread Cert.KernelIdeal.nD Cert.KernelIdeal.τ).loc Cert.KernelIdeal.main_v228) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal_pre_finite_heads [hKernel18Ideal : Cert.Kernel18Ideal.Facts] [hReference18Ideal : Cert.Reference18Ideal.Facts] [hPre_finite_heads : Cert.Pre_finite_heads.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_heads m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v118_0)) (v1 : (c : Dev Cert.Kernel18Ideal.nD) → Buf (Elt Ideal) ((c.tc : Thread Cert.Kernel18Ideal.nD Cert.Kernel18Ideal.τ).loc Cert.Kernel18Ideal.main_v119)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v118_0) = v0 c
          ∧ r.2.mem ((c.tc : Thread Cert.Kernel18Ideal.nD Cert.Kernel18Ideal.τ).loc Cert.Kernel18Ideal.main_v119) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v36) = v0 c
          ∧ r.2.mem ((c.tc : Thread Cert.Reference18Ideal.nD Cert.Reference18Ideal.τ).loc Cert.Reference18Ideal.main_v40) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_v35) = v1 c
          ∧ r.2.mem ((c.tc : Thread Cert.Reference20Ideal.nD Cert.Reference20Ideal.τ).loc Cert.Reference20Ideal.main_v17) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v3)) (v1 : (c : Dev Cert.Kernel21Ideal.nD) → Buf (Elt Ideal) ((c.tc : Thread Cert.Kernel21Ideal.nD Cert.Kernel21Ideal.τ).loc Cert.Kernel21Ideal.main_v0_0)) (v2 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_v0_0) = v1 c
          ∧ r.2.mem ((c.tc : Thread Cert.Kernel21Ideal.nD Cert.Kernel21Ideal.τ).loc Cert.Kernel21Ideal.main_v0_1) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_v14) = v1 c
          ∧ r.2.mem ((c.tc : Thread Cert.Reference21Ideal.nD Cert.Reference21Ideal.τ).loc Cert.Reference21Ideal.main_v15) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_v13) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v6)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v6) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v57) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v87) = v0 c
          ∧ r.2.mem ((c.tc : Thread Cert.Reference24Ideal.nD Cert.Reference24Ideal.τ).loc Cert.Reference24Ideal.main_v31) = v1 c
          ∧ r.2.mem ((c.tc : Thread Cert.Reference24Ideal.nD Cert.Reference24Ideal.τ).loc Cert.Reference24Ideal.main_v65) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite_heads : Cert.Pre_finite_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_heads (hKernel18Ideal := hKernel18Ideal) (hPre_finite_heads := hPre_finite_heads)
    ∧ quiescent_Reference18Ideal (hReference18Ideal := hReference18Ideal)
    ∧ quiescent_Reference18Ideal_pre_finite_heads (hReference18Ideal := hReference18Ideal) (hPre_finite_heads := hPre_finite_heads)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_heads (hKernel18Ideal := hKernel18Ideal) (hReference18Ideal := hReference18Ideal) (hPre_finite_heads := hPre_finite_heads)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S8192x16x128 : Shape := ⟨3, ![8192, 16, 128]⟩
abbrev S8192x16 : Shape := ⟨2, ![8192, 16]⟩
abbrev S_ : Shape := ⟨0, ![]⟩
abbrev S8192x16x1 : Shape := ⟨3, ![8192, 16, 1]⟩

class Facts : Prop where
  bitsLt_bf16_f32 : FTy.bits .bf16 < FTy.bits .f32
  bcast_S_S8192x16x128 : S_.BroadcastsInDim S8192x16x128 (![] : Fin 0 → Fin S8192x16x128.rank)
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  bcast_S8192x16x1_S8192x16x128_0_1_2 : S8192x16x1.BroadcastsInDim S8192x16x128 (![0, 1, 2] : Fin 3 → Fin S8192x16x128.rank)

variable [Facts]

def fn_part1 {F : FTy → Type} [FloatOps F] (main_v18 : IVec S8192x16x128 1) (main_v19 : FVec F S8192x16 .f32) : IVec S8192x16x128 1 :=
  let main_cst_3 : FVec F S_ .f32 := constant S_ .f32 0x7F800000#32
  let main_v20 : FVec F S8192x16 .f32 := broadcastInDim S8192x16 ![] bcast_S_S8192x16 main_cst_3
  let main_v21 : IVec S8192x16 1 := cmpf .olt main_v19 main_v20
  let main_v22 : IVec S8192x16x1 1 := broadcastInDim S8192x16x1 ![0, 1] bcast_S8192x16_S8192x16x1_0_1 main_v21
  let main_v23 : IVec S8192x16x128 1 := broadcastInDim S8192x16x128 ![0, 1, 2] bcast_S8192x16x1_S8192x16x128_0_1_2 main_v22
  let main_v24 : IVec S8192x16x128 1 := andi main_v18 main_v23
  main_v24

def fn {F : FTy → Type} [FloatOps F] (main_arg0 : FVec F S8192x16x128 .bf16) (main_arg1 : FVec F S8192x16x128 .bf16) (main_arg2 : FVec F S8192x16x128 .bf16) (main_arg3 : FVec F S8192x16 .f32) (main_arg4 : FVec F S8192x16x128 .bf16) : IVec S8192x16x128 1 :=
  let main_v0 : FVec F S8192x16x128 .f32 := (extf .f32 · bitsLt_bf16_f32) main_arg0
  let main_v1 : FVec F S8192x16x128 .f32 := Host.absf main_v0
  let main_cst : FVec F S_ .f32 := constant S_ .f32 0x7F800000#32
  let main_v2 : FVec F S8192x16x128 .f32 := broadcastInDim S8192x16x128 ![] bcast_S_S8192x16x128 main_cst
  let main_v3 : IVec S8192x16x128 1 := cmpf .olt main_v1 main_v2
  let main_v4 : FVec F S8192x16x128 .f32 := (extf .f32 · bitsLt_bf16_f32) main_arg1
  let main_v5 : FVec F S8192x16x128 .f32 := Host.absf main_v4
  let main_cst_0 : FVec F S_ .f32 := constant S_ .f32 0x7F800000#32
  let main_v6 : FVec F S8192x16x128 .f32 := broadcastInDim S8192x16x128 ![] bcast_S_S8192x16x128 main_cst_0
  let main_v7 : IVec S8192x16x128 1 := cmpf .olt main_v5 main_v6
  let main_v8 : IVec S8192x16x128 1 := andi main_v3 main_v7
  let main_v9 : FVec F S8192x16x128 .f32 := (extf .f32 · bitsLt_bf16_f32) main_arg2
  let main_v10 : FVec F S8192x16x128 .f32 := Host.absf main_v9
  let main_cst_1 : FVec F S_ .f32 := constant S_ .f32 0x7F800000#32
  let main_v11 : FVec F S8192x16x128 .f32 := broadcastInDim S8192x16x128 ![] bcast_S_S8192x16x128 main_cst_1
  let main_v12 : IVec S8192x16x128 1 := cmpf .olt main_v10 main_v11
  let main_v13 : IVec S8192x16x128 1 := andi main_v8 main_v12
  let main_v14 : FVec F S8192x16x128 .f32 := (extf .f32 · bitsLt_bf16_f32) main_arg4
  let main_v15 : FVec F S8192x16x128 .f32 := Host.absf main_v14
  let main_cst_2 : FVec F S_ .f32 := constant S_ .f32 0x7F800000#32
  let main_v16 : FVec F S8192x16x128 .f32 := broadcastInDim S8192x16x128 ![] bcast_S_S8192x16x128 main_cst_2
  let main_v17 : IVec S8192x16x128 1 := cmpf .olt main_v15 main_v16
  let main_v18 : IVec S8192x16x128 1 := andi main_v13 main_v17
  let main_v19 : FVec F S8192x16 .f32 := Host.absf main_arg3
  fn_part1 (F := F) main_v18 main_v19
-- ==== Pre_finite_heads.lean ====
abbrev S8192x16x128 : Shape := ⟨3, ![8192, 16, 128]⟩
abbrev S8192x16 : Shape := ⟨2, ![8192, 16]⟩
abbrev S8192x8192 : Shape := ⟨2, ![8192, 8192]⟩
abbrev S_ : Shape := ⟨0, ![]⟩
abbrev S8192x16x1 : Shape := ⟨3, ![8192, 16, 1]⟩

class Facts : Prop where
  bitsLt_bf16_f32 : FTy.bits .bf16 < FTy.bits .f32
  bcast_S_S8192x16x128 : S_.BroadcastsInDim S8192x16x128 (![] : Fin 0 → Fin S8192x16x128.rank)
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  bcast_S8192x16x1_S8192x16x128_0_1_2 : S8192x16x1.BroadcastsInDim S8192x16x128 (![0, 1, 2] : Fin 3 → Fin S8192x16x128.rank)

variable [Facts]

def fn {F : FTy → Type} [FloatOps F] (main_arg0 : FVec F S8192x16x128 .bf16) (main_arg1 : FVec F S8192x16x128 .bf16) (main_arg2 : FVec F S8192x16x128 .bf16) (main_arg3 : FVec F S8192x16 .f32) (main_arg4 : FVec F S8192x8192 .bf16) : IVec S8192x16x128 1 :=
  let main_v0 : FVec F S8192x16x128 .f32 := (extf .f32 · bitsLt_bf16_f32) main_arg0
  let main_v1 : FVec F S8192x16x128 .f32 := Host.absf main_v0
  let main_cst : FVec F S_ .f32 := constant S_ .f32 0x7F800000#32
  let main_v2 : FVec F S8192x16x128 .f32 := broadcastInDim S8192x16x128 ![] bcast_S_S8192x16x128 main_cst
  let main_v3 : IVec S8192x16x128 1 := cmpf .olt main_v1 main_v2
  let main_v4 : FVec F S8192x16x128 .f32 := (extf .f32 · bitsLt_bf16_f32) main_arg1
  let main_v5 : FVec F S8192x16x128 .f32 := Host.absf main_v4
  let main_cst_0 : FVec F S_ .f32 := constant S_ .f32 0x7F800000#32
  let main_v6 : FVec F S8192x16x128 .f32 := broadcastInDim S8192x16x128 ![] bcast_S_S8192x16x128 main_cst_0
  let main_v7 : IVec S8192x16x128 1 := cmpf .olt main_v5 main_v6
  let main_v8 : IVec S8192x16x128 1 := andi main_v3 main_v7
  let main_v9 : FVec F S8192x16x128 .f32 := (extf .f32 · bitsLt_bf16_f32) main_arg2
  let main_v10 : FVec F S8192x16x128 .f32 := Host.absf main_v9
  let main_cst_1 : FVec F S_ .f32 := constant S_ .f32 0x7F800000#32
  let main_v11 : FVec F S8192x16x128 .f32 := broadcastInDim S8192x16x128 ![] bcast_S_S8192x16x128 main_cst_1
  let main_v12 : IVec S8192x16x128 1 := cmpf .olt main_v10 main_v11
  let main_v13 : IVec S8192x16x128 1 := andi main_v8 main_v12
  let main_v14 : FVec F S8192x16 .f32 := Host.absf main_arg3
  let main_cst_2 : FVec F S_ .f32 := constant S_ .f32 0x7F800000#32
  let main_v15 : FVec F S8192x16 .f32 := broadcastInDim S8192x16 ![] bcast_S_S8192x16 main_cst_2
  let main_v16 : IVec S8192x16 1 := cmpf .olt main_v14 main_v15
  let main_v17 : IVec S8192x16x1 1 := broadcastInDim S8192x16x1 ![0, 1] bcast_S8192x16_S8192x16x1_0_1 main_v16
  let main_v18 : IVec S8192x16x128 1 := broadcastInDim S8192x16x128 ![0, 1, 2] bcast_S8192x16x1_S8192x16x128_0_1_2 main_v17
  let main_v19 : IVec S8192x16x128 1 := andi main_v13 main_v18
  main_v19
-- ==== Kernel.lean ====
abbrev S8192x16x128 : Shape := ⟨3, ![8192, 16, 128]⟩
abbrev S8192x16 : Shape := ⟨2, ![8192, 16]⟩
abbrev S_ : Shape := ⟨0, ![]⟩
abbrev S16x8192x8192 : Shape := ⟨3, ![16, 8192, 8192]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x128x8192 : Shape := ⟨3, ![16, 128, 8192]⟩
abbrev S8192x16x1 : Shape := ⟨3, ![8192, 16, 1]⟩
abbrev S8192x16x256 : Shape := ⟨3, ![8192, 16, 256]⟩
abbrev S8192x4096 : Shape := ⟨2, ![8192, 4096]⟩
abbrev S8192x2048 : Shape := ⟨2, ![8192, 2048]⟩
abbrev S8192x256 : Shape := ⟨2, ![8192, 256]⟩
abbrev S512x256 : Shape := ⟨2, ![512, 256]⟩
abbrev S512x128 : Shape := ⟨2, ![512, 128]⟩
abbrev S1024x256 : Shape := ⟨2, ![1024, 256]⟩
abbrev S512x1024 : Shape := ⟨2, ![512, 1024]⟩
abbrev S1024x128 : Shape := ⟨2, ![1024, 128]⟩

abbrev nBuf : Space → Nat
  | .hbm => 283
  | .vmem => 14
  | .smem => 0
  | _ => 0

abbrev hbmTy0_0 (i : Nat) : BufTy := match i % 128 with
  | 0 => ⟨S8192x16x128, .bf16⟩
  | 1 => ⟨S8192x16x128, .bf16⟩
  | 2 => ⟨S8192x16x128, .bf16⟩
  | 3 => ⟨S8192x16, .f32⟩
  | 4 => ⟨S8192x16x128, .bf16⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S8192x16x128, .f32⟩
  | 12 => ⟨S8192x16x128, .f32⟩
  | 13 => ⟨S8192x16x128, .f32⟩
  | 14 => ⟨S8192x16x128, .f32⟩
  | 15 => ⟨S16x8192x8192, .f32⟩
  | 16 => ⟨S_, .f32⟩
  | 17 => ⟨S16x8192x8192, .f32⟩
  | 18 => ⟨S16x8192x8192, .f32⟩
  | 19 => ⟨S16x8192, .f32⟩
  | 20 => ⟨S16x8192x1, .f32⟩
  | 21 => ⟨S16x8192x8192, .f32⟩
  | 22 => ⟨S16x8192x8192, .f32⟩
  | 23 => ⟨S16x8192, .f32⟩
  | 24 => ⟨S16x1x8192, .f32⟩
  | 25 => ⟨S16x8192x8192, .f32⟩
  | 26 => ⟨S16x8192x8192, .f32⟩
  | 27 => ⟨S8192, .i32⟩
  | 28 => ⟨S1x1x8192, .i32⟩
  | 29 => ⟨S1x8192x1, .i32⟩
  | 30 => ⟨S1x8192x8192, .i32⟩
  | 31 => ⟨S1x8192x8192, .i32⟩
  | 32 => ⟨S1x8192x8192, .i1⟩
  | 33 => ⟨S16x8192x8192, .i1⟩
  | 34 => ⟨S_, .f32⟩
  | 35 => ⟨S16x8192x8192, .f32⟩
  | 36 => ⟨S16x8192x8192, .f32⟩
  | 37 => ⟨S_, .f32⟩
  | 38 => ⟨S16x8192, .f32⟩
  | 39 => ⟨S16x8192x1, .f32⟩
  | 40 => ⟨S16x8192x8192, .f32⟩
  | 41 => ⟨S16x8192x8192, .f32⟩
  | 42 => ⟨S16x8192x8192, .f32⟩
  | 43 => ⟨S_, .f32⟩
  | 44 => ⟨S16x8192, .f32⟩
  | 45 => ⟨S16x8192x1, .f32⟩
  | 46 => ⟨S16x8192x8192, .f32⟩
  | 47 => ⟨S16x8192x8192, .f32⟩
  | 48 => ⟨S16x128x8192, .f32⟩
  | 49 => ⟨S8192x16x128, .f32⟩
  | 50 => ⟨S16x8192x1, .f32⟩
  | 51 => ⟨S16x8192x1, .f32⟩
  | 52 => ⟨S16x8192x1, .f32⟩
  | 53 => ⟨S16x8192x1, .f32⟩
  | 54 => ⟨S16x8192, .f32⟩
  | 55 => ⟨S8192x16, .f32⟩
  | 56 => ⟨S8192x16x1, .f32⟩
  | 57 => ⟨S8192x16x128, .i32⟩
  | 58 => ⟨S_, .f32⟩
  | 59 => ⟨S8192x16x128, .f32⟩
  | 60 => ⟨S8192x16x1, .f32⟩
  | 61 => ⟨S8192x16x1, .f32⟩
  | 62 => ⟨S8192x16x1, .f32⟩
  | 63 => ⟨S8192x16x128, .f32⟩
  | 64 => ⟨S_, .f32⟩
  | 65 => ⟨S8192x16, .f32⟩
  | 66 => ⟨S8192x16x1, .f32⟩
  | 67 => ⟨S_, .f32⟩
  | 68 => ⟨S8192x16x1, .f32⟩
  | 69 => ⟨S8192x16x1, .f32⟩
  | 70 => ⟨S8192x16x1, .bf16⟩
  | 71 => ⟨S8192x16x1, .f32⟩
  | 72 => ⟨S8192x16x1, .f32⟩
  | 73 => ⟨S8192x16x1, .bf16⟩
  | 74 => ⟨S8192x16x1, .f32⟩
  | 75 => ⟨S8192x16x1, .f32⟩
  | 76 => ⟨S8192x16x1, .bf16⟩
  | 77 => ⟨S8192x16x1, .f32⟩
  | 78 => ⟨S8192x16x1, .f32⟩
  | 79 => ⟨S8192x16x1, .f32⟩
  | 80 => ⟨S_, .i32⟩
  | 81 => ⟨S8192x16x128, .i32⟩
  | 82 => ⟨S8192x16x128, .i1⟩
  | 83 => ⟨S8192x16x128, .f32⟩
  | 84 => ⟨S8192x16x128, .f32⟩
  | 85 => ⟨S_, .i32⟩
  | 86 => ⟨S8192x16x128, .i32⟩
  | 87 => ⟨S8192x16x128, .i1⟩
  | 88 => ⟨S8192x16x128, .f32⟩
  | 89 => ⟨S8192x16x128, .f32⟩
  | 90 => ⟨S_, .i32⟩
  | 91 => ⟨S8192x16x128, .i32⟩
  | 92 => ⟨S8192x16x128, .i1⟩
  | 93 => ⟨S8192x16x128, .f32⟩
  | 94 => ⟨S8192x16x128, .f32⟩
  | 95 => ⟨S_, .i32⟩
  | 96 => ⟨S8192x16x128, .i32⟩
  | 97 => ⟨S8192x16x128, .i1⟩
  | 98 => ⟨S_, .f32⟩
  | 99 => ⟨S8192x16x128, .f32⟩
  | 100 => ⟨S8192x16x128, .f32⟩
  | 101 => ⟨S8192x16x128, .f32⟩
  | 102 => ⟨S_, .i32⟩
  | 103 => ⟨S8192x16x128, .i32⟩
  | 104 => ⟨S8192x16x128, .i1⟩
  | 105 => ⟨S_, .f32⟩
  | 106 => ⟨S8192x16x128, .f32⟩
  | 107 => ⟨S8192x16x128, .f32⟩
  | 108 => ⟨S8192x16x128, .f32⟩
  | 109 => ⟨S_, .i32⟩
  | 110 => ⟨S8192x16x128, .i32⟩
  | 111 => ⟨S8192x16x128, .i1⟩
  | 112 => ⟨S_, .f32⟩
  | 113 => ⟨S8192x16x128, .f32⟩
  | 114 => ⟨S8192x16x128, .f32⟩
  | 115 => ⟨S8192x16x128, .f32⟩
  | 116 => ⟨S8192x16x128, .bf16⟩
  | 117 => ⟨S_, .f32⟩
  | 118 => ⟨S8192x16x1, .f32⟩
  | 119 => ⟨S8192x16x1, .f32⟩
  | 120 => ⟨S8192x16x1, .bf16⟩
  | 121 => ⟨S8192x16x1, .f32⟩
  | 122 => ⟨S8192x16x1, .f32⟩
  | 123 => ⟨S8192x16x1, .bf16⟩
  | 124 => ⟨S8192x16x1, .f32⟩
  | 125 => ⟨S8192x16x1, .f32⟩
  | 126 => ⟨S8192x16x1, .bf16⟩
  | 127 => ⟨S8192x16x1, .f32⟩
  | _ => ⟨S8192x16x128, .bf16⟩

abbrev hbmTy0_1 (i : Nat) : BufTy := match i % 128 with
  | 0 => ⟨S8192x16x1, .f32⟩
  | 1 => ⟨S8192x16x1, .f32⟩
  | 2 => ⟨S8192x16x128, .f32⟩
  | 3 => ⟨S_, .i32⟩
  | 4 => ⟨S8192x16x128, .i32⟩
  | 5 => ⟨S8192x16x128, .i1⟩
  | 6 => ⟨S8192x16x128, .f32⟩
  | 7 => ⟨S8192x16x128, .f32⟩
  | 8 => ⟨S_, .i32⟩
  | 9 => ⟨S8192x16x128, .i32⟩
  | 10 => ⟨S8192x16x128, .i1⟩
  | 11 => ⟨S8192x16x128, .f32⟩
  | 12 => ⟨S8192x16x128, .f32⟩
  | 13 => ⟨S_, .i32⟩
  | 14 => ⟨S8192x16x128, .i32⟩
  | 15 => ⟨S8192x16x128, .i1⟩
  | 16 => ⟨S8192x16x128, .f32⟩
  | 17 => ⟨S8192x16x128, .f32⟩
  | 18 => ⟨S8192x16x128, .bf16⟩
  | 19 => ⟨S_, .f32⟩
  | 20 => ⟨S8192x16x1, .f32⟩
  | 21 => ⟨S8192x16x1, .f32⟩
  | 22 => ⟨S8192x16x1, .bf16⟩
  | 23 => ⟨S8192x16x1, .f32⟩
  | 24 => ⟨S8192x16x1, .f32⟩
  | 25 => ⟨S8192x16x1, .bf16⟩
  | 26 => ⟨S8192x16x1, .f32⟩
  | 27 => ⟨S8192x16x1, .f32⟩
  | 28 => ⟨S8192x16x1, .bf16⟩
  | 29 => ⟨S8192x16x1, .f32⟩
  | 30 => ⟨S8192x16x1, .f32⟩
  | 31 => ⟨S8192x16x1, .f32⟩
  | 32 => ⟨S_, .i32⟩
  | 33 => ⟨S8192x16x128, .i32⟩
  | 34 => ⟨S8192x16x128, .i1⟩
  | 35 => ⟨S_, .f32⟩
  | 36 => ⟨S8192x16x128, .f32⟩
  | 37 => ⟨S8192x16x128, .f32⟩
  | 38 => ⟨S8192x16x128, .f32⟩
  | 39 => ⟨S_, .i32⟩
  | 40 => ⟨S8192x16x128, .i32⟩
  | 41 => ⟨S8192x16x128, .i1⟩
  | 42 => ⟨S_, .f32⟩
  | 43 => ⟨S8192x16x128, .f32⟩
  | 44 => ⟨S8192x16x128, .f32⟩
  | 45 => ⟨S8192x16x128, .f32⟩
  | 46 => ⟨S_, .i32⟩
  | 47 => ⟨S8192x16x128, .i32⟩
  | 48 => ⟨S8192x16x128, .i1⟩
  | 49 => ⟨S_, .f32⟩
  | 50 => ⟨S8192x16x128, .f32⟩
  | 51 => ⟨S8192x16x128, .f32⟩
  | 52 => ⟨S8192x16x128, .f32⟩
  | 53 => ⟨S_, .i32⟩
  | 54 => ⟨S8192x16x128, .i32⟩
  | 55 => ⟨S8192x16x128, .i1⟩
  | 56 => ⟨S8192x16x128, .f32⟩
  | 57 => ⟨S8192x16x128, .f32⟩
  | 58 => ⟨S_, .i32⟩
  | 59 => ⟨S8192x16x128, .i32⟩
  | 60 => ⟨S8192x16x128, .i1⟩
  | 61 => ⟨S8192x16x128, .f32⟩
  | 62 => ⟨S8192x16x128, .f32⟩
  | 63 => ⟨S_, .i32⟩
  | 64 => ⟨S8192x16x128, .i32⟩
  | 65 => ⟨S8192x16x128, .i1⟩
  | 66 => ⟨S8192x16x128, .f32⟩
  | 67 => ⟨S8192x16x128, .f32⟩
  | 68 => ⟨S_, .i32⟩
  | 69 => ⟨S8192x16x128, .i32⟩
  | 70 => ⟨S8192x16x128, .i1⟩
  | 71 => ⟨S_, .f32⟩
  | 72 => ⟨S8192x16x128, .f32⟩
  | 73 => ⟨S8192x16x128, .f32⟩
  | 74 => ⟨S8192x16x128, .f32⟩
  | 75 => ⟨S_, .i32⟩
  | 76 => ⟨S8192x16x128, .i32⟩
  | 77 => ⟨S8192x16x128, .i1⟩
  | 78 => ⟨S_, .f32⟩
  | 79 => ⟨S8192x16x128, .f32⟩
  | 80 => ⟨S8192x16x128, .f32⟩
  | 81 => ⟨S8192x16x128, .f32⟩
  | 82 => ⟨S_, .i32⟩
  | 83 => ⟨S8192x16x128, .i32⟩
  | 84 => ⟨S8192x16x128, .i1⟩
  | 85 => ⟨S_, .f32⟩
  | 86 => ⟨S8192x16x128, .f32⟩
  | 87 => ⟨S8192x16x128, .f32⟩
  | 88 => ⟨S8192x16x128, .f32⟩
  | 89 => ⟨S8192x16x128, .bf16⟩
  | 90 => ⟨S_, .i32⟩
  | 91 => ⟨S8192x16x128, .i32⟩
  | 92 => ⟨S8192x16x128, .i1⟩
  | 93 => ⟨S_, .f32⟩
  | 94 => ⟨S8192x16x128, .f32⟩
  | 95 => ⟨S8192x16x128, .f32⟩
  | 96 => ⟨S8192x16x128, .bf16⟩
  | 97 => ⟨S_, .f32⟩
  | 98 => ⟨S8192x16x1, .f32⟩
  | 99 => ⟨S8192x16x1, .f32⟩
  | 100 => ⟨S8192x16x1, .bf16⟩
  | 101 => ⟨S8192x16x1, .f32⟩
  | 102 => ⟨S8192x16x1, .f32⟩
  | 103 => ⟨S8192x16x1, .bf16⟩
  | 104 => ⟨S8192x16x1, .f32⟩
  | 105 => ⟨S8192x16x1, .f32⟩
  | 106 => ⟨S8192x16x1, .bf16⟩
  | 107 => ⟨S8192x16x1, .f32⟩
  | 108 => ⟨S8192x16x1, .f32⟩
  | 109 => ⟨S8192x16x1, .f32⟩
  | 110 => ⟨S_, .i32⟩
  | 111 => ⟨S8192x16x128, .i32⟩
  | 112 => ⟨S8192x16x128, .i1⟩
  | 113 => ⟨S8192x16x128, .f32⟩
  | 114 => ⟨S8192x16x128, .f32⟩
  | 115 => ⟨S_, .i32⟩
  | 116 => ⟨S8192x16x128, .i32⟩
  | 117 => ⟨S8192x16x128, .i1⟩
  | 118 => ⟨S8192x16x128, .f32⟩
  | 119 => ⟨S8192x16x128, .f32⟩
  | 120 => ⟨S_, .i32⟩
  | 121 => ⟨S8192x16x128, .i32⟩
  | 122 => ⟨S8192x16x128, .i1⟩
  | 123 => ⟨S8192x16x128, .f32⟩
  | 124 => ⟨S8192x16x128, .f32⟩
  | 125 => ⟨S8192x16x128, .bf16⟩
  | 126 => ⟨S8192x16x128, .f32⟩
  | 127 => ⟨S8192x16x128, .f32⟩
  | _ => ⟨S8192x16x128, .bf16⟩

abbrev hbmTy0_2 (i : Nat) : BufTy := match i % 128 with
  | 0 => ⟨S8192x16x128, .bf16⟩
  | 1 => ⟨S8192x16x256, .bf16⟩
  | 2 => ⟨S8192x4096, .bf16⟩
  | 3 => ⟨S8192x16x256, .bf16⟩
  | 4 => ⟨S8192x4096, .bf16⟩
  | 5 => ⟨S8192x16x256, .bf16⟩
  | 6 => ⟨S8192x4096, .bf16⟩
  | 7 => ⟨S8192x16x256, .bf16⟩
  | 8 => ⟨S8192x4096, .bf16⟩
  | 9 => ⟨S8192x4096, .f32⟩
  | 10 => ⟨S8192x4096, .f32⟩
  | 11 => ⟨S8192x2048, .f32⟩
  | 12 => ⟨S8192x16x256, .f32⟩
  | 13 => ⟨S8192x16x256, .f32⟩
  | 14 => ⟨S8192x16x128, .f32⟩
  | 15 => ⟨S_, .f32⟩
  | 16 => ⟨S8192x16x128, .f32⟩
  | 17 => ⟨S8192x16x128, .f32⟩
  | 18 => ⟨S8192x16x128, .f32⟩
  | 19 => ⟨S8192x16x128, .f32⟩
  | 20 => ⟨S8192x16x128, .f32⟩
  | 21 => ⟨S8192x16x1, .f32⟩
  | 22 => ⟨S8192x16, .f32⟩
  | 23 => ⟨S8192x16x1, .f32⟩
  | 24 => ⟨S8192x16, .f32⟩
  | 25 => ⟨S8192x16, .f32⟩
  | 26 => ⟨S8192x16x128, .f32⟩
  | _ => ⟨S8192x16x128, .bf16⟩

abbrev hbmTy (i : Nat) : BufTy := match i / 128 with
  | 0 => hbmTy0_0 i
  | 1 => hbmTy0_1 i
  | 2 => hbmTy0_2 i
  | _ => ⟨S8192x16x128, .bf16⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S8192x256, .f32⟩
  | .local _ .vmem, ⟨9, _⟩ => ⟨S8192x256, .f32⟩
  | .local _ .vmem, ⟨10, _⟩ => ⟨S512x256, .f32⟩
  | .local _ .vmem, ⟨11, _⟩ => ⟨S512x256, .f32⟩
  | .local _ .vmem, ⟨12, _⟩ => ⟨S512x128, .f32⟩
  | .local _ .vmem, ⟨13, _⟩ => ⟨S512x128, .f32⟩
  | _, _ => ⟨S8192x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_c : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c_10 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_11 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_c_13 : Ref sig .tc := ⟨.hbm, 102, rfl⟩
abbrev main_v82 : Ref sig .tc := ⟨.hbm, 103, rfl⟩
abbrev main_v83 : Ref sig .tc := ⟨.hbm, 104, rfl⟩
abbrev main_cst_14 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_c_15 : Ref sig .tc := ⟨.hbm, 109, rfl⟩
abbrev main_v87 : Ref sig .tc := ⟨.hbm, 110, rfl⟩
abbrev main_v88 : Ref sig .tc := ⟨.hbm, 111, rfl⟩
abbrev main_cst_16 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_17 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_c_18 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_c_19 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_c_20 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_21 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_c_22 : Ref sig .tc := ⟨.hbm, 160, rfl⟩
abbrev main_v131 : Ref sig .tc := ⟨.hbm, 161, rfl⟩
abbrev main_v132 : Ref sig .tc := ⟨.hbm, 162, rfl⟩
abbrev main_cst_23 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_c_24 : Ref sig .tc := ⟨.hbm, 167, rfl⟩
abbrev main_v136 : Ref sig .tc := ⟨.hbm, 168, rfl⟩
abbrev main_v137 : Ref sig .tc := ⟨.hbm, 169, rfl⟩
abbrev main_cst_25 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_c_26 : Ref sig .tc := ⟨.hbm, 174, rfl⟩
abbrev main_v141 : Ref sig .tc := ⟨.hbm, 175, rfl⟩
abbrev main_v142 : Ref sig .tc := ⟨.hbm, 176, rfl⟩
abbrev main_cst_27 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_c_28 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_c_29 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_c_30 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_c_31 : Ref sig .tc := ⟨.hbm, 196, rfl⟩
abbrev main_v158 : Ref sig .tc := ⟨.hbm, 197, rfl⟩
abbrev main_v159 : Ref sig .tc := ⟨.hbm, 198, rfl⟩
abbrev main_cst_32 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_c_33 : Ref sig .tc := ⟨.hbm, 203, rfl⟩
abbrev main_v163 : Ref sig .tc := ⟨.hbm, 204, rfl⟩
abbrev main_v164 : Ref sig .tc := ⟨.hbm, 205, rfl⟩
abbrev main_cst_34 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_c_35 : Ref sig .tc := ⟨.hbm, 210, rfl⟩
abbrev main_v168 : Ref sig .tc := ⟨.hbm, 211, rfl⟩
abbrev main_v169 : Ref sig .tc := ⟨.hbm, 212, rfl⟩
abbrev main_cst_36 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_c_37 : Ref sig .tc := ⟨.hbm, 218, rfl⟩
abbrev main_v174 : Ref sig .tc := ⟨.hbm, 219, rfl⟩
abbrev main_v175 : Ref sig .tc := ⟨.hbm, 220, rfl⟩
abbrev main_cst_38 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_cst_39 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_c_40 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_c_41 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_c_42 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215_0 : Ref sig .tc := ⟨.hbm, 265, rfl⟩
abbrev main_v215_1 : Ref sig .tc := ⟨.hbm, 266, rfl⟩
abbrev main_v215_2 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_cst_43 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v7 : BitVec 32 := Scalar.muli arg1 c512_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c1024_i32 : BitVec 32 := 1024#32
  let c0_i32_6 : BitVec 32 := 0#32
  let v14 : BitVec 1 := Scalar.cmpi .sgt c1024_i32 c0_i32_6
  let v15 : BitVec 32 := Scalar.extui v14
  let c0_i32_7 : BitVec 32 := 0#32
  let v16 : BitVec 1 := Scalar.cmpi .slt c1024_i32 c0_i32_7
  let v17 : BitVec 32 := Scalar.extui v16
  let v18 : BitVec 32 := Scalar.subi v15 v17
  let v19 : BitVec 1 := Scalar.cmpi .ne v13 v18
  let v20 : BitVec 32 := Scalar.remsi v7 c1024_i32
  let c0_i32_8 : BitVec 32 := 0#32
  let v21 : BitVec 1 := Scalar.cmpi .ne v20 c0_i32_8
  let v22 : BitVec 1 := Scalar.andi v19 v21
  let v8 : BitVec 32 := Scalar.divsi v7 c1024_i32
  let c1_i32 : BitVec 32 := 1#32
  let v23 : BitVec 32 := Scalar.subi v8 c1_i32
  let v24 : BitVec 32 := Scalar.select v22 v23 v8
  let c1024_i32_10 : BitVec 32 := 1024#32
  let v27 : BitVec 32 := Scalar.muli v24 c1024_i32_10
  v27
def k0_off1 (i : grid0.Coords) : Fin 2 → Nat :=
  let arg1 : BitVec 32 := BitVec.ofNat 32 (i 1).val
  let c512_i32 : BitVec 32 := 512#32
  let v7 : BitVec 32 := Scalar.muli arg1 c512_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c1024_i32 : BitVec 32 := 1024#32
  let c0_i32_6 : BitVec 32 := 0#32
  let v14 : BitVec 1 := Scalar.cmpi .sgt c1024_i32 c0_i32_6
  let v15 : BitVec 32 := Scalar.extui v14
  let c0_i32_7 : BitVec 32 := 0#32
  let v16 : BitVec 1 := Scalar.cmpi .slt c1024_i32 c0_i32_7
  let v17 : BitVec 32 := Scalar.extui v16
  let v18 : BitVec 32 := Scalar.subi v15 v17
  let v19 : BitVec 1 := Scalar.cmpi .ne v13 v18
  let v20 : BitVec 32 := Scalar.remsi v7 c1024_i32
  let c0_i32_8 : BitVec 32 := 0#32
  let v21 : BitVec 1 := Scalar.cmpi .ne v20 c0_i32_8
  let v22 : BitVec 1 := Scalar.andi v19 v21
  let v8 : BitVec 32 := Scalar.divsi v7 c1024_i32
  let c1_i32 : BitVec 32 := 1#32
  let v23 : BitVec 32 := Scalar.subi v8 c1_i32
  let v24 : BitVec 32 := Scalar.select v22 v23 v8
  let c1024_i32_10 : BitVec 32 := 1024#32
  let v27 : BitVec 32 := Scalar.muli v24 c1024_i32_10
  let v28 : BitVec 32 := v27
  let v29 : Index := Scalar.indexCast v28
  let c0_11 : Index := 0#32
  ![v29.toNat, 0]
@[reducible] def k0_t1_loop (i : grid0.Coords) : Scf.Loop 32 :=
  let arg1 : BitVec 32 := BitVec.ofNat 32 (i 1).val
  let c512_i32 : BitVec 32 := 512#32
  let v7 : BitVec 32 := Scalar.muli arg1 c512_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c1024_i32 : BitVec 32 := 1024#32
  let c0_i32_6 : BitVec 32 := 0#32
  let v14 : BitVec 1 := Scalar.cmpi .sgt c1024_i32 c0_i32_6
  let v15 : BitVec 32 := Scalar.extui v14
  let c0_i32_7 : BitVec 32 := 0#32
  let v16 : BitVec 1 := Scalar.cmpi .slt c1024_i32 c0_i32_7
  let v17 : BitVec 32 := Scalar.extui v16
  let v18 : BitVec 32 := Scalar.subi v15 v17
  let v19 : BitVec 1 := Scalar.cmpi .ne v13 v18
  let v20 : BitVec 32 := Scalar.remsi v7 c1024_i32
  let c0_i32_8 : BitVec 32 := 0#32
  let v21 : BitVec 1 := Scalar.cmpi .ne v20 c0_i32_8
  let v22 : BitVec 1 := Scalar.andi v19 v21
  let v8 : BitVec 32 := Scalar.divsi v7 c1024_i32
  let c1_i32 : BitVec 32 := 1#32
  let v23 : BitVec 32 := Scalar.subi v8 c1_i32
  let v24 : BitVec 32 := Scalar.select v22 v23 v8
  let c1_i32_23 : BitVec 32 := 1#32
  let v64 : BitVec 32 := Scalar.addi v24 c1_i32_23
  let c8_i32 : BitVec 32 := 8#32
  let v65 : BitVec 32 := Scalar.subi c8_i32 v64
  let c1_i32_24 : BitVec 32 := 1#32
  let v67 : BitVec 32 := Scalar.divsi v65 c1_i32_24
  let v68 : BitVec 32 := Scalar.muli v67 c1_i32_24
  let v69 : BitVec 32 := Scalar.addi v64 v68
  let c1_i32_25 : BitVec 32 := 1#32
  ⟨v64, v69, c1_i32_25⟩
def k0_mult2 (i : grid0.Coords) (k0_t1 : Fin (k0_t1_loop i).trips) : BitVec 32 :=
  let arg1 : BitVec 32 := BitVec.ofNat 32 (i 1).val
  let c512_i32 : BitVec 32 := 512#32
  let v7 : BitVec 32 := Scalar.muli arg1 c512_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c1024_i32 : BitVec 32 := 1024#32
  let c0_i32_6 : BitVec 32 := 0#32
  let v14 : BitVec 1 := Scalar.cmpi .sgt c1024_i32 c0_i32_6
  let v15 : BitVec 32 := Scalar.extui v14
  let c0_i32_7 : BitVec 32 := 0#32
  let v16 : BitVec 1 := Scalar.cmpi .slt c1024_i32 c0_i32_7
  let v17 : BitVec 32 := Scalar.extui v16
  let v18 : BitVec 32 := Scalar.subi v15 v17
  let v19 : BitVec 1 := Scalar.cmpi .ne v13 v18
  let v20 : BitVec 32 := Scalar.remsi v7 c1024_i32
  let c0_i32_8 : BitVec 32 := 0#32
  let v21 : BitVec 1 := Scalar.cmpi .ne v20 c0_i32_8
  let v22 : BitVec 1 := Scalar.andi v19 v21
  let v8 : BitVec 32 := Scalar.divsi v7 c1024_i32
  let c1_i32 : BitVec 32 := 1#32
  let v23 : BitVec 32 := Scalar.subi v8 c1_i32
  let v24 : BitVec 32 := Scalar.select v22 v23 v8
  let c1_i32_23 : BitVec 32 := 1#32
  let v64 : BitVec 32 := Scalar.addi v24 c1_i32_23
  let c1_i32_25 : BitVec 32 := 1#32
  let arg9 : BitVec 32 := Scf.iv v64 c1_i32_25 k0_t1
  let c1024_i32_31 : BitVec 32 := 1024#32
  let v74 : BitVec 32 := Scalar.muli arg9 c1024_i32_31
  v74
def k0_off2 (i : grid0.Coords) (k0_t1 : Fin (k0_t1_loop i).trips) : Fin 2 → Nat :=
  let arg1 : BitVec 32 := BitVec.ofNat 32 (i 1).val
  let c512_i32 : BitVec 32 := 512#32
  let v7 : BitVec 32 := Scalar.muli arg1 c512_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c1024_i32 : BitVec 32 := 1024#32
  let c0_i32_6 : BitVec 32 := 0#32
  let v14 : BitVec 1 := Scalar.cmpi .sgt c1024_i32 c0_i32_6
  let v15 : BitVec 32 := Scalar.extui v14
  let c0_i32_7 : BitVec 32 := 0#32
  let v16 : BitVec 1 := Scalar.cmpi .slt c1024_i32 c0_i32_7
  let v17 : BitVec 32 := Scalar.extui v16
  let v18 : BitVec 32 := Scalar.subi v15 v17
  let v19 : BitVec 1 := Scalar.cmpi .ne v13 v18
  let v20 : BitVec 32 := Scalar.remsi v7 c1024_i32
  let c0_i32_8 : BitVec 32 := 0#32
  let v21 : BitVec 1 := Scalar.cmpi .ne v20 c0_i32_8
  let v22 : BitVec 1 := Scalar.andi v19 v21
  let v8 : BitVec 32 := Scalar.divsi v7 c1024_i32
  let c1_i32 : BitVec 32 := 1#32
  let v23 : BitVec 32 := Scalar.subi v8 c1_i32
  let v24 : BitVec 32 := Scalar.select v22 v23 v8
  let c1_i32_23 : BitVec 32 := 1#32
  let v64 : BitVec 32 := Scalar.addi v24 c1_i32_23
  let c1_i32_25 : BitVec 32 := 1#32
  let arg9 : BitVec 32 := Scf.iv v64 c1_i32_25 k0_t1
  let c1024_i32_31 : BitVec 32 := 1024#32
  let v74 : BitVec 32 := Scalar.muli arg9 c1024_i32_31
  let v75 : BitVec 32 := v74
  let v76 : Index := Scalar.indexCast v75
  let c0_32 : Index := 0#32
  ![v76.toNat, 0]
@[reducible] def k0_t2_loop (i : grid0.Coords) : Scf.Loop 32 :=
  let arg1 : BitVec 32 := BitVec.ofNat 32 (i 1).val
  let c512_i32 : BitVec 32 := 512#32
  let v7 : BitVec 32 := Scalar.muli arg1 c512_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c1024_i32 : BitVec 32 := 1024#32
  let c0_i32_6 : BitVec 32 := 0#32
  let v14 : BitVec 1 := Scalar.cmpi .sgt c1024_i32 c0_i32_6
  let v15 : BitVec 32 := Scalar.extui v14
  let c0_i32_7 : BitVec 32 := 0#32
  let v16 : BitVec 1 := Scalar.cmpi .slt c1024_i32 c0_i32_7
  let v17 : BitVec 32 := Scalar.extui v16
  let v18 : BitVec 32 := Scalar.subi v15 v17
  let v19 : BitVec 1 := Scalar.cmpi .ne v13 v18
  let v20 : BitVec 32 := Scalar.remsi v7 c1024_i32
  let c0_i32_8 : BitVec 32 := 0#32
  let v21 : BitVec 1 := Scalar.cmpi .ne v20 c0_i32_8
  let v22 : BitVec 1 := Scalar.andi v19 v21
  let v8 : BitVec 32 := Scalar.divsi v7 c1024_i32
  let c1_i32 : BitVec 32 := 1#32
  let v23 : BitVec 32 := Scalar.subi v8 c1_i32
  let v24 : BitVec 32 := Scalar.select v22 v23 v8
  let c1_i32_23 : BitVec 32 := 1#32
  let v64 : BitVec 32 := Scalar.addi v24 c1_i32_23
  let c8_i32 : BitVec 32 := 8#32
  let v65 : BitVec 32 := Scalar.subi c8_i32 v64
  let c1_i32_24 : BitVec 32 := 1#32
  let v67 : BitVec 32 := Scalar.divsi v65 c1_i32_24
  let v68 : BitVec 32 := Scalar.muli v67 c1_i32_24
  let v69 : BitVec 32 := Scalar.addi v64 v68
  let v66 : BitVec 32 := Scalar.addi v64 v65
  let c1_i32_26 : BitVec 32 := 1#32
  ⟨v69, v66, c1_i32_26⟩
def k0_mult3 (i : grid0.Coords) (k0_t2 : Fin (k0_t2_loop i).trips) : BitVec 32 :=
  let arg1 : BitVec 32 := BitVec.ofNat 32 (i 1).val
  let c512_i32 : BitVec 32 := 512#32
  let v7 : BitVec 32 := Scalar.muli arg1 c512_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c1024_i32 : BitVec 32 := 1024#32
  let c0_i32_6 : BitVec 32 := 0#32
  let v14 : BitVec 1 := Scalar.cmpi .sgt c1024_i32 c0_i32_6
  let v15 : BitVec 32 := Scalar.extui v14
  let c0_i32_7 : BitVec 32 := 0#32
  let v16 : BitVec 1 := Scalar.cmpi .slt c1024_i32 c0_i32_7
  let v17 : BitVec 32 := Scalar.extui v16
  let v18 : BitVec 32 := Scalar.subi v15 v17
  let v19 : BitVec 1 := Scalar.cmpi .ne v13 v18
  let v20 : BitVec 32 := Scalar.remsi v7 c1024_i32
  let c0_i32_8 : BitVec 32 := 0#32
  let v21 : BitVec 1 := Scalar.cmpi .ne v20 c0_i32_8
  let v22 : BitVec 1 := Scalar.andi v19 v21
  let v8 : BitVec 32 := Scalar.divsi v7 c1024_i32
  let c1_i32 : BitVec 32 := 1#32
  let v23 : BitVec 32 := Scalar.subi v8 c1_i32
  let v24 : BitVec 32 := Scalar.select v22 v23 v8
  let c1_i32_23 : BitVec 32 := 1#32
  let v64 : BitVec 32 := Scalar.addi v24 c1_i32_23
  let c8_i32 : BitVec 32 := 8#32
  let v65 : BitVec 32 := Scalar.subi c8_i32 v64
  let c1_i32_24 : BitVec 32 := 1#32
  let v67 : BitVec 32 := Scalar.divsi v65 c1_i32_24
  let v68 : BitVec 32 := Scalar.muli v67 c1_i32_24
  let v69 : BitVec 32 := Scalar.addi v64 v68
  let c1_i32_26 : BitVec 32 := 1#32
  let arg9 : BitVec 32 := Scf.iv v69 c1_i32_26 k0_t2
  let c1024_i32_31 : BitVec 32 := 1024#32
  let v74 : BitVec 32 := Scalar.muli arg9 c1024_i32_31
  v74
def k0_off3 (i : grid0.Coords) (k0_t2 : Fin (k0_t2_loop i).trips) : Fin 2 → Nat :=
  let arg1 : BitVec 32 := BitVec.ofNat 32 (i 1).val
  let c512_i32 : BitVec 32 := 512#32
  let v7 : BitVec 32 := Scalar.muli arg1 c512_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c1024_i32 : BitVec 32 := 1024#32
  let c0_i32_6 : BitVec 32 := 0#32
  let v14 : BitVec 1 := Scalar.cmpi .sgt c1024_i32 c0_i32_6
  let v15 : BitVec 32 := Scalar.extui v14
  let c0_i32_7 : BitVec 32 := 0#32
  let v16 : BitVec 1 := Scalar.cmpi .slt c1024_i32 c0_i32_7
  let v17 : BitVec 32 := Scalar.extui v16
  let v18 : BitVec 32 := Scalar.subi v15 v17
  let v19 : BitVec 1 := Scalar.cmpi .ne v13 v18
  let v20 : BitVec 32 := Scalar.remsi v7 c1024_i32
  let c0_i32_8 : BitVec 32 := 0#32
  let v21 : BitVec 1 := Scalar.cmpi .ne v20 c0_i32_8
  let v22 : BitVec 1 := Scalar.andi v19 v21
  let v8 : BitVec 32 := Scalar.divsi v7 c1024_i32
  let c1_i32 : BitVec 32 := 1#32
  let v23 : BitVec 32 := Scalar.subi v8 c1_i32
  let v24 : BitVec 32 := Scalar.select v22 v23 v8
  let c1_i32_23 : BitVec 32 := 1#32
  let v64 : BitVec 32 := Scalar.addi v24 c1_i32_23
  let c8_i32 : BitVec 32 := 8#32
  let v65 : BitVec 32 := Scalar.subi c8_i32 v64
  let c1_i32_24 : BitVec 32 := 1#32
  let v67 : BitVec 32 := Scalar.divsi v65 c1_i32_24
  let v68 : BitVec 32 := Scalar.muli v67 c1_i32_24
  let v69 : BitVec 32 := Scalar.addi v64 v68
  let c1_i32_26 : BitVec 32 := 1#32
  let arg9 : BitVec 32 := Scf.iv v69 c1_i32_26 k0_t2
  let c1024_i32_31 : BitVec 32 := 1024#32
  let v74 : BitVec 32 := Scalar.muli arg9 c1024_i32_31
  let v75 : BitVec 32 := v74
  let v76 : Index := Scalar.indexCast v75
  let c0_32 : Index := 0#32
  ![v76.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x16x128 : Shape := ⟨3, ![8192, 16, 128]⟩
abbrev S8192x16 : Shape := ⟨2, ![8192, 16]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x128x8192 : Shape := ⟨3, ![16, 128, 8192]⟩
abbrev S16x8192x128 : Shape := ⟨3, ![16, 8192, 128]⟩

abbrev nBuf : Space → Nat
  | .hbm => 115
  | .vmem => 0
  | .smem => 0
  | _ => 0

abbrev bufTy : (tb : Table) → Fin (tcTables nBuf tb) → BufTy
  | .hbm, ⟨0, _⟩ => ⟨S8192x16x128, .bf16⟩
  | .hbm, ⟨1, _⟩ => ⟨S8192x16x128, .bf16⟩
  | .hbm, ⟨2, _⟩ => ⟨S8192x16x128, .bf16⟩
  | .hbm, ⟨3, _⟩ => ⟨S8192x16, .f32⟩
  | .hbm, ⟨4, _⟩ => ⟨S8192x16x128, .bf16⟩
  | .hbm, ⟨5, _⟩ => ⟨S8192x16x128, .f32⟩
  | .hbm, ⟨6, _⟩ => ⟨S8192x16x128, .f32⟩
  | .hbm, ⟨7, _⟩ => ⟨S8192x16x128, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S16x8192, .f32⟩
  | .hbm, ⟨13, _⟩ => ⟨S16x8192x1, .f32⟩
  | .hbm, ⟨14, _⟩ => ⟨S16x8192x8192, .f32⟩
  | .hbm, ⟨15, _⟩ => ⟨S16x8192x8192, .f32⟩
  | .hbm, ⟨16, _⟩ => ⟨S16x8192, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S8192, .i32⟩
  | .hbm, ⟨21, _⟩ => ⟨S1x1x8192, .i32⟩
  | .hbm, ⟨22, _⟩ => ⟨S1x8192x1, .i32⟩
  | .hbm, ⟨23, _⟩ => ⟨S1x8192x8192, .i32⟩
  | .hbm, ⟨24, _⟩ => ⟨S1x8192x8192, .i32⟩
  | .hbm, ⟨25, _⟩ => ⟨S1x8192x8192, .i1⟩
  | .hbm, ⟨26, _⟩ => ⟨S16x8192x8192, .i1⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .i1⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .i1⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x1, .f32⟩
  | .hbm, ⟨67, _⟩ => ⟨S_, .f32⟩
  | .hbm, ⟨68, _⟩ => ⟨S16x8192x1, .f32⟩
  | .hbm, ⟨69, _⟩ => ⟨S16x8192x1, .f32⟩
  | .hbm, ⟨70, _⟩ => ⟨S16x128x8192, .f32⟩
  | .hbm, ⟨71, _⟩ => ⟨S8192x16x128, .f32⟩
  | .hbm, ⟨72, _⟩ => ⟨S8192x16x128, .f32⟩
  | .hbm, ⟨73, _⟩ => ⟨S16x128x8192, .f32⟩
  | .hbm, ⟨74, _⟩ => ⟨S16x8192x8192, .f32⟩
  | .hbm, ⟨75, _⟩ => ⟨S16x128x8192, .f32⟩
  | .hbm, ⟨76, _⟩ => ⟨S8192x16x128, .f32⟩
  | .hbm, ⟨77, _⟩ => ⟨S16x8192x8192, .f32⟩
  | .hbm, ⟨78, _⟩ => ⟨S16x8192x8192, .f32⟩
  | .hbm, ⟨79, _⟩ => ⟨S16x8192x8192, .f32⟩
  | .hbm, ⟨80, _⟩ => ⟨S_, .f32⟩
  | .hbm, ⟨81, _⟩ => ⟨S16x8192, .f32⟩
  | .hbm, ⟨82, _⟩ => ⟨S16x8192x1, .f32⟩
  | .hbm, ⟨83, _⟩ => ⟨S16x8192x1, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192, .f32⟩
  | .hbm, ⟨88, _⟩ => ⟨S16x8192x8192, .f32⟩
  | .hbm, ⟨89, _⟩ => ⟨S16x8192x8192, .f32⟩
  | .hbm, ⟨90, _⟩ => ⟨S16x8192x8192, .f32⟩
  | .hbm, ⟨91, _⟩ => ⟨S_, .f32⟩
  | .hbm, ⟨92, _⟩ => ⟨S16x8192x8192, .f32⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S16x8192, .f32⟩
  | .hbm, ⟨97, _⟩ => ⟨S16x1x8192, .f32⟩
  | .hbm, ⟨98, _⟩ => ⟨S_, .f32⟩
  | .hbm, ⟨99, _⟩ => ⟨S16x8192, .f32⟩
  | .hbm, ⟨100, _⟩ => ⟨S8192x16, .f32⟩
  | .hbm, ⟨101, _⟩ => ⟨S_, .f32⟩
  | .hbm, ⟨102, _⟩ => ⟨S16x8192, .f32⟩
  | .hbm, ⟨103, _⟩ => ⟨S16x8192x1, .f32⟩
  | .hbm, ⟨104, _⟩ => ⟨S_, .f32⟩
  | .hbm, ⟨105, _⟩ => ⟨S16x8192, .f32⟩
  | .hbm, ⟨106, _⟩ => ⟨S8192x16, .f32⟩
  | .hbm, ⟨107, _⟩ => ⟨S8192x16, .f32⟩
  | .hbm, ⟨108, _⟩ => ⟨S_, .f32⟩
  | .hbm, ⟨109, _⟩ => ⟨S16x8192x8192, .f32⟩
  | .hbm, ⟨110, _⟩ => ⟨S16x8192x8192, .f32⟩
  | .hbm, ⟨111, _⟩ => ⟨S16x8192x128, .f32⟩
  | .hbm, ⟨112, _⟩ => ⟨S8192x16x128, .f32⟩
  | .hbm, ⟨113, _⟩ => ⟨S16x8192x128, .f32⟩
  | .hbm, ⟨114, _⟩ => ⟨S8192x16x128, .f32⟩
  | _, _ => ⟨S8192x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_15 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_19 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Kernel2.lean ====
abbrev S2048x12288 : Shape := ⟨2, ![2048, 12288]⟩
abbrev S8192x12288 : Shape := ⟨2, ![8192, 12288]⟩
abbrev S2048x4x3072 : Shape := ⟨3, ![2048, 4, 3072]⟩
abbrev S4x2048x3072 : Shape := ⟨3, ![4, 2048, 3072]⟩
abbrev S8192x2048 : Shape := ⟨2, ![8192, 2048]⟩
abbrev S1024x3072 : Shape := ⟨2, ![1024, 3072]⟩
abbrev S1x1024x3072 : Shape := ⟨3, ![1, 1024, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x12288, .bf16⟩
  | .hbm, ⟨1, _⟩ => ⟨S8192x12288, .bf16⟩
  | .hbm, ⟨2, _⟩ => ⟨S2048x4x3072, .bf16⟩
  | .hbm, ⟨3, _⟩ => ⟨S4x2048x3072, .bf16⟩
  | .hbm, ⟨4, _⟩ => ⟨S8192x2048, .f32⟩
  | .local _ .vmem, ⟨0, _⟩ => ⟨S1024x3072, .bf16⟩
  | .local _ .vmem, ⟨1, _⟩ => ⟨S1024x3072, .bf16⟩
  | .local _ .vmem, ⟨2, _⟩ => ⟨S1x1024x3072, .bf16⟩
  | .local _ .vmem, ⟨3, _⟩ => ⟨S1x1024x3072, .bf16⟩
  | .local _ .vmem, ⟨4, _⟩ => ⟨S1024x1024, .f32⟩
  | .local _ .vmem, ⟨5, _⟩ => ⟨S1024x1024, .f32⟩
  | _, _ => ⟨S2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x12288 : Shape := ⟨2, ![2048, 12288]⟩
abbrev S8192x12288 : Shape := ⟨2, ![8192, 12288]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x12288, .bf16⟩
  | .hbm, ⟨1, _⟩ => ⟨S8192x12288, .bf16⟩
  | .hbm, ⟨2, _⟩ => ⟨S_, .f32⟩
  | .hbm, ⟨3, _⟩ => ⟨S8192x2048, .f32⟩
  | .hbm, ⟨4, _⟩ => ⟨S2048x12288, .f32⟩
  | .hbm, ⟨5, _⟩ => ⟨S8192x12288, .f32⟩
  | .hbm, ⟨6, _⟩ => ⟨S8192x12288, .f32⟩
  | .hbm, ⟨7, _⟩ => ⟨S8192x2048, .f32⟩
  | _, _ => ⟨S2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x2048 : Shape := ⟨2, ![8192, 2048]⟩
abbrev S8192x12288 : Shape := ⟨2, ![8192, 12288]⟩
abbrev S2048x8192 : Shape := ⟨2, ![2048, 8192]⟩
abbrev S4x2048x3072 : Shape := ⟨3, ![4, 2048, 3072]⟩
abbrev S2048x1024 : Shape := ⟨2, ![2048, 1024]⟩
abbrev S1024x1024 : Shape := ⟨2, ![1024, 1024]⟩
abbrev S1x2048x1024 : Shape := ⟨3, ![1, 2048, 1024]⟩
abbrev S2048x4x3072 : Shape := ⟨3, ![2048, 4, 3072]⟩
abbrev S2048x12288 : Shape := ⟨2, ![2048, 12288]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S2048x8192, .bf16⟩
  | .hbm, ⟨3, _⟩ => ⟨S4x2048x3072, .f32⟩
  | .hbm, ⟨4, _⟩ => ⟨S2048x4x3072, .f32⟩
  | .hbm, ⟨5, _⟩ => ⟨S2048x12288, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .f32⟩
  | .local _ .vmem, ⟨5, _⟩ => ⟨S1x2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x12288 : Shape := ⟨2, ![8192, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S_, .f32⟩
  | .hbm, ⟨3, _⟩ => ⟨S2048x12288, .f32⟩
  | .hbm, ⟨4, _⟩ => ⟨S8192x2048, .f32⟩
  | .hbm, ⟨5, _⟩ => ⟨S8192x12288, .f32⟩
  | .hbm, ⟨6, _⟩ => ⟨S8192x12288, .f32⟩
  | .hbm, ⟨7, _⟩ => ⟨S12288x2048, .f32⟩
  | .hbm, ⟨8, _⟩ => ⟨S2048x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x2048 : Shape := ⟨2, ![4096, 2048]⟩
abbrev S8192x2048 : Shape := ⟨2, ![8192, 2048]⟩
abbrev S4x1024x2048 : Shape := ⟨3, ![4, 1024, 2048]⟩
abbrev S8192x4096 : Shape := ⟨2, ![8192, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4x1024x2048, .bf16⟩
  | .hbm, ⟨3, _⟩ => ⟨S8192x4096, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S8192x2048 : Shape := ⟨2, ![8192, 2048]⟩
abbrev S_ : Shape := ⟨0, ![]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x4096 : Shape := ⟨2, ![8192, 4096]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x4096, .f32⟩
  | .hbm, ⟨8, _⟩ => ⟨S4096x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x8192 : Shape := ⟨2, ![2048, 8192]⟩
abbrev S8192x8192 : Shape := ⟨2, ![8192, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x8192, .bf16⟩
  | .hbm, ⟨1, _⟩ => ⟨S8192x8192, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x8192 : Shape := ⟨2, ![2048, 8192]⟩
abbrev S8192x8192 : Shape := ⟨2, ![8192, 8192]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x8192, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S8192x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S8192x8192 : Shape := ⟨2, ![8192, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .hbm, ⟨3, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S8192x2048 : Shape := ⟨2, ![8192, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S4x512x2048, .bf16⟩
  | .hbm, ⟨3, _⟩ => ⟨S8192x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x2048 : Shape := ⟨2, ![8192, 2048]⟩
abbrev S2048x12288 : Shape := ⟨2, ![2048, 12288]⟩
abbrev S2048x4x3072 : Shape := ⟨3, ![2048, 4, 3072]⟩
abbrev S4x2048x3072 : Shape := ⟨3, ![4, 2048, 3072]⟩
abbrev S8192x12288 : Shape := ⟨2, ![8192, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S2048x4x3072, .bf16⟩
  | .hbm, ⟨3, _⟩ => ⟨S4x2048x3072, .bf16⟩
  | .hbm, ⟨4, _⟩ => ⟨S8192x12288, .bf16⟩
  | .hbm, ⟨5, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x2048, .f32⟩
  | .hbm, ⟨3, _⟩ => ⟨S2048x12288, .f32⟩
  | .hbm, ⟨4, _⟩ => ⟨S8192x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .hbm, ⟨3, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x2048 : Shape := ⟨2, ![8192, 2048]⟩
abbrev S8192x4096 : Shape := ⟨2, ![8192, 4096]⟩
abbrev S4096x2048 : Shape := ⟨2, ![4096, 2048]⟩
abbrev S4x1024x2048 : Shape := ⟨3, ![4, 1024, 2048]⟩
abbrev S1024x1024 : Shape := ⟨2, ![1024, 1024]⟩
abbrev S1x1024x1024 : Shape := ⟨3, ![1, 1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S4096x2048, .bf16⟩
  | .hbm, ⟨3, _⟩ => ⟨S4x1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x2048 : Shape := ⟨2, ![8192, 2048]⟩
abbrev S8192x4096 : Shape := ⟨2, ![8192, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S4096x2048, .bf16⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S4x512x2048 : Shape := ⟨3, ![4, 512, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S4x512x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x3072 : Shape := ⟨2, ![4096, 3072]⟩
abbrev S32x3072 : Shape := ⟨2, ![32, 3072]⟩

abbrev nBuf : Space → Nat
  | .hbm => 7
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .local _ .vmem, ⟨0, _⟩ => ⟨S32x3072, .f32⟩
  | .local _ .vmem, ⟨1, _⟩ => ⟨S32x3072, .f32⟩
  | .local _ .vmem, ⟨2, _⟩ => ⟨S32x3072, .f32⟩
  | .local _ .vmem, ⟨3, _⟩ => ⟨S32x3072, .f32⟩
  | .local _ .vmem, ⟨4, _⟩ => ⟨S32x3072, .f32⟩
  | .local _ .vmem, ⟨5, _⟩ => ⟨S32x3072, .f32⟩
  | .local _ .vmem, ⟨6, _⟩ => ⟨S32x3072, .f32⟩
  | .local _ .vmem, ⟨7, _⟩ => ⟨S32x3072, .f32⟩
  | .local _ .vmem, ⟨8, _⟩ => ⟨S32x3072, .f32⟩
  | .local _ .vmem, ⟨9, _⟩ => ⟨S32x3072, .f32⟩
  | .local _ .vmem, ⟨10, _⟩ => ⟨S32x3072, .f32⟩
  | .local _ .vmem, ⟨11, _⟩ => ⟨S32x3072, .f32⟩
  | .local _ .vmem, ⟨12, _⟩ => ⟨S32x3072, .f32⟩
  | .local _ .vmem, ⟨13, _⟩ => ⟨S32x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4096x3072 : Shape := ⟨2, ![4096, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S_, .f32⟩
  | .hbm, ⟨5, _⟩ => ⟨S4096x3072, .f32⟩
  | .hbm, ⟨6, _⟩ => ⟨S4096x3072, .f32⟩
  | .hbm, ⟨7, _⟩ => ⟨S_, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2048x2048 : Shape := ⟨2, ![2048, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4096x2052 : Shape := ⟨2, ![4096, 2052]⟩
abbrev S32x2052 : Shape := ⟨2, ![32, 2052]⟩

abbrev nBuf : Space → Nat
  | .hbm => 7
  | .vmem => 14
  | .smem => 0
  | _ => 0

abbrev bufTy : (tb : Table) → Fin (tcTables nBuf tb) → BufTy
  | .hbm, ⟨0, _⟩ => ⟨S4096x2052, .f32⟩
  | .hbm, ⟨1, _⟩ => ⟨S4096x2052, .f32⟩
  | .hbm, ⟨2, _⟩ => ⟨S4096x2052, .f32⟩
  | .hbm, ⟨3, _⟩ => ⟨S4096x2052, .f32⟩
  | .hbm, ⟨4, _⟩ => ⟨S4096x2052, .f32⟩
  | .hbm, ⟨5, _⟩ => ⟨S4096x2052, .f32⟩
  | .hbm, ⟨6, _⟩ => ⟨S4096x2052, .f32⟩
  | .local _ .vmem, ⟨0, _⟩ => ⟨S32x2052, .f32⟩
  | .local _ .vmem, ⟨1, _⟩ => ⟨S32x2052, .f32⟩
  | .local _ .vmem, ⟨2, _⟩ => ⟨S32x2052, .f32⟩
  | .local _ .vmem, ⟨3, _⟩ => ⟨S32x2052, .f32⟩
  | .local _ .vmem, ⟨4, _⟩ => ⟨S32x2052, .f32⟩
  | .local _ .vmem, ⟨5, _⟩ => ⟨S32x2052, .f32⟩
  | .local _ .vmem, ⟨6, _⟩ => ⟨S32x2052, .f32⟩
  | .local _ .vmem, ⟨7, _⟩ => ⟨S32x2052, .f32⟩
  | .local _ .vmem, ⟨8, _⟩ => ⟨S32x2052, .f32⟩
  | .local _ .vmem, ⟨9, _⟩ => ⟨S32x2052, .f32⟩
  | .local _ .vmem, ⟨10, _⟩ => ⟨S32x2052, .f32⟩
  | .local _ .vmem, ⟨11, _⟩ => ⟨S32x2052, .f32⟩
  | .local _ .vmem, ⟨12, _⟩ => ⟨S32x2052, .f32⟩
  | .local _ .vmem, ⟨13, _⟩ => ⟨S32x2052, .f32⟩
  | _, _ => ⟨S4096x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2052 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2052 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2052 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2052 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4096x2052 : Shape := ⟨2, ![4096, 2052]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2052, .f32⟩
  | .hbm, ⟨1, _⟩ => ⟨S4096x2052, .f32⟩
  | .hbm, ⟨2, _⟩ => ⟨S4096x2052, .f32⟩
  | .hbm, ⟨3, _⟩ => ⟨S4096x2052, .f32⟩
  | .hbm, ⟨4, _⟩ => ⟨S_, .f32⟩
  | .hbm, ⟨5, _⟩ => ⟨S4096x2052, .f32⟩
  | .hbm, ⟨6, _⟩ => ⟨S4096x2052, .f32⟩
  | .hbm, ⟨7, _⟩ => ⟨S_, .f32⟩
  | .hbm, ⟨8, _⟩ => ⟨S4096x2052, .f32⟩
  | .hbm, ⟨9, _⟩ => ⟨S4096x2052, .f32⟩
  | .hbm, ⟨10, _⟩ => ⟨S4096x2052, .f32⟩
  | .hbm, ⟨11, _⟩ => ⟨S_, .f32⟩
  | .hbm, ⟨12, _⟩ => ⟨S4096x2052, .f32⟩
  | .hbm, ⟨13, _⟩ => ⟨S4096x2052, .f32⟩
  | .hbm, ⟨14, _⟩ => ⟨S4096x2052, .f32⟩
  | .hbm, ⟨15, _⟩ => ⟨S_, .f32⟩
  | .hbm, ⟨16, _⟩ => ⟨S4096x2052, .f32⟩
  | .hbm, ⟨17, _⟩ => ⟨S4096x2052, .f32⟩
  | .hbm, ⟨18, _⟩ => ⟨S4096x2052, .f32⟩
  | .hbm, ⟨19, _⟩ => ⟨S_, .f32⟩
  | .hbm, ⟨20, _⟩ => ⟨S4096x2052, .f32⟩
  | .hbm, ⟨21, _⟩ => ⟨S4096x2052, .f32⟩
  | .hbm, ⟨22, _⟩ => ⟨S_, .f32⟩
  | .hbm, ⟨23, _⟩ => ⟨S4096x2052, .f32⟩
  | .hbm, ⟨24, _⟩ => ⟨S4096x2052, .f32⟩
  | .hbm, ⟨25, _⟩ => ⟨S4096x2052, .f32⟩
  | .hbm, ⟨26, _⟩ => ⟨S_, .f32⟩
  | .hbm, ⟨27, _⟩ => ⟨S4096x2052, .f32⟩
  | .hbm, ⟨28, _⟩ => ⟨S4096x2052, .f32⟩
  | .hbm, ⟨29, _⟩ => ⟨S4096x2052, .f32⟩
  | .hbm, ⟨30, _⟩ => ⟨S_, .f32⟩
  | .hbm, ⟨31, _⟩ => ⟨S4096x2052, .f32⟩
  | .hbm, ⟨32, _⟩ => ⟨S4096x2052, .f32⟩
  | .hbm, ⟨33, _⟩ => ⟨S4096x2052, .f32⟩
  | .hbm, ⟨34, _⟩ => ⟨S_, .f32⟩
  | .hbm, ⟨35, _⟩ => ⟨S4096x2052, .f32⟩
  | .hbm, ⟨36, _⟩ => ⟨S4096x2052, .f32⟩
  | _, _ => ⟨S4096x2052, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1024x2048 : Shape := ⟨2, ![1024, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8192x16x128 : Shape := ⟨3, ![8192, 16, 128]⟩
abbrev S8192x16 : Shape := ⟨2, ![8192, 16]⟩
abbrev S8192x8192 : Shape := ⟨2, ![8192, 8192]⟩
abbrev S_ : Shape := ⟨0, ![]⟩
abbrev S8192x16x1 : Shape := ⟨3, ![8192, 16, 1]⟩
abbrev S8192x16x256 : Shape := ⟨3, ![8192, 16, 256]⟩
abbrev S8192x4096 : Shape := ⟨2, ![8192, 4096]⟩
abbrev S8192x2048 : Shape := ⟨2, ![8192, 2048]⟩
abbrev S16x8192x1 : Shape := ⟨3, ![16, 8192, 1]⟩
abbrev S512x512 : Shape := ⟨2, ![512, 512]⟩
abbrev S8192x512 : Shape := ⟨2, ![8192, 512]⟩
abbrev S512x256 : Shape := ⟨2, ![512, 256]⟩
abbrev S2x512x1 : Shape := ⟨3, ![2, 512, 1]⟩
abbrev S512x1 : Shape := ⟨2, ![512, 1]⟩
abbrev S1024x256 : Shape := ⟨2, ![1024, 256]⟩
abbrev S512x1024 : Shape := ⟨2, ![512, 1024]⟩
abbrev S512 : Shape := ⟨1, ![512]⟩
abbrev S512x128 : Shape := ⟨2, ![512, 128]⟩
abbrev S1x512x1 : Shape := ⟨3, ![1, 512, 1]⟩

abbrev nBuf : Space → Nat
  | .hbm => 159
  | .vmem => 14
  | .smem => 0
  | _ => 0

abbrev hbmTy0_0 (i : Nat) : BufTy := match i % 128 with
  | 0 => ⟨S8192x16x128, .bf16⟩
  | 1 => ⟨S8192x16x128, .bf16⟩
  | 2 => ⟨S8192x16x128, .bf16⟩
  | 3 => ⟨S8192x16, .f32⟩
  | 4 => ⟨S8192x8192, .bf16⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S8192x16x128, .i32⟩
  | 12 => ⟨S_, .f32⟩
  | 13 => ⟨S8192x16x128, .f32⟩
  | 14 => ⟨S8192x16x1, .f32⟩
  | 15 => ⟨S8192x16x1, .f32⟩
  | 16 => ⟨S8192x16x1, .f32⟩
  | 17 => ⟨S_, .f32⟩
  | 18 => ⟨S8192x16x1, .f32⟩
  | 19 => ⟨S8192x16x1, .f32⟩
  | 20 => ⟨S8192x16x1, .bf16⟩
  | 21 => ⟨S8192x16x1, .f32⟩
  | 22 => ⟨S8192x16x1, .f32⟩
  | 23 => ⟨S8192x16x1, .bf16⟩
  | 24 => ⟨S8192x16x1, .f32⟩
  | 25 => ⟨S8192x16x1, .f32⟩
  | 26 => ⟨S8192x16x1, .bf16⟩
  | 27 => ⟨S8192x16x1, .f32⟩
  | 28 => ⟨S8192x16x1, .f32⟩
  | 29 => ⟨S8192x16x1, .f32⟩
  | 30 => ⟨S_, .i32⟩
  | 31 => ⟨S8192x16x128, .i32⟩
  | 32 => ⟨S8192x16x128, .i1⟩
  | 33 => ⟨S8192x16x128, .f32⟩
  | 34 => ⟨S8192x16x128, .f32⟩
  | 35 => ⟨S_, .i32⟩
  | 36 => ⟨S8192x16x128, .i32⟩
  | 37 => ⟨S8192x16x128, .i1⟩
  | 38 => ⟨S8192x16x128, .f32⟩
  | 39 => ⟨S8192x16x128, .f32⟩
  | 40 => ⟨S_, .i32⟩
  | 41 => ⟨S8192x16x128, .i32⟩
  | 42 => ⟨S8192x16x128, .i1⟩
  | 43 => ⟨S8192x16x128, .f32⟩
  | 44 => ⟨S8192x16x128, .f32⟩
  | 45 => ⟨S_, .i32⟩
  | 46 => ⟨S8192x16x128, .i32⟩
  | 47 => ⟨S8192x16x128, .i1⟩
  | 48 => ⟨S_, .f32⟩
  | 49 => ⟨S8192x16x128, .f32⟩
  | 50 => ⟨S8192x16x128, .f32⟩
  | 51 => ⟨S8192x16x128, .f32⟩
  | 52 => ⟨S_, .i32⟩
  | 53 => ⟨S8192x16x128, .i32⟩
  | 54 => ⟨S8192x16x128, .i1⟩
  | 55 => ⟨S_, .f32⟩
  | 56 => ⟨S8192x16x128, .f32⟩
  | 57 => ⟨S8192x16x128, .f32⟩
  | 58 => ⟨S8192x16x128, .f32⟩
  | 59 => ⟨S_, .i32⟩
  | 60 => ⟨S8192x16x128, .i32⟩
  | 61 => ⟨S8192x16x128, .i1⟩
  | 62 => ⟨S_, .f32⟩
  | 63 => ⟨S8192x16x128, .f32⟩
  | 64 => ⟨S8192x16x128, .f32⟩
  | 65 => ⟨S8192x16x128, .f32⟩
  | 66 => ⟨S8192x16x128, .bf16⟩
  | 67 => ⟨S_, .f32⟩
  | 68 => ⟨S8192x16x1, .f32⟩
  | 69 => ⟨S8192x16x1, .f32⟩
  | 70 => ⟨S8192x16x1, .bf16⟩
  | 71 => ⟨S8192x16x1, .f32⟩
  | 72 => ⟨S8192x16x1, .f32⟩
  | 73 => ⟨S8192x16x1, .bf16⟩
  | 74 => ⟨S8192x16x1, .f32⟩
  | 75 => ⟨S8192x16x1, .f32⟩
  | 76 => ⟨S8192x16x1, .bf16⟩
  | 77 => ⟨S8192x16x1, .f32⟩
  | 78 => ⟨S8192x16x1, .f32⟩
  | 79 => ⟨S8192x16x1, .f32⟩
  | 80 => ⟨S_, .i32⟩
  | 81 => ⟨S8192x16x128, .i32⟩
  | 82 => ⟨S8192x16x128, .i1⟩
  | 83 => ⟨S_, .f32⟩
  | 84 => ⟨S8192x16x128, .f32⟩
  | 85 => ⟨S8192x16x128, .f32⟩
  | 86 => ⟨S8192x16x128, .f32⟩
  | 87 => ⟨S_, .i32⟩
  | 88 => ⟨S8192x16x128, .i32⟩
  | 89 => ⟨S8192x16x128, .i1⟩
  | 90 => ⟨S_, .f32⟩
  | 91 => ⟨S8192x16x128, .f32⟩
  | 92 => ⟨S8192x16x128, .f32⟩
  | 93 => ⟨S8192x16x128, .f32⟩
  | 94 => ⟨S_, .i32⟩
  | 95 => ⟨S8192x16x128, .i32⟩
  | 96 => ⟨S8192x16x128, .i1⟩
  | 97 => ⟨S_, .f32⟩
  | 98 => ⟨S8192x16x128, .f32⟩
  | 99 => ⟨S8192x16x128, .f32⟩
  | 100 => ⟨S8192x16x128, .f32⟩
  | 101 => ⟨S_, .i32⟩
  | 102 => ⟨S8192x16x128, .i32⟩
  | 103 => ⟨S8192x16x128, .i1⟩
  | 104 => ⟨S8192x16x128, .f32⟩
  | 105 => ⟨S8192x16x128, .f32⟩
  | 106 => ⟨S_, .i32⟩
  | 107 => ⟨S8192x16x128, .i32⟩
  | 108 => ⟨S8192x16x128, .i1⟩
  | 109 => ⟨S8192x16x128, .f32⟩
  | 110 => ⟨S8192x16x128, .f32⟩
  | 111 => ⟨S_, .i32⟩
  | 112 => ⟨S8192x16x128, .i32⟩
  | 113 => ⟨S8192x16x128, .i1⟩
  | 114 => ⟨S8192x16x128, .f32⟩
  | 115 => ⟨S8192x16x128, .f32⟩
  | 116 => ⟨S_, .i32⟩
  | 117 => ⟨S8192x16x128, .i32⟩
  | 118 => ⟨S8192x16x128, .i1⟩
  | 119 => ⟨S_, .f32⟩
  | 120 => ⟨S8192x16x128, .f32⟩
  | 121 => ⟨S8192x16x128, .f32⟩
  | 122 => ⟨S8192x16x128, .f32⟩
  | 123 => ⟨S_, .i32⟩
  | 124 => ⟨S8192x16x128, .i32⟩
  | 125 => ⟨S8192x16x128, .i1⟩
  | 126 => ⟨S_, .f32⟩
  | 127 => ⟨S8192x16x128, .f32⟩
  | _ => ⟨S8192x16x128, .bf16⟩

abbrev hbmTy0_1 (i : Nat) : BufTy := match i % 128 with
  | 0 => ⟨S8192x16x128, .f32⟩
  | 1 => ⟨S8192x16x128, .f32⟩
  | 2 => ⟨S_, .i32⟩
  | 3 => ⟨S8192x16x128, .i32⟩
  | 4 => ⟨S8192x16x128, .i1⟩
  | 5 => ⟨S_, .f32⟩
  | 6 => ⟨S8192x16x128, .f32⟩
  | 7 => ⟨S8192x16x128, .f32⟩
  | 8 => ⟨S8192x16x128, .f32⟩
  | 9 => ⟨S8192x16x128, .bf16⟩
  | 10 => ⟨S_, .i32⟩
  | 11 => ⟨S8192x16x128, .i32⟩
  | 12 => ⟨S8192x16x128, .i1⟩
  | 13 => ⟨S_, .f32⟩
  | 14 => ⟨S8192x16x128, .f32⟩
  | 15 => ⟨S8192x16x128, .f32⟩
  | 16 => ⟨S8192x16x128, .bf16⟩
  | 17 => ⟨S8192x16x128, .f32⟩
  | 18 => ⟨S8192x16x128, .f32⟩
  | 19 => ⟨S8192x16x128, .f32⟩
  | 20 => ⟨S8192x16x128, .bf16⟩
  | 21 => ⟨S8192x16x256, .bf16⟩
  | 22 => ⟨S8192x4096, .bf16⟩
  | 23 => ⟨S8192x16x256, .bf16⟩
  | 24 => ⟨S8192x4096, .bf16⟩
  | 25 => ⟨S8192x16x256, .bf16⟩
  | 26 => ⟨S8192x4096, .bf16⟩
  | 27 => ⟨S8192x2048, .f32⟩
  | 28 => ⟨S8192x2048, .bf16⟩
  | 29 => ⟨S16x8192x1, .f32⟩
  | 30 => ⟨S8192x2048, .f32⟩
  | _ => ⟨S8192x16x128, .bf16⟩

abbrev hbmTy (i : Nat) : BufTy := match i / 128 with
  | 0 => hbmTy0_0 i
  | 1 => hbmTy0_1 i
  | _ => ⟨S8192x16x128, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | .local _ .vmem, ⟨12, _⟩ => ⟨S2x512x1, .f32⟩
  | .local _ .vmem, ⟨13, _⟩ => ⟨S2x512x1, .f32⟩
  | _, _ => ⟨S8192x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_17 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_19 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_20 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_21 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_22 : Ref sig .tc := ⟨.hbm, 116, rfl⟩
abbrev main_v87 : Ref sig .tc := ⟨.hbm, 117, rfl⟩
abbrev main_v88 : Ref sig .tc := ⟨.hbm, 118, rfl⟩
abbrev main_cst_23 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_24 : Ref sig .tc := ⟨.hbm, 123, rfl⟩
abbrev main_v92 : Ref sig .tc := ⟨.hbm, 124, rfl⟩
abbrev main_v93 : Ref sig .tc := ⟨.hbm, 125, rfl⟩
abbrev main_cst_25 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_26 : Ref sig .tc := ⟨.hbm, 130, rfl⟩
abbrev main_v97 : Ref sig .tc := ⟨.hbm, 131, rfl⟩
abbrev main_v98 : Ref sig .tc := ⟨.hbm, 132, rfl⟩
abbrev main_cst_27 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_28 : Ref sig .tc := ⟨.hbm, 138, rfl⟩
abbrev main_v103 : Ref sig .tc := ⟨.hbm, 139, rfl⟩
abbrev main_v104 : Ref sig .tc := ⟨.hbm, 140, rfl⟩
abbrev main_cst_29 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118_0 : Ref sig .tc := ⟨.hbm, 155, rfl⟩
abbrev main_v118_1 : Ref sig .tc := ⟨.hbm, 156, rfl⟩
abbrev main_v118_2 : Ref sig .tc := ⟨.hbm, 157, rfl⟩
abbrev main_v119 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_5 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.subi v19 c0_i32_5
  let c1_i32_6 : BitVec 32 := 1#32
  let v22 : BitVec 32 := Scalar.divsi v20 c1_i32_6
  let v23 : BitVec 32 := Scalar.muli v22 c1_i32_6
  let v24 : BitVec 32 := Scalar.addi c0_i32_5 v23
  let c1_i32_7 : BitVec 32 := 1#32
  ⟨c0_i32_5, v24, c1_i32_7⟩
def k0_mult1 (i : grid0.Coords) (k0_t1 : Fin (k0_t1_loop i).trips) : BitVec 32 :=
  let c0_i32_5 : BitVec 32 := 0#32
  let c1_i32_7 : BitVec 32 := 1#32
  let arg9 : BitVec 32 := Scf.iv c0_i32_5 c1_i32_7 k0_t1
  let c1024_i32_52 : BitVec 32 := 1024#32
  let v145 : BitVec 32 := Scalar.muli arg9 c1024_i32_52
  v145
def k0_off1 (i : grid0.Coords) (k0_t1 : Fin (k0_t1_loop i).trips) : Fin 2 → Nat :=
  let c0_i32_5 : BitVec 32 := 0#32
  let c1_i32_7 : BitVec 32 := 1#32
  let arg9 : BitVec 32 := Scf.iv c0_i32_5 c1_i32_7 k0_t1
  let c1024_i32_52 : BitVec 32 := 1024#32
  let v145 : BitVec 32 := Scalar.muli arg9 c1024_i32_52
  let v146 : BitVec 32 := v145
  let v149 : Index := Scalar.indexCast v146
  let c0_55 : Index := 0#32
  ![v149.toNat, 0]
def k0_off2 (i : grid0.Coords) (k0_t1 : Fin (k0_t1_loop i).trips) : Fin 2 → Nat :=
  let c0_i32_5 : BitVec 32 := 0#32
  let c1_i32_7 : BitVec 32 := 1#32
  let arg9 : BitVec 32 := Scf.iv c0_i32_5 c1_i32_7 k0_t1
  let c1024_i32_52 : BitVec 32 := 1024#32
  let v145 : BitVec 32 := Scalar.muli arg9 c1024_i32_52
  let v146 : BitVec 32 := v145
  let v171 : Index := Scalar.indexCast v146
  let c256_62 : Index := 256#32
  ![v171.toNat, 256]
@[reducible] def k0_t2_loop (i : grid0.Coords) : Scf.Loop 32 :=
  let c0_i32_5 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.subi v19 c0_i32_5
  let c1_i32_6 : BitVec 32 := 1#32
  let v22 : BitVec 32 := Scalar.divsi v20 c1_i32_6
  let v23 : BitVec 32 := Scalar.muli v22 c1_i32_6
  let v24 : BitVec 32 := Scalar.addi c0_i32_5 v23
  let v21 : BitVec 32 := Scalar.addi c0_i32_5 v20
  let c1_i32_8 : BitVec 32 := 1#32
  ⟨v24, v21, c1_i32_8⟩
def k0_mult2 (i : grid0.Coords) (k0_t2 : Fin (k0_t2_loop i).trips) : BitVec 32 :=
  let c0_i32_5 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.subi v19 c0_i32_5
  let c1_i32_6 : BitVec 32 := 1#32
  let v22 : BitVec 32 := Scalar.divsi v20 c1_i32_6
  let v23 : BitVec 32 := Scalar.muli v22 c1_i32_6
  let v24 : BitVec 32 := Scalar.addi c0_i32_5 v23
  let c1_i32_8 : BitVec 32 := 1#32
  let arg9 : BitVec 32 := Scf.iv v24 c1_i32_8 k0_t2
  let c1024_i32_52 : BitVec 32 := 1024#32
  let v145 : BitVec 32 := Scalar.muli arg9 c1024_i32_52
  v145
def k0_off3 (i : grid0.Coords) (k0_t2 : Fin (k0_t2_loop i).trips) : Fin 2 → Nat :=
  let c0_i32_5 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.subi v19 c0_i32_5
  let c1_i32_6 : BitVec 32 := 1#32
  let v22 : BitVec 32 := Scalar.divsi v20 c1_i32_6
  let v23 : BitVec 32 := Scalar.muli v22 c1_i32_6
  let v24 : BitVec 32 := Scalar.addi c0_i32_5 v23
  let c1_i32_8 : BitVec 32 := 1#32
  let arg9 : BitVec 32 := Scf.iv v24 c1_i32_8 k0_t2
  let c1024_i32_52 : BitVec 32 := 1024#32
  let v145 : BitVec 32 := Scalar.muli arg9 c1024_i32_52
  let v146 : BitVec 32 := v145
  let v149 : Index := Scalar.indexCast v146
  let c0_55 : Index := 0#32
  ![v149.toNat, 0]
def k0_off4 (i : grid0.Coords) (k0_t2 : Fin (k0_t2_loop i).trips) : Fin 2 → Nat :=
  let c0_i32_5 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.subi v19 c0_i32_5
  let c1_i32_6 : BitVec 32 := 1#32
  let v22 : BitVec 32 := Scalar.divsi v20 c1_i32_6
  let v23 : BitVec 32 := Scalar.muli v22 c1_i32_6
  let v24 : BitVec 32 := Scalar.addi c0_i32_5 v23
  let c1_i32_8 : BitVec 32 := 1#32
  let arg9 : BitVec 32 := Scf.iv v24 c1_i32_8 k0_t2
  let c1024_i32_52 : BitVec 32 := 1024#32
  let v145 : BitVec 32 := Scalar.muli arg9 c1024_i32_52
  let v146 : BitVec 32 := v145
  let v171 : Index := Scalar.indexCast v146
  let c256_62 : Index := 256#32
  ![v171.toNat, 256]
def k0_mult3 (i : grid0.Coords) : BitVec 32 :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let c1024_i32_9 : BitVec 32 := 1024#32
  let v27 : BitVec 32 := Scalar.muli v19 c1024_i32_9
  v27
def k0_off5 (i : grid0.Coords) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let c1024_i32_9 : BitVec 32 := 1024#32
  let v27 : BitVec 32 := Scalar.muli v19 c1024_i32_9
  let v28 : BitVec 32 := v27
  let v31 : Index := Scalar.indexCast v28
  let c0_11 : Index := 0#32
  ![v31.toNat, 0]
def k0_off6 (i : grid0.Coords) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let c1024_i32_9 : BitVec 32 := 1024#32
  let v27 : BitVec 32 := Scalar.muli v19 c1024_i32_9
  let v28 : BitVec 32 := v27
  let v64 : Index := Scalar.indexCast v28
  let c256_20 : Index := 256#32
  ![v64.toNat, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S8192x16x128 : Shape := ⟨3, ![8192, 16, 128]⟩
abbrev S8192x16 : Shape := ⟨2, ![8192, 16]⟩
abbrev S8192x8192 : Shape := ⟨2, ![8192, 8192]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x128x8192 : Shape := ⟨3, ![16, 128, 8192]⟩
abbrev S8192x2048 : Shape := ⟨2, ![8192, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8192x16x128, .bf16⟩
  | .hbm, ⟨1, _⟩ => ⟨S8192x16x128, .bf16⟩
  | .hbm, ⟨2, _⟩ => ⟨S8192x16x128, .bf16⟩
  | .hbm, ⟨3, _⟩ => ⟨S8192x16, .f32⟩
  | .hbm, ⟨4, _⟩ => ⟨S8192x8192, .bf16⟩
  | .hbm, ⟨5, _⟩ => ⟨S8192x16x128, .f32⟩
  | .hbm, ⟨6, _⟩ => ⟨S8192x16x128, .f32⟩
  | .hbm, ⟨7, _⟩ => ⟨S8192x16x128, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S16x8192, .f32⟩
  | .hbm, ⟨13, _⟩ => ⟨S16x8192x1, .f32⟩
  | .hbm, ⟨14, _⟩ => ⟨S16x8192x8192, .f32⟩
  | .hbm, ⟨15, _⟩ => ⟨S16x8192x8192, .f32⟩
  | .hbm, ⟨16, _⟩ => ⟨S16x8192, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S8192, .i32⟩
  | .hbm, ⟨21, _⟩ => ⟨S1x1x8192, .i32⟩
  | .hbm, ⟨22, _⟩ => ⟨S1x8192x1, .i32⟩
  | .hbm, ⟨23, _⟩ => ⟨S1x8192x8192, .i32⟩
  | .hbm, ⟨24, _⟩ => ⟨S1x8192x8192, .i32⟩
  | .hbm, ⟨25, _⟩ => ⟨S1x8192x8192, .i1⟩
  | .hbm, ⟨26, _⟩ => ⟨S16x8192x8192, .i1⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S_, .f32⟩
  | .hbm, ⟨33, _⟩ => ⟨S16x8192, .f32⟩
  | .hbm, ⟨34, _⟩ => ⟨S16x8192, .f32⟩
  | .hbm, ⟨35, _⟩ => ⟨S16x8192x1, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S_, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x128x8192, .f32⟩
  | .hbm, ⟨45, _⟩ => ⟨S8192x16x128, .f32⟩
  | .hbm, ⟨46, _⟩ => ⟨S8192x2048, .f32⟩
  | .hbm, ⟨47, _⟩ => ⟨S8192x8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | _, _ => ⟨S8192x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Kernel19.lean ====
abbrev S4256x128 : Shape := ⟨2, ![4256, 128]⟩
abbrev S608x128 : Shape := ⟨2, ![608, 128]⟩

abbrev nBuf : Space → Nat
  | .hbm => 7
  | .vmem => 14
  | .smem => 0
  | _ => 0

abbrev bufTy : (tb : Table) → Fin (tcTables nBuf tb) → BufTy
  | .hbm, ⟨0, _⟩ => ⟨S4256x128, .f32⟩
  | .hbm, ⟨1, _⟩ => ⟨S4256x128, .f32⟩
  | .hbm, ⟨2, _⟩ => ⟨S4256x128, .f32⟩
  | .hbm, ⟨3, _⟩ => ⟨S4256x128, .f32⟩
  | .hbm, ⟨4, _⟩ => ⟨S4256x128, .f32⟩
  | .hbm, ⟨5, _⟩ => ⟨S4256x128, .f32⟩
  | .hbm, ⟨6, _⟩ => ⟨S4256x128, .f32⟩
  | .local _ .vmem, ⟨0, _⟩ => ⟨S608x128, .f32⟩
  | .local _ .vmem, ⟨1, _⟩ => ⟨S608x128, .f32⟩
  | .local _ .vmem, ⟨2, _⟩ => ⟨S608x128, .f32⟩
  | .local _ .vmem, ⟨3, _⟩ => ⟨S608x128, .f32⟩
  | .local _ .vmem, ⟨4, _⟩ => ⟨S608x128, .f32⟩
  | .local _ .vmem, ⟨5, _⟩ => ⟨S608x128, .f32⟩
  | .local _ .vmem, ⟨6, _⟩ => ⟨S608x128, .f32⟩
  | .local _ .vmem, ⟨7, _⟩ => ⟨S608x128, .f32⟩
  | .local _ .vmem, ⟨8, _⟩ => ⟨S608x128, .f32⟩
  | .local _ .vmem, ⟨9, _⟩ => ⟨S608x128, .f32⟩
  | .local _ .vmem, ⟨10, _⟩ => ⟨S608x128, .f32⟩
  | .local _ .vmem, ⟨11, _⟩ => ⟨S608x128, .f32⟩
  | .local _ .vmem, ⟨12, _⟩ => ⟨S608x128, .f32⟩
  | .local _ .vmem, ⟨13, _⟩ => ⟨S608x128, .f32⟩
  | _, _ => ⟨S4256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S608x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S608x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S608x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S608x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S608x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S608x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S608x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4256x128 : Shape := ⟨2, ![4256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4256x128, .f32⟩
  | .hbm, ⟨1, _⟩ => ⟨S4256x128, .f32⟩
  | .hbm, ⟨2, _⟩ => ⟨S4256x128, .f32⟩
  | .hbm, ⟨3, _⟩ => ⟨S4256x128, .f32⟩
  | .hbm, ⟨4, _⟩ => ⟨S_, .f32⟩
  | .hbm, ⟨5, _⟩ => ⟨S4256x128, .f32⟩
  | .hbm, ⟨6, _⟩ => ⟨S4256x128, .f32⟩
  | .hbm, ⟨7, _⟩ => ⟨S_, .f32⟩
  | .hbm, ⟨8, _⟩ => ⟨S4256x128, .f32⟩
  | .hbm, ⟨9, _⟩ => ⟨S4256x128, .f32⟩
  | .hbm, ⟨10, _⟩ => ⟨S4256x128, .f32⟩
  | .hbm, ⟨11, _⟩ => ⟨S_, .f32⟩
  | .hbm, ⟨12, _⟩ => ⟨S4256x128, .f32⟩
  | .hbm, ⟨13, _⟩ => ⟨S4256x128, .f32⟩
  | .hbm, ⟨14, _⟩ => ⟨S4256x128, .f32⟩
  | .hbm, ⟨15, _⟩ => ⟨S_, .f32⟩
  | .hbm, ⟨16, _⟩ => ⟨S4256x128, .f32⟩
  | .hbm, ⟨17, _⟩ => ⟨S4256x128, .f32⟩
  | .hbm, ⟨18, _⟩ => ⟨S4256x128, .f32⟩
  | .hbm, ⟨19, _⟩ => ⟨S_, .f32⟩
  | .hbm, ⟨20, _⟩ => ⟨S4256x128, .f32⟩
  | .hbm, ⟨21, _⟩ => ⟨S4256x128, .f32⟩
  | .hbm, ⟨22, _⟩ => ⟨S_, .f32⟩
  | .hbm, ⟨23, _⟩ => ⟨S4256x128, .f32⟩
  | .hbm, ⟨24, _⟩ => ⟨S4256x128, .f32⟩
  | .hbm, ⟨25, _⟩ => ⟨S4256x128, .f32⟩
  | .hbm, ⟨26, _⟩ => ⟨S_, .f32⟩
  | .hbm, ⟨27, _⟩ => ⟨S4256x128, .f32⟩
  | .hbm, ⟨28, _⟩ => ⟨S4256x128, .f32⟩
  | .hbm, ⟨29, _⟩ => ⟨S4256x128, .f32⟩
  | .hbm, ⟨30, _⟩ => ⟨S_, .f32⟩
  | .hbm, ⟨31, _⟩ => ⟨S4256x128, .f32⟩
  | .hbm, ⟨32, _⟩ => ⟨S4256x128, .f32⟩
  | .hbm, ⟨33, _⟩ => ⟨S4256x128, .f32⟩
  | .hbm, ⟨34, _⟩ => ⟨S_, .f32⟩
  | .hbm, ⟨35, _⟩ => ⟨S4256x128, .f32⟩
  | .hbm, ⟨36, _⟩ => ⟨S4256x128, .f32⟩
  | _, _ => ⟨S4256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel21.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S1x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg0 : BitVec 32 := BitVec.ofNat 32 (i 0).val
  let c0_i32_9 : BitVec 32 := 0#32
  let v14 : BitVec 1 := Scalar.cmpi .sgt arg0 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference21Ideal.lean ====
abbrev S8192x2048 : Shape := ⟨2, ![8192, 2048]⟩
abbrev S_ : Shape := ⟨0, ![]⟩
abbrev S8192 : Shape := ⟨1, ![8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel22.lean ====
abbrev S8192x2048 : Shape := ⟨2, ![8192, 2048]⟩
abbrev S1x2048 : Shape := ⟨2, ![1, 2048]⟩
abbrev S2048x8192 : Shape := ⟨2, ![2048, 8192]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | .hbm, ⟨18, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel23.lean ====
abbrev S8192x12288 : Shape := ⟨2, ![8192, 12288]⟩
abbrev S1x4096 : Shape := ⟨2, ![1, 4096]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S1x128x128 : Shape := ⟨3, ![1, 128, 128]⟩
abbrev S128x16 : Shape := ⟨2, ![128, 16]⟩
abbrev S8192x4096 : Shape := ⟨2, ![8192, 4096]⟩
abbrev S128x12288 : Shape := ⟨2, ![128, 12288]⟩
abbrev S128x4096 : Shape := ⟨2, ![128, 4096]⟩
abbrev S128 : Shape := ⟨1, ![128]⟩
abbrev S128x1 : Shape := ⟨2, ![128, 1]⟩
abbrev S128x256 : Shape := ⟨2, ![128, 256]⟩

abbrev nBuf : Space → Nat
  | .hbm => 24
  | .vmem => 7
  | .smem => 0
  | _ => 0

abbrev bufTy : (tb : Table) → Fin (tcTables nBuf tb) → BufTy
  | .hbm, ⟨0, _⟩ => ⟨S8192x12288, .bf16⟩
  | .hbm, ⟨1, _⟩ => ⟨S1x4096, .f32⟩
  | .hbm, ⟨2, _⟩ => ⟨S16x128x128, .f32⟩
  | .hbm, ⟨3, _⟩ => ⟨S16x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S_, .i32⟩
  | .hbm, ⟨17, _⟩ => ⟨S_, .f32⟩
  | .hbm, ⟨18, _⟩ => ⟨S16x128x128, .i1⟩
  | .hbm, ⟨19, _⟩ => ⟨S16x128x128, .f32⟩
  | .hbm, ⟨20, _⟩ => ⟨S16x128x128, .f32⟩
  | .hbm, ⟨21, _⟩ => ⟨S16x128x128, .bf16⟩
  | .hbm, ⟨22, _⟩ => ⟨S128x16, .f32⟩
  | .hbm, ⟨23, _⟩ => ⟨S8192x4096, .bf16⟩
  | .local _ .vmem, ⟨0, _⟩ => ⟨S128x12288, .bf16⟩
  | .local _ .vmem, ⟨1, _⟩ => ⟨S128x12288, .bf16⟩
  | .local _ .vmem, ⟨2, _⟩ => ⟨S1x4096, .f32⟩
  | .local _ .vmem, ⟨3, _⟩ => ⟨S16x128x128, .bf16⟩
  | .local _ .vmem, ⟨4, _⟩ => ⟨S128x16, .f32⟩
  | .local _ .vmem, ⟨5, _⟩ => ⟨S128x4096, .bf16⟩
  | .local _ .vmem, ⟨6, _⟩ => ⟨S128x4096, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S8192x12288 : Shape := ⟨2, ![8192, 12288]⟩
abbrev S1x4096 : Shape := ⟨2, ![1, 4096]⟩
abbrev S16x128x128 : Shape := ⟨3, ![16, 128, 128]⟩
abbrev S16x128 : Shape := ⟨2, ![16, 128]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S64x128x16x256 : Shape := ⟨4, ![64, 128, 16, 256]⟩
abbrev S128x128 : Shape := ⟨2, ![128, 128]⟩
abbrev S1x128x128 : Shape := ⟨3, ![1, 128, 128]⟩
abbrev S16x64x256x128 : Shape := ⟨4, ![16, 64, 256, 128]⟩
abbrev S128x16 : Shape := ⟨2, ![128, 16]⟩
abbrev S1x128x16x1 : Shape := ⟨4, ![1, 128, 16, 1]⟩

abbrev nBuf : Space → Nat
  | .hbm => 94
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S1x4096, .f32⟩
  | .hbm, ⟨2, _⟩ => ⟨S16x128x128, .f32⟩
  | .hbm, ⟨3, _⟩ => ⟨S16x128, .f32⟩
  | .hbm, ⟨4, _⟩ => ⟨S8192x12288, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S64x128x16x256, .f32⟩
  | .hbm, ⟨41, _⟩ => ⟨S_, .i1⟩
  | .hbm, ⟨42, _⟩ => ⟨S128x128, .i1⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .i1⟩
  | .hbm, ⟨50, _⟩ => ⟨S128x128, .i1⟩
  | .hbm, ⟨51, _⟩ => ⟨S128x128, .i1⟩
  | .hbm, ⟨52, _⟩ => ⟨S1x128x128, .i1⟩
  | .hbm, ⟨53, _⟩ => ⟨S_, .i32⟩
  | .hbm, ⟨54, _⟩ => ⟨S_, .f32⟩
  | .hbm, ⟨55, _⟩ => ⟨S16x128x128, .i1⟩
  | .hbm, ⟨56, _⟩ => ⟨S16x128x128, .f32⟩
  | .hbm, ⟨57, _⟩ => ⟨S16x128x128, .f32⟩
  | .hbm, ⟨58, _⟩ => ⟨S16x64x256x128, .f32⟩
  | .hbm, ⟨59, _⟩ => ⟨S64x128x16x256, .f32⟩
  | .hbm, ⟨60, _⟩ => ⟨S128x16, .f32⟩
  | .hbm, ⟨61, _⟩ => ⟨S1x128x16x1, .f32⟩
  | .hbm, ⟨62, _⟩ => ⟨S64x128x16x256, .f32⟩
  | .hbm, ⟨63, _⟩ => ⟨S64x128x16x256, .f32⟩
  | .hbm, ⟨64, _⟩ => ⟨S8192x4096, .f32⟩
  | .hbm, ⟨65, _⟩ => ⟨S8192x4096, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S8192x4096, .f32⟩
  | .hbm, ⟨70, _⟩ => ⟨S_, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S_, .f32⟩
  | .hbm, ⟨75, _⟩ => ⟨S8192x4096, .f32⟩
  | .hbm, ⟨76, _⟩ => ⟨S8192x4096, .f32⟩
  | .hbm, ⟨77, _⟩ => ⟨S_, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S8192x4096, .f32⟩
  | .hbm, ⟨85, _⟩ => ⟨S_, .f32⟩
  | .hbm, ⟨86, _⟩ => ⟨S8192x4096, .f32⟩
  | .hbm, ⟨87, _⟩ => ⟨S8192x4096, .f32⟩
  | .hbm, ⟨88, _⟩ => ⟨S_, .f32⟩
  | .hbm, ⟨89, _⟩ => ⟨S8192x4096, .f32⟩
  | .hbm, ⟨90, _⟩ => ⟨S8192x4096, .f32⟩
  | .hbm, ⟨91, _⟩ => ⟨S8192x4096, .f32⟩
  | .hbm, ⟨92, _⟩ => ⟨S8192x4096, .f32⟩
  | .hbm, ⟨93, _⟩ => ⟨S8192x4096, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_0 : Ref sig .tc := ⟨.hbm, 49, rfl⟩
abbrev main_call0_v5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩

abbrev nD : Nat := 1
abbrev τ : Topo := Topo.v7x

variable {F : FTy → Type} [FloatOps F]
-- ==== Kernel24.lean ====
abbrev S8192x8192 : Shape := ⟨2, ![8192, 8192]⟩
abbrev S8192x4096 : Shape := ⟨2, ![8192, 4096]⟩
abbrev S8192x2048 : Shape := ⟨2, ![8192, 2048]⟩
abbrev S1x128 : Shape := ⟨2, ![1, 128]⟩
abbrev S8192x128 : Shape := ⟨2, ![8192, 128]⟩
abbrev S256x2048 : Shape := ⟨2, ![256, 2048]⟩
abbrev S256x4096 : Shape := ⟨2, ![256, 4096]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 11
  | .vmem => 20
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S8192x2048, .f32⟩
  | .hbm, ⟨4, _⟩ => ⟨S8192x2048, .bf16⟩
  | .hbm, ⟨5, _⟩ => ⟨S1x128, .f32⟩
  | .hbm, ⟨6, _⟩ => ⟨S1x128, .f32⟩
  | .hbm, ⟨7, _⟩ => ⟨S8192x8192, .bf16⟩
  | .hbm, ⟨8, _⟩ => ⟨S1x128, .f32⟩
  | .hbm, ⟨9, _⟩ => ⟨S1x128, .f32⟩
  | .hbm, ⟨10, _⟩ => ⟨S8192x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x128, .f32⟩
  | .local _ .vmem, ⟨13, _⟩ => ⟨S1x128, .f32⟩
  | .local _ .vmem, ⟨14, _⟩ => ⟨S256x8192, .bf16⟩
  | .local _ .vmem, ⟨15, _⟩ => ⟨S256x8192, .bf16⟩
  | .local _ .vmem, ⟨16, _⟩ => ⟨S1x128, .f32⟩
  | .local _ .vmem, ⟨17, _⟩ => ⟨S1x128, .f32⟩
  | .local _ .vmem, ⟨18, _⟩ => ⟨S256x128, .f32⟩
  | .local _ .vmem, ⟨19, _⟩ => ⟨S256x128, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference24Ideal.lean ====
abbrev S8192x8192 : Shape := ⟨2, ![8192, 8192]⟩
abbrev S8192x4096 : Shape := ⟨2, ![8192, 4096]⟩
abbrev S8192x2048 : Shape := ⟨2, ![8192, 2048]⟩
abbrev S1x128 : Shape := ⟨2, ![1, 128]⟩
abbrev S131072x128 : Shape := ⟨2, ![131072, 128]⟩
abbrev S131072x256 : Shape := ⟨2, ![131072, 256]⟩
abbrev S_ : Shape := ⟨0, ![]⟩
abbrev S131072 : Shape := ⟨1, ![131072]⟩
abbrev S131072x1 : Shape := ⟨2, ![131072, 1]⟩
abbrev S128 : Shape := ⟨1, ![128]⟩

abbrev nBuf : Space → Nat
  | .hbm => 113
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S8192x2048, .f32⟩
  | .hbm, ⟨4, _⟩ => ⟨S8192x2048, .bf16⟩
  | .hbm, ⟨5, _⟩ => ⟨S1x128, .f32⟩
  | .hbm, ⟨6, _⟩ => ⟨S1x128, .f32⟩
  | .hbm, ⟨7, _⟩ => ⟨S8192x2048, .bf16⟩
  | .hbm, ⟨8, _⟩ => ⟨S8192x2048, .f32⟩
  | .hbm, ⟨9, _⟩ => ⟨S131072x128, .f32⟩
  | .hbm, ⟨10, _⟩ => ⟨S8192x2048, .bf16⟩
  | .hbm, ⟨11, _⟩ => ⟨S8192x2048, .f32⟩
  | .hbm, ⟨12, _⟩ => ⟨S131072x128, .f32⟩
  | .hbm, ⟨13, _⟩ => ⟨S131072x256, .f32⟩
  | .hbm, ⟨14, _⟩ => ⟨S131072x128, .f32⟩
  | .hbm, ⟨15, _⟩ => ⟨S_, .f32⟩
  | .hbm, ⟨16, _⟩ => ⟨S131072x128, .f32⟩
  | .hbm, ⟨17, _⟩ => ⟨S131072x128, .f32⟩
  | .hbm, ⟨18, _⟩ => ⟨S131072x256, .f32⟩
  | .hbm, ⟨19, _⟩ => ⟨S131072x128, .f32⟩
  | .hbm, ⟨20, _⟩ => ⟨S_, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S_, .f32⟩
  | .hbm, ⟨25, _⟩ => ⟨S131072, .f32⟩
  | .hbm, ⟨26, _⟩ => ⟨S131072x1, .f32⟩
  | .hbm, ⟨27, _⟩ => ⟨S_, .f32⟩
  | .hbm, ⟨28, _⟩ => ⟨S131072x1, .f32⟩
  | .hbm, ⟨29, _⟩ => ⟨S131072x1, .f32⟩
  | .hbm, ⟨30, _⟩ => ⟨S_, .f32⟩
  | .hbm, ⟨31, _⟩ => ⟨S131072x1, .f32⟩
  | .hbm, ⟨32, _⟩ => ⟨S131072x1, .f32⟩
  | .hbm, ⟨33, _⟩ => ⟨S131072x1, .f32⟩
  | .hbm, ⟨34, _⟩ => ⟨S131072x1, .f32⟩
  | .hbm, ⟨35, _⟩ => ⟨S_, .f32⟩
  | .hbm, ⟨36, _⟩ => ⟨S131072x1, .f32⟩
  | .hbm, ⟨37, _⟩ => ⟨S131072x1, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S_, .f32⟩
  | .hbm, ⟨50, _⟩ => ⟨S131072, .f32⟩
  | .hbm, ⟨51, _⟩ => ⟨S131072x1, .f32⟩
  | .hbm, ⟨52, _⟩ => ⟨S131072x128, .f32⟩
  | .hbm, ⟨53, _⟩ => ⟨S131072x128, .f32⟩
  | .hbm, ⟨54, _⟩ => ⟨S131072x1, .f32⟩
  | .hbm, ⟨55, _⟩ => ⟨S_, .f32⟩
  | .hbm, ⟨56, _⟩ => ⟨S131072x1, .f32⟩
  | .hbm, ⟨57, _⟩ => ⟨S131072x1, .f32⟩
  | .hbm, ⟨58, _⟩ => ⟨S_, .f32⟩
  | .hbm, ⟨59, _⟩ => ⟨S131072, .f32⟩
  | .hbm, ⟨60, _⟩ => ⟨S131072x128, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S_, .f32⟩
  | .hbm, ⟨67, _⟩ => ⟨S131072, .f32⟩
  | .hbm, ⟨68, _⟩ => ⟨S131072x1, .f32⟩
  | .hbm, ⟨69, _⟩ => ⟨S_, .f32⟩
  | .hbm, ⟨70, _⟩ => ⟨S131072x1, .f32⟩
  | .hbm, ⟨71, _⟩ => ⟨S131072x1, .f32⟩
  | .hbm, ⟨72, _⟩ => ⟨S_, .f32⟩
  | .hbm, ⟨73, _⟩ => ⟨S131072x1, .f32⟩
  | .hbm, ⟨74, _⟩ => ⟨S131072x1, .f32⟩
  | .hbm, ⟨75, _⟩ => ⟨S131072x1, .f32⟩
  | .hbm, ⟨76, _⟩ => ⟨S131072x1, .f32⟩
  | .hbm, ⟨77, _⟩ => ⟨S_, .f32⟩
  | .hbm, ⟨78, _⟩ => ⟨S131072x1, .f32⟩
  | .hbm, ⟨79, _⟩ => ⟨S131072x1, .f32⟩
  | .hbm, ⟨80, _⟩ => ⟨S131072x128, .f32⟩
  | .hbm, ⟨81, _⟩ => ⟨S131072x128, .f32⟩
  | .hbm, ⟨82, _⟩ => ⟨S131072x128, .f32⟩
  | .hbm, ⟨83, _⟩ => ⟨S131072x128, .f32⟩
  | .hbm, ⟨84, _⟩ => ⟨S131072x128, .f32⟩
  | .hbm, ⟨85, _⟩ => ⟨S_, .f32⟩
  | .hbm, ⟨86, _⟩ => ⟨S128, .f32⟩
  | .hbm, ⟨87, _⟩ => ⟨S1x128, .f32⟩
  | .hbm, ⟨88, _⟩ => ⟨S131072x128, .f32⟩
  | .hbm, ⟨89, _⟩ => ⟨S131072x128, .f32⟩
  | .hbm, ⟨90, _⟩ => ⟨S131072x128, .f32⟩
  | .hbm, ⟨91, _⟩ => ⟨S_, .f32⟩
  | .hbm, ⟨92, _⟩ => ⟨S131072, .f32⟩
  | .hbm, ⟨93, _⟩ => ⟨S131072x1, .f32⟩
  | .hbm, ⟨94, _⟩ => ⟨S131072x128, .f32⟩
  | .hbm, ⟨95, _⟩ => ⟨S131072x128, .f32⟩
  | .hbm, ⟨96, _⟩ => ⟨S131072x1, .f32⟩
  | .hbm, ⟨97, _⟩ => ⟨S_, .f32⟩
  | .hbm, ⟨98, _⟩ => ⟨S131072x1, .f32⟩
  | .hbm, ⟨99, _⟩ => ⟨S131072x1, .f32⟩
  | .hbm, ⟨100, _⟩ => ⟨S_, .f32⟩
  | .hbm, ⟨101, _⟩ => ⟨S131072, .f32⟩
  | .hbm, ⟨102, _⟩ => ⟨S131072x128, .f32⟩
  | .hbm, ⟨103, _⟩ => ⟨S131072x128, .f32⟩
  | .hbm, ⟨104, _⟩ => ⟨S131072x128, .f32⟩
  | .hbm, ⟨105, _⟩ => ⟨S131072x128, .f32⟩
  | .hbm, ⟨106, _⟩ => ⟨S131072x128, .f32⟩
  | .hbm, ⟨107, _⟩ => ⟨S8192x2048, .f32⟩
  | .hbm, ⟨108, _⟩ => ⟨S8192x2048, .bf16⟩
  | .hbm, ⟨109, _⟩ => ⟨S8192x2048, .f32⟩
  | .hbm, ⟨110, _⟩ => ⟨S8192x2048, .bf16⟩
  | .hbm, ⟨111, _⟩ => ⟨S8192x2048, .bf16⟩
  | .hbm, ⟨112, _⟩ => ⟨S8192x8192, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== Proof.Body.lean ====
/-
  The kernel's body at one grid point, on whole staging buffers. `sv` is the state before a trip of the body's loop over
  the query tiles: the two sums the loop carries and the dq block. `body_wp` states that the body leaves the four inputs
  as they were and the three results at that state after the last trip.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.VecWindow
public import Idealize.ShloMosaic.Lib.LoopRemainder

@[expose] public section

set_option maxRecDepth 16384

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

abbrev 𝒱₀ : Variants := Variants.none

/-- The kernel's condition for clearing the dq block: its second grid coordinate is zero. -/
abbrev clears (i : grid0.Coords) : Prop :=
  Scalar.cmpi .ne (Scalar.extui (Scalar.cmpi .eq (BitVec.ofNat 32 (i 1).val) 0#32) : BitVec 32) 0#32 = 1#1

/-- The first query tile a key block meets, as the kernel computes it. -/
abbrev firstWord (i : grid0.Coords) : BitVec 32 :=
  let v7 : BitVec 32 := Scalar.muli (BitVec.ofNat 32 (i 1).val) 512#32
  Scalar.select (Scalar.andi (Scalar.cmpi .ne (Scalar.subi (Scalar.extui (Scalar.cmpi .sgt v7 0#32) : BitVec 32) (Scalar.extui (Scalar.cmpi .slt v7 0#32)))
      (Scalar.subi (Scalar.extui (Scalar.cmpi .sgt 1024#32 0#32)) (Scalar.extui (Scalar.cmpi .slt 1024#32 0#32)))) (Scalar.cmpi .ne (Scalar.remsi v7 1024#32) 0#32))
    (Scalar.subi (Scalar.divsi v7 1024#32) 1#32) (Scalar.divsi v7 1024#32)

theorem off1_eq (i : grid0.Coords) : k0_off1 i = ![(i 1).val / 2 * 1024, 0] :=
  (by decide +kernel : ∀ j : Fin 16, (let v7 : BitVec 32 := Scalar.muli (BitVec.ofNat 32 j.val) 512#32
    ![(Scalar.indexCast (Scalar.muli (Scalar.select (Scalar.andi (Scalar.cmpi .ne (Scalar.subi (Scalar.extui (Scalar.cmpi .sgt v7 0#32) : BitVec 32) (Scalar.extui (Scalar.cmpi .slt v7 0#32)))
      (Scalar.subi (Scalar.extui (Scalar.cmpi .sgt 1024#32 0#32)) (Scalar.extui (Scalar.cmpi .slt 1024#32 0#32)))) (Scalar.cmpi .ne (Scalar.remsi v7 1024#32) 0#32))
    (Scalar.subi (Scalar.divsi v7 1024#32) 1#32) (Scalar.divsi v7 1024#32)) 1024#32) : BitVec 32).toNat, 0] : Fin 2 → ℕ) = ![j.val / 2 * 1024, 0]) (i 1)

instance (i : grid0.Coords) : ClosedOff (k0_off1 i) := ⟨![(i 1).val / 2 * 1024, 0], off1_eq i⟩

variable (c : Dev nD) (i : grid0.Coords)
  (M0 : Memref sig .tc .vmem S8192x256 .bf16) (h0 : M0.IsWhole) (M1 : Memref sig .tc .vmem S8192x256 .bf16) (h1 : M1.IsWhole)
  (M2 : Memref sig .tc .vmem S512x256 .bf16) (h2 : M2.IsWhole) (M3 : Memref sig .tc .vmem S512x256 .bf16) (h3 : M3.IsWhole)
  (M4 : Memref sig .tc .vmem S8192x256 .f32) (h4 : M4.IsWhole) (M5 : Memref sig .tc .vmem S512x256 .f32) (h5 : M5.IsWhole)
  (M6 : Memref sig .tc .vmem S512x128 .f32) (h6 : M6.IsWhole)

section Trip
variable (v4 v6 : FVec F S512x256 .bf16) (X0 : M0.view.ty.Contents (Elt F)) (X1 : M1.view.ty.Contents (Elt F))
  (k : Fin (k0_t1_loop i).trips) (acc : FVec F S512x256 .f32 × FVec F S512x128 .f32) (f : M4.view.ty.Contents (Elt F))

theorem tripR_eq : tripR_k0_t1 (F := F) 𝒱₀ c none i M0 h0 M1 h1 M2 h2 M3 h3 M4 h4 M5 h5 M6 h6 v4 v6 X0 X1 k acc f
    = (k0_pay11 v4 v6 acc.1 (VecWindow.window (M0.view.read (Elt F) X0) (k0_off2 i k) S1024x256.size (k0_off2_inb i k)) (VecWindow.window (M1.view.read (Elt F) X1) (k0_off2 i k) S1024x256.size (k0_off2_inb i k)),
       k0_pay10 v4 acc.2 (VecWindow.window (M0.view.read (Elt F) X0) (k0_off2 i k) S1024x256.size (k0_off2_inb i k)) (VecWindow.window (M1.view.read (Elt F) X1) (k0_off2 i k) S1024x256.size (k0_off2_inb i k))) := by
  unfold tripR_k0_t1 trip_k0_t1
  rfl

theorem tripL_eq : tripL_k0_t1 (F := F) 𝒱₀ c none i M0 h0 M1 h1 M2 h2 M3 h3 M4 h4 M5 h5 M6 h6 v4 v6 X0 X1 k acc f
    = [⟨Rect.unit (s := S8192x256) (k0_off2 i k) S1024x256.size (k0_off2_inb i k),
        k0_pay12 v4 v6 (VecWindow.window (M0.view.read (Elt F) X0) (k0_off2 i k) S1024x256.size (k0_off2_inb i k)) (VecWindow.window (M1.view.read (Elt F) X1) (k0_off2 i k) S1024x256.size (k0_off2_inb i k))
          (VecWindow.window (M4.view.read (Elt F) f) (k0_off2 i k) S1024x256.size (k0_off2_inb i k))⟩] := by
  unfold tripL_k0_t1 trip_k0_t1
  rfl
end Trip

/-! ## The body as a function of its blocks -/

/-- Window `w` of a `q`-side block at the rows of the first query tile. -/
abbrev win1 {e : EltTy} (i : grid0.Coords) (x : Vec F S8192x256 e) : Vec F S1024x256 e :=
  VecWindow.window x (k0_off1 i) S1024x256.size (k0_off1_inb i)
/-- The same at the rows of loop trip `k`. -/
abbrev win2 {e : EltTy} (i : grid0.Coords) (k : Fin (k0_t1_loop i).trips) (x : Vec F S8192x256 e) : Vec F S1024x256 e :=
  VecWindow.window x (k0_off2 i k) S1024x256.size (k0_off2_inb i k)

/-- What the loop starts from: the two sums after the first (masked) query tile. -/
def sums0 (i : grid0.Coords) (x0 x1 : Vec F S8192x256 .bf16) (x2 x3 : Vec F S512x256 .bf16) : FVec F S512x256 .f32 × FVec F S512x128 .f32 :=
  (k0_pay4 (BitVec.ofNat 32 (i 1).val) (k0_pay22 x3) (firstWord i) k0_pay23 (k0_pay25 (win1 i x0)) (k0_pay26 (win1 i x1)) (k0_pay27 x2 (win1 i x0)) 512#32,
   k0_pay3 (BitVec.ofNat 32 (i 1).val) (firstWord i) k0_pay24 (k0_pay26 (win1 i x1)) (k0_pay27 x2 (win1 i x0)) 512#32)

/-- The dq block after the first query tile, from the block `X` before it. -/
def dq0 (i : grid0.Coords) (x0 x1 : Vec F S8192x256 .bf16) (x2 x3 : Vec F S512x256 .bf16) (X : Vec F S8192x256 .f32) : Vec F S8192x256 .f32 :=
  VecWindow.put X (k0_off1 i) S1024x256.size
    (k0_pay5 (BitVec.ofNat 32 (i 1).val) (k0_pay21 x2) (k0_pay22 x3) (firstWord i) (k0_pay26 (win1 i x1)) (k0_pay27 x2 (win1 i x0)) 512#32 (win1 i X))

/-- The state before trip `k` of the loop over the later query tiles: the two sums and the dq block. -/
def sv (i : grid0.Coords) (v4 v6 : FVec F S512x256 .bf16) (x0 x1 : Vec F S8192x256 .bf16) (init : FVec F S512x256 .f32 × FVec F S512x128 .f32) (X : Vec F S8192x256 .f32) :
    ℕ → (FVec F S512x256 .f32 × FVec F S512x128 .f32) × Vec F S8192x256 .f32
  | 0 => (init, X)
  | k + 1 =>
    let p := sv i v4 v6 x0 x1 init X k
    if h : k < (k0_t1_loop i).trips then
      ((k0_pay11 v4 v6 p.1.1 (win2 i ⟨k, h⟩ x0) (win2 i ⟨k, h⟩ x1), k0_pay10 v4 p.1.2 (win2 i ⟨k, h⟩ x0) (win2 i ⟨k, h⟩ x1)),
       VecWindow.put p.2 (k0_off2 i ⟨k, h⟩) S1024x256.size (k0_pay12 v4 v6 (win2 i ⟨k, h⟩ x0) (win2 i ⟨k, h⟩ x1) (win2 i ⟨k, h⟩ p.2)))
    else p

/-- The three results the body leaves, from the inputs' blocks and the dq block `X` it accumulates onto. -/
def bodyOut (i : grid0.Coords) (x0 x1 : Vec F S8192x256 .bf16) (x2 x3 : Vec F S512x256 .bf16) (X : Vec F S8192x256 .f32) :
    (FVec F S512x256 .f32 × FVec F S512x128 .f32) × Vec F S8192x256 .f32 :=
  sv i (k0_pay21 x2) (k0_pay22 x3) x0 x1 (sums0 i x0 x1 x2 x3) (dq0 i x0 x1 x2 x3 X) (k0_t1_loop i).trips

/-- The loop's state, as the run lists it (the sums and the pieces written over the block), read as values. -/
theorem st_eq (v4 v6 : FVec F S512x256 .bf16) (X0 : M0.view.ty.Contents (Elt F)) (X1 : M1.view.ty.Contents (Elt F))
    (G : M4.view.ty.Contents (Elt F)) (init : FVec F S512x256 .f32 × FVec F S512x128 .f32) (k : ℕ) (hk : k ≤ (k0_t1_loop i).trips) :
    (st_k0_t1 (F := F) 𝒱₀ c none i M0 h0 M1 h1 M2 h2 M3 h3 M4 h4 M5 h5 M6 h6 v4 v6 X0 X1 G init k).1
        = (sv i v4 v6 (M0.view.read (Elt F) X0) (M1.view.read (Elt F) X1) init (M4.view.read (Elt F) G) k).1
      ∧ M4.view.read (Elt F) (M4.view.writes (Elt F) G (st_k0_t1 (F := F) 𝒱₀ c none i M0 h0 M1 h1 M2 h2 M3 h3 M4 h4 M5 h5 M6 h6 v4 v6 X0 X1 G init k).2)
        = (sv i v4 v6 (M0.view.read (Elt F) X0) (M1.view.read (Elt F) X1) init (M4.view.read (Elt F) G) k).2 := by
  induction k with
  | zero => exact ⟨rfl, rfl⟩
  | succ k ih =>
    obtain ⟨ih1, ih2⟩ := ih (by omega)
    have hk' : k < (k0_t1_loop i).trips := by omega
    have hs := st_k0_t1_succ (F := F) 𝒱₀ c none i M0 h0 M1 h1 M2 h2 M3 h3 M4 h4 M5 h5 M6 h6 v4 v6 X0 X1 G init ⟨k, hk'⟩
    rw [tripR_eq, tripL_eq] at hs
    rw [show k + 1 = (⟨k, hk'⟩ : Fin (k0_t1_loop i).trips).val + 1 from rfl, hs]
    simp only [sv, dif_pos hk']
    refine ⟨?_, ?_⟩
    · rw [ih1]
    · rw [List.singleton_append, View.read_writes_cons_put (Val := Elt F) _ _ _ _ _ rfl, ih2]

/-- The loop from the sums and the dq block the first query tile leaves: it ends at `bodyOut`. -/
theorem loop_out (f0 : M0.view.ty.Contents (Elt F)) (f1 : M1.view.ty.Contents (Elt F)) (x2 x3 : Vec F S512x256 .bf16) (X : Vec F S8192x256 .f32)
    (G : M4.view.ty.Contents (Elt F)) (hG : M4.view.read (Elt F) G = dq0 i (M0.view.read (Elt F) f0) (M1.view.read (Elt F) f1) x2 x3 X)
    (init : FVec F S512x256 .f32 × FVec F S512x128 .f32) (hi : init = sums0 i (M0.view.read (Elt F) f0) (M1.view.read (Elt F) f1) x2 x3)
    (v4 v6 : FVec F S512x256 .bf16) (h4' : v4 = k0_pay21 x2) (h6' : v6 = k0_pay22 x3) :
    (st_k0_t1 (F := F) 𝒱₀ c none i M0 h0 M1 h1 M2 h2 M3 h3 M4 h4 M5 h5 M6 h6 v4 v6 f0 f1 G init (Scf.trips (k0_t1_loop i).lb (k0_t1_loop i).ub (k0_t1_loop i).st)).1
        = (bodyOut i (M0.view.read (Elt F) f0) (M1.view.read (Elt F) f1) x2 x3 X).1
      ∧ M4.view.read (Elt F) (M4.view.writes (Elt F) G (st_k0_t1 (F := F) 𝒱₀ c none i M0 h0 M1 h1 M2 h2 M3 h3 M4 h4 M5 h5 M6 h6 v4 v6 f0 f1 G init (Scf.trips (k0_t1_loop i).lb (k0_t1_loop i).ub (k0_t1_loop i).st)).2)
        = (bodyOut i (M0.view.read (Elt F) f0) (M1.view.read (Elt F) f1) x2 x3 X).2 := by
  subst hi h4' h6'
  unfold bodyOut
  rw [← hG]
  exact st_eq c i M0 h0 M1 h1 M2 h2 M3 h3 M4 h4 M5 h5 M6 h6 _ _ f0 f1 G _ _ le_rfl

set_option maxHeartbeats 800000 in
/-- The body at a point, on whole staging buffers holding the blocks `x0 … x3` and, for dq, `x4`: it leaves the inputs as they
    were and the results at `bodyOut`, over zeros where it clears the dq block first, over `x4` where it does not. -/
theorem body_wp (x0 x1 : Vec F S8192x256 .bf16) (x2 x3 : Vec F S512x256 .bf16) (x4 X : Vec F S8192x256 .f32)
    (hX : clears i ∧ X = k0_pay20 ∨ ¬ clears i ∧ X = x4) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare x4 ∗ (∃ d, owns (c : Thread nD τ) M5 fullShare d) ∗ (∃ d, owns (c : Thread nD τ) M6 fullShare d)
        ∗ (iprop(owns (c : Thread nD τ) M0 fullShare x0 ∗ owns (c : Thread nD τ) M1 fullShare x1 ∗ owns (c : Thread nD τ) M2 fullShare x2 ∗ owns (c : Thread nD τ) M3 fullShare x3
            ∗ owns (c : Thread nD τ) M4 fullShare (bodyOut i x0 x1 x2 x3 X).2 ∗ owns (c : Thread nD τ) M5 fullShare (bodyOut i x0 x1 x2 x3 X).1.1
            ∗ owns (c : Thread nD τ) M6 fullShare (bodyOut i x0 x1 x2 x3 X).1.2) -∗ K ⟨⟩))
      ⊢ wp frame (wpE (defs₀ (F := F)) 𝒱₀ c none) E (cc0_b1_dattn i M0 h0 M1 h1 M2 h2 M3 h3 M4 h4 M5 h5 M6 h6) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := hf0; obtain rfl := hf1; obtain rfl := hf2; obtain rfl := hf3; obtain rfl := hf4
  have e0 : M0.view.readAt (Elt F) (Rect.unit (s := S8192x256) (k0_off1 i) S1024x256.size (k0_off1_inb i)).toLoadRect f0 = win1 i (M0.view.read (Elt F) f0) := rfl
  have e1 : M1.view.readAt (Elt F) (Rect.unit (s := S8192x256) (k0_off1 i) S1024x256.size (k0_off1_inb i)).toLoadRect f1 = win1 i (M1.view.read (Elt F) f1) := rfl
  have e4 : ∀ f : M4.view.ty.Contents (Elt F), M4.view.readAt (Elt F) (Rect.unit (s := S8192x256) (k0_off1 i) S1024x256.size (k0_off1_inb i)).toLoadRect f = win1 i (M4.view.read (Elt F) f) := fun _ => rfl
  have e2 : M2.view.readAt (Elt F) (Rect.unit (s := S512x256) ![0, 0] S512x256.size inb_S512x256_S512x256_0_0).toLoadRect f2 = M2.view.read (Elt F) f2 :=
    View.readAt_full _ _ _
  have e3 : M3.view.readAt (Elt F) (Rect.unit (s := S512x256) ![0, 0] S512x256.size inb_S512x256_S512x256_0_0).toLoadRect f3 = M3.view.read (Elt F) f3 :=
    View.readAt_full _ _ _
  rcases hX with ⟨hc, rfl⟩ | ⟨hc, rfl⟩
  · sl_unfold [cc0_b1_dattn]
    sl_open_parts
    sl_exec!
    sl_step
    iapply Hk
    isplitl [H0]; · iexists _; isplitr; swap; (iexact H0); ipureintro; rfl
    isplitl [H1]; · iexists _; isplitr; swap; (iexact H1); ipureintro; rfl
    isplitl [H2]; · iexists _; isplitr; swap; (iexact H2); ipureintro; rfl
    isplitl [H3]; · iexists _; isplitr; swap; (iexact H3); ipureintro; rfl
    isplitl [H4]
    · iexists _; isplitr; swap; (iexact H4)
      ipureintro
      sl_unfold_run_names
      try rw [e0, e1, e2, e3, e4]
      rw [View.writes_append]
      refine (loop_out c i M0 h0 M1 h1 M2 h2 M3 h3 M4 h4 M5 h5 M6 h6 f0 f1 _ _ _ _ ?_ _ ?_ _ _ ?_ ?_).2
      · rw [View.read_writes_cons_put (Val := Elt F) _ _ _ _ _ rfl]
        repeat rw [View.read_writes_full (Val := Elt F)]
        rfl
      all_goals rfl
    isplitl [H5]
    · iexists _; isplitr; swap; (iexact H5)
      ipureintro
      sl_unfold_run_names
      try rw [e0, e1, e2, e3, e4]
      refine (View.read_writes_full (Val := Elt F) _ _ _ _ _).trans ?_
      refine congrArg Prod.fst (loop_out c i M0 h0 M1 h1 M2 h2 M3 h3 M4 h4 M5 h5 M6 h6 f0 f1 _ _ _ _ ?_ _ ?_ _ _ ?_ ?_).1
      · rw [View.read_writes_cons_put (Val := Elt F) _ _ _ _ _ rfl]
        repeat rw [View.read_writes_full (Val := Elt F)]
        rfl
      all_goals rfl
    · iexists _; isplitr; swap; (iexact H6)
      ipureintro
      sl_unfold_run_names
      try rw [e0, e1, e2, e3, e4]
      refine (View.read_writes_full (Val := Elt F) _ _ _ _ _).trans ?_
      refine congrArg Prod.snd (loop_out c i M0 h0 M1 h1 M2 h2 M3 h3 M4 h4 M5 h5 M6 h6 f0 f1 _ _ _ _ ?_ _ ?_ _ _ ?_ ?_).1
      · rw [View.read_writes_cons_put (Val := Elt F) _ _ _ _ _ rfl]
        repeat rw [View.read_writes_full (Val := Elt F)]
        rfl
      all_goals rfl
  · sl_unfold [cc0_b1_dattn]
    sl_open_parts
    sl_exec!
    sl_step
    iapply Hk
    isplitl [H0]; · iexists _; isplitr; swap; (iexact H0); ipureintro; rfl
    isplitl [H1]; · iexists _; isplitr; swap; (iexact H1); ipureintro; rfl
    isplitl [H2]; · iexists _; isplitr; swap; (iexact H2); ipureintro; rfl
    isplitl [H3]; · iexists _; isplitr; swap; (iexact H3); ipureintro; rfl
    isplitl [H4]
    · iexists _; isplitr; swap; (iexact H4)
      ipureintro
      sl_unfold_run_names
      try rw [e0, e1, e2, e3, e4]
      rw [View.writes_append]
      refine (loop_out c i M0 h0 M1 h1 M2 h2 M3 h3 M4 h4 M5 h5 M6 h6 f0 f1 _ _ _ _ ?_ _ ?_ _ _ ?_ ?_).2
      · rw [View.read_writes_cons_put (Val := Elt F) _ _ _ _ _ rfl]; rfl
      all_goals rfl
    isplitl [H5]
    · iexists _; isplitr; swap; (iexact H5)
      ipureintro
      sl_unfold_run_names
      try rw [e0, e1, e2, e3, e4]
      refine (View.read_writes_full (Val := Elt F) _ _ _ _ _).trans ?_
      refine congrArg Prod.fst (loop_out c i M0 h0 M1 h1 M2 h2 M3 h3 M4 h4 M5 h5 M6 h6 f0 f1 _ _ _ _ ?_ _ ?_ _ _ ?_ ?_).1
      · rw [View.read_writes_cons_put (Val := Elt F) _ _ _ _ _ rfl]; rfl
      all_goals rfl
    · iexists _; isplitr; swap; (iexact H6)
      ipureintro
      sl_unfold_run_names
      try rw [e0, e1, e2, e3, e4]
      refine (View.read_writes_full (Val := Elt F) _ _ _ _ _).trans ?_
      refine congrArg Prod.snd (loop_out c i M0 h0 M1 h1 M2 h2 M3 h3 M4 h4 M5 h5 M6 h6 f0 f1 _ _ _ _ ?_ _ ?_ _ _ ?_ ?_).1
      · rw [View.read_writes_cons_put (Val := Elt F) _ _ _ _ _ rfl]; rfl
      all_goals rfl

end Cert.Proof.Attn

end
-- ==== Proof.Run.lean ====
/-
  The kernel's run: what each grid point leaves in its three result blocks, and that the whole launch ends with the arrays
  at those contents and with every semaphore counter at zero. The dq block is kept over the sixteen points of a head and
  written out after the last of them.
-/
module

public import proofs.«01_k».proof.Proof.Body
public import proofs.«01_k».proof.Proof.Gen.KernelIdeal.Points

@[expose] public section

set_option maxRecDepth 16384

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

variable (m : (ℓ : Loc nD τ sig) → Buf (Elt F) ℓ) (ρ : Dev nD → PrngReg)

/-- The kernel clears the dq block exactly at a head's first point. -/
theorem clears_iff : ∀ t : Fin grid0.N, clears (grid0.coords t) ↔ t.val % 16 = 0 := by decide +kernel

/-! ## The blocks at a point -/

/-- The head's query rows, widened by the bias lanes. -/
abbrev qB (c : Dev nD) (t : Fin cfg0.N) : Vec F S8192x256 .bf16 := iblk m c 0 t
/-- The head's rows of the output's cotangent, widened. -/
abbrev oB (c : Dev nD) (t : Fin cfg0.N) : Vec F S8192x256 .bf16 := iblk m c 1 t
/-- The point's key rows, widened. -/
abbrev kB (c : Dev nD) (t : Fin cfg0.N) : Vec F S512x256 .bf16 := iblk m c 2 t
/-- The point's value rows, widened. -/
abbrev vB (c : Dev nD) (t : Fin cfg0.N) : Vec F S512x256 .bf16 := iblk m c 3 t

/-- What point `t` leaves, from the dq block `X` it accumulates onto. -/
abbrev outFrom (c : Dev nD) (t : Fin cfg0.N) (X : Vec F S8192x256 .f32) : (FVec F S512x256 .f32 × FVec F S512x128 .f32) × Vec F S8192x256 .f32 :=
  bodyOut (grid0.coords t) (qB m c t) (oB m c t) (kB m c t) (vB m c t) X

/-- The dq block after point `n`: over zeros at a head's first point, over the block of the point before otherwise. -/
def dqAt (c : Dev nD) : (n : ℕ) → n < cfg0.N → Vec F S8192x256 .f32
  | 0, h => (outFrom m c ⟨0, h⟩ k0_pay20).2
  | n + 1, h => (outFrom m c ⟨n + 1, h⟩ (if (n + 1) % 16 = 0 then k0_pay20 else dqAt c n (Nat.lt_of_succ_lt h))).2

/-- The dq block point `t` accumulates onto. -/
def dqBase (c : Dev nD) (t : Fin cfg0.N) : Vec F S8192x256 .f32 :=
  if t.val % 16 = 0 then k0_pay20 else dqAt m c (t.val - 1) (Nat.lt_of_le_of_lt (Nat.sub_le _ _) t.isLt)

theorem dqAt_eq (c : Dev nD) (t : Fin cfg0.N) : dqAt m c t.val t.isLt = (outFrom m c t (dqBase m c t)).2 := by
  obtain ⟨n, h⟩ := t
  cases n with
  | zero => rfl
  | succ n => rfl

/-! ## The pipeline's proof data -/

/-- The arrays as the launch finds them; after a point the four inputs at their blocks and the results at what the body
    leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t.val t.isLt
    | ⟨5, _⟩ => (outFrom m c t (dqBase m c t)).1.1
    | ⟨6, _⟩ => (outFrom m c t (dqBase m c t)).1.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outFrom m c t (dqBase m c t)).2 := by
  rw [← dqAt_eq]; dsimp only [dats]
theorem after0_5 (c : Dev nD) (t : Fin cfg0.N) : (dats m 0 c).after 5 t = (outFrom m c t (dqBase m c t)).1.1 := by dsimp only [dats]
theorem after0_6 (c : Dev nD) (t : Fin cfg0.N) : (dats m 0 c).after 6 t = (outFrom m c t (dqBase m c t)).1.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body finds in the dq block and what it then accumulates onto: anything and zeros at a head's first point,
    the block of the point before otherwise. -/
theorem before0_4 (c : Dev nD) (t : Fin cfg0.N) (d) :
    clears (grid0.coords t) ∧ dqBase m c t = k0_pay20
      ∨ ¬ clears (grid0.coords t) ∧ dqBase m c t = (dats m 0 c).before 4 t d := by
  by_cases h : t.val % 16 = 0
  · exact .inl ⟨(clears_iff t).mpr h, if_pos h⟩
  · refine .inr ⟨fun hc => h ((clears_iff t).mp hc), ?_⟩
    have h0 : t.val ≠ 0 := fun h0 => h (by rw [h0])
    have hf : (cfg0.win 4).flush ⟨t.val - 1, Nat.lt_of_le_of_lt (Nat.sub_le _ _) t.isLt⟩ = false := by
      rw [Bool.eq_false_iff]
      intro hf
      have := (flush0_4 _).mp hf
      dsimp only at this
      omega
    rw [(dats m 0 c).before_out_kept 4 rfl t h0 hf (fun _ => rfl) (fun _ _ => rfl) d]
    rw [dqBase, if_neg h]
    dsimp only [dats]

/-! ## The body obligation -/

/-- At every point the body, given its windows' staging buffers, leaves them as the proof data say. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_wp c (grid0.coords t) _ _ _ _ _ _ _ _ _ _ _ _ _ _ (qB m c t) (oB m c t) (kB m c t) (vB m c t) _ (dqBase m c t) (before0_4 m c t d4) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The run -/

-- the launch's implicit arguments are found by unifying its conclusion with this one
set_option backward.isDefEq.respectTransparency.types false in
/-- From any memory with zero counters every weakly fair execution of @main terminates, with the launch's arrays at what
    the proof data give, the host's later lines applied to them, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose)
    (hshare := fun c => (dats m 0 c).share_full fun _ => rfl)
    (howed := fun _ _ => rfl)
    (V₀ := V0 m) (opss := [hostOps1])
    (hsub := sfx_sub) (hfresh := sfx_fresh) (hkeep := sfx_keeps)
    (hmain := hmain m 𝒱₀) (hA := fun _ _ => rfl) (hΦ := fun _ _ => rfl) (hQ' := fun _ h => h)

/-- The arguments keep their contents through the run and every counter ends at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_with_sems (frame_of m ρ (dats m) fun _ _ => rfl) (run_main m ρ)

end Cert.Proof.Attn

end
-- ==== Proof.SameText.lean ====
/-
  The kernel and its idealization are one text: their tables of bodies and their @main are equal, window by window.
-/
module

public import proofs.«01_k».proof.Proof.Gen.Kernel
public import proofs.«01_k».proof.Proof.Gen.KernelIdeal
public import Idealize.ShloMosaic.PureOps.BitExact

@[expose] public section

set_option maxRecDepth 65536

noncomputable section

namespace Cert.Proof.SameText

open Idealize.ShloMosaic Idealize.SL.Sem

set_option maxHeartbeats 4000000 in
/-- The tables of bodies are equal. -/
theorem bodies_eq : Cert.Kernel.defs₀ (F := Bits) = Cert.KernelIdeal.defs₀ (F := Bits) :=
  congrArg Defs.onTc (funext fun l => funext fun x => match l, x with
    | 0, (t, s) => rfl
    | ⟨_ + 1, h⟩, _ => absurd h (Nat.not_lt.2 (Nat.le_add_left _ _)))

set_option maxHeartbeats 4000000 in
/-- The tables with the launch are equal. -/
theorem defs_eq : Cert.Kernel.defs (F := Bits) = Cert.KernelIdeal.defs (F := Bits) := congrArg (Pipeline.defs _) bodies_eq

set_option maxHeartbeats 40000000 in
/-- Window 0 of @main is the same in both. -/
theorem part0_eq : Cert.Kernel.main_part0 (F := Bits) = Cert.KernelIdeal.main_part0 (F := Bits) := rfl

set_option maxHeartbeats 40000000 in
/-- Window 1 of @main is the same in both. -/
theorem part1_eq : Cert.Kernel.main_part1 (F := Bits) = Cert.KernelIdeal.main_part1 (F := Bits) := rfl

set_option maxHeartbeats 40000000 in
/-- Window 2 of @main is the same in both. -/
theorem part2_eq : Cert.Kernel.main_part2 (F := Bits) = Cert.KernelIdeal.main_part2 (F := Bits) := rfl

set_option maxHeartbeats 40000000 in
/-- Window 3 of @main is the same in both. -/
theorem part3_eq : Cert.Kernel.main_part3 (F := Bits) = Cert.KernelIdeal.main_part3 (F := Bits) := rfl

set_option maxHeartbeats 40000000 in
/-- Window 4 of @main is the same in both. -/
theorem part4_eq : Cert.Kernel.main_part4 (F := Bits) = Cert.KernelIdeal.main_part4 (F := Bits) := rfl

set_option maxHeartbeats 4000000 in
/-- @main is the same in both. -/
theorem main_eq (c : Dev Cert.Kernel.nD) : Cert.Kernel.main (F := Bits) c = Cert.KernelIdeal.main (F := Bits) c := by
  show (Cert.Kernel.main_part0 (F := Bits) c >>= fun _ => Cert.Kernel.main_part1 (F := Bits) c >>= fun _ => Cert.Kernel.main_part2 (F := Bits) c >>= fun _ => Cert.Kernel.main_part3 (F := Bits) c >>= fun _ => Cert.Kernel.main_part4 (F := Bits) c) = _
  rw [part0_eq, part1_eq, part2_eq, part3_eq, part4_eq]
  rfl

end Cert.Proof.SameText

end
-- ==== Proof.Reals.lean ====
/-
  Causal softmax attention with a decay bias, and the gradient of its inputs, over the real numbers: the functions that both
  programs compute, and the identities between the two ways of writing them.
-/
module

public import Idealize.ShloMosaic.PureOps.Ideal.Laws
public import Idealize.ShloMosaic.Lib.ValueIdx

@[expose] public section

noncomputable section

namespace Cert.Proof.Attn

open Idealize.ShloMosaic
open scoped BigOperators

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The scale `1/√128` as the single-precision number nearest to it. -/
def sc : ℝ := 11863283 / 134217728

theorem sc_bits : (FloatOps.ofBits (F := Ideal) .f32 0x3DB504F3#32 : EReal) = (sc : EReal) := by
  simp [Ideal.ofBits, Ideal.ieee, sc]
  rw [← EReal.coe_mul]
  exact congrArg Real.toEReal (by norm_num : (11863283 : ℝ) * (2 ^ 27)⁻¹ = 11863283 / 134217728)

theorem one_bits : (FloatOps.ofBits (F := Ideal) .f32 0x3F800000#32 : EReal) = ((1 : ℝ) : EReal) := by
  simp [Ideal.ofBits, Ideal.ieee]
  rw [← EReal.coe_mul]
  exact congrArg Real.toEReal (by norm_num : (8388608 : ℝ) * (2 ^ 23)⁻¹ = 1)

theorem two_bits : (FloatOps.ofBits (F := Ideal) .f32 0x40000000#32 : EReal) = ((2 : ℝ) : EReal) := by
  simp [Ideal.ofBits, Ideal.ieee]
  rw [← EReal.coe_mul]
  exact congrArg Real.toEReal (by norm_num : (8388608 : ℝ) * (2 ^ 22)⁻¹ = 2)

theorem neg_one_bits : (FloatOps.ofBits (F := Ideal) .f32 0xBF800000#32 : EReal) = ((-1 : ℝ) : EReal) := by
  simp [Ideal.ofBits, Ideal.ieee]
  rw [← EReal.coe_mul]
  exact congrArg Real.toEReal (by norm_num : (8388608 : ℝ) * (2 ^ 23)⁻¹ = 1)

theorem bot_bits : (FloatOps.ofBits (F := Ideal) .f32 0xFF800000#32 : EReal) = ⊥ := by
  simp [Ideal.ofBits, Ideal.ieee]

theorem zero_bits : (FloatOps.ofBits (F := Ideal) .f32 0x00000000#32 : EReal) = ((0 : ℝ) : EReal) := by
  simp [Ideal.ofBits, Ideal.ieee]

/-- The arguments as real numbers: queries, keys, values and the output's cotangent by row, head and lane; the running sum
    of the log-gates by row and head. -/
structure Ins where
  q : Fin 8192 → Fin 16 → Fin 128 → ℝ
  k : Fin 8192 → Fin 16 → Fin 128 → ℝ
  v : Fin 8192 → Fin 16 → Fin 128 → ℝ
  g : Fin 8192 → Fin 16 → Fin 128 → ℝ
  cm : Fin 8192 → Fin 16 → ℝ

variable (X : Ins) (M : Fin 16 → Fin 8192 → ℝ) (h : Fin 16) (t j : Fin 8192)

/-- The score of query `t` and key `j`, before the mask. -/
def score : ℝ := (∑ d, X.q t h d * X.k j h d) * sc + X.cm t h - X.cm j h

/-- The masked exponential, lowered by `M`. -/
def unn : ℝ := if j ≤ t then Real.exp (score X h t j - M h t) else 0

/-- A query's normaliser. -/
def tot : ℝ := ∑ j, unn X M h t j

/-- The attention weight. -/
def prob : ℝ := unn X M h t j / tot X M h t

/-- The cotangent of a weight. -/
def dprob : ℝ := ∑ d, X.g t h d * X.v j h d

/-- A query's mean weight cotangent. -/
def dsum : ℝ := ∑ j, prob X M h t j * dprob X h t j

/-- The cotangent of a score. -/
def dscore : ℝ := prob X M h t j * (dprob X h t j - dsum X M h t)

theorem unn_le (hj : j ≤ t) : unn X M h t j = Real.exp (score X h t j - M h t) := if_pos hj

theorem unn_late (hj : ¬ j ≤ t) : unn X M h t j = 0 := if_neg hj

theorem unn_nonneg : 0 ≤ unn X M h t j := by
  unfold unn; split
  · exact (Real.exp_pos _).le
  · exact le_rfl

theorem tot_pos : 0 < tot X M h t := by
  refine lt_of_lt_of_le ?_ (Finset.single_le_sum (f := fun j => unn X M h t j) (fun j _ => unn_nonneg X M h t j) (Finset.mem_univ t))
  show 0 < unn X M h t t
  unfold unn
  rw [if_pos le_rfl]
  exact Real.exp_pos _

/-- The score's cotangent as differentiating the quotient gives it. -/
theorem dscore_eq : (dprob X h t j / tot X M h t + -∑ i, dprob X h t i * (1 / (tot X M h t * tot X M h t)) * unn X M h t i) * unn X M h t j
    = dscore X M h t j := by
  have ht := (tot_pos X M h t).ne'
  have hs : ∑ i, dprob X h t i * (1 / (tot X M h t * tot X M h t)) * unn X M h t i = dsum X M h t / tot X M h t := by
    unfold dsum prob
    rw [Finset.sum_div]
    refine Finset.sum_congr rfl fun i _ => ?_
    field_simp
  rw [hs]
  unfold dscore prob
  field_simp
  ring

/-- Past the query the score's cotangent is zero. -/
theorem dscore_late (hj : ¬ j ≤ t) : dscore X M h t j = 0 := by
  unfold dscore prob; rw [unn_late X M h t j hj]; simp

/-- The weight as a power of two: the base-two score less the query's saved base-two log-sum. -/
theorem prob_exp2 (hj : j ≤ t) :
    (2 : ℝ) ^ ((∑ d, X.k j h d * (X.q t h d * (sc * (1 / Real.log 2)))) + (X.cm t h * (1 / Real.log 2) + -(X.cm j h * (1 / Real.log 2))
      + -((M h t + Real.log (tot X M h t)) * (1 / Real.log 2)))) = prob X M h t j := by
  have h2 : Real.log 2 ≠ 0 := (Real.log_pos (by norm_num)).ne'
  have ht := tot_pos X M h t
  have hs : ∑ d, X.k j h d * (X.q t h d * (sc * (1 / Real.log 2))) = (∑ d, X.q t h d * X.k j h d) * sc / Real.log 2 := by
    rw [Finset.sum_mul, Finset.sum_div]
    refine Finset.sum_congr rfl fun d _ => ?_
    ring
  rw [Real.rpow_def_of_pos (by norm_num), hs]
  unfold prob unn
  rw [if_pos hj, ← Real.exp_log ht, ← Real.exp_sub, Real.exp_log ht]
  congr 1
  unfold score
  field_simp
  ring

/-- The mean weight cotangent from the saved output. -/
theorem dsum_eq : ∑ d, X.g t h d * ∑ i, X.v i h d * prob X M h t i = dsum X M h t := by
  unfold dsum dprob
  simp only [Finset.mul_sum]
  rw [Finset.sum_comm]
  refine Finset.sum_congr rfl fun i _ => Finset.sum_congr rfl fun d _ => ?_
  ring

end Cert.Proof.Attn

end
-- ==== Proof.Lanes.lean ====
/-
  The 128 extra lanes that the host code appends to each operand of the launch, by row, head and lane: the query's decay and
  its saved log-sum against the key's decay, and the query's mean weight cotangent against ones.
-/
module

public import proofs.«01_k».proof.Proof.Reals
public import proofs.«01_k».proof.Proof.Gen.KernelIdeal.Frame
public import Idealize.ShloMosaic.Lib.IdealHost
public import Idealize.ShloMosaic.Lib.Pipeline.Value
public import Idealize.ShloMosaic.Lib.StableHlo.RunRead

@[expose] public section

set_option maxRecDepth 16384

noncomputable section

namespace Cert.Proof.Attn

open Cert.KernelIdeal Cert.KernelIdeal.Gen
open Idealize.ShloMosaic Idealize.ShloMosaic.ValueIdx Idealize.ShloMosaic.TcCoe
open scoped BigOperators

variable (n : Fin 8192) (h : Fin 16) (l : Fin 128)

/-! ## Reading the lines' operations at an index -/

/-- A column spread over the lanes. -/
theorem spread (x : FVec Ideal S8192x16x1 .f32) :
    broadcastInDim S8192x16x128 ![0, 1, 2] bcast_S8192x16x1_S8192x16x128_0_1_2 x (ix3 n h l) = x (ix3 n h 0) :=
  broadcastInDim_apply _ _ x _ _ fun a => match a with
    | ⟨0, _⟩ => rfl
    | ⟨1, _⟩ => rfl
    | ⟨2, _⟩ => rfl

/-- A choice by lane. -/
theorem lane_eq (K : ℕ) (hK : K < 128) (A B : FVec Ideal S8192x16x128 .f32) (I : IVec S8192x16x128 32) (hI : I = iotaInDim S8192x16x128 32 2) :
    select (cmpi .eq I (broadcastInDim S8192x16x128 ![] bcast_S_S8192x16x128 (constantI S_ 32 (BitVec.ofNat 32 K)))) A B (ix3 n h l)
      = if l.val = K then A (ix3 n h l) else B (ix3 n h l) := by
  have hl := l.isLt
  subst hI
  show Scalar.select (BitVec.ofBool (BitVec.ofNat 32 l.val == BitVec.ofNat 32 K)) _ _ = _
  by_cases hlk : l.val = K
  · rw [if_pos hlk, hlk, beq_self_eq_true]; rfl
  · rw [if_neg hlk, beq_eq_false_iff_ne.2 (fun e => hlk (by
      have := congrArg BitVec.toNat e
      rw [BitVec.toNat_ofNat, BitVec.toNat_ofNat] at this
      omega))]
    rfl

/-- The same with both branches known. -/
theorem lane_step (K : ℕ) (hK : K < 128) (A B : FVec Ideal S8192x16x128 .f32) (I : IVec S8192x16x128 32) (hI : I = iotaInDim S8192x16x128 32 2)
    {a b : ℝ} (hA : A (ix3 n h l) = (a : EReal)) (hB : B (ix3 n h l) = (b : EReal)) :
    select (cmpi .eq I (broadcastInDim S8192x16x128 ![] bcast_S_S8192x16x128 (constantI S_ 32 (BitVec.ofNat 32 K)))) A B (ix3 n h l)
      = ((if l.val = K then a else b : ℝ) : EReal) := by
  rw [lane_eq n h l K hK A B I hI, hA, hB]
  split <;> rfl

/-- A choice by lane, the first ones. -/
theorem lane_lt (K : ℕ) (hK : K < 128) (A B : FVec Ideal S8192x16x128 .f32) (I : IVec S8192x16x128 32) (hI : I = iotaInDim S8192x16x128 32 2) :
    select (cmpi .slt I (broadcastInDim S8192x16x128 ![] bcast_S_S8192x16x128 (constantI S_ 32 (BitVec.ofNat 32 K)))) A B (ix3 n h l)
      = if l.val < K then A (ix3 n h l) else B (ix3 n h l) := by
  have hl := l.isLt
  subst hI
  show Scalar.select (BitVec.ofBool ((BitVec.ofNat 32 l.val).slt (BitVec.ofNat 32 K))) _ _ = _
  have e : ∀ a : ℕ, a < 128 → (BitVec.ofNat 32 a).toInt = a := fun a ha => by
    have hn : (BitVec.ofNat 32 a).toNat = a := by rw [BitVec.toNat_ofNat]; omega
    rw [BitVec.toInt_eq_toNat_of_lt (by omega), hn]
  rw [BitVec.slt, e _ hl, e _ hK]
  by_cases hlk : l.val < K
  · rw [if_pos hlk, decide_eq_true (by exact_mod_cast hlk)]; rfl
  · rw [if_neg hlk, decide_eq_false (by exact_mod_cast hlk)]; rfl

/-- A column times a constant. -/
abbrev times (w : BitVec 32) (x : FVec Ideal S8192x16x1 .f32) : FVec Ideal S8192x16x1 .f32 :=
  mulf (broadcastInDim S8192x16x1 ![] bcast_S_S8192x16x1 (constant S_ .f32 w)) x

/-- What the first narrowing leaves of a column. -/
abbrev rest (x : FVec Ideal S8192x16x1 .f32) : FVec Ideal S8192x16x1 .f32 := subf x (extf .f32 (truncf .bf16 x bitsLt_bf16_f32) bitsLt_bf16_f32)

section
variable {x : FVec Ideal S8192x16x1 .f32} {r : ℝ} (hx : x (ix3 n h 0) = (r : EReal))
include hx

/-- The product's element. -/
theorem times_at {w : BitVec 32} {a : ℝ} (hw : (FloatOps.ofBits (F := Ideal) .f32 w : EReal) = (a : EReal)) : times w x (ix3 n h 0) = ((a * r : ℝ) : EReal) := by
  show (FloatOps.ofBits (F := Ideal) .f32 w : EReal) * x (ix3 n h 0) = _
  rw [hw, hx, EReal.coe_mul]

/-- The rest after the narrowing: nothing. -/
theorem rest_at : rest x (ix3 n h 0) = ((0 : ℝ) : EReal) := by
  show x (ix3 n h 0) - x (ix3 n h 0) = _
  rw [hx, ← EReal.coe_sub, sub_self]

end

/-! ## The extra lanes -/

section
variable (U : Valuation τ sig (Elt Ideal))

/-- The buffers after the host lines that build the operands, from contents `U` before them. -/
abbrev late : Valuation τ sig (Elt Ideal) := StableHlo.after (List.drop 62 (hostOps0 (F := Ideal))) U

/-- The query's extra lanes: its decay in lane 0, ones in lanes 3 to 5, its log-sum negated in lane 6. -/
def qLane (a e : ℝ) (l : ℕ) : ℝ :=
  if l = 8 then 0 else if l = 7 then 0 else if l = 6 then -1 * e else if l = 5 then 1 else if l = 4 then 1 else if l = 3 then 1
  else if l = 2 then 0 else if l = 1 then 0 else if l = 0 then 1 * a else 0

/-- The key's: ones in lanes 0 to 2 and 6 to 8, its decay negated in lane 3. -/
def kLane (a : ℝ) (l : ℕ) : ℝ :=
  if l = 8 then 1 else if l = 7 then 1 else if l = 6 then 1 else if l = 5 then 0 else if l = 4 then 0 else if l = 3 then -1 * a
  else if l = 2 then 1 else if l = 1 then 1 else if l = 0 then 1 else 0

/-- The cotangent's: the mean weight cotangent negated in lane 0. -/
def dLane (a : ℝ) (l : ℕ) : ℝ := if l = 2 then 0 else if l = 1 then 0 else if l = 0 then -1 * a else 0

/-- The value's: ones in lanes 0 to 2. -/
def vLane (l : ℕ) : ℝ := if l < 3 then 1 else 0

variable (hI : U (Proc.devRef .tc main_v45) = iotaInDim S8192x16x128 32 2)
  (hZ : U (Proc.devRef .tc main_v46) = broadcastInDim S8192x16x128 ![] bcast_S_S8192x16x128 (constant (F := Ideal) S_ .f32 0#32))
include hI hZ

theorem late_q {a e : ℝ} (ha : (U (Proc.devRef .tc main_v49) : FVec Ideal S8192x16x1 .f32) (ix3 n h 0) = (a : EReal))
    (he : (U (Proc.devRef .tc main_v44) : FVec Ideal S8192x16x1 .f32) (ix3 n h 0) = (e : EReal)) :
    (late U (Proc.devRef .tc main_v118) : FVec Ideal S8192x16x128 .bf16) (ix3 n h l) = (qLane a e l.val : EReal) := by
  unfold late
  after_reads_simp
  have hz : (U (Proc.devRef .tc main_v46) : FVec Ideal S8192x16x128 .f32) (ix3 n h l) = ((0 : ℝ) : EReal) := by rw [hZ]; exact zero_bits
  have pe := times_at n h he neg_one_bits
  have pa := times_at n h ha one_bits
  exact lane_step n h l 8 (by decide) _ _ _ hI ((spread n h l _).trans (rest_at n h (rest_at n h pe)))
    (lane_step n h l 7 (by decide) _ _ _ hI ((spread n h l _).trans (rest_at n h pe))
    (lane_step n h l 6 (by decide) _ _ _ hI ((spread n h l _).trans pe)
    (lane_step n h l 5 (by decide) _ _ _ hI one_bits
    (lane_step n h l 4 (by decide) _ _ _ hI one_bits
    (lane_step n h l 3 (by decide) _ _ _ hI one_bits
    (lane_step n h l 2 (by decide) _ _ _ hI ((spread n h l _).trans (rest_at n h (rest_at n h pa)))
    (lane_step n h l 1 (by decide) _ _ _ hI ((spread n h l _).trans (rest_at n h pa))
    (lane_step n h l 0 (by decide) _ _ _ hI ((spread n h l _).trans pa) hz))))))))

theorem late_k {a : ℝ} (ha : (U (Proc.devRef .tc main_v49) : FVec Ideal S8192x16x1 .f32) (ix3 n h 0) = (a : EReal)) :
    (late U (Proc.devRef .tc main_v173) : FVec Ideal S8192x16x128 .bf16) (ix3 n h l) = (kLane a l.val : EReal) := by
  unfold late
  after_reads_simp
  have hz : (U (Proc.devRef .tc main_v46) : FVec Ideal S8192x16x128 .f32) (ix3 n h l) = ((0 : ℝ) : EReal) := by rw [hZ]; exact zero_bits
  have pa := times_at n h ha neg_one_bits
  exact lane_step n h l 8 (by decide) _ _ _ hI one_bits
    (lane_step n h l 7 (by decide) _ _ _ hI one_bits
    (lane_step n h l 6 (by decide) _ _ _ hI one_bits
    (lane_step n h l 5 (by decide) _ _ _ hI ((spread n h l _).trans (rest_at n h (rest_at n h pa)))
    (lane_step n h l 4 (by decide) _ _ _ hI ((spread n h l _).trans (rest_at n h pa))
    (lane_step n h l 3 (by decide) _ _ _ hI ((spread n h l _).trans pa)
    (lane_step n h l 2 (by decide) _ _ _ hI one_bits
    (lane_step n h l 1 (by decide) _ _ _ hI one_bits
    (lane_step n h l 0 (by decide) _ _ _ hI one_bits hz))))))))

theorem late_d {a : ℝ} (ha : (U (Proc.devRef .tc main_v52) : FVec Ideal S8192x16x1 .f32) (ix3 n h 0) = (a : EReal)) :
    (late U (Proc.devRef .tc main_v203) : FVec Ideal S8192x16x128 .bf16) (ix3 n h l) = (dLane a l.val : EReal) := by
  unfold late
  after_reads_simp
  have hz : (U (Proc.devRef .tc main_v46) : FVec Ideal S8192x16x128 .f32) (ix3 n h l) = ((0 : ℝ) : EReal) := by rw [hZ]; exact zero_bits
  have pa := times_at n h ha neg_one_bits
  exact lane_step n h l 2 (by decide) _ _ _ hI ((spread n h l _).trans (rest_at n h (rest_at n h pa)))
    (lane_step n h l 1 (by decide) _ _ _ hI ((spread n h l _).trans (rest_at n h pa))
    (lane_step n h l 0 (by decide) _ _ _ hI ((spread n h l _).trans pa) hz))

theorem late_v : (late U (Proc.devRef .tc main_v178) : FVec Ideal S8192x16x128 .bf16) (ix3 n h l) = (vLane l.val : EReal) := by
  unfold late
  after_reads_simp
  have hz : (U (Proc.devRef .tc main_v46) : FVec Ideal S8192x16x128 .f32) (ix3 n h l) = ((0 : ℝ) : EReal) := by rw [hZ]; exact zero_bits
  refine (lane_lt n h l 3 (by decide) _ _ _ hI).trans ?_
  unfold vLane
  by_cases h3 : l.val < 3
  · rw [if_pos h3, if_pos h3]; exact one_bits
  · rw [if_neg h3, if_neg h3]; exact hz

end

/-! ## Their inner products -/

theorem qk_lanes (a b e : ℝ) : ∑ l : Fin 128, kLane b l.val * qLane a e l.val = a + -b + -e := by
  have key : ∀ l : Fin 128, kLane b l.val * qLane a e l.val
      = (if l = 0 then a else 0) + (if l = 3 then -b else 0) + (if l = 6 then -e else 0) := fun l => by
    by_cases hl : l.val < 9
    · obtain ⟨l, h⟩ := l
      have hl : l < 9 := hl
      interval_cases l <;> simp [kLane, qLane, Fin.ext_iff]
    · have h : ∀ k : ℕ, k < 9 → l.val ≠ k := fun k hk e => hl (e ▸ hk)
      simp [kLane, qLane, Fin.ext_iff, h 0, h 1, h 2, h 3, h 4, h 5, h 6, h 7, h 8]
  rw [Finset.sum_congr rfl fun l _ => key l, Finset.sum_add_distrib, Finset.sum_add_distrib]
  simp only [Finset.sum_ite_eq', Finset.mem_univ, if_true]

theorem dv_lanes (a : ℝ) : ∑ l : Fin 128, vLane l.val * dLane a l.val = -a := by
  have key : ∀ l : Fin 128, vLane l.val * dLane a l.val = if l = 0 then -a else 0 := fun l => by
    by_cases hl : l.val < 3
    · obtain ⟨l, h⟩ := l
      have hl : l < 3 := hl
      interval_cases l <;> simp [vLane, dLane, Fin.ext_iff]
    · have h : ∀ k : ℕ, k < 3 → l.val ≠ k := fun k hk e => hl (e ▸ hk)
      simp [vLane, dLane, Fin.ext_iff, hl, h 0]
  rw [Finset.sum_congr rfl fun l _ => key l]
  simp only [Finset.sum_ite_eq', Finset.mem_univ, if_true]

end Cert.Proof.Attn

end
-- ==== Proof.Tile.lean ====
/-
  What one tile of the kernel computes over the extended reals, element by element: the four products, the masked and
  the unmasked weights, and the windows of a head's rows the tiles are cut from.
-/
module

public import proofs.«01_k».proof.Proof.Body
public import Idealize.ShloMosaic.PureOps.Ideal.Laws
public import Idealize.ShloMosaic.Lib.ValueIdx
public import Idealize.ShloMosaic.Lib.Pipeline.Value

@[expose] public section

set_option maxRecDepth 16384

noncomputable section

namespace Cert.Proof.Attn

open Cert.KernelIdeal Cert.KernelIdeal.Gen
open Idealize.ShloMosaic Idealize.ShloMosaic.ValueIdx
open scoped BigOperators

/-! ## The four products -/

/-- Rows of `x` times rows of `y`: element `(r, t)` sums over the 256 lanes. -/
theorem rows_dot (x : FVec Ideal S512x256 .bf16) (y : FVec Ideal S1024x256 .bf16) (r : Fin 512) (t : Fin 1024) :
    FloatOps.matmul dot_S512x256_S1024x256_S512x1024_1_1_0_0_n_n none x y (constant S512x1024 .f32 0x00000000#32) (ix2 r t)
      = ∑ l : Fin 256, x (ix2 r l) * y (ix2 t l) := by
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => rfl
    | ⟨1, _⟩ => exact hk

/-- Weights times 128 lanes of the rows: element `(r, d)` sums over the tile's 1024 rows. -/
theorem weights_dot128 (x : FVec Ideal S512x1024 .bf16) (y : FVec Ideal S1024x128 .bf16) (r : Fin 512) (d : Fin 128) :
    FloatOps.matmul dot_S512x1024_S1024x128_S512x128_1_0_0_1_n_n none x y (constant S512x128 .f32 0x00000000#32) (ix2 r d)
      = ∑ t : Fin 1024, x (ix2 r t) * y (ix2 t d) := by
  rw [Ideal.matmul_constant_zero_apply, ← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

/-- Weights times the rows' 256 lanes. -/
theorem weights_dot256 (x : FVec Ideal S512x1024 .bf16) (y : FVec Ideal S1024x256 .bf16) (r : Fin 512) (l : Fin 256) :
    FloatOps.matmul dot_S512x1024_S1024x256_S512x256_1_0_0_1_n_n none x y (constant S512x256 .f32 0x00000000#32) (ix2 r l)
      = ∑ t : Fin 1024, x (ix2 r t) * y (ix2 t l) := by
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

/-- The weights turned round, times the block's rows: element `(t, l)` sums over the block's 512 rows. -/
theorem turned_dot (x : FVec Ideal S512x1024 .bf16) (y : FVec Ideal S512x256 .bf16) (t : Fin 1024) (l : Fin 256) :
    FloatOps.matmul dot_S512x1024_S512x256_S1024x256_0_0_1_1_n_n none x y (constant S1024x256 .f32 0x00000000#32) (ix2 t l)
      = ∑ r : Fin 512, x (ix2 r t) * y (ix2 r l) := by
  rw [Ideal.matmul_constant_zero_apply, ← Equiv.sum_comp (contrEquiv1 dot_S512x1024_S512x256_S1024x256_0_0_1_1_n_n 512 rfl rfl).symm]
  refine Finset.sum_congr rfl fun k _ => ?_
  have hk := contrEquiv1_symm_val dot_S512x1024_S512x256_S1024x256_0_0_1_1_n_n 512 rfl rfl k
  refine congrArg₂ (· * ·) (congrArg x ?_) (congrArg y ?_) <;> funext a <;> apply Fin.ext
  · match a with
    | ⟨0, _⟩ => exact hk
    | ⟨1, _⟩ => rfl
  · match a with
    | ⟨0, _⟩ => exact hk
    | ⟨1, _⟩ => rfl

/-! ## Rows by number -/

/-- Row `n`, lane `l` of a head's block; zero past the last row. -/
def row {e : FTy} (x : FVec Ideal S8192x256 e) (n : ℕ) (l : Fin 256) : EReal := if h : n < 8192 then x (ix2 ⟨n, h⟩ l) else 0

theorem row_fin {e : FTy} (x : FVec Ideal S8192x256 e) (n : Fin 8192) (l : Fin 256) : row x n.val l = x (ix2 n l) := dif_pos n.isLt

/-- A window of 1024 rows from row `B` on, at its row `u`. -/
theorem window_row {e : FTy} (x : FVec Ideal S8192x256 e) (off : Fin 2 → ℕ) (inb) (B : ℕ) (h : off = ![B, 0]) (u : Fin 1024) (l : Fin 256) :
    VecWindow.window (s := S8192x256) x off S1024x256.size inb (ix2 u l) = row x (B + u.val) l := by
  subst h
  have hb : B + 1024 ≤ 8192 := inb 0
  have hu := u.isLt
  rw [row, dif_pos (by omega)]
  refine congrArg x (funext fun a => Fin.ext ?_)
  match a with
  | ⟨0, _⟩ => show B + 1 * u.val = B + u.val; omega
  | ⟨1, _⟩ => show 0 + 1 * l.val = l.val; omega

/-- The block with such a window replaced: the window's rows are the payload's, the others are kept. -/
theorem put_row {e : FTy} (x : FVec Ideal S8192x256 e) (off : Fin 2 → ℕ) (B : ℕ) (h : off = ![B, 0]) (w : FVec Ideal S1024x256 e) (n : Fin 8192) (l : Fin 256) :
    VecWindow.put (s := S8192x256) x off S1024x256.size w (ix2 n l)
      = if hn : B ≤ n.val ∧ n.val < B + 1024 then w (ix2 ⟨n.val - B, by omega⟩ l) else x (ix2 n l) := by
  subst h
  unfold VecWindow.put
  by_cases hn : B ≤ n.val ∧ n.val < B + 1024
  · rw [dif_pos hn, dif_pos (fun a => by
      match a with
      | ⟨0, _⟩ => exact hn
      | ⟨1, _⟩ => exact ⟨Nat.zero_le _, by show l.val < 0 + 256; omega⟩)]
    refine congrArg w (funext fun a => Fin.ext ?_)
    match a with
    | ⟨0, _⟩ => rfl
    | ⟨1, _⟩ => rfl
  · rw [dif_neg hn, dif_neg (fun hall => hn (hall 0))]

/-! ## The weights of a tile -/

/-- The kernel's order test on 32-bit words, for numbers that fit. -/
theorem word_ge (a b : ℕ) (ha : a < 2 ^ 31) (hb : b < 2 ^ 31) :
    IntOp.cmpi .sge (BitVec.ofNat 32 a) (BitVec.ofNat 32 b) = if b ≤ a then 1#1 else 0#1 := by
  have ea : (BitVec.ofNat 32 a).toInt = a := by
    have hn : (BitVec.ofNat 32 a).toNat = a := by rw [BitVec.toNat_ofNat]; omega
    rw [BitVec.toInt_eq_toNat_of_lt (by omega), hn]
  have eb : (BitVec.ofNat 32 b).toInt = b := by
    have hn : (BitVec.ofNat 32 b).toNat = b := by rw [BitVec.toNat_ofNat]; omega
    rw [BitVec.toInt_eq_toNat_of_lt (by omega), hn]
  show BitVec.ofBool ((BitVec.ofNat 32 b).sle (BitVec.ofNat 32 a)) = _
  rw [BitVec.sle, ea, eb]
  by_cases h : b ≤ a
  · rw [if_pos h, decide_eq_true (by exact_mod_cast h)]; rfl
  · rw [if_neg h, decide_eq_false (by exact_mod_cast h)]; rfl

theorem neg_inf : Ideal.ofBits .f32 0xFF800000#32 = ⊥ := by simp [Ideal.ofBits, Ideal.ieee]

/-- The masked weights: key `512 b + r` sees query `1024 w + t` where it is not later than it. -/
theorem pay1_apply (b w : ℕ) (hb : b < 16) (hw : w < 8) (s : FVec Ideal S512x1024 .f32) (r : Fin 512) (t : Fin 1024) :
    k0_pay1 (BitVec.ofNat 32 b) (BitVec.ofNat 32 w) s 512#32 (ix2 r t)
      = if b * 512 + r.val ≤ w * 1024 + t.val then Ideal.exp2 (s (ix2 r t)) else 0 := by
  have hr := r.isLt
  have ht := t.isLt
  have key : IntOp.cmpi .sge (BitVec.ofNat 32 w * 1024#32 + BitVec.ofNat 32 t.val) (BitVec.ofNat 32 b * 512#32 + BitVec.ofNat 32 r.val)
      = if b * 512 + r.val ≤ w * 1024 + t.val then 1#1 else 0#1 := by
    rw [← word_ge _ _ (by omega) (by omega)]
    simp only [BitVec.ofNat_add, BitVec.ofNat_mul]
  unfold k0_pay1
  show Ideal.exp2 (Scalar.select (IntOp.cmpi .sge (BitVec.ofNat 32 w * 1024#32 + iota .tc S512x1024 32 [1] iota_S512x1024_d1_w32 (ix2 r t)) (BitVec.ofNat 32 b * 512#32 + iota .tc S512x1024 32 [0] iota_S512x1024_d0_w32 (ix2 r t)))
    (s (ix2 r t)) (Ideal.ofBits .f32 0xFF800000#32)) = _
  rw [iota_single_apply, iota_single_apply]
  show Ideal.exp2 (Scalar.select (IntOp.cmpi .sge (BitVec.ofNat 32 w * 1024#32 + BitVec.ofNat 32 t.val) (BitVec.ofNat 32 b * 512#32 + BitVec.ofNat 32 r.val))
    (s (ix2 r t)) (Ideal.ofBits .f32 0xFF800000#32)) = _
  rw [key]
  by_cases h : b * 512 + r.val ≤ w * 1024 + t.val
  · rw [if_pos h, if_pos h]; rfl
  · rw [if_neg h, if_neg h, neg_inf]; rfl

/-! ## A tile's payloads, element by element -/

section Payloads
variable (k v : FVec Ideal S512x256 .bf16) (q o : FVec Ideal S1024x256 .bf16) (r : Fin 512) (t : Fin 1024) (l : Fin 256) (d : Fin 128)

/-- A tile's weights where nothing is masked. -/
theorem pay8_apply : k0_pay8 k q (ix2 r t) = Ideal.exp2 (∑ l : Fin 256, k (ix2 r l) * q (ix2 t l)) := by
  unfold k0_pay8 k0_pay6
  rw [shapeCast_self]
  exact congrArg Ideal.exp2 (rows_dot k q r t)

/-- The same times the product of the value rows with the output's cotangent rows. -/
theorem pay9_apply : k0_pay9 k v q o (ix2 r t)
    = Ideal.exp2 (∑ l : Fin 256, k (ix2 r l) * q (ix2 t l)) * ∑ l : Fin 256, v (ix2 r l) * o (ix2 t l) := by
  unfold k0_pay9 k0_pay7
  rw [shapeCast_self]
  exact congrArg₂ (· * ·) (pay8_apply k q r t) (rows_dot v o r t)

theorem pay10_apply (a : FVec Ideal S512x128 .f32) : k0_pay10 k a q o (ix2 r d)
    = a (ix2 r d) + ∑ t : Fin 1024, Ideal.exp2 (∑ l : Fin 256, k (ix2 r l) * q (ix2 t l)) * o (ix2 t (Fin.castLE (by decide) d)) := by
  unfold k0_pay10 k0_pay7
  rw [shapeCast_self]
  refine congrArg (a (ix2 r d) + ·) ((weights_dot128 _ _ r d).trans (Finset.sum_congr rfl fun t _ => ?_))
  refine congrArg₂ (· * ·) (pay8_apply k q r t) (extractStridedSlice_apply _ _ _ _ _ fun a => ?_)
  match a with
  | ⟨0, _⟩ => exact (Nat.zero_add _).symm
  | ⟨1, _⟩ => exact (Nat.zero_add _).symm

theorem pay11_apply (a : FVec Ideal S512x256 .f32) : k0_pay11 k v a q o (ix2 r l)
    = a (ix2 r l) + ∑ t : Fin 1024, (Ideal.exp2 (∑ l : Fin 256, k (ix2 r l) * q (ix2 t l)) * ∑ l : Fin 256, v (ix2 r l) * o (ix2 t l)) * q (ix2 t l) := by
  unfold k0_pay11 k0_pay6
  rw [shapeCast_self]
  exact congrArg (a (ix2 r l) + ·) ((weights_dot256 _ _ r l).trans (Finset.sum_congr rfl fun t _ => congrArg (· * _) (pay9_apply k v q o r t)))

theorem pay12_apply (a : FVec Ideal S1024x256 .f32) : k0_pay12 k v q o a (ix2 t l)
    = a (ix2 t l) + ∑ r : Fin 512, (Ideal.exp2 (∑ l : Fin 256, k (ix2 r l) * q (ix2 t l)) * ∑ l : Fin 256, v (ix2 r l) * o (ix2 t l)) * k (ix2 r l) := by
  unfold k0_pay12
  rw [shapeCast_self]
  exact congrArg (a (ix2 t l) + ·) ((turned_dot _ _ t l).trans (Finset.sum_congr rfl fun r _ => congrArg (· * _) (pay9_apply k v q o r t)))

variable (b w : ℕ) (hb : b < 16) (hw : w < 8)
include hb hw

theorem pay2_apply (s : FVec Ideal S512x1024 .f32) : k0_pay2 (BitVec.ofNat 32 b) v (BitVec.ofNat 32 w) o s 512#32 (ix2 r t)
    = (if b * 512 + r.val ≤ w * 1024 + t.val then Ideal.exp2 (s (ix2 r t)) else 0) * ∑ l : Fin 256, v (ix2 r l) * o (ix2 t l) := by
  unfold k0_pay2
  exact congrArg₂ (· * ·) (pay1_apply b w hb hw s r t) (rows_dot v o r t)

theorem pay3_apply (a : FVec Ideal S512x128 .f32) (s : FVec Ideal S512x1024 .f32) : k0_pay3 (BitVec.ofNat 32 b) (BitVec.ofNat 32 w) a o s 512#32 (ix2 r d)
    = a (ix2 r d) + ∑ t : Fin 1024, (if b * 512 + r.val ≤ w * 1024 + t.val then Ideal.exp2 (s (ix2 r t)) else 0) * o (ix2 t (Fin.castLE (by decide) d)) := by
  unfold k0_pay3
  refine congrArg (a (ix2 r d) + ·) ((weights_dot128 _ _ r d).trans (Finset.sum_congr rfl fun t _ => ?_))
  refine congrArg₂ (· * ·) (pay1_apply b w hb hw s r t) (extractStridedSlice_apply _ _ _ _ _ fun a => ?_)
  match a with
  | ⟨0, _⟩ => exact (Nat.zero_add _).symm
  | ⟨1, _⟩ => exact (Nat.zero_add _).symm

theorem pay4_apply (a : FVec Ideal S512x256 .f32) (s : FVec Ideal S512x1024 .f32) : k0_pay4 (BitVec.ofNat 32 b) v (BitVec.ofNat 32 w) a q o s 512#32 (ix2 r l)
    = a (ix2 r l) + ∑ t : Fin 1024, ((if b * 512 + r.val ≤ w * 1024 + t.val then Ideal.exp2 (s (ix2 r t)) else 0) * ∑ l : Fin 256, v (ix2 r l) * o (ix2 t l)) * q (ix2 t l) := by
  unfold k0_pay4
  exact congrArg (a (ix2 r l) + ·) ((weights_dot256 _ _ r l).trans (Finset.sum_congr rfl fun t _ => congrArg (· * _) (pay2_apply v o r t b w hb hw s)))

theorem pay5_apply (a : FVec Ideal S1024x256 .f32) (s : FVec Ideal S512x1024 .f32) : k0_pay5 (BitVec.ofNat 32 b) k v (BitVec.ofNat 32 w) o s 512#32 a (ix2 t l)
    = a (ix2 t l) + ∑ r : Fin 512, ((if b * 512 + r.val ≤ w * 1024 + t.val then Ideal.exp2 (s (ix2 r t)) else 0) * ∑ l : Fin 256, v (ix2 r l) * o (ix2 t l)) * k (ix2 r l) := by
  unfold k0_pay5
  rw [shapeCast_self]
  exact congrArg (a (ix2 t l) + ·) ((turned_dot _ _ t l).trans (Finset.sum_congr rfl fun r _ => congrArg (· * _) (pay2_apply v o r t b w hb hw s)))

end Payloads

theorem pay27_apply (k : FVec Ideal S512x256 .bf16) (q : FVec Ideal S1024x256 .bf16) (r : Fin 512) (t : Fin 1024) :
    k0_pay27 (F := Ideal) k q (ix2 r t) = ∑ l : Fin 256, k (ix2 r l) * q (ix2 t l) := by
  unfold k0_pay27 k0_pay21 k0_pay25
  rw [shapeCast_self, shapeCast_self]
  exact rows_dot k q r t

end Cert.Proof.Attn

end
-- ==== Proof.Block.lean ====
/-
  What one grid point computes over the extended reals. Key rows `512 b + r` meet the queries tile by tile, from the tile
  that holds the block's own rows to the last one. Added up, the key gradient and the value gradient are sums over every
  query with the later keys' weights zero, and the query gradient's block gains this block's keys' share.
-/
module

public import proofs.«01_k».proof.Proof.Tile

@[expose] public section

set_option maxRecDepth 16384

noncomputable section

namespace Cert.Proof.Attn

open Cert.KernelIdeal Cert.KernelIdeal.Gen
open Idealize.ShloMosaic Idealize.ShloMosaic.ValueIdx
open scoped BigOperators

/-! ## The kernel's index words -/

theorem off2_eq : ∀ (i : grid0.Coords) (k : Fin (k0_t1_loop i).trips), k0_off2 i k = ![((i 1).val / 2 + 1 + k.val) * 1024, 0] := by decide +kernel
theorem trips_eq : ∀ i : grid0.Coords, (k0_t1_loop i).trips = 7 - (i 1).val / 2 := by decide +kernel
theorem first_eq : ∀ i : grid0.Coords, firstWord i = BitVec.ofNat 32 ((i 1).val / 2) := by decide +kernel

/-! ## The weights of a key block -/

section Weights
variable (b : ℕ) (x0 x1 : FVec Ideal S8192x256 .bf16) (x2 x3 : FVec Ideal S512x256 .bf16)

/-- The weight query `n` gives the block's key row `r`: zero where the key is later than the query. -/
def wt (r : Fin 512) (n : ℕ) : EReal := if b * 512 + r.val ≤ n then Ideal.exp2 (∑ l : Fin 256, x2 (ix2 r l) * row x0 n l) else 0

/-- The same times the product of the value row with the output's cotangent row. -/
def gw (r : Fin 512) (n : ℕ) : EReal := wt b x0 x2 r n * ∑ l : Fin 256, x3 (ix2 r l) * row x1 n l

theorem wt_early {r : Fin 512} {n : ℕ} (h : n < b * 512) : wt b x0 x2 r n = 0 := if_neg (by omega)
theorem gw_early {r : Fin 512} {n : ℕ} (h : n < b * 512) : gw b x0 x1 x2 x3 r n = 0 := by rw [gw, wt_early b x0 x2 h, zero_mul]

/-- The three results once every query row before `B` has been met, over the dq block `X`. -/
structure UpTo (X : FVec Ideal S8192x256 .f32) (B : ℕ) (s : (FVec Ideal S512x256 .f32 × FVec Ideal S512x128 .f32) × FVec Ideal S8192x256 .f32) : Prop where
  dk : ∀ (r : Fin 512) (l : Fin 256), s.1.1 (ix2 r l) = ∑ n ∈ Finset.range B, gw b x0 x1 x2 x3 r n * row x0 n l
  dv : ∀ (r : Fin 512) (d : Fin 128), s.1.2 (ix2 r d) = ∑ n ∈ Finset.range B, wt b x0 x2 r n * row x1 n (Fin.castLE (by decide) d)
  dq : ∀ (n : Fin 8192) (l : Fin 256), s.2 (ix2 n l) = X (ix2 n l) + if n.val < B then ∑ r : Fin 512, gw b x0 x1 x2 x3 r n.val * x2 (ix2 r l) else 0

end Weights

theorem zero_f32 : Ideal.ofBits .f32 0x00000000#32 = 0 := Ideal.ofBits_zero_f32

/-- A sum over the rows before `B + 1024` splits off the last tile. -/
theorem sum_tile (f : ℕ → EReal) (B : ℕ) : ∑ n ∈ Finset.range (B + 1024), f n = ∑ n ∈ Finset.range B, f n + ∑ u : Fin 1024, f (B + u.val) := by
  rw [Finset.sum_range_add, Finset.sum_range (fun x => f (B + x))]

section Point
variable (i : grid0.Coords) (x0 x1 : FVec Ideal S8192x256 .bf16) (x2 x3 : FVec Ideal S512x256 .bf16) (X : FVec Ideal S8192x256 .f32)

theorem coord_lt : (i 1).val < 16 := (i 1).isLt

theorem win1_row (x : FVec Ideal S8192x256 .bf16) (u : Fin 1024) (l : Fin 256) : win1 (F := Ideal) (e := .bf16) i x (ix2 u l) = row x ((i 1).val / 2 * 1024 + u.val) l :=
  window_row x _ _ _ (off1_eq i) u l
theorem win1_row32 (x : FVec Ideal S8192x256 .f32) (u : Fin 1024) (l : Fin 256) : win1 (F := Ideal) (e := .f32) i x (ix2 u l) = row x ((i 1).val / 2 * 1024 + u.val) l :=
  window_row x _ _ _ (off1_eq i) u l
theorem win2_row (k : Fin (k0_t1_loop i).trips) (B : ℕ) (ho : k0_off2 i k = ![B, 0]) (x : FVec Ideal S8192x256 .bf16) (u : Fin 1024) (l : Fin 256) :
    win2 (F := Ideal) (e := .bf16) i k x (ix2 u l) = row x (B + u.val) l := window_row x _ _ _ ho u l
theorem win2_row32 (k : Fin (k0_t1_loop i).trips) (B : ℕ) (ho : k0_off2 i k = ![B, 0]) (x : FVec Ideal S8192x256 .f32) (u : Fin 1024) (l : Fin 256) :
    win2 (F := Ideal) (e := .f32) i k x (ix2 u l) = row x (B + u.val) l := window_row x _ _ _ ho u l

/-- After the first tile. -/
theorem first_tile : UpTo (i 1).val x0 x1 x2 x3 X ((i 1).val / 2 * 1024 + 1024) (sums0 (F := Ideal) i x0 x1 x2 x3, dq0 (F := Ideal) i x0 x1 x2 x3 X) := by
  have hb := coord_lt i
  have hw : (i 1).val / 2 < 8 := by omega
  have hf := first_eq i
  have hwt : ∀ (r : Fin 512) (u : Fin 1024), (if (i 1).val * 512 + r.val ≤ (i 1).val / 2 * 1024 + u.val then Ideal.exp2 (k0_pay27 (F := Ideal) x2 (win1 (F := Ideal) (e := .bf16) i x0) (ix2 r u)) else 0)
      = wt (i 1).val x0 x2 r ((i 1).val / 2 * 1024 + u.val) := fun r u => by
    have hs : ∑ l : Fin 256, x2 (ix2 r l) * win1 (F := Ideal) (e := .bf16) i x0 (ix2 u l) = ∑ l : Fin 256, x2 (ix2 r l) * row x0 ((i 1).val / 2 * 1024 + u.val) l :=
      Finset.sum_congr rfl fun l _ => by rw [win1_row]
    rw [wt, pay27_apply, hs]
  have hgw : ∀ (r : Fin 512) (u : Fin 1024), (if (i 1).val * 512 + r.val ≤ (i 1).val / 2 * 1024 + u.val then Ideal.exp2 (k0_pay27 (F := Ideal) x2 (win1 (F := Ideal) (e := .bf16) i x0) (ix2 r u)) else 0)
        * ∑ l : Fin 256, x3 (ix2 r l) * win1 (F := Ideal) (e := .bf16) i x1 (ix2 u l)
      = gw (i 1).val x0 x1 x2 x3 r ((i 1).val / 2 * 1024 + u.val) := fun r u => by
    rw [hwt, gw]
    exact congrArg (_ * ·) (Finset.sum_congr rfl fun l _ => by rw [win1_row])
  have h22 : k0_pay22 (F := Ideal) x3 = x3 := shapeCast_self _ _
  have h21 : k0_pay21 (F := Ideal) x2 = x2 := shapeCast_self _ _
  have h25 : k0_pay25 (F := Ideal) (win1 (F := Ideal) (e := .bf16) i x0) = win1 (F := Ideal) (e := .bf16) i x0 := shapeCast_self _ _
  have h26 : k0_pay26 (F := Ideal) (win1 (F := Ideal) (e := .bf16) i x1) = win1 (F := Ideal) (e := .bf16) i x1 := shapeCast_self _ _
  refine ⟨fun r l => ?_, fun r d => ?_, fun n l => ?_⟩
  · show k0_pay4 (F := Ideal) _ _ _ _ _ _ _ _ (ix2 r l) = _
    rw [hf, h22, h25, h26, pay4_apply _ _ _ _ _ _ _ hb hw, sum_tile, Finset.sum_eq_zero (s := Finset.range _) fun n hn => by
      rw [gw_early _ _ _ _ _ (by have := Finset.mem_range.1 hn; omega), zero_mul]]
    refine congrArg₂ (· + ·) zero_f32 (Finset.sum_congr rfl fun u _ => ?_)
    rw [hgw, win1_row]
  · show k0_pay3 (F := Ideal) _ _ _ _ _ _ (ix2 r d) = _
    rw [hf, h26, pay3_apply _ _ _ _ _ hb hw, sum_tile, Finset.sum_eq_zero (s := Finset.range _) fun n hn => by
      rw [wt_early _ _ _ (by have := Finset.mem_range.1 hn; omega), zero_mul]]
    refine congrArg₂ (· + ·) zero_f32 (Finset.sum_congr rfl fun u _ => ?_)
    rw [hwt, win1_row]
  · show dq0 (F := Ideal) i x0 x1 x2 x3 X (ix2 n l) = _
    unfold dq0
    rw [put_row X _ _ (off1_eq i)]
    by_cases hn : (i 1).val / 2 * 1024 ≤ n.val ∧ n.val < (i 1).val / 2 * 1024 + 1024
    · rw [dif_pos hn, if_pos hn.2, hf, h21, h22, h26, pay5_apply _ _ _ _ _ _ _ hb hw, win1_row32]
      have e : (i 1).val / 2 * 1024 + (n.val - (i 1).val / 2 * 1024) = n.val := by omega
      exact congrArg₂ (· + ·) ((congrArg (row X · l) e).trans (row_fin X n l)) (Finset.sum_congr rfl fun r _ => congrArg (· * _)
        ((hgw r ⟨n.val - (i 1).val / 2 * 1024, by omega⟩).trans (congrArg (gw (i 1).val x0 x1 x2 x3 r) e)))
    · rw [dif_neg hn]
      by_cases h2 : n.val < (i 1).val / 2 * 1024 + 1024
      · rw [if_pos h2, Finset.sum_eq_zero fun r _ => by rw [gw_early _ _ _ _ _ (by omega), zero_mul], add_zero]
      · rw [if_neg h2, add_zero]

/-- Each trip of the loop meets one more tile. -/
theorem later_tiles (k : ℕ) (hk : k ≤ (k0_t1_loop i).trips) :
    UpTo (i 1).val x0 x1 x2 x3 X (((i 1).val / 2 + 1 + k) * 1024) (sv (F := Ideal) i x2 x3 x0 x1 (sums0 i x0 x1 x2 x3) (dq0 i x0 x1 x2 x3 X) k) := by
  induction k with
  | zero =>
    have := first_tile i x0 x1 x2 x3 X
    rw [show ((i 1).val / 2 + 1 + 0) * 1024 = (i 1).val / 2 * 1024 + 1024 by omega]
    exact this
  | succ k ih =>
    have hk' : k < (k0_t1_loop i).trips := by omega
    have hb := coord_lt i
    obtain ⟨hdk, hdv, hdq⟩ := ih (by omega)
    have ho := off2_eq i ⟨k, hk'⟩
    dsimp only at ho
    rw [show ((i 1).val / 2 + 1 + (k + 1)) * 1024 = ((i 1).val / 2 + 1 + k) * 1024 + 1024 by omega]
    generalize hB : ((i 1).val / 2 + 1 + k) * 1024 = B at *
    have hwt : ∀ (r : Fin 512) (u : Fin 1024), Ideal.exp2 (∑ l : Fin 256, x2 (ix2 r l) * win2 (F := Ideal) (e := .bf16) i ⟨k, hk'⟩ x0 (ix2 u l))
        = wt (i 1).val x0 x2 r (B + u.val) := fun r u => by
      rw [wt, if_pos (by have := r.isLt; omega)]
      exact congrArg Ideal.exp2 (Finset.sum_congr rfl fun l _ => by rw [win2_row i _ B ho])
    have hgw : ∀ (r : Fin 512) (u : Fin 1024), Ideal.exp2 (∑ l : Fin 256, x2 (ix2 r l) * win2 (F := Ideal) (e := .bf16) i ⟨k, hk'⟩ x0 (ix2 u l))
          * ∑ l : Fin 256, x3 (ix2 r l) * win2 (F := Ideal) (e := .bf16) i ⟨k, hk'⟩ x1 (ix2 u l)
        = gw (i 1).val x0 x1 x2 x3 r (B + u.val) := fun r u => by
      rw [hwt, gw]
      exact congrArg (_ * ·) (Finset.sum_congr rfl fun l _ => by rw [win2_row i _ B ho])
    simp only [sv, dif_pos hk']
    refine ⟨fun r l => ?_, fun r d => ?_, fun n l => ?_⟩
    · dsimp only
      rw [pay11_apply, sum_tile, hdk]
      refine congrArg (_ + ·) (Finset.sum_congr rfl fun u _ => ?_)
      rw [hgw, win2_row i _ B ho]
    · dsimp only
      rw [pay10_apply, sum_tile, hdv]
      refine congrArg (_ + ·) (Finset.sum_congr rfl fun u _ => ?_)
      rw [hwt, win2_row i _ B ho]
    · dsimp only
      rw [put_row _ _ _ ho]
      by_cases hn : B ≤ n.val ∧ n.val < B + 1024
      · rw [dif_pos hn, if_pos hn.2, pay12_apply, win2_row32 i _ B ho]
        have e : B + (n.val - B) = n.val := by omega
        exact congrArg₂ (· + ·) (((congrArg (row _ · l) e).trans (row_fin _ n l)).trans ((hdq n l).trans (by rw [if_neg (by omega), add_zero])))
          (Finset.sum_congr rfl fun r _ => congrArg (· * _) ((hgw r ⟨n.val - B, by omega⟩).trans (congrArg (gw (i 1).val x0 x1 x2 x3 r) e)))
      · rw [dif_neg hn, hdq]
        by_cases h2 : n.val < B
        · rw [if_pos h2, if_pos (by omega)]
        · rw [if_neg h2, if_neg (by omega)]

/-- What the point leaves: every query row met. -/
theorem bodyOut_upTo : UpTo (i 1).val x0 x1 x2 x3 X 8192 (bodyOut (F := Ideal) i x0 x1 x2 x3 X) := by
  have hb := coord_lt i
  have h := later_tiles i x0 x1 x2 x3 X _ (Nat.le_refl _)
  rw [trips_eq i, show ((i 1).val / 2 + 1 + (7 - (i 1).val / 2)) * 1024 = 8192 by omega, ← trips_eq i] at h
  have h22 : k0_pay22 (F := Ideal) x3 = x3 := shapeCast_self _ _
  have h21 : k0_pay21 (F := Ideal) x2 = x2 := shapeCast_self _ _
  unfold bodyOut
  rw [h21, h22]
  exact h

end Point

end Cert.Proof.Attn

end
-- ==== Proof.Array.lean ====
/-
  The launch's three result arrays over the extended reals, as sums over a head's queries and keys. `Qa`, `Da`, `Ka`, `Va`
  are the four operands as the launch finds them, by head, row and lane.
-/
module

public import proofs.«01_k».proof.Proof.Run
public import proofs.«01_k».proof.Proof.Block
public import Idealize.ShloMosaic.Lib.Pipeline.ValueKit

@[expose] public section

set_option maxRecDepth 16384

noncomputable section

namespace Cert.Proof.Attn

open Cert.KernelIdeal Cert.KernelIdeal.Gen
open Idealize.ShloMosaic hiding ix2 eq_ix2
open Idealize.ShloMosaic.ValueIdx Idealize.ShloMosaic.TcCoe Idealize.SL.Sem
open Idealize.ShloMosaic.Pipeline (Dat)
open scoped BigOperators

variable (m : (ℓ : Loc nD τ sig) → Buf (Elt Ideal) ℓ) (c : Dev nD)

/-- The widened queries, output cotangents, keys and values as the launch finds them. -/
abbrev opQ : FVec Ideal S8192x4096 .bf16 := V m c main_v208
abbrev opD : FVec Ideal S8192x4096 .bf16 := V m c main_v210
abbrev opK : FVec Ideal S8192x4096 .bf16 := V m c main_v212
abbrev opV : FVec Ideal S8192x4096 .bf16 := V m c main_v214

/-- Column `256 h + l` of an operand or a widened result. -/
abbrev col (h : Fin 16) (l : Fin 256) : Fin 4096 := ⟨h.val * 256 + l.val, by omega⟩
/-- Column `128 h + d` of the value gradient. -/
abbrev col128 (h : Fin 16) (d : Fin 128) : Fin 2048 := ⟨h.val * 128 + d.val, by omega⟩

def Qa (h : Fin 16) (n : Fin 8192) (l : Fin 256) : EReal := opQ m c (ix2 n (col h l))
def Da (h : Fin 16) (n : Fin 8192) (l : Fin 256) : EReal := opD m c (ix2 n (col h l))
def Ka (h : Fin 16) (j : Fin 8192) (l : Fin 256) : EReal := opK m c (ix2 j (col h l))
def Va (h : Fin 16) (j : Fin 8192) (l : Fin 256) : EReal := opV m c (ix2 j (col h l))

/-- The weight query `n` gives key `j`. -/
def Wt (h : Fin 16) (j n : Fin 8192) : EReal := if j.val ≤ n.val then Ideal.exp2 (∑ l : Fin 256, Ka m c h j l * Qa m c h n l) else 0
/-- The weight times the product of the value row with the output's cotangent row. -/
def Gw (h : Fin 16) (j n : Fin 8192) : EReal := Wt m c h j n * ∑ l : Fin 256, Va m c h j l * Da m c h n l

/-! ## The blocks read off the operands -/

theorem N_eq : cfg0.N = 256 := by decide +kernel
/-- The head of a grid point. -/
abbrev hd (t : Fin cfg0.N) : Fin 16 := ⟨t.val / 16, by have := t.isLt; have := N_eq; omega⟩
/-- The key row a point's block row is. -/
abbrev key (t : Fin cfg0.N) (r : Fin 512) : Fin 8192 := ⟨t.val % 16 * 512 + r.val, by omega⟩

theorem coords_eq : ∀ t : Fin grid0.N, (grid0.coords t 1).val = t.val % 16 := by decide +kernel
theorem index_0 : ∀ t : Fin grid0.N, win0_0.index t 0 = 0 ∧ win0_0.index t 1 = t.val / 16 := by decide +kernel
theorem index_1 : ∀ t : Fin grid0.N, win0_1.index t 0 = 0 ∧ win0_1.index t 1 = t.val / 16 := by decide +kernel
theorem index_2 : ∀ t : Fin grid0.N, win0_2.index t 0 = t.val % 16 ∧ win0_2.index t 1 = t.val / 16 := by decide +kernel
theorem index_3 : ∀ t : Fin grid0.N, win0_3.index t 0 = t.val % 16 ∧ win0_3.index t 1 = t.val / 16 := by decide +kernel
theorem index_4 : ∀ t : Fin grid0.N, win0_4.index t 0 = 0 ∧ win0_4.index t 1 = t.val / 16 := by decide +kernel
theorem index_5 : ∀ t : Fin grid0.N, win0_5.index t 0 = t.val % 16 ∧ win0_5.index t 1 = t.val / 16 := by decide +kernel
theorem index_6 : ∀ t : Fin grid0.N, win0_6.index t 0 = t.val % 16 ∧ win0_6.index t 1 = t.val / 16 := by decide +kernel

theorem qB_apply (t : Fin cfg0.N) (n : Fin 8192) (l : Fin 256) : (qB m c t : FVec Ideal S8192x256 .bf16) (ix2 n l) = Qa m c (hd t) n l := by
  unfold qB iblk Qa opQ
  rw [View.read_apply]
  show V m c main_v208 _ = V m c main_v208 _
  refine congrArg _ (funext fun a => Fin.ext ?_)
  match a with
  | ⟨0, _⟩ => show win0_0.index t 0 * 8192 + 1 * n.val = n.val; rw [(index_0 t).1]; omega
  | ⟨1, _⟩ => show win0_0.index t 1 * 256 + 1 * l.val = t.val / 16 * 256 + l.val; rw [(index_0 t).2]; omega

theorem oB_apply (t : Fin cfg0.N) (n : Fin 8192) (l : Fin 256) : (oB m c t : FVec Ideal S8192x256 .bf16) (ix2 n l) = Da m c (hd t) n l := by
  unfold oB iblk Da opD
  rw [View.read_apply]
  show V m c main_v210 _ = V m c main_v210 _
  refine congrArg _ (funext fun a => Fin.ext ?_)
  match a with
  | ⟨0, _⟩ => show win0_1.index t 0 * 8192 + 1 * n.val = n.val; rw [(index_1 t).1]; omega
  | ⟨1, _⟩ => show win0_1.index t 1 * 256 + 1 * l.val = t.val / 16 * 256 + l.val; rw [(index_1 t).2]; omega

theorem kB_apply (t : Fin cfg0.N) (r : Fin 512) (l : Fin 256) : (kB m c t : FVec Ideal S512x256 .bf16) (ix2 r l) = Ka m c (hd t) (key t r) l := by
  unfold kB iblk Ka opK
  rw [View.read_apply]
  show V m c main_v212 _ = V m c main_v212 _
  refine congrArg _ (funext fun a => Fin.ext ?_)
  match a with
  | ⟨0, _⟩ => show win0_2.index t 0 * 512 + 1 * r.val = t.val % 16 * 512 + r.val; rw [(index_2 t).1]; omega
  | ⟨1, _⟩ => show win0_2.index t 1 * 256 + 1 * l.val = t.val / 16 * 256 + l.val; rw [(index_2 t).2]; omega

theorem vB_apply (t : Fin cfg0.N) (r : Fin 512) (l : Fin 256) : (vB m c t : FVec Ideal S512x256 .bf16) (ix2 r l) = Va m c (hd t) (key t r) l := by
  unfold vB iblk Va opV
  rw [View.read_apply]
  show V m c main_v214 _ = V m c main_v214 _
  refine congrArg _ (funext fun a => Fin.ext ?_)
  match a with
  | ⟨0, _⟩ => show win0_3.index t 0 * 512 + 1 * r.val = t.val % 16 * 512 + r.val; rw [(index_3 t).1]; omega
  | ⟨1, _⟩ => show win0_3.index t 1 * 256 + 1 * l.val = t.val / 16 * 256 + l.val; rw [(index_3 t).2]; omega

theorem qrow (t : Fin cfg0.N) (n : Fin 8192) (l : Fin 256) : row (e := .bf16) (qB m c t) n.val l = Qa m c (hd t) n l :=
  (row_fin _ n l).trans (qB_apply m c t n l)
theorem orow (t : Fin cfg0.N) (n : Fin 8192) (l : Fin 256) : row (e := .bf16) (oB m c t) n.val l = Da m c (hd t) n l :=
  (row_fin _ n l).trans (oB_apply m c t n l)

theorem wt_eq (t : Fin cfg0.N) (r : Fin 512) (n : Fin 8192) :
    wt (grid0.coords t 1).val (qB m c t) (kB m c t) r n.val = Wt m c (hd t) (key t r) n := by
  rw [wt, Wt, coords_eq]
  simp only [qrow, kB_apply]

theorem gw_eq (t : Fin cfg0.N) (r : Fin 512) (n : Fin 8192) :
    gw (grid0.coords t 1).val (qB m c t) (oB m c t) (kB m c t) (vB m c t) r n.val = Gw m c (hd t) (key t r) n := by
  rw [gw, Gw, wt_eq]
  simp only [orow, vB_apply]

/-! ## What a point leaves -/

/-- The key gradient's block. -/
theorem out_dk (t : Fin cfg0.N) (X : FVec Ideal S8192x256 .f32) (r : Fin 512) (l : Fin 256) :
    (outFrom m c t X).1.1 (ix2 r l) = ∑ n : Fin 8192, Gw m c (hd t) (key t r) n * Qa m c (hd t) n l := by
  refine ((bodyOut_upTo (grid0.coords t) _ _ _ _ X).dk r l).trans ?_
  rw [Finset.sum_range]
  exact Finset.sum_congr rfl fun n _ => by rw [gw_eq, qrow]

/-- The value gradient's block. -/
theorem out_dv (t : Fin cfg0.N) (X : FVec Ideal S8192x256 .f32) (r : Fin 512) (d : Fin 128) :
    (outFrom m c t X).1.2 (ix2 r d) = ∑ n : Fin 8192, Wt m c (hd t) (key t r) n * Da m c (hd t) n (Fin.castLE (by decide) d) := by
  refine ((bodyOut_upTo (grid0.coords t) _ _ _ _ X).dv r d).trans ?_
  rw [Finset.sum_range]
  exact Finset.sum_congr rfl fun n _ => by rw [wt_eq, orow]

/-- The query gradient's block, from the block before. -/
theorem out_dq (t : Fin cfg0.N) (X : FVec Ideal S8192x256 .f32) (n : Fin 8192) (l : Fin 256) :
    (outFrom m c t X).2 (ix2 n l) = X (ix2 n l) + ∑ r : Fin 512, Gw m c (hd t) (key t r) n * Ka m c (hd t) (key t r) l := by
  refine ((bodyOut_upTo (grid0.coords t) _ _ _ _ X).dq n l).trans ?_
  rw [if_pos n.isLt]
  exact congrArg (_ + ·) (Finset.sum_congr rfl fun r _ => by rw [gw_eq, kB_apply])

/-- Key `j`'s share of the query gradient, by key number; zero past the last key. -/
def share (h : Fin 16) (n : Fin 8192) (l : Fin 256) (j : ℕ) : EReal := if hj : j < 8192 then Gw m c h ⟨j, hj⟩ n * Ka m c h ⟨j, hj⟩ l else 0

/-- After a point the query gradient's block holds the shares of the keys met so far. -/
theorem dqAt_sum (t : ℕ) (ht : t < cfg0.N) (n : Fin 8192) (l : Fin 256) :
    (dqAt m c t ht : FVec Ideal S8192x256 .f32) (ix2 n l) = ∑ j ∈ Finset.range (t % 16 * 512 + 512), share m c (hd ⟨t, ht⟩) n l j := by
  have hN := N_eq
  have step : ∀ (t : Fin cfg0.N) (X : FVec Ideal S8192x256 .f32), X (ix2 n l) = ∑ j ∈ Finset.range (t.val % 16 * 512), share m c (hd t) n l j →
      (outFrom m c t X).2 (ix2 n l) = ∑ j ∈ Finset.range (t.val % 16 * 512 + 512), share m c (hd t) n l j := fun t X hX => by
    rw [out_dq, hX, Finset.sum_range_add, Finset.sum_range (fun x => share m c (hd t) n l (t.val % 16 * 512 + x))]
    refine congrArg (_ + ·) (Finset.sum_congr rfl fun r _ => ?_)
    rw [share, dif_pos (by omega)]
  have h20 : (k0_pay20 (F := Ideal)) (ix2 n l) = 0 := zero_f32
  induction t with
  | zero => exact step ⟨0, ht⟩ _ h20
  | succ t ih =>
    refine step ⟨t + 1, ht⟩ _ ?_
    dsimp only
    by_cases h0 : (t + 1) % 16 = 0
    · rw [if_pos h0, h0, Nat.zero_mul, Finset.range_zero, Finset.sum_empty]
      exact h20
    · rw [if_neg h0]
      refine (ih (by omega)).trans ?_
      have e1 : t % 16 * 512 + 512 = (t + 1) % 16 * 512 := by omega
      have e2 : (hd ⟨t, by omega⟩ : Fin 16) = hd ⟨t + 1, ht⟩ := Fin.ext (by show t / 16 = (t + 1) / 16; omega)
      rw [e1, e2]

/-! ## The three arrays -/

/-- The query gradient with its extra lanes. -/
def dqArr : FVec Ideal S8192x4096 .f32 := fun i =>
  ∑ j : Fin 8192, Gw m c ⟨(i 1).val / 256, by have := idx2_lt1 i; omega⟩ j (i 0) * Ka m c ⟨(i 1).val / 256, by have := idx2_lt1 i; omega⟩ j ⟨(i 1).val % 256, Nat.mod_lt _ (by decide)⟩
/-- The key gradient with its extra lanes. -/
def dkArr : FVec Ideal S8192x4096 .f32 := fun i =>
  ∑ n : Fin 8192, Gw m c ⟨(i 1).val / 256, by have := idx2_lt1 i; omega⟩ (i 0) n * Qa m c ⟨(i 1).val / 256, by have := idx2_lt1 i; omega⟩ n ⟨(i 1).val % 256, Nat.mod_lt _ (by decide)⟩
/-- The value gradient. -/
def dvArr : FVec Ideal S8192x2048 .f32 := fun i =>
  ∑ n : Fin 8192, Wt m c ⟨(i 1).val / 128, by have := idx2_lt1 i; omega⟩ (i 0) n * Da m c ⟨(i 1).val / 128, by have := idx2_lt1 i; omega⟩ n ⟨(i 1).val % 128, by omega⟩

theorem emb_4 (t : Fin cfg0.N) (y : ((cfg0.win 4).xblock (cfg0.grid.coords t)).Idx) :
    (((cfg0.win 4).blk t).view.emb y : S8192x4096.Idx) = ix2 (n0 := 8192) (n1 := 4096) ⟨(y 0).val, (y 0).isLt⟩ (col (hd t) ⟨(y 1).val, (y 1).isLt⟩) := by
  funext a; apply Fin.ext
  match a with
  | ⟨0, _⟩ => show win0_4.index t 0 * 8192 + 1 * (y 0).val = (y 0).val; rw [(index_4 t).1]; omega
  | ⟨1, _⟩ => show win0_4.index t 1 * 256 + 1 * (y 1).val = t.val / 16 * 256 + (y 1).val; rw [(index_4 t).2]; omega

theorem emb_5 (t : Fin cfg0.N) (y : ((cfg0.win 5).xblock (cfg0.grid.coords t)).Idx) :
    (((cfg0.win 5).blk t).view.emb y : S8192x4096.Idx) = ix2 (n0 := 8192) (n1 := 4096) (key t ⟨(y 0).val, (y 0).isLt⟩) (col (hd t) ⟨(y 1).val, (y 1).isLt⟩) := by
  funext a; apply Fin.ext
  match a with
  | ⟨0, _⟩ => show win0_5.index t 0 * 512 + 1 * (y 0).val = t.val % 16 * 512 + (y 0).val; rw [(index_5 t).1]; omega
  | ⟨1, _⟩ => show win0_5.index t 1 * 256 + 1 * (y 1).val = t.val / 16 * 256 + (y 1).val; rw [(index_5 t).2]; omega

theorem emb_6 (t : Fin cfg0.N) (y : ((cfg0.win 6).xblock (cfg0.grid.coords t)).Idx) :
    (((cfg0.win 6).blk t).view.emb y : S8192x2048.Idx) = ix2 (n0 := 8192) (n1 := 2048) (key t ⟨(y 0).val, (y 0).isLt⟩) (col128 (hd t) ⟨(y 1).val, (y 1).isLt⟩) := by
  funext a; apply Fin.ext
  match a with
  | ⟨0, _⟩ => show win0_6.index t 0 * 512 + 1 * (y 0).val = t.val % 16 * 512 + (y 0).val; rw [(index_6 t).1]; omega
  | ⟨1, _⟩ => show win0_6.index t 1 * 128 + 1 * (y 1).val = t.val / 16 * 128 + (y 1).val; rw [(index_6 t).2]; omega

theorem dqArr_apply (h : Fin 16) (n : Fin 8192) (l : Fin 256) : dqArr m c (ix2 n (col h l)) = ∑ j : Fin 8192, Gw m c h j n * Ka m c h j l := by
  have eh : (⟨(col h l).val / 256, by omega⟩ : Fin 16) = h := Fin.ext (by show (h.val * 256 + l.val) / 256 = h.val; omega)
  have el : (⟨(col h l).val % 256, by omega⟩ : Fin 256) = l := Fin.ext (by show (h.val * 256 + l.val) % 256 = l.val; omega)
  show ∑ j : Fin 8192, Gw m c ⟨(col h l).val / 256, _⟩ j n * Ka m c ⟨(col h l).val / 256, _⟩ j ⟨(col h l).val % 256, _⟩ = _
  rw [eh, el]

theorem dkArr_apply (h : Fin 16) (j : Fin 8192) (l : Fin 256) : dkArr m c (ix2 j (col h l)) = ∑ n : Fin 8192, Gw m c h j n * Qa m c h n l := by
  have eh : (⟨(col h l).val / 256, by omega⟩ : Fin 16) = h := Fin.ext (by show (h.val * 256 + l.val) / 256 = h.val; omega)
  have el : (⟨(col h l).val % 256, by omega⟩ : Fin 256) = l := Fin.ext (by show (h.val * 256 + l.val) % 256 = l.val; omega)
  show ∑ n : Fin 8192, Gw m c ⟨(col h l).val / 256, _⟩ j n * Qa m c ⟨(col h l).val / 256, _⟩ n ⟨(col h l).val % 256, _⟩ = _
  rw [eh, el]

theorem dvArr_apply (h : Fin 16) (j : Fin 8192) (d : Fin 128) : dvArr m c (ix2 j (col128 h d)) = ∑ n : Fin 8192, Wt m c h j n * Da m c h n (Fin.castLE (by decide) d) := by
  have eh : (⟨(col128 h d).val / 128, by omega⟩ : Fin 16) = h := Fin.ext (by show (h.val * 128 + d.val) / 128 = h.val; omega)
  have el : (⟨(col128 h d).val % 128, by omega⟩ : Fin 256) = Fin.castLE (by decide) d := Fin.ext (by show (h.val * 128 + d.val) % 128 = d.val; omega)
  show ∑ n : Fin 8192, Wt m c ⟨(col128 h d).val / 128, _⟩ j n * Da m c ⟨(col128 h d).val / 128, _⟩ n ⟨(col128 h d).val % 128, _⟩ = _
  rw [eh, el]

/-- The query gradient's array after the launch. -/
theorem final_dq : (dats m 0 c).arrAt 4 cfg0.N = dqArr m c := by
  refine (dats m 0 c).arrAt_eq_of_covers 4 _ (by decide +kernel) fun t hf y => ?_
  have hm : t.val % 16 = 15 := (flush0_4 t).mp hf
  refine Eq.trans ?_ (((dqAt_sum m c t.val t.isLt ⟨(y 0).val, (y 0).isLt⟩ ⟨(y 1).val, (y 1).isLt⟩).trans ?_).trans
    ((congrArg (dqArr m c) (emb_4 t y)).trans (dqArr_apply m c _ _ _)).symm)
  · show dqAt m c t.val t.isLt _ = _
    exact congrArg _ (eq_ix2 _)
  · rw [hm, show 15 * 512 + 512 = 8192 from rfl, Finset.sum_range]
    exact Finset.sum_congr rfl fun j _ => dif_pos j.isLt

/-- The key gradient's. -/
theorem final_dk : (dats m 0 c).arrAt 5 cfg0.N = dkArr m c := by
  refine (dats m 0 c).arrAt_eq_of_covers 5 _ (by decide +kernel) fun t hf y => ?_
  refine Eq.trans ?_ ((out_dk m c t (dqBase m c t) ⟨(y 0).val, (y 0).isLt⟩ ⟨(y 1).val, (y 1).isLt⟩).trans
    ((congrArg (dkArr m c) (emb_5 t y)).trans (dkArr_apply m c _ _ _)).symm)
  refine (cast_eq _ _).trans ((congrFun (after0_5 m c t) _).trans ?_)
  exact congrArg (outFrom m c t (dqBase m c t)).1.1 (eq_ix2 _)

/-- The value gradient's. -/
theorem final_dv : (dats m 0 c).arrAt 6 cfg0.N = dvArr m c := by
  refine (dats m 0 c).arrAt_eq_of_covers 6 _ (by decide +kernel) fun t hf y => ?_
  refine Eq.trans ?_ ((out_dv m c t (dqBase m c t) ⟨(y 0).val, (y 0).isLt⟩ ⟨(y 1).val, (y 1).isLt⟩).trans
    ((congrArg (dvArr m c) (emb_6 t y)).trans (dvArr_apply m c _ _ _)).symm)
  refine (cast_eq _ _).trans ((congrFun (after0_6 m c t) _).trans ?_)
  exact congrArg (outFrom m c t (dqBase m c t)).1.2 (eq_ix2 _)

end Cert.Proof.Attn

end
-- ==== Proof.Operands.lean ====
/-
  The kernel's four operands at a head, a row and a lane: the first 128 lanes are the argument's features, the last 128 the extra lanes.
-/
module

public import proofs.«01_k».proof.Proof.Lanes
public import proofs.«01_k».proof.Proof.Array

@[expose] public section

set_option maxRecDepth 16384

noncomputable section

namespace Cert.Proof.Attn

open Cert.KernelIdeal Cert.KernelIdeal.Gen
open Idealize.ShloMosaic hiding ix0 ix2 ix3
open Idealize.ShloMosaic.ValueIdx Idealize.ShloMosaic.TcCoe
open scoped BigOperators

/-- Two arrays side by side in the lanes, laid out by head. -/
abbrev paired (A B : FVec Ideal S8192x16x128 .bf16) : FVec Ideal S8192x4096 .bf16 :=
  shapeCast S8192x4096 (concatenate S8192x16x256 2 [⟨S8192x16x128, A⟩, ⟨S8192x16x128, B⟩] concatenates_S8192x16x128_S8192x16x128_S8192x16x256_d2)
    shapeCasts_S8192x16x256_S8192x4096

/-- A feature's lane. -/
abbrev lo (d : Fin 128) : Fin 256 := Fin.castAdd 128 d

/-- An extra lane. -/
abbrev hi (d : Fin 128) : Fin 256 := Fin.natAdd 128 d

theorem paired_at (C : FVec Ideal S8192x16x256 .bf16) (n : Fin 8192) (h : Fin 16) (l : Fin 256) :
    shapeCast S8192x4096 C shapeCasts_S8192x16x256_S8192x4096 (ix2 n (col h l)) = C (ix3 n h l) :=
  shapeCast_apply _ shapeCasts_S8192x16x256_S8192x4096 (ix2 n (col h l)) (ix3 n h l) (by
    rw [Shape.rowMajor_val_two, Shape.rowMajor_val_three]
    show (n.val * 16 + h.val) * 256 + l.val = n.val * 4096 + (h.val * 256 + l.val)
    omega)

variable (A B : FVec Ideal S8192x16x128 .bf16) (n : Fin 8192) (h : Fin 16) (d : Fin 128)

theorem paired_lo : paired A B (ix2 n (col h (lo d))) = A (ix3 n h d) := by
  unfold paired
  rw [paired_at]
  exact concatenate_pair_apply_left (s₁ := S8192x16x128) (s₂ := S8192x16x128) (t := S8192x16x256) 2 A B _ _ rfl (ix3 n h d) fun b => match b with
    | ⟨0, _⟩ => rfl
    | ⟨1, _⟩ => rfl
    | ⟨2, _⟩ => rfl

theorem paired_hi : paired A B (ix2 n (col h (hi d))) = B (ix3 n h d) := by
  unfold paired
  rw [paired_at]
  refine concatenate_pair_apply_right (s₁ := S8192x16x128) (s₂ := S8192x16x128) (t := S8192x16x256) 2 A B _ _ rfl rfl (ix3 n h d) (fun b hb => ?_) ?_
  · match b with
    | ⟨0, _⟩ => rfl
    | ⟨1, _⟩ => rfl
    | ⟨2, _⟩ => exact absurd rfl hb
  · show d.val + 128 = 128 + d.val
    omega

section
variable (U : Valuation τ sig (Elt Ideal))

theorem late_v208_lo {a b : ℝ} (ha : (U (Proc.devRef .tc main_v3) : FVec Ideal S8192x16x128 .f32) (ix3 n h d) = (a : EReal))
    (hb : (U (Proc.devRef .tc main_v2) : FVec Ideal S_ .f32) = fun _ => (b : EReal)) :
    (late U (Proc.devRef .tc main_v208) : FVec Ideal S8192x4096 .bf16) (ix2 n (col h (lo d))) = ((a * b : ℝ) : EReal) := by
  unfold late
  after_reads_simp
  refine (paired_lo _ _ n h d).trans ?_
  after_reads_simp
  rw [EReal.coe_mul, ← ha, hb]
  rfl

theorem late_v208_hi : (late U (Proc.devRef .tc main_v208) : FVec Ideal S8192x4096 .bf16) (ix2 n (col h (hi d)))
    = (late U (Proc.devRef .tc main_v118) : FVec Ideal S8192x16x128 .bf16) (ix3 n h d) := by
  unfold late
  after_reads_simp
  refine (paired_hi _ _ n h d).trans ?_
  after_reads_simp

theorem late_v210_lo : (late U (Proc.devRef .tc main_v210) : FVec Ideal S8192x4096 .bf16) (ix2 n (col h (lo d)))
    = (U (Proc.devRef .tc main_arg4) : FVec Ideal S8192x16x128 .bf16) (ix3 n h d) := by
  unfold late
  after_reads_simp
  refine (paired_lo _ _ n h d).trans ?_
  after_reads_simp

theorem late_v210_hi : (late U (Proc.devRef .tc main_v210) : FVec Ideal S8192x4096 .bf16) (ix2 n (col h (hi d)))
    = (late U (Proc.devRef .tc main_v203) : FVec Ideal S8192x16x128 .bf16) (ix3 n h d) := by
  unfold late
  after_reads_simp
  refine (paired_hi _ _ n h d).trans ?_
  after_reads_simp

theorem late_v212_lo : (late U (Proc.devRef .tc main_v212) : FVec Ideal S8192x4096 .bf16) (ix2 n (col h (lo d)))
    = (U (Proc.devRef .tc main_arg1) : FVec Ideal S8192x16x128 .bf16) (ix3 n h d) := by
  unfold late
  after_reads_simp
  refine (paired_lo _ _ n h d).trans ?_
  after_reads_simp

theorem late_v212_hi : (late U (Proc.devRef .tc main_v212) : FVec Ideal S8192x4096 .bf16) (ix2 n (col h (hi d)))
    = (late U (Proc.devRef .tc main_v173) : FVec Ideal S8192x16x128 .bf16) (ix3 n h d) := by
  unfold late
  after_reads_simp
  refine (paired_hi _ _ n h d).trans ?_
  after_reads_simp

theorem late_v214_lo : (late U (Proc.devRef .tc main_v214) : FVec Ideal S8192x4096 .bf16) (ix2 n (col h (lo d)))
    = (U (Proc.devRef .tc main_arg2) : FVec Ideal S8192x16x128 .bf16) (ix3 n h d) := by
  unfold late
  after_reads_simp
  refine (paired_lo _ _ n h d).trans ?_
  after_reads_simp

theorem late_v214_hi : (late U (Proc.devRef .tc main_v214) : FVec Ideal S8192x4096 .bf16) (ix2 n (col h (hi d)))
    = (late U (Proc.devRef .tc main_v178) : FVec Ideal S8192x16x128 .bf16) (ix3 n h d) := by
  unfold late
  after_reads_simp
  refine (paired_hi _ _ n h d).trans ?_
  after_reads_simp

end

end Cert.Proof.Attn

end
-- ==== Proof.Saved.lean ====
/-
  What the host code computes from the reference's forward lines before the launch: a query's saved base-two log-sum, its mean
  weight cotangent, and the decay in base two.
-/
module

public import proofs.«01_k».proof.Proof.Reals
public import proofs.«01_k».proof.Proof.Gen.KernelIdeal.Frame
public import Idealize.ShloMosaic.Lib.IdealHost
public import Idealize.ShloMosaic.Lib.Pipeline.Value
public import Idealize.ShloMosaic.Lib.StableHlo.RunRead

@[expose] public section

set_option maxRecDepth 16384

noncomputable section

namespace Cert.Proof.Attn

open Cert.KernelIdeal Cert.KernelIdeal.Gen
open Idealize.ShloMosaic Idealize.ShloMosaic.ValueIdx Idealize.ShloMosaic.TcCoe
open scoped BigOperators

/-! ## The softmax on the host -/

/-- A row's maximum. -/
abbrev rowMax (S : FVec Ideal S16x8192x8192 .f32) : FVec Ideal S16x8192 .f32 :=
  Host.reduce FloatOps.maximumf S (constant S_ .f32 4286578688#32) reducesTo_S16x8192x8192_S16x8192_d2 h_S_

/-- The row maxima as a column. -/
abbrev maxCol (S : FVec Ideal S16x8192x8192 .f32) : FVec Ideal S16x8192x1 .f32 :=
  broadcastInDim S16x8192x1 ![0, 1] bcast_S16x8192_S16x8192x1_0_1 (rowMax S)

/-- The exponentials of the lowered scores. -/
abbrev expo (S : FVec Ideal S16x8192x8192 .f32) : FVec Ideal S16x8192x8192 .f32 :=
  Host.exp (subf S (broadcastInDim S16x8192x8192 ![0, 1, 2] bcast_S16x8192x1_S16x8192x8192_0_1_2 (maxCol S)))

/-- Their row sums as a column. -/
abbrev sumCol (S : FVec Ideal S16x8192x8192 .f32) : FVec Ideal S16x8192x1 .f32 :=
  broadcastInDim S16x8192x1 ![0, 1] bcast_S16x8192_S16x8192x1_0_1
    (Host.reduceAdd (expo S) (constant S_ .f32 0#32) reducesTo_S16x8192x8192_S16x8192_d2 h_S_)

/-- A column spread over the keys. -/
theorem spread_keys (x : FVec Ideal S16x8192x1 .f32) (h : Fin 16) (t j : Fin 8192) :
    broadcastInDim S16x8192x8192 ![0, 1, 2] bcast_S16x8192x1_S16x8192x8192_0_1_2 x (ix3 h t j) = x (ix3 h t 0) :=
  broadcastInDim_apply _ _ x _ _ fun a => match a with
    | ⟨0, _⟩ => rfl
    | ⟨1, _⟩ => rfl
    | ⟨2, _⟩ => rfl

/-- A row array as a column. -/
theorem as_col (x : FVec Ideal S16x8192 .f32) (h : Fin 16) (t : Fin 8192) :
    broadcastInDim S16x8192x1 ![0, 1] bcast_S16x8192_S16x8192x1_0_1 x (ix3 h t 0) = x (ix2 h t) :=
  broadcastInDim_apply _ _ x _ _ fun a => match a with
    | ⟨0, _⟩ => rfl
    | ⟨1, _⟩ => rfl

/-- A row array of the other order as a column. -/
theorem as_col' (x : FVec Ideal S8192x16 .f32) (n : Fin 8192) (h : Fin 16) :
    broadcastInDim S8192x16x1 ![0, 1] bcast_S8192x16_S8192x16x1_0_1 x (ix3 n h 0) = x (ix2 n h) :=
  broadcastInDim_apply _ _ x _ _ fun a => match a with
    | ⟨0, _⟩ => rfl
    | ⟨1, _⟩ => rfl

section
variable {X : Ins} {M : Fin 16 → Fin 8192 → ℝ} {S : FVec Ideal S16x8192x8192 .f32}
  (hs : ∀ h t j, S (ix3 h t j) = if j ≤ t then (score X h t j : EReal) else ⊥)
  (hM : ∀ h t, rowMax S (ix2 h t) = (M h t : EReal))
include hs hM

theorem expo_at (h : Fin 16) (t j : Fin 8192) : expo S (ix3 h t j) = (unn X M h t j : EReal) := by
  show Ideal.exp (S (ix3 h t j) - broadcastInDim S16x8192x8192 ![0, 1, 2] bcast_S16x8192x1_S16x8192x8192_0_1_2 (maxCol S) (ix3 h t j)) = _
  rw [spread_keys, maxCol, as_col, hs, hM]
  by_cases hj : j ≤ t
  · rw [if_pos hj, unn_le X M h t j hj]; exact congrArg Ideal.exp (EReal.coe_sub _ _).symm
  · rw [if_neg hj, unn_late X M h t j hj, EReal.bot_sub]; rfl

theorem sumCol_at (h : Fin 16) (t : Fin 8192) : sumCol S (ix3 h t 0) = (tot X M h t : EReal) := by
  unfold sumCol
  rw [as_col]
  simp only [Host.reduceAdd, Ideal.hostReduceAdd_def]
  rw [Ideal.hostReduceAdd_single reducesTo_S16x8192x8192_S16x8192_d2 (by decide)]
  unfold tot
  rw [coe_sum]
  refine (congrArg₂ (· + ·) (zero_bits.trans EReal.coe_zero) (Finset.sum_congr rfl fun j _ => ?_)).trans (zero_add _)
  refine (congrArg (expo S) (funext fun a => Fin.ext ?_)).trans (expo_at hs hM h t j)
  match a with
  | ⟨0, _⟩ => rfl
  | ⟨1, _⟩ => rfl
  | ⟨2, _⟩ => rfl

/-- The weights. -/
theorem weight_at (h : Fin 16) (t j : Fin 8192) :
    Host.divf (expo S) (broadcastInDim S16x8192x8192 ![0, 1, 2] bcast_S16x8192x1_S16x8192x8192_0_1_2 (sumCol S)) (ix3 h t j)
      = (prob X M h t j : EReal) := by
  show Ideal.div (expo S (ix3 h t j)) (broadcastInDim S16x8192x8192 ![0, 1, 2] bcast_S16x8192x1_S16x8192x8192_0_1_2 (sumCol S) (ix3 h t j)) = _
  rw [spread_keys, sumCol_at hs hM, expo_at hs hM]
  refine (Ideal.div_coe (tot_pos X M _ _).ne' _).trans ?_
  exact (EReal.coe_mul _ _).symm.trans (congrArg _ (div_eq_mul_one_div _ _).symm)

end

/-- The row log-sums in base two, from the row maxima, the row sums and a scale. -/
def lseCol (A B : FVec Ideal S16x8192x1 .f32) (s : FVec Ideal S_ .f32) : FVec Ideal S8192x16x1 .f32 :=
  broadcastInDim S8192x16x1 ![0, 1] bcast_S8192x16_S8192x16x1_0_1
    (transpose S8192x16 [1, 0] (shapeCast S16x8192 (mulf (addf A (Host.log B)) (broadcastInDim S16x8192x1 ![] bcast_S_S16x8192x1 s))
      shapeCasts_S16x8192x1_S16x8192) transposes_S16x8192_S8192x16_1_0)

theorem lseCol_at (A B : FVec Ideal S16x8192x1 .f32) (s : FVec Ideal S_ .f32) (z : EReal) (hz : s = fun _ => z) (n : Fin 8192) (h : Fin 16) :
    lseCol A B s (ix3 n h 0) = (A (ix3 h n 0) + Ideal.log (B (ix3 h n 0))) * z := by
  unfold lseCol
  rw [as_col', transpose_apply [1, 0] _ transposes_S16x8192_S8192x16_1_0 (ix2 n h) (ix2 h n) (fun b => match b with
    | ⟨0, _⟩ => rfl
    | ⟨1, _⟩ => rfl)]
  refine (shapeCast_apply _ shapeCasts_S16x8192x1_S16x8192 (ix2 h n) (ix3 h n 0) (by
    rw [Shape.rowMajor_val_two, Shape.rowMajor_val_three]
    show (h.val * 8192 + n.val) * 1 + 0 = h.val * 8192 + n.val
    omega)).trans ?_
  rw [hz]
  rfl

/-- A product of the values with weights, transposed to the values' order. -/
theorem mix_at (x : FVec Ideal S8192x16x128 .f32) (P : FVec Ideal S16x8192x8192 .f32) (t : Fin 8192) (h : Fin 16) (d : Fin 128) :
    transpose S8192x16x128 [2, 0, 1] (Host.dotGeneral dot_S8192x16x128_S16x8192x8192_S16x128x8192_0_2_2_1_1_0 none x P)
      transposes_S16x128x8192_S8192x16x128_2_0_1 (ix3 t h d) = ∑ j : Fin 8192, x (ix3 j h d) * P (ix3 h t j) := by
  rw [transpose_apply [2, 0, 1] _ transposes_S16x128x8192_S8192x16x128_2_0_1 (ix3 t h d) (ix3 h d t) (fun b => match b with
    | ⟨0, _⟩ => rfl
    | ⟨1, _⟩ => rfl
    | ⟨2, _⟩ => rfl)]
  simp only [Host.dotGeneral]
  let D := dot_S8192x16x128_S16x8192x8192_S16x128x8192_0_2_2_1_1_0
  rw [Ideal.dotGeneral_apply, ← Equiv.sum_comp (contrEquiv1 D 8192 rfl rfl).symm]
  refine Finset.sum_congr rfl fun k _ => ?_
  have hk := contrEquiv1_symm_val D 8192 rfl rfl k
  refine congrArg₂ (· * ·) (congrArg x (funext fun a => Fin.ext ?_)) (congrArg P (funext fun a => Fin.ext ?_))
  · match a with
    | ⟨0, _⟩ => exact (D.lhsIdx_val_of_single rfl _ _).trans hk
    | ⟨1, _⟩ => rfl
    | ⟨2, _⟩ => rfl
  · match a with
    | ⟨0, _⟩ => rfl
    | ⟨1, _⟩ => rfl
    | ⟨2, _⟩ => exact (D.rhsIdx_val_of_single rfl _ _).trans hk

/-- The sum over a row's features. -/
theorem feature_sum (x : FVec Ideal S8192x16x128 .f32) (f : Fin 128 → ℝ) (n : Fin 8192) (h : Fin 16)
    (hx : ∀ d, x (ix3 n h d) = (f d : EReal)) :
    Host.reduceAdd x (constant S_ .f32 0#32) reducesTo_S8192x16x128_S8192x16_d2 h_S_ (ix2 n h) = ((∑ d, f d : ℝ) : EReal) := by
  simp only [Host.reduceAdd, Ideal.hostReduceAdd_def]
  rw [Ideal.hostReduceAdd_single reducesTo_S8192x16x128_S8192x16_d2 (by decide), coe_sum]
  refine (congrArg₂ (· + ·) (zero_bits.trans EReal.coe_zero) (Finset.sum_congr rfl fun d _ => ?_)).trans (zero_add _)
  refine (congrArg x (funext fun a => Fin.ext ?_)).trans (hx d)
  match a with
  | ⟨0, _⟩ => rfl
  | ⟨1, _⟩ => rfl
  | ⟨2, _⟩ => rfl

/-! ## The saved rows -/

section
variable (U : Valuation τ sig (Elt Ideal))

/-- The buffers once the saved rows are computed, from contents `U` that hold the masked scores. -/
abbrev mid : Valuation τ sig (Elt Ideal) := StableHlo.after (List.drop 32 (List.take 62 (hostOps0 (F := Ideal)))) U

variable {X : Ins} {M : Fin 16 → Fin 8192 → ℝ}
  (h1 : (U (Proc.devRef .tc main_v1) : FVec Ideal S_ .f32) = fun _ => ((1 / Real.log 2 : ℝ) : EReal))
include h1

theorem mid_decay (hc : ∀ n h, (U (Proc.devRef .tc main_arg3) : FVec Ideal S8192x16 .f32) (ix2 n h) = (X.cm n h : EReal)) (n : Fin 8192) (h : Fin 16) :
    (mid U (Proc.devRef .tc main_v49) : FVec Ideal S8192x16x1 .f32) (ix3 n h 0) = ((X.cm n h * (1 / Real.log 2) : ℝ) : EReal) := by
  unfold mid
  after_reads_simp
  rw [EReal.coe_mul, ← hc, h1]
  exact congrArg (· * _) (as_col' _ n h)

variable (hs : ∀ h t j, (U (Proc.devRef .tc main_v26) : FVec Ideal S16x8192x8192 .f32) (ix3 h t j) = if j ≤ t then (score X h t j : EReal) else ⊥)
  (hM : ∀ h t, rowMax (U (Proc.devRef .tc main_v26)) (ix2 h t) = (M h t : EReal))
include hs hM

theorem mid_lse (n : Fin 8192) (h : Fin 16) :
    (mid U (Proc.devRef .tc main_v44) : FVec Ideal S8192x16x1 .f32) (ix3 n h 0)
      = (((M h n + Real.log (tot X M h n)) * (1 / Real.log 2) : ℝ) : EReal) := by
  unfold mid
  after_reads_simp
  refine (lseCol_at (maxCol (U (Proc.devRef .tc main_v26))) (sumCol (U (Proc.devRef .tc main_v26))) _ _ h1 n h).trans ?_
  rw [sumCol_at hs hM, maxCol, as_col, hM, Ideal.log_coe, if_neg (not_le.2 (tot_pos X M h n)), EReal.coe_mul, EReal.coe_add]

theorem mid_dsum (hv : ∀ n h d, (U (Proc.devRef .tc main_v5) : FVec Ideal S8192x16x128 .f32) (ix3 n h d) = (X.v n h d : EReal))
    (hg : ∀ n h d, (U (Proc.devRef .tc main_v6) : FVec Ideal S8192x16x128 .f32) (ix3 n h d) = (X.g n h d : EReal)) (n : Fin 8192) (h : Fin 16) :
    (mid U (Proc.devRef .tc main_v52) : FVec Ideal S8192x16x1 .f32) (ix3 n h 0) = (dsum X M h n : EReal) := by
  unfold mid
  after_reads_simp
  refine (as_col' _ n h).trans ?_
  rw [← dsum_eq X M h n]
  refine feature_sum _ _ n h fun d => ?_
  rw [EReal.coe_mul, coe_sum, ← hg]
  refine congrArg₂ (fun a b : EReal => a * b) rfl
    ((mix_at _ _ n h d).trans (Finset.sum_congr rfl fun j _ => ?_))
  rw [weight_at hs hM, hv, EReal.coe_mul]

end

end Cert.Proof.Attn

end
-- ==== Proof.RefValue.lean ====
/-
  The reference's four results at finite arguments, as real numbers.
-/
module

public import proofs.«01_k».proof.Proof.Reals
public import proofs.«01_k».proof.Proof.Tile
public import proofs.«01_k».proof.Proof.Gen.ReferenceIdeal.Read

@[expose] public section

set_option maxRecDepth 16384

noncomputable section

namespace Cert.Proof.Attn

open Cert.ReferenceIdeal Cert.ReferenceIdeal.Gen Cert.ReferenceIdeal.Read
open Idealize.ShloMosaic Idealize.ShloMosaic.ValueIdx
open scoped BigOperators

/-- The five arguments are the real numbers `X`. -/
structure Holds (X : Ins) (x0 x1 x2 x4 : FVec Ideal S8192x16x128 .bf16) (x3 : FVec Ideal S8192x16 .f32) : Prop where
  q : ∀ i, x0 i = (X.q (i 0) (i 1) (i 2) : EReal)
  k : ∀ i, x1 i = (X.k (i 0) (i 1) (i 2) : EReal)
  v : ∀ i, x2 i = (X.v (i 0) (i 1) (i 2) : EReal)
  g : ∀ i, x4 i = (X.g (i 0) (i 1) (i 2) : EReal)
  cm : ∀ i, x3 i = (X.cm (i 0) (i 1) : EReal)

/-- The causal mask: a key is seen by the queries that are not before it. -/
theorem ref_mask (i : S16x8192x8192.Idx) : val_main_v20 (F := Ideal) i = if (i 2).val ≤ (i 1).val then 1#1 else 0#1 := by
  have h1 : (i 1).val < 8192 := (i 1).isLt
  have h2 : (i 2).val < 8192 := (i 2).isLt
  rw [val_main_v20_apply, val_main_v19_apply, val_main_v17_apply, val_main_v15_apply, val_main_v14_apply, val_main_v18_apply,
    val_main_v16_apply, val_main_v14_apply]
  exact word_ge (i 1).val (i 2).val (by omega) (by omega)

section
variable {X : Ins} {x0 x1 x2 x4 : FVec Ideal S8192x16x128 .bf16} {x3 : FVec Ideal S8192x16 .f32} (H : Holds X x0 x1 x2 x4 x3)
include H

/-- The masked scores. -/
theorem ref_score (i : S16x8192x8192.Idx) :
    val_main_v22 (F := Ideal) x0 x1 x3 i = if i 2 ≤ i 1 then (score X (i 0) (i 1) (i 2) : EReal) else ⊥ := by
  have hs : val_main_v13 (F := Ideal) x0 x1 x3 i = (score X (i 0) (i 1) (i 2) : EReal) := by
    rw [val_main_v13_apply, val_main_v9_apply, val_main_v5_apply, val_main_v3_apply, val_main_v4_apply, val_main_cst_apply, sc_bits,
      val_main_v8_apply, val_main_v7_apply, val_main_v6_apply, val_main_v12_apply, val_main_v11_apply, val_main_v10_apply]
    unfold score
    rw [EReal.coe_sub, EReal.coe_add, EReal.coe_mul, coe_sum, H.cm, H.cm]
    refine congrArg₂ (· - ·) (congrArg₂ (· + ·) (congrArg (· * _) (Finset.sum_congr rfl fun d _ => ?_)) rfl) rfl
    rw [val_main_v0_apply, val_main_v1_apply, EReal.coe_mul]
    exact congrArg₂ (· * ·) (H.q _) (H.k _)
  rw [val_main_v22_apply, hs, ref_mask, val_main_v21_apply, val_main_cst_0_apply, bot_bits]
  by_cases hji : i 2 ≤ i 1
  · rw [if_pos hji, if_pos (show (i 2).val ≤ (i 1).val from hji)]; rfl
  · rw [if_neg hji, if_neg (show ¬ (i 2).val ≤ (i 1).val from hji)]; rfl

/-- A row's maximum is a real number. -/
theorem ref_max : ∃ M : Fin 16 → Fin 8192 → ℝ, ∀ i : S16x8192.Idx, val_main_v24 (F := Ideal) x0 x1 x3 i = (M (i 0) (i 1) : EReal) := by
  have key : ∀ i : S16x8192.Idx, ∃ r : ℝ, val_main_v24 (F := Ideal) x0 x1 x3 i = (r : EReal) := fun i => by
    unfold val_main_v24
    rw [Host.reduce_eq_fold_single FloatOps.maximumf _ _ _ (by decide) h_S_, val_main_cst_2_apply, bot_bits]
    refine ⟨_, (EReal.coe_toReal (ne_of_lt ?_) (ne_of_gt ?_)).symm⟩
    · refine Finset.fold_max_lt _ |>.2 ⟨bot_lt_top, fun j _ => ?_⟩
      show val_main_v22 (F := Ideal) x0 x1 x3 _ < ⊤
      rw [ref_score H]
      split
      · exact EReal.coe_lt_top _
      · exact bot_lt_top
    · refine Finset.lt_fold_max _ |>.2 (.inr ⟨(⟨0, by decide⟩ : Fin 8192), Finset.mem_univ _, ?_⟩)
      show ⊥ < val_main_v22 (F := Ideal) x0 x1 x3 _
      rw [ref_score H]
      exact lt_of_lt_of_eq (EReal.bot_lt_coe _) (if_pos (Nat.zero_le _)).symm
  refine ⟨fun h t => (key (ix2 h t)).choose, fun i => ?_⟩
  rw [eq_ix2 i]
  exact (key _).choose_spec

section
variable {M : Fin 16 → Fin 8192 → ℝ} (HM : ∀ i : S16x8192.Idx, val_main_v24 (F := Ideal) x0 x1 x3 i = (M (i 0) (i 1) : EReal))
include HM

/-- The exponentials. -/
theorem ref_unn (i : S16x8192x8192.Idx) : val_main_v44 (F := Ideal) x0 x1 x3 i = (unn X M (i 0) (i 1) (i 2) : EReal) := by
  rw [val_main_v44_apply, val_main_v43_apply, ref_score H, val_main_v42_apply, val_main_v41_apply, val_main_v31_apply, HM,
    val_main_v30_apply, val_main_cst_4_apply, bot_bits]
  show Ideal.exp ((if i 2 ≤ i 1 then _ else _) - max ⊥ _) = _
  rw [max_eq_right bot_le]
  by_cases h : i 2 ≤ i 1
  · rw [if_pos h, unn_le X M (i 0) (i 1) (i 2) h]; exact congrArg Ideal.exp (EReal.coe_sub _ _).symm
  · rw [if_neg h, unn_late X M (i 0) (i 1) (i 2) h, EReal.bot_sub]; rfl

/-- The normalisers. -/
theorem ref_tot (i : S16x8192x1.Idx) : val_main_v46 (F := Ideal) x0 x1 x3 i = (tot X M (i 0) (i 1) : EReal) := by
  rw [val_main_v46_apply, val_main_v45_apply, val_main_cst_10_apply, zero_bits]
  unfold tot
  rw [coe_sum, EReal.coe_zero, zero_add]
  exact Finset.sum_congr rfl fun j _ => ref_unn H HM _

/-- The weights. -/
theorem ref_prob (i : S16x8192x8192.Idx) : val_main_v48 (F := Ideal) x0 x1 x3 i = (prob X M (i 0) (i 1) (i 2) : EReal) := by
  rw [val_main_v48_apply, ref_unn H HM, val_main_v47_apply, ref_tot H HM]
  refine (Ideal.div_coe (tot_pos X M _ _).ne' _).trans ?_
  exact (EReal.coe_mul _ _).symm.trans (congrArg _ (div_eq_mul_one_div _ _).symm)

/-- The weights' cotangents. -/
theorem ref_dprob (i : S16x8192x8192.Idx) : val_main_v56 (F := Ideal) x2 x4 i = (dprob X (i 0) (i 1) (i 2) : EReal) := by
  rw [val_main_v56_apply]
  unfold dprob
  rw [coe_sum]
  refine Finset.sum_congr rfl fun d _ => ?_
  rw [val_main_v55_apply, val_main_v54_apply, val_main_v2_apply, EReal.coe_mul]
  exact congrArg₂ (· * ·) (H.g _) (H.v _)

/-- The scores' cotangents. -/
theorem ref_dscore (i : S16x8192x8192.Idx) : val_main_v72 (F := Ideal) x0 x1 x2 x3 x4 i = (dscore X M (i 0) (i 1) (i 2) : EReal) := by
  have hsq : ∀ a : S16x8192x1.Idx, val_main_v51 (F := Ideal) x0 x1 x3 a
      = ((1 / (tot X M (a 0) (a 1) * tot X M (a 0) (a 1)) : ℝ) : EReal) := fun a => by
    rw [val_main_v51_apply, val_main_v50_apply, val_main_cst_11_apply, one_bits, val_main_v49_apply, ref_tot H HM]
    refine (congrArg (Ideal.div _) (EReal.coe_mul _ _).symm).trans ((Ideal.div_coe (mul_pos (tot_pos X M _ _) (tot_pos X M _ _)).ne' _).trans ?_)
    exact (EReal.coe_mul _ _).symm.trans (congrArg _ (one_mul _))
  have hmean : ∀ a : S16x8192.Idx, val_main_v67 (F := Ideal) x0 x1 x2 x3 x4 a
      = ((-∑ j, dprob X (a 0) (a 1) j * (1 / (tot X M (a 0) (a 1) * tot X M (a 0) (a 1))) * unn X M (a 0) (a 1) j : ℝ) : EReal) := fun a => by
    have h1 : (a 1).val < 8192 := (a 1).isLt
    have ei : idx_main_v63 (idx_main_v67 a 0) = a := funext fun b => Fin.ext (by
      match b with
      | ⟨0, _⟩ => show (((a 0).val * 8192 + (a 1).val) * 1 + 0) / 8192 = (a 0).val; omega
      | ⟨1, _⟩ => show (((a 0).val * 8192 + (a 1).val) * 1 + 0) % 8192 = (a 1).val; omega)
    rw [val_main_v67_apply, val_main_cst_13_apply, zero_bits, EReal.coe_zero, zero_add, Fin.sum_univ_one, val_main_v64_apply,
      val_main_v63_apply, ei, val_main_v62_apply, val_main_cst_12_apply, zero_bits, EReal.coe_zero, zero_add, EReal.coe_neg, coe_sum]
    refine congrArg Neg.neg (Finset.sum_congr rfl fun j _ => ?_)
    rw [val_main_v61_apply, val_main_v60_apply, ref_dprob H HM, val_main_v59_apply, hsq, ref_unn H HM, EReal.coe_mul, EReal.coe_mul]
    rfl
  rw [val_main_v72_apply, ref_mask, val_main_v71_apply, val_main_cst_14_apply, zero_bits]
  by_cases hji : i 2 ≤ i 1
  · rw [if_pos (show (i 2).val ≤ (i 1).val from hji), ← dscore_eq X M (i 0) (i 1) (i 2), EReal.coe_mul, EReal.coe_add]
    show val_main_v70 (F := Ideal) x0 x1 x2 x3 x4 i = _
    rw [val_main_v70_apply, val_main_v69_apply, val_main_v66_apply, val_main_v68_apply, hmean, ref_unn H HM, ref_dprob H HM,
      val_main_v65_apply, ref_tot H HM]
    refine congrArg₂ (· * ·) (congrArg₂ (· + ·) ?_ rfl) rfl
    refine (Ideal.div_coe (tot_pos X M _ _).ne' _).trans ?_
    exact (EReal.coe_mul _ _).symm.trans (congrArg _ (div_eq_mul_one_div _ _).symm)
  · rw [if_neg (show ¬ (i 2).val ≤ (i 1).val from hji), dscore_late X M (i 0) (i 1) (i 2) hji]; rfl

/-- The value gradient. -/
theorem ref_dv (i : S8192x16x128.Idx) :
    val_main_v58 (F := Ideal) x0 x1 x3 x4 i = ((∑ t, X.g t (i 1) (i 2) * prob X M (i 1) t (i 0) : ℝ) : EReal) := by
  rw [val_main_v58_apply, val_main_v57_apply, coe_sum]
  refine Finset.sum_congr rfl fun t _ => ?_
  rw [val_main_v55_apply, val_main_v54_apply, ref_prob H HM, EReal.coe_mul]
  exact congrArg₂ (· * ·) (H.g _) rfl

/-- The key gradient. -/
theorem ref_dk (i : S8192x16x128.Idx) :
    val_main_v86 (F := Ideal) x0 x1 x2 x3 x4 i = ((∑ t, dscore X M (i 1) t (i 0) * sc * X.q t (i 1) (i 2) : ℝ) : EReal) := by
  rw [val_main_v86_apply, val_main_v85_apply, coe_sum]
  refine Finset.sum_congr rfl fun t _ => ?_
  rw [val_main_v84_apply, ref_dscore H HM, val_main_v83_apply, val_main_cst_19_apply, sc_bits, val_main_v0_apply, EReal.coe_mul, EReal.coe_mul]
  exact congrArg₂ (· * ·) rfl (H.q _)

/-- The query gradient. -/
theorem ref_dq (i : S8192x16x128.Idx) :
    val_main_v88 (F := Ideal) x0 x1 x2 x3 x4 i = ((∑ j, dscore X M (i 1) (i 0) j * sc * X.k j (i 1) (i 2) : ℝ) : EReal) := by
  rw [val_main_v88_apply, val_main_v87_apply, coe_sum]
  refine Finset.sum_congr rfl fun t _ => ?_
  rw [val_main_v84_apply, ref_dscore H HM, val_main_v83_apply, val_main_cst_19_apply, sc_bits, val_main_v1_apply, EReal.coe_mul, EReal.coe_mul]
  exact congrArg₂ (· * ·) rfl (H.k _)

/-- The gradient of the running sum of the log-gates. -/
theorem ref_dcm (i : S8192x16.Idx) :
    val_main_v82 (F := Ideal) x0 x1 x2 x3 x4 i
      = ((∑ t, -dscore X M (i 1) t (i 0) + ∑ j, dscore X M (i 1) (i 0) j : ℝ) : EReal) := by
  have h0 : (i 0).val < 8192 := (i 0).isLt
  have e75 : idx_main_v75 (idx_main_v76 (idx_main_v77 i) 0) = idx_main_v77 i := funext fun b => Fin.ext (by
    match b with
    | ⟨0, _⟩ => show (((i 1).val * 1 + 0) * 8192 + (i 0).val) / 8192 = (i 1).val; omega
    | ⟨1, _⟩ => show (((i 1).val * 1 + 0) * 8192 + (i 0).val) % 8192 = (i 0).val; omega)
  have e79 : idx_main_v79 (idx_main_v80 (idx_main_v81 i) 0) = idx_main_v81 i := funext fun b => Fin.ext (by
    match b with
    | ⟨0, _⟩ => show (((i 1).val * 8192 + (i 0).val) * 1 + 0) / 8192 = (i 1).val; omega
    | ⟨1, _⟩ => show (((i 1).val * 8192 + (i 0).val) * 1 + 0) % 8192 = (i 0).val; omega)
  rw [val_main_v82_apply, val_main_v77_apply, val_main_v76_apply, val_main_v81_apply, val_main_v80_apply, val_main_cst_16_apply,
    val_main_cst_18_apply, zero_bits, EReal.coe_zero, zero_add, zero_add, Fin.sum_univ_one, Fin.sum_univ_one, val_main_v75_apply, e75,
    val_main_v74_apply, val_main_v79_apply, e79, val_main_v78_apply, val_main_cst_15_apply, val_main_cst_17_apply, zero_bits,
    EReal.coe_zero, zero_add, zero_add, EReal.coe_add, coe_sum, coe_sum]
  refine congrArg₂ (· + ·) (Finset.sum_congr rfl fun t _ => ?_) (Finset.sum_congr rfl fun t _ => ref_dscore H HM _)
  rw [val_main_v73_apply, ref_dscore H HM, EReal.coe_neg]
  rfl

end
end

end Cert.Proof.Attn

end
-- ==== Proof.Weights.lean ====
/-
  The kernel's operands, weights and score cotangents at finite arguments, as real numbers.
-/
module

public import proofs.«01_k».proof.Proof.Operands
public import proofs.«01_k».proof.Proof.Saved
public import proofs.«01_k».proof.Proof.RefValue

@[expose] public section

set_option maxRecDepth 16384

noncomputable section

namespace Cert.Proof.Attn

open Cert.KernelIdeal Cert.KernelIdeal.Gen
open Idealize.ShloMosaic hiding ix0 ix2 ix3
open Idealize.ShloMosaic.ValueIdx Idealize.ShloMosaic.TcCoe
open scoped BigOperators

/-! ## The host lines in three parts -/

/-- The buffers once the masked scores are computed, from contents `W` at the start. -/
abbrev early (W : Valuation τ sig (Elt Ideal)) : Valuation τ sig (Elt Ideal) := StableHlo.after (List.take 32 (hostOps0 (F := Ideal))) W

/-- Running two lists one after the other. -/
theorem after_two (l l' : List (HloOp τ sig (Elt Ideal))) (W : Valuation τ sig (Elt Ideal)) :
    StableHlo.after (l ++ l') W = StableHlo.after l' (StableHlo.after l W) := by
  induction l generalizing W with
  | nil => rfl
  | cons op l ih => exact ih _

theorem after_parts (W : Valuation τ sig (Elt Ideal)) : StableHlo.after (List.flatten [hostOps0 (F := Ideal)]) W = late (mid (early W)) := by
  unfold late mid early
  rw [← after_two, ← after_two]
  refine congrArg (fun l => StableHlo.after l W) ?_
  rw [List.flatten_singleton]
  have h : List.take 32 (hostOps0 (F := Ideal)) = List.take 32 (List.take 62 (hostOps0 (F := Ideal))) := by rw [List.take_take]; rfl
  rw [h, ← List.append_assoc, List.take_append_drop, List.take_append_drop]

section
variable (W : Valuation τ sig (Elt Ideal))

/-- The masked scores are the reference's. -/
theorem early_score : early W (Proc.devRef .tc main_v26) = Cert.ReferenceIdeal.Read.val_main_v22 (F := Ideal) (W (Proc.devRef .tc main_arg0))
    (W (Proc.devRef .tc main_arg1)) (W (Proc.devRef .tc main_arg3)) := by
  unfold early
  after_reads_simp
  rfl

theorem early_v1 : (early W (Proc.devRef .tc main_v1) : FVec Ideal S_ .f32) = fun _ => ((1 / Real.log 2 : ℝ) : EReal) := by
  unfold early
  after_reads_simp
  funext i
  show Ideal.div (FloatOps.ofBits (F := Ideal) .f32 1065353216#32 : EReal) (Ideal.log (FloatOps.ofBits (F := Ideal) .f32 1073741824#32 : EReal)) = _
  rw [one_bits, two_bits, Ideal.log_coe, if_neg (by norm_num), Ideal.div_coe (Real.log_pos (by norm_num)).ne', ← EReal.coe_mul, one_mul]

theorem early_v2 : (early W (Proc.devRef .tc main_v2) : FVec Ideal S_ .f32) = fun _ => ((sc * (1 / Real.log 2) : ℝ) : EReal) := by
  unfold early
  after_reads_simp
  funext i
  show (FloatOps.ofBits (F := Ideal) .f32 1035273459#32 : EReal) *
    Ideal.div (FloatOps.ofBits (F := Ideal) .f32 1065353216#32 : EReal) (Ideal.log (FloatOps.ofBits (F := Ideal) .f32 1073741824#32 : EReal)) = _
  rw [sc_bits, one_bits, two_bits, Ideal.log_coe, if_neg (by norm_num), Ideal.div_coe (Real.log_pos (by norm_num)).ne', ← EReal.coe_mul, one_mul, EReal.coe_mul]

theorem early_v0 : (early W (Proc.devRef .tc main_v0) : FVec Ideal S_ .f32) = fun _ => ((Real.log 2 : ℝ) : EReal) := by
  unfold early
  after_reads_simp
  funext i
  show Ideal.log (FloatOps.ofBits (F := Ideal) .f32 1073741824#32 : EReal) = _
  rw [two_bits, Ideal.log_coe, if_neg (by norm_num)]

theorem early_v3 : (early W (Proc.devRef .tc main_v3) : FVec Ideal S8192x16x128 .f32) = (W (Proc.devRef .tc main_arg0) : FVec Ideal S8192x16x128 .bf16) := by
  unfold early
  after_reads_simp
  rfl

theorem early_v5 : (early W (Proc.devRef .tc main_v5) : FVec Ideal S8192x16x128 .f32) = (W (Proc.devRef .tc main_arg2) : FVec Ideal S8192x16x128 .bf16) := by
  unfold early
  after_reads_simp
  rfl

theorem early_v6 : (early W (Proc.devRef .tc main_v6) : FVec Ideal S8192x16x128 .f32) = (W (Proc.devRef .tc main_arg4) : FVec Ideal S8192x16x128 .bf16) := by
  unfold early
  after_reads_simp
  rfl

theorem early_arg3 : early W (Proc.devRef .tc main_arg3) = W (Proc.devRef .tc main_arg3) := by unfold early; after_reads_simp

theorem mid_v45 : mid W (Proc.devRef .tc main_v45) = iotaInDim S8192x16x128 32 2 := by unfold mid; after_reads_simp

theorem mid_v46 : mid W (Proc.devRef .tc main_v46) = broadcastInDim S8192x16x128 ![] bcast_S_S8192x16x128 (constant (F := Ideal) S_ .f32 0#32) := by
  unfold mid; after_reads_simp

theorem mid_v2 : mid W (Proc.devRef .tc main_v2) = W (Proc.devRef .tc main_v2) := by unfold mid; after_reads_simp
theorem mid_v3 : mid W (Proc.devRef .tc main_v3) = W (Proc.devRef .tc main_v3) := by unfold mid; after_reads_simp
theorem parts_v0 : (late (mid (early W)) (Proc.devRef .tc main_v0) : FVec Ideal S_ .f32) = fun _ => ((Real.log 2 : ℝ) : EReal) := by
  refine Eq.trans ?_ (early_v0 W)
  generalize early W = Y
  unfold late mid
  after_reads_simp
theorem mid_arg1 : mid (early W) (Proc.devRef .tc main_arg1) = W (Proc.devRef .tc main_arg1) := by unfold mid early; after_reads_simp
theorem mid_arg2 : mid (early W) (Proc.devRef .tc main_arg2) = W (Proc.devRef .tc main_arg2) := by unfold mid early; after_reads_simp
theorem mid_arg4 : mid (early W) (Proc.devRef .tc main_arg4) = W (Proc.devRef .tc main_arg4) := by unfold mid early; after_reads_simp

end

/-! ## At finite arguments -/

section
variable (m : (ℓ : Loc nD τ sig) → Buf (Elt Ideal) ℓ) (c : Dev nD) {X : Ins} {M : Fin 16 → Fin 8192 → ℝ}

/-- The arguments on device `c` are the real numbers `X`, and `M` is its row maxima. -/
structure Reads (X : Ins) (M : Fin 16 → Fin 8192 → ℝ) : Prop where
  args : Holds X (m (c, (Proc.devRef .tc main_arg0))) (m (c, (Proc.devRef .tc main_arg1))) (m (c, (Proc.devRef .tc main_arg2)))
    (m (c, (Proc.devRef .tc main_arg4))) (m (c, (Proc.devRef .tc main_arg3)))
  tops : ∀ i, Cert.ReferenceIdeal.Read.val_main_v24 (F := Ideal) (m (c, (Proc.devRef .tc main_arg0))) (m (c, (Proc.devRef .tc main_arg1)))
    (m (c, (Proc.devRef .tc main_arg3))) i = (M (i 0) (i 1) : EReal)

/-- The buffers before the operands are built. -/
abbrev saved : Valuation τ sig (Elt Ideal) := mid (early fun b => m (c, b))

theorem V_late (r : Ref sig .tc) : V m c r = late (saved m c) (Proc.devRef .tc r) :=
  congrFun (after_parts fun b => m (c, b)) (Proc.devRef .tc r)

variable {m c} (H : Reads m c X M)
include H

theorem early_hs (h : Fin 16) (t j : Fin 8192) :
    (early (fun b => m (c, b)) (Proc.devRef .tc main_v26) : FVec Ideal S16x8192x8192 .f32) (ix3 h t j) = if j ≤ t then (score X h t j : EReal) else ⊥ := by
  rw [early_score]
  exact ref_score H.args (ix3 h t j)

theorem early_hM (h : Fin 16) (t : Fin 8192) : rowMax (early (fun b => m (c, b)) (Proc.devRef .tc main_v26)) (ix2 h t) = (M h t : EReal) := by
  rw [early_score]
  exact H.tops (ix2 h t)

theorem saved_decay (n : Fin 8192) (h : Fin 16) :
    (saved m c (Proc.devRef .tc main_v49) : FVec Ideal S8192x16x1 .f32) (ix3 n h 0) = ((X.cm n h * (1 / Real.log 2) : ℝ) : EReal) :=
  mid_decay _ (early_v1 _) (fun n h => by rw [early_arg3]; exact H.args.cm (ix2 n h)) n h

theorem saved_lse (n : Fin 8192) (h : Fin 16) :
    (saved m c (Proc.devRef .tc main_v44) : FVec Ideal S8192x16x1 .f32) (ix3 n h 0)
      = (((M h n + Real.log (tot X M h n)) * (1 / Real.log 2) : ℝ) : EReal) :=
  mid_lse _ (early_v1 _) (early_hs H) (early_hM H) n h

theorem saved_dsum (n : Fin 8192) (h : Fin 16) :
    (saved m c (Proc.devRef .tc main_v52) : FVec Ideal S8192x16x1 .f32) (ix3 n h 0) = (dsum X M h n : EReal) :=
  mid_dsum _ (early_v1 _) (early_hs H) (early_hM H) (fun n h d => by rw [early_v5]; exact H.args.v (ix3 n h d))
    (fun n h d => by rw [early_v6]; exact H.args.g (ix3 n h d)) n h

/-! ## The operands -/

theorem Qa_lo (h : Fin 16) (n : Fin 8192) (d : Fin 128) : Qa m c h n (lo d) = ((X.q n h d * (sc * (1 / Real.log 2)) : ℝ) : EReal) := by
  unfold Qa opQ
  rw [V_late]
  refine late_v208_lo n h d _ ?_ ?_
  · rw [saved, mid_v3, early_v3]; exact H.args.q (ix3 n h d)
  · rw [saved, mid_v2]; exact early_v2 _

theorem Qa_hi (h : Fin 16) (n : Fin 8192) (d : Fin 128) : Qa m c h n (hi d)
    = (qLane (X.cm n h * (1 / Real.log 2)) ((M h n + Real.log (tot X M h n)) * (1 / Real.log 2)) d.val : EReal) := by
  unfold Qa opQ
  rw [V_late]
  exact (late_v208_hi n h d _).trans (late_q n h d _ (mid_v45 _) (mid_v46 _) (saved_decay H n h) (saved_lse H n h))

theorem Ka_lo (h : Fin 16) (j : Fin 8192) (d : Fin 128) : Ka m c h j (lo d) = (X.k j h d : EReal) := by
  unfold Ka opK
  rw [V_late]
  refine (late_v212_lo j h d _).trans ?_
  rw [saved, mid_arg1]; exact H.args.k (ix3 j h d)

theorem Ka_hi (h : Fin 16) (j : Fin 8192) (d : Fin 128) : Ka m c h j (hi d) = (kLane (X.cm j h * (1 / Real.log 2)) d.val : EReal) := by
  unfold Ka opK
  rw [V_late]
  exact (late_v212_hi j h d _).trans (late_k j h d _ (mid_v45 _) (mid_v46 _) (saved_decay H j h))

theorem Da_lo (h : Fin 16) (n : Fin 8192) (d : Fin 128) : Da m c h n (lo d) = (X.g n h d : EReal) := by
  unfold Da opD
  rw [V_late]
  refine (late_v210_lo n h d _).trans ?_
  rw [saved, mid_arg4]; exact H.args.g (ix3 n h d)

theorem Da_hi (h : Fin 16) (n : Fin 8192) (d : Fin 128) : Da m c h n (hi d) = (dLane (dsum X M h n) d.val : EReal) := by
  unfold Da opD
  rw [V_late]
  exact (late_v210_hi n h d _).trans (late_d n h d _ (mid_v45 _) (mid_v46 _) (saved_dsum H n h))

theorem Va_lo (h : Fin 16) (j : Fin 8192) (d : Fin 128) : Va m c h j (lo d) = (X.v j h d : EReal) := by
  unfold Va opV
  rw [V_late]
  refine (late_v214_lo j h d _).trans ?_
  rw [saved, mid_arg2]; exact H.args.v (ix3 j h d)

omit H in
theorem Va_hi (h : Fin 16) (j : Fin 8192) (d : Fin 128) : Va m c h j (hi d) = (vLane d.val : EReal) := by
  unfold Va opV
  rw [V_late]
  exact (late_v214_hi j h d _).trans (late_v j h d _ (mid_v45 _) (mid_v46 _))

/-! ## Weights and score cotangents -/

omit H in
/-- A sum over an operand's lanes: the features, then the extra lanes. -/
theorem lanes_sum (f : Fin 256 → EReal) : ∑ l : Fin 256, f l = ∑ d : Fin 128, f (lo d) + ∑ d : Fin 128, f (hi d) :=
  Fin.sum_univ_add (a := 128) (b := 128) f

/-- The kernel's weights are the softmax's. -/
theorem Wt_eq (h : Fin 16) (j n : Fin 8192) : Wt m c h j n = (prob X M h n j : EReal) := by
  unfold Wt
  by_cases hj : j.val ≤ n.val
  · rw [if_pos hj, lanes_sum]
    have e1 : ∑ d : Fin 128, Ka m c h j (lo d) * Qa m c h n (lo d)
        = ((∑ d, X.k j h d * (X.q n h d * (sc * (1 / Real.log 2))) : ℝ) : EReal) := by
      rw [coe_sum]
      exact Finset.sum_congr rfl fun d _ => by rw [Ka_lo H, Qa_lo H, ← EReal.coe_mul]
    have e2 : ∑ d : Fin 128, Ka m c h j (hi d) * Qa m c h n (hi d)
        = ((X.cm n h * (1 / Real.log 2) + -(X.cm j h * (1 / Real.log 2)) + -((M h n + Real.log (tot X M h n)) * (1 / Real.log 2)) : ℝ) : EReal) := by
      rw [← qk_lanes, coe_sum]
      exact Finset.sum_congr rfl fun d _ => by rw [Ka_hi H, Qa_hi H, ← EReal.coe_mul]
    rw [e1, e2, ← EReal.coe_add, Ideal.exp2_coe, ← prob_exp2 X M h n j hj]
    rfl
  · rw [if_neg hj, prob, unn_late X M h n j hj, zero_div, EReal.coe_zero]

/-- The kernel's score cotangents are the softmax's. -/
theorem Gw_eq (h : Fin 16) (j n : Fin 8192) : Gw m c h j n = (dscore X M h n j : EReal) := by
  unfold Gw
  have e1 : ∑ d : Fin 128, Va m c h j (lo d) * Da m c h n (lo d) = (dprob X h n j : EReal) := by
    unfold dprob
    rw [coe_sum]
    exact Finset.sum_congr rfl fun d _ => by rw [Va_lo H, Da_lo H, ← EReal.coe_mul, mul_comm]
  have e2 : ∑ d : Fin 128, Va m c h j (hi d) * Da m c h n (hi d) = ((-dsum X M h n : ℝ) : EReal) := by
    rw [← dv_lanes, coe_sum]
    exact Finset.sum_congr rfl fun d _ => by rw [Va_hi, Da_hi H, ← EReal.coe_mul]
  rw [Wt_eq H, lanes_sum, e1, e2, ← EReal.coe_add, ← EReal.coe_mul, ← sub_eq_add_neg]
  rfl

end

end Cert.Proof.Attn

end
-- ==== Proof.Tail.lean ====
/-
  The host lines after the launch, and with them the kernel's four results at finite arguments: they are the reference's.
-/
module

public import proofs.«01_k».proof.Proof.Weights

@[expose] public section

set_option maxRecDepth 16384

noncomputable section

namespace Cert.Proof.Attn

open Cert.KernelIdeal Cert.KernelIdeal.Gen
open Idealize.ShloMosaic hiding ix0 ix2 ix3
open Idealize.ShloMosaic.ValueIdx Idealize.ShloMosaic.TcCoe
open scoped BigOperators

/-! ## The lines, from any contents -/

section
variable (U : Valuation τ sig (Elt Ideal)) (n : Fin 8192) (h : Fin 16) (d : Fin 128)

/-- The buffers after the launch's last host lines. -/
abbrev tail : Valuation τ sig (Elt Ideal) := StableHlo.after (hostOps1 (F := Ideal)) U

/-- The feature lanes of a widened gradient. -/
theorem feature_lane (A : FVec Ideal S8192x4096 .f32) :
    extractStridedSlice S8192x16x128 ![0, 0, 0] (shapeCast S8192x16x256 A shapeCasts_S8192x4096_S8192x16x256) slices_S8192x16x256_S8192x16x128_0_0_0 (ix3 n h d)
      = A (ix2 n (col h (lo d))) := by
  rw [extractStridedSlice_apply ![0, 0, 0] _ slices_S8192x16x256_S8192x16x128_0_0_0 (ix3 n h d) (ix3 n h (lo d)) (fun b => match b with
    | ⟨0, _⟩ => (Nat.zero_add _).symm
    | ⟨1, _⟩ => (Nat.zero_add _).symm
    | ⟨2, _⟩ => (Nat.zero_add _).symm)]
  exact shapeCast_apply _ shapeCasts_S8192x4096_S8192x16x256 (ix3 n h (lo d)) (ix2 n (col h (lo d))) (by
    rw [Shape.rowMajor_val_two, Shape.rowMajor_val_three]
    show n.val * 4096 + (h.val * 256 + d.val) = (n.val * 16 + h.val) * 256 + d.val
    omega)

/-- One extra lane of it. -/
theorem extra_lane (k : ℕ) (hk : k < 128) (A : FVec Ideal S8192x4096 .f32) (hs : S8192x16x256.Slices ![0, 0, 128 + k] S8192x16x1) :
    shapeCast S8192x16 (extractStridedSlice S8192x16x1 ![0, 0, 128 + k] (shapeCast S8192x16x256 A shapeCasts_S8192x4096_S8192x16x256) hs)
      shapeCasts_S8192x16x1_S8192x16 (ix2 n h) = A (ix2 n (col h (hi ⟨k, hk⟩))) := by
  rw [shapeCast_apply _ shapeCasts_S8192x16x1_S8192x16 (ix2 n h) (ix3 n h 0) (by
    rw [Shape.rowMajor_val_two, Shape.rowMajor_val_three]
    show (n.val * 16 + h.val) * 1 + 0 = n.val * 16 + h.val
    omega)]
  rw [extractStridedSlice_apply ![0, 0, 128 + k] _ hs (ix3 n h 0) (ix3 n h (hi ⟨k, hk⟩)) (fun b => match b with
    | ⟨0, _⟩ => (Nat.zero_add _).symm
    | ⟨1, _⟩ => (Nat.zero_add _).symm
    | ⟨2, _⟩ => rfl)]
  exact shapeCast_apply _ shapeCasts_S8192x4096_S8192x16x256 (ix3 n h (hi ⟨k, hk⟩)) (ix2 n (col h (hi ⟨k, hk⟩))) (by
    rw [Shape.rowMajor_val_two, Shape.rowMajor_val_three]
    show n.val * 4096 + (h.val * 256 + (128 + k)) = (n.val * 16 + h.val) * 256 + (128 + k)
    omega)

theorem tail_dq : (tail U (Proc.devRef .tc main_v220) : FVec Ideal S8192x16x128 .f32) (ix3 n h d)
    = HMul.hMul (α := EReal) (β := EReal) (γ := EReal) ((U (Proc.devRef .tc main_v215_0) : FVec Ideal S8192x4096 .f32) (ix2 n (col h (lo d)))) (sc : EReal) := by
  unfold tail
  after_reads_simp
  exact congrArg₂ (fun a b : EReal => a * b) (feature_lane n h d _) sc_bits

theorem tail_dk {b : ℝ} (hb : (U (Proc.devRef .tc main_v0) : FVec Ideal S_ .f32) = fun _ => (b : EReal)) :
    (tail U (Proc.devRef .tc main_v223) : FVec Ideal S8192x16x128 .f32) (ix3 n h d)
    = HMul.hMul (α := EReal) (β := EReal) (γ := EReal) ((U (Proc.devRef .tc main_v215_1) : FVec Ideal S8192x4096 .f32) (ix2 n (col h (lo d)))) (b : EReal) := by
  unfold tail
  after_reads_simp
  rw [hb]
  exact congrArg₂ (fun a b : EReal => a * b) (feature_lane n h d _) rfl

theorem tail_dcm : (tail U (Proc.devRef .tc main_v228) : FVec Ideal S8192x16 .f32) (ix2 n h)
    = HSub.hSub (α := EReal) (β := EReal) (γ := EReal) ((U (Proc.devRef .tc main_v215_0) : FVec Ideal S8192x4096 .f32) (ix2 n (col h (hi 0))))
      ((U (Proc.devRef .tc main_v215_1) : FVec Ideal S8192x4096 .f32) (ix2 n (col h (hi 3)))) := by
  unfold tail
  after_reads_simp
  exact congrArg₂ (fun a b : EReal => a - b) (extra_lane n h 0 (by decide) _ slices_S8192x16x256_S8192x16x1_0_0_128)
    (extra_lane n h 3 (by decide) _ slices_S8192x16x256_S8192x16x1_0_0_131)

theorem tail_dv : (tail U (Proc.devRef .tc main_v229) : FVec Ideal S8192x16x128 .f32) (ix3 n h d)
    = (U (Proc.devRef .tc main_v215_2) : FVec Ideal S8192x2048 .f32) (ix2 n (col128 h d)) := by
  unfold tail
  after_reads_simp
  exact shapeCast_apply _ shapeCasts_S8192x2048_S8192x16x128 (ix3 n h d) (ix2 n (col128 h d)) (by
    rw [Shape.rowMajor_val_two, Shape.rowMajor_val_three]
    show n.val * 2048 + (h.val * 128 + d.val) = (n.val * 16 + h.val) * 128 + d.val
    omega)

end

/-! ## The results -/

section
variable (m : (ℓ : Loc nD τ sig) → Buf (Elt Ideal) ℓ) (c : Dev nD) {X : Ins} {M : Fin 16 → Fin 8192 → ℝ}

/-- The buffers as the launch leaves them. -/
abbrev landed : Valuation τ sig (Elt Ideal) := Pipeline.withArrays spec0 c (V0 m c) fun w => (dats m 0 c).arrAt w cfg0.N

theorem tail_landed (b : Ref sig .tc) : Pipeline.afterTail₀ cfgs (dats m) 0 (V0 m) [hostOps1] c b = tail (landed m c) (Proc.devRef .tc b) := by
  unfold Pipeline.afterTail₀
  rw [List.flatten_singleton]

theorem arr_inj : Function.Injective (Pipeline.arrRef spec0) := by decide

theorem landed_dq : landed m c (Proc.devRef .tc main_v215_0) = dqArr m c :=
  (Pipeline.withArrays_arr spec0 arr_inj c (V0 m c) _ 4).trans (final_dq m c)
theorem landed_dk : landed m c (Proc.devRef .tc main_v215_1) = dkArr m c :=
  (Pipeline.withArrays_arr spec0 arr_inj c (V0 m c) _ 5).trans (final_dk m c)
theorem landed_dv : landed m c (Proc.devRef .tc main_v215_2) = dvArr m c :=
  (Pipeline.withArrays_arr spec0 arr_inj c (V0 m c) _ 6).trans (final_dv m c)
theorem landed_v0 : (landed m c (Proc.devRef .tc main_v0) : FVec Ideal S_ .f32) = fun _ => ((Real.log 2 : ℝ) : EReal) :=
  (Pipeline.withArrays_of_ne spec0 c (V0 m c) _ main_v0 (by exact (by decide : ∀ w, Pipeline.arrRef spec0 w ≠ main_v0))).trans
    ((V_late m c main_v0).trans (parts_v0 _))

variable {m c} (H : Reads m c X M)
include H

theorem value_dq (n : Fin 8192) (h : Fin 16) (d : Fin 128) : (tail (landed m c) (Proc.devRef .tc main_v220) : FVec Ideal S8192x16x128 .f32) (ix3 n h d)
    = ((∑ j, dscore X M h n j * sc * X.k j h d : ℝ) : EReal) := by
  rw [tail_dq, landed_dq, dqArr_apply]
  have e : ∑ j : Fin 8192, Gw m c h j n * Ka m c h j (lo d) = ((∑ j, dscore X M h n j * X.k j h d : ℝ) : EReal) := by
    rw [coe_sum]
    exact Finset.sum_congr rfl fun j _ => by rw [Gw_eq H, Ka_lo H, ← EReal.coe_mul]
  rw [e, ← EReal.coe_mul, Finset.sum_mul]
  exact congrArg _ (Finset.sum_congr rfl fun j _ => by ring)

theorem value_dk (j : Fin 8192) (h : Fin 16) (d : Fin 128) : (tail (landed m c) (Proc.devRef .tc main_v223) : FVec Ideal S8192x16x128 .f32) (ix3 j h d)
    = ((∑ t, dscore X M h t j * sc * X.q t h d : ℝ) : EReal) := by
  rw [tail_dk _ _ _ _ (landed_v0 m c), landed_dk, dkArr_apply]
  have e : ∑ n : Fin 8192, Gw m c h j n * Qa m c h n (lo d) = ((∑ n, dscore X M h n j * (X.q n h d * (sc * (1 / Real.log 2))) : ℝ) : EReal) := by
    rw [coe_sum]
    exact Finset.sum_congr rfl fun n _ => by rw [Gw_eq H, Qa_lo H, ← EReal.coe_mul]
  rw [e, ← EReal.coe_mul, Finset.sum_mul]
  have h2 : Real.log 2 ≠ 0 := (Real.log_pos (by norm_num)).ne'
  exact congrArg _ (Finset.sum_congr rfl fun n _ => by field_simp)

theorem value_dcm (n : Fin 8192) (h : Fin 16) : (tail (landed m c) (Proc.devRef .tc main_v228) : FVec Ideal S8192x16 .f32) (ix2 n h)
    = ((∑ t, -dscore X M h t n + ∑ j, dscore X M h n j : ℝ) : EReal) := by
  rw [tail_dcm, landed_dq, landed_dk, dqArr_apply, dkArr_apply]
  have e1 : ∑ j : Fin 8192, Gw m c h j n * Ka m c h j (hi 0) = ((∑ j, dscore X M h n j : ℝ) : EReal) := by
    rw [coe_sum]
    refine Finset.sum_congr rfl fun j _ => ?_
    rw [Gw_eq H, Ka_hi H, ← EReal.coe_mul]
    exact congrArg _ (by simp [kLane])
  have e2 : ∑ t : Fin 8192, Gw m c h n t * Qa m c h t (hi 3) = ((∑ t, dscore X M h t n : ℝ) : EReal) := by
    rw [coe_sum]
    refine Finset.sum_congr rfl fun t _ => ?_
    rw [Gw_eq H, Qa_hi H, ← EReal.coe_mul]
    exact congrArg _ (by simp [qLane])
  rw [e1, e2, ← EReal.coe_sub, Finset.sum_neg_distrib]
  exact congrArg _ (by ring)

theorem value_dv (j : Fin 8192) (h : Fin 16) (d : Fin 128) : (tail (landed m c) (Proc.devRef .tc main_v229) : FVec Ideal S8192x16x128 .f32) (ix3 j h d)
    = ((∑ t, X.g t h d * prob X M h t j : ℝ) : EReal) := by
  have e : ∑ t : Fin 8192, Wt m c h j t * Da m c h t (lo d) = ((∑ t, X.g t h d * prob X M h t j : ℝ) : EReal) := by
    rw [coe_sum]
    exact Finset.sum_congr rfl fun t _ => by rw [Wt_eq H, Da_lo H, mul_comm, ← EReal.coe_mul]
  rw [tail_dv, landed_dv]
  exact (dvArr_apply m c h j d).trans e

end

end Cert.Proof.Attn

end
-- ==== Proof.Equal.lean ====
/-
  The kernel's results are the reference's at finite arguments.
-/
module

public import proofs.«01_k».proof.Defs
public import proofs.«01_k».proof.Proof.Tail
public import proofs.«01_k».proof.Proof.Gen.Pre_finite
public import proofs.«01_k».proof.Proof.Gen.ReferenceIdeal.Run

@[expose] public section

set_option maxRecDepth 16384

noncomputable section

namespace Cert.Proof.Attn

open Cert.KernelIdeal Cert.KernelIdeal.Gen
open Idealize.ShloMosaic hiding ix0 ix2 ix3 eq_ix2 eq_ix3
open Idealize.ShloMosaic.ValueIdx Idealize.ShloMosaic.TcCoe Idealize.SL.Sem
open scoped BigOperators

/-! ## What the precondition says -/

/-- The bit that says a value is finite. -/
def finBit (x : EReal) : BitVec 1 := Ideal.cmp .olt (max x (-x)) (FloatOps.ofBits (F := Ideal) .f32 0x7F800000#32 : EReal)

theorem finBit_eq {x : EReal} (h : finBit x = 1#1) : x = (x.toReal : EReal) := by
  have htop : (FloatOps.ofBits (F := Ideal) .f32 0x7F800000#32 : EReal) = ⊤ := by
    show Ideal.ofBits .f32 0x7F800000#32 = ⊤
    simp [Ideal.ofBits, Ideal.ieee]
  unfold finBit at h
  rw [htop] at h
  have h' : max x (-x) < ⊤ := by
    by_contra hn
    simp [Ideal.cmp, hn] at h
  obtain ⟨h1, h2⟩ := max_lt_iff.1 h'
  exact (EReal.coe_toReal h1.ne (fun e => by rw [e] at h2; simp at h2)).symm

theorem bit_and {a b : BitVec 1} (h : a &&& b = 1#1) : a = 1#1 ∧ b = 1#1 := by
  revert a b; decide

section
variable {x0 x1 x2 x4 : FVec Ideal S8192x16x128 .bf16} {x3 : FVec Ideal S8192x16 .f32}

theorem pre_bits (h : Cert.Pre_finite.fn (F := Ideal) x0 x1 x2 x3 x4 = fun _ => 1#1) (n : Fin 8192) (hd : Fin 16) (d : Fin 128) :
    (((finBit (x0 (ix3 n hd d)) &&& finBit (x1 (ix3 n hd d))) &&& finBit (x2 (ix3 n hd d))) &&& finBit (x4 (ix3 n hd d))) &&& finBit (x3 (ix2 n hd)) = 1#1 := by
  refine Eq.trans ?_ (congrFun h (ix3 n hd d))
  unfold Cert.Pre_finite.fn Cert.Pre_finite.fn_part1
  refine congrArg₂ (fun a b : BitVec 1 => a &&& b) rfl (Eq.symm ?_)
  refine (broadcastInDim_apply _ _ _ _ (ix3 n hd 0) fun a => match a with
    | ⟨0, _⟩ => rfl
    | ⟨1, _⟩ => rfl
    | ⟨2, _⟩ => rfl).trans ?_
  exact broadcastInDim_apply _ _ _ _ (ix2 n hd) fun a => match a with
    | ⟨0, _⟩ => rfl
    | ⟨1, _⟩ => rfl

/-- Under the precondition the arguments are real numbers. -/
theorem holds_of_pre (h : Cert.Pre_finite.fn (F := Ideal) x0 x1 x2 x3 x4 = fun _ => 1#1) : ∃ X : Ins, Holds X x0 x1 x2 x4 x3 := by
  refine ⟨⟨fun n h d => EReal.toReal (x0 (ix3 n h d)), fun n h d => EReal.toReal (x1 (ix3 n h d)), fun n h d => EReal.toReal (x2 (ix3 n h d)),
    fun n h d => EReal.toReal (x4 (ix3 n h d)), fun n h => EReal.toReal (x3 (ix2 n h))⟩, ?_, ?_, ?_, ?_, ?_⟩ <;> intro i
  · rw [eq_ix3 i]; exact finBit_eq (bit_and (bit_and (bit_and (bit_and (pre_bits h (i 0) (i 1) (i 2))).1).1).1).1
  · rw [eq_ix3 i]; exact finBit_eq (bit_and (bit_and (bit_and (bit_and (pre_bits h (i 0) (i 1) (i 2))).1).1).1).2
  · rw [eq_ix3 i]; exact finBit_eq (bit_and (bit_and (bit_and (pre_bits h (i 0) (i 1) (i 2))).1).1).2
  · rw [eq_ix3 i]; exact finBit_eq (bit_and (bit_and (pre_bits h (i 0) (i 1) (i 2))).1).2
  · rw [eq_ix2 i]; exact finBit_eq (bit_and (pre_bits h (i 0) (i 1) 0)).2

end

/-! ## The two programs' results -/

section
variable (m : (ℓ : Loc nD τ sig) → Buf (Elt Ideal) ℓ) (c : Dev nD) {X : Ins} {M : Fin 16 → Fin 8192 → ℝ} (H : Reads m c X M)
include H
open Cert.ReferenceIdeal.Read

theorem same_dq : val_main_v88 (F := Ideal) (m (c, Proc.devRef .tc main_arg0)) (m (c, Proc.devRef .tc main_arg1)) (m (c, Proc.devRef .tc main_arg2))
    (m (c, Proc.devRef .tc main_arg3)) (m (c, Proc.devRef .tc main_arg4)) = tail (landed m c) (Proc.devRef .tc main_v220) := by
  funext i
  rw [eq_ix3 i]
  exact (ref_dq H.args H.tops _).trans (value_dq H (i 0) (i 1) (i 2)).symm

theorem same_dk : val_main_v86 (F := Ideal) (m (c, Proc.devRef .tc main_arg0)) (m (c, Proc.devRef .tc main_arg1)) (m (c, Proc.devRef .tc main_arg2))
    (m (c, Proc.devRef .tc main_arg3)) (m (c, Proc.devRef .tc main_arg4)) = tail (landed m c) (Proc.devRef .tc main_v223) := by
  funext i
  rw [eq_ix3 i]
  exact (ref_dk H.args H.tops _).trans (value_dk H (i 0) (i 1) (i 2)).symm

theorem same_dv : val_main_v58 (F := Ideal) (m (c, Proc.devRef .tc main_arg0)) (m (c, Proc.devRef .tc main_arg1)) (m (c, Proc.devRef .tc main_arg3))
    (m (c, Proc.devRef .tc main_arg4)) = tail (landed m c) (Proc.devRef .tc main_v229) := by
  funext i
  rw [eq_ix3 i]
  exact (ref_dv H.args H.tops _).trans (value_dv H (i 0) (i 1) (i 2)).symm

theorem same_dcm : val_main_v82 (F := Ideal) (m (c, Proc.devRef .tc main_arg0)) (m (c, Proc.devRef .tc main_arg1)) (m (c, Proc.devRef .tc main_arg2))
    (m (c, Proc.devRef .tc main_arg3)) (m (c, Proc.devRef .tc main_arg4)) = tail (landed m c) (Proc.devRef .tc main_v228) := by
  funext i
  rw [eq_ix2 i]
  exact (ref_dcm H.args H.tops _).trans (value_dcm H (i 0) (i 1)).symm

end

/-- At finite arguments the kernel's four gradients are the reference's. -/
theorem algebraic : Cert.algebraic_KernelIdeal_ReferenceIdeal_pre_finite := fun m g m' g' hpre hargs => by
  have hR : ∀ c, ∃ (X : Ins) (M : Fin 16 → Fin 8192 → ℝ), Reads m c X M := fun c => by
    obtain ⟨X, hX⟩ := holds_of_pre (hpre c)
    obtain ⟨M, hM⟩ := ref_max hX
    exact ⟨X, M, hX, hM⟩
  refine ⟨fun c => tail (landed m c) (Proc.devRef .tc main_v220), fun c => tail (landed m c) (Proc.devRef .tc main_v223),
    fun c => tail (landed m c) (Proc.devRef .tc main_v229), fun c => tail (landed m c) (Proc.devRef .tc main_v228), ?_, ?_⟩
  · refine (θ_run _ _ _).mono (fun r h c => ?_) (run_main (F := Ideal) m g)
    have rd := fun b hb => (h.1 c).2 b hb
    exact ⟨(rd main_v220 (Pipeline.mem_restRefs_of main_v220 (by decide) (by decide))).trans (tail_landed m c main_v220),
      (rd main_v223 (Pipeline.mem_restRefs_of main_v223 (by decide) (by decide))).trans (tail_landed m c main_v223),
      (rd main_v229 (Pipeline.mem_restRefs_of main_v229 (by decide) (by decide))).trans (tail_landed m c main_v229),
      (rd main_v228 (Pipeline.mem_restRefs_of main_v228 (by decide) (by decide))).trans (tail_landed m c main_v228),
      (rd main_arg0 (Pipeline.mem_restRefs_of main_arg0 (by decide) (by decide))).trans (W_main_arg0 m (dats m) c),
      (rd main_arg1 (Pipeline.mem_restRefs_of main_arg1 (by decide) (by decide))).trans (W_main_arg1 m (dats m) c),
      (rd main_arg2 (Pipeline.mem_restRefs_of main_arg2 (by decide) (by decide))).trans (W_main_arg2 m (dats m) c),
      (rd main_arg3 (Pipeline.mem_restRefs_of main_arg3 (by decide) (by decide))).trans (W_main_arg3 m (dats m) c),
      (rd main_arg4 (Pipeline.mem_restRefs_of main_arg4 (by decide) (by decide))).trans (W_main_arg4 m (dats m) c)⟩
  · refine (θ_run _ _ _).mono (fun r h c => ?_) (Cert.ReferenceIdeal.Value.run (F := Ideal) m' g')
    obtain ⟨X, M, H⟩ := hR c
    obtain ⟨a0, a1, a2, a3, a4⟩ := hargs c
    obtain ⟨hq, hk, hv, hc, hrest⟩ := h c
    refine ⟨hq.trans ?_, hk.trans ?_, hv.trans ?_, hc.trans ?_, hrest⟩
    · rw [Cert.ReferenceIdeal.Read.val_main_v88_eq, a0, a1, a2, a3, a4]; exact same_dq m c H
    · rw [Cert.ReferenceIdeal.Read.val_main_v86_eq, a0, a1, a2, a3, a4]; exact same_dk m c H
    · rw [Cert.ReferenceIdeal.Read.val_main_v58_eq, a0, a1, a3, a4]; exact same_dv m c H
    · rw [Cert.ReferenceIdeal.Read.val_main_v82_eq, a0, a1, a2, a3, a4]; exact same_dcm m c H

end Cert.Proof.Attn

end
-- ==== Proof.AdamW.lean ====
/-
  AdamW on the four large weights and on the array the small ones are packed in: the kernel's blocks tile each array, and every entry is the reference's own terms.
-/
module

public import proofs.«01_k».proof.Defs
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel19Ideal.Value
public import proofs.«01_k».proof.Proof.Gen.Reference19Ideal.Run
public import Idealize.ShloMosaic.PureOps.Ideal.Laws

@[expose] public section

noncomputable section

namespace Cert.Proof.AdamW

open Idealize.ShloMosaic Idealize.ShloMosaic.TcCoe Idealize.SL.Sem

/-- The step and the two moments of the gMLP's input weight. -/
theorem algebraic14 : Cert.algebraic_Kernel14Ideal_Reference14Ideal := fun m g m' g' _ hargs => by
  refine ⟨_, _, _, Cert.Kernel14Ideal.Value.run (F := Ideal) m g, ?_⟩
  refine (θ_run _ _ _).mono (fun r h c => ?_) (Cert.Reference14Ideal.Value.run (F := Ideal) m' g')
  obtain ⟨a0, a1, a2, a3⟩ := hargs c
  obtain ⟨h0, h1, h2, kept⟩ := h c
  rw [a0, a1, a2, a3] at h0
  rw [a1, a2] at h1
  rw [a1, a3] at h2
  exact ⟨h0, h1, h2, kept⟩

/-- The step and the two moments of the gMLP's output weight. -/
theorem algebraic15 : Cert.algebraic_Kernel15Ideal_Reference15Ideal := fun m g m' g' _ hargs => by
  refine ⟨_, _, _, Cert.Kernel15Ideal.Value.run (F := Ideal) m g, ?_⟩
  refine (θ_run _ _ _).mono (fun r h c => ?_) (Cert.Reference15Ideal.Value.run (F := Ideal) m' g')
  obtain ⟨a0, a1, a2, a3⟩ := hargs c
  obtain ⟨h0, h1, h2, kept⟩ := h c
  rw [a0, a1, a2, a3] at h0
  rw [a1, a2] at h1
  rw [a1, a3] at h2
  exact ⟨h0, h1, h2, kept⟩

/-- The step and the two moments of the attention's input weight. -/
theorem algebraic16 : Cert.algebraic_Kernel16Ideal_Reference16Ideal := fun m g m' g' _ hargs => by
  refine ⟨_, _, _, Cert.Kernel16Ideal.Value.run (F := Ideal) m g, ?_⟩
  refine (θ_run _ _ _).mono (fun r h c => ?_) (Cert.Reference16Ideal.Value.run (F := Ideal) m' g')
  obtain ⟨a0, a1, a2, a3⟩ := hargs c
  obtain ⟨h0, h1, h2, kept⟩ := h c
  rw [a0, a1, a2, a3] at h0
  rw [a1, a2] at h1
  rw [a1, a3] at h2
  exact ⟨h0, h1, h2, kept⟩

/-- The step and the two moments of the attention's output weight. -/
theorem algebraic17 : Cert.algebraic_Kernel17Ideal_Reference17Ideal := fun m g m' g' _ hargs => by
  refine ⟨_, _, _, Cert.Kernel17Ideal.Value.run (F := Ideal) m g, ?_⟩
  refine (θ_run _ _ _).mono (fun r h c => ?_) (Cert.Reference17Ideal.Value.run (F := Ideal) m' g')
  obtain ⟨a0, a1, a2, a3⟩ := hargs c
  obtain ⟨h0, h1, h2, kept⟩ := h c
  rw [a0, a1, a2, a3] at h0
  rw [a1, a2] at h1
  rw [a1, a3] at h2
  exact ⟨h0, h1, h2, kept⟩

/-- The step and the two moments of the packed small weights. -/
theorem algebraic19 : Cert.algebraic_Kernel19Ideal_Reference19Ideal := fun m g m' g' _ hargs => by
  refine ⟨_, _, _, Cert.Kernel19Ideal.Value.run (F := Ideal) m g, ?_⟩
  refine (θ_run _ _ _).mono (fun r h c => ?_) (Cert.Reference19Ideal.Value.run (F := Ideal) m' g')
  obtain ⟨a0, a1, a2, a3⟩ := hargs c
  obtain ⟨h0, h1, h2, kept⟩ := h c
  rw [a0, a1, a2, a3] at h0
  rw [a1, a2] at h1
  rw [a1, a3] at h2
  exact ⟨h0, h1, h2, kept⟩

end Cert.Proof.AdamW

end
-- ==== Proof.Sums.lean ====
/-
  A sum cut into blocks, shared by the products.
-/
module

public import proofs.«01_k».proof.Proof.Gen.Kernel2Ideal
public import Idealize.ShloMosaic.Lib.Pipeline.ValueKit

@[expose] public section

open scoped BigOperators

namespace Cert.Proof

/-- A sum over `S * n` terms is the sum over its `S` blocks of `n`. -/
theorem sum_blocks {M : Type} [AddCommMonoid M] {K : ℕ} (S n : ℕ) (h : S * n = K) (f : Fin K → M) :
    ∑ k : Fin K, f k = ∑ s : Fin S, ∑ l : Fin n, f ⟨s.val * n + l.val, h ▸ (by
      have h1 := s.isLt; have h2 := l.isLt
      calc s.val * n + l.val < s.val * n + n := by omega
        _ = (s.val + 1) * n := by ring
        _ ≤ S * n := Nat.mul_le_mul_right n h1)⟩ := by
  subst h
  have e := Fin.sum_univ_univ_mul_add S n (fun k => if hk : k < S * n then f ⟨k, hk⟩ else 0)
  refine Eq.trans (Finset.sum_congr rfl fun k _ => Eq.symm (dif_pos (c := k.val < S * n) (t := fun hk => f ⟨k.val, hk⟩) (e := fun _ => (0 : M)) k.isLt)) (e.symm.trans ?_)
  exact Finset.sum_congr rfl fun s _ => Finset.sum_congr rfl fun l _ => dif_pos _

end Cert.Proof
-- ==== Proof.AttnOut.lean ====
/-
  The attention's output projection, added to the residual stream: the call `b1_out`. Its blocks are summed over 4 blocks of the contracted axis; the
  result is the whole product, and so is the reference's.
-/
module

public import proofs.«01_k».proof.Defs
public import proofs.«01_k».proof.Proof.Gen.Kernel13Ideal.Value
public import proofs.«01_k».proof.Proof.Gen.Reference13Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.AttnOut

open Idealize.ShloMosaic hiding ix0 ix2 ix3 eq_ix2 eq_ix3
open Idealize.ShloMosaic.ValueIdx Idealize.ShloMosaic.TcCoe Idealize.SL.Sem
open scoped BigOperators

/-! ## The reference -/

section
open Cert.Reference13Ideal Cert.Reference13Ideal.Gen

/-- The reference's product. -/
theorem ref_at (x : FVec Ideal S8192x2048 .f32) (y : FVec Ideal S2048x2048 .f32) (i : Fin 8192) (j : Fin 2048) :
    Host.dotGeneral dot_S8192x2048_S2048x2048_S8192x2048_1_0_0_1_n_n none x y (ix2 i j)
      = ∑ k : Fin 2048, x (ix2 i k) * y (ix2 k j) := by
  refine (Ideal.dotGeneral_apply _ none _ x y (ix2 i j)).trans ?_
  rw [← Equiv.sum_comp (contrEquiv1 dot_S8192x2048_S2048x2048_S8192x2048_1_0_0_1_n_n 2048 rfl rfl).symm]
  refine Finset.sum_congr rfl fun k _ => ?_
  have hk := contrEquiv1_symm_val dot_S8192x2048_S2048x2048_S8192x2048_1_0_0_1_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

end

/-! ## The launch -/

section
open Cert.Kernel13Ideal Cert.Kernel13Ideal.Gen

variable (m : (ℓ : Loc nD τ sig) → Buf (Elt Ideal) ℓ) (c : Dev nD)

/-- The arguments. -/
abbrev argA : FVec Ideal S8192x2048 .bf16 := m ((c : Thread nD τ).loc main_arg1)
abbrev argB : FVec Ideal S2048x2048 .bf16 := m ((c : Thread nD τ).loc main_arg2)
abbrev argR : FVec Ideal S8192x2048 .f32 := m ((c : Thread nD τ).loc main_arg0)

/-- The two factors, by row and column. -/
def facA (i : Fin 8192) (k : Fin 2048) : EReal := argA m c (ix2 i k)
def facB (k : Fin 2048) (j : Fin 2048) : EReal := argB m c (ix2 k j)

/-- The whole product, added to the given rows. -/
def result : FVec Ideal S8192x2048 .f32 := fun i => argR m c i + ∑ k : Fin 2048, facA m c (i 0) k * facB m c k (i 1)

theorem N_eq : cfg0.N = 64 := by decide +kernel
theorem index_0 : ∀ t : Fin grid0.N, win0_0.index t 0 = t.val / 8 ∧ win0_0.index t 1 = t.val % 4 := by decide +kernel
theorem index_1 : ∀ t : Fin grid0.N, win0_1.index t 0 = t.val % 4 ∧ win0_1.index t 1 = 0 ∧ win0_1.index t 2 = t.val / 4 % 2 := by decide +kernel
theorem index_2 : ∀ t : Fin grid0.N, win0_2.index t 0 = t.val / 8 ∧ win0_2.index t 1 = t.val / 4 % 2 := by decide +kernel
theorem index_3 : ∀ t : Fin grid0.N, win0_3.index t 0 = t.val / 8 ∧ win0_3.index t 1 = t.val / 4 % 2 := by decide +kernel

/-- One block's product. -/
theorem block_dot (x : FVec Ideal S1024x512 .bf16) (y : FVec Ideal S512x1024 .bf16) (r : Fin 1024) (s : Fin 1024) :
    FloatOps.matmul dot_S1024x512_S512x1024_S1024x1024_1_0_0_1_n_n none x y (constant S1024x1024 .f32 0x00000000#32) (ix2 r s)
      = ∑ l : Fin 512, x (ix2 r l) * y (ix2 l s) := by
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

/-- The weight's block without its leading axis of one. -/
theorem cast_block (y : FVec Ideal S1x512x1024 .bf16) (p : Fin 512) (q : Fin 1024) :
    shapeCast S512x1024 y shapeCasts_S1x512x1024_S512x1024 (ix2 p q) = y (ix3 0 p q) :=
  shapeCast_apply _ _ _ (ix3 0 p q) (by
    rw [Shape.rowMajor_val_two, Shape.rowMajor_val_three]
    show (0 * 512 + p.val) * 1024 + q.val = p.val * 1024 + q.val
    omega)

theorem pay1 (x : FVec Ideal S1024x512 .bf16) (y : FVec Ideal S1x512x1024 .bf16) (z : FVec Ideal S1024x1024 .f32) (r : Fin 1024) (s : Fin 1024) :
    k0_pay1 (F := Ideal) x y z (ix2 r s) = (0 : EReal) + (∑ l : Fin 512, x (ix2 r l) * y (ix3 0 l s) + z (ix2 r s)) := by
  rw [zero_add]
  refine congrArg (· + z (ix2 r s)) ((block_dot x _ r s).trans ?_)
  simp only [cast_block]

theorem pay2 (v : FVec Ideal S1024x1024 .f32) (x : FVec Ideal S1024x512 .bf16) (y : FVec Ideal S1x512x1024 .bf16) (r : Fin 1024) (s : Fin 1024) :
    k0_pay2 (F := Ideal) v x y (ix2 r s) = v (ix2 r s) + ∑ l : Fin 512, x (ix2 r l) * y (ix3 0 l s) := by
  unfold k0_pay2
  rw [shapeCast_self]
  refine congrArg (v (ix2 r s) + ·) ((block_dot x _ r s).trans ?_)
  simp only [cast_block]

/-- The blocks a point reads. -/
abbrev aB (t : Fin cfg0.N) : FVec Ideal S1024x512 .bf16 := iblk m c 0 t
abbrev bB (t : Fin cfg0.N) : FVec Ideal S1x512x1024 .bf16 := iblk m c 1 t
abbrev rB (t : Fin cfg0.N) : FVec Ideal S1024x1024 .f32 := iblk m c 2 t

theorem aB_read (t : Fin cfg0.N) (r : Fin 1024) (l : Fin 512) : aB m c t (ix2 r l) = (V m c main_arg1 : FVec Ideal S8192x2048 .bf16) (ix2 ⟨t.val / 8 * 1024 + r.val, by have := t.isLt; have := N_eq; omega⟩ ⟨t.val % 4 * 512 + l.val, by have := t.isLt; have := N_eq; omega⟩) := by
  unfold aB iblk
  rw [View.read_apply]
  show V m c main_arg1 _ = V m c main_arg1 _
  refine congrArg _ (funext fun a => Fin.ext ?_)
  match a with
  | ⟨0, _⟩ => show win0_0.index t 0 * 1024 + 1 * r.val = t.val / 8 * 1024 + r.val; rw [(index_0 t).1]; omega
  | ⟨1, _⟩ => show win0_0.index t 1 * 512 + 1 * l.val = t.val % 4 * 512 + l.val; rw [(index_0 t).2]; omega

theorem aB_apply (t : Fin cfg0.N) (r : Fin 1024) (l : Fin 512) : aB m c t (ix2 r l) = facA m c ⟨t.val / 8 * 1024 + r.val, by have := t.isLt; have := N_eq; omega⟩ ⟨t.val % 4 * 512 + l.val, by have := t.isLt; have := N_eq; omega⟩ :=
  (aB_read m c t r l).trans ((congrFun (V_main_arg1 m c) _).trans rfl)

/-- The weight's blocks of rows. -/
theorem lay_B (b : Fin 4) (r : Fin 512) (q : Fin 2048) :
    (V m c main_v0 : FVec Ideal S4x512x2048 .bf16) (ix3 b r q) = argB m c (ix2 ⟨b.val * 512 + r.val, by omega⟩ q) := by
  unfold V
  after_reads_simp
  exact shapeCast_apply _ shapeCasts_S2048x2048_S4x512x2048 (ix3 b r q) (ix2 ⟨b.val * 512 + r.val, by omega⟩ q) (by
    rw [Shape.rowMajor_val_two, Shape.rowMajor_val_three]
    show (b.val * 512 + r.val) * 2048 + q.val = (b.val * 512 + r.val) * 2048 + q.val
    rfl)

theorem bB_read (t : Fin cfg0.N) (l : Fin 512) (s : Fin 1024) : bB m c t (ix3 0 l s) = (V m c main_v0 : FVec Ideal S4x512x2048 .bf16) (ix3 ⟨t.val % 4, by have := t.isLt; have := N_eq; omega⟩ l ⟨t.val / 4 % 2 * 1024 + s.val, by have := t.isLt; have := N_eq; omega⟩) := by
  unfold bB iblk
  rw [View.read_apply]
  show V m c main_v0 _ = V m c main_v0 _
  refine congrArg _ (funext fun a => Fin.ext ?_)
  match a with
  | ⟨0, _⟩ => show win0_1.index t 0 * 1 + 1 * 0 = t.val % 4; rw [(index_1 t).1]; omega
  | ⟨1, _⟩ => show win0_1.index t 1 * 512 + 1 * l.val = l.val; rw [(index_1 t).2.1]; omega
  | ⟨2, _⟩ => show win0_1.index t 2 * 1024 + 1 * s.val = t.val / 4 % 2 * 1024 + s.val; rw [(index_1 t).2.2]; omega

theorem bB_apply (t : Fin cfg0.N) (l : Fin 512) (s : Fin 1024) : bB m c t (ix3 0 l s) = facB m c ⟨t.val % 4 * 512 + l.val, by have := t.isLt; have := N_eq; omega⟩ ⟨t.val / 4 % 2 * 1024 + s.val, by have := t.isLt; have := N_eq; omega⟩ := by
  have := t.isLt; have := N_eq
  refine (bB_read m c t l s).trans ((lay_B m c _ _ _).trans (congrArg (argB m c) (funext fun a => Fin.ext ?_)))
  match a with
  | ⟨0, _⟩ => show t.val % 4 * 512 + l.val = t.val % 4 * 512 + l.val; omega
  | ⟨1, _⟩ => show t.val / 4 % 2 * 1024 + s.val = t.val / 4 % 2 * 1024 + s.val; omega

theorem rB_read (t : Fin cfg0.N) (r : Fin 1024) (s : Fin 1024) : rB m c t (ix2 r s) = (V m c main_arg0 : FVec Ideal S8192x2048 .f32) (ix2 ⟨t.val / 8 * 1024 + r.val, by have := t.isLt; have := N_eq; omega⟩ ⟨t.val / 4 % 2 * 1024 + s.val, by have := t.isLt; have := N_eq; omega⟩) := by
  unfold rB iblk
  rw [View.read_apply]
  show V m c main_arg0 _ = V m c main_arg0 _
  refine congrArg _ (funext fun a => Fin.ext ?_)
  match a with
  | ⟨0, _⟩ => show win0_2.index t 0 * 1024 + 1 * r.val = t.val / 8 * 1024 + r.val; rw [(index_2 t).1]; omega
  | ⟨1, _⟩ => show win0_2.index t 1 * 1024 + 1 * s.val = t.val / 4 % 2 * 1024 + s.val; rw [(index_2 t).2]; omega

theorem rB_apply (t : Fin cfg0.N) (r : Fin 1024) (s : Fin 1024) : rB m c t (ix2 r s) = argR m c (ix2 ⟨t.val / 8 * 1024 + r.val, by have := t.isLt; have := N_eq; omega⟩ ⟨t.val / 4 % 2 * 1024 + s.val, by have := t.isLt; have := N_eq; omega⟩) :=
  (rB_read m c t r s).trans (congrFun (V_main_arg0 m c) _)

/-- What the last of a block's 4 points leaves: the first one adds the given rows. -/
theorem out_sum (t : Fin cfg0.N) (h : t.val % 4 = 3) (i : Fin 1024 × Fin 1024) :
    (outsAt0 m c t.val t.isLt : FVec Ideal S1024x1024 .f32) (ix2 i.1 i.2)
      = argR m c (ix2 ⟨t.val / 8 * 1024 + i.1.val, by have := t.isLt; have := N_eq; omega⟩ ⟨t.val / 4 % 2 * 1024 + i.2.val, by omega⟩)
        + ∑ s : Fin 4, ∑ l : Fin 512, aB m c ⟨4 * (t.val / 4) + s.val, by have := t.isLt; have := N_eq; omega⟩ (ix2 i.1 l) * bB m c ⟨4 * (t.val / 4) + s.val, by have := t.isLt; have := N_eq; omega⟩ (ix3 0 l i.2) := by
  rw [Pipeline.eq_sum_fin_of_reset_step_apply_of_flush (fun n h (i : Fin 1024 × Fin 1024) => (outsAt0 m c n h : FVec Ideal S1024x1024 .f32) (ix2 i.1 i.2)) 4
    (fun _ => (0 : EReal)) (fun t i => (∑ l : Fin 512, aB m c t (ix2 i.1 l) * bB m c t (ix3 0 l i.2)) + (if t.val % 4 = 0 then rB m c t (ix2 i.1 i.2) else 0))
    (fun t h i => by rw [outsAt0_A m c t h (by omega), if_pos h]; frame_out; exact pay1 _ _ _ _ _)
    (fun t h i => by rw [outsAt0_B m c t h (by omega), if_neg h, add_zero]; frame_out; exact pay2 _ _ _ _ _) t h i]
  rw [zero_add, Finset.sum_add_distrib, add_comm]
  refine congrArg (· + _) ?_
  rw [Finset.sum_eq_single (0 : Fin 4)]
  · rw [if_pos (by show (4 * (t.val / 4) + 0) % 4 = 0; omega), rB_apply]
    refine congrArg (argR m c) (funext fun a => Fin.ext ?_)
    match a with
    | ⟨0, _⟩ => show (4 * (t.val / 4) + 0) / 8 * 1024 + i.1.val = t.val / 8 * 1024 + i.1.val; omega
    | ⟨1, _⟩ => show (4 * (t.val / 4) + 0) / 4 % 2 * 1024 + i.2.val = t.val / 4 % 2 * 1024 + i.2.val; omega
  · intro s _ hs
    have : s.val ≠ 0 := fun e => hs (Fin.ext e)
    exact if_neg (by show ¬(4 * (t.val / 4) + s.val) % 4 = 0; omega)
  · exact fun hn => absurd (Finset.mem_univ _) hn

theorem emb_out (t : Fin cfg0.N) (y : ((cfg0.win 3).xblock (cfg0.grid.coords t)).Idx) :
    (((cfg0.win 3).blk t).view.emb y : S8192x2048.Idx)
      = ix2 (n0 := 8192) (n1 := 2048) ⟨t.val / 8 * 1024 + (y 0).val, by have := t.isLt; have := N_eq; have : (y 0).val < 1024 := (y 0).isLt; have : (y 1).val < 1024 := (y 1).isLt; omega⟩ ⟨t.val / 4 % 2 * 1024 + (y 1).val, by have := t.isLt; have := N_eq; have : (y 0).val < 1024 := (y 0).isLt; have : (y 1).val < 1024 := (y 1).isLt; omega⟩ := by
  funext a; apply Fin.ext
  match a with
  | ⟨0, _⟩ => show win0_3.index t 0 * 1024 + 1 * (y 0).val = t.val / 8 * 1024 + (y 0).val; rw [(index_3 t).1]; omega
  | ⟨1, _⟩ => show win0_3.index t 1 * 1024 + 1 * (y 1).val = t.val / 4 % 2 * 1024 + (y 1).val; rw [(index_3 t).2]; omega

/-- The launch's result is the whole product. -/
theorem final : (dats m 0 c).arrAt 3 cfg0.N = result m c := by
  refine (dats m 0 c).arrAt_eq_of_covers 3 _ (by decide +kernel) fun t hf y => ?_
  have := t.isLt; have := N_eq
  have : (y 0).val < 1024 := (y 0).isLt
  have : (y 1).val < 1024 := (y 1).isLt
  have hm : t.val % 4 = 3 := (flush0_3 t).mp hf
  refine (cast_eq _ _).trans ((congrFun (after0_3 m c t) _).trans ((congrArg (outsAt0 m c t.val t.isLt : FVec Ideal S1024x1024 .f32) (eq_ix2 _)).trans
    ((out_sum m c t hm ((⟨(y 0).val, (y 0).isLt⟩ : Fin 1024), (⟨(y 1).val, (y 1).isLt⟩ : Fin 1024))).trans ?_)))
  refine Eq.trans ?_ (congrArg (result m c) (emb_out t y)).symm
  refine congrArg (_ + ·) ?_
  refine Eq.trans ?_ (sum_blocks 4 512 rfl _).symm
  refine Finset.sum_congr rfl fun s _ => Finset.sum_congr rfl fun l _ => ?_
  rw [aB_apply, bB_apply]
  refine congrArg₂ (· * ·) (congrArg₂ (facA m c) (Fin.ext ?_) (Fin.ext ?_)) (congrArg₂ (facB m c) (Fin.ext ?_) (Fin.ext ?_))
  · show (4 * (t.val / 4) + s.val) / 8 * 1024 + (y 0).val = t.val / 8 * 1024 + (y 0).val; omega
  · show (4 * (t.val / 4) + s.val) % 4 * 512 + l.val = s.val * 512 + l.val; omega
  · show (4 * (t.val / 4) + s.val) % 4 * 512 + l.val = s.val * 512 + l.val; omega
  · show (4 * (t.val / 4) + s.val) / 4 % 2 * 1024 + (y 1).val = t.val / 4 % 2 * 1024 + (y 1).val; omega

end

/-! ## Equal -/

/-- The launch's result is the reference's. -/
theorem algebraic : Cert.algebraic_Kernel13Ideal_Reference13Ideal := fun m g m' g' _ hargs => by
  refine ⟨fun c => result m c, ?_, ?_⟩
  · refine (θ_run _ _ _).mono (fun r h c => ?_) (Cert.Kernel13Ideal.Value.run_blocks (F := Ideal) m g)
    exact ⟨(h c).1.trans (final m c), (h c).2⟩
  · refine (θ_run _ _ _).mono (fun r h c => ?_) (Cert.Reference13Ideal.Value.run (F := Ideal) m' g')
    obtain ⟨a0, a1, a2⟩ := hargs c
    refine ⟨(h c).1.trans ?_, (h c).2⟩
    rw [a0, a1, a2]
    funext i
    rw [eq_ix2 i]
    exact congrArg (argR m c (ix2 (i 0) (i 1)) + ·) (ref_at _ _ (i 0) (i 1))

end Cert.Proof.AttnOut

end
-- ==== Proof.NormRow.lean ====
/-
  One row of a norm over the extended reals: its scale is a real number that is not negative, whatever the row, and two
  forms of its derivative are equal.
-/
module

public import proofs.«01_k».proof.Proof.Reals

@[expose] public section

noncomputable section

namespace Cert.Proof.Norm

open Idealize.ShloMosaic
open Cert.Proof.Attn (coe_sum)
open scoped BigOperators

/-! ## The constants -/

/-- The norm's epsilon as the single-precision number nearest to it. -/
def eps : ℝ := 8796093 / 8796093022208

theorem eps_bits : (FloatOps.ofBits (F := Ideal) .f32 0x358637BD#32 : EReal) = (eps : EReal) := by
  simp [Ideal.ofBits, Ideal.ieee, eps]
  rw [← EReal.coe_mul]
  exact congrArg Real.toEReal (by norm_num)

theorem eps_pos : 0 < eps := by unfold eps; norm_num

theorem width_bits : (FloatOps.ofBits (F := Ideal) .f32 0x45000000#32 : EReal) = ((2048 : ℝ) : EReal) := by
  simp [Ideal.ofBits, Ideal.ieee]
  rw [← EReal.coe_mul]
  exact congrArg Real.toEReal (by norm_num)

theorem neg_half_bits : (FloatOps.ofBits (F := Ideal) .f32 0xBF000000#32 : EReal) = ((-(1 / 2) : ℝ) : EReal) := by
  simp [Ideal.ofBits, Ideal.ieee]
  rw [← EReal.coe_mul]
  exact congrArg Real.toEReal (by norm_num)

/-! ## Sums -/

theorem sq_nonneg (x : EReal) : 0 ≤ x * x := by
  rcases le_total 0 x with h | h
  · exact EReal.mul_nonneg h h
  · rw [← neg_mul_neg]
    have h' : 0 ≤ -x := EReal.neg_nonneg.mpr h
    exact EReal.mul_nonneg h' h'

/-- A real factor that is not negative comes out of a sum. -/
theorem sum_mul_real {ι : Type} (s : Finset ι) (f : ι → EReal) {r : ℝ} (h : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr h) (EReal.coe_ne_top r)]

/-! ## A row's scale -/

/-- The mean of the squares, with epsilon. -/
def meanSq {n : ℕ} (w : EReal) (x : Fin n → EReal) : EReal := Ideal.div (∑ k, x k * x k) w + (eps : EReal)

/-- The scale. -/
def scale {n : ℕ} (w : EReal) (x : Fin n → EReal) : EReal := Ideal.rsqrt (meanSq w x)

/-- The scale is a real number that is not negative, and its quotient by the mean square is its cube. -/
theorem scale_real {n : ℕ} {w : ℝ} (hw : 0 < w) (x : Fin n → EReal) :
    ∃ r : ℝ, 0 ≤ r ∧ scale (w : EReal) x = (r : EReal) ∧ Ideal.div (scale (w : EReal) x) (meanSq (w : EReal) x) = ((r * r * r : ℝ) : EReal) := by
  have hs : 0 < meanSq (w : EReal) x := by
    unfold meanSq
    rw [Ideal.div_coe hw.ne']
    refine lt_of_lt_of_le (EReal.coe_pos.mpr eps_pos) ?_
    refine le_add_of_nonneg_left (EReal.mul_nonneg (Finset.sum_nonneg fun k _ => sq_nonneg (x k)) (EReal.coe_nonneg.mpr ?_))
    exact (one_div_pos.mpr hw).le
  unfold scale
  revert hs
  generalize meanSq (w : EReal) x = y
  intro hs
  induction y using EReal.rec with
  | bot => exact absurd hs (by simp)
  | top =>
    refine ⟨0, le_rfl, Ideal.rsqrt_top, ?_⟩
    rw [Ideal.rsqrt_top]
    simp [Ideal.div]
  | coe s =>
    have hs' : 0 < s := EReal.coe_pos.mp hs
    have e : Ideal.rsqrt (s : EReal) = (((Real.sqrt s)⁻¹ : ℝ) : EReal) := by
      rw [Ideal.rsqrt_coe, if_neg hs'.not_gt, if_neg hs'.ne']
    refine ⟨(Real.sqrt s)⁻¹, inv_nonneg.mpr (Real.sqrt_nonneg s), e, ?_⟩
    rw [e, Ideal.div_coe hs'.ne', ← EReal.coe_mul]
    refine congrArg _ ?_
    have q : Real.sqrt s * Real.sqrt s = s := Real.mul_self_sqrt hs'.le
    have p : Real.sqrt s ≠ 0 := (Real.sqrt_pos.mpr hs').ne'
    rw [one_div, mul_assoc]
    refine congrArg _ ?_
    rw [← mul_inv, q]

/-! ## The derivative by a row -/

/-- The two forms: `a` the cotangent times the gain, `t` the sum of its products with the row. -/
theorem derivative {r : ℝ} (hr : 0 ≤ r) (a x t : EReal) :
    (r : EReal) * (a - x * (r : EReal) * Ideal.div (t * (r : EReal)) ((2048 : ℝ) : EReal))
      = a * (r : EReal) + x * Ideal.div (t * (((-(1 / 2) : ℝ) : EReal) * ((r * r * r : ℝ) : EReal))) ((2048 : ℝ) : EReal)
        + Ideal.div (t * (((-(1 / 2) : ℝ) : EReal) * ((r * r * r : ℝ) : EReal))) ((2048 : ℝ) : EReal) * x := by
  have h0 : (0 : ℝ) ≤ r * r * r / 4096 := by positivity
  have e1 : x * (r : EReal) * Ideal.div (t * (r : EReal)) ((2048 : ℝ) : EReal) = x * t * ((r * r / 2048 : ℝ) : EReal) := by
    rw [Ideal.div_coe (by norm_num), show (r * r / 2048 : ℝ) = r * (r * (1 / 2048)) by ring, EReal.coe_mul, EReal.coe_mul]
    ac_rfl
  have e2 : Ideal.div (t * (((-(1 / 2) : ℝ) : EReal) * ((r * r * r : ℝ) : EReal))) ((2048 : ℝ) : EReal) = -(t * ((r * r * r / 4096 : ℝ) : EReal)) := by
    rw [Ideal.div_coe (by norm_num), mul_assoc, ← EReal.coe_mul, ← EReal.coe_mul, ← mul_neg, ← EReal.coe_neg]
    exact congrArg (fun z : ℝ => t * (z : EReal)) (by ring)
  rw [e1, e2, sub_eq_add_neg, EReal.left_distrib_of_nonneg_of_ne_top (EReal.coe_nonneg.mpr hr) (EReal.coe_ne_top r), mul_comm (r : EReal) a, add_assoc]
  refine congrArg _ ?_
  have e3 : x * -(t * ((r * r * r / 4096 : ℝ) : EReal)) = -(x * t) * ((r * r * r / 4096 : ℝ) : EReal) := by
    rw [mul_neg, neg_mul, mul_assoc x t]
  rw [mul_comm (-(t * _)) x, e3, ← EReal.left_distrib_of_nonneg (EReal.coe_nonneg.mpr h0) (EReal.coe_nonneg.mpr h0), ← EReal.coe_add,
    show (r * r * r / 4096 + r * r * r / 4096 : ℝ) = r * r / 2048 * r by ring, EReal.coe_mul, ← mul_assoc, neg_mul]
  exact mul_comm _ _

end Cert.Proof.Norm

end
-- ==== Proof.NormGrad.lean ====
/-
  The gradient of a norm by its input, added to the residual stream's, and by its gain: the call `a1_dnorm`. A block holds
  256 whole rows; the gradient by the gain is summed over the 32 blocks.
-/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.NormRow
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.Lib.Pointwise
public import Idealize.ShloMosaic.PureOps.Ideal.Laws

@[expose] public section

set_option maxRecDepth 16384

noncomputable section

namespace Cert.Proof.NormGrad

open Idealize.ShloMosaic hiding ix0 ix1 ix2 ix3 eq_ix1 eq_ix2 eq_ix3
open Idealize.ShloMosaic.ValueIdx Idealize.ShloMosaic.TcCoe Idealize.SL.Sem
open Cert.Proof.Norm
open scoped BigOperators

/-! ## The rows -/

/-- The width. -/
abbrev width : EReal := ((2048 : ℝ) : EReal)

/-- An entry of the gradient by the input, from the row, the gain, the cotangent's row and the residual stream's entry. -/
def byInput (x g d : Fin 2048 → EReal) (res : EReal) (j : Fin 2048) : EReal :=
  res + scale width x * (d j * g j - x j * scale width x * Ideal.div (∑ k, d k * g k * (x k * scale width x)) width)

/-- A row's part of the gradient by the gain. -/
def byGain (x d : Fin 2048 → EReal) (j : Fin 2048) : EReal := d j * (x j * scale width x)

/-- The reference's form of the first. -/
theorem byInput_eq (x g d : Fin 2048 → EReal) (res : EReal) (j : Fin 2048) :
    byInput x g d res j = res + (d j * g j * scale width x
      + x j * Ideal.div ((∑ k, x k * (d k * g k)) * (((-(1 / 2) : ℝ) : EReal) * Ideal.div (scale width x) (meanSq width x))) width
      + Ideal.div ((∑ k, x k * (d k * g k)) * (((-(1 / 2) : ℝ) : EReal) * Ideal.div (scale width x) (meanSq width x))) width * x j) := by
  obtain ⟨r, hr, e1, e2⟩ := scale_real (w := 2048) (by norm_num) x
  unfold byInput
  rw [e2, e1, ← derivative hr, ← sum_mul_real _ _ hr]
  refine congrArg (fun z => res + (r : EReal) * (d j * g j - x j * (r : EReal) * Ideal.div z width)) (Finset.sum_congr rfl fun k _ => ?_)
  ac_rfl

/-! ## The reference -/

section
open Cert.Reference20Ideal Cert.Reference20Ideal.Gen Cert.Reference20Ideal.Read

variable (x d res : FVec Ideal S8192x2048 .f32) (g : FVec Ideal S1x2048 .f32) (n : Fin 8192) (j : Fin 2048)

theorem ref_mean (i : S8192x1.Idx) : val_main_v6 (F := Ideal) x i = meanSq width fun k => x (ix2 (i 0) k) := by
  rw [val_main_v6_apply, val_main_v4_apply, val_main_v2_apply, val_main_v1_apply, val_main_cst_apply, val_main_v3_apply, val_main_cst_0_apply,
    val_main_v5_apply, val_main_cst_1_apply, eps_bits, width_bits, Attn.zero_bits, EReal.coe_zero, zero_add]
  unfold meanSq
  refine congrArg (fun z => Ideal.div z width + (eps : EReal)) (Finset.sum_congr rfl fun k _ => ?_)
  rw [val_main_v0_apply, eq_ix2 (idx_main_v1 (idx_main_v2 i) k)]
  rfl

theorem ref_scale (i : S8192x1.Idx) : val_main_v7 (F := Ideal) x i = scale width fun k => x (ix2 (i 0) k) := by
  rw [val_main_v7_apply, ref_mean]
  rfl

theorem ref_gain : val_main_v17 (F := Ideal) x d (ix2 0 j) = ∑ n : Fin 8192, byGain (fun k => x (ix2 n k)) (fun k => d (ix2 n k)) j := by
  rw [val_main_v17_apply, val_main_v16_apply, val_main_cst_3_apply, Attn.zero_bits, EReal.coe_zero, zero_add]
  refine Finset.sum_congr rfl fun n _ => ?_
  have e : idx_main_v16 (idx_main_v17 (ix2 0 j)) n = ix2 n j := funext fun a => Fin.ext (by
    match a with
    | ⟨0, _⟩ => rfl
    | ⟨1, _⟩ => show 0 * 2048 + j.val = j.val; omega)
  rw [val_main_v15_apply, val_main_v12_apply, val_main_v11_apply, ref_scale, e]
  exact mul_comm (x (ix2 n j) * scale width fun k => x (ix2 n k)) (d (ix2 n j))

/-- The derivative of the scale, times the cotangent's sum, over the width. -/
theorem ref_mid (i : S8192.Idx) : val_main_v28 (F := Ideal) x g d i
    = Ideal.div ((∑ k, x (ix2 (i 0) k) * (d (ix2 (i 0) k) * g (ix2 0 k)))
        * (((-(1 / 2) : ℝ) : EReal) * Ideal.div (scale width fun k => x (ix2 (i 0) k)) (meanSq width fun k => x (ix2 (i 0) k)))) width := by
  rw [val_main_v28_apply, val_main_cst_6_apply, Attn.zero_bits, EReal.coe_zero, zero_add, Fin.sum_univ_one, val_main_v27_apply, val_main_v26_apply,
    val_main_cst_5_apply, width_bits, val_main_v25_apply, val_main_v10_apply, val_main_v9_apply, val_main_cst_2_apply, neg_half_bits, val_main_v8_apply,
    ref_mean, ref_scale, val_main_v22_apply, val_main_v21_apply, val_main_cst_4_apply, Attn.zero_bits, EReal.coe_zero, zero_add]
  refine congrArg (fun z : EReal => Ideal.div (z * (((-(1 / 2) : ℝ) : EReal) * Ideal.div (scale width fun k => x (ix2 (i 0) k)) (meanSq width fun k => x (ix2 (i 0) k)))) width)
    (Finset.sum_congr rfl fun k _ => ?_)
  have e : idx_main_v21 (idx_main_v22 (idx_main_v28 i 0)) k = ix2 (i 0) k := funext fun a => Fin.ext (by
    match a with
    | ⟨0, _⟩ => show (i 0).val * 1 + 0 = (i 0).val; omega
    | ⟨1, _⟩ => rfl)
  rw [val_main_v20_apply, val_main_v19_apply, val_main_v18_apply, e, eq_ix2 (idx_main_v18 (ix2 (i 0) k))]
  rfl

theorem ref_input : val_main_v34 (F := Ideal) x g d res (ix2 n j)
    = byInput (fun k => x (ix2 n k)) (fun k => g (ix2 0 k)) (fun k => d (ix2 n k)) (res (ix2 n j)) j := by
  rw [byInput_eq, val_main_v34_apply, val_main_v33_apply, val_main_v32_apply, val_main_v31_apply, val_main_v30_apply, val_main_v29_apply, ref_mid,
    val_main_v24_apply, val_main_v23_apply, ref_scale, val_main_v19_apply, val_main_v18_apply, eq_ix2 (idx_main_v18 (ix2 n j))]
  rfl

end

/-! ## The launch -/

section
open Cert.Kernel20Ideal Cert.Kernel20Ideal.Gen

variable (m : (ℓ : Loc nD τ sig) → Buf (Elt Ideal) ℓ) (c : Dev nD)

/-- The arguments. -/
abbrev argX : FVec Ideal S8192x2048 .f32 := m ((c : Thread nD τ).loc main_arg0)
abbrev argG : FVec Ideal S1x2048 .f32 := m ((c : Thread nD τ).loc main_arg1)
abbrev argD : FVec Ideal S8192x2048 .f32 := m ((c : Thread nD τ).loc main_arg2)
abbrev argR : FVec Ideal S8192x2048 .f32 := m ((c : Thread nD τ).loc main_arg3)

/-- The gradient by the input, added to the residual stream's. -/
def dInput : FVec Ideal S8192x2048 .f32 := fun i =>
  byInput (fun k => argX m c (ix2 (i 0) k)) (fun k => argG m c (ix2 0 k)) (fun k => argD m c (ix2 (i 0) k)) (argR m c (ix2 (i 0) (i 1))) (i 1)

/-- The same, rounded: over the reals the same numbers. -/
def dInputCast : FVec Ideal S8192x2048 .bf16 := fun i => dInput m c i

/-- A row's part of the gradient by the gain. -/
def part (j : Fin 2048) (n : Fin 8192) : EReal := byGain (fun k => argX m c (ix2 n k)) (fun k => argD m c (ix2 n k)) j

/-- The gradient by the gain. -/
def dGain : FVec Ideal S1x2048 .f32 := fun i => ∑ n : Fin 8192, part m c (i 1) n

theorem N_eq : cfg0.N = 32 := by decide +kernel
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = t.val ∧ win0_5.index t 1 = 0 := by decide +kernel
theorem index_6 : ∀ t : Fin grid0.N, win0_6.index t 0 = 0 ∧ win0_6.index t 1 = 0 := by decide +kernel

theorem pay_scale (x : FVec Ideal S256x2048 .f32) (r : Fin 256) : k0_pay2 (F := Ideal) x (ix2 r 0) = scale width fun k => x (ix2 r k) := by
  pointwise [k0_pay2]
  simp only [Idealize.ShloMosaic.ix2_eq_valueIdx]
  unfold scale meanSq
  rw [show width = Ideal.ofBits .f32 0x45000000#32 from width_bits.symm, show (eps : EReal) = Ideal.ofBits .f32 0x358637BD#32 from eps_bits.symm]

theorem pay_row (x : FVec Ideal S256x2048 .f32) (r : Fin 256) (j : Fin 2048) :
    k0_pay3 (F := Ideal) x (ix2 r j) = x (ix2 r j) * scale width fun k => x (ix2 r k) := by
  rw [← pay_scale]
  pointwise [k0_pay3]
  simp only [Idealize.ShloMosaic.ix2_eq_valueIdx]

theorem pay_gain (x d : FVec Ideal S256x2048 .f32) (j : Fin 2048) :
    k0_pay4 (F := Ideal) x d (ix2 0 j) = ∑ l : Fin 256, byGain (fun k => x (ix2 l k)) (fun k => d (ix2 l k)) j := by
  unfold byGain
  simp only [← pay_row]
  pointwise [k0_pay4]
  simp only [Idealize.ShloMosaic.ix2_eq_valueIdx]

theorem pay_gain_next (x d : FVec Ideal S256x2048 .f32) (v : FVec Ideal S1x2048 .f32) (j : Fin 2048) :
    k0_pay5 (F := Ideal) x d v (ix2 0 j) = v (ix2 0 j) + ∑ l : Fin 256, byGain (fun k => x (ix2 l k)) (fun k => d (ix2 l k)) j := by
  rw [← pay_gain]
  unfold k0_pay5
  rw [shapeCast_self]
  rfl

theorem pay_input (x d res : FVec Ideal S256x2048 .f32) (g : FVec Ideal S1x2048 .f32) (r : Fin 256) (j : Fin 2048) :
    k0_pay6 (F := Ideal) x d g res (ix2 r j)
      = byInput (fun k => x (ix2 r k)) (fun k => g (ix2 0 k)) (fun k => d (ix2 r k)) (res (ix2 r j)) j := by
  unfold byInput
  simp only [← pay_row]
  rw [← pay_scale]
  pointwise [k0_pay6]
  simp only [Idealize.ShloMosaic.ix2_eq_valueIdx]
  rw [show width = Ideal.ofBits .f32 0x45000000#32 from width_bits.symm]

/-- The blocks a point reads. -/
abbrev xB (t : Fin cfg0.N) : FVec Ideal S256x2048 .f32 := iblk m c 0 t
abbrev gB (t : Fin cfg0.N) : FVec Ideal S1x2048 .f32 := iblk m c 1 t
abbrev dB (t : Fin cfg0.N) : FVec Ideal S256x2048 .f32 := iblk m c 2 t
abbrev rB (t : Fin cfg0.N) : FVec Ideal S256x2048 .f32 := iblk m c 3 t

/-- The row of the whole array that is row `r` of a point's block. -/
abbrev row (t : Fin cfg0.N) (r : Fin 256) : Fin 8192 := ⟨t.val * 256 + r.val, by have := t.isLt; have := N_eq; omega⟩

theorem xB_apply (t : Fin cfg0.N) (r : Fin 256) (j : Fin 2048) : xB m c t (ix2 r j) = argX m c (ix2 (row t r) j) := by
  refine Eq.trans ?_ (congrFun (V_main_arg0 m c) _)
  unfold xB iblk
  rw [View.read_apply]
  show V m c main_arg0 _ = V m c main_arg0 _
  refine congrArg _ (funext fun a => Fin.ext ?_)
  match a with
  | ⟨0, _⟩ => show win0_0.index t 0 * 256 + 1 * r.val = t.val * 256 + r.val; rw [(index_0 t).1]; omega
  | ⟨1, _⟩ => show win0_0.index t 1 * 2048 + 1 * j.val = j.val; rw [(index_0 t).2]; omega

theorem gB_apply (t : Fin cfg0.N) (j : Fin 2048) : gB m c t (ix2 0 j) = argG m c (ix2 0 j) := by
  refine Eq.trans ?_ (congrFun (V_main_arg1 m c) _)
  unfold gB iblk
  rw [View.read_apply]
  show V m c main_arg1 _ = V m c main_arg1 _
  refine congrArg _ (funext fun a => Fin.ext ?_)
  match a with
  | ⟨0, _⟩ => show win0_1.index t 0 * 1 + 1 * 0 = 0; rw [(index_1 t).1]
  | ⟨1, _⟩ => show win0_1.index t 1 * 2048 + 1 * j.val = j.val; rw [(index_1 t).2]; omega

theorem dB_apply (t : Fin cfg0.N) (r : Fin 256) (j : Fin 2048) : dB m c t (ix2 r j) = argD m c (ix2 (row t r) j) := by
  refine Eq.trans ?_ (congrFun (V_main_arg2 m c) _)
  unfold dB iblk
  rw [View.read_apply]
  show V m c main_arg2 _ = V m c main_arg2 _
  refine congrArg _ (funext fun a => Fin.ext ?_)
  match a with
  | ⟨0, _⟩ => show win0_2.index t 0 * 256 + 1 * r.val = t.val * 256 + r.val; rw [(index_2 t).1]; omega
  | ⟨1, _⟩ => show win0_2.index t 1 * 2048 + 1 * j.val = j.val; rw [(index_2 t).2]; omega

theorem rB_apply (t : Fin cfg0.N) (r : Fin 256) (j : Fin 2048) : rB m c t (ix2 r j) = argR m c (ix2 (row t r) j) := by
  refine Eq.trans ?_ (congrFun (V_main_arg3 m c) _)
  unfold rB iblk
  rw [View.read_apply]
  show V m c main_arg3 _ = V m c main_arg3 _
  refine congrArg _ (funext fun a => Fin.ext ?_)
  match a with
  | ⟨0, _⟩ => show win0_3.index t 0 * 256 + 1 * r.val = t.val * 256 + r.val; rw [(index_3 t).1]; omega
  | ⟨1, _⟩ => show win0_3.index t 1 * 2048 + 1 * j.val = j.val; rw [(index_3 t).2]; omega

/-- What a point leaves of the gradient by the input. -/
theorem out_input (t : Fin cfg0.N) : ((outsAt0 m c t.val t.isLt).1 : FVec Ideal S256x2048 .f32) = k0_pay6 (F := Ideal) (xB m c t) (dB m c t) (gB m c t) (rB m c t) := by
  have := t.isLt; have := N_eq
  by_cases h : t.val % 32 = 0
  · rw [outsAt0_A m c t h (by omega)]; frame_out
  · rw [outsAt0_B m c t h (by omega)]; frame_out

theorem out_cast (t : Fin cfg0.N) : ((outsAt0 m c t.val t.isLt).2.1 : FVec Ideal S256x2048 .bf16) = k0_pay1 (F := Ideal) (k0_pay6 (F := Ideal) (xB m c t) (dB m c t) (gB m c t) (rB m c t)) := by
  have := t.isLt; have := N_eq
  by_cases h : t.val % 32 = 0
  · rw [outsAt0_A m c t h (by omega)]; frame_out
  · rw [outsAt0_B m c t h (by omega)]; frame_out

/-- One of its entries. -/
theorem block_input (t : Fin cfg0.N) (r : Fin 256) (j : Fin 2048) :
    k0_pay6 (F := Ideal) (xB m c t) (dB m c t) (gB m c t) (rB m c t) (ix2 r j) = dInput m c (ix2 (row t r) j) := by
  rw [pay_input]
  simp only [xB_apply, gB_apply, dB_apply, rB_apply]
  rfl

theorem emb_4 (t : Fin cfg0.N) (y : ((cfg0.win 4).xblock (cfg0.grid.coords t)).Idx) :
    (((cfg0.win 4).blk t).view.emb y : S8192x2048.Idx) = ix2 (n0 := 8192) (n1 := 2048) (row t ⟨(y 0).val, (y 0).isLt⟩) ⟨(y 1).val, (y 1).isLt⟩ := by
  funext a; apply Fin.ext
  match a with
  | ⟨0, _⟩ => show win0_4.index t 0 * 256 + 1 * (y 0).val = t.val * 256 + (y 0).val; rw [(index_4 t).1]; omega
  | ⟨1, _⟩ => show win0_4.index t 1 * 2048 + 1 * (y 1).val = (y 1).val; rw [(index_4 t).2]; omega

theorem emb_5 (t : Fin cfg0.N) (y : ((cfg0.win 5).xblock (cfg0.grid.coords t)).Idx) :
    (((cfg0.win 5).blk t).view.emb y : S8192x2048.Idx) = ix2 (n0 := 8192) (n1 := 2048) (row t ⟨(y 0).val, (y 0).isLt⟩) ⟨(y 1).val, (y 1).isLt⟩ := by
  funext a; apply Fin.ext
  match a with
  | ⟨0, _⟩ => show win0_5.index t 0 * 256 + 1 * (y 0).val = t.val * 256 + (y 0).val; rw [(index_5 t).1]; omega
  | ⟨1, _⟩ => show win0_5.index t 1 * 2048 + 1 * (y 1).val = (y 1).val; rw [(index_5 t).2]; omega

theorem emb_6 (t : Fin cfg0.N) (y : ((cfg0.win 6).xblock (cfg0.grid.coords t)).Idx) :
    (((cfg0.win 6).blk t).view.emb y : S1x2048.Idx) = ix2 (n0 := 1) (n1 := 2048) 0 ⟨(y 1).val, (y 1).isLt⟩ := by
  have : (y 0).val < 1 := (y 0).isLt
  funext a; apply Fin.ext
  match a with
  | ⟨0, _⟩ => show win0_6.index t 0 * 1 + 1 * (y 0).val = 0; rw [(index_6 t).1]; omega
  | ⟨1, _⟩ => show win0_6.index t 1 * 2048 + 1 * (y 1).val = (y 1).val; rw [(index_6 t).2]; omega

/-- The launch's first two results. -/
theorem final_4 : (dats m 0 c).arrAt 4 cfg0.N = dInput m c := by
  refine (dats m 0 c).arrAt_eq_of_covers 4 _ (by decide +kernel) fun t hf y => ?_
  refine (cast_eq _ _).trans ((congrFun ((after0_4 m c t).trans (out_input m c t)) _).trans ?_)
  refine Eq.trans ?_ (congrArg (dInput m c) (emb_4 t y)).symm
  exact (congrArg (k0_pay6 (F := Ideal) (xB m c t) (dB m c t) (gB m c t) (rB m c t)) (eq_ix2 _)).trans (block_input m c t _ _)

theorem final_5 : (dats m 0 c).arrAt 5 cfg0.N = dInputCast m c := by
  refine (dats m 0 c).arrAt_eq_of_covers 5 _ (by decide +kernel) fun t hf y => ?_
  refine (cast_eq _ _).trans ((congrFun ((after0_5 m c t).trans (out_cast m c t)) _).trans ?_)
  refine Eq.trans ?_ (congrArg (dInput m c) (emb_5 t y)).symm
  exact (congrArg (k0_pay6 (F := Ideal) (xB m c t) (dB m c t) (gB m c t) (rB m c t)) (eq_ix2 _)).trans (block_input m c t _ _)

/-- What the last point leaves of the gradient by the gain. -/
theorem out_gain (t : Fin cfg0.N) (h : t.val % 32 = 31) (j : Fin 2048) :
    ((outsAt0 m c t.val t.isLt).2.2 : FVec Ideal S1x2048 .f32) (ix2 0 j)
      = ∑ s : Fin 32, ∑ l : Fin 256, byGain (fun k => xB m c ⟨32 * (t.val / 32) + s.val, by have := t.isLt; have := N_eq; omega⟩ (ix2 l k))
          (fun k => dB m c ⟨32 * (t.val / 32) + s.val, by have := t.isLt; have := N_eq; omega⟩ (ix2 l k)) j := by
  rw [Pipeline.eq_sum_fin_of_reset_step_apply_of_flush (fun n h (j : Fin 2048) => ((outsAt0 m c n h).2.2 : FVec Ideal S1x2048 .f32) (ix2 0 j)) 32
    (fun _ => (0 : EReal)) (fun t j => ∑ l : Fin 256, byGain (fun k => xB m c t (ix2 l k)) (fun k => dB m c t (ix2 l k)) j)
    (fun t h j => by have := t.isLt; have := N_eq; rw [outsAt0_A m c t h (by omega)]; frame_out; exact (pay_gain _ _ _).trans (zero_add _).symm)
    (fun t h j => by rw [outsAt0_B m c t h (by omega)]; frame_out; exact pay_gain_next _ _ _ _) t h j]
  exact zero_add _

/-- The launch's third result. -/
theorem final_6 : (dats m 0 c).arrAt 6 cfg0.N = dGain m c := by
  refine (dats m 0 c).arrAt_eq_of_covers 6 _ (by decide +kernel) fun t hf y => ?_
  have ht : t.val < 32 := lt_of_lt_of_eq t.isLt N_eq
  have hm : t.val % 32 = 31 := (flush0_6 t).mp hf
  have h0 : (y 0).val < 1 := (y 0).isLt
  refine (cast_eq _ _).trans ((congrFun (after0_6 m c t) _).trans ?_)
  refine Eq.trans ?_ (congrArg (dGain m c) (emb_6 t y)).symm
  refine (congrArg ((outsAt0 m c t.val t.isLt).2.2 : FVec Ideal S1x2048 .f32)
    (funext fun a => Fin.ext (by match a with | ⟨0, _⟩ => show (y 0).val = 0; omega | ⟨1, _⟩ => rfl))).trans ((out_gain m c t hm ⟨(y 1).val, (y 1).isLt⟩).trans ?_)
  refine Eq.trans ?_ (sum_blocks 32 256 rfl _).symm
  refine Finset.sum_congr rfl fun s _ => Finset.sum_congr rfl fun l _ => ?_
  simp only [xB_apply, dB_apply]
  refine congrArg (part m c _) (Fin.ext ?_)
  show (32 * (t.val / 32) + s.val) * 256 + l.val = s.val * 256 + l.val
  omega

end

/-! ## Equal -/

/-- The launch's results are the reference's. -/
theorem algebraic : Cert.algebraic_Kernel20Ideal_Reference20Ideal := fun m g m' g' _ hargs => by
  refine ⟨fun c => dInput m c, fun c => dInputCast m c, fun c => dGain m c, ?_, ?_⟩
  · refine (θ_run _ _ _).mono (fun r h c => ?_) (Cert.Kernel20Ideal.Value.run_blocks (F := Ideal) m g)
    exact ⟨(h c).1.trans (final_4 m c), (h c).2.1.trans (final_5 m c), (h c).2.2.1.trans (final_6 m c), (h c).2.2.2⟩
  · refine (θ_run _ _ _).mono (fun r h c => ?_) (Cert.Reference20Ideal.Value.run (F := Ideal) m' g')
    obtain ⟨a0, a1, a2, a3⟩ := hargs c
    refine ⟨(h c).1.trans ?_, (h c).2.1.trans ?_, (h c).2.2.1.trans ?_, (h c).2.2.2⟩
    · rw [Cert.Reference20Ideal.Read.val_main_v34_eq, a0, a1, a2, a3]
      funext i
      rw [eq_ix2 i]
      exact ref_input _ _ _ _ (i 0) (i 1)
    · rw [Cert.Reference20Ideal.Read.val_main_v35_eq, a0, a1, a2, a3]
      funext i
      rw [eq_ix2 i]
      exact ref_input _ _ _ _ (i 0) (i 1)
    · rw [Cert.Reference20Ideal.Read.val_main_v17_eq, a0, a2]
      funext i
      have hi : i 0 = (0 : Fin 1) := Fin.ext (by have : (i 0).val < 1 := (i 0).isLt; show (i 0).val = 0; omega)
      rw [eq_ix2 i, hi]
      exact ref_gain _ _ (i 1)

end Cert.Proof.NormGrad

end
-- ==== Proof.Loss.lean ====
/-
  The loss of one device's tokens and the gradient by the last activations: the call `loss_grad`. A block holds 512 whole rows;
  the columns' sums of squares are added over the 16 blocks, and the host adds the columns.
-/
module

public import proofs.«01_k».proof.Defs
public import proofs.«01_k».proof.Proof.Gen.Kernel21Ideal.Frame
public import proofs.«01_k».proof.Proof.Gen.Reference21Ideal.Run
public import proofs.«01_k».proof.Proof.Gen.Reference21Ideal.Read
public import proofs.«01_k».proof.Proof.NormRow
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.Lib.Pointwise
public import Idealize.ShloMosaic.PureOps.Ideal.Laws

@[expose] public section

set_option maxRecDepth 16384

noncomputable section

namespace Cert.Proof.Loss

open Idealize.ShloMosaic hiding ix0 ix1 ix2 ix3 eq_ix1 eq_ix2 eq_ix3
open Idealize.ShloMosaic.ValueIdx Idealize.ShloMosaic.TcCoe Idealize.SL.Sem
open Cert.Proof.Norm
open scoped BigOperators

/-! ## The numbers -/

abbrev width : EReal := ((2048 : ℝ) : EReal)
abbrev half : EReal := ((1 / 2 : ℝ) : EReal)
abbrev step : EReal := ((1 / 2048 : ℝ) : EReal)

theorem half_bits : (FloatOps.ofBits (F := Ideal) .f32 0x3F000000#32 : EReal) = half := by
  simp [Ideal.ofBits, Ideal.ieee]
  rw [← EReal.coe_mul]
  exact congrArg Real.toEReal (by norm_num)

theorem step_bits : (FloatOps.ofBits (F := Ideal) .f32 0x3A000000#32 : EReal) = step := by
  simp [Ideal.ofBits, Ideal.ieee]
  rw [← EReal.coe_mul]
  exact congrArg Real.toEReal (by norm_num)

/-- The loss from the squares. -/
def lossOf (sq : Fin 8192 → Fin 2048 → EReal) : EReal := Ideal.div (half * ∑ j, ∑ n, sq n j) width

/-- The reference takes each row's mean first. -/
theorem lossOf_rows (sq : Fin 8192 → Fin 2048 → EReal) : half * ∑ n, Ideal.div (∑ j, sq n j) width = lossOf sq := by
  have hw : (2048 : ℝ) ≠ 0 := by norm_num
  unfold lossOf
  rw [Ideal.div_coe hw, mul_assoc, Finset.sum_comm, ← sum_mul_real _ _ (by norm_num : (0 : ℝ) ≤ 1 / 2048)]
  exact congrArg (half * ·) (Finset.sum_congr rfl fun n _ => Ideal.div_coe hw _)

/-- The reference's gradient. -/
theorem step_eq (d : EReal) : Ideal.div (half * ((1 : ℝ) : EReal)) width * (((2 : ℝ) : EReal) * d) = d * step := by
  rw [Ideal.div_coe (by norm_num : (2048 : ℝ) ≠ 0), ← EReal.coe_mul, ← EReal.coe_mul, ← mul_assoc, ← EReal.coe_mul, mul_comm]
  exact congrArg (fun z : ℝ => d * (z : EReal)) (by norm_num)

/-! ## The reference -/

section
open Cert.Reference21Ideal Cert.Reference21Ideal.Gen Cert.Reference21Ideal.Read

variable (x y : FVec Ideal S8192x2048 .f32) (n : Fin 8192) (j : Fin 2048)

theorem ref_loss (i : S_.Idx) : val_main_v8 (F := Ideal) x y i = lossOf fun n j => (x (ix2 n j) - y (ix2 n j)) * (x (ix2 n j) - y (ix2 n j)) := by
  rw [← lossOf_rows, val_main_v8_apply, val_main_cst_3_apply, half_bits, val_main_v7_apply, val_main_cst_2_apply, Attn.zero_bits, EReal.coe_zero, zero_add,
    Idealize.ShloMosaic.sum_idx1]
  refine congrArg (half * ·) (Finset.sum_congr rfl fun n _ => ?_)
  rw [val_main_v6_apply, val_main_v5_apply, val_main_cst_1_apply, width_bits, val_main_v4_apply, val_main_cst_0_apply, Attn.zero_bits, EReal.coe_zero, zero_add]
  refine congrArg (fun z : EReal => Ideal.div z width) (Finset.sum_congr rfl fun k _ => ?_)
  rw [val_main_v1_apply, val_main_v0_apply, eq_ix2 (idx_main_v4 (Idealize.ShloMosaic.ix1 n) k)]
  rfl

theorem ref_grad : val_main_v14 (F := Ideal) x y (ix2 n j) = (x (ix2 n j) - y (ix2 n j)) * step := by
  rw [← step_eq, val_main_v14_apply, val_main_v13_apply, val_main_v12_apply, val_main_v11_apply, val_main_cst_6_apply, width_bits, val_main_v10_apply,
    val_main_v9_apply, val_main_cst_4_apply, half_bits, val_main_cst_5_apply, Attn.one_bits, val_main_v3_apply, val_main_v2_apply, val_main_cst_apply, Attn.two_bits,
    val_main_v0_apply]
  rfl

end

/-! ## The launch -/

section
open Cert.Kernel21Ideal Cert.Kernel21Ideal.Gen

variable (m : (ℓ : Loc nD τ sig) → Buf (Elt Ideal) ℓ) (c : Dev nD)

/-- The arguments. -/
abbrev argX : FVec Ideal S8192x2048 .f32 := m ((c : Thread nD τ).loc main_arg0)
abbrev argY : FVec Ideal S8192x2048 .f32 := m ((c : Thread nD τ).loc main_arg1)

/-- The difference, and its square. -/
def diff (n : Fin 8192) (j : Fin 2048) : EReal := argX m c (ix2 n j) - argY m c (ix2 n j)
def sq (n : Fin 8192) (j : Fin 2048) : EReal := diff m c n j * diff m c n j

/-- The results. -/
def loss : FVec Ideal S_ .f32 := fun _ => lossOf (sq m c)
def grad : FVec Ideal S8192x2048 .f32 := fun i => diff m c (i 0) (i 1) * step
def gradCast : FVec Ideal S8192x2048 .bf16 := fun i => grad m c i

/-- The columns' sums. -/
def columns : FVec Ideal S1x2048 .f32 := fun i => ∑ n : Fin 8192, sq m c n (i 1)

theorem N_eq : cfg0.N = 16 := by decide +kernel
theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = 0 ∧ win0_4.index t 1 = 0 := by decide +kernel

theorem pay_diff (x y : FVec Ideal S512x2048 .f32) (r : Fin 512) (j : Fin 2048) : k0_pay1 (F := Ideal) x y (ix2 r j) = x (ix2 r j) - y (ix2 r j) := rfl

theorem pay_grad (x y : FVec Ideal S512x2048 .f32) (r : Fin 512) (j : Fin 2048) : k0_pay2 (F := Ideal) x y (ix2 r j) = (x (ix2 r j) - y (ix2 r j)) * step := by
  rw [← step_bits]
  rfl

theorem pay_columns (x y : FVec Ideal S512x2048 .f32) (j : Fin 2048) :
    k0_pay4 (F := Ideal) x y (ix2 0 j) = ∑ l : Fin 512, (x (ix2 l j) - y (ix2 l j)) * (x (ix2 l j) - y (ix2 l j)) := by
  simp only [← pay_diff]
  pointwise [k0_pay4]
  simp only [Idealize.ShloMosaic.ix2_eq_valueIdx]

theorem pay_columns_next (x y : FVec Ideal S512x2048 .f32) (v : FVec Ideal S1x2048 .f32) (j : Fin 2048) :
    k0_pay5 (F := Ideal) x y v (ix2 0 j) = v (ix2 0 j) + ∑ l : Fin 512, (x (ix2 l j) - y (ix2 l j)) * (x (ix2 l j) - y (ix2 l j)) := by
  rw [← pay_columns]
  unfold k0_pay5
  rw [shapeCast_self]
  rfl

/-- The blocks a point reads. -/
abbrev xB (t : Fin cfg0.N) : FVec Ideal S512x2048 .f32 := iblk m c 0 t
abbrev yB (t : Fin cfg0.N) : FVec Ideal S512x2048 .f32 := iblk m c 1 t

/-- The row of the whole array that is row `r` of a point's block. -/
abbrev row (t : Fin cfg0.N) (r : Fin 512) : Fin 8192 := ⟨t.val * 512 + r.val, by have := t.isLt; have := N_eq; omega⟩

theorem xB_apply (t : Fin cfg0.N) (r : Fin 512) (j : Fin 2048) : xB m c t (ix2 r j) = argX m c (ix2 (row t r) j) := by
  refine Eq.trans ?_ (congrFun (V_main_arg0 m c) _)
  unfold xB iblk
  rw [View.read_apply]
  show V m c main_arg0 _ = V m c main_arg0 _
  refine congrArg _ (funext fun a => Fin.ext ?_)
  match a with
  | ⟨0, _⟩ => show win0_0.index t 0 * 512 + 1 * r.val = t.val * 512 + r.val; rw [(index_0 t).1]; omega
  | ⟨1, _⟩ => show win0_0.index t 1 * 2048 + 1 * j.val = j.val; rw [(index_0 t).2]; omega

theorem yB_apply (t : Fin cfg0.N) (r : Fin 512) (j : Fin 2048) : yB m c t (ix2 r j) = argY m c (ix2 (row t r) j) := by
  refine Eq.trans ?_ (congrFun (V_main_arg1 m c) _)
  unfold yB iblk
  rw [View.read_apply]
  show V m c main_arg1 _ = V m c main_arg1 _
  refine congrArg _ (funext fun a => Fin.ext ?_)
  match a with
  | ⟨0, _⟩ => show win0_1.index t 0 * 512 + 1 * r.val = t.val * 512 + r.val; rw [(index_1 t).1]; omega
  | ⟨1, _⟩ => show win0_1.index t 1 * 2048 + 1 * j.val = j.val; rw [(index_1 t).2]; omega

/-- What a point leaves of the gradient. -/
theorem out_grad (t : Fin cfg0.N) : ((outsAt0 m c t.val t.isLt).1 : FVec Ideal S512x2048 .f32) = k0_pay2 (F := Ideal) (xB m c t) (yB m c t) := by
  have := t.isLt; have := N_eq
  by_cases h : t.val % 16 = 0
  · rw [outsAt0_A m c t h (by omega)]; frame_out
  · rw [outsAt0_B m c t h (by omega)]; frame_out

theorem out_cast (t : Fin cfg0.N) : ((outsAt0 m c t.val t.isLt).2.1 : FVec Ideal S512x2048 .bf16) = k0_pay3 (F := Ideal) (xB m c t) (yB m c t) := by
  have := t.isLt; have := N_eq
  by_cases h : t.val % 16 = 0
  · rw [outsAt0_A m c t h (by omega)]; frame_out
  · rw [outsAt0_B m c t h (by omega)]; frame_out

/-- One of its entries. -/
theorem block_grad (t : Fin cfg0.N) (r : Fin 512) (j : Fin 2048) : k0_pay2 (F := Ideal) (xB m c t) (yB m c t) (ix2 r j) = grad m c (ix2 (row t r) j) := by
  rw [pay_grad, xB_apply, yB_apply]
  rfl

theorem emb_2 (t : Fin cfg0.N) (y : ((cfg0.win 2).xblock (cfg0.grid.coords t)).Idx) :
    (((cfg0.win 2).blk t).view.emb y : S8192x2048.Idx) = ix2 (n0 := 8192) (n1 := 2048) (row t ⟨(y 0).val, (y 0).isLt⟩) ⟨(y 1).val, (y 1).isLt⟩ := by
  funext a; apply Fin.ext
  match a with
  | ⟨0, _⟩ => show win0_2.index t 0 * 512 + 1 * (y 0).val = t.val * 512 + (y 0).val; rw [(index_2 t).1]; omega
  | ⟨1, _⟩ => show win0_2.index t 1 * 2048 + 1 * (y 1).val = (y 1).val; rw [(index_2 t).2]; omega

theorem emb_3 (t : Fin cfg0.N) (y : ((cfg0.win 3).xblock (cfg0.grid.coords t)).Idx) :
    (((cfg0.win 3).blk t).view.emb y : S8192x2048.Idx) = ix2 (n0 := 8192) (n1 := 2048) (row t ⟨(y 0).val, (y 0).isLt⟩) ⟨(y 1).val, (y 1).isLt⟩ := by
  funext a; apply Fin.ext
  match a with
  | ⟨0, _⟩ => show win0_3.index t 0 * 512 + 1 * (y 0).val = t.val * 512 + (y 0).val; rw [(index_3 t).1]; omega
  | ⟨1, _⟩ => show win0_3.index t 1 * 2048 + 1 * (y 1).val = (y 1).val; rw [(index_3 t).2]; omega

theorem emb_4 (t : Fin cfg0.N) (y : ((cfg0.win 4).xblock (cfg0.grid.coords t)).Idx) :
    (((cfg0.win 4).blk t).view.emb y : S1x2048.Idx) = ix2 (n0 := 1) (n1 := 2048) 0 ⟨(y 1).val, (y 1).isLt⟩ := by
  have : (y 0).val < 1 := (y 0).isLt
  funext a; apply Fin.ext
  match a with
  | ⟨0, _⟩ => show win0_4.index t 0 * 1 + 1 * (y 0).val = 0; rw [(index_4 t).1]; omega
  | ⟨1, _⟩ => show win0_4.index t 1 * 2048 + 1 * (y 1).val = (y 1).val; rw [(index_4 t).2]; omega

/-- The launch's results. -/
theorem final_2 : (dats m 0 c).arrAt 2 cfg0.N = grad m c := by
  refine (dats m 0 c).arrAt_eq_of_covers 2 _ (by decide +kernel) fun t hf y => ?_
  refine (cast_eq _ _).trans ((congrFun ((after0_2 m c t).trans (out_grad m c t)) _).trans ?_)
  refine Eq.trans ?_ (congrArg (grad m c) (emb_2 t y)).symm
  exact (congrArg (k0_pay2 (F := Ideal) (xB m c t) (yB m c t)) (eq_ix2 _)).trans (block_grad m c t _ _)

theorem final_3 : (dats m 0 c).arrAt 3 cfg0.N = gradCast m c := by
  refine (dats m 0 c).arrAt_eq_of_covers 3 _ (by decide +kernel) fun t hf y => ?_
  refine (cast_eq _ _).trans ((congrFun ((after0_3 m c t).trans (out_cast m c t)) _).trans ?_)
  refine Eq.trans ?_ (congrArg (grad m c) (emb_3 t y)).symm
  exact (congrArg (k0_pay2 (F := Ideal) (xB m c t) (yB m c t)) (eq_ix2 _)).trans (block_grad m c t _ _)

/-- What the last point leaves of the columns' sums. -/
theorem out_columns (t : Fin cfg0.N) (h : t.val % 16 = 15) (j : Fin 2048) :
    ((outsAt0 m c t.val t.isLt).2.2 : FVec Ideal S1x2048 .f32) (ix2 0 j)
      = ∑ s : Fin 16, ∑ l : Fin 512, sq m c (row ⟨16 * (t.val / 16) + s.val, by have := t.isLt; have := N_eq; omega⟩ l) j := by
  rw [Pipeline.eq_sum_fin_of_reset_step_apply_of_flush (fun n h (j : Fin 2048) => ((outsAt0 m c n h).2.2 : FVec Ideal S1x2048 .f32) (ix2 0 j)) 16
    (fun _ => (0 : EReal)) (fun t j => ∑ l : Fin 512, (xB m c t (ix2 l j) - yB m c t (ix2 l j)) * (xB m c t (ix2 l j) - yB m c t (ix2 l j)))
    (fun t h j => by have := t.isLt; have := N_eq; rw [outsAt0_A m c t h (by omega)]; frame_out; exact (pay_columns _ _ _).trans (zero_add _).symm)
    (fun t h j => by rw [outsAt0_B m c t h (by omega)]; frame_out; exact pay_columns_next _ _ _ _) t h j]
  refine (zero_add _).trans (Finset.sum_congr rfl fun s _ => Finset.sum_congr rfl fun l _ => ?_)
  rw [xB_apply, yB_apply]
  rfl

theorem final_4 : (dats m 0 c).arrAt 4 cfg0.N = columns m c := by
  refine (dats m 0 c).arrAt_eq_of_covers 4 _ (by decide +kernel) fun t hf y => ?_
  have ht : t.val < 16 := lt_of_lt_of_eq t.isLt N_eq
  have hm : t.val % 16 = 15 := (flush0_4 t).mp hf
  have h0 : (y 0).val < 1 := (y 0).isLt
  refine (cast_eq _ _).trans ((congrFun (after0_4 m c t) _).trans ?_)
  refine Eq.trans ?_ (congrArg (columns m c) (emb_4 t y)).symm
  refine (congrArg ((outsAt0 m c t.val t.isLt).2.2 : FVec Ideal S1x2048 .f32)
    (funext fun a => Fin.ext (by match a with | ⟨0, _⟩ => show (y 0).val = 0; omega | ⟨1, _⟩ => rfl))).trans ((out_columns m c t hm ⟨(y 1).val, (y 1).isLt⟩).trans ?_)
  refine Eq.trans ?_ (sum_blocks 16 512 rfl _).symm
  refine Finset.sum_congr rfl fun s _ => Finset.sum_congr rfl fun l _ => congrArg (fun n => sq m c n _) (Fin.ext ?_)
  show (16 * (t.val / 16) + s.val) * 512 + l.val = s.val * 512 + l.val
  omega

/-! ## The host lines after it -/

abbrev tail (U : Valuation τ sig (Elt Ideal)) : Valuation τ sig (Elt Ideal) := StableHlo.after (hostOps1 (F := Ideal)) U

/-- The buffers as the launch leaves them. -/
abbrev landed : Valuation τ sig (Elt Ideal) := Pipeline.withArrays spec0 c (V0 m c) fun w => (dats m 0 c).arrAt w cfg0.N

theorem tail_landed (b : Ref sig .tc) : Pipeline.afterTail₀ cfgs (dats m) 0 (V0 m) [hostOps1] c b = tail (landed m c) (Proc.devRef .tc b) := by
  unfold Pipeline.afterTail₀
  rw [List.flatten_singleton]

theorem arr_inj : Function.Injective (Pipeline.arrRef spec0) := by decide

theorem landed_out : landed m c (Proc.devRef .tc main_v0_2) = columns m c :=
  (Pipeline.withArrays_arr spec0 arr_inj c (V0 m c) _ 4).trans (final_4 m c)

theorem sum_columns (X : FVec Ideal S1x2048 .f32) (i : S_.Idx) :
    Host.reduceAdd X (constant S_ .f32 0x00000000#32) reducesTo_S1x2048_S_d0_1 h_S_ i = ∑ j : Fin 2048, X (ix2 0 j) := by
  simp only [Host.reduceAdd, Ideal.hostReduceAdd_def]
  rw [Ideal.hostReduceAdd_total reducesTo_S1x2048_S_d0_1 (fun b => b.elim0), show constant (F := Ideal) S_ .f32 0x00000000#32 (Shape.Idx.first h_S_) = ((0 : ℝ) : EReal) from Attn.zero_bits,
    EReal.coe_zero, zero_add, Idealize.ShloMosaic.ValueIdx.sum_idx2, Fin.sum_univ_one]

theorem tail_out (U : Valuation τ sig (Elt Ideal)) (X : FVec Ideal S1x2048 .f32) (hU : U (Proc.devRef .tc main_v0_2) = X) (i : S_.Idx) :
    (tail U (Proc.devRef .tc main_v3) : FVec Ideal S_ .f32) i = Ideal.div (half * ∑ j : Fin 2048, X (ix2 0 j)) width := by
  unfold tail
  after_reads_simp
  rw [hU, ← sum_columns X i, show width = FloatOps.ofBits (F := Ideal) .f32 0x45000000#32 from width_bits.symm, show half = FloatOps.ofBits (F := Ideal) .f32 0x3F000000#32 from half_bits.symm]
  rfl

theorem host_result : tail (landed m c) (Proc.devRef .tc main_v3) = loss m c :=
  funext fun i => (tail_out (landed m c) _ (landed_out m c) i).trans rfl

end

/-! ## Equal -/

/-- The launch's results are the reference's. -/
theorem algebraic : Cert.algebraic_Kernel21Ideal_Reference21Ideal := fun m g m' g' _ hargs => by
  refine ⟨fun c => loss m c, fun c => grad m c, fun c => gradCast m c, ?_, ?_⟩
  · refine (θ_run _ _ _).mono (fun r h c => ?_) (θ_run_and (Cert.Kernel21Ideal.Gen.run_main (F := Ideal) m g) (Cert.Kernel21Ideal.Gen.unchanged (F := Ideal) m g))
    exact ⟨((h.1 c).2 Cert.Kernel21Ideal.main_v3 (Pipeline.mem_restRefs_of Cert.Kernel21Ideal.main_v3 (by decide) (by decide))).trans
      ((tail_landed m c _).trans (host_result m c)), ((h.1 c).1 2).trans (final_2 m c), ((h.1 c).1 3).trans (final_3 m c), h.2 c⟩
  · refine (θ_run _ _ _).mono (fun r h c => ?_) (Cert.Reference21Ideal.Value.run (F := Ideal) m' g')
    obtain ⟨a0, a1⟩ := hargs c
    refine ⟨(h c).1.trans ?_, (h c).2.1.trans ?_, (h c).2.2.1.trans ?_, (h c).2.2.2⟩
    · rw [Cert.Reference21Ideal.Read.val_main_v8_eq, a0, a1]
      funext i
      exact ref_loss _ _ i
    · rw [Cert.Reference21Ideal.Read.val_main_v14_eq, a0, a1]
      funext i
      rw [eq_ix2 i]
      exact ref_grad _ _ (i 0) (i 1)
    · rw [Cert.Reference21Ideal.Read.val_main_v15_eq, a0, a1]
      funext i
      rw [eq_ix2 i]
      exact ref_grad _ _ (i 0) (i 1)

end Cert.Proof.Loss

end
-- ==== Proof.Norm.lean ====
/-
  A norm: the call `a1_norm`, which writes the normalised rows and their transpose. A block holds 512 whole rows.
-/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.NormRow
public import Idealize.ShloMosaic.Lib.Pipeline.ValueKit
public import Idealize.ShloMosaic.Lib.ValueIdx
public import Idealize.ShloMosaic.Lib.StableHlo.RunRead
public import Idealize.ShloMosaic.Lib.Pointwise
public import Idealize.ShloMosaic.PureOps.Ideal.Laws

@[expose] public section

set_option maxRecDepth 16384

noncomputable section

namespace Cert.Proof.NormBoth

open Idealize.ShloMosaic hiding ix0 ix1 ix2 ix3 eq_ix1 eq_ix2 eq_ix3
open Idealize.ShloMosaic.ValueIdx Idealize.ShloMosaic.TcCoe Idealize.SL.Sem
open Cert.Proof.Norm
open scoped BigOperators

/-- The width. -/
abbrev width : EReal := ((2048 : ℝ) : EReal)

/-- An entry of a normalised row. -/
def normed (x g : Fin 2048 → EReal) (j : Fin 2048) : EReal := x j * scale width x * g j

/-! ## The reference -/

section
open Cert.Reference22Ideal Cert.Reference22Ideal.Gen Cert.Reference22Ideal.Read

variable (x : FVec Ideal S8192x2048 .f32) (g : FVec Ideal S1x2048 .f32) (n : Fin 8192) (j : Fin 2048)

theorem ref_scale (i : S8192x1.Idx) : val_main_v7 (F := Ideal) x i = scale width fun k => x (ix2 (i 0) k) := by
  rw [val_main_v7_apply, val_main_v6_apply, val_main_v4_apply, val_main_v2_apply, val_main_v1_apply, val_main_cst_apply, val_main_v3_apply,
    val_main_cst_0_apply, val_main_v5_apply, val_main_cst_1_apply, eps_bits, width_bits, Attn.zero_bits, EReal.coe_zero, zero_add]
  unfold scale meanSq
  refine congrArg (fun z => Ideal.rsqrt (Ideal.div z width + (eps : EReal))) (Finset.sum_congr rfl fun k _ => ?_)
  rw [val_main_v0_apply, eq_ix2 (idx_main_v1 (idx_main_v2 i) k)]
  rfl

theorem ref_at : val_main_v12 (F := Ideal) x g (ix2 n j) = normed (fun k => x (ix2 n k)) (fun k => g (ix2 0 k)) j := by
  rw [val_main_v12_apply, val_main_v11_apply, val_main_v10_apply, val_main_v9_apply, val_main_v8_apply, ref_scale, eq_ix2 (idx_main_v10 (ix2 n j))]
  rfl

theorem ref_turned : val_main_v13 (F := Ideal) x g (ix2 j n) = normed (fun k => x (ix2 n k)) (fun k => g (ix2 0 k)) j := by
  rw [val_main_v13_apply, ← ref_at, eq_ix2 (idx_main_v13 (ix2 j n))]
  rfl

end

/-! ## The launch -/

section
open Cert.Kernel22Ideal Cert.Kernel22Ideal.Gen

variable (m : (ℓ : Loc nD τ sig) → Buf (Elt Ideal) ℓ) (c : Dev nD)

/-- The arguments. -/
abbrev argX : FVec Ideal S8192x2048 .f32 := m ((c : Thread nD τ).loc main_arg0)
abbrev argG : FVec Ideal S1x2048 .f32 := m ((c : Thread nD τ).loc main_arg1)

/-- A normalised entry. -/
def entry (n : Fin 8192) (j : Fin 2048) : EReal := normed (fun k => argX m c (ix2 n k)) (fun k => argG m c (ix2 0 k)) j

/-- The two results. -/
def rows : FVec Ideal S8192x2048 .bf16 := fun i => entry m c (i 0) (i 1)
def turned : FVec Ideal S2048x8192 .bf16 := fun i => entry m c (i 1) (i 0)

theorem N_eq : cfg0.N = 16 := by decide +kernel
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = t.val := by decide +kernel

theorem pay1 (x : FVec Ideal S512x2048 .f32) (g : FVec Ideal S1x2048 .f32) (r : Fin 512) (j : Fin 2048) :
    k0_pay1 (F := Ideal) x g (ix2 r j) = normed (fun k => x (ix2 r k)) (fun k => g (ix2 0 k)) j := by
  pointwise [k0_pay1]
  simp only [Idealize.ShloMosaic.ix2_eq_valueIdx]
  unfold normed scale meanSq
  rw [show width = Ideal.ofBits .f32 0x45000000#32 from width_bits.symm, show (eps : EReal) = Ideal.ofBits .f32 0x358637BD#32 from eps_bits.symm]

theorem pay3 (x : FVec Ideal S512x2048 .f32) (g : FVec Ideal S1x2048 .f32) (r : Fin 512) (j : Fin 2048) :
    k0_pay3 (F := Ideal) x g (ix2 j r) = normed (fun k => x (ix2 r k)) (fun k => g (ix2 0 k)) j := by
  rw [← pay1]
  pointwise [k0_pay3]
  simp only [Idealize.ShloMosaic.ix2_eq_valueIdx]

/-- The blocks a point reads. -/
abbrev xB (t : Fin cfg0.N) : FVec Ideal S512x2048 .f32 := iblk m c 0 t
abbrev gB (t : Fin cfg0.N) : FVec Ideal S1x2048 .f32 := iblk m c 1 t

/-- The row of the whole array that is row `r` of a point's block. -/
abbrev row (t : Fin cfg0.N) (r : Fin 512) : Fin 8192 := ⟨t.val * 512 + r.val, by have := t.isLt; have := N_eq; omega⟩

theorem xB_apply (t : Fin cfg0.N) (r : Fin 512) (j : Fin 2048) : xB m c t (ix2 r j) = argX m c (ix2 (row t r) j) := by
  refine Eq.trans ?_ (congrFun (V_main_arg0 m c) _)
  unfold xB iblk
  rw [View.read_apply]
  show V m c main_arg0 _ = V m c main_arg0 _
  refine congrArg _ (funext fun a => Fin.ext ?_)
  match a with
  | ⟨0, _⟩ => show win0_0.index t 0 * 512 + 1 * r.val = t.val * 512 + r.val; rw [(index_0 t).1]; omega
  | ⟨1, _⟩ => show win0_0.index t 1 * 2048 + 1 * j.val = j.val; rw [(index_0 t).2]; omega

theorem gB_apply (t : Fin cfg0.N) (j : Fin 2048) : gB m c t (ix2 0 j) = argG m c (ix2 0 j) := by
  refine Eq.trans ?_ (congrFun (V_main_arg1 m c) _)
  unfold gB iblk
  rw [View.read_apply]
  show V m c main_arg1 _ = V m c main_arg1 _
  refine congrArg _ (funext fun a => Fin.ext ?_)
  match a with
  | ⟨0, _⟩ => show win0_1.index t 0 * 1 + 1 * 0 = 0; rw [(index_1 t).1]
  | ⟨1, _⟩ => show win0_1.index t 1 * 2048 + 1 * j.val = j.val; rw [(index_1 t).2]; omega

theorem block_entry (t : Fin cfg0.N) (r : Fin 512) (j : Fin 2048) :
    normed (fun k => xB m c t (ix2 r k)) (fun k => gB m c t (ix2 0 k)) j = entry m c (row t r) j := by
  simp only [xB_apply, gB_apply]
  rfl

theorem emb_2 (t : Fin cfg0.N) (y : ((cfg0.win 2).xblock (cfg0.grid.coords t)).Idx) :
    (((cfg0.win 2).blk t).view.emb y : S8192x2048.Idx) = ix2 (n0 := 8192) (n1 := 2048) (row t ⟨(y 0).val, (y 0).isLt⟩) ⟨(y 1).val, (y 1).isLt⟩ := by
  funext a; apply Fin.ext
  match a with
  | ⟨0, _⟩ => show win0_2.index t 0 * 512 + 1 * (y 0).val = t.val * 512 + (y 0).val; rw [(index_2 t).1]; omega
  | ⟨1, _⟩ => show win0_2.index t 1 * 2048 + 1 * (y 1).val = (y 1).val; rw [(index_2 t).2]; omega

theorem emb_3 (t : Fin cfg0.N) (y : ((cfg0.win 3).xblock (cfg0.grid.coords t)).Idx) :
    (((cfg0.win 3).blk t).view.emb y : S2048x8192.Idx) = ix2 (n0 := 2048) (n1 := 8192) ⟨(y 0).val, (y 0).isLt⟩ (row t ⟨(y 1).val, (y 1).isLt⟩) := by
  funext a; apply Fin.ext
  match a with
  | ⟨0, _⟩ => show win0_3.index t 0 * 2048 + 1 * (y 0).val = (y 0).val; rw [(index_3 t).1]; omega
  | ⟨1, _⟩ => show win0_3.index t 1 * 512 + 1 * (y 1).val = t.val * 512 + (y 1).val; rw [(index_3 t).2]; omega

/-- The launch's results. -/
theorem final_2 : (dats m 0 c).arrAt 2 cfg0.N = rows m c := by
  refine (dats m 0 c).arrAt_eq_of_covers 2 _ (by decide +kernel) fun t hf y => ?_
  refine (cast_eq _ _).trans ((congrFun (after0_2 m c t) _).trans ?_)
  refine Eq.trans ?_ (congrArg (rows m c) (emb_2 t y)).symm
  refine (congrArg (out0_2 (iblk m c 0 t) (iblk m c 1 t) : FVec Ideal S512x2048 .bf16) (eq_ix2 _)).trans ?_
  frame_out
  exact (pay1 _ _ _ _).trans (block_entry m c t _ _)

theorem final_3 : (dats m 0 c).arrAt 3 cfg0.N = turned m c := by
  refine (dats m 0 c).arrAt_eq_of_covers 3 _ (by decide +kernel) fun t hf y => ?_
  refine (cast_eq _ _).trans ((congrFun (after0_3 m c t) _).trans ?_)
  refine Eq.trans ?_ (congrArg (turned m c) (emb_3 t y)).symm
  refine (congrArg (out0_3 (iblk m c 0 t) (iblk m c 1 t) : FVec Ideal S2048x512 .bf16) (eq_ix2 _)).trans ?_
  frame_out
  exact (pay3 _ _ _ _).trans (block_entry m c t _ _)

end

/-! ## Equal -/

/-- The launch's results are the reference's. -/
theorem algebraic : Cert.algebraic_Kernel22Ideal_Reference22Ideal := fun m g m' g' _ hargs => by
  refine ⟨fun c => rows m c, fun c => turned m c, ?_, ?_⟩
  · refine (θ_run _ _ _).mono (fun r h c => ?_) (Cert.Kernel22Ideal.Value.run_blocks (F := Ideal) m g)
    exact ⟨(h c).1.trans (final_2 m c), (h c).2.1.trans (final_3 m c), (h c).2.2⟩
  · refine (θ_run _ _ _).mono (fun r h c => ?_) (Cert.Reference22Ideal.Value.run (F := Ideal) m' g')
    obtain ⟨a0, a1⟩ := hargs c
    refine ⟨(h c).1.trans ?_, (h c).2.1.trans ?_, (h c).2.2⟩
    · rw [Cert.Reference22Ideal.Read.val_main_v12_eq, a0, a1]
      funext i
      rw [eq_ix2 i]
      exact ref_at _ _ (i 0) (i 1)
    · rw [Cert.Reference22Ideal.Read.val_main_v13_eq, a0, a1]
      funext i
      rw [eq_ix2 i]
      exact ref_turned _ _ (i 1) (i 0)

end Cert.Proof.NormBoth

end
-- ==== Proof.Gate.lean ====
/-
  The gMLP's spatial gating: the call `a1_gate`. A block holds one chunk of 128 whole rows; the 16 groups of 256 columns are
  mixed over the chunk's positions one after the other, each with its own causal weights and bias.
-/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.NormRow
public import Idealize.ShloMosaic.Lib.Pipeline.ValueKit
public import Idealize.ShloMosaic.Lib.ValueIdx
public import Idealize.ShloMosaic.Lib.StableHlo.RunRead
public import Idealize.ShloMosaic.Lib.Pointwise
public import Idealize.ShloMosaic.PureOps.Ideal.Laws

@[expose] public section

set_option maxRecDepth 16384

noncomputable section

namespace Cert.Proof.Gate

open Idealize.ShloMosaic hiding ix0 ix1 ix2 ix3 eq_ix1 eq_ix2 eq_ix3
open Idealize.ShloMosaic.ValueIdx Idealize.ShloMosaic.TcCoe Idealize.SL.Sem
open Cert.Proof.Norm
open scoped BigOperators

/-! ## One entry -/

/-- A single-precision constant. -/
abbrev lit (b : BitVec 32) : EReal := FloatOps.ofBits (F := Ideal) .f32 b

/-- GELU, in its form with the hyperbolic tangent. -/
def gelu (x : EReal) : EReal :=
  lit 0x3F000000#32 * x * (lit 0x3F800000#32 + Ideal.tanh (lit 0x3F4C422A#32 * (x + lit 0x3D372713#32 * (x * x * x))))

/-- A value times its logistic. -/
def silu (z : EReal) : EReal := z * Ideal.div (lit 0x3F800000#32) (lit 0x3F800000#32 + Ideal.exp (-z))

/-- An entry of a normalised row of 4096. -/
def normed (x g : Fin 4096 → EReal) (j : Fin 4096) : EReal := x j * scale (lit 0x45800000#32) x * g j

/-- A chunk's normalised rows mixed at one position and column. -/
def mixed (v : Fin 128 → Fin 4096 → EReal) (g : Fin 4096 → EReal) (w : Fin 128 → EReal) (b : EReal) (q : Fin 4096) : EReal :=
  ∑ s : Fin 128, w s * normed (fun k => gelu (v s k)) g q + b

/-- The gated entry. -/
def gated (u z mix : EReal) : EReal := gelu u * silu z * mix

/-- The columns of the projection's three parts, and a column's group. -/
abbrev colU (q : Fin 4096) : Fin 12288 := ⟨q.val, by omega⟩
abbrev colV (q : Fin 4096) : Fin 12288 := ⟨4096 + q.val, by omega⟩
abbrev colZ (q : Fin 4096) : Fin 12288 := ⟨8192 + q.val, by omega⟩
abbrev grp (q : Fin 4096) : Fin 16 := ⟨q.val / 256, by omega⟩

/-- The rows of the chunk that holds row `n`, and the position of `n` in it. -/
abbrev chunkRow (n : Fin 8192) (s : Fin 128) : Fin 8192 := ⟨n.val / 128 * 128 + s.val, by omega⟩
abbrev posIn (n : Fin 8192) : Fin 128 := ⟨n.val % 128, by omega⟩

/-! ## The reference -/

section
open Cert.Reference23Ideal Cert.Reference23Ideal.Gen Cert.Reference23Ideal.Read

variable (x0 : FVec Ideal S8192x12288 .bf16) (x1 : FVec Ideal S1x4096 .f32) (x2 : FVec Ideal S16x128x128 .f32) (x3 : FVec Ideal S16x128 .f32)
  (n : Fin 8192) (q : Fin 4096)

/-- The causal weights. -/
abbrev causal : FVec Ideal S16x128x128 .f32 := val_main_v33 (F := Ideal) x2

theorem ref_u : val_main_v1 (F := Ideal) x0 (ix2 n q) = x0 (ix2 n (colU q)) := by
  rw [val_main_v1_apply, val_main_v0_apply, eq_ix2 (idx_main_v1 (ix2 n q))]
  rfl

theorem ref_v : val_main_v2 (F := Ideal) x0 (ix2 n q) = x0 (ix2 n (colV q)) := by
  rw [val_main_v2_apply, val_main_v0_apply, eq_ix2 (idx_main_v2 (ix2 n q))]
  rfl

theorem ref_z : val_main_v3 (F := Ideal) x0 (ix2 n q) = x0 (ix2 n (colZ q)) := by
  rw [val_main_v3_apply, val_main_v0_apply, eq_ix2 (idx_main_v3 (ix2 n q))]
  rfl

/-- GELU with its factors in the reference's order. -/
theorem gelu_eq (x : EReal) :
    x * (lit 0x3F000000#32 * (lit 0x3F800000#32 + Ideal.tanh (lit 0x3F4C422A#32 * (x + lit 0x3D372713#32 * (x * x * x))))) = gelu x := by
  unfold gelu
  rw [← mul_assoc, mul_comm x]

theorem ref_gelu_v : val_main_v16 (F := Ideal) x0 (ix2 n q) = gelu (x0 (ix2 n (colV q))) := by
  rw [val_main_v16_apply, val_main_v15_apply, val_main_v14_apply, val_main_cst_2_apply, val_main_v13_apply, val_main_v12_apply, val_main_cst_1_apply,
    val_main_v11_apply, val_main_v10_apply, val_main_v9_apply, val_main_cst_0_apply, val_main_v8_apply, val_main_v7_apply, val_main_v6_apply,
    val_main_cst_apply, val_main_v5_apply, val_main_v4_apply, ref_v]
  exact gelu_eq _

theorem ref_gelu_u : val_main_v52 (F := Ideal) x0 (ix2 n q) = gelu (x0 (ix2 n (colU q))) := by
  rw [val_main_v52_apply, val_main_v51_apply, val_main_v50_apply, val_main_cst_10_apply, val_main_v49_apply, val_main_v48_apply, val_main_cst_9_apply,
    val_main_v47_apply, val_main_v46_apply, val_main_v45_apply, val_main_cst_8_apply, val_main_v44_apply, val_main_v43_apply, val_main_v42_apply,
    val_main_cst_7_apply, val_main_v41_apply, val_main_v40_apply, ref_u]
  exact gelu_eq _

theorem ref_silu : val_main_v55 (F := Ideal) x0 (ix2 n q) = silu (x0 (ix2 n (colZ q))) := by
  rw [val_main_v55_apply, val_main_call2_v5_apply, val_main_call2_v4_apply, val_main_call2_cst_0_apply, val_main_call2_v3_apply,
    val_main_call2_v2_apply, val_main_call2_cst_apply, val_main_call2_v1_apply, val_main_call2_v0_apply, ref_z]
  rfl

theorem ref_scale (i : S8192x1.Idx) :
    val_main_v24 (F := Ideal) x0 i = scale (lit 0x45800000#32) fun k => gelu (x0 (ix2 (i 0) (colV k))) := by
  rw [val_main_v24_apply, val_main_v23_apply, val_main_v21_apply, val_main_v19_apply, val_main_v18_apply, val_main_cst_3_apply, val_main_v20_apply,
    val_main_cst_4_apply, val_main_v22_apply, val_main_cst_5_apply, eps_bits, Attn.zero_bits, EReal.coe_zero, zero_add]
  unfold scale meanSq
  refine congrArg (fun z => Ideal.rsqrt (Ideal.div z (lit 0x45800000#32) + (eps : EReal))) (Finset.sum_congr rfl fun k _ => ?_)
  rw [val_main_v17_apply, eq_ix2 (idx_main_v18 (idx_main_v19 i) k)]
  exact congrArg₂ (· * ·) (ref_gelu_v x0 _ _) (ref_gelu_v x0 _ _)

theorem ref_normed : val_main_v28 (F := Ideal) x0 x1 (ix2 n q)
    = normed (fun k => gelu (x0 (ix2 n (colV k)))) (fun k => x1 (ix2 0 k)) q := by
  rw [val_main_v28_apply, val_main_v27_apply, val_main_v26_apply, val_main_v25_apply, ref_scale, ref_gelu_v, eq_ix2 (idx_main_v27 (ix2 n q))]
  rfl

theorem ref_mixed (i : S64x128x16x256.Idx) (hn : n.val = (i 0).val * 128 + (i 1).val) (hq : q.val = (i 2).val * 256 + (i 3).val) :
    val_main_v39 (F := Ideal) x0 x1 x2 x3 i
      = mixed (fun s k => x0 (ix2 (chunkRow n s) (colV k))) (fun k => x1 (ix2 0 k)) (fun s => causal x2 (ix3 (grp q) (posIn n) s))
          (x3 (ix2 (grp q) (posIn n))) q := by
  have h1 : (i 1).val < 128 := (i 1).isLt
  have h3 : (i 3).val < 256 := (i 3).isLt
  rw [val_main_v39_apply, val_main_v38_apply, val_main_v37_apply, val_main_v36_apply, val_main_v35_apply, val_main_v34_apply]
  unfold mixed
  refine congrArg₂ (· + ·) (Finset.sum_congr rfl fun s _ => ?_) (congrArg x3 (funext fun a => Fin.ext ?_))
  · have hs : s.val < 128 := s.isLt
    rw [val_main_v29_apply, mul_comm]
    refine congrArg₂ (· * ·) (congrArg (causal x2) (funext fun a => Fin.ext ?_)) ?_
    · match a with
      | ⟨0, _⟩ => show (i 2).val = q.val / 256; omega
      | ⟨1, _⟩ => show (i 1).val = n.val % 128; omega
      | ⟨2, _⟩ => rfl
    · rw [← ref_normed]
      refine congrArg (val_main_v28 (F := Ideal) x0 x1) (funext fun a => Fin.ext ?_)
      match a with
      | ⟨0, _⟩ => show ((((i 0).val * 128 + s.val) * 16 + (i 2).val) * 256 + (i 3).val) / 4096 = n.val / 128 * 128 + s.val; have := (i 2).isLt; have h2 : (i 2).val < 16 := this; omega
      | ⟨1, _⟩ => show ((((i 0).val * 128 + s.val) * 16 + (i 2).val) * 256 + (i 3).val) % 4096 = q.val; have := (i 2).isLt; have h2 : (i 2).val < 16 := this; omega
  · match a with
    | ⟨0, _⟩ => show (i 2).val = q.val / 256; omega
    | ⟨1, _⟩ => show (i 1).val = n.val % 128; omega

theorem ref_at : val_main_v57 (F := Ideal) x0 x1 x2 x3 (ix2 n q)
    = gated (x0 (ix2 n (colU q))) (x0 (ix2 n (colZ q)))
        (mixed (fun s k => x0 (ix2 (chunkRow n s) (colV k))) (fun k => x1 (ix2 0 k)) (fun s => causal x2 (ix3 (grp q) (posIn n) s))
          (x3 (ix2 (grp q) (posIn n))) q) := by
  rw [val_main_v57_apply, val_main_v56_apply, val_main_v55_apply, ← val_main_v55_apply, ref_silu, val_main_v54_apply, ref_gelu_u, val_main_v53_apply,
    ref_mixed x0 x1 x2 x3 n q _ (by show n.val = (n.val * 4096 + q.val) / 524288 * 128 + (n.val * 4096 + q.val) / 4096 % 128; have := n.isLt; have := q.isLt; omega)
      (by show q.val = (n.val * 4096 + q.val) / 256 % 16 * 256 + (n.val * 4096 + q.val) % 256; have := n.isLt; have := q.isLt; omega)]
  exact mul_right_comm _ _ _

end

/-! ## A block -/

section
open Cert.Kernel23Ideal Cert.Kernel23Ideal.Gen

/-- One group's product. -/
theorem block_dot (x : FVec Ideal S128x128 .bf16) (y : FVec Ideal S128x256 .bf16) (r : Fin 128) (j : Fin 256) :
    FloatOps.matmul dot_S128x128_S128x256_S128x256_1_0_0_1_n_n none x y (constant S128x256 .f32 0x00000000#32) (ix2 r j)
      = ∑ s : Fin 128, x (ix2 r s) * y (ix2 s j) := by
  rw [Ideal.matmul_constant_zero_apply, ← Equiv.sum_comp (contrEquiv1 dot_S128x128_S128x256_S128x256_1_0_0_1_n_n 128 rfl rfl).symm]
  refine Finset.sum_congr rfl fun k _ => ?_
  have hk := contrEquiv1_symm_val dot_S128x128_S128x256_S128x256_1_0_0_1_n_n 128 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

theorem cast_weights (y : FVec Ideal S1x128x128 .bf16) (p s : Fin 128) :
    shapeCast S128x128 y shapeCasts_S1x128x128_S128x128 (ix2 p s) = y (ix3 0 p s) :=
  shapeCast_apply _ _ _ (ix3 0 p s) (by
    rw [Shape.rowMajor_val_two, Shape.rowMajor_val_three]
    show (0 * 128 + p.val) * 128 + s.val = p.val * 128 + s.val
    omega)

/-- One group's columns of the result. -/
def part (o : Fin 2 → ℕ) (hs : S128x4096.Slices o S128x256) (vb : FVec Ideal S128x4096 .bf16) (gate : FVec Ideal S128x4096 .f32)
    (w : FVec Ideal S1x128x128 .bf16) (b : FVec Ideal S128x1 .f32) : FVec Ideal S128x256 .bf16 :=
  truncf .bf16 (mulf (extractStridedSlice S128x256 o gate hs)
    (addf (matmul dot_S128x128_S128x256_S128x256_1_0_0_1_n_n none (shapeCast S128x128 w shapeCasts_S1x128x128_S128x128)
        (extractStridedSlice S128x256 o vb hs) (constant S128x256 .f32 0x00000000#32))
      (broadcastTo S128x256 (shapeCast S128x1 b shapeCasts_S128x1_S128x1) broadcasts_S128x1_S128x256))) bitsLt_bf16_f32

theorem part_apply (o : ℕ) (ho : o + 256 ≤ 4096) (hs : S128x4096.Slices ![0, o] S128x256) (vb : FVec Ideal S128x4096 .bf16)
    (gate : FVec Ideal S128x4096 .f32) (w : FVec Ideal S1x128x128 .bf16) (b : FVec Ideal S128x1 .f32) (r : Fin 128) (j : Fin 256) :
    part ![0, o] hs vb gate w b (ix2 r j)
      = HMul.hMul (α := EReal) (β := EReal) (γ := EReal) (gate (ix2 r ⟨o + j.val, by omega⟩))
          (∑ s : Fin 128, w (ix3 0 r s) * vb (ix2 s ⟨o + j.val, by omega⟩) + b (ix2 r 0)) := by
  refine congrArg₂ (fun x y : EReal => x * y) ?_ (congrArg₂ (fun x y : EReal => x + y) ((block_dot _ _ r j).trans (Finset.sum_congr rfl fun s _ => ?_)) ?_)
  · exact extractStridedSlice_apply ![0, o] gate hs (ix2 r j) (ix2 r ⟨o + j.val, by omega⟩) (fun a => match a with
      | ⟨0, _⟩ => (Nat.zero_add _).symm
      | ⟨1, _⟩ => rfl)
  · rw [cast_weights]
    exact congrArg (w (ix3 0 r s) * ·) (extractStridedSlice_apply ![0, o] vb hs (ix2 s j) (ix2 s ⟨o + j.val, by omega⟩) (fun a => match a with
      | ⟨0, _⟩ => (Nat.zero_add _).symm
      | ⟨1, _⟩ => rfl))
  · rw [shapeCast_self]
    exact broadcastTo_apply b broadcasts_S128x1_S128x256 (ix2 r j) (ix2 r (0 : Fin 1)) (fun a => match a with
      | ⟨0, _⟩ => rfl
      | ⟨1, _⟩ => rfl)

theorem pay1 (x : FVec Ideal S128x4096 .bf16) (g : FVec Ideal S1x4096 .f32) (r : Fin 128) (j : Fin 4096) :
    k0_pay1 (F := Ideal) x g (ix2 r j) = normed (fun k => gelu (x (ix2 r k))) (fun k => g (ix2 0 k)) j := by
  pointwise [k0_pay1]
  simp only [Idealize.ShloMosaic.ix2_eq_valueIdx]
  unfold normed scale meanSq gelu
  rw [show (eps : EReal) = Ideal.ofBits .f32 0x358637BD#32 from eps_bits.symm, show lit 0x3F800000#32 = 1 from Attn.one_bits.trans EReal.coe_one]
  rfl

variable (x0 : FVec Ideal S128x12288 .bf16) (x1 : FVec Ideal S1x4096 .f32) (x2 : FVec Ideal S16x128x128 .bf16) (x3 : FVec Ideal S128x16 .f32)

theorem ld_cols (o : ℕ) (ho : o + 4096 ≤ 12288) (inb : ∀ a, (![0, o] : Fin 2 → ℕ) a + S128x4096.size a ≤ S128x12288.size a) (r : Fin 128) (q : Fin 4096) :
    View.ld (Val := Elt Ideal) (e' := .bf16) x0 (Rect.unit (s := S128x12288) ![0, o] S128x4096.size inb) (ix2 r q) = x0 (ix2 r ⟨o + q.val, by omega⟩) := by
  refine congrArg x0 (funext fun a => Fin.ext ?_)
  match a with
  | ⟨0, _⟩ => show 0 + 1 * r.val = r.val; omega
  | ⟨1, _⟩ => show o + 1 * q.val = o + q.val; omega

theorem ld_weights (g : ℕ) (hg : g < 16) (inb : ∀ a, (![g, 0, 0] : Fin 3 → ℕ) a + S1x128x128.size a ≤ S16x128x128.size a) (r s : Fin 128) :
    View.ld (Val := Elt Ideal) (e' := .bf16) x2 (Rect.unit (s := S16x128x128) ![g, 0, 0] S1x128x128.size inb) (ix3 0 r s) = x2 (ix3 ⟨g, hg⟩ r s) := by
  refine congrArg x2 (funext fun a => Fin.ext ?_)
  match a with
  | ⟨0, _⟩ => show g + 1 * 0 = g; omega
  | ⟨1, _⟩ => show 0 + 1 * r.val = r.val; omega
  | ⟨2, _⟩ => show 0 + 1 * s.val = s.val; omega

theorem ld_bias (g : ℕ) (hg : g < 16) (inb : ∀ a, (![0, g] : Fin 2 → ℕ) a + S128x1.size a ≤ S128x16.size a) (r : Fin 128) :
    View.ld (Val := Elt Ideal) (e' := .f32) x3 (Rect.unit (s := S128x16) ![0, g] S128x1.size inb) (ix2 r 0) = x3 (ix2 r ⟨g, hg⟩) := by
  refine congrArg x3 (funext fun a => Fin.ext ?_)
  match a with
  | ⟨0, _⟩ => show 0 + 1 * r.val = r.val; omega
  | ⟨1, _⟩ => show g + 1 * 0 = g; omega

theorem v_apply (s : Fin 128) (q : Fin 4096) :
    k0_pay29 (F := Ideal) x0 x1 x2 x3 (ix2 s q) = normed (fun k => gelu (x0 (ix2 s (colV k)))) (fun k => x1 (ix2 0 k)) q := by
  unfold k0_pay29
  have h1 : View.ld (Val := Elt Ideal) (e' := .f32) x1 r0_1 = x1 := by
    refine View.ld_unit_lit (Val := Elt Ideal) (S := S1x4096) (e := .f32) (off := ![0, 0]) inb_S1x4096_S1x4096_0_0 x1 fun a => ?_
    match a with
    | ⟨0, _⟩ => rfl
    | ⟨1, _⟩ => rfl
  have h0 : ∀ k, View.ld (Val := Elt Ideal) (e' := .bf16) x0 r0_0 (ix2 s k) = x0 (ix2 s (colV k)) := fun k => ld_cols x0 4096 (by decide) _ s k
  rw [h1, pay1]
  exact congrArg (fun v : Fin 4096 → EReal => normed (fun k => gelu (v k)) (fun k => x1 (ix2 0 k)) q) (funext h0)

theorem gate_apply (r : Fin 128) (q : Fin 4096) :
    k0_pay34 (F := Ideal) x0 x1 x2 x3 (ix2 r q)
      = HMul.hMul (α := EReal) (β := EReal) (γ := EReal) (gelu (x0 (ix2 r (colU q)))) (silu (x0 (ix2 r (colZ q)))) := by
  have hu : View.ld (Val := Elt Ideal) (e' := .bf16) x0 r0_3 (ix2 r q) = x0 (ix2 r (colU q)) :=
    (ld_cols x0 0 (by decide) _ r q).trans (congrArg (fun z => x0 (ix2 r z)) (Fin.ext (Nat.zero_add _)))
  have hz : View.ld (Val := Elt Ideal) (e' := .bf16) x0 r0_2 (ix2 r q) = x0 (ix2 r (colZ q)) := ld_cols x0 8192 (by decide) _ r q
  rw [← hu, ← hz]
  have e : ∀ z : EReal, silu z = z * Ideal.div (lit 0x3F800000#32) (lit 0x3F800000#32 + Ideal.exp (lit 0x00000000#32 - z)) := fun z => by
    rw [show lit 0x00000000#32 = 0 from Attn.zero_bits.trans EReal.coe_zero, zero_sub]
    rfl
  rw [e]
  rfl

/-- What a point leaves in its block. -/
def blockOut (y : S128x4096.Idx) : EReal :=
  gated (x0 (ix2 (n0 := 128) (n1 := 12288) (y 0) (colU (y 1)))) (x0 (ix2 (n0 := 128) (n1 := 12288) (y 0) (colZ (y 1))))
    (mixed (fun s k => x0 (ix2 s (colV k))) (fun k => x1 (ix2 0 k)) (fun s => x2 (ix3 (n0 := 16) (n1 := 128) (n2 := 128) (grp (y 1)) (y 0) s))
      (x3 (ix2 (n0 := 128) (n1 := 16) (y 0) (grp (y 1)))) (y 1))

theorem piece_eq (o g : ℕ) (ho : o = 256 * g) (hg : g < 16) (hs : S128x4096.Slices ![0, o] S128x256)
    (inb : ∀ a, (![0, o] : Fin 2 → ℕ) a + S128x256.size a ≤ S128x4096.size a)
    (iw : ∀ a, (![g, 0, 0] : Fin 3 → ℕ) a + S1x128x128.size a ≤ S16x128x128.size a)
    (ib : ∀ a, (![0, g] : Fin 2 → ℕ) a + S128x1.size a ≤ S128x16.size a) (x : S128x256.Idx) :
    part ![0, o] hs (k0_pay29 x0 x1 x2 x3) (k0_pay34 x0 x1 x2 x3) (View.ld (Val := Elt Ideal) (e' := .bf16) x2 (Rect.unit (s := S16x128x128) ![g, 0, 0] S1x128x128.size iw))
        (View.ld (Val := Elt Ideal) (e' := .f32) x3 (Rect.unit (s := S128x16) ![0, g] S128x1.size ib)) x
      = blockOut x0 x1 x2 x3 ((Rect.unit (s := S128x4096) ![0, o] S128x256.size inb).emb x) := by
  suffices h : ∀ (r : Fin 128) (j : Fin 256), part ![0, o] hs (k0_pay29 x0 x1 x2 x3) (k0_pay34 x0 x1 x2 x3)
      (View.ld (Val := Elt Ideal) (e' := .bf16) x2 (Rect.unit (s := S16x128x128) ![g, 0, 0] S1x128x128.size iw))
      (View.ld (Val := Elt Ideal) (e' := .f32) x3 (Rect.unit (s := S128x16) ![0, g] S128x1.size ib)) (ix2 r j)
        = blockOut x0 x1 x2 x3 ((Rect.unit (s := S128x4096) ![0, o] S128x256.size inb).emb (ix2 r j : S128x256.Idx)) by
    rw [eq_ix2 x]
    exact h _ _
  intro r j
  have he : ((Rect.unit (s := S128x4096) ![0, o] S128x256.size inb).emb (ix2 r j : S128x256.Idx) : S128x4096.Idx) = ix2 r ⟨o + j.val, by omega⟩ := by
    funext a; apply Fin.ext
    match a with
    | ⟨0, _⟩ => show 0 + 1 * r.val = r.val; omega
    | ⟨1, _⟩ => show o + 1 * j.val = o + j.val; omega
  rw [he, part_apply o (by omega)]
  have hgrp : grp ⟨o + j.val, by omega⟩ = ⟨g, hg⟩ := Fin.ext (by show (o + j.val) / 256 = g; omega)
  rw [gate_apply, ld_bias x3 g hg]
  refine congrArg₂ (fun x y : EReal => x * y) rfl (congrArg₂ (fun x y : EReal => x + y) (Finset.sum_congr rfl fun s _ => ?_) ?_)
  · rw [v_apply, ld_weights x2 g hg]
    exact congrArg (fun z : Fin 16 => HMul.hMul (α := EReal) (β := EReal) (γ := EReal) (x2 (ix3 z r s)) _) hgrp.symm
  · exact congrArg (fun z : Fin 16 => x3 (ix2 r z)) hgrp.symm

theorem out_apply (y : S128x4096.Idx) : out0_4 (F := Ideal) x0 x1 x2 x3 y = blockOut x0 x1 x2 x3 y := by
  unfold out0_4
  exact View.canon_apply_of_pieces (Val := Elt Ideal) (e := .bf16) (blockOut x0 x1 x2 x3) _ (
    List.forall_mem_cons.mpr ⟨fun x => piece_eq x0 x1 x2 x3 3840 15 rfl (by decide) slices_S128x4096_o0_3840_S128x256 inb_S128x4096_S128x256_0_3840 inb_S16x128x128_S1x128x128_15_0_0 inb_S128x16_S128x1_0_15 x,
    List.forall_mem_cons.mpr ⟨fun x => piece_eq x0 x1 x2 x3 3584 14 rfl (by decide) slices_S128x4096_o0_3584_S128x256 inb_S128x4096_S128x256_0_3584 inb_S16x128x128_S1x128x128_14_0_0 inb_S128x16_S128x1_0_14 x,
    List.forall_mem_cons.mpr ⟨fun x => piece_eq x0 x1 x2 x3 3328 13 rfl (by decide) slices_S128x4096_o0_3328_S128x256 inb_S128x4096_S128x256_0_3328 inb_S16x128x128_S1x128x128_13_0_0 inb_S128x16_S128x1_0_13 x,
    List.forall_mem_cons.mpr ⟨fun x => piece_eq x0 x1 x2 x3 3072 12 rfl (by decide) slices_S128x4096_o0_3072_S128x256 inb_S128x4096_S128x256_0_3072 inb_S16x128x128_S1x128x128_12_0_0 inb_S128x16_S128x1_0_12 x,
    List.forall_mem_cons.mpr ⟨fun x => piece_eq x0 x1 x2 x3 2816 11 rfl (by decide) slices_S128x4096_o0_2816_S128x256 inb_S128x4096_S128x256_0_2816 inb_S16x128x128_S1x128x128_11_0_0 inb_S128x16_S128x1_0_11 x,
    List.forall_mem_cons.mpr ⟨fun x => piece_eq x0 x1 x2 x3 2560 10 rfl (by decide) slices_S128x4096_o0_2560_S128x256 inb_S128x4096_S128x256_0_2560 inb_S16x128x128_S1x128x128_10_0_0 inb_S128x16_S128x1_0_10 x,
    List.forall_mem_cons.mpr ⟨fun x => piece_eq x0 x1 x2 x3 2304 9 rfl (by decide) slices_S128x4096_o0_2304_S128x256 inb_S128x4096_S128x256_0_2304 inb_S16x128x128_S1x128x128_9_0_0 inb_S128x16_S128x1_0_9 x,
    List.forall_mem_cons.mpr ⟨fun x => piece_eq x0 x1 x2 x3 2048 8 rfl (by decide) slices_S128x4096_o0_2048_S128x256 inb_S128x4096_S128x256_0_2048 inb_S16x128x128_S1x128x128_8_0_0 inb_S128x16_S128x1_0_8 x,
    List.forall_mem_cons.mpr ⟨fun x => piece_eq x0 x1 x2 x3 1792 7 rfl (by decide) slices_S128x4096_o0_1792_S128x256 inb_S128x4096_S128x256_0_1792 inb_S16x128x128_S1x128x128_7_0_0 inb_S128x16_S128x1_0_7 x,
    List.forall_mem_cons.mpr ⟨fun x => piece_eq x0 x1 x2 x3 1536 6 rfl (by decide) slices_S128x4096_o0_1536_S128x256 inb_S128x4096_S128x256_0_1536 inb_S16x128x128_S1x128x128_6_0_0 inb_S128x16_S128x1_0_6 x,
    List.forall_mem_cons.mpr ⟨fun x => piece_eq x0 x1 x2 x3 1280 5 rfl (by decide) slices_S128x4096_o0_1280_S128x256 inb_S128x4096_S128x256_0_1280 inb_S16x128x128_S1x128x128_5_0_0 inb_S128x16_S128x1_0_5 x,
    List.forall_mem_cons.mpr ⟨fun x => piece_eq x0 x1 x2 x3 1024 4 rfl (by decide) slices_S128x4096_o0_1024_S128x256 inb_S128x4096_S128x256_0_1024 inb_S16x128x128_S1x128x128_4_0_0 inb_S128x16_S128x1_0_4 x,
    List.forall_mem_cons.mpr ⟨fun x => piece_eq x0 x1 x2 x3 768 3 rfl (by decide) slices_S128x4096_o0_768_S128x256 inb_S128x4096_S128x256_0_768 inb_S16x128x128_S1x128x128_3_0_0 inb_S128x16_S128x1_0_3 x,
    List.forall_mem_cons.mpr ⟨fun x => piece_eq x0 x1 x2 x3 512 2 rfl (by decide) slices_S128x4096_o0_512_S128x256 inb_S128x4096_S128x256_0_512 inb_S16x128x128_S1x128x128_2_0_0 inb_S128x16_S128x1_0_2 x,
    List.forall_mem_cons.mpr ⟨fun x => piece_eq x0 x1 x2 x3 256 1 rfl (by decide) slices_S128x4096_o0_256_S128x256 inb_S128x4096_S128x256_0_256 inb_S16x128x128_S1x128x128_1_0_0 inb_S128x16_S128x1_0_1 x,
    List.forall_mem_cons.mpr ⟨fun x => piece_eq x0 x1 x2 x3 0 0 rfl (by decide) slices_S128x4096_o0_0_S128x256 inb_S128x4096_S128x256_0_0 inb_S16x128x128_S1x128x128_0_0_0 inb_S128x16_S128x1_0_0 x,
    fun _ h => absurd h List.not_mem_nil⟩⟩⟩⟩⟩⟩⟩⟩⟩⟩⟩⟩⟩⟩⟩⟩) y
    (cover0_4 _ _ _ _ _ _ _ _ _ _ _ _ _ _ _ _ y)

/-! ## The launch -/

variable (m : (ℓ : Loc nD τ sig) → Buf (Elt Ideal) ℓ) (c : Dev nD)

/-- The arguments. -/
abbrev argP : FVec Ideal S8192x12288 .bf16 := m ((c : Thread nD τ).loc main_arg0)
abbrev argG : FVec Ideal S1x4096 .f32 := m ((c : Thread nD τ).loc main_arg1)
abbrev argW : FVec Ideal S16x128x128 .f32 := m ((c : Thread nD τ).loc main_arg2)
abbrev argB : FVec Ideal S16x128 .f32 := m ((c : Thread nD τ).loc main_arg3)

/-- A gated entry. -/
def entry (n : Fin 8192) (q : Fin 4096) : EReal :=
  gated (argP m c (ix2 n (colU q))) (argP m c (ix2 n (colZ q)))
    (mixed (fun s k => argP m c (ix2 (chunkRow n s) (colV k))) (fun k => argG m c (ix2 0 k)) (fun s => causal (argW m c) (ix3 (grp q) (posIn n) s))
      (argB m c (ix2 (grp q) (posIn n))) q)

/-- The result. -/
def result : FVec Ideal S8192x4096 .bf16 := fun i => entry m c (i 0) (i 1)

theorem N_eq : cfg0.N = 64 := by decide +kernel
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 ∧ win0_2.index t 2 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel

/-- The causal weights, as the host lines leave them. -/
theorem lay_W : (V m c main_v4 : FVec Ideal S16x128x128 .bf16) = causal (argW m c) := by
  unfold V
  after_reads_simp
  rfl

/-- The bias, turned. -/
theorem lay_B (r : Fin 128) (g : Fin 16) : (V m c main_v5 : FVec Ideal S128x16 .f32) (ix2 r g) = argB m c (ix2 g r) := by
  unfold V
  after_reads_simp
  exact transpose_apply [1, 0] _ transposes_S16x128_S128x16_1_0 (ix2 r g) (ix2 g r) (fun b => match b with
    | ⟨0, _⟩ => rfl
    | ⟨1, _⟩ => rfl)

/-- The blocks a point reads. -/
abbrev pB (t : Fin cfg0.N) : FVec Ideal S128x12288 .bf16 := iblk m c 0 t
abbrev gB (t : Fin cfg0.N) : FVec Ideal S1x4096 .f32 := iblk m c 1 t
abbrev wB (t : Fin cfg0.N) : FVec Ideal S16x128x128 .bf16 := iblk m c 2 t
abbrev bB (t : Fin cfg0.N) : FVec Ideal S128x16 .f32 := iblk m c 3 t

/-- The row of the whole array that is row `r` of a point's block. -/
abbrev row (t : Fin cfg0.N) (r : Fin 128) : Fin 8192 := ⟨t.val * 128 + r.val, by have := t.isLt; have := N_eq; omega⟩

theorem pB_apply (t : Fin cfg0.N) (r : Fin 128) (j : Fin 12288) : pB m c t (ix2 r j) = argP m c (ix2 (row t r) j) := by
  refine Eq.trans ?_ (congrFun (V_main_arg0 m c) _)
  unfold pB iblk
  rw [View.read_apply]
  show V m c main_arg0 _ = V m c main_arg0 _
  refine congrArg _ (funext fun a => Fin.ext ?_)
  match a with
  | ⟨0, _⟩ => show win0_0.index t 0 * 128 + 1 * r.val = t.val * 128 + r.val; rw [(index_0 t).1]; omega
  | ⟨1, _⟩ => show win0_0.index t 1 * 12288 + 1 * j.val = j.val; rw [(index_0 t).2]; omega

theorem gB_apply (t : Fin cfg0.N) (j : Fin 4096) : gB m c t (ix2 0 j) = argG m c (ix2 0 j) := by
  refine Eq.trans ?_ (congrFun (V_main_arg1 m c) _)
  unfold gB iblk
  rw [View.read_apply]
  show V m c main_arg1 _ = V m c main_arg1 _
  refine congrArg _ (funext fun a => Fin.ext ?_)
  match a with
  | ⟨0, _⟩ => show win0_1.index t 0 * 1 + 1 * 0 = 0; rw [(index_1 t).1]
  | ⟨1, _⟩ => show win0_1.index t 1 * 4096 + 1 * j.val = j.val; rw [(index_1 t).2]; omega

theorem wB_apply (t : Fin cfg0.N) (g : Fin 16) (r s : Fin 128) : wB m c t (ix3 g r s) = causal (argW m c) (ix3 g r s) := by
  refine Eq.trans ?_ (congrFun (lay_W m c) _)
  unfold wB iblk
  rw [View.read_apply]
  show V m c main_v4 _ = V m c main_v4 _
  refine congrArg _ (funext fun a => Fin.ext ?_)
  match a with
  | ⟨0, _⟩ => show win0_2.index t 0 * 16 + 1 * g.val = g.val; rw [(index_2 t).1]; omega
  | ⟨1, _⟩ => show win0_2.index t 1 * 128 + 1 * r.val = r.val; rw [(index_2 t).2.1]; omega
  | ⟨2, _⟩ => show win0_2.index t 2 * 128 + 1 * s.val = s.val; rw [(index_2 t).2.2]; omega

theorem bB_apply (t : Fin cfg0.N) (r : Fin 128) (g : Fin 16) : bB m c t (ix2 r g) = argB m c (ix2 g r) := by
  refine Eq.trans ?_ (lay_B m c r g)
  unfold bB iblk
  rw [View.read_apply]
  show V m c main_v5 _ = V m c main_v5 _
  refine congrArg _ (funext fun a => Fin.ext ?_)
  match a with
  | ⟨0, _⟩ => show win0_3.index t 0 * 128 + 1 * r.val = r.val; rw [(index_3 t).1]; omega
  | ⟨1, _⟩ => show win0_3.index t 1 * 16 + 1 * g.val = g.val; rw [(index_3 t).2]; omega

theorem block_entry (t : Fin cfg0.N) (r : Fin 128) (q : Fin 4096) :
    blockOut (pB m c t) (gB m c t) (wB m c t) (bB m c t) (ix2 r q) = entry m c (row t r) q := by
  have hc : ∀ s, chunkRow (row t r) s = row t s := fun s => Fin.ext (by
    show (t.val * 128 + r.val) / 128 * 128 + s.val = t.val * 128 + s.val
    omega)
  have hp : posIn (row t r) = r := Fin.ext (by
    show (t.val * 128 + r.val) % 128 = r.val
    omega)
  unfold entry
  rw [hp]
  simp only [hc]
  show gated (pB m c t (ix2 r (colU q))) (pB m c t (ix2 r (colZ q)))
    (mixed (fun s k => pB m c t (ix2 s (colV k))) (fun k => gB m c t (ix2 0 k)) (fun s => wB m c t (ix3 (grp q) r s)) (bB m c t (ix2 r (grp q))) q) = _
  simp only [pB_apply, gB_apply, wB_apply, bB_apply]

theorem emb_4 (t : Fin cfg0.N) (y : ((cfg0.win 4).xblock (cfg0.grid.coords t)).Idx) :
    (((cfg0.win 4).blk t).view.emb y : S8192x4096.Idx) = ix2 (n0 := 8192) (n1 := 4096) (row t ⟨(y 0).val, (y 0).isLt⟩) ⟨(y 1).val, (y 1).isLt⟩ := by
  funext a; apply Fin.ext
  match a with
  | ⟨0, _⟩ => show win0_4.index t 0 * 128 + 1 * (y 0).val = t.val * 128 + (y 0).val; rw [(index_4 t).1]; omega
  | ⟨1, _⟩ => show win0_4.index t 1 * 4096 + 1 * (y 1).val = (y 1).val; rw [(index_4 t).2]; omega

/-- The launch's result. -/
theorem final_4 : (dats m 0 c).arrAt 4 cfg0.N = result m c := by
  refine (dats m 0 c).arrAt_eq_of_covers 4 _ (by decide +kernel) fun t hf y => ?_
  refine (cast_eq _ _).trans ((congrFun (after0_4 m c t) _).trans ?_)
  refine Eq.trans ?_ (congrArg (result m c) (emb_4 t y)).symm
  refine (congrArg (out0_4 (iblk m c 0 t) (iblk m c 1 t) (iblk m c 2 t) (iblk m c 3 t) : FVec Ideal S128x4096 .bf16) (eq_ix2 _)).trans ?_
  exact (out_apply _ _ _ _ _).trans (block_entry m c t _ _)

end

/-! ## Equal -/

/-- The launch's result is the reference's. -/
theorem algebraic : Cert.algebraic_Kernel23Ideal_Reference23Ideal := fun m g m' g' _ hargs => by
  refine ⟨fun c => result m c, ?_, ?_⟩
  · refine (θ_run _ _ _).mono (fun r h c => ?_) (Cert.Kernel23Ideal.Value.run_blocks (F := Ideal) m g)
    exact ⟨(h c).1.trans (final_4 m c), (h c).2⟩
  · refine (θ_run _ _ _).mono (fun r h c => ?_) (Cert.Reference23Ideal.Value.run (F := Ideal) m' g')
    obtain ⟨a0, a1, a2, a3⟩ := hargs c
    refine ⟨(h c).1.trans ?_, (h c).2⟩
    rw [Cert.Reference23Ideal.Read.val_main_v57_eq, a0, a1, a2, a3]
    funext i
    rw [eq_ix2 i]
    exact ref_at _ _ _ _ (i 0) (i 1)

end Cert.Proof.Gate

end
-- ==== Proof.QkNorms.lean ====
/-
  The gradients of the norms of the queries and keys, and of their gains, from the attention's gradients by lane: the call
  `b1_dqk`. A block holds 256 whole rows; the 16 heads are taken one after the other, and the gradients by the gains are summed
  over the heads and over the 32 blocks.
-/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.NormRow
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.Lib.Pointwise
public import Idealize.ShloMosaic.PureOps.Ideal.Laws

@[expose] public section

set_option maxRecDepth 65536

noncomputable section

namespace Cert.Proof.QkNorms

open Idealize.ShloMosaic hiding ix0 ix1 ix2 ix3 eq_ix1 eq_ix2 eq_ix3
open Idealize.ShloMosaic.ValueIdx Idealize.ShloMosaic.TcCoe Idealize.SL.Sem
open Cert.Proof.Norm
open scoped BigOperators

/-! ## One head of one row -/

/-- A single-precision constant. -/
abbrev lit (b : BitVec 32) : EReal := FloatOps.ofBits (F := Ideal) .f32 b

/-- A head's width. -/
abbrev width : EReal := ((128 : ℝ) : EReal)

theorem width_lit : FloatOps.ofBits (F := Ideal) .f32 0x43000000#32 = width := by
  simp [Ideal.ofBits, Ideal.ieee]
  rw [← EReal.coe_mul]
  exact congrArg Real.toEReal (by norm_num)

/-- An entry of the gradient by the input, from the head's row, the gain and the cotangent. -/
def byInput (x g d : Fin 128 → EReal) (j : Fin 128) : EReal :=
  scale width x * (d j * g j - x j * scale width x * Ideal.div (∑ k, d k * g k * (x k * scale width x)) width)

/-- A head's part of the gradient by the gain. -/
def byGain (x d : Fin 128 → EReal) (j : Fin 128) : EReal := d j * (x j * scale width x)

/-- The two forms of the derivative: `a` the cotangent times the gain, `t` the sum of its products with the row. -/
theorem derivative {r : ℝ} (hr : 0 ≤ r) (a x t : EReal) :
    (r : EReal) * (a - x * (r : EReal) * Ideal.div (t * (r : EReal)) ((128 : ℝ) : EReal))
      = a * (r : EReal) + x * Ideal.div (t * (((-(1 / 2) : ℝ) : EReal) * ((r * r * r : ℝ) : EReal))) ((128 : ℝ) : EReal)
        + Ideal.div (t * (((-(1 / 2) : ℝ) : EReal) * ((r * r * r : ℝ) : EReal))) ((128 : ℝ) : EReal) * x := by
  have h0 : (0 : ℝ) ≤ r * r * r / 256 := by positivity
  have e1 : x * (r : EReal) * Ideal.div (t * (r : EReal)) ((128 : ℝ) : EReal) = x * t * ((r * r / 128 : ℝ) : EReal) := by
    rw [Ideal.div_coe (by norm_num), show (r * r / 128 : ℝ) = r * (r * (1 / 128)) by ring, EReal.coe_mul, EReal.coe_mul]
    ac_rfl
  have e2 : Ideal.div (t * (((-(1 / 2) : ℝ) : EReal) * ((r * r * r : ℝ) : EReal))) ((128 : ℝ) : EReal) = -(t * ((r * r * r / 256 : ℝ) : EReal)) := by
    rw [Ideal.div_coe (by norm_num), mul_assoc, ← EReal.coe_mul, ← EReal.coe_mul, ← mul_neg, ← EReal.coe_neg]
    exact congrArg (fun z : ℝ => t * (z : EReal)) (by ring)
  rw [e1, e2, sub_eq_add_neg, EReal.left_distrib_of_nonneg_of_ne_top (EReal.coe_nonneg.mpr hr) (EReal.coe_ne_top r), mul_comm (r : EReal) a, add_assoc]
  refine congrArg _ ?_
  have e3 : x * -(t * ((r * r * r / 256 : ℝ) : EReal)) = -(x * t) * ((r * r * r / 256 : ℝ) : EReal) := by
    rw [mul_neg, neg_mul, mul_assoc x t]
  rw [mul_comm (-(t * _)) x, e3, ← EReal.left_distrib_of_nonneg (EReal.coe_nonneg.mpr h0) (EReal.coe_nonneg.mpr h0), ← EReal.coe_add,
    show (r * r * r / 256 + r * r * r / 256 : ℝ) = r * r / 128 * r by ring, EReal.coe_mul, ← mul_assoc, neg_mul]
  exact mul_comm _ _

/-- The reference's form of the gradient by the input. -/
theorem byInput_eq (x g d : Fin 128 → EReal) (j : Fin 128) :
    byInput x g d j = d j * g j * scale width x
      + x j * Ideal.div ((∑ k, x k * (d k * g k)) * (((-(1 / 2) : ℝ) : EReal) * Ideal.div (scale width x) (meanSq width x))) width
      + Ideal.div ((∑ k, x k * (d k * g k)) * (((-(1 / 2) : ℝ) : EReal) * Ideal.div (scale width x) (meanSq width x))) width * x j := by
  obtain ⟨r, hr, e1, e2⟩ := scale_real (w := 128) (by norm_num) x
  unfold byInput
  rw [e2, e1, ← derivative hr, ← sum_mul_real _ _ hr]
  refine congrArg (fun z => (r : EReal) * (d j * g j - x j * (r : EReal) * Ideal.div z width)) (Finset.sum_congr rfl fun k _ => ?_)
  ac_rfl

/-! ## Heads and lanes -/

/-- A column of a head. -/
abbrev col (h : Fin 16) (k : Fin 128) : Fin 2048 := ⟨h.val * 128 + k.val, by have := h.isLt; have := k.isLt; omega⟩

/-- A head's lane among the 256 of the attention's gradients. -/
abbrev lane (h : Fin 16) (k : Fin 128) : Fin 4096 := ⟨h.val * 256 + k.val, by have := h.isLt; have := k.isLt; omega⟩

/-- A column's head, and its place there. -/
abbrev hd (q : Fin 2048) : Fin 16 := ⟨q.val / 128, by have := q.isLt; omega⟩
abbrev pos (q : Fin 2048) : Fin 128 := ⟨q.val % 128, Nat.mod_lt _ (by decide)⟩

/-- The four parts of a row: queries, keys, values and gates. -/
abbrev colQ (q : Fin 2048) : Fin 8192 := ⟨q.val, by have := q.isLt; omega⟩
abbrev colK (q : Fin 2048) : Fin 8192 := ⟨2048 + q.val, by have := q.isLt; omega⟩

/-- An entry of the gradient by the input, from the row's projections and its attention gradients by lane. -/
def headInput (f : BitVec 32) (P : Fin 2048 → EReal) (A : Fin 4096 → EReal) (g : Fin 128 → EReal) (q : Fin 2048) : EReal :=
  byInput (fun k => P (col (hd q) k)) g (fun k => A (lane (hd q) k) * lit f) (pos q)

/-- A head's part of the gradient by the gain. -/
def headGain (f : BitVec 32) (P : Fin 2048 → EReal) (A : Fin 4096 → EReal) (h : Fin 16) (j : Fin 128) : EReal :=
  byGain (fun k => P (col h k)) (fun k => A (lane h k) * lit f) j

/-- An entry of the whole row's gradient. -/
def entry (P Q V Z : Fin 2048 → EReal) (A B : Fin 4096 → EReal) (g k : Fin 128 → EReal) (q : Fin 8192) : EReal :=
  if h : q.val < 2048 then headInput 0x3DB504F3#32 P A g ⟨q.val, h⟩
  else if h' : q.val < 4096 then headInput 0x3F317218#32 Q B k ⟨q.val - 2048, by omega⟩
  else if h'' : q.val < 6144 then V ⟨q.val - 4096, by omega⟩
  else Z ⟨q.val - 6144, by have := q.isLt; omega⟩

section
variable (P Q V Z : Fin 2048 → EReal) (A B : Fin 4096 → EReal) (g k : Fin 128 → EReal) (q : Fin 8192) (p : Fin 2048)

theorem entry_q (h : q.val = p.val) : entry P Q V Z A B g k q = headInput 0x3DB504F3#32 P A g p := by
  have := p.isLt
  unfold entry
  rw [dif_pos (by omega)]
  exact congrArg _ (Fin.ext h)

theorem entry_k (h : q.val = 2048 + p.val) : entry P Q V Z A B g k q = headInput 0x3F317218#32 Q B k p := by
  have := p.isLt
  unfold entry
  rw [dif_neg (by omega), dif_pos (by omega)]
  exact congrArg _ (Fin.ext (by show q.val - 2048 = p.val; omega))

theorem entry_v (h : q.val = 4096 + p.val) : entry P Q V Z A B g k q = V p := by
  have := p.isLt
  unfold entry
  rw [dif_neg (by omega), dif_neg (by omega), dif_pos (by omega)]
  exact congrArg _ (Fin.ext (by show q.val - 4096 = p.val; omega))

theorem entry_z (h : q.val = 6144 + p.val) : entry P Q V Z A B g k q = Z p := by
  have := p.isLt
  unfold entry
  rw [dif_neg (by omega), dif_neg (by omega), dif_neg (by omega)]
  exact congrArg _ (Fin.ext (by show q.val - 6144 = p.val; omega))

end

/-! ## The reference -/

section
open Cert.Reference24Ideal Cert.Reference24Ideal.Gen Cert.Reference24Ideal.Read

variable (x0 : FVec Ideal S8192x8192 .bf16) (x1 x2 : FVec Ideal S8192x4096 .f32) (x3 : FVec Ideal S8192x2048 .f32)
  (x4 : FVec Ideal S8192x2048 .bf16) (x5 x6 : FVec Ideal S1x128 .f32) (n : Fin 8192) (h : Fin 16) (j : Fin 128)

/-- The row of a head in the array of all heads. -/
abbrev headRow (n : Fin 8192) (h : Fin 16) : Fin 131072 := ⟨n.val * 16 + h.val, by have := n.isLt; have := h.isLt; omega⟩

/-! ### The queries -/

theorem q_mean (i : S131072x1.Idx) : val_main_v20 (F := Ideal) x0 i = meanSq width fun k => val_main_v2 (F := Ideal) x0 (ix2 (i 0) k) := by
  rw [val_main_v20_apply, val_main_v18_apply, val_main_v16_apply, val_main_v15_apply, val_main_cst_1_apply, val_main_v17_apply, val_main_cst_2_apply,
    val_main_v19_apply, val_main_cst_3_apply, eps_bits, width_lit, Attn.zero_bits, EReal.coe_zero, zero_add]
  unfold meanSq
  refine congrArg (fun z => Ideal.div z width + (eps : EReal)) (Finset.sum_congr rfl fun k _ => ?_)
  rw [val_main_v14_apply, eq_ix2 (idx_main_v15 (idx_main_v16 i) k)]
  rfl

theorem q_scale (i : S131072x1.Idx) : val_main_v21 (F := Ideal) x0 i = scale width fun k => val_main_v2 (F := Ideal) x0 (ix2 (i 0) k) := by
  rw [val_main_v21_apply, q_mean]
  rfl

theorem q_gain : val_main_v31 (F := Ideal) x0 x1 (ix2 0 j)
    = ∑ m : Fin 131072, byGain (fun k => val_main_v2 (F := Ideal) x0 (ix2 m k)) (fun k => val_main_v9 (F := Ideal) x1 (ix2 m k)) j := by
  rw [val_main_v31_apply, val_main_v30_apply, val_main_cst_5_apply, Attn.zero_bits, EReal.coe_zero, zero_add]
  refine Finset.sum_congr rfl fun m _ => ?_
  have e : idx_main_v30 (idx_main_v31 (ix2 0 j)) m = ix2 m j := funext fun a => Fin.ext (by
    match a with
    | ⟨0, _⟩ => rfl
    | ⟨1, _⟩ => show 0 * 128 + j.val = j.val; omega)
  rw [val_main_v29_apply, val_main_v26_apply, val_main_v25_apply, q_scale, e]
  exact mul_comm (val_main_v2 (F := Ideal) x0 (ix2 m j) * scale width fun k => val_main_v2 (F := Ideal) x0 (ix2 m k)) (val_main_v9 (F := Ideal) x1 (ix2 m j))

/-- The derivative of the scale, times the cotangent's sum, over the width. -/
theorem q_mid (i : S131072.Idx) : val_main_v42 (F := Ideal) x0 x1 x5 i
    = Ideal.div ((∑ k, val_main_v2 (F := Ideal) x0 (ix2 (i 0) k) * (val_main_v9 (F := Ideal) x1 (ix2 (i 0) k) * x5 (ix2 0 k)))
        * (((-(1 / 2) : ℝ) : EReal) * Ideal.div (scale width fun k => val_main_v2 (F := Ideal) x0 (ix2 (i 0) k)) (meanSq width fun k => val_main_v2 (F := Ideal) x0 (ix2 (i 0) k)))) width := by
  rw [val_main_v42_apply, val_main_cst_8_apply, Attn.zero_bits, EReal.coe_zero, zero_add, Fin.sum_univ_one, val_main_v41_apply, val_main_v40_apply,
    val_main_cst_7_apply, width_lit, val_main_v39_apply, val_main_v24_apply, val_main_v23_apply, val_main_cst_4_apply, neg_half_bits, val_main_v22_apply,
    q_mean, q_scale, val_main_v36_apply, val_main_v35_apply, val_main_cst_6_apply, Attn.zero_bits, EReal.coe_zero, zero_add]
  refine congrArg (fun z : EReal => Ideal.div (z * (((-(1 / 2) : ℝ) : EReal) * Ideal.div (scale width fun k => val_main_v2 (F := Ideal) x0 (ix2 (i 0) k)) (meanSq width fun k => val_main_v2 (F := Ideal) x0 (ix2 (i 0) k)))) width)
    (Finset.sum_congr rfl fun k _ => ?_)
  have e : idx_main_v35 (idx_main_v36 (idx_main_v42 i 0)) k = ix2 (i 0) k := funext fun a => Fin.ext (by
    match a with
    | ⟨0, _⟩ => show (i 0).val * 1 + 0 = (i 0).val; omega
    | ⟨1, _⟩ => rfl)
  rw [val_main_v34_apply, val_main_v33_apply, val_main_v32_apply, e, eq_ix2 (idx_main_v32 (ix2 (i 0) k))]
  rfl

theorem q_input (m : Fin 131072) : val_main_v47 (F := Ideal) x0 x1 x5 (ix2 m j)
    = byInput (fun k => val_main_v2 (F := Ideal) x0 (ix2 m k)) (fun k => x5 (ix2 0 k)) (fun k => val_main_v9 (F := Ideal) x1 (ix2 m k)) j := by
  rw [byInput_eq, val_main_v47_apply, val_main_v46_apply, val_main_v45_apply, val_main_v44_apply, val_main_v43_apply, q_mid,
    val_main_v38_apply, val_main_v37_apply, q_scale, val_main_v33_apply, val_main_v32_apply, eq_ix2 (idx_main_v32 (ix2 m j))]
  rfl

theorem q_row (m : Fin 131072) (hm : m.val = n.val * 16 + h.val) : val_main_v2 (F := Ideal) x0 (ix2 m j) = x0 (ix2 n (colQ (col h j))) := by
  rw [val_main_v2_apply, val_main_v1_apply, val_main_v0_apply]
  refine congrArg x0 (funext fun a => Fin.ext ?_)
  have := n.isLt; have := h.isLt; have := j.isLt
  match a with
  | ⟨0, _⟩ => show (m.val * 128 + j.val) / 2048 = n.val; omega
  | ⟨1, _⟩ => show (m.val * 128 + j.val) % 2048 = (h.val * 128 + j.val); omega

theorem q_lane (m : Fin 131072) (hm : m.val = n.val * 16 + h.val) : val_main_v9 (F := Ideal) x1 (ix2 m j) = x1 (ix2 n (lane h j)) * lit 0x3DB504F3#32 := by
  rw [val_main_v9_apply, val_main_v7_apply, val_main_v6_apply, val_main_v8_apply, val_main_cst_apply]
  refine congrArg (fun z : EReal => z * lit 0x3DB504F3#32) (congrArg x1 (funext fun a => Fin.ext ?_))
  have := n.isLt; have := h.isLt; have := j.isLt
  match a with
  | ⟨0, _⟩ => show (m.val * 256 + j.val) / 4096 = n.val; omega
  | ⟨1, _⟩ => show (m.val * 256 + j.val) % 4096 = h.val * 256 + j.val; omega

theorem q_head (q : Fin 2048) : val_main_v83 (F := Ideal) x0 x1 x5 (ix2 n q)
    = headInput 0x3DB504F3#32 (fun k => x0 (ix2 n (colQ k))) (fun k => x1 (ix2 n k)) (fun k => x5 (ix2 0 k)) q := by
  have := n.isLt; have := q.isLt
  have e : idx_main_v82 (ix2 n q) = ix2 (headRow n (hd q)) (pos q) := funext fun a => Fin.ext (by
    match a with
    | ⟨0, _⟩ => show (n.val * 2048 + q.val) / 128 = n.val * 16 + q.val / 128; omega
    | ⟨1, _⟩ => show (n.val * 2048 + q.val) % 128 = q.val % 128; omega)
  rw [val_main_v83_apply, val_main_v82_apply, e]
  refine (q_input x0 x1 x5 (pos q) (headRow n (hd q))).trans ?_
  unfold headInput
  rw [show (fun k => val_main_v2 (F := Ideal) x0 (ix2 (headRow n (hd q)) k)) = fun k => x0 (ix2 n (colQ (col (hd q) k))) from
      funext fun k => q_row x0 n (hd q) k _ rfl,
    show (fun k => val_main_v9 (F := Ideal) x1 (ix2 (headRow n (hd q)) k)) = fun k => x1 (ix2 n (lane (hd q) k)) * lit 0x3DB504F3#32 from
      funext fun k => q_lane x1 n (hd q) k _ rfl]

theorem q_gains : val_main_v31 (F := Ideal) x0 x1 (ix2 0 j)
    = ∑ n : Fin 8192, ∑ h : Fin 16, headGain 0x3DB504F3#32 (fun k => x0 (ix2 n (colQ k))) (fun k => x1 (ix2 n k)) h j := by
  rw [q_gain]
  refine (sum_blocks 8192 16 rfl _).trans (Finset.sum_congr rfl fun n _ => Finset.sum_congr rfl fun h _ => ?_)
  unfold headGain
  rw [show (fun k => val_main_v2 (F := Ideal) x0 (ix2 (headRow n h) k)) = fun k => x0 (ix2 n (colQ (col h k))) from
      funext fun k => q_row x0 n h k _ rfl,
    show (fun k => val_main_v9 (F := Ideal) x1 (ix2 (headRow n h) k)) = fun k => x1 (ix2 n (lane h k)) * lit 0x3DB504F3#32 from
      funext fun k => q_lane x1 n h k _ rfl]

/-! ### The keys -/

theorem k_mean (i : S131072x1.Idx) : val_main_v54 (F := Ideal) x0 i = meanSq width fun k => val_main_v5 (F := Ideal) x0 (ix2 (i 0) k) := by
  rw [val_main_v54_apply, val_main_v52_apply, val_main_v50_apply, val_main_v49_apply, val_main_cst_9_apply, val_main_v51_apply, val_main_cst_10_apply,
    val_main_v53_apply, val_main_cst_11_apply, eps_bits, width_lit, Attn.zero_bits, EReal.coe_zero, zero_add]
  unfold meanSq
  refine congrArg (fun z => Ideal.div z width + (eps : EReal)) (Finset.sum_congr rfl fun k _ => ?_)
  rw [val_main_v48_apply, eq_ix2 (idx_main_v49 (idx_main_v50 i) k)]
  rfl

theorem k_scale (i : S131072x1.Idx) : val_main_v55 (F := Ideal) x0 i = scale width fun k => val_main_v5 (F := Ideal) x0 (ix2 (i 0) k) := by
  rw [val_main_v55_apply, k_mean]
  rfl

theorem k_gain : val_main_v65 (F := Ideal) x0 x2 (ix2 0 j)
    = ∑ m : Fin 131072, byGain (fun k => val_main_v5 (F := Ideal) x0 (ix2 m k)) (fun k => val_main_v13 (F := Ideal) x2 (ix2 m k)) j := by
  rw [val_main_v65_apply, val_main_v64_apply, val_main_cst_13_apply, Attn.zero_bits, EReal.coe_zero, zero_add]
  refine Finset.sum_congr rfl fun m _ => ?_
  have e : idx_main_v64 (idx_main_v65 (ix2 0 j)) m = ix2 m j := funext fun a => Fin.ext (by
    match a with
    | ⟨0, _⟩ => rfl
    | ⟨1, _⟩ => show 0 * 128 + j.val = j.val; omega)
  rw [val_main_v63_apply, val_main_v60_apply, val_main_v59_apply, k_scale, e]
  exact mul_comm (val_main_v5 (F := Ideal) x0 (ix2 m j) * scale width fun k => val_main_v5 (F := Ideal) x0 (ix2 m k)) (val_main_v13 (F := Ideal) x2 (ix2 m j))

/-- The derivative of the scale, times the cotangent's sum, over the width. -/
theorem k_mid (i : S131072.Idx) : val_main_v76 (F := Ideal) x0 x2 x6 i
    = Ideal.div ((∑ k, val_main_v5 (F := Ideal) x0 (ix2 (i 0) k) * (val_main_v13 (F := Ideal) x2 (ix2 (i 0) k) * x6 (ix2 0 k)))
        * (((-(1 / 2) : ℝ) : EReal) * Ideal.div (scale width fun k => val_main_v5 (F := Ideal) x0 (ix2 (i 0) k)) (meanSq width fun k => val_main_v5 (F := Ideal) x0 (ix2 (i 0) k)))) width := by
  rw [val_main_v76_apply, val_main_cst_16_apply, Attn.zero_bits, EReal.coe_zero, zero_add, Fin.sum_univ_one, val_main_v75_apply, val_main_v74_apply,
    val_main_cst_15_apply, width_lit, val_main_v73_apply, val_main_v58_apply, val_main_v57_apply, val_main_cst_12_apply, neg_half_bits, val_main_v56_apply,
    k_mean, k_scale, val_main_v70_apply, val_main_v69_apply, val_main_cst_14_apply, Attn.zero_bits, EReal.coe_zero, zero_add]
  refine congrArg (fun z : EReal => Ideal.div (z * (((-(1 / 2) : ℝ) : EReal) * Ideal.div (scale width fun k => val_main_v5 (F := Ideal) x0 (ix2 (i 0) k)) (meanSq width fun k => val_main_v5 (F := Ideal) x0 (ix2 (i 0) k)))) width)
    (Finset.sum_congr rfl fun k _ => ?_)
  have e : idx_main_v69 (idx_main_v70 (idx_main_v76 i 0)) k = ix2 (i 0) k := funext fun a => Fin.ext (by
    match a with
    | ⟨0, _⟩ => show (i 0).val * 1 + 0 = (i 0).val; omega
    | ⟨1, _⟩ => rfl)
  rw [val_main_v68_apply, val_main_v67_apply, val_main_v66_apply, e, eq_ix2 (idx_main_v66 (ix2 (i 0) k))]
  rfl

theorem k_input (m : Fin 131072) : val_main_v81 (F := Ideal) x0 x2 x6 (ix2 m j)
    = byInput (fun k => val_main_v5 (F := Ideal) x0 (ix2 m k)) (fun k => x6 (ix2 0 k)) (fun k => val_main_v13 (F := Ideal) x2 (ix2 m k)) j := by
  rw [byInput_eq, val_main_v81_apply, val_main_v80_apply, val_main_v79_apply, val_main_v78_apply, val_main_v77_apply, k_mid,
    val_main_v72_apply, val_main_v71_apply, k_scale, val_main_v67_apply, val_main_v66_apply, eq_ix2 (idx_main_v66 (ix2 m j))]
  rfl

theorem k_row (m : Fin 131072) (hm : m.val = n.val * 16 + h.val) : val_main_v5 (F := Ideal) x0 (ix2 m j) = x0 (ix2 n (colK (col h j))) := by
  rw [val_main_v5_apply, val_main_v4_apply, val_main_v3_apply]
  refine congrArg x0 (funext fun a => Fin.ext ?_)
  have := n.isLt; have := h.isLt; have := j.isLt
  match a with
  | ⟨0, _⟩ => show (m.val * 128 + j.val) / 2048 = n.val; omega
  | ⟨1, _⟩ => show 2048 + (m.val * 128 + j.val) % 2048 = 2048 + (h.val * 128 + j.val); omega

theorem k_lane (m : Fin 131072) (hm : m.val = n.val * 16 + h.val) : val_main_v13 (F := Ideal) x2 (ix2 m j) = x2 (ix2 n (lane h j)) * lit 0x3F317218#32 := by
  rw [val_main_v13_apply, val_main_v11_apply, val_main_v10_apply, val_main_v12_apply, val_main_cst_0_apply]
  refine congrArg (fun z : EReal => z * lit 0x3F317218#32) (congrArg x2 (funext fun a => Fin.ext ?_))
  have := n.isLt; have := h.isLt; have := j.isLt
  match a with
  | ⟨0, _⟩ => show (m.val * 256 + j.val) / 4096 = n.val; omega
  | ⟨1, _⟩ => show (m.val * 256 + j.val) % 4096 = h.val * 256 + j.val; omega

theorem k_head (q : Fin 2048) : val_main_v85 (F := Ideal) x0 x2 x6 (ix2 n q)
    = headInput 0x3F317218#32 (fun k => x0 (ix2 n (colK k))) (fun k => x2 (ix2 n k)) (fun k => x6 (ix2 0 k)) q := by
  have := n.isLt; have := q.isLt
  have e : idx_main_v84 (ix2 n q) = ix2 (headRow n (hd q)) (pos q) := funext fun a => Fin.ext (by
    match a with
    | ⟨0, _⟩ => show (n.val * 2048 + q.val) / 128 = n.val * 16 + q.val / 128; omega
    | ⟨1, _⟩ => show (n.val * 2048 + q.val) % 128 = q.val % 128; omega)
  rw [val_main_v85_apply, val_main_v84_apply, e]
  refine (k_input x0 x2 x6 (pos q) (headRow n (hd q))).trans ?_
  unfold headInput
  rw [show (fun k => val_main_v5 (F := Ideal) x0 (ix2 (headRow n (hd q)) k)) = fun k => x0 (ix2 n (colK (col (hd q) k))) from
      funext fun k => k_row x0 n (hd q) k _ rfl,
    show (fun k => val_main_v13 (F := Ideal) x2 (ix2 (headRow n (hd q)) k)) = fun k => x2 (ix2 n (lane (hd q) k)) * lit 0x3F317218#32 from
      funext fun k => k_lane x2 n (hd q) k _ rfl]

theorem k_gains : val_main_v65 (F := Ideal) x0 x2 (ix2 0 j)
    = ∑ n : Fin 8192, ∑ h : Fin 16, headGain 0x3F317218#32 (fun k => x0 (ix2 n (colK k))) (fun k => x2 (ix2 n k)) h j := by
  rw [k_gain]
  refine (sum_blocks 8192 16 rfl _).trans (Finset.sum_congr rfl fun n _ => Finset.sum_congr rfl fun h _ => ?_)
  unfold headGain
  rw [show (fun k => val_main_v5 (F := Ideal) x0 (ix2 (headRow n h) k)) = fun k => x0 (ix2 n (colK (col h k))) from
      funext fun k => k_row x0 n h k _ rfl,
    show (fun k => val_main_v13 (F := Ideal) x2 (ix2 (headRow n h) k)) = fun k => x2 (ix2 n (lane h k)) * lit 0x3F317218#32 from
      funext fun k => k_lane x2 n h k _ rfl]

/-- The whole row. -/
theorem ref_entry (q : Fin 8192) : val_main_v87 (F := Ideal) x0 x1 x2 x3 x4 x5 x6 (ix2 n q)
    = entry (fun k => x0 (ix2 n (colQ k))) (fun k => x0 (ix2 n (colK k))) (fun k => x3 (ix2 n k)) (fun k => x4 (ix2 n k))
        (fun k => x1 (ix2 n k)) (fun k => x2 (ix2 n k)) (fun k => x5 (ix2 0 k)) (fun k => x6 (ix2 0 k)) q := by
  have hq := q.isLt
  unfold val_main_v87
  rcases (by omega : q.val < 2048 ∨ (2048 ≤ q.val ∧ q.val < 4096) ∨ (4096 ≤ q.val ∧ q.val < 6144) ∨ 6144 ≤ q.val) with h | h | h | h
  · obtain ⟨p, hp⟩ : ∃ p : Fin 2048, q.val = 0 + p.val := ⟨⟨q.val - 0, by omega⟩, by show q.val = 0 + (q.val - 0); omega⟩
    refine (concatenate_apply_piece (t := S8192x8192) 1 [⟨S8192x2048, val_main_v83 (F := Ideal) x0 x1 x5⟩, ⟨S8192x2048, val_main_v85 (F := Ideal) x0 x2 x6⟩, ⟨S8192x2048, val_main_v86 (F := Ideal) x3⟩, ⟨S8192x2048, x4⟩]
      concatenates_S8192x2048_S8192x2048_S8192x2048_S8192x2048_S8192x8192_d1 (ix2 n q) 0 (by simp) S8192x2048 (val_main_v83 (F := Ideal) x0 x1 x5) rfl rfl 0 rfl
      (ix2 n p) (fun b hb => ?_) ?_).trans ?_
    · match b, hb with
      | ⟨0, _⟩, _ => rfl
      | ⟨1, _⟩, hb => exact absurd rfl hb
    · exact hp.symm
    · rw [entry_q _ _ _ _ _ _ _ _ q p (by omega)]
      exact q_head x0 x1 x5 n p
  · obtain ⟨p, hp⟩ : ∃ p : Fin 2048, q.val = 2048 + p.val := ⟨⟨q.val - 2048, by omega⟩, by show q.val = 2048 + (q.val - 2048); omega⟩
    refine (concatenate_apply_piece (t := S8192x8192) 1 [⟨S8192x2048, val_main_v83 (F := Ideal) x0 x1 x5⟩, ⟨S8192x2048, val_main_v85 (F := Ideal) x0 x2 x6⟩, ⟨S8192x2048, val_main_v86 (F := Ideal) x3⟩, ⟨S8192x2048, x4⟩]
      concatenates_S8192x2048_S8192x2048_S8192x2048_S8192x2048_S8192x8192_d1 (ix2 n q) 1 (by simp) S8192x2048 (val_main_v85 (F := Ideal) x0 x2 x6) rfl rfl 2048 rfl
      (ix2 n p) (fun b hb => ?_) ?_).trans ?_
    · match b, hb with
      | ⟨0, _⟩, _ => rfl
      | ⟨1, _⟩, hb => exact absurd rfl hb
    · exact hp.symm
    · rw [entry_k _ _ _ _ _ _ _ _ q p (by omega)]
      exact k_head x0 x2 x6 n p
  · obtain ⟨p, hp⟩ : ∃ p : Fin 2048, q.val = 4096 + p.val := ⟨⟨q.val - 4096, by omega⟩, by show q.val = 4096 + (q.val - 4096); omega⟩
    refine (concatenate_apply_piece (t := S8192x8192) 1 [⟨S8192x2048, val_main_v83 (F := Ideal) x0 x1 x5⟩, ⟨S8192x2048, val_main_v85 (F := Ideal) x0 x2 x6⟩, ⟨S8192x2048, val_main_v86 (F := Ideal) x3⟩, ⟨S8192x2048, x4⟩]
      concatenates_S8192x2048_S8192x2048_S8192x2048_S8192x2048_S8192x8192_d1 (ix2 n q) 2 (by simp) S8192x2048 (val_main_v86 (F := Ideal) x3) rfl rfl 4096 rfl
      (ix2 n p) (fun b hb => ?_) ?_).trans ?_
    · match b, hb with
      | ⟨0, _⟩, _ => rfl
      | ⟨1, _⟩, hb => exact absurd rfl hb
    · exact hp.symm
    · rw [entry_v _ _ _ _ _ _ _ _ q p (by omega)]
      rfl
  · obtain ⟨p, hp⟩ : ∃ p : Fin 2048, q.val = 6144 + p.val := ⟨⟨q.val - 6144, by omega⟩, by show q.val = 6144 + (q.val - 6144); omega⟩
    refine (concatenate_apply_piece (t := S8192x8192) 1 [⟨S8192x2048, val_main_v83 (F := Ideal) x0 x1 x5⟩, ⟨S8192x2048, val_main_v85 (F := Ideal) x0 x2 x6⟩, ⟨S8192x2048, val_main_v86 (F := Ideal) x3⟩, ⟨S8192x2048, x4⟩]
      concatenates_S8192x2048_S8192x2048_S8192x2048_S8192x2048_S8192x8192_d1 (ix2 n q) 3 (by simp) S8192x2048 (x4) rfl rfl 6144 rfl
      (ix2 n p) (fun b hb => ?_) ?_).trans ?_
    · match b, hb with
      | ⟨0, _⟩, _ => rfl
      | ⟨1, _⟩, hb => exact absurd rfl hb
    · exact hp.symm
    · rw [entry_z _ _ _ _ _ _ _ _ q p (by omega)]

end

/-! ## A block -/

section
open Cert.Kernel24Ideal Cert.Kernel24Ideal.Gen

/-- A head's cotangent. -/
def scaled (f : BitVec 32) (d : FVec Ideal S256x128 .f32) : FVec Ideal S256x128 .f32 := mulf d (broadcast S256x128 (FloatOps.ofBits .f32 f : Ideal .f32))

/-- A head's part of the gradient by the gain, added. -/
def gpart (f : BitVec 32) (a : FVec Ideal S1x128 .f32) (x : FVec Ideal S256x128 .bf16) (d : FVec Ideal S256x128 .f32) : FVec Ideal S1x128 .f32 :=
  addf a (shapeCast S1x128 (multiReduction .add [0] S128 (mulf (scaled f d) (k0_pay6 (F := Ideal) x)) 0x00000000#32 reduces_S256x128_S128 (.inl rfl) rfl) shapeCasts_S128_S1x128)

/-- A head's gradient by the input. -/
def dpart (f : BitVec 32) (x : FVec Ideal S256x128 .bf16) (d : FVec Ideal S256x128 .f32) (g : FVec Ideal S1x128 .f32) : FVec Ideal S256x128 .bf16 :=
  truncf .bf16 (mulf (broadcastTo S256x128 (k0_pay5 (F := Ideal) x) broadcasts_S256x1_S256x128)
    (subf (mulf (scaled f d) (broadcastTo S256x128 g broadcasts_S1x128_S256x128))
      (mulf (k0_pay6 (F := Ideal) x) (broadcastTo S256x128 (divf (shapeCast S256x1
        (multiReduction .add [1] S256 (mulf (mulf (scaled f d) (broadcastTo S256x128 g broadcasts_S1x128_S256x128)) (k0_pay6 (F := Ideal) x))
          0x00000000#32 reduces_S256x128_S256 (.inl rfl) rfl) shapeCasts_S256_S256x1) (broadcast S256x1 (FloatOps.ofBits .f32 0x43000000#32 : Ideal .f32)))
        broadcasts_S256x1_S256x128)))) bitsLt_bf16_f32

theorem pay_scale (x : FVec Ideal S256x128 .bf16) (r : Fin 256) : k0_pay5 (F := Ideal) x (ix2 r 0) = scale width fun k => x (ix2 r k) := by
  pointwise [k0_pay5, k0_pay4]
  simp only [Idealize.ShloMosaic.ix2_eq_valueIdx]
  unfold scale meanSq
  rw [show width = Ideal.ofBits .f32 0x43000000#32 from width_lit.symm, show (eps : EReal) = Ideal.ofBits .f32 0x358637BD#32 from eps_bits.symm]

theorem pay_row (x : FVec Ideal S256x128 .bf16) (r : Fin 256) (j : Fin 128) :
    k0_pay6 (F := Ideal) x (ix2 r j) = HMul.hMul (α := EReal) (β := EReal) (γ := EReal) (x (ix2 r j)) (scale width fun k => x (ix2 r k)) := by
  rw [← pay_scale]
  pointwise [k0_pay6, k0_pay4]
  simp only [Idealize.ShloMosaic.ix2_eq_valueIdx]

theorem gpart_apply (f : BitVec 32) (a : FVec Ideal S1x128 .f32) (x : FVec Ideal S256x128 .bf16) (d : FVec Ideal S256x128 .f32) (j : Fin 128) :
    gpart f a x d (ix2 0 j) = a (ix2 0 j) + ∑ l : Fin 256, byGain (fun k => x (ix2 l k)) (fun k => d (ix2 l k) * lit f) j := by
  unfold byGain
  simp only [← pay_row]
  pointwise [gpart, scaled]
  simp only [Idealize.ShloMosaic.ix2_eq_valueIdx]

theorem dpart_apply (f : BitVec 32) (x : FVec Ideal S256x128 .bf16) (d : FVec Ideal S256x128 .f32) (g : FVec Ideal S1x128 .f32) (r : Fin 256) (j : Fin 128) :
    dpart f x d g (ix2 r j) = byInput (fun k => x (ix2 r k)) (fun k => g (ix2 0 k)) (fun k => d (ix2 r k) * lit f) j := by
  unfold byInput
  simp only [← pay_row]
  rw [← pay_scale]
  pointwise [dpart, scaled]
  simp only [Idealize.ShloMosaic.ix2_eq_valueIdx]
  rw [show width = Ideal.ofBits .f32 0x43000000#32 from width_lit.symm]

/-- A head's columns of a block. -/
abbrev cols (X : FVec Ideal S256x2048 .bf16) (o : ℕ) (inb : ∀ a, (![0, o] : Fin 2 → ℕ) a + S256x128.size a ≤ S256x2048.size a) : FVec Ideal S256x128 .bf16 :=
  View.ld (Val := Elt Ideal) (e' := .bf16) X (Rect.unit (s := S256x2048) ![0, o] S256x128.size inb)

/-- A head's lanes of a block. -/
abbrev lanes (D : FVec Ideal S256x4096 .f32) (o : ℕ) (inb : ∀ a, (![0, o] : Fin 2 → ℕ) a + S256x128.size a ≤ S256x4096.size a) : FVec Ideal S256x128 .f32 :=
  View.ld (Val := Elt Ideal) (e' := .f32) D (Rect.unit (s := S256x4096) ![0, o] S256x128.size inb)

theorem cols_apply (X : FVec Ideal S256x2048 .bf16) (o : ℕ) (inb) (h : Fin 16) (ho : o = h.val * 128) (r : Fin 256) (k : Fin 128) :
    cols X o inb (ix2 r k) = X (ix2 r (col h k)) := by
  subst ho
  refine congrArg X (funext fun a => Fin.ext ?_)
  match a with
  | ⟨0, _⟩ => show 0 + 1 * r.val = r.val; omega
  | ⟨1, _⟩ => show h.val * 128 + 1 * k.val = h.val * 128 + k.val; omega

theorem lanes_apply (D : FVec Ideal S256x4096 .f32) (o : ℕ) (inb) (h : Fin 16) (ho : o = h.val * 256) (r : Fin 256) (k : Fin 128) :
    lanes D o inb (ix2 r k) = D (ix2 r (lane h k)) := by
  subst ho
  refine congrArg D (funext fun a => Fin.ext ?_)
  match a with
  | ⟨0, _⟩ => show 0 + 1 * r.val = r.val; omega
  | ⟨1, _⟩ => show h.val * 256 + 1 * k.val = h.val * 256 + k.val; omega

/-- A head's part of the gradient by the gain, over a block's rows. -/
def headSum (f : BitVec 32) (X : FVec Ideal S256x2048 .bf16) (D : FVec Ideal S256x4096 .f32) (j : Fin 128) (h : Fin 16) : EReal :=
  ∑ l : Fin 256, headGain f (fun k => X (ix2 l k)) (fun k => D (ix2 l k)) h j

theorem gpart_head (f : BitVec 32) (a : FVec Ideal S1x128 .f32) (X : FVec Ideal S256x2048 .bf16) (D : FVec Ideal S256x4096 .f32) (j : Fin 128) (h : Fin 16)
    (o o' : ℕ) (inb inb') (ho : o = h.val * 128) (ho' : o' = h.val * 256) :
    gpart f a (cols X o inb) (lanes D o' inb') (ix2 0 j) = a (ix2 0 j) + headSum f X D j h := by
  rw [gpart_apply]
  refine congrArg (fun z : EReal => a (ix2 0 j) + z) (Finset.sum_congr rfl fun l _ => ?_)
  unfold headGain
  rw [show (fun k => cols X o inb (ix2 l k)) = fun k => X (ix2 l (col h k)) from funext fun k => cols_apply X o inb h ho l k,
    show (fun k => (lanes D o' inb' (ix2 l k) : EReal) * lit f) = fun k => (D (ix2 l (lane h k)) : EReal) * lit f from
      funext fun k => congrArg (fun z : EReal => z * lit f) (lanes_apply D o' inb' h ho' l k)]

/-- All heads' parts, one after the other. -/
def heads (f : BitVec 32) (X : FVec Ideal S256x2048 .bf16) (D : FVec Ideal S256x4096 .f32) : FVec Ideal S1x128 .f32 :=
  gpart f (gpart f (gpart f (gpart f (gpart f (gpart f (gpart f (gpart f (gpart f (gpart f (gpart f (gpart f (gpart f (gpart f (gpart f (gpart f (broadcast S1x128 (FloatOps.ofBits .f32 0x00000000#32 : Ideal .f32))
    (cols X 0 inb_S256x2048_S256x128_0_0) (lanes D 0 inb_S256x4096_S256x128_0_0))
    (cols X 128 inb_S256x2048_S256x128_0_128) (lanes D 256 inb_S256x4096_S256x128_0_256))
    (cols X 256 inb_S256x2048_S256x128_0_256) (lanes D 512 inb_S256x4096_S256x128_0_512))
    (cols X 384 inb_S256x2048_S256x128_0_384) (lanes D 768 inb_S256x4096_S256x128_0_768))
    (cols X 512 inb_S256x2048_S256x128_0_512) (lanes D 1024 inb_S256x4096_S256x128_0_1024))
    (cols X 640 inb_S256x2048_S256x128_0_640) (lanes D 1280 inb_S256x4096_S256x128_0_1280))
    (cols X 768 inb_S256x2048_S256x128_0_768) (lanes D 1536 inb_S256x4096_S256x128_0_1536))
    (cols X 896 inb_S256x2048_S256x128_0_896) (lanes D 1792 inb_S256x4096_S256x128_0_1792))
    (cols X 1024 inb_S256x2048_S256x128_0_1024) (lanes D 2048 inb_S256x4096_S256x128_0_2048))
    (cols X 1152 inb_S256x2048_S256x128_0_1152) (lanes D 2304 inb_S256x4096_S256x128_0_2304))
    (cols X 1280 inb_S256x2048_S256x128_0_1280) (lanes D 2560 inb_S256x4096_S256x128_0_2560))
    (cols X 1408 inb_S256x2048_S256x128_0_1408) (lanes D 2816 inb_S256x4096_S256x128_0_2816))
    (cols X 1536 inb_S256x2048_S256x128_0_1536) (lanes D 3072 inb_S256x4096_S256x128_0_3072))
    (cols X 1664 inb_S256x2048_S256x128_0_1664) (lanes D 3328 inb_S256x4096_S256x128_0_3328))
    (cols X 1792 inb_S256x2048_S256x128_0_1792) (lanes D 3584 inb_S256x4096_S256x128_0_3584))
    (cols X 1920 inb_S256x2048_S256x128_0_1920) (lanes D 3840 inb_S256x4096_S256x128_0_3840)

theorem heads_apply (f : BitVec 32) (X : FVec Ideal S256x2048 .bf16) (D : FVec Ideal S256x4096 .f32) (j : Fin 128) :
    heads f X D (ix2 0 j) = ∑ h : Fin 16, headSum f X D j h := by
  unfold heads
  rw [gpart_head f _ X D j 15 1920 3840 _ _ rfl rfl,
    gpart_head f _ X D j 14 1792 3584 _ _ rfl rfl,
    gpart_head f _ X D j 13 1664 3328 _ _ rfl rfl,
    gpart_head f _ X D j 12 1536 3072 _ _ rfl rfl,
    gpart_head f _ X D j 11 1408 2816 _ _ rfl rfl,
    gpart_head f _ X D j 10 1280 2560 _ _ rfl rfl,
    gpart_head f _ X D j 9 1152 2304 _ _ rfl rfl,
    gpart_head f _ X D j 8 1024 2048 _ _ rfl rfl,
    gpart_head f _ X D j 7 896 1792 _ _ rfl rfl,
    gpart_head f _ X D j 6 768 1536 _ _ rfl rfl,
    gpart_head f _ X D j 5 640 1280 _ _ rfl rfl,
    gpart_head f _ X D j 4 512 1024 _ _ rfl rfl,
    gpart_head f _ X D j 3 384 768 _ _ rfl rfl,
    gpart_head f _ X D j 2 256 512 _ _ rfl rfl,
    gpart_head f _ X D j 1 128 256 _ _ rfl rfl,
    gpart_head f _ X D j 0 0 0 _ _ rfl rfl]
  simp only [Fin.sum_univ_castSucc, Fin.sum_univ_zero]
  rw [show (broadcast S1x128 (FloatOps.ofBits .f32 0x00000000#32 : Ideal .f32) : FVec Ideal S1x128 .f32) (ix2 0 j) = (0 : EReal) from
    Attn.zero_bits.trans EReal.coe_zero]
  rfl

/-- What a point adds. -/
def added (v s : FVec Ideal S1x128 .f32) : FVec Ideal S1x128 .f32 := addf (shapeCast S1x128 v shapeCasts_S1x128_S1x128) s

theorem added_apply (v s : FVec Ideal S1x128 .f32) (j : Fin 128) : added v s (ix2 0 j) = v (ix2 0 j) + s (ix2 0 j) := by
  unfold added
  rw [shapeCast_self]
  rfl

/-- A row of a block's result. -/
def blockOut (X Y : FVec Ideal S256x2048 .bf16) (A B : FVec Ideal S256x4096 .f32) (V : FVec Ideal S256x2048 .f32) (Z : FVec Ideal S256x2048 .bf16)
    (g k : FVec Ideal S1x128 .f32) (y : S256x8192.Idx) : EReal :=
  entry (fun q => X (ix2 (n0 := 256) (n1 := 2048) (y 0) q)) (fun q => Y (ix2 (n0 := 256) (n1 := 2048) (y 0) q))
    (fun q => V (ix2 (n0 := 256) (n1 := 2048) (y 0) q)) (fun q => Z (ix2 (n0 := 256) (n1 := 2048) (y 0) q))
    (fun q => A (ix2 (n0 := 256) (n1 := 4096) (y 0) q)) (fun q => B (ix2 (n0 := 256) (n1 := 4096) (y 0) q))
    (fun q => g (ix2 0 q)) (fun q => k (ix2 0 q)) (y 1)

section
variable (X Y : FVec Ideal S256x2048 .bf16) (A B : FVec Ideal S256x4096 .f32) (V : FVec Ideal S256x2048 .f32) (Z : FVec Ideal S256x2048 .bf16)
  (g k : FVec Ideal S1x128 .f32)

theorem emb_head (o : ℕ) (ho : o + 128 ≤ 8192) (inb : ∀ a, (![0, o] : Fin 2 → ℕ) a + S256x128.size a ≤ S256x8192.size a) (r : Fin 256) (j : Fin 128) :
    ((Rect.unit (s := S256x8192) ![0, o] S256x128.size inb).emb (ix2 r j : S256x128.Idx) : S256x8192.Idx) = ix2 r ⟨o + j.val, by omega⟩ := by
  funext a; apply Fin.ext
  match a with
  | ⟨0, _⟩ => show 0 + 1 * r.val = r.val; omega
  | ⟨1, _⟩ => show o + 1 * j.val = o + j.val; omega

theorem emb_part (o : ℕ) (ho : o + 2048 ≤ 8192) (inb : ∀ a, (![0, o] : Fin 2 → ℕ) a + S256x2048.size a ≤ S256x8192.size a) (r : Fin 256) (j : Fin 2048) :
    ((Rect.unit (s := S256x8192) ![0, o] S256x2048.size inb).emb (ix2 r j : S256x2048.Idx) : S256x8192.Idx) = ix2 r ⟨o + j.val, by omega⟩ := by
  funext a; apply Fin.ext
  match a with
  | ⟨0, _⟩ => show 0 + 1 * r.val = r.val; omega
  | ⟨1, _⟩ => show o + 1 * j.val = o + j.val; omega

theorem dpart_head (f : BitVec 32) (X : FVec Ideal S256x2048 .bf16) (D : FVec Ideal S256x4096 .f32) (g : FVec Ideal S1x128 .f32) (h : Fin 16)
    (o o' : ℕ) (inb inb') (ho : o = h.val * 128) (ho' : o' = h.val * 256) (r : Fin 256) (j : Fin 128) :
    dpart f (cols X o inb) (lanes D o' inb') g (ix2 r j)
      = headInput f (fun k => X (ix2 r k)) (fun k => D (ix2 r k)) (fun k => g (ix2 0 k)) (col h j) := by
  have hh : hd (col h j) = h := Fin.ext (by show (h.val * 128 + j.val) / 128 = h.val; have := j.isLt; omega)
  have hp : pos (col h j) = j := Fin.ext (by show (h.val * 128 + j.val) % 128 = j.val; have := j.isLt; omega)
  rw [dpart_apply]
  unfold headInput
  rw [hh, hp, show (fun k => cols X o inb (ix2 r k)) = fun k => X (ix2 r (col h k)) from funext fun k => cols_apply X o inb h ho r k,
    show (fun k => (lanes D o' inb' (ix2 r k) : EReal) * lit f) = fun k => (D (ix2 r (lane h k)) : EReal) * lit f from
      funext fun k => congrArg (fun z : EReal => z * lit f) (lanes_apply D o' inb' h ho' r k)]

theorem piece_q (h : Fin 16) (o o' p : ℕ) (inb inb') (hp : ∀ a, (![0, p] : Fin 2 → ℕ) a + S256x128.size a ≤ S256x8192.size a)
    (ho : o = h.val * 128) (ho' : o' = h.val * 256) (hpp : p = h.val * 128) (x : S256x128.Idx) :
    dpart 0x3DB504F3#32 (cols X o inb) (lanes A o' inb') g x
      = blockOut X Y A B V Z g k ((Rect.unit (s := S256x8192) ![0, p] S256x128.size hp).emb x) := by
  have := h.isLt
  suffices H : ∀ (r : Fin 256) (j : Fin 128), dpart 0x3DB504F3#32 (cols X o inb) (lanes A o' inb') g (ix2 r j)
      = blockOut X Y A B V Z g k ((Rect.unit (s := S256x8192) ![0, p] S256x128.size hp).emb (ix2 r j : S256x128.Idx)) by
    rw [eq_ix2 x]
    exact H _ _
  intro r j
  rw [emb_head p (by omega), dpart_head 0x3DB504F3#32 X A g h o o' inb inb' ho ho']
  exact (entry_q _ _ _ _ _ _ _ _ _ (col h j) (by show p + j.val = h.val * 128 + j.val; omega)).symm

theorem piece_k (h : Fin 16) (o o' p : ℕ) (inb inb') (hp : ∀ a, (![0, p] : Fin 2 → ℕ) a + S256x128.size a ≤ S256x8192.size a)
    (ho : o = h.val * 128) (ho' : o' = h.val * 256) (hpp : p = 2048 + h.val * 128) (x : S256x128.Idx) :
    dpart 0x3F317218#32 (cols Y o inb) (lanes B o' inb') k x
      = blockOut X Y A B V Z g k ((Rect.unit (s := S256x8192) ![0, p] S256x128.size hp).emb x) := by
  have := h.isLt
  suffices H : ∀ (r : Fin 256) (j : Fin 128), dpart 0x3F317218#32 (cols Y o inb) (lanes B o' inb') k (ix2 r j)
      = blockOut X Y A B V Z g k ((Rect.unit (s := S256x8192) ![0, p] S256x128.size hp).emb (ix2 r j : S256x128.Idx)) by
    rw [eq_ix2 x]
    exact H _ _
  intro r j
  rw [emb_head p (by omega), dpart_head 0x3F317218#32 Y B k h o o' inb inb' ho ho']
  exact (entry_k _ _ _ _ _ _ _ _ _ (col h j) (by show p + j.val = 2048 + (h.val * 128 + j.val); omega)).symm

theorem piece_v (hp : ∀ a, (![0, 4096] : Fin 2 → ℕ) a + S256x2048.size a ≤ S256x8192.size a) (x : S256x2048.Idx) :
    k0_pay210 (F := Ideal) V x = blockOut X Y A B V Z g k ((Rect.unit (s := S256x8192) ![0, 4096] S256x2048.size hp).emb x) := by
  suffices H : ∀ (r : Fin 256) (j : Fin 2048), k0_pay210 (F := Ideal) V (ix2 r j)
      = blockOut X Y A B V Z g k ((Rect.unit (s := S256x8192) ![0, 4096] S256x2048.size hp).emb (ix2 r j : S256x2048.Idx)) by
    rw [eq_ix2 x]
    exact H _ _
  intro r j
  rw [emb_part 4096 (by omega)]
  exact (entry_v (fun q => X (ix2 r q)) (fun q => Y (ix2 r q)) (fun q => V (ix2 r q)) (fun q => Z (ix2 r q)) (fun q => A (ix2 r q)) (fun q => B (ix2 r q))
    (fun q => g (ix2 0 q)) (fun q => k (ix2 0 q)) ⟨4096 + j.val, by have := j.isLt; omega⟩ j rfl).symm

theorem piece_z (hp : ∀ a, (![0, 6144] : Fin 2 → ℕ) a + S256x2048.size a ≤ S256x8192.size a) (x : S256x2048.Idx) :
    Z x = blockOut X Y A B V Z g k ((Rect.unit (s := S256x8192) ![0, 6144] S256x2048.size hp).emb x) := by
  suffices H : ∀ (r : Fin 256) (j : Fin 2048), Z (ix2 r j)
      = blockOut X Y A B V Z g k ((Rect.unit (s := S256x8192) ![0, 6144] S256x2048.size hp).emb (ix2 r j : S256x2048.Idx)) by
    rw [eq_ix2 x]
    exact H _ _
  intro r j
  rw [emb_part 6144 (by omega)]
  exact (entry_z (fun q => X (ix2 r q)) (fun q => Y (ix2 r q)) (fun q => V (ix2 r q)) (fun q => Z (ix2 r q)) (fun q => A (ix2 r q)) (fun q => B (ix2 r q))
    (fun q => g (ix2 0 q)) (fun q => k (ix2 0 q)) ⟨6144 + j.val, by have := j.isLt; omega⟩ j rfl).symm

end

/-! ## The launch -/

variable (m : (ℓ : Loc nD τ sig) → Buf (Elt Ideal) ℓ) (c : Dev nD)

/-- The arguments. -/
abbrev argP : FVec Ideal S8192x8192 .bf16 := m ((c : Thread nD τ).loc main_arg0)
abbrev argA : FVec Ideal S8192x4096 .f32 := m ((c : Thread nD τ).loc main_arg1)
abbrev argB : FVec Ideal S8192x4096 .f32 := m ((c : Thread nD τ).loc main_arg2)
abbrev argV : FVec Ideal S8192x2048 .f32 := m ((c : Thread nD τ).loc main_arg3)
abbrev argZ : FVec Ideal S8192x2048 .bf16 := m ((c : Thread nD τ).loc main_arg4)
abbrev argG : FVec Ideal S1x128 .f32 := m ((c : Thread nD τ).loc main_arg5)
abbrev argH : FVec Ideal S1x128 .f32 := m ((c : Thread nD τ).loc main_arg6)

/-- The gradient of the projections. -/
def dProj : FVec Ideal S8192x8192 .bf16 := fun i =>
  entry (fun k => argP m c (ix2 (n0 := 8192) (n1 := 8192) (i 0) (colQ k))) (fun k => argP m c (ix2 (n0 := 8192) (n1 := 8192) (i 0) (colK k)))
    (fun k => argV m c (ix2 (n0 := 8192) (n1 := 2048) (i 0) k)) (fun k => argZ m c (ix2 (n0 := 8192) (n1 := 2048) (i 0) k))
    (fun k => argA m c (ix2 (n0 := 8192) (n1 := 4096) (i 0) k)) (fun k => argB m c (ix2 (n0 := 8192) (n1 := 4096) (i 0) k))
    (fun k => argG m c (ix2 0 k)) (fun k => argH m c (ix2 0 k)) (i 1)

/-- A row's parts of the gradients by the gains. -/
def rowQ (j : Fin 128) (h : Fin 16) (n : Fin 8192) : EReal :=
  headGain 0x3DB504F3#32 (fun k => argP m c (ix2 n (colQ k))) (fun k => argA m c (ix2 n k)) h j
def rowK (j : Fin 128) (h : Fin 16) (n : Fin 8192) : EReal :=
  headGain 0x3F317218#32 (fun k => argP m c (ix2 n (colK k))) (fun k => argB m c (ix2 n k)) h j

/-- The gradients by the gains. -/
def dGainQ : FVec Ideal S1x128 .f32 := fun i => ∑ n : Fin 8192, ∑ h : Fin 16, rowQ m c (i 1) h n
def dGainK : FVec Ideal S1x128 .f32 := fun i => ∑ n : Fin 8192, ∑ h : Fin 16, rowK m c (i 1) h n

theorem N_eq : cfg0.N = 32 := by decide +kernel
theorem index_0 : ∀ t : Fin grid0.N, win0_0.index t 0 = t.val ∧ win0_0.index t 1 = 0 := by decide +kernel
theorem index_1 : ∀ t : Fin grid0.N, win0_1.index t 0 = t.val ∧ win0_1.index t 1 = 1 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = t.val ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = t.val ∧ win0_8.index t 1 = 0 := by decide +kernel
theorem index_9 : ∀ t : Fin grid0.N, win0_9.index t 0 = 0 ∧ win0_9.index t 1 = 0 := by decide +kernel
theorem index_10 : ∀ t : Fin grid0.N, win0_10.index t 0 = 0 ∧ win0_10.index t 1 = 0 := by decide +kernel

/-- The row of the whole array that is row `r` of a point's block. -/
abbrev row (t : Fin cfg0.N) (r : Fin 256) : Fin 8192 := ⟨t.val * 256 + r.val, by have := t.isLt; have := N_eq; omega⟩

/-- The blocks a point reads. -/
abbrev b0 (t : Fin cfg0.N) : FVec Ideal S256x2048 .bf16 := iblk m c 0 t
abbrev b1 (t : Fin cfg0.N) : FVec Ideal S256x2048 .bf16 := iblk m c 1 t
abbrev b2 (t : Fin cfg0.N) : FVec Ideal S256x4096 .f32 := iblk m c 2 t
abbrev b3 (t : Fin cfg0.N) : FVec Ideal S256x4096 .f32 := iblk m c 3 t
abbrev b4 (t : Fin cfg0.N) : FVec Ideal S256x2048 .f32 := iblk m c 4 t
abbrev b5 (t : Fin cfg0.N) : FVec Ideal S256x2048 .bf16 := iblk m c 5 t
abbrev b6 (t : Fin cfg0.N) : FVec Ideal S1x128 .f32 := iblk m c 6 t
abbrev b7 (t : Fin cfg0.N) : FVec Ideal S1x128 .f32 := iblk m c 7 t

theorem b0_apply (t : Fin cfg0.N) (r : Fin 256) (j : Fin 2048) : b0 m c t (ix2 r j) = argP m c (ix2 (row t r) (colQ j)) := by
  refine Eq.trans ?_ (congrFun (V_main_arg0 m c) _)
  unfold b0 iblk
  rw [View.read_apply]
  show V m c main_arg0 _ = V m c main_arg0 _
  refine congrArg _ (funext fun a => Fin.ext ?_)
  match a with
  | ⟨0, _⟩ => show win0_0.index t 0 * 256 + 1 * r.val = t.val * 256 + r.val; rw [(index_0 t).1]; omega
  | ⟨1, _⟩ => show win0_0.index t 1 * 2048 + 1 * j.val = j.val; rw [(index_0 t).2]; omega

theorem b1_apply (t : Fin cfg0.N) (r : Fin 256) (j : Fin 2048) : b1 m c t (ix2 r j) = argP m c (ix2 (row t r) (colK j)) := by
  refine Eq.trans ?_ (congrFun (V_main_arg0 m c) _)
  unfold b1 iblk
  rw [View.read_apply]
  show V m c main_arg0 _ = V m c main_arg0 _
  refine congrArg _ (funext fun a => Fin.ext ?_)
  match a with
  | ⟨0, _⟩ => show win0_1.index t 0 * 256 + 1 * r.val = t.val * 256 + r.val; rw [(index_1 t).1]; omega
  | ⟨1, _⟩ => show win0_1.index t 1 * 2048 + 1 * j.val = 2048 + j.val; rw [(index_1 t).2]; omega

theorem b2_apply (t : Fin cfg0.N) (r : Fin 256) (j : Fin 4096) : b2 m c t (ix2 r j) = argA m c (ix2 (row t r) j) := by
  refine Eq.trans ?_ (congrFun (V_main_arg1 m c) _)
  unfold b2 iblk
  rw [View.read_apply]
  show V m c main_arg1 _ = V m c main_arg1 _
  refine congrArg _ (funext fun a => Fin.ext ?_)
  match a with
  | ⟨0, _⟩ => show win0_2.index t 0 * 256 + 1 * r.val = t.val * 256 + r.val; rw [(index_2 t).1]; omega
  | ⟨1, _⟩ => show win0_2.index t 1 * 4096 + 1 * j.val = j.val; rw [(index_2 t).2]; omega

theorem b3_apply (t : Fin cfg0.N) (r : Fin 256) (j : Fin 4096) : b3 m c t (ix2 r j) = argB m c (ix2 (row t r) j) := by
  refine Eq.trans ?_ (congrFun (V_main_arg2 m c) _)
  unfold b3 iblk
  rw [View.read_apply]
  show V m c main_arg2 _ = V m c main_arg2 _
  refine congrArg _ (funext fun a => Fin.ext ?_)
  match a with
  | ⟨0, _⟩ => show win0_3.index t 0 * 256 + 1 * r.val = t.val * 256 + r.val; rw [(index_3 t).1]; omega
  | ⟨1, _⟩ => show win0_3.index t 1 * 4096 + 1 * j.val = j.val; rw [(index_3 t).2]; omega

theorem b4_apply (t : Fin cfg0.N) (r : Fin 256) (j : Fin 2048) : b4 m c t (ix2 r j) = argV m c (ix2 (row t r) j) := by
  refine Eq.trans ?_ (congrFun (V_main_arg3 m c) _)
  unfold b4 iblk
  rw [View.read_apply]
  show V m c main_arg3 _ = V m c main_arg3 _
  refine congrArg _ (funext fun a => Fin.ext ?_)
  match a with
  | ⟨0, _⟩ => show win0_4.index t 0 * 256 + 1 * r.val = t.val * 256 + r.val; rw [(index_4 t).1]; omega
  | ⟨1, _⟩ => show win0_4.index t 1 * 2048 + 1 * j.val = j.val; rw [(index_4 t).2]; omega

theorem b5_apply (t : Fin cfg0.N) (r : Fin 256) (j : Fin 2048) : b5 m c t (ix2 r j) = argZ m c (ix2 (row t r) j) := by
  refine Eq.trans ?_ (congrFun (V_main_arg4 m c) _)
  unfold b5 iblk
  rw [View.read_apply]
  show V m c main_arg4 _ = V m c main_arg4 _
  refine congrArg _ (funext fun a => Fin.ext ?_)
  match a with
  | ⟨0, _⟩ => show win0_5.index t 0 * 256 + 1 * r.val = t.val * 256 + r.val; rw [(index_5 t).1]; omega
  | ⟨1, _⟩ => show win0_5.index t 1 * 2048 + 1 * j.val = j.val; rw [(index_5 t).2]; omega

theorem b6_apply (t : Fin cfg0.N) (j : Fin 128) : b6 m c t (ix2 0 j) = argG m c (ix2 0 j) := by
  refine Eq.trans ?_ (congrFun (V_main_arg5 m c) _)
  unfold b6 iblk
  rw [View.read_apply]
  show V m c main_arg5 _ = V m c main_arg5 _
  refine congrArg _ (funext fun a => Fin.ext ?_)
  match a with
  | ⟨0, _⟩ => show win0_6.index t 0 * 1 + 1 * 0 = 0; rw [(index_6 t).1]
  | ⟨1, _⟩ => show win0_6.index t 1 * 128 + 1 * j.val = j.val; rw [(index_6 t).2]; omega

theorem b7_apply (t : Fin cfg0.N) (j : Fin 128) : b7 m c t (ix2 0 j) = argH m c (ix2 0 j) := by
  refine Eq.trans ?_ (congrFun (V_main_arg6 m c) _)
  unfold b7 iblk
  rw [View.read_apply]
  show V m c main_arg6 _ = V m c main_arg6 _
  refine congrArg _ (funext fun a => Fin.ext ?_)
  match a with
  | ⟨0, _⟩ => show win0_7.index t 0 * 1 + 1 * 0 = 0; rw [(index_7 t).1]
  | ⟨1, _⟩ => show win0_7.index t 1 * 128 + 1 * j.val = j.val; rw [(index_7 t).2]; omega

/-- What a point leaves of the gradient of the projections. -/
theorem out_proj_A (t : Fin cfg0.N) (h : t.val % 32 = 0) (y : S256x8192.Idx) :
    ((outsAt0 m c t.val t.isLt).1 : FVec Ideal S256x8192 .bf16) y = blockOut (b0 m c t) (b1 m c t) (b2 m c t) (b3 m c t) (b4 m c t) (b5 m c t) (b6 m c t) (b7 m c t) y := by
  rw [outsAt0_A m c t h]
  dsimp only
  unfold out0_A_8
  refine View.read_writes_apply_of_pieces (Val := Elt Ideal) VO0_8 _ (blockOut (b0 m c t) (b1 m c t) (b2 m c t) (b3 m c t) (b4 m c t) (b5 m c t) (b6 m c t) (b7 m c t)) _ ?_ y ?_
  rotate_left
  · exact cover0_A_8 (F := Ideal) c _ _ _ _ _ _ _ _ _ _ _ _ _ _ _ _ _ _ _ _ _ _ _ _ _ _ _ _ _ _ _ _ _ _ y
  frame_out
  exact (
    List.forall_mem_cons.mpr ⟨fun x => piece_z (b0 m c t) (b1 m c t) (b2 m c t) (b3 m c t) (b4 m c t) (b5 m c t) (b6 m c t) (b7 m c t) inb_S256x8192_S256x2048_0_6144 x,
    List.forall_mem_cons.mpr ⟨fun x => piece_v (b0 m c t) (b1 m c t) (b2 m c t) (b3 m c t) (b4 m c t) (b5 m c t) (b6 m c t) (b7 m c t) inb_S256x8192_S256x2048_0_4096 x,
    List.forall_mem_cons.mpr ⟨fun x => piece_k (b0 m c t) (b1 m c t) (b2 m c t) (b3 m c t) (b4 m c t) (b5 m c t) (b6 m c t) (b7 m c t) 15 1920 3840 3968 inb_S256x2048_S256x128_0_1920 inb_S256x4096_S256x128_0_3840 inb_S256x8192_S256x128_0_3968 rfl rfl rfl x,
    List.forall_mem_cons.mpr ⟨fun x => piece_k (b0 m c t) (b1 m c t) (b2 m c t) (b3 m c t) (b4 m c t) (b5 m c t) (b6 m c t) (b7 m c t) 14 1792 3584 3840 inb_S256x2048_S256x128_0_1792 inb_S256x4096_S256x128_0_3584 inb_S256x8192_S256x128_0_3840 rfl rfl rfl x,
    List.forall_mem_cons.mpr ⟨fun x => piece_k (b0 m c t) (b1 m c t) (b2 m c t) (b3 m c t) (b4 m c t) (b5 m c t) (b6 m c t) (b7 m c t) 13 1664 3328 3712 inb_S256x2048_S256x128_0_1664 inb_S256x4096_S256x128_0_3328 inb_S256x8192_S256x128_0_3712 rfl rfl rfl x,
    List.forall_mem_cons.mpr ⟨fun x => piece_k (b0 m c t) (b1 m c t) (b2 m c t) (b3 m c t) (b4 m c t) (b5 m c t) (b6 m c t) (b7 m c t) 12 1536 3072 3584 inb_S256x2048_S256x128_0_1536 inb_S256x4096_S256x128_0_3072 inb_S256x8192_S256x128_0_3584 rfl rfl rfl x,
    List.forall_mem_cons.mpr ⟨fun x => piece_k (b0 m c t) (b1 m c t) (b2 m c t) (b3 m c t) (b4 m c t) (b5 m c t) (b6 m c t) (b7 m c t) 11 1408 2816 3456 inb_S256x2048_S256x128_0_1408 inb_S256x4096_S256x128_0_2816 inb_S256x8192_S256x128_0_3456 rfl rfl rfl x,
    List.forall_mem_cons.mpr ⟨fun x => piece_k (b0 m c t) (b1 m c t) (b2 m c t) (b3 m c t) (b4 m c t) (b5 m c t) (b6 m c t) (b7 m c t) 10 1280 2560 3328 inb_S256x2048_S256x128_0_1280 inb_S256x4096_S256x128_0_2560 inb_S256x8192_S256x128_0_3328 rfl rfl rfl x,
    List.forall_mem_cons.mpr ⟨fun x => piece_k (b0 m c t) (b1 m c t) (b2 m c t) (b3 m c t) (b4 m c t) (b5 m c t) (b6 m c t) (b7 m c t) 9 1152 2304 3200 inb_S256x2048_S256x128_0_1152 inb_S256x4096_S256x128_0_2304 inb_S256x8192_S256x128_0_3200 rfl rfl rfl x,
    List.forall_mem_cons.mpr ⟨fun x => piece_k (b0 m c t) (b1 m c t) (b2 m c t) (b3 m c t) (b4 m c t) (b5 m c t) (b6 m c t) (b7 m c t) 8 1024 2048 3072 inb_S256x2048_S256x128_0_1024 inb_S256x4096_S256x128_0_2048 inb_S256x8192_S256x128_0_3072 rfl rfl rfl x,
    List.forall_mem_cons.mpr ⟨fun x => piece_k (b0 m c t) (b1 m c t) (b2 m c t) (b3 m c t) (b4 m c t) (b5 m c t) (b6 m c t) (b7 m c t) 7 896 1792 2944 inb_S256x2048_S256x128_0_896 inb_S256x4096_S256x128_0_1792 inb_S256x8192_S256x128_0_2944 rfl rfl rfl x,
    List.forall_mem_cons.mpr ⟨fun x => piece_k (b0 m c t) (b1 m c t) (b2 m c t) (b3 m c t) (b4 m c t) (b5 m c t) (b6 m c t) (b7 m c t) 6 768 1536 2816 inb_S256x2048_S256x128_0_768 inb_S256x4096_S256x128_0_1536 inb_S256x8192_S256x128_0_2816 rfl rfl rfl x,
    List.forall_mem_cons.mpr ⟨fun x => piece_k (b0 m c t) (b1 m c t) (b2 m c t) (b3 m c t) (b4 m c t) (b5 m c t) (b6 m c t) (b7 m c t) 5 640 1280 2688 inb_S256x2048_S256x128_0_640 inb_S256x4096_S256x128_0_1280 inb_S256x8192_S256x128_0_2688 rfl rfl rfl x,
    List.forall_mem_cons.mpr ⟨fun x => piece_k (b0 m c t) (b1 m c t) (b2 m c t) (b3 m c t) (b4 m c t) (b5 m c t) (b6 m c t) (b7 m c t) 4 512 1024 2560 inb_S256x2048_S256x128_0_512 inb_S256x4096_S256x128_0_1024 inb_S256x8192_S256x128_0_2560 rfl rfl rfl x,
    List.forall_mem_cons.mpr ⟨fun x => piece_k (b0 m c t) (b1 m c t) (b2 m c t) (b3 m c t) (b4 m c t) (b5 m c t) (b6 m c t) (b7 m c t) 3 384 768 2432 inb_S256x2048_S256x128_0_384 inb_S256x4096_S256x128_0_768 inb_S256x8192_S256x128_0_2432 rfl rfl rfl x,
    List.forall_mem_cons.mpr ⟨fun x => piece_k (b0 m c t) (b1 m c t) (b2 m c t) (b3 m c t) (b4 m c t) (b5 m c t) (b6 m c t) (b7 m c t) 2 256 512 2304 inb_S256x2048_S256x128_0_256 inb_S256x4096_S256x128_0_512 inb_S256x8192_S256x128_0_2304 rfl rfl rfl x,
    List.forall_mem_cons.mpr ⟨fun x => piece_k (b0 m c t) (b1 m c t) (b2 m c t) (b3 m c t) (b4 m c t) (b5 m c t) (b6 m c t) (b7 m c t) 1 128 256 2176 inb_S256x2048_S256x128_0_128 inb_S256x4096_S256x128_0_256 inb_S256x8192_S256x128_0_2176 rfl rfl rfl x,
    List.forall_mem_cons.mpr ⟨fun x => piece_k (b0 m c t) (b1 m c t) (b2 m c t) (b3 m c t) (b4 m c t) (b5 m c t) (b6 m c t) (b7 m c t) 0 0 0 2048 inb_S256x2048_S256x128_0_0 inb_S256x4096_S256x128_0_0 inb_S256x8192_S256x128_0_2048 rfl rfl rfl x,
    List.forall_mem_cons.mpr ⟨fun x => piece_q (b0 m c t) (b1 m c t) (b2 m c t) (b3 m c t) (b4 m c t) (b5 m c t) (b6 m c t) (b7 m c t) 15 1920 3840 1920 inb_S256x2048_S256x128_0_1920 inb_S256x4096_S256x128_0_3840 inb_S256x8192_S256x128_0_1920 rfl rfl rfl x,
    List.forall_mem_cons.mpr ⟨fun x => piece_q (b0 m c t) (b1 m c t) (b2 m c t) (b3 m c t) (b4 m c t) (b5 m c t) (b6 m c t) (b7 m c t) 14 1792 3584 1792 inb_S256x2048_S256x128_0_1792 inb_S256x4096_S256x128_0_3584 inb_S256x8192_S256x128_0_1792 rfl rfl rfl x,
    List.forall_mem_cons.mpr ⟨fun x => piece_q (b0 m c t) (b1 m c t) (b2 m c t) (b3 m c t) (b4 m c t) (b5 m c t) (b6 m c t) (b7 m c t) 13 1664 3328 1664 inb_S256x2048_S256x128_0_1664 inb_S256x4096_S256x128_0_3328 inb_S256x8192_S256x128_0_1664 rfl rfl rfl x,
    List.forall_mem_cons.mpr ⟨fun x => piece_q (b0 m c t) (b1 m c t) (b2 m c t) (b3 m c t) (b4 m c t) (b5 m c t) (b6 m c t) (b7 m c t) 12 1536 3072 1536 inb_S256x2048_S256x128_0_1536 inb_S256x4096_S256x128_0_3072 inb_S256x8192_S256x128_0_1536 rfl rfl rfl x,
    List.forall_mem_cons.mpr ⟨fun x => piece_q (b0 m c t) (b1 m c t) (b2 m c t) (b3 m c t) (b4 m c t) (b5 m c t) (b6 m c t) (b7 m c t) 11 1408 2816 1408 inb_S256x2048_S256x128_0_1408 inb_S256x4096_S256x128_0_2816 inb_S256x8192_S256x128_0_1408 rfl rfl rfl x,
    List.forall_mem_cons.mpr ⟨fun x => piece_q (b0 m c t) (b1 m c t) (b2 m c t) (b3 m c t) (b4 m c t) (b5 m c t) (b6 m c t) (b7 m c t) 10 1280 2560 1280 inb_S256x2048_S256x128_0_1280 inb_S256x4096_S256x128_0_2560 inb_S256x8192_S256x128_0_1280 rfl rfl rfl x,
    List.forall_mem_cons.mpr ⟨fun x => piece_q (b0 m c t) (b1 m c t) (b2 m c t) (b3 m c t) (b4 m c t) (b5 m c t) (b6 m c t) (b7 m c t) 9 1152 2304 1152 inb_S256x2048_S256x128_0_1152 inb_S256x4096_S256x128_0_2304 inb_S256x8192_S256x128_0_1152 rfl rfl rfl x,
    List.forall_mem_cons.mpr ⟨fun x => piece_q (b0 m c t) (b1 m c t) (b2 m c t) (b3 m c t) (b4 m c t) (b5 m c t) (b6 m c t) (b7 m c t) 8 1024 2048 1024 inb_S256x2048_S256x128_0_1024 inb_S256x4096_S256x128_0_2048 inb_S256x8192_S256x128_0_1024 rfl rfl rfl x,
    List.forall_mem_cons.mpr ⟨fun x => piece_q (b0 m c t) (b1 m c t) (b2 m c t) (b3 m c t) (b4 m c t) (b5 m c t) (b6 m c t) (b7 m c t) 7 896 1792 896 inb_S256x2048_S256x128_0_896 inb_S256x4096_S256x128_0_1792 inb_S256x8192_S256x128_0_896 rfl rfl rfl x,
    List.forall_mem_cons.mpr ⟨fun x => piece_q (b0 m c t) (b1 m c t) (b2 m c t) (b3 m c t) (b4 m c t) (b5 m c t) (b6 m c t) (b7 m c t) 6 768 1536 768 inb_S256x2048_S256x128_0_768 inb_S256x4096_S256x128_0_1536 inb_S256x8192_S256x128_0_768 rfl rfl rfl x,
    List.forall_mem_cons.mpr ⟨fun x => piece_q (b0 m c t) (b1 m c t) (b2 m c t) (b3 m c t) (b4 m c t) (b5 m c t) (b6 m c t) (b7 m c t) 5 640 1280 640 inb_S256x2048_S256x128_0_640 inb_S256x4096_S256x128_0_1280 inb_S256x8192_S256x128_0_640 rfl rfl rfl x,
    List.forall_mem_cons.mpr ⟨fun x => piece_q (b0 m c t) (b1 m c t) (b2 m c t) (b3 m c t) (b4 m c t) (b5 m c t) (b6 m c t) (b7 m c t) 4 512 1024 512 inb_S256x2048_S256x128_0_512 inb_S256x4096_S256x128_0_1024 inb_S256x8192_S256x128_0_512 rfl rfl rfl x,
    List.forall_mem_cons.mpr ⟨fun x => piece_q (b0 m c t) (b1 m c t) (b2 m c t) (b3 m c t) (b4 m c t) (b5 m c t) (b6 m c t) (b7 m c t) 3 384 768 384 inb_S256x2048_S256x128_0_384 inb_S256x4096_S256x128_0_768 inb_S256x8192_S256x128_0_384 rfl rfl rfl x,
    List.forall_mem_cons.mpr ⟨fun x => piece_q (b0 m c t) (b1 m c t) (b2 m c t) (b3 m c t) (b4 m c t) (b5 m c t) (b6 m c t) (b7 m c t) 2 256 512 256 inb_S256x2048_S256x128_0_256 inb_S256x4096_S256x128_0_512 inb_S256x8192_S256x128_0_256 rfl rfl rfl x,
    List.forall_mem_cons.mpr ⟨fun x => piece_q (b0 m c t) (b1 m c t) (b2 m c t) (b3 m c t) (b4 m c t) (b5 m c t) (b6 m c t) (b7 m c t) 1 128 256 128 inb_S256x2048_S256x128_0_128 inb_S256x4096_S256x128_0_256 inb_S256x8192_S256x128_0_128 rfl rfl rfl x,
    List.forall_mem_cons.mpr ⟨fun x => piece_q (b0 m c t) (b1 m c t) (b2 m c t) (b3 m c t) (b4 m c t) (b5 m c t) (b6 m c t) (b7 m c t) 0 0 0 0 inb_S256x2048_S256x128_0_0 inb_S256x4096_S256x128_0_0 inb_S256x8192_S256x128_0_0 rfl rfl rfl x,
    fun p hp => absurd hp List.not_mem_nil⟩⟩⟩⟩⟩⟩⟩⟩⟩⟩⟩⟩⟩⟩⟩⟩⟩⟩⟩⟩⟩⟩⟩⟩⟩⟩⟩⟩⟩⟩⟩⟩⟩⟩)

theorem out_proj_B (t : Fin cfg0.N) (h : ¬ t.val % 32 = 0) (y : S256x8192.Idx) :
    ((outsAt0 m c t.val t.isLt).1 : FVec Ideal S256x8192 .bf16) y = blockOut (b0 m c t) (b1 m c t) (b2 m c t) (b3 m c t) (b4 m c t) (b5 m c t) (b6 m c t) (b7 m c t) y := by
  rw [outsAt0_B m c t h]
  dsimp only
  unfold out0_B_8
  refine View.read_writes_apply_of_pieces (Val := Elt Ideal) VO0_8 _ (blockOut (b0 m c t) (b1 m c t) (b2 m c t) (b3 m c t) (b4 m c t) (b5 m c t) (b6 m c t) (b7 m c t)) _ ?_ y ?_
  rotate_left
  · exact cover0_B_8 (F := Ideal) c _ _ _ _ _ _ _ _ _ _ _ _ _ _ _ _ _ _ _ _ _ _ _ _ _ _ _ _ _ _ _ _ _ _ _ _ y
  frame_out
  exact (
    List.forall_mem_cons.mpr ⟨fun x => piece_z (b0 m c t) (b1 m c t) (b2 m c t) (b3 m c t) (b4 m c t) (b5 m c t) (b6 m c t) (b7 m c t) inb_S256x8192_S256x2048_0_6144 x,
    List.forall_mem_cons.mpr ⟨fun x => piece_v (b0 m c t) (b1 m c t) (b2 m c t) (b3 m c t) (b4 m c t) (b5 m c t) (b6 m c t) (b7 m c t) inb_S256x8192_S256x2048_0_4096 x,
    List.forall_mem_cons.mpr ⟨fun x => piece_k (b0 m c t) (b1 m c t) (b2 m c t) (b3 m c t) (b4 m c t) (b5 m c t) (b6 m c t) (b7 m c t) 15 1920 3840 3968 inb_S256x2048_S256x128_0_1920 inb_S256x4096_S256x128_0_3840 inb_S256x8192_S256x128_0_3968 rfl rfl rfl x,
    List.forall_mem_cons.mpr ⟨fun x => piece_k (b0 m c t) (b1 m c t) (b2 m c t) (b3 m c t) (b4 m c t) (b5 m c t) (b6 m c t) (b7 m c t) 14 1792 3584 3840 inb_S256x2048_S256x128_0_1792 inb_S256x4096_S256x128_0_3584 inb_S256x8192_S256x128_0_3840 rfl rfl rfl x,
    List.forall_mem_cons.mpr ⟨fun x => piece_k (b0 m c t) (b1 m c t) (b2 m c t) (b3 m c t) (b4 m c t) (b5 m c t) (b6 m c t) (b7 m c t) 13 1664 3328 3712 inb_S256x2048_S256x128_0_1664 inb_S256x4096_S256x128_0_3328 inb_S256x8192_S256x128_0_3712 rfl rfl rfl x,
    List.forall_mem_cons.mpr ⟨fun x => piece_k (b0 m c t) (b1 m c t) (b2 m c t) (b3 m c t) (b4 m c t) (b5 m c t) (b6 m c t) (b7 m c t) 12 1536 3072 3584 inb_S256x2048_S256x128_0_1536 inb_S256x4096_S256x128_0_3072 inb_S256x8192_S256x128_0_3584 rfl rfl rfl x,
    List.forall_mem_cons.mpr ⟨fun x => piece_k (b0 m c t) (b1 m c t) (b2 m c t) (b3 m c t) (b4 m c t) (b5 m c t) (b6 m c t) (b7 m c t) 11 1408 2816 3456 inb_S256x2048_S256x128_0_1408 inb_S256x4096_S256x128_0_2816 inb_S256x8192_S256x128_0_3456 rfl rfl rfl x,
    List.forall_mem_cons.mpr ⟨fun x => piece_k (b0 m c t) (b1 m c t) (b2 m c t) (b3 m c t) (b4 m c t) (b5 m c t) (b6 m c t) (b7 m c t) 10 1280 2560 3328 inb_S256x2048_S256x128_0_1280 inb_S256x4096_S256x128_0_2560 inb_S256x8192_S256x128_0_3328 rfl rfl rfl x,
    List.forall_mem_cons.mpr ⟨fun x => piece_k (b0 m c t) (b1 m c t) (b2 m c t) (b3 m c t) (b4 m c t) (b5 m c t) (b6 m c t) (b7 m c t) 9 1152 2304 3200 inb_S256x2048_S256x128_0_1152 inb_S256x4096_S256x128_0_2304 inb_S256x8192_S256x128_0_3200 rfl rfl rfl x,
    List.forall_mem_cons.mpr ⟨fun x => piece_k (b0 m c t) (b1 m c t) (b2 m c t) (b3 m c t) (b4 m c t) (b5 m c t) (b6 m c t) (b7 m c t) 8 1024 2048 3072 inb_S256x2048_S256x128_0_1024 inb_S256x4096_S256x128_0_2048 inb_S256x8192_S256x128_0_3072 rfl rfl rfl x,
    List.forall_mem_cons.mpr ⟨fun x => piece_k (b0 m c t) (b1 m c t) (b2 m c t) (b3 m c t) (b4 m c t) (b5 m c t) (b6 m c t) (b7 m c t) 7 896 1792 2944 inb_S256x2048_S256x128_0_896 inb_S256x4096_S256x128_0_1792 inb_S256x8192_S256x128_0_2944 rfl rfl rfl x,
    List.forall_mem_cons.mpr ⟨fun x => piece_k (b0 m c t) (b1 m c t) (b2 m c t) (b3 m c t) (b4 m c t) (b5 m c t) (b6 m c t) (b7 m c t) 6 768 1536 2816 inb_S256x2048_S256x128_0_768 inb_S256x4096_S256x128_0_1536 inb_S256x8192_S256x128_0_2816 rfl rfl rfl x,
    List.forall_mem_cons.mpr ⟨fun x => piece_k (b0 m c t) (b1 m c t) (b2 m c t) (b3 m c t) (b4 m c t) (b5 m c t) (b6 m c t) (b7 m c t) 5 640 1280 2688 inb_S256x2048_S256x128_0_640 inb_S256x4096_S256x128_0_1280 inb_S256x8192_S256x128_0_2688 rfl rfl rfl x,
    List.forall_mem_cons.mpr ⟨fun x => piece_k (b0 m c t) (b1 m c t) (b2 m c t) (b3 m c t) (b4 m c t) (b5 m c t) (b6 m c t) (b7 m c t) 4 512 1024 2560 inb_S256x2048_S256x128_0_512 inb_S256x4096_S256x128_0_1024 inb_S256x8192_S256x128_0_2560 rfl rfl rfl x,
    List.forall_mem_cons.mpr ⟨fun x => piece_k (b0 m c t) (b1 m c t) (b2 m c t) (b3 m c t) (b4 m c t) (b5 m c t) (b6 m c t) (b7 m c t) 3 384 768 2432 inb_S256x2048_S256x128_0_384 inb_S256x4096_S256x128_0_768 inb_S256x8192_S256x128_0_2432 rfl rfl rfl x,
    List.forall_mem_cons.mpr ⟨fun x => piece_k (b0 m c t) (b1 m c t) (b2 m c t) (b3 m c t) (b4 m c t) (b5 m c t) (b6 m c t) (b7 m c t) 2 256 512 2304 inb_S256x2048_S256x128_0_256 inb_S256x4096_S256x128_0_512 inb_S256x8192_S256x128_0_2304 rfl rfl rfl x,
    List.forall_mem_cons.mpr ⟨fun x => piece_k (b0 m c t) (b1 m c t) (b2 m c t) (b3 m c t) (b4 m c t) (b5 m c t) (b6 m c t) (b7 m c t) 1 128 256 2176 inb_S256x2048_S256x128_0_128 inb_S256x4096_S256x128_0_256 inb_S256x8192_S256x128_0_2176 rfl rfl rfl x,
    List.forall_mem_cons.mpr ⟨fun x => piece_k (b0 m c t) (b1 m c t) (b2 m c t) (b3 m c t) (b4 m c t) (b5 m c t) (b6 m c t) (b7 m c t) 0 0 0 2048 inb_S256x2048_S256x128_0_0 inb_S256x4096_S256x128_0_0 inb_S256x8192_S256x128_0_2048 rfl rfl rfl x,
    List.forall_mem_cons.mpr ⟨fun x => piece_q (b0 m c t) (b1 m c t) (b2 m c t) (b3 m c t) (b4 m c t) (b5 m c t) (b6 m c t) (b7 m c t) 15 1920 3840 1920 inb_S256x2048_S256x128_0_1920 inb_S256x4096_S256x128_0_3840 inb_S256x8192_S256x128_0_1920 rfl rfl rfl x,
    List.forall_mem_cons.mpr ⟨fun x => piece_q (b0 m c t) (b1 m c t) (b2 m c t) (b3 m c t) (b4 m c t) (b5 m c t) (b6 m c t) (b7 m c t) 14 1792 3584 1792 inb_S256x2048_S256x128_0_1792 inb_S256x4096_S256x128_0_3584 inb_S256x8192_S256x128_0_1792 rfl rfl rfl x,
    List.forall_mem_cons.mpr ⟨fun x => piece_q (b0 m c t) (b1 m c t) (b2 m c t) (b3 m c t) (b4 m c t) (b5 m c t) (b6 m c t) (b7 m c t) 13 1664 3328 1664 inb_S256x2048_S256x128_0_1664 inb_S256x4096_S256x128_0_3328 inb_S256x8192_S256x128_0_1664 rfl rfl rfl x,
    List.forall_mem_cons.mpr ⟨fun x => piece_q (b0 m c t) (b1 m c t) (b2 m c t) (b3 m c t) (b4 m c t) (b5 m c t) (b6 m c t) (b7 m c t) 12 1536 3072 1536 inb_S256x2048_S256x128_0_1536 inb_S256x4096_S256x128_0_3072 inb_S256x8192_S256x128_0_1536 rfl rfl rfl x,
    List.forall_mem_cons.mpr ⟨fun x => piece_q (b0 m c t) (b1 m c t) (b2 m c t) (b3 m c t) (b4 m c t) (b5 m c t) (b6 m c t) (b7 m c t) 11 1408 2816 1408 inb_S256x2048_S256x128_0_1408 inb_S256x4096_S256x128_0_2816 inb_S256x8192_S256x128_0_1408 rfl rfl rfl x,
    List.forall_mem_cons.mpr ⟨fun x => piece_q (b0 m c t) (b1 m c t) (b2 m c t) (b3 m c t) (b4 m c t) (b5 m c t) (b6 m c t) (b7 m c t) 10 1280 2560 1280 inb_S256x2048_S256x128_0_1280 inb_S256x4096_S256x128_0_2560 inb_S256x8192_S256x128_0_1280 rfl rfl rfl x,
    List.forall_mem_cons.mpr ⟨fun x => piece_q (b0 m c t) (b1 m c t) (b2 m c t) (b3 m c t) (b4 m c t) (b5 m c t) (b6 m c t) (b7 m c t) 9 1152 2304 1152 inb_S256x2048_S256x128_0_1152 inb_S256x4096_S256x128_0_2304 inb_S256x8192_S256x128_0_1152 rfl rfl rfl x,
    List.forall_mem_cons.mpr ⟨fun x => piece_q (b0 m c t) (b1 m c t) (b2 m c t) (b3 m c t) (b4 m c t) (b5 m c t) (b6 m c t) (b7 m c t) 8 1024 2048 1024 inb_S256x2048_S256x128_0_1024 inb_S256x4096_S256x128_0_2048 inb_S256x8192_S256x128_0_1024 rfl rfl rfl x,
    List.forall_mem_cons.mpr ⟨fun x => piece_q (b0 m c t) (b1 m c t) (b2 m c t) (b3 m c t) (b4 m c t) (b5 m c t) (b6 m c t) (b7 m c t) 7 896 1792 896 inb_S256x2048_S256x128_0_896 inb_S256x4096_S256x128_0_1792 inb_S256x8192_S256x128_0_896 rfl rfl rfl x,
    List.forall_mem_cons.mpr ⟨fun x => piece_q (b0 m c t) (b1 m c t) (b2 m c t) (b3 m c t) (b4 m c t) (b5 m c t) (b6 m c t) (b7 m c t) 6 768 1536 768 inb_S256x2048_S256x128_0_768 inb_S256x4096_S256x128_0_1536 inb_S256x8192_S256x128_0_768 rfl rfl rfl x,
    List.forall_mem_cons.mpr ⟨fun x => piece_q (b0 m c t) (b1 m c t) (b2 m c t) (b3 m c t) (b4 m c t) (b5 m c t) (b6 m c t) (b7 m c t) 5 640 1280 640 inb_S256x2048_S256x128_0_640 inb_S256x4096_S256x128_0_1280 inb_S256x8192_S256x128_0_640 rfl rfl rfl x,
    List.forall_mem_cons.mpr ⟨fun x => piece_q (b0 m c t) (b1 m c t) (b2 m c t) (b3 m c t) (b4 m c t) (b5 m c t) (b6 m c t) (b7 m c t) 4 512 1024 512 inb_S256x2048_S256x128_0_512 inb_S256x4096_S256x128_0_1024 inb_S256x8192_S256x128_0_512 rfl rfl rfl x,
    List.forall_mem_cons.mpr ⟨fun x => piece_q (b0 m c t) (b1 m c t) (b2 m c t) (b3 m c t) (b4 m c t) (b5 m c t) (b6 m c t) (b7 m c t) 3 384 768 384 inb_S256x2048_S256x128_0_384 inb_S256x4096_S256x128_0_768 inb_S256x8192_S256x128_0_384 rfl rfl rfl x,
    List.forall_mem_cons.mpr ⟨fun x => piece_q (b0 m c t) (b1 m c t) (b2 m c t) (b3 m c t) (b4 m c t) (b5 m c t) (b6 m c t) (b7 m c t) 2 256 512 256 inb_S256x2048_S256x128_0_256 inb_S256x4096_S256x128_0_512 inb_S256x8192_S256x128_0_256 rfl rfl rfl x,
    List.forall_mem_cons.mpr ⟨fun x => piece_q (b0 m c t) (b1 m c t) (b2 m c t) (b3 m c t) (b4 m c t) (b5 m c t) (b6 m c t) (b7 m c t) 1 128 256 128 inb_S256x2048_S256x128_0_128 inb_S256x4096_S256x128_0_256 inb_S256x8192_S256x128_0_128 rfl rfl rfl x,
    List.forall_mem_cons.mpr ⟨fun x => piece_q (b0 m c t) (b1 m c t) (b2 m c t) (b3 m c t) (b4 m c t) (b5 m c t) (b6 m c t) (b7 m c t) 0 0 0 0 inb_S256x2048_S256x128_0_0 inb_S256x4096_S256x128_0_0 inb_S256x8192_S256x128_0_0 rfl rfl rfl x,
    fun p hp => absurd hp List.not_mem_nil⟩⟩⟩⟩⟩⟩⟩⟩⟩⟩⟩⟩⟩⟩⟩⟩⟩⟩⟩⟩⟩⟩⟩⟩⟩⟩⟩⟩⟩⟩⟩⟩⟩⟩)

theorem out_proj (t : Fin cfg0.N) (y : S256x8192.Idx) :
    ((outsAt0 m c t.val t.isLt).1 : FVec Ideal S256x8192 .bf16) y = blockOut (b0 m c t) (b1 m c t) (b2 m c t) (b3 m c t) (b4 m c t) (b5 m c t) (b6 m c t) (b7 m c t) y := by
  by_cases h : t.val % 32 = 0
  · exact out_proj_A m c t h y
  · exact out_proj_B m c t h y

theorem block_entry (t : Fin cfg0.N) (r : Fin 256) (q : Fin 8192) :
    blockOut (b0 m c t) (b1 m c t) (b2 m c t) (b3 m c t) (b4 m c t) (b5 m c t) (b6 m c t) (b7 m c t) (ix2 r q) = dProj m c (ix2 (row t r) q) := by
  show entry (fun k => b0 m c t (ix2 r k)) (fun k => b1 m c t (ix2 r k)) (fun k => b4 m c t (ix2 r k)) (fun k => b5 m c t (ix2 r k))
    (fun k => b2 m c t (ix2 r k)) (fun k => b3 m c t (ix2 r k)) (fun k => b6 m c t (ix2 0 k)) (fun k => b7 m c t (ix2 0 k)) q = _
  simp only [b0_apply, b1_apply, b2_apply, b3_apply, b4_apply, b5_apply, b6_apply, b7_apply]
  rfl

theorem emb_8 (t : Fin cfg0.N) (y : ((cfg0.win 8).xblock (cfg0.grid.coords t)).Idx) :
    (((cfg0.win 8).blk t).view.emb y : S8192x8192.Idx) = ix2 (n0 := 8192) (n1 := 8192) (row t ⟨(y 0).val, (y 0).isLt⟩) ⟨(y 1).val, (y 1).isLt⟩ := by
  funext a; apply Fin.ext
  match a with
  | ⟨0, _⟩ => show win0_8.index t 0 * 256 + 1 * (y 0).val = t.val * 256 + (y 0).val; rw [(index_8 t).1]; omega
  | ⟨1, _⟩ => show win0_8.index t 1 * 8192 + 1 * (y 1).val = (y 1).val; rw [(index_8 t).2]; omega

/-- The launch's first result. -/
theorem final_8 : (dats m 0 c).arrAt 8 cfg0.N = dProj m c := by
  refine (dats m 0 c).arrAt_eq_of_covers 8 _ (by decide +kernel) fun t hf y => ?_
  refine (cast_eq _ _).trans ((congrFun (after0_8 m c t) _).trans ?_)
  refine Eq.trans ?_ (congrArg (dProj m c) (emb_8 t y)).symm
  refine (congrArg ((outsAt0 m c t.val t.isLt).1 : FVec Ideal S256x8192 .bf16) (eq_ix2 _)).trans ?_
  exact (out_proj m c t _).trans (block_entry m c t _ _)

theorem emb_9 (t : Fin cfg0.N) (y : ((cfg0.win 9).xblock (cfg0.grid.coords t)).Idx) :
    (((cfg0.win 9).blk t).view.emb y : S1x128.Idx) = ix2 (n0 := 1) (n1 := 128) 0 ⟨(y 1).val, (y 1).isLt⟩ := by
  have : (y 0).val < 1 := (y 0).isLt
  funext a; apply Fin.ext
  match a with
  | ⟨0, _⟩ => show win0_9.index t 0 * 1 + 1 * (y 0).val = 0; rw [(index_9 t).1]; omega
  | ⟨1, _⟩ => show win0_9.index t 1 * 128 + 1 * (y 1).val = (y 1).val; rw [(index_9 t).2]; omega

theorem first_9 (t : Fin cfg0.N) (h : t.val % 32 = 0) : ((outsAt0 m c t.val t.isLt).2.1 : FVec Ideal S1x128 .f32)
    = added (broadcast S1x128 (FloatOps.ofBits .f32 0x00000000#32 : Ideal .f32)) (heads 0x3DB504F3#32 (b0 m c t) (b2 m c t)) := by
  rw [outsAt0_A m c t h]
  frame_out
  rfl

theorem next_9 (t : Fin cfg0.N) (h : ¬ t.val % 32 = 0) : ((outsAt0 m c t.val t.isLt).2.1 : FVec Ideal S1x128 .f32)
    = added (outsAt0 m c (t.val - 1) (by have := t.isLt; omega)).2.1 (heads 0x3DB504F3#32 (b0 m c t) (b2 m c t)) := by
  rw [outsAt0_B m c t h]
  frame_out
  rfl

/-- What the last point leaves of the gradient by the gain. -/
theorem out_9 (t : Fin cfg0.N) (h : t.val % 32 = 31) (j : Fin 128) :
    ((outsAt0 m c t.val t.isLt).2.1 : FVec Ideal S1x128 .f32) (ix2 0 j)
      = ∑ s : Fin 32, ∑ h : Fin 16, headSum 0x3DB504F3#32 (b0 m c ⟨32 * (t.val / 32) + s.val, by have := t.isLt; have := N_eq; omega⟩) (b2 m c ⟨32 * (t.val / 32) + s.val, by have := t.isLt; have := N_eq; omega⟩) j h := by
  rw [Pipeline.eq_sum_fin_of_reset_step_apply_of_flush (fun n h (j : Fin 128) => ((outsAt0 m c n h).2.1 : FVec Ideal S1x128 .f32) (ix2 0 j)) 32
    (fun _ => (0 : EReal)) (fun t j => ∑ h : Fin 16, headSum 0x3DB504F3#32 (b0 m c t) (b2 m c t) j h)
    (fun t h j => (congrFun (first_9 m c t h) _).trans ((added_apply _ _ _).trans
      (congrArg₂ (fun x y : EReal => x + y) (Attn.zero_bits.trans EReal.coe_zero) (heads_apply _ _ _ _))))
    (fun t h j => (congrFun (next_9 m c t h) _).trans ((added_apply _ _ _).trans
      (congrArg (fun y : EReal => ((outsAt0 m c (t.val - 1) (by have := t.isLt; omega)).2.1 : FVec Ideal S1x128 .f32) (ix2 0 j) + y) (heads_apply _ _ _ _)))) t h j]
  exact zero_add _

/-- The launch's second result. -/
theorem final_9 : (dats m 0 c).arrAt 9 cfg0.N = dGainQ m c := by
  refine (dats m 0 c).arrAt_eq_of_covers 9 _ (by decide +kernel) fun t hf y => ?_
  have ht : t.val < 32 := lt_of_lt_of_eq t.isLt N_eq
  have hm : t.val % 32 = 31 := (flush0_9 t).mp hf
  have h0 : (y 0).val < 1 := (y 0).isLt
  refine (cast_eq _ _).trans ((congrFun (after0_9 m c t) _).trans ?_)
  refine Eq.trans ?_ (congrArg (dGainQ m c) (emb_9 t y)).symm
  refine (congrArg ((outsAt0 m c t.val t.isLt).2.1 : FVec Ideal S1x128 .f32)
    (funext fun a => Fin.ext (by match a with | ⟨0, _⟩ => show (y 0).val = 0; omega | ⟨1, _⟩ => rfl))).trans ((out_9 m c t hm ⟨(y 1).val, (y 1).isLt⟩).trans ?_)
  refine Eq.trans ?_ (sum_blocks 32 256 rfl _).symm
  refine Finset.sum_congr rfl fun s _ => Eq.trans (Finset.sum_congr rfl fun h _ => Finset.sum_congr rfl fun l _ => ?_) Finset.sum_comm
  simp only [b0_apply, b2_apply]
  refine congrArg (rowQ m c _ h) (Fin.ext ?_)
  show (32 * (t.val / 32) + s.val) * 256 + l.val = s.val * 256 + l.val
  omega

theorem emb_10 (t : Fin cfg0.N) (y : ((cfg0.win 10).xblock (cfg0.grid.coords t)).Idx) :
    (((cfg0.win 10).blk t).view.emb y : S1x128.Idx) = ix2 (n0 := 1) (n1 := 128) 0 ⟨(y 1).val, (y 1).isLt⟩ := by
  have : (y 0).val < 1 := (y 0).isLt
  funext a; apply Fin.ext
  match a with
  | ⟨0, _⟩ => show win0_10.index t 0 * 1 + 1 * (y 0).val = 0; rw [(index_10 t).1]; omega
  | ⟨1, _⟩ => show win0_10.index t 1 * 128 + 1 * (y 1).val = (y 1).val; rw [(index_10 t).2]; omega

theorem first_10 (t : Fin cfg0.N) (h : t.val % 32 = 0) : ((outsAt0 m c t.val t.isLt).2.2.1 : FVec Ideal S1x128 .f32)
    = added (broadcast S1x128 (FloatOps.ofBits .f32 0x00000000#32 : Ideal .f32)) (heads 0x3F317218#32 (b1 m c t) (b3 m c t)) := by
  rw [outsAt0_A m c t h]
  frame_out
  rfl

theorem next_10 (t : Fin cfg0.N) (h : ¬ t.val % 32 = 0) : ((outsAt0 m c t.val t.isLt).2.2.1 : FVec Ideal S1x128 .f32)
    = added (outsAt0 m c (t.val - 1) (by have := t.isLt; omega)).2.2.1 (heads 0x3F317218#32 (b1 m c t) (b3 m c t)) := by
  rw [outsAt0_B m c t h]
  frame_out
  rfl

/-- What the last point leaves of the gradient by the gain. -/
theorem out_10 (t : Fin cfg0.N) (h : t.val % 32 = 31) (j : Fin 128) :
    ((outsAt0 m c t.val t.isLt).2.2.1 : FVec Ideal S1x128 .f32) (ix2 0 j)
      = ∑ s : Fin 32, ∑ h : Fin 16, headSum 0x3F317218#32 (b1 m c ⟨32 * (t.val / 32) + s.val, by have := t.isLt; have := N_eq; omega⟩) (b3 m c ⟨32 * (t.val / 32) + s.val, by have := t.isLt; have := N_eq; omega⟩) j h := by
  rw [Pipeline.eq_sum_fin_of_reset_step_apply_of_flush (fun n h (j : Fin 128) => ((outsAt0 m c n h).2.2.1 : FVec Ideal S1x128 .f32) (ix2 0 j)) 32
    (fun _ => (0 : EReal)) (fun t j => ∑ h : Fin 16, headSum 0x3F317218#32 (b1 m c t) (b3 m c t) j h)
    (fun t h j => (congrFun (first_10 m c t h) _).trans ((added_apply _ _ _).trans
      (congrArg₂ (fun x y : EReal => x + y) (Attn.zero_bits.trans EReal.coe_zero) (heads_apply _ _ _ _))))
    (fun t h j => (congrFun (next_10 m c t h) _).trans ((added_apply _ _ _).trans
      (congrArg (fun y : EReal => ((outsAt0 m c (t.val - 1) (by have := t.isLt; omega)).2.2.1 : FVec Ideal S1x128 .f32) (ix2 0 j) + y) (heads_apply _ _ _ _)))) t h j]
  exact zero_add _

/-- The launch's third result. -/
theorem final_10 : (dats m 0 c).arrAt 10 cfg0.N = dGainK m c := by
  refine (dats m 0 c).arrAt_eq_of_covers 10 _ (by decide +kernel) fun t hf y => ?_
  have ht : t.val < 32 := lt_of_lt_of_eq t.isLt N_eq
  have hm : t.val % 32 = 31 := (flush0_10 t).mp hf
  have h0 : (y 0).val < 1 := (y 0).isLt
  refine (cast_eq _ _).trans ((congrFun (after0_10 m c t) _).trans ?_)
  refine Eq.trans ?_ (congrArg (dGainK m c) (emb_10 t y)).symm
  refine (congrArg ((outsAt0 m c t.val t.isLt).2.2.1 : FVec Ideal S1x128 .f32)
    (funext fun a => Fin.ext (by match a with | ⟨0, _⟩ => show (y 0).val = 0; omega | ⟨1, _⟩ => rfl))).trans ((out_10 m c t hm ⟨(y 1).val, (y 1).isLt⟩).trans ?_)
  refine Eq.trans ?_ (sum_blocks 32 256 rfl _).symm
  refine Finset.sum_congr rfl fun s _ => Eq.trans (Finset.sum_congr rfl fun h _ => Finset.sum_congr rfl fun l _ => ?_) Finset.sum_comm
  simp only [b1_apply, b3_apply]
  refine congrArg (rowK m c _ h) (Fin.ext ?_)
  show (32 * (t.val / 32) + s.val) * 256 + l.val = s.val * 256 + l.val
  omega

end

/-! ## Equal -/

/-- The launch's results are the reference's. -/
theorem algebraic : Cert.algebraic_Kernel24Ideal_Reference24Ideal := fun m g m' g' _ hargs => by
  refine ⟨fun c => dProj m c, fun c => dGainQ m c, fun c => dGainK m c, ?_, ?_⟩
  · refine (θ_run _ _ _).mono (fun r h c => ?_) (Cert.Kernel24Ideal.Value.run_blocks (F := Ideal) m g)
    exact ⟨(h c).1.trans (final_8 m c), (h c).2.1.trans (final_9 m c), (h c).2.2.1.trans (final_10 m c), (h c).2.2.2.2⟩
  · refine (θ_run _ _ _).mono (fun r h c => ?_) (Cert.Reference24Ideal.Value.run (F := Ideal) m' g')
    obtain ⟨a0, a1, a2, a3, a4, a5, a6⟩ := hargs c
    refine ⟨(h c).1.trans ?_, (h c).2.1.trans ?_, (h c).2.2.1.trans ?_, (h c).2.2.2⟩
    · rw [Cert.Reference24Ideal.Read.val_main_v87_eq, a0, a1, a2, a3, a4, a5, a6]
      funext i
      rw [eq_ix2 i]
      exact ref_entry _ _ _ _ _ _ _ (i 0) (i 1)
    · rw [Cert.Reference24Ideal.Read.val_main_v31_eq, a0, a1]
      funext i
      have hi : i 0 = (0 : Fin 1) := Fin.ext (by have : (i 0).val < 1 := (i 0).isLt; show (i 0).val = 0; omega)
      rw [eq_ix2 i, hi]
      exact q_gains _ _ (i 1)
    · rw [Cert.Reference24Ideal.Read.val_main_v65_eq, a0, a2]
      funext i
      have hi : i 0 = (0 : Fin 1) := Fin.ext (by have : (i 0).val < 1 := (i 0).isLt; show (i 0).val = 0; omega)
      rw [eq_ix2 i, hi]
      exact k_gains _ _ (i 1)

end Cert.Proof.QkNorms

end
-- ==== Proof.GmlpOut.lean ====
/-
  The gMLP's output projection, added to the residual stream: the call `a1_out`. Its blocks are summed over 4 blocks of the contracted axis; the
  result is the whole product, and so is the reference's.
-/
module

public import proofs.«01_k».proof.Defs
public import proofs.«01_k».proof.Proof.Gen.Kernel12Ideal.Value
public import proofs.«01_k».proof.Proof.Gen.Reference12Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.GmlpOut

open Idealize.ShloMosaic hiding ix0 ix2 ix3 eq_ix2 eq_ix3
open Idealize.ShloMosaic.ValueIdx Idealize.ShloMosaic.TcCoe Idealize.SL.Sem
open scoped BigOperators

/-! ## The reference -/

section
open Cert.Reference12Ideal Cert.Reference12Ideal.Gen

/-- The reference's product. -/
theorem ref_at (x : FVec Ideal S8192x4096 .f32) (y : FVec Ideal S4096x2048 .f32) (i : Fin 8192) (j : Fin 2048) :
    Host.dotGeneral dot_S8192x4096_S4096x2048_S8192x2048_1_0_0_1_n_n none x y (ix2 i j)
      = ∑ k : Fin 4096, x (ix2 i k) * y (ix2 k j) := by
  refine (Ideal.dotGeneral_apply _ none _ x y (ix2 i j)).trans ?_
  rw [← Equiv.sum_comp (contrEquiv1 dot_S8192x4096_S4096x2048_S8192x2048_1_0_0_1_n_n 4096 rfl rfl).symm]
  refine Finset.sum_congr rfl fun k _ => ?_
  have hk := contrEquiv1_symm_val dot_S8192x4096_S4096x2048_S8192x2048_1_0_0_1_n_n 4096 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

end

/-! ## The launch -/

section
open Cert.Kernel12Ideal Cert.Kernel12Ideal.Gen

variable (m : (ℓ : Loc nD τ sig) → Buf (Elt Ideal) ℓ) (c : Dev nD)

/-- The arguments. -/
abbrev argA : FVec Ideal S8192x4096 .bf16 := m ((c : Thread nD τ).loc main_arg1)
abbrev argB : FVec Ideal S4096x2048 .bf16 := m ((c : Thread nD τ).loc main_arg2)
abbrev argR : FVec Ideal S8192x2048 .f32 := m ((c : Thread nD τ).loc main_arg0)

/-- The two factors, by row and column. -/
def facA (i : Fin 8192) (k : Fin 4096) : EReal := argA m c (ix2 i k)
def facB (k : Fin 4096) (j : Fin 2048) : EReal := argB m c (ix2 k j)

/-- The whole product, added to the given rows. -/
def result : FVec Ideal S8192x2048 .f32 := fun i => argR m c i + ∑ k : Fin 4096, facA m c (i 0) k * facB m c k (i 1)

theorem N_eq : cfg0.N = 64 := by decide +kernel
theorem index_0 : ∀ t : Fin grid0.N, win0_0.index t 0 = t.val / 8 ∧ win0_0.index t 1 = t.val % 4 := by decide +kernel
theorem index_1 : ∀ t : Fin grid0.N, win0_1.index t 0 = t.val % 4 ∧ win0_1.index t 1 = 0 ∧ win0_1.index t 2 = t.val / 4 % 2 := by decide +kernel
theorem index_2 : ∀ t : Fin grid0.N, win0_2.index t 0 = t.val / 8 ∧ win0_2.index t 1 = t.val / 4 % 2 := by decide +kernel
theorem index_3 : ∀ t : Fin grid0.N, win0_3.index t 0 = t.val / 8 ∧ win0_3.index t 1 = t.val / 4 % 2 := by decide +kernel

/-- One block's product. -/
theorem block_dot (x : FVec Ideal S1024x1024 .bf16) (y : FVec Ideal S1024x1024 .bf16) (r : Fin 1024) (s : Fin 1024) :
    FloatOps.matmul dot_S1024x1024_S1024x1024_S1024x1024_1_0_0_1_n_n none x y (constant S1024x1024 .f32 0x00000000#32) (ix2 r s)
      = ∑ l : Fin 1024, x (ix2 r l) * y (ix2 l s) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

/-- The weight's block without its leading axis of one. -/
theorem cast_block (y : FVec Ideal S1x1024x1024 .bf16) (p : Fin 1024) (q : Fin 1024) :
    shapeCast S1024x1024 y shapeCasts_S1x1024x1024_S1024x1024 (ix2 p q) = y (ix3 0 p q) :=
  shapeCast_apply _ _ _ (ix3 0 p q) (by
    rw [Shape.rowMajor_val_two, Shape.rowMajor_val_three]
    show (0 * 1024 + p.val) * 1024 + q.val = p.val * 1024 + q.val
    omega)

theorem pay1 (x : FVec Ideal S1024x1024 .bf16) (y : FVec Ideal S1x1024x1024 .bf16) (z : FVec Ideal S1024x1024 .f32) (r : Fin 1024) (s : Fin 1024) :
    k0_pay1 (F := Ideal) x y z (ix2 r s) = (0 : EReal) + (∑ l : Fin 1024, x (ix2 r l) * y (ix3 0 l s) + z (ix2 r s)) := by
  rw [zero_add]
  refine congrArg (· + z (ix2 r s)) ((block_dot x _ r s).trans ?_)
  simp only [cast_block]

theorem pay2 (v : FVec Ideal S1024x1024 .f32) (x : FVec Ideal S1024x1024 .bf16) (y : FVec Ideal S1x1024x1024 .bf16) (r : Fin 1024) (s : Fin 1024) :
    k0_pay2 (F := Ideal) v x y (ix2 r s) = v (ix2 r s) + ∑ l : Fin 1024, x (ix2 r l) * y (ix3 0 l s) := by
  unfold k0_pay2
  rw [shapeCast_self]
  refine congrArg (v (ix2 r s) + ·) ((block_dot x _ r s).trans ?_)
  simp only [cast_block]

/-- The blocks a point reads. -/
abbrev aB (t : Fin cfg0.N) : FVec Ideal S1024x1024 .bf16 := iblk m c 0 t
abbrev bB (t : Fin cfg0.N) : FVec Ideal S1x1024x1024 .bf16 := iblk m c 1 t
abbrev rB (t : Fin cfg0.N) : FVec Ideal S1024x1024 .f32 := iblk m c 2 t

theorem aB_read (t : Fin cfg0.N) (r : Fin 1024) (l : Fin 1024) : aB m c t (ix2 r l) = (V m c main_arg1 : FVec Ideal S8192x4096 .bf16) (ix2 ⟨t.val / 8 * 1024 + r.val, by have := t.isLt; have := N_eq; omega⟩ ⟨t.val % 4 * 1024 + l.val, by have := t.isLt; have := N_eq; omega⟩) := by
  unfold aB iblk
  rw [View.read_apply]
  show V m c main_arg1 _ = V m c main_arg1 _
  refine congrArg _ (funext fun a => Fin.ext ?_)
  match a with
  | ⟨0, _⟩ => show win0_0.index t 0 * 1024 + 1 * r.val = t.val / 8 * 1024 + r.val; rw [(index_0 t).1]; omega
  | ⟨1, _⟩ => show win0_0.index t 1 * 1024 + 1 * l.val = t.val % 4 * 1024 + l.val; rw [(index_0 t).2]; omega

theorem aB_apply (t : Fin cfg0.N) (r : Fin 1024) (l : Fin 1024) : aB m c t (ix2 r l) = facA m c ⟨t.val / 8 * 1024 + r.val, by have := t.isLt; have := N_eq; omega⟩ ⟨t.val % 4 * 1024 + l.val, by have := t.isLt; have := N_eq; omega⟩ :=
  (aB_read m c t r l).trans ((congrFun (V_main_arg1 m c) _).trans rfl)

/-- The weight's blocks of rows. -/
theorem lay_B (b : Fin 4) (r : Fin 1024) (q : Fin 2048) :
    (V m c main_v0 : FVec Ideal S4x1024x2048 .bf16) (ix3 b r q) = argB m c (ix2 ⟨b.val * 1024 + r.val, by omega⟩ q) := by
  unfold V
  after_reads_simp
  exact shapeCast_apply _ shapeCasts_S4096x2048_S4x1024x2048 (ix3 b r q) (ix2 ⟨b.val * 1024 + r.val, by omega⟩ q) (by
    rw [Shape.rowMajor_val_two, Shape.rowMajor_val_three]
    show (b.val * 1024 + r.val) * 2048 + q.val = (b.val * 1024 + r.val) * 2048 + q.val
    rfl)

theorem bB_read (t : Fin cfg0.N) (l : Fin 1024) (s : Fin 1024) : bB m c t (ix3 0 l s) = (V m c main_v0 : FVec Ideal S4x1024x2048 .bf16) (ix3 ⟨t.val % 4, by have := t.isLt; have := N_eq; omega⟩ l ⟨t.val / 4 % 2 * 1024 + s.val, by have := t.isLt; have := N_eq; omega⟩) := by
  unfold bB iblk
  rw [View.read_apply]
  show V m c main_v0 _ = V m c main_v0 _
  refine congrArg _ (funext fun a => Fin.ext ?_)
  match a with
  | ⟨0, _⟩ => show win0_1.index t 0 * 1 + 1 * 0 = t.val % 4; rw [(index_1 t).1]; omega
  | ⟨1, _⟩ => show win0_1.index t 1 * 1024 + 1 * l.val = l.val; rw [(index_1 t).2.1]; omega
  | ⟨2, _⟩ => show win0_1.index t 2 * 1024 + 1 * s.val = t.val / 4 % 2 * 1024 + s.val; rw [(index_1 t).2.2]; omega

theorem bB_apply (t : Fin cfg0.N) (l : Fin 1024) (s : Fin 1024) : bB m c t (ix3 0 l s) = facB m c ⟨t.val % 4 * 1024 + l.val, by have := t.isLt; have := N_eq; omega⟩ ⟨t.val / 4 % 2 * 1024 + s.val, by have := t.isLt; have := N_eq; omega⟩ := by
  have := t.isLt; have := N_eq
  refine (bB_read m c t l s).trans ((lay_B m c _ _ _).trans (congrArg (argB m c) (funext fun a => Fin.ext ?_)))
  match a with
  | ⟨0, _⟩ => show t.val % 4 * 1024 + l.val = t.val % 4 * 1024 + l.val; omega
  | ⟨1, _⟩ => show t.val / 4 % 2 * 1024 + s.val = t.val / 4 % 2 * 1024 + s.val; omega

theorem rB_read (t : Fin cfg0.N) (r : Fin 1024) (s : Fin 1024) : rB m c t (ix2 r s) = (V m c main_arg0 : FVec Ideal S8192x2048 .f32) (ix2 ⟨t.val / 8 * 1024 + r.val, by have := t.isLt; have := N_eq; omega⟩ ⟨t.val / 4 % 2 * 1024 + s.val, by have := t.isLt; have := N_eq; omega⟩) := by
  unfold rB iblk
  rw [View.read_apply]
  show V m c main_arg0 _ = V m c main_arg0 _
  refine congrArg _ (funext fun a => Fin.ext ?_)
  match a with
  | ⟨0, _⟩ => show win0_2.index t 0 * 1024 + 1 * r.val = t.val / 8 * 1024 + r.val; rw [(index_2 t).1]; omega
  | ⟨1, _⟩ => show win0_2.index t 1 * 1024 + 1 * s.val = t.val / 4 % 2 * 1024 + s.val; rw [(index_2 t).2]; omega

theorem rB_apply (t : Fin cfg0.N) (r : Fin 1024) (s : Fin 1024) : rB m c t (ix2 r s) = argR m c (ix2 ⟨t.val / 8 * 1024 + r.val, by have := t.isLt; have := N_eq; omega⟩ ⟨t.val / 4 % 2 * 1024 + s.val, by have := t.isLt; have := N_eq; omega⟩) :=
  (rB_read m c t r s).trans (congrFun (V_main_arg0 m c) _)

/-- What the last of a block's 4 points leaves: the first one adds the given rows. -/
theorem out_sum (t : Fin cfg0.N) (h : t.val % 4 = 3) (i : Fin 1024 × Fin 1024) :
    (outsAt0 m c t.val t.isLt : FVec Ideal S1024x1024 .f32) (ix2 i.1 i.2)
      = argR m c (ix2 ⟨t.val / 8 * 1024 + i.1.val, by have := t.isLt; have := N_eq; omega⟩ ⟨t.val / 4 % 2 * 1024 + i.2.val, by omega⟩)
        + ∑ s : Fin 4, ∑ l : Fin 1024, aB m c ⟨4 * (t.val / 4) + s.val, by have := t.isLt; have := N_eq; omega⟩ (ix2 i.1 l) * bB m c ⟨4 * (t.val / 4) + s.val, by have := t.isLt; have := N_eq; omega⟩ (ix3 0 l i.2) := by
  rw [Pipeline.eq_sum_fin_of_reset_step_apply_of_flush (fun n h (i : Fin 1024 × Fin 1024) => (outsAt0 m c n h : FVec Ideal S1024x1024 .f32) (ix2 i.1 i.2)) 4
    (fun _ => (0 : EReal)) (fun t i => (∑ l : Fin 1024, aB m c t (ix2 i.1 l) * bB m c t (ix3 0 l i.2)) + (if t.val % 4 = 0 then rB m c t (ix2 i.1 i.2) else 0))
    (fun t h i => by rw [outsAt0_A m c t h (by omega), if_pos h]; frame_out; exact pay1 _ _ _ _ _)
    (fun t h i => by rw [outsAt0_B m c t h (by omega), if_neg h, add_zero]; frame_out; exact pay2 _ _ _ _ _) t h i]
  rw [zero_add, Finset.sum_add_distrib, add_comm]
  refine congrArg (· + _) ?_
  rw [Finset.sum_eq_single (0 : Fin 4)]
  · rw [if_pos (by show (4 * (t.val / 4) + 0) % 4 = 0; omega), rB_apply]
    refine congrArg (argR m c) (funext fun a => Fin.ext ?_)
    match a with
    | ⟨0, _⟩ => show (4 * (t.val / 4) + 0) / 8 * 1024 + i.1.val = t.val / 8 * 1024 + i.1.val; omega
    | ⟨1, _⟩ => show (4 * (t.val / 4) + 0) / 4 % 2 * 1024 + i.2.val = t.val / 4 % 2 * 1024 + i.2.val; omega
  · intro s _ hs
    have : s.val ≠ 0 := fun e => hs (Fin.ext e)
    exact if_neg (by show ¬(4 * (t.val / 4) + s.val) % 4 = 0; omega)
  · exact fun hn => absurd (Finset.mem_univ _) hn

theorem emb_out (t : Fin cfg0.N) (y : ((cfg0.win 3).xblock (cfg0.grid.coords t)).Idx) :
    (((cfg0.win 3).blk t).view.emb y : S8192x2048.Idx)
      = ix2 (n0 := 8192) (n1 := 2048) ⟨t.val / 8 * 1024 + (y 0).val, by have := t.isLt; have := N_eq; have : (y 0).val < 1024 := (y 0).isLt; have : (y 1).val < 1024 := (y 1).isLt; omega⟩ ⟨t.val / 4 % 2 * 1024 + (y 1).val, by have := t.isLt; have := N_eq; have : (y 0).val < 1024 := (y 0).isLt; have : (y 1).val < 1024 := (y 1).isLt; omega⟩ := by
  funext a; apply Fin.ext
  match a with
  | ⟨0, _⟩ => show win0_3.index t 0 * 1024 + 1 * (y 0).val = t.val / 8 * 1024 + (y 0).val; rw [(index_3 t).1]; omega
  | ⟨1, _⟩ => show win0_3.index t 1 * 1024 + 1 * (y 1).val = t.val / 4 % 2 * 1024 + (y 1).val; rw [(index_3 t).2]; omega

/-- The launch's result is the whole product. -/
theorem final : (dats m 0 c).arrAt 3 cfg0.N = result m c := by
  refine (dats m 0 c).arrAt_eq_of_covers 3 _ (by decide +kernel) fun t hf y => ?_
  have := t.isLt; have := N_eq
  have : (y 0).val < 1024 := (y 0).isLt
  have : (y 1).val < 1024 := (y 1).isLt
  have hm : t.val % 4 = 3 := (flush0_3 t).mp hf
  refine (cast_eq _ _).trans ((congrFun (after0_3 m c t) _).trans ((congrArg (outsAt0 m c t.val t.isLt : FVec Ideal S1024x1024 .f32) (eq_ix2 _)).trans
    ((out_sum m c t hm ((⟨(y 0).val, (y 0).isLt⟩ : Fin 1024), (⟨(y 1).val, (y 1).isLt⟩ : Fin 1024))).trans ?_)))
  refine Eq.trans ?_ (congrArg (result m c) (emb_out t y)).symm
  refine congrArg (_ + ·) ?_
  refine Eq.trans ?_ (sum_blocks 4 1024 rfl _).symm
  refine Finset.sum_congr rfl fun s _ => Finset.sum_congr rfl fun l _ => ?_
  rw [aB_apply, bB_apply]
  refine congrArg₂ (· * ·) (congrArg₂ (facA m c) (Fin.ext ?_) (Fin.ext ?_)) (congrArg₂ (facB m c) (Fin.ext ?_) (Fin.ext ?_))
  · show (4 * (t.val / 4) + s.val) / 8 * 1024 + (y 0).val = t.val / 8 * 1024 + (y 0).val; omega
  · show (4 * (t.val / 4) + s.val) % 4 * 1024 + l.val = s.val * 1024 + l.val; omega
  · show (4 * (t.val / 4) + s.val) % 4 * 1024 + l.val = s.val * 1024 + l.val; omega
  · show (4 * (t.val / 4) + s.val) / 4 % 2 * 1024 + (y 1).val = t.val / 4 % 2 * 1024 + (y 1).val; omega

end

/-! ## Equal -/

/-- The launch's result is the reference's. -/
theorem algebraic : Cert.algebraic_Kernel12Ideal_Reference12Ideal := fun m g m' g' _ hargs => by
  refine ⟨fun c => result m c, ?_, ?_⟩
  · refine (θ_run _ _ _).mono (fun r h c => ?_) (Cert.Kernel12Ideal.Value.run_blocks (F := Ideal) m g)
    exact ⟨(h c).1.trans (final m c), (h c).2⟩
  · refine (θ_run _ _ _).mono (fun r h c => ?_) (Cert.Reference12Ideal.Value.run (F := Ideal) m' g')
    obtain ⟨a0, a1, a2⟩ := hargs c
    refine ⟨(h c).1.trans ?_, (h c).2⟩
    rw [a0, a1, a2]
    funext i
    rw [eq_ix2 i]
    exact congrArg (argR m c (ix2 (i 0) (i 1)) + ·) (ref_at _ _ (i 0) (i 1))

end Cert.Proof.GmlpOut

end
-- ==== Proof.AttnIn.lean ====
/-
  The attention's input projection: the call `b1_in`. Each of its blocks is one product; the
  result is the whole product, and so is the reference's.
-/
module

public import proofs.«01_k».proof.Defs
public import proofs.«01_k».proof.Proof.Gen.Kernel11Ideal.Frame
public import proofs.«01_k».proof.Proof.Gen.Reference11Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.AttnIn

open Idealize.ShloMosaic hiding ix0 ix2 ix3 eq_ix2 eq_ix3
open Idealize.ShloMosaic.ValueIdx Idealize.ShloMosaic.TcCoe Idealize.SL.Sem
open scoped BigOperators

/-! ## The reference -/

section
open Cert.Reference11Ideal Cert.Reference11Ideal.Gen

/-- The reference's product. -/
theorem ref_at (x : FVec Ideal S8192x2048 .f32) (y : FVec Ideal S2048x8192 .f32) (i : Fin 8192) (j : Fin 8192) :
    Host.dotGeneral dot_S8192x2048_S2048x8192_S8192x8192_1_0_0_1_n_n none x y (ix2 i j)
      = ∑ k : Fin 2048, x (ix2 i k) * y (ix2 k j) := by
  refine (Ideal.dotGeneral_apply _ none _ x y (ix2 i j)).trans ?_
  rw [← Equiv.sum_comp (contrEquiv1 dot_S8192x2048_S2048x8192_S8192x8192_1_0_0_1_n_n 2048 rfl rfl).symm]
  refine Finset.sum_congr rfl fun k _ => ?_
  have hk := contrEquiv1_symm_val dot_S8192x2048_S2048x8192_S8192x8192_1_0_0_1_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

end

/-! ## The launch -/

section
open Cert.Kernel11Ideal Cert.Kernel11Ideal.Gen

variable (m : (ℓ : Loc nD τ sig) → Buf (Elt Ideal) ℓ) (c : Dev nD)

/-- The arguments. -/
abbrev argA : FVec Ideal S8192x2048 .bf16 := m ((c : Thread nD τ).loc main_arg0)
abbrev argB : FVec Ideal S2048x8192 .bf16 := m ((c : Thread nD τ).loc main_arg1)

/-- The two factors, by row and column. -/
def facA (i : Fin 8192) (k : Fin 2048) : EReal := argA m c (ix2 i k)
def facB (k : Fin 2048) (j : Fin 8192) : EReal := argB m c (ix2 k j)

/-- The whole product. -/
def result : FVec Ideal S8192x8192 .f32 := fun i => ∑ k : Fin 2048, facA m c (i 0) k * facB m c k (i 1)

theorem N_eq : cfg0.N = 64 := by decide +kernel
theorem index_0 : ∀ t : Fin grid0.N, win0_0.index t 0 = t.val / 8 ∧ win0_0.index t 1 = 0 := by decide +kernel
theorem index_1 : ∀ t : Fin grid0.N, win0_1.index t 0 = 0 ∧ win0_1.index t 1 = t.val % 8 := by decide +kernel
theorem index_2 : ∀ t : Fin grid0.N, win0_2.index t 0 = t.val / 8 ∧ win0_2.index t 1 = t.val % 8 := by decide +kernel

/-- One block's product. -/
theorem block_dot (x : FVec Ideal S1024x2048 .bf16) (y : FVec Ideal S2048x1024 .bf16) (r : Fin 1024) (s : Fin 1024) :
    FloatOps.matmul dot_S1024x2048_S2048x1024_S1024x1024_1_0_0_1_n_n none x y (constant S1024x1024 .f32 0x00000000#32) (ix2 r s)
      = ∑ l : Fin 2048, x (ix2 r l) * y (ix2 l s) := by
  rw [Ideal.matmul_constant_zero_apply, ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

theorem pay1 (x : FVec Ideal S1024x2048 .bf16) (y : FVec Ideal S2048x1024 .bf16) (r : Fin 1024) (s : Fin 1024) :
    k0_pay1 (F := Ideal) x y (ix2 r s) = ∑ l : Fin 2048, x (ix2 r l) * y (ix2 l s) := by
  refine (block_dot x _ r s).trans ?_
  rfl

/-- The blocks a point reads. -/
abbrev aB (t : Fin cfg0.N) : FVec Ideal S1024x2048 .bf16 := iblk m c 0 t
abbrev bB (t : Fin cfg0.N) : FVec Ideal S2048x1024 .bf16 := iblk m c 1 t

theorem aB_read (t : Fin cfg0.N) (r : Fin 1024) (l : Fin 2048) : aB m c t (ix2 r l) = (V m c main_arg0 : FVec Ideal S8192x2048 .bf16) (ix2 ⟨t.val / 8 * 1024 + r.val, by have := t.isLt; have := N_eq; omega⟩ l) := by
  unfold aB iblk
  rw [View.read_apply]
  show V m c main_arg0 _ = V m c main_arg0 _
  refine congrArg _ (funext fun a => Fin.ext ?_)
  match a with
  | ⟨0, _⟩ => show win0_0.index t 0 * 1024 + 1 * r.val = t.val / 8 * 1024 + r.val; rw [(index_0 t).1]; omega
  | ⟨1, _⟩ => show win0_0.index t 1 * 2048 + 1 * l.val = l.val; rw [(index_0 t).2]; omega

theorem aB_apply (t : Fin cfg0.N) (r : Fin 1024) (l : Fin 2048) : aB m c t (ix2 r l) = facA m c ⟨t.val / 8 * 1024 + r.val, by have := t.isLt; have := N_eq; omega⟩ ⟨l.val, by have := t.isLt; have := N_eq; omega⟩ :=
  (aB_read m c t r l).trans ((congrFun (V_main_arg0 m c) _).trans rfl)

theorem bB_read (t : Fin cfg0.N) (l : Fin 2048) (s : Fin 1024) : bB m c t (ix2 l s) = (V m c main_arg1 : FVec Ideal S2048x8192 .bf16) (ix2 l ⟨t.val % 8 * 1024 + s.val, by have := t.isLt; have := N_eq; omega⟩) := by
  unfold bB iblk
  rw [View.read_apply]
  show V m c main_arg1 _ = V m c main_arg1 _
  refine congrArg _ (funext fun a => Fin.ext ?_)
  match a with
  | ⟨0, _⟩ => show win0_1.index t 0 * 2048 + 1 * l.val = l.val; rw [(index_1 t).1]; omega
  | ⟨1, _⟩ => show win0_1.index t 1 * 1024 + 1 * s.val = t.val % 8 * 1024 + s.val; rw [(index_1 t).2]; omega

theorem bB_apply (t : Fin cfg0.N) (l : Fin 2048) (s : Fin 1024) : bB m c t (ix2 l s) = facB m c ⟨l.val, by have := t.isLt; have := N_eq; omega⟩ ⟨t.val % 8 * 1024 + s.val, by have := t.isLt; have := N_eq; omega⟩ :=
  (bB_read m c t l s).trans ((congrFun (V_main_arg1 m c) _).trans rfl)

theorem emb_out (t : Fin cfg0.N) (y : ((cfg0.win 2).xblock (cfg0.grid.coords t)).Idx) :
    (((cfg0.win 2).blk t).view.emb y : S8192x8192.Idx)
      = ix2 (n0 := 8192) (n1 := 8192) ⟨t.val / 8 * 1024 + (y 0).val, by have := t.isLt; have := N_eq; have : (y 0).val < 1024 := (y 0).isLt; have : (y 1).val < 1024 := (y 1).isLt; omega⟩ ⟨t.val % 8 * 1024 + (y 1).val, by have := t.isLt; have := N_eq; have : (y 0).val < 1024 := (y 0).isLt; have : (y 1).val < 1024 := (y 1).isLt; omega⟩ := by
  funext a; apply Fin.ext
  match a with
  | ⟨0, _⟩ => show win0_2.index t 0 * 1024 + 1 * (y 0).val = t.val / 8 * 1024 + (y 0).val; rw [(index_2 t).1]; omega
  | ⟨1, _⟩ => show win0_2.index t 1 * 1024 + 1 * (y 1).val = t.val % 8 * 1024 + (y 1).val; rw [(index_2 t).2]; omega

/-- The whole product, at the width the launch writes. -/
def landing : FVec Ideal S8192x8192 .bf16 := result m c

/-- The launch's result is the whole product. -/
theorem final : (dats m 0 c).arrAt 2 cfg0.N = landing m c := by
  refine (dats m 0 c).arrAt_eq_of_covers 2 _ (by decide +kernel) fun t hf y => ?_
  have := t.isLt; have := N_eq
  have : (y 0).val < 1024 := (y 0).isLt
  have : (y 1).val < 1024 := (y 1).isLt
  refine (cast_eq _ _).trans ((congrFun (after0_2 m c t) _).trans ?_)
  refine Eq.trans ?_ (congrArg (landing m c) (emb_out t y)).symm
  refine Eq.trans (b := ∑ l : Fin 2048, aB m c t (ix2 (⟨(y 0).val, (y 0).isLt⟩ : Fin 1024) l) * bB m c t (ix2 l (⟨(y 1).val, (y 1).isLt⟩ : Fin 1024))) ?_
    (Finset.sum_congr rfl fun l _ => congrArg₂ (fun a b : EReal => a * b) (aB_apply m c t (⟨(y 0).val, (y 0).isLt⟩ : Fin 1024) l) (bB_apply m c t l (⟨(y 1).val, (y 1).isLt⟩ : Fin 1024)))
  refine (congrArg (out0_2 (iblk m c 0 t) (iblk m c 1 t) : FVec Ideal S1024x1024 .bf16) (eq_ix2 _)).trans ?_
  frame_out
  exact pay1 _ _ _ _

/-! ## The host lines after it -/

abbrev tail (U : Valuation τ sig (Elt Ideal)) : Valuation τ sig (Elt Ideal) := StableHlo.after (hostOps1 (F := Ideal)) U

/-- The buffers as the launch leaves them. -/
abbrev landed : Valuation τ sig (Elt Ideal) := Pipeline.withArrays spec0 c (V0 m c) fun w => (dats m 0 c).arrAt w cfg0.N

theorem tail_landed (b : Ref sig .tc) : Pipeline.afterTail₀ cfgs (dats m) 0 (V0 m) [hostOps1] c b = tail (landed m c) (Proc.devRef .tc b) := by
  unfold Pipeline.afterTail₀
  rw [List.flatten_singleton]

theorem arr_inj : Function.Injective (Pipeline.arrRef spec0) := by decide

theorem landed_out : landed m c (Proc.devRef .tc main_v0) = landing m c :=
  (Pipeline.withArrays_arr spec0 arr_inj c (V0 m c) _ 2).trans (final m c)

theorem tail_out (U : Valuation τ sig (Elt Ideal)) (X : FVec Ideal S8192x8192 .bf16) (hU : U (Proc.devRef .tc main_v0) = X) :
    (tail U (Proc.devRef .tc main_v1) : FVec Ideal S8192x8192 .f32) = extf .f32 X bitsLt_bf16_f32 := by
  unfold tail
  after_reads_simp
  rw [hU]

theorem host_result : tail (landed m c) (Proc.devRef .tc main_v1) = result m c :=
  (tail_out (landed m c) _ (landed_out m c)).trans rfl

end

/-! ## Equal -/

/-- The launch's result is the reference's. -/
theorem algebraic : Cert.algebraic_Kernel11Ideal_Reference11Ideal := fun m g m' g' _ hargs => by
  refine ⟨fun c => result m c, ?_, ?_⟩
  · refine (θ_run _ _ _).mono (fun r h c => ?_) (θ_run_and (Cert.Kernel11Ideal.Gen.run_main (F := Ideal) m g) (Cert.Kernel11Ideal.Gen.unchanged (F := Ideal) m g))
    exact ⟨((h.1 c).2 Cert.Kernel11Ideal.main_v1 (Pipeline.mem_restRefs_of Cert.Kernel11Ideal.main_v1 (by decide) (by decide))).trans
      ((tail_landed m c _).trans (host_result m c)), h.2 c⟩
  · refine (θ_run _ _ _).mono (fun r h c => ?_) (Cert.Reference11Ideal.Value.run (F := Ideal) m' g')
    obtain ⟨a0, a1⟩ := hargs c
    refine ⟨(h c).1.trans ?_, (h c).2⟩
    rw [a0, a1]
    funext i
    rw [eq_ix2 i]
    exact ref_at _ _ (i 0) (i 1)

end Cert.Proof.AttnIn

end
-- ==== Proof.GatedBody.lean ====
/-
  The forward attention's body at one grid point, as a function of its blocks. A point computes two heads, each from its own
  256 columns of the blocks. `carry` is one head's state before a trip of the loop over the key tiles: the running maximum and
  the running weighted sum of the value rows, for each of the point's 512 queries; `done` is the state after the last tile,
  the one in which keys are masked.
-/
module

public import proofs.«01_k».proof.Proof.Gen.Kernel18Ideal.Frame
public import Idealize.ShloMosaic.Lib.Tactic
public import Idealize.ShloMosaic.Lib.VecWindow
public import Idealize.ShloMosaic.Lib.ValueIdx
public import Idealize.ShloMosaic.Lib.Pipeline.ValueKit

@[expose] public section

set_option maxRecDepth 16384

noncomputable section

namespace Cert.Proof.Gated

open Cert.Kernel18Ideal Cert.Kernel18Ideal.Gen
open Idealize.ShloMosaic Idealize.ShloMosaic.TcCoe

variable {F : FTy → Type} [FloatOps F]

theorem off1_eq : ∀ (i : grid0.Coords) (k : Fin (k0_t1_loop i).trips), k0_off1 i k = ![k.val * 1024, 0] := by decide +kernel
theorem off2_eq : ∀ (i : grid0.Coords) (k : Fin (k0_t1_loop i).trips), k0_off2 i k = ![k.val * 1024, 256] := by decide +kernel
theorem off5_eq : ∀ i : grid0.Coords, k0_off5 i = ![(i 1).val / 2 * 1024, 0] := by decide +kernel
theorem off6_eq : ∀ i : grid0.Coords, k0_off6 i = ![(i 1).val / 2 * 1024, 256] := by decide +kernel
theorem trips1_eq : ∀ i : grid0.Coords, (k0_t1_loop i).trips = (i 1).val / 2 := by decide +kernel
theorem trips2_eq : ∀ i : grid0.Coords, (k0_t2_loop i).trips = 0 := by decide +kernel

/-- The number of the masked key tile, as the kernel computes it. -/
abbrev lastWord (i : grid0.Coords) : BitVec 32 :=
  let v2 : BitVec 32 := Scalar.muli (BitVec.ofNat 32 (i 1).val) 512#32
  Scalar.select (Scalar.andi (Scalar.cmpi .ne (Scalar.subi (Scalar.extui (Scalar.cmpi .sgt v2 0#32) : BitVec 32) (Scalar.extui (Scalar.cmpi .slt v2 0#32)))
      (Scalar.subi (Scalar.extui (Scalar.cmpi .sgt 1024#32 0#32)) (Scalar.extui (Scalar.cmpi .slt 1024#32 0#32)))) (Scalar.cmpi .ne (Scalar.remsi v2 1024#32) 0#32))
    (Scalar.subi (Scalar.divsi v2 1024#32) 1#32) (Scalar.divsi v2 1024#32)

theorem lastWord_eq : ∀ i : grid0.Coords, lastWord i = BitVec.ofNat 32 ((i 1).val / 2) := by decide +kernel

/-- One head's state: the running maxima and the running sums. -/
abbrev St (F : FTy → Type) := FVec F S512x1 .f32 × FVec F S512x256 .f32

/-- A tile none of whose keys is masked. -/
abbrev whole (q : Vec F S512x256 .bf16) (k v : Vec F S1024x256 .bf16) (s : St F) : St F := (k0_pay4 s.1 q k, k0_pay5 s.1 s.2 q k v)

/-- The masked tile. -/
abbrev masked (i : grid0.Coords) (q : Vec F S512x256 .bf16) (k v : Vec F S1024x256 .bf16) (s : St F) : St F :=
  (k0_pay26 (lastWord i) s.1 (k0_pay23 q k) (iota .tc S512x1024 32 [0] iota_S512x1024_d0_w32) (k0_pay24 i),
   k0_pay27 (lastWord i) s.1 s.2 (k0_pay23 q k) (iota .tc S512x1024 32 [0] iota_S512x1024_d0_w32) (k0_pay24 i) v)

/-- The state before trip `n`, from the head's columns of the queries and its tiles of keys and values by number. -/
def carry (q : Vec F S512x256 .bf16) (k v : ℕ → Vec F S1024x256 .bf16) : ℕ → St F
  | 0 => (k0_pay19, k0_pay20)
  | n + 1 => whole q (k n) (v n) (carry q k v n)

/-- The head's 256 columns of the point's queries. -/
def qHead (h : Fin 2) (x : Vec F S512x512 .bf16) : Vec F S512x256 .bf16 :=
  fun y => x (ValueIdx.ix2 (n0 := 512) (n1 := 512) (y 0) ⟨h.val * 256 + (y 1).val, by have : (y 1).val < 256 := (y 1).isLt; omega⟩)

/-- The head's 256 columns of the 1024 rows from `1024 n` on. -/
def tileOf (h : Fin 2) (x : Vec F S8192x512 .bf16) (n : ℕ) : Vec F S1024x256 .bf16 :=
  fun y => x (ValueIdx.ix2 (n0 := 8192) (n1 := 512) ⟨(n * 1024 + (y 0).val) % 8192, Nat.mod_lt _ (by decide)⟩
    ⟨h.val * 256 + (y 1).val, by have : (y 1).val < 256 := (y 1).isLt; omega⟩)

theorem window_qHead (h : Fin 2) (x : Vec F S512x512 .bf16) (off : Fin 2 → ℕ) (inb) (ho : off = ![0, h.val * 256]) :
    VecWindow.window (s := S512x512) x off S512x256.size inb = qHead h x := by
  subst ho
  funext y
  refine congrArg x (funext fun a => Fin.ext ?_)
  match a with
  | ⟨0, _⟩ => show 0 + 1 * (y 0).val = (y 0).val; omega
  | ⟨1, _⟩ => show h.val * 256 + 1 * (y 1).val = h.val * 256 + (y 1).val; omega

theorem window_tileOf (h : Fin 2) (x : Vec F S8192x512 .bf16) (n : ℕ) (off : Fin 2 → ℕ) (inb) (ho : off = ![n * 1024, h.val * 256]) :
    VecWindow.window (s := S8192x512) x off S1024x256.size inb = tileOf h x n := by
  subst ho
  have hb : n * 1024 + 1024 ≤ 8192 := inb 0
  funext y
  have hy : (y 0).val < 1024 := (y 0).isLt
  refine congrArg x (funext fun a => Fin.ext ?_)
  match a with
  | ⟨0, _⟩ => show n * 1024 + 1 * (y 0).val = (n * 1024 + (y 0).val) % 8192; omega
  | ⟨1, _⟩ => show h.val * 256 + 1 * (y 1).val = h.val * 256 + (y 1).val; omega

/-- The two heads' states, as the loop carries them. -/
abbrev both (a b : St F) : FVec F S512x1 .f32 × FVec F S512x256 .f32 × FVec F S512x1 .f32 × FVec F S512x256 .f32 := (a.1, a.2, b.1, b.2)

/-- The head's 128 columns of the point's gate. -/
def zHead (h : Fin 2) (x : Vec F S512x256 .bf16) : Vec F S512x128 .bf16 :=
  fun y => x (ValueIdx.ix2 (n0 := 512) (n1 := 256) (y 0) ⟨h.val * 128 + (y 1).val, by have : (y 1).val < 128 := (y 1).isLt; omega⟩)

/-- A head's state once every tile is met, from the point's blocks. -/
def done (i : grid0.Coords) (h : Fin 2) (x0 : Vec F S512x512 .bf16) (x1 x2 : Vec F S8192x512 .bf16) : St F :=
  masked i (qHead h x0) (tileOf h x1 ((i 1).val / 2)) (tileOf h x2 ((i 1).val / 2))
    (carry (qHead h x0) (tileOf h x1) (tileOf h x2) ((i 1).val / 2))

variable (c : Dev nD) (i : grid0.Coords)
  (M2 : Memref sig .tc .vmem S512x512 .bf16) (h2 : M2.IsWhole) (M3 : Memref sig .tc .vmem S8192x512 .bf16) (h3 : M3.IsWhole)
  (M4 : Memref sig .tc .vmem S8192x512 .bf16) (h4 : M4.IsWhole) (M5 : Memref sig .tc .vmem S512x256 .bf16) (h5 : M5.IsWhole)
  (M6 : Memref sig .tc .vmem S512x256 .f32) (h6 : M6.IsWhole) (M7 : Memref sig .tc .vmem S512x256 .bf16) (h7 : M7.IsWhole)
  (M8 : Memref sig .tc .vmem S2x512x1 .f32) (h8 : M8.IsWhole)

section Trip
variable (X2 : M2.view.ty.Contents (Elt F)) (X3 : M3.view.ty.Contents (Elt F)) (X4 : M4.view.ty.Contents (Elt F))
  (k : Fin (k0_t1_loop i).trips) (acc : FVec F S512x1 .f32 × FVec F S512x256 .f32 × FVec F S512x1 .f32 × FVec F S512x256 .f32)

/-- A trip is a whole tile for either head. -/
theorem tripR_eq : tripR_k0_t1 (F := F) Variants.none c none i M2 h2 M3 h3 M4 h4 M5 h5 M6 h6 M7 h7 M8 h8 X2 X3 X4 k acc
    = both (whole (VecWindow.window (M2.view.read (Elt F) X2) ![0, 0] S512x256.size inb_S512x512_S512x256_0_0)
        (VecWindow.window (M3.view.read (Elt F) X3) (k0_off1 i k) S1024x256.size (k0_off1_inb i k))
        (VecWindow.window (M4.view.read (Elt F) X4) (k0_off1 i k) S1024x256.size (k0_off1_inb i k)) (acc.1, acc.2.1))
      (whole (VecWindow.window (M2.view.read (Elt F) X2) ![0, 256] S512x256.size inb_S512x512_S512x256_0_256)
        (VecWindow.window (M3.view.read (Elt F) X3) (k0_off2 i k) S1024x256.size (k0_off2_inb i k))
        (VecWindow.window (M4.view.read (Elt F) X4) (k0_off2 i k) S1024x256.size (k0_off2_inb i k)) (acc.2.2.1, acc.2.2.2)) := by
  unfold tripR_k0_t1 trip_k0_t1
  rfl

/-- The loop's carried values are the two heads' states. -/
theorem st_eq (n : ℕ) (hn : n ≤ (k0_t1_loop i).trips) :
    st_k0_t1 (F := F) Variants.none c none i M2 h2 M3 h3 M4 h4 M5 h5 M6 h6 M7 h7 M8 h8 X2 X3 X4 (k0_pay19, k0_pay20, k0_pay19, k0_pay20) n
    = both (carry (qHead 0 (M2.view.read (Elt F) X2)) (tileOf 0 (M3.view.read (Elt F) X3)) (tileOf 0 (M4.view.read (Elt F) X4)) n)
        (carry (qHead 1 (M2.view.read (Elt F) X2)) (tileOf 1 (M3.view.read (Elt F) X3)) (tileOf 1 (M4.view.read (Elt F) X4)) n) := by
  induction n with
  | zero => rfl
  | succ n ih =>
    have hs := st_k0_t1_succ (F := F) Variants.none c none i M2 h2 M3 h3 M4 h4 M5 h5 M6 h6 M7 h7 M8 h8 X2 X3 X4 (k0_pay19, k0_pay20, k0_pay19, k0_pay20) ⟨n, hn⟩
    rw [tripR_eq, window_qHead 0 _ ![0, 0] inb_S512x512_S512x256_0_0 rfl, window_qHead 1 _ ![0, 256] inb_S512x512_S512x256_0_256 rfl, window_tileOf 0 _ n _ _ (off1_eq i ⟨n, hn⟩), window_tileOf 0 _ n _ _ (off1_eq i ⟨n, hn⟩),
      window_tileOf 1 _ n _ _ (off2_eq i ⟨n, hn⟩), window_tileOf 1 _ n _ _ (off2_eq i ⟨n, hn⟩)] at hs
    refine hs.trans ?_
    rw [ih (by omega)]
    rfl
end Trip

/-! ## What the body leaves -/

section Out
variable (x0 : Vec F S512x512 .bf16) (x1 x2 : Vec F S8192x512 .bf16) (x3 : Vec F S512x256 .bf16)

/-- A window of the queries as the body loads it. -/
theorem load_q (h : Fin 2) (off : Fin 2 → ℕ) (inb) (ho : off = ![0, h.val * 256]) :
    M2.view.readAt (Elt F) (Rect.unit (s := S512x512) off ![512, 256] inb).toLoadRect (h2.unread x0) = qHead h x0 := by
  rw [View.readAt_unit M2.view _ inb rfl inb, Memref.IsWhole.read_unread]
  exact window_qHead h x0 off inb ho

/-- A tile of the keys or the values as the body loads it. -/
theorem load_t (M : Memref sig .tc .vmem S8192x512 .bf16) (hM : M.IsWhole) (x : Vec F S8192x512 .bf16) (h : Fin 2) (n : ℕ) (off : Fin 2 → ℕ) (inb)
    (ho : off = ![n * 1024, h.val * 256]) :
    M.view.readAt (Elt F) (Rect.unit (s := S8192x512) off ![1024, 256] inb).toLoadRect (hM.unread x) = tileOf h x n := by
  rw [View.readAt_unit M.view _ inb rfl inb, Memref.IsWhole.read_unread]
  exact window_tileOf h x n off inb ho

/-- A window of the gate as the body loads it. -/
theorem load_z (h : Fin 2) (off : Fin 2 → ℕ) (inb) (ho : off = ![0, h.val * 128]) :
    M5.view.readAt (Elt F) (Rect.unit (s := S512x256) off ![512, 128] inb).toLoadRect (h5.unread x3) = zHead h x3 := by
  rw [View.readAt_unit M5.view _ inb rfl inb, Memref.IsWhole.read_unread]
  subst ho
  funext y
  refine congrArg x3 (funext fun a => Fin.ext ?_)
  match a with
  | ⟨0, _⟩ => show 0 + 1 * (y 0).val = (y 0).val; omega
  | ⟨1, _⟩ => show h.val * 128 + 1 * (y 1).val = h.val * 128 + (y 1).val; omega

/-- The last tile, from the blocks' windows as the body loads them. -/
theorem last_tile (h : Fin 2) {q : Vec F S512x256 .bf16} {k v : Vec F S1024x256 .bf16} (hq : q = qHead h x0) (hk : k = tileOf h x1 ((i 1).val / 2))
    (hv : v = tileOf h x2 ((i 1).val / 2)) :
    masked i q k v (carry (qHead h x0) (tileOf h x1) (tileOf h x2) ((i 1).val / 2)) = done i h x0 x1 x2 := by
  rw [hq, hk, hv]; rfl

/-- A 512 by 256 block from its two heads' halves. -/
abbrev halves {e : EltTy} (j : Vec F S512x256 e) (a b : Vec F S512x128 e) : Vec F S512x256 e :=
  VecWindow.put (s := S512x256) (VecWindow.put (s := S512x256) j ![0, 0] S512x128.size a) ![0, 128] S512x128.size b

theorem out_o : out0_A_4 (F := F) c i M2 h2 M3 h3 M4 h4 M5 h5 M6 h6 M7 h7 M8 h8 x0 x1 x2 x3
    = halves (e := .f32) (VO0_4.read (Elt F) VO0_4.junk) (k0_pay33 (done i 0 x0 x1 x2).2) (k0_pay33 (done i 1 x0 x1 x2).2) := by
  unfold out0_A_4 kernelRun0_A
  sl_unfold_run_names
  dsimp only
  rw [View.read_writes_cons_put (Val := Elt F) _ _ _ _ _ rfl, View.read_writes_cons_put (Val := Elt F) _ _ _ _ _ rfl, View.writes_nil]
  rw [show Scf.trips (k0_t2_loop i).lb (k0_t2_loop i).ub (k0_t2_loop i).st = 0 from trips2_eq i]
  simp only [st_k0_t2_zero]
  rw [st_eq _ _ _ _ _ _ _ _ _ _ _ _ _ _ _ _ _ _ _ _ le_rfl]
  simp only [Memref.IsWhole.read_unread, trips1_eq]
  exact congrArg₂ (halves (e := .f32) _)
    (congrArg (fun s : St F => k0_pay33 s.2) (last_tile i x0 x1 x2 0 (load_q M2 h2 x0 0 _ inb_S512x512_S512x256_0_0 rfl) (load_t M3 h3 x1 0 _ _ _ (off5_eq i)) (load_t M4 h4 x2 0 _ _ _ (off5_eq i))))
    (congrArg (fun s : St F => k0_pay33 s.2) (last_tile i x0 x1 x2 1 (load_q M2 h2 x0 1 _ inb_S512x512_S512x256_0_256 rfl) (load_t M3 h3 x1 1 _ _ _ (off6_eq i)) (load_t M4 h4 x2 1 _ _ _ (off6_eq i))))

/-- The gate's half. -/
abbrev gated (h : Fin 2) (o : FVec F S512x256 .f32) : Vec F S512x128 .bf16 := k0_pay34 o (zHead h x3)

theorem out_y : out0_A_5 (F := F) c i M2 h2 M3 h3 M4 h4 M5 h5 M6 h6 M7 h7 M8 h8 x0 x1 x2 x3
    = halves (e := .bf16) (VO0_5.read (Elt F) VO0_5.junk) (gated x3 0 (done i 0 x0 x1 x2).2) (gated x3 1 (done i 1 x0 x1 x2).2) := by
  unfold out0_A_5 kernelRun0_A
  sl_unfold_run_names
  dsimp only
  rw [View.read_writes_cons_put (Val := Elt F) _ _ _ _ _ rfl, View.read_writes_cons_put (Val := Elt F) _ _ _ _ _ rfl, View.writes_nil]
  rw [show Scf.trips (k0_t2_loop i).lb (k0_t2_loop i).ub (k0_t2_loop i).st = 0 from trips2_eq i]
  simp only [st_k0_t2_zero]
  rw [st_eq _ _ _ _ _ _ _ _ _ _ _ _ _ _ _ _ _ _ _ _ le_rfl]
  simp only [Memref.IsWhole.read_unread, trips1_eq]
  exact congrArg₂ (halves (e := .bf16) _)
    (congrArg₂ (fun (s : St F) z => k0_pay34 s.2 z) (last_tile i x0 x1 x2 0 (load_q M2 h2 x0 0 _ inb_S512x512_S512x256_0_0 rfl) (load_t M3 h3 x1 0 _ _ _ (off5_eq i)) (load_t M4 h4 x2 0 _ _ _ (off5_eq i)))
      (load_z M5 h5 x3 0 _ inb_S512x256_S512x128_0_0 rfl))
    (congrArg₂ (fun (s : St F) z => k0_pay34 s.2 z) (last_tile i x0 x1 x2 1 (load_q M2 h2 x0 1 _ inb_S512x512_S512x256_0_256 rfl) (load_t M3 h3 x1 1 _ _ _ (off6_eq i)) (load_t M4 h4 x2 1 _ _ _ (off6_eq i)))
      (load_z M5 h5 x3 1 _ inb_S512x256_S512x128_0_128 rfl))
end Out

end Cert.Proof.Gated

end
-- ==== Proof.GatedRow.lean ====
/-
  The running softmax of one query over key tiles. `Met` says what the running maximum and the running weighted sums are once
  the keys before `B` are met: before the first tile nothing, afterwards a real number and the sums of the powers of two lowered
  by it. Which number it is does not matter, because the sums are only ever divided by one another.
-/
module

public import proofs.«01_k».proof.Proof.Reals

@[expose] public section

noncomputable section

namespace Cert.Proof.Gated

open Cert.Proof.Attn Idealize.ShloMosaic
open scoped BigOperators

variable (σ : ℕ → ℝ) (w : ℕ → Fin 256 → ℝ) (t : ℕ)

/-- The weight query `t` gives key `n`, lowered by `μ`: zero where the key is later than the query. -/
def pw (n : ℕ) (μ : ℝ) : ℝ := if n ≤ t then Real.rpow 2 (σ n - μ) else 0

/-- What the running maximum and the running sums are once the keys before `B` are met. -/
def Met (B : ℕ) (m : EReal) (acc : Fin 256 → EReal) : Prop :=
  (B = 0 ∧ m = ⊥ ∧ ∀ l, acc l = 0)
    ∨ ∃ μ : ℝ, m = (μ : EReal) ∧ ∀ l, acc l = ((∑ n ∈ Finset.range B, pw σ t n μ * w n l : ℝ) : EReal)

variable {σ w t}

theorem pw_shift (n : ℕ) (μ μ' : ℝ) : Real.rpow 2 (μ - μ') * pw σ t n μ = pw σ t n μ' := by
  unfold pw
  split
  · show (2 : ℝ) ^ (μ - μ') * (2 : ℝ) ^ (σ n - μ) = (2 : ℝ) ^ (σ n - μ')
    rw [← Real.rpow_add (by norm_num)]
    congr 1; ring
  · exact mul_zero _

/-- One more tile: the maximum is a real number, and the sums gain the tile's keys. -/
theorem Met.step {B : ℕ} {m : EReal} {acc : Fin 256 → EReal} (h : Met σ w t B m acc) (hB : B ≤ t) (s : Fin 1024 → EReal)
    (hs : ∀ u, s u = if B + u.val ≤ t then (σ (B + u.val) : EReal) else ⊥) (v : Fin 1024 → Fin 256 → EReal)
    (hv : ∀ u l, v u l = (w (B + u.val) l : EReal)) (M : EReal) (hM : M = max m (Finset.univ.fold max ⊥ s)) :
    ∃ μ : ℝ, M = (μ : EReal) ∧ ∀ l, Ideal.exp2 (m - M) * acc l + ∑ u, Ideal.exp2 (s u - M) * v u l
      = ((∑ n ∈ Finset.range (B + 1024), pw σ t n μ * w n l : ℝ) : EReal) := by
  have hf : Finset.univ.fold max ⊥ s < ⊤ := Finset.fold_max_lt _ |>.2 ⟨bot_lt_top, fun u _ => by
    rw [hs]; split
    · exact EReal.coe_lt_top _
    · exact bot_lt_top⟩
  have hb : ⊥ < Finset.univ.fold max ⊥ s := Finset.lt_fold_max _ |>.2 (.inr ⟨0, Finset.mem_univ _, by
    exact lt_of_lt_of_eq (EReal.bot_lt_coe _) ((hs 0).trans (if_pos hB)).symm⟩)
  have hm : m < ⊤ := by
    rcases h with ⟨-, rfl, -⟩ | ⟨μ, rfl, -⟩
    · exact bot_lt_top
    · exact EReal.coe_lt_top _
  obtain ⟨μ, hμ⟩ : ∃ μ : ℝ, M = (μ : EReal) := ⟨M.toReal, (EReal.coe_toReal (by rw [hM]; exact (max_lt hm hf).ne)
    (by rw [hM]; exact (lt_of_lt_of_le hb (le_max_right _ _)).ne')).symm⟩
  clear hM
  subst hμ
  refine ⟨μ, rfl, fun l => ?_⟩
  have tile : ∑ u : Fin 1024, Ideal.exp2 (s u - (μ : EReal)) * v u l = ((∑ u : Fin 1024, pw σ t (B + u.val) μ * w (B + u.val) l : ℝ) : EReal) := by
    rw [coe_sum]
    refine Finset.sum_congr rfl fun u _ => ?_
    rw [hs, hv, EReal.coe_mul]
    refine congrArg (· * _) ?_
    unfold pw
    by_cases hu : B + u.val ≤ t
    · rw [if_pos hu, if_pos hu, ← EReal.coe_sub]; rfl
    · rw [if_neg hu, if_neg hu, EReal.bot_sub]; rfl
  have first : Ideal.exp2 (m - (μ : EReal)) * acc l = ((∑ n ∈ Finset.range B, pw σ t n μ * w n l : ℝ) : EReal) := by
    rcases h with ⟨rfl, -, h0⟩ | ⟨μ₀, rfl, h0⟩
    · rw [h0, mul_zero, Finset.range_zero, Finset.sum_empty]; rfl
    · rw [h0, ← EReal.coe_sub, Ideal.exp2_coe, ← EReal.coe_mul, Finset.mul_sum]
      exact congrArg _ (Finset.sum_congr rfl fun n _ => by rw [← mul_assoc, pw_shift])
  rw [tile, first, ← EReal.coe_add, Finset.sum_range_add, Finset.sum_range (fun x => pw σ t (B + x) μ * w (B + x) l)]

end Cert.Proof.Gated

end
-- ==== Proof.GatedTile.lean ====
/-
  One tile of the forward attention over the extended reals, element by element, and with it a head's state after every tile.
-/
module

public import proofs.«01_k».proof.Proof.GatedBody
public import proofs.«01_k».proof.Proof.GatedRow
public import proofs.«01_k».proof.Proof.Tile

@[expose] public section

set_option maxRecDepth 16384

noncomputable section

namespace Cert.Proof.Gated

open Cert.Kernel18Ideal Cert.Kernel18Ideal.Gen
open Idealize.ShloMosaic hiding ix0 ix1 ix2 ix3 eq_ix2 eq_ix3
open Idealize.ShloMosaic.ValueIdx
open scoped BigOperators

/-! ## A tile from its scores -/

/-- The running maxima after a tile with scores `s`. -/
abbrev newMax (m : FVec Ideal S512x1 .f32) (s : FVec Ideal S512x1024 .f32) : FVec Ideal S512x1 .f32 :=
  maximumf m (shapeCast S512x1 (multiReduction .maximumf [1] S512 s 0xFF800000#32 reduces_S512x1024_S512 (.inl rfl) rfl) shapeCasts_S512_S512x1)

/-- The running sums after a tile with scores `s` and value rows `v`. -/
abbrev newSum (m : FVec Ideal S512x1 .f32) (a : FVec Ideal S512x256 .f32) (s : FVec Ideal S512x1024 .f32) (v : FVec Ideal S1024x256 .bf16) : FVec Ideal S512x256 .f32 :=
  addf (mulf (broadcastTo S512x256 (exp2 (subf m (newMax m s))) broadcasts_S512x1_S512x256) a)
    (matmul dot_S512x1024_S1024x256_S512x256_1_0_0_1_n_n none (truncf .bf16 (exp2 (subf s (broadcastTo S512x1024 (newMax m s) broadcasts_S512x1_S512x1024))) bitsLt_bf16_f32)
      (shapeCast S1024x256 v shapeCasts_S1024x256_S1024x256) (constant S512x256 .f32 0x00000000#32))

section
variable (i : grid0.Coords) (q : FVec Ideal S512x256 .bf16) (k v : FVec Ideal S1024x256 .bf16) (st : St Ideal)

theorem whole_eq : whole (F := Ideal) q k v st = (newMax st.1 (k0_pay3 q k), newSum st.1 st.2 (k0_pay3 q k) v) := rfl

/-- The masked tile's scores. -/
abbrev scores : FVec Ideal S512x1024 .f32 :=
  k0_pay25 (lastWord i) (k0_pay23 q k) (iota .tc S512x1024 32 [0] iota_S512x1024_d0_w32) (k0_pay24 i)

theorem masked_eq : masked (F := Ideal) i q k v st = (newMax st.1 (scores i q k), newSum st.1 st.2 (scores i q k) v) := rfl
end

section
variable (m : FVec Ideal S512x1 .f32) (a : FVec Ideal S512x256 .f32) (s : FVec Ideal S512x1024 .f32) (v : FVec Ideal S1024x256 .bf16)
  (r : Fin 512) (u : Fin 1024) (l : Fin 256)

theorem newMax_apply : newMax m s (ix2 r 0) = max (m (ix2 r 0)) (Finset.univ.fold max ⊥ fun u : Fin 1024 => s (ix2 r u)) := by
  refine congrArg (max _) ((shapeCast_apply _ shapeCasts_S512_S512x1 (ix2 r 0) (ix1 r) (by
    rw [Shape.rowMajor_val_two, Shape.rowMajor_val_one]
    show r.val = r.val * 1 + 0
    omega)).trans ?_)
  refine (Ideal.multiReduction_maximumf_single s _ reduces_S512x1024_S512 (.inl rfl) rfl (ix1 r)).trans ?_
  refine congrArg₂ (fun b (f : Fin 1024 → EReal) => Finset.univ.fold max b f) Attn.neg_inf (funext fun u => congrArg s (funext fun b => Fin.ext ?_))
  match b with
  | ⟨0, _⟩ => rfl
  | ⟨1, _⟩ => rfl

theorem col_keys (x : FVec Ideal S512x1 .f32) : broadcastTo S512x1024 x broadcasts_S512x1_S512x1024 (ix2 r u) = x (ix2 r 0) :=
  broadcastTo_apply x _ _ _ fun b => match b with
    | ⟨0, _⟩ => rfl
    | ⟨1, _⟩ => rfl

theorem col_lanes (x : FVec Ideal S512x1 .f32) : broadcastTo S512x256 x broadcasts_S512x1_S512x256 (ix2 r l) = x (ix2 r 0) :=
  broadcastTo_apply x _ _ _ fun b => match b with
    | ⟨0, _⟩ => rfl
    | ⟨1, _⟩ => rfl

theorem newSum_apply : newSum m a s v (ix2 r l) = Ideal.exp2 (m (ix2 r 0) - newMax m s (ix2 r 0)) * a (ix2 r l)
    + ∑ u : Fin 1024, Ideal.exp2 (s (ix2 r u) - newMax m s (ix2 r 0)) * v (ix2 u l) := by
  unfold newSum
  rw [shapeCast_self]
  refine congrArg₂ (· + ·) (congrArg (· * a (ix2 r l)) (col_lanes r l _)) ((Attn.weights_dot256 _ _ r l).trans (Finset.sum_congr rfl fun u _ => congrArg (· * v (ix2 u l)) ?_))
  exact congrArg (fun x => Ideal.exp2 (s (ix2 r u) - x)) (col_keys r u _)

end

/-! ## The scores -/

section
variable (i : grid0.Coords) (q : FVec Ideal S512x256 .bf16) (k : FVec Ideal S1024x256 .bf16) (r : Fin 512) (u : Fin 1024)

theorem pay3_apply : k0_pay3 (F := Ideal) q k (ix2 r u) = ∑ l : Fin 256, q (ix2 r l) * k (ix2 u l) := by
  unfold k0_pay3
  rw [shapeCast_self, shapeCast_self]
  exact Attn.rows_dot q k r u

theorem scores_apply : (scores i q k (ix2 r u) : EReal)
    = if (i 1).val / 2 * 1024 + u.val ≤ (i 1).val * 512 + r.val then ∑ l : Fin 256, q (ix2 r l) * k (ix2 u l) else ⊥ := by
  have hr := r.isLt
  have hu := u.isLt
  have hi : (i 1).val < 16 := (i 1).isLt
  have key : IntOp.cmpi .sge (BitVec.ofNat 32 (i 1).val * 512#32 + BitVec.ofNat 32 r.val) (BitVec.ofNat 32 ((i 1).val / 2) * 1024#32 + BitVec.ofNat 32 u.val)
      = if (i 1).val / 2 * 1024 + u.val ≤ (i 1).val * 512 + r.val then 1#1 else 0#1 := by
    rw [← Attn.word_ge _ _ (by omega) (by omega)]
    simp only [BitVec.ofNat_add, BitVec.ofNat_mul]
  have hs : k0_pay23 (F := Ideal) q k (ix2 r u) = ∑ l : Fin 256, q (ix2 r l) * k (ix2 u l) := by
    unfold k0_pay23
    rw [shapeCast_self, shapeCast_self]
    exact Attn.rows_dot q k r u
  unfold scores
  rw [lastWord_eq]
  unfold k0_pay25 k0_pay24
  show Scalar.select (IntOp.cmpi .sge (BitVec.ofNat 32 (i 1).val * 512#32 + iota .tc S512x1024 32 [0] iota_S512x1024_d0_w32 (ix2 r u))
    (BitVec.ofNat 32 ((i 1).val / 2) * 1024#32 + iota .tc S512x1024 32 [1] iota_S512x1024_d1_w32 (ix2 r u)))
    (k0_pay23 q k (ix2 r u)) (Ideal.ofBits .f32 0xFF800000#32) = _
  rw [iota_single_apply, iota_single_apply]
  show Scalar.select (IntOp.cmpi .sge (BitVec.ofNat 32 (i 1).val * 512#32 + BitVec.ofNat 32 r.val) (BitVec.ofNat 32 ((i 1).val / 2) * 1024#32 + BitVec.ofNat 32 u.val))
    (k0_pay23 q k (ix2 r u)) (Ideal.ofBits .f32 0xFF800000#32) = _
  rw [key, hs, Attn.neg_inf]
  by_cases h : (i 1).val / 2 * 1024 + u.val ≤ (i 1).val * 512 + r.val
  · rw [if_pos h, if_pos h]; rfl
  · rw [if_neg h, if_neg h]; rfl

end

/-! ## A head's state -/

section
variable (i : grid0.Coords) (h : Fin 2) (x0 : FVec Ideal S512x512 .bf16) (x1 x2 : FVec Ideal S8192x512 .bf16) (r : Fin 512)
  {σ : ℕ → ℝ} {w : ℕ → Fin 256 → ℝ}
  (hσ : ∀ n (u : Fin 1024), n < 8 → ∑ l : Fin 256, qHead (F := Ideal) h x0 (ix2 r l) * tileOf (F := Ideal) h x1 n (ix2 u l) = (σ (n * 1024 + u.val) : EReal))
  (hw : ∀ n (u : Fin 1024) l, n < 8 → tileOf (F := Ideal) h x2 n (ix2 u l) = (w (n * 1024 + u.val) l : EReal))
include hσ hw

theorem carry_met (n : ℕ) (hn : n ≤ (i 1).val / 2) :
    Met σ w ((i 1).val * 512 + r.val) (n * 1024) ((carry (F := Ideal) (qHead h x0) (tileOf h x1) (tileOf h x2) n).1 (ix2 r 0))
      fun l => (carry (F := Ideal) (qHead h x0) (tileOf h x1) (tileOf h x2) n).2 (ix2 r l) := by
  have hi : (i 1).val < 16 := (i 1).isLt
  induction n with
  | zero => exact .inl ⟨rfl, Attn.neg_inf, fun l => Ideal.ofBits_zero_f32⟩
  | succ n ih =>
    obtain ⟨μ, hμ, ha⟩ := (ih (by omega)).step (by omega) (fun u => k0_pay3 (F := Ideal) (qHead h x0) (tileOf h x1 n) (ix2 r u))
      (fun u => by have := u.isLt; rw [pay3_apply, hσ n u (by omega), if_pos (by omega)]) _ (fun u l => hw n u l (by omega)) _ (newMax_apply _ _ r)
    refine .inr ⟨μ, hμ, fun l => ?_⟩
    rw [show (n + 1) * 1024 = n * 1024 + 1024 by ring, ← ha l]
    exact newSum_apply _ _ _ _ r l

/-- After the last tile the sums are the weighted sums over every key. -/
theorem done_met : ∃ μ : ℝ, ∀ l, (done (F := Ideal) i h x0 x1 x2).2 (ix2 r l)
    = ((∑ n ∈ Finset.range 8192, pw σ ((i 1).val * 512 + r.val) n μ * w n l : ℝ) : EReal) := by
  have hi : (i 1).val < 16 := (i 1).isLt
  have hr := r.isLt
  obtain ⟨μ, -, ha⟩ := (carry_met i h x0 x1 x2 r hσ hw ((i 1).val / 2) le_rfl).step (by omega) (fun u => scores i (qHead (F := Ideal) h x0) (tileOf (F := Ideal) h x1 ((i 1).val / 2)) (ix2 r u))
      (fun u => by rw [scores_apply, hσ _ u (by omega)]) _ (fun u l => hw _ u l (by omega)) _ (newMax_apply _ _ r)
  refine ⟨μ, fun l => ?_⟩
  refine ((newSum_apply _ _ _ _ r l).trans (ha l)).trans (congrArg _ ?_)
  refine Finset.sum_subset (fun n hn => ?_) fun n _ hn => ?_
  · rw [Finset.mem_range] at hn ⊢; omega
  · rw [Finset.mem_range] at hn
    rw [pw, if_neg (by omega), zero_mul]

end

end Cert.Proof.Gated

end
-- ==== Proof.GatedLanes.lean ====
/-
  The attention call's three operands at a head, a row and a lane: the host lines put the argument's features in the first 128
  lanes, and the decay or ones in the extra lanes.
-/
module

public import proofs.«01_k».proof.Proof.Weights
public import proofs.«01_k».proof.Proof.Gen.Kernel18Ideal.Frame

@[expose] public section

set_option maxRecDepth 16384

noncomputable section

namespace Cert.Proof.Gated

open Cert.Kernel18Ideal Cert.Kernel18Ideal.Gen
open Cert.Proof.Attn (Ins sc coe_sum lo hi col kLane vLane)
open Idealize.ShloMosaic hiding ix0 ix2 ix3 eq_ix2 eq_ix3
open Idealize.ShloMosaic.ValueIdx Idealize.ShloMosaic.TcCoe
open scoped BigOperators

/-- The four arguments of the attention are the real numbers `X`. -/
structure Holds (X : Ins) (x0 x1 x2 : FVec Ideal S8192x16x128 .bf16) (x3 : FVec Ideal S8192x16 .f32) : Prop where
  q : ∀ i, x0 i = (X.q (i 0) (i 1) (i 2) : EReal)
  k : ∀ i, x1 i = (X.k (i 0) (i 1) (i 2) : EReal)
  v : ∀ i, x2 i = (X.v (i 0) (i 1) (i 2) : EReal)
  cm : ∀ i, x3 i = (X.cm (i 0) (i 1) : EReal)

/-! ## The host lines in two parts -/

/-- The buffers once the decay in base two is computed, from contents `W` at the start. -/
abbrev start (W : Valuation τ sig (Elt Ideal)) : Valuation τ sig (Elt Ideal) := StableHlo.after (List.take 12 (hostOps0 (F := Ideal))) W

/-- The buffers after the lines that build the operands, from contents `U` before them. -/
abbrev late (U : Valuation τ sig (Elt Ideal)) : Valuation τ sig (Elt Ideal) := StableHlo.after (List.drop 12 (hostOps0 (F := Ideal))) U

/-- Running two lists one after the other. -/
theorem after_two (l l' : List (HloOp τ sig (Elt Ideal))) (W : Valuation τ sig (Elt Ideal)) :
    StableHlo.after (l ++ l') W = StableHlo.after l' (StableHlo.after l W) := by
  induction l generalizing W with
  | nil => rfl
  | cons op l ih => exact ih _

theorem after_parts (W : Valuation τ sig (Elt Ideal)) : StableHlo.after (List.flatten [hostOps0 (F := Ideal)]) W = late (start W) := by
  unfold late start
  rw [← after_two, List.take_append_drop, List.flatten_singleton]

section
variable (W : Valuation τ sig (Elt Ideal))

theorem start_v2 : (start W (Proc.devRef .tc main_v2) : FVec Ideal S_ .f32) = fun _ => ((sc * (1 / Real.log 2) : ℝ) : EReal) := by
  unfold start
  after_reads_simp
  funext i
  show (FloatOps.ofBits (F := Ideal) .f32 1035273459#32 : EReal) *
    Ideal.div (FloatOps.ofBits (F := Ideal) .f32 1065353216#32 : EReal) (Ideal.log (FloatOps.ofBits (F := Ideal) .f32 1073741824#32 : EReal)) = _
  rw [Attn.sc_bits, Attn.one_bits, Attn.two_bits, Ideal.log_coe, if_neg (by norm_num), Ideal.div_coe (Real.log_pos (by norm_num)).ne', ← EReal.coe_mul, one_mul, EReal.coe_mul]

theorem start_v3 : start W (Proc.devRef .tc main_v3) = iotaInDim S8192x16x128 32 2 := by unfold start; after_reads_simp

theorem start_v4 : start W (Proc.devRef .tc main_v4) = broadcastInDim S8192x16x128 ![] bcast_S_S8192x16x128 (constant (F := Ideal) S_ .f32 0#32) := by
  unfold start; after_reads_simp

/-- The decay in base two. -/
theorem start_v7 {a : ℝ} (n : Fin 8192) (h : Fin 16) (ha : (W (Proc.devRef .tc main_arg3) : FVec Ideal S8192x16 .f32) (ix2 n h) = (a : EReal)) :
    (start W (Proc.devRef .tc main_v7) : FVec Ideal S8192x16x1 .f32) (ix3 n h 0) = ((a * (1 / Real.log 2) : ℝ) : EReal) := by
  unfold start
  after_reads_simp
  have e : Ideal.div (FloatOps.ofBits (F := Ideal) .f32 1065353216#32 : EReal) (Ideal.log (FloatOps.ofBits (F := Ideal) .f32 1073741824#32 : EReal))
      = ((1 / Real.log 2 : ℝ) : EReal) := by
    rw [Attn.one_bits, Attn.two_bits, Ideal.log_coe, if_neg (by norm_num), Ideal.div_coe (Real.log_pos (by norm_num)).ne', ← EReal.coe_mul, one_mul]
  rw [EReal.coe_mul, ← ha, ← e]
  exact congrArg (fun b : EReal => b * _) (Attn.as_col' _ n h)

theorem start_arg0 : start W (Proc.devRef .tc main_arg0) = W (Proc.devRef .tc main_arg0) := by unfold start; after_reads_simp
theorem start_arg1 : start W (Proc.devRef .tc main_arg1) = W (Proc.devRef .tc main_arg1) := by unfold start; after_reads_simp
theorem start_arg2 : start W (Proc.devRef .tc main_arg2) = W (Proc.devRef .tc main_arg2) := by unfold start; after_reads_simp

end

/-! ## The extra lanes -/

/-- The query's extra lanes: its decay in lane 0, ones in lanes 3 to 5. -/
def qLane (a : ℝ) (l : ℕ) : ℝ :=
  if l = 5 then 1 else if l = 4 then 1 else if l = 3 then 1 else if l = 2 then 0 else if l = 1 then 0 else if l = 0 then 1 * a else 0

section
variable (n : Fin 8192) (h : Fin 16) (l : Fin 128) (U : Valuation τ sig (Elt Ideal))
  (hI : U (Proc.devRef .tc main_v3) = iotaInDim S8192x16x128 32 2)
  (hZ : U (Proc.devRef .tc main_v4) = broadcastInDim S8192x16x128 ![] bcast_S_S8192x16x128 (constant (F := Ideal) S_ .f32 0#32))
include hI hZ

theorem late_q {a : ℝ} (ha : (U (Proc.devRef .tc main_v7) : FVec Ideal S8192x16x1 .f32) (ix3 n h 0) = (a : EReal)) :
    (late U (Proc.devRef .tc main_v47) : FVec Ideal S8192x16x128 .bf16) (ix3 n h l) = (qLane a l.val : EReal) := by
  unfold late
  after_reads_simp
  have hz : (U (Proc.devRef .tc main_v4) : FVec Ideal S8192x16x128 .f32) (ix3 n h l) = ((0 : ℝ) : EReal) := by rw [hZ]; exact Attn.zero_bits
  have pa := Attn.times_at n h ha Attn.one_bits
  exact Attn.lane_step n h l 5 (by decide) _ _ _ hI Attn.one_bits
    (Attn.lane_step n h l 4 (by decide) _ _ _ hI Attn.one_bits
    (Attn.lane_step n h l 3 (by decide) _ _ _ hI Attn.one_bits
    (Attn.lane_step n h l 2 (by decide) _ _ _ hI ((Attn.spread n h l _).trans (Attn.rest_at n h (Attn.rest_at n h pa)))
    (Attn.lane_step n h l 1 (by decide) _ _ _ hI ((Attn.spread n h l _).trans (Attn.rest_at n h pa))
    (Attn.lane_step n h l 0 (by decide) _ _ _ hI ((Attn.spread n h l _).trans pa) hz)))))

theorem late_k {a : ℝ} (ha : (U (Proc.devRef .tc main_v7) : FVec Ideal S8192x16x1 .f32) (ix3 n h 0) = (a : EReal)) :
    (late U (Proc.devRef .tc main_v102) : FVec Ideal S8192x16x128 .bf16) (ix3 n h l) = (kLane a l.val : EReal) := by
  unfold late
  after_reads_simp
  have hz : (U (Proc.devRef .tc main_v4) : FVec Ideal S8192x16x128 .f32) (ix3 n h l) = ((0 : ℝ) : EReal) := by rw [hZ]; exact Attn.zero_bits
  have pa := Attn.times_at n h ha Attn.neg_one_bits
  exact Attn.lane_step n h l 8 (by decide) _ _ _ hI Attn.one_bits
    (Attn.lane_step n h l 7 (by decide) _ _ _ hI Attn.one_bits
    (Attn.lane_step n h l 6 (by decide) _ _ _ hI Attn.one_bits
    (Attn.lane_step n h l 5 (by decide) _ _ _ hI ((Attn.spread n h l _).trans (Attn.rest_at n h (Attn.rest_at n h pa)))
    (Attn.lane_step n h l 4 (by decide) _ _ _ hI ((Attn.spread n h l _).trans (Attn.rest_at n h pa))
    (Attn.lane_step n h l 3 (by decide) _ _ _ hI ((Attn.spread n h l _).trans pa)
    (Attn.lane_step n h l 2 (by decide) _ _ _ hI Attn.one_bits
    (Attn.lane_step n h l 1 (by decide) _ _ _ hI Attn.one_bits
    (Attn.lane_step n h l 0 (by decide) _ _ _ hI Attn.one_bits hz))))))))

theorem late_v : (late U (Proc.devRef .tc main_v107) : FVec Ideal S8192x16x128 .bf16) (ix3 n h l) = (vLane l.val : EReal) := by
  unfold late
  after_reads_simp
  have hz : (U (Proc.devRef .tc main_v4) : FVec Ideal S8192x16x128 .f32) (ix3 n h l) = ((0 : ℝ) : EReal) := by rw [hZ]; exact Attn.zero_bits
  refine (Attn.lane_lt n h l 3 (by decide) _ _ _ hI).trans ?_
  unfold vLane
  by_cases h3 : l.val < 3
  · rw [if_pos h3, if_pos h3]; exact Attn.one_bits
  · rw [if_neg h3, if_neg h3]; exact hz

end

theorem qk_lanes (a b : ℝ) : ∑ l : Fin 128, qLane a l.val * kLane b l.val = a + -b := by
  have key : ∀ l : Fin 128, qLane a l.val * kLane b l.val = (if l = 0 then a else 0) + (if l = 3 then -b else 0) := fun l => by
    by_cases hl : l.val < 6
    · obtain ⟨l, h⟩ := l
      have hl : l < 6 := hl
      interval_cases l <;> simp [kLane, qLane, Fin.ext_iff]
    · have h : ∀ k : ℕ, k < 6 → l.val ≠ k := fun k hk e => hl (e ▸ hk)
      simp [qLane, Fin.ext_iff, h 0, h 1, h 2, h 3, h 4, h 5]
  rw [Finset.sum_congr rfl fun l _ => key l, Finset.sum_add_distrib]
  simp only [Finset.sum_ite_eq', Finset.mem_univ, if_true]

/-! ## The operands -/

section
variable (U : Valuation τ sig (Elt Ideal)) (n : Fin 8192) (h : Fin 16) (d : Fin 128)

theorem late_v113_lo {a b : ℝ} (ha : (U (Proc.devRef .tc main_arg0) : FVec Ideal S8192x16x128 .bf16) (ix3 n h d) = (a : EReal))
    (hb : (U (Proc.devRef .tc main_v2) : FVec Ideal S_ .f32) = fun _ => (b : EReal)) :
    (late U (Proc.devRef .tc main_v113) : FVec Ideal S8192x4096 .bf16) (ix2 n (col h (lo d))) = ((a * b : ℝ) : EReal) := by
  unfold late
  after_reads_simp
  refine (Attn.paired_lo _ _ n h d).trans ?_
  after_reads_simp
  rw [EReal.coe_mul, ← ha, hb]
  rfl

theorem late_v113_hi : (late U (Proc.devRef .tc main_v113) : FVec Ideal S8192x4096 .bf16) (ix2 n (col h (hi d)))
    = (late U (Proc.devRef .tc main_v47) : FVec Ideal S8192x16x128 .bf16) (ix3 n h d) := by
  unfold late
  after_reads_simp
  refine (Attn.paired_hi _ _ n h d).trans ?_
  after_reads_simp

theorem late_v115_lo : (late U (Proc.devRef .tc main_v115) : FVec Ideal S8192x4096 .bf16) (ix2 n (col h (lo d)))
    = (U (Proc.devRef .tc main_arg1) : FVec Ideal S8192x16x128 .bf16) (ix3 n h d) := by
  unfold late
  after_reads_simp
  refine (Attn.paired_lo _ _ n h d).trans ?_
  after_reads_simp

theorem late_v115_hi : (late U (Proc.devRef .tc main_v115) : FVec Ideal S8192x4096 .bf16) (ix2 n (col h (hi d)))
    = (late U (Proc.devRef .tc main_v102) : FVec Ideal S8192x16x128 .bf16) (ix3 n h d) := by
  unfold late
  after_reads_simp
  refine (Attn.paired_hi _ _ n h d).trans ?_
  after_reads_simp

theorem late_v117_lo : (late U (Proc.devRef .tc main_v117) : FVec Ideal S8192x4096 .bf16) (ix2 n (col h (lo d)))
    = (U (Proc.devRef .tc main_arg2) : FVec Ideal S8192x16x128 .bf16) (ix3 n h d) := by
  unfold late
  after_reads_simp
  refine (Attn.paired_lo _ _ n h d).trans ?_
  after_reads_simp

theorem late_v117_hi : (late U (Proc.devRef .tc main_v117) : FVec Ideal S8192x4096 .bf16) (ix2 n (col h (hi d)))
    = (late U (Proc.devRef .tc main_v107) : FVec Ideal S8192x16x128 .bf16) (ix3 n h d) := by
  unfold late
  after_reads_simp
  refine (Attn.paired_hi _ _ n h d).trans ?_
  after_reads_simp

end

/-! ## At finite arguments -/

section
variable (m : (ℓ : Loc nD τ sig) → Buf (Elt Ideal) ℓ) (c : Dev nD)

/-- The widened queries, keys and values as the call finds them, by head, row and lane. -/
def Qa (h : Fin 16) (n : Fin 8192) (l : Fin 256) : EReal := (V m c main_v113 : FVec Ideal S8192x4096 .bf16) (ix2 n (col h l))
def Ka (h : Fin 16) (n : Fin 8192) (l : Fin 256) : EReal := (V m c main_v115 : FVec Ideal S8192x4096 .bf16) (ix2 n (col h l))
def Va (h : Fin 16) (n : Fin 8192) (l : Fin 256) : EReal := (V m c main_v117 : FVec Ideal S8192x4096 .bf16) (ix2 n (col h l))

theorem V_late (r : Ref sig .tc) : V m c r = late (start fun b => m (c, b)) (Proc.devRef .tc r) :=
  congrFun (after_parts fun b => m (c, b)) (Proc.devRef .tc r)

/-- The arguments on device `c` are the real numbers `X`. -/
abbrev Reads (X : Ins) : Prop :=
  Holds X (m (c, (Proc.devRef .tc main_arg0))) (m (c, (Proc.devRef .tc main_arg1))) (m (c, (Proc.devRef .tc main_arg2))) (m (c, (Proc.devRef .tc main_arg3)))

variable {m c} {X : Ins}

theorem Qa_lo (H : Reads m c X) (h : Fin 16) (n : Fin 8192) (d : Fin 128) : Qa m c h n (lo d) = ((X.q n h d * (sc * (1 / Real.log 2)) : ℝ) : EReal) := by
  unfold Qa
  rw [V_late]
  refine late_v113_lo _ n h d ?_ (start_v2 _)
  rw [start_arg0]; exact H.q (ix3 n h d)

theorem Qa_hi (H : Reads m c X) (h : Fin 16) (n : Fin 8192) (d : Fin 128) : Qa m c h n (hi d) = (qLane (X.cm n h * (1 / Real.log 2)) d.val : EReal) := by
  unfold Qa
  rw [V_late]
  exact (late_v113_hi _ n h d).trans (late_q n h d _ (start_v3 _) (start_v4 _) (start_v7 _ n h (H.cm (ix2 n h))))

theorem Ka_lo (H : Reads m c X) (h : Fin 16) (j : Fin 8192) (d : Fin 128) : Ka m c h j (lo d) = (X.k j h d : EReal) := by
  unfold Ka
  rw [V_late]
  refine (late_v115_lo _ j h d).trans ?_
  rw [start_arg1]; exact H.k (ix3 j h d)

theorem Ka_hi (H : Reads m c X) (h : Fin 16) (j : Fin 8192) (d : Fin 128) : Ka m c h j (hi d) = (kLane (X.cm j h * (1 / Real.log 2)) d.val : EReal) := by
  unfold Ka
  rw [V_late]
  exact (late_v115_hi _ j h d).trans (late_k j h d _ (start_v3 _) (start_v4 _) (start_v7 _ j h (H.cm (ix2 j h))))

theorem Va_lo (H : Reads m c X) (h : Fin 16) (j : Fin 8192) (d : Fin 128) : Va m c h j (lo d) = (X.v j h d : EReal) := by
  unfold Va
  rw [V_late]
  refine (late_v117_lo _ j h d).trans ?_
  rw [start_arg2]; exact H.v (ix3 j h d)

theorem Va_hi (h : Fin 16) (j : Fin 8192) (d : Fin 128) : Va m c h j (hi d) = (vLane d.val : EReal) := by
  unfold Va
  rw [V_late]
  exact (late_v117_hi _ j h d).trans (late_v j h d _ (start_v3 _) (start_v4 _))

/-- The base-two score of query `t` and key `j`. -/
def score2 (X : Ins) (h : Fin 16) (t j : Fin 8192) : ℝ :=
  (∑ d, X.q t h d * (sc * (1 / Real.log 2)) * X.k j h d) + (X.cm t h * (1 / Real.log 2) + -(X.cm j h * (1 / Real.log 2)))

theorem score2_eq (X : Ins) (h : Fin 16) (t j : Fin 8192) : Real.log 2 * score2 X h t j = Attn.score X h t j := by
  have h2 : Real.log 2 ≠ 0 := (Real.log_pos (by norm_num)).ne'
  have hs : ∑ d, X.q t h d * (sc * (1 / Real.log 2)) * X.k j h d = (∑ d, X.q t h d * X.k j h d) * sc / Real.log 2 := by
    rw [Finset.sum_mul, Finset.sum_div]
    exact Finset.sum_congr rfl fun d _ => by ring
  unfold score2 Attn.score
  rw [hs]
  field_simp
  ring

/-- The product of a query's and a key's rows is their score. -/
theorem qk_eq (H : Reads m c X) (h : Fin 16) (t j : Fin 8192) : ∑ l : Fin 256, Qa m c h t l * Ka m c h j l = (score2 X h t j : EReal) := by
  rw [Attn.lanes_sum]
  have e1 : ∑ d : Fin 128, Qa m c h t (lo d) * Ka m c h j (lo d) = ((∑ d, X.q t h d * (sc * (1 / Real.log 2)) * X.k j h d : ℝ) : EReal) := by
    rw [coe_sum]
    exact Finset.sum_congr rfl fun d _ => by rw [Ka_lo H, Qa_lo H, ← EReal.coe_mul]
  have e2 : ∑ d : Fin 128, Qa m c h t (hi d) * Ka m c h j (hi d) = ((X.cm t h * (1 / Real.log 2) + -(X.cm j h * (1 / Real.log 2)) : ℝ) : EReal) := by
    rw [← qk_lanes, coe_sum]
    exact Finset.sum_congr rfl fun d _ => by rw [Ka_hi H, Qa_hi H, ← EReal.coe_mul]
  rw [e1, e2, ← EReal.coe_add]
  rfl

/-- A value row with its ones. -/
def vals (X : Ins) (h : Fin 16) (j : Fin 8192) (l : Fin 256) : ℝ := if hl : l.val < 128 then X.v j h ⟨l.val, hl⟩ else vLane (l.val - 128)

theorem Va_eq (H : Reads m c X) (h : Fin 16) (j : Fin 8192) (l : Fin 256) : Va m c h j l = (vals X h j l : EReal) := by
  unfold vals
  by_cases hl : l.val < 128
  · rw [dif_pos hl]
    exact (congrArg (Va m c h j) (Fin.ext rfl : l = lo ⟨l.val, hl⟩)).trans (Va_lo H h j ⟨l.val, hl⟩)
  · rw [dif_neg hl]
    have hl' := l.isLt
    exact (congrArg (Va m c h j) (Fin.ext (by show l.val = 128 + (l.val - 128); omega) : l = hi ⟨l.val - 128, by omega⟩)).trans (Va_hi h j ⟨l.val - 128, by omega⟩)

end

end Cert.Proof.Gated

end
-- ==== Proof.GatedRef.lean ====
/-
  The reference's two results at finite arguments: the attention's output as real numbers, and its product with the gate.
-/
module

public import proofs.«01_k».proof.Proof.Reals
public import proofs.«01_k».proof.Proof.GatedLanes
public import proofs.«01_k».proof.Proof.Gen.Reference18Ideal.Read

@[expose] public section

set_option maxRecDepth 16384

noncomputable section

namespace Cert.Proof.Gated

open Cert.Reference18Ideal Cert.Reference18Ideal.Gen Cert.Reference18Ideal.Read
open Cert.Proof.Attn (Ins sc coe_sum score unn tot prob)
open Idealize.ShloMosaic hiding ix0 ix1 ix2 ix3 eq_ix2 eq_ix3
open Idealize.ShloMosaic.ValueIdx
open scoped BigOperators

/-- The causal mask. -/
theorem ref_mask (i : S16x8192x8192.Idx) : val_main_v20 (F := Ideal) i = if (i 2).val ≤ (i 1).val then 1#1 else 0#1 := by
  have h1 : (i 1).val < 8192 := (i 1).isLt
  have h2 : (i 2).val < 8192 := (i 2).isLt
  rw [val_main_v20_apply, val_main_v19_apply, val_main_v17_apply, val_main_v15_apply, val_main_v14_apply, val_main_v18_apply,
    val_main_v16_apply, val_main_v14_apply]
  exact Attn.word_ge (i 1).val (i 2).val (by omega) (by omega)

/-- The attention's output at a head, a query and a feature. -/
def att (X : Ins) (M : Fin 16 → Fin 8192 → ℝ) (h : Fin 16) (t : Fin 8192) (d : Fin 128) : ℝ := ∑ j, X.v j h d * prob X M h t j

/-- A value times its logistic. -/
def silu (z : EReal) : EReal := z * Ideal.div ((1 : ℝ) : EReal) (((1 : ℝ) : EReal) + Ideal.exp (-z))

/-- The head and the feature of a column. -/
abbrev headOf (j : Fin 2048) : Fin 16 := ⟨j.val / 128, by omega⟩
abbrev featOf (j : Fin 2048) : Fin 128 := ⟨j.val % 128, by omega⟩

section
variable {X : Ins} {x0 x1 x2 : FVec Ideal S8192x16x128 .bf16} {x3 : FVec Ideal S8192x16 .f32} (H : Holds X x0 x1 x2 x3)
include H

/-- The masked scores. -/
theorem ref_score (i : S16x8192x8192.Idx) :
    val_main_v22 (F := Ideal) x0 x1 x3 i = if i 2 ≤ i 1 then (score X (i 0) (i 1) (i 2) : EReal) else ⊥ := by
  have hs : val_main_v13 (F := Ideal) x0 x1 x3 i = (score X (i 0) (i 1) (i 2) : EReal) := by
    rw [val_main_v13_apply, val_main_v9_apply, val_main_v5_apply, val_main_v3_apply, val_main_v4_apply, val_main_cst_apply, Attn.sc_bits,
      val_main_v8_apply, val_main_v7_apply, val_main_v6_apply, val_main_v12_apply, val_main_v11_apply, val_main_v10_apply]
    unfold score
    rw [EReal.coe_sub, EReal.coe_add, EReal.coe_mul, coe_sum, H.cm, H.cm]
    refine congrArg₂ (· - ·) (congrArg₂ (· + ·) (congrArg (· * _) (Finset.sum_congr rfl fun d _ => ?_)) rfl) rfl
    rw [val_main_v0_apply, val_main_v1_apply, EReal.coe_mul]
    exact congrArg₂ (· * ·) (H.q _) (H.k _)
  rw [val_main_v22_apply, hs, ref_mask, val_main_v21_apply, val_main_cst_0_apply, Attn.bot_bits]
  by_cases hji : i 2 ≤ i 1
  · rw [if_pos hji, if_pos (show (i 2).val ≤ (i 1).val from hji)]; rfl
  · rw [if_neg hji, if_neg (show ¬ (i 2).val ≤ (i 1).val from hji)]; rfl

/-- A row's maximum is a real number. -/
theorem ref_max : ∃ M : Fin 16 → Fin 8192 → ℝ, ∀ i : S16x8192.Idx, val_main_v23 (F := Ideal) x0 x1 x3 i = (M (i 0) (i 1) : EReal) := by
  have key : ∀ i : S16x8192.Idx, ∃ r : ℝ, val_main_v23 (F := Ideal) x0 x1 x3 i = (r : EReal) := fun i => by
    unfold val_main_v23
    rw [Host.reduce_eq_fold_single FloatOps.maximumf _ _ _ (by decide) h_S_, val_main_cst_1_apply, Attn.bot_bits]
    refine ⟨_, (EReal.coe_toReal (ne_of_lt ?_) (ne_of_gt ?_)).symm⟩
    · refine Finset.fold_max_lt _ |>.2 ⟨bot_lt_top, fun j _ => ?_⟩
      show val_main_v22 (F := Ideal) x0 x1 x3 _ < ⊤
      rw [ref_score H]
      split
      · exact EReal.coe_lt_top _
      · exact bot_lt_top
    · refine Finset.lt_fold_max _ |>.2 (.inr ⟨(⟨0, by decide⟩ : Fin 8192), Finset.mem_univ _, ?_⟩)
      show ⊥ < val_main_v22 (F := Ideal) x0 x1 x3 _
      rw [ref_score H]
      exact lt_of_lt_of_eq (EReal.bot_lt_coe _) (if_pos (Nat.zero_le _)).symm
  refine ⟨fun h t => (key (ix2 h t)).choose, fun i => ?_⟩
  rw [eq_ix2 i]
  exact (key _).choose_spec

section
variable {M : Fin 16 → Fin 8192 → ℝ} (HM : ∀ i : S16x8192.Idx, val_main_v23 (F := Ideal) x0 x1 x3 i = (M (i 0) (i 1) : EReal))
include HM

/-- The exponentials. -/
theorem ref_unn (i : S16x8192x8192.Idx) : val_main_v29 (F := Ideal) x0 x1 x3 i = (unn X M (i 0) (i 1) (i 2) : EReal) := by
  rw [val_main_v29_apply, val_main_v28_apply, ref_score H, val_main_v27_apply, val_main_v26_apply, val_main_v25_apply, HM,
    val_main_v24_apply, val_main_cst_2_apply, Attn.bot_bits]
  show Ideal.exp ((if i 2 ≤ i 1 then _ else _) - max ⊥ _) = _
  rw [max_eq_right bot_le]
  by_cases h : i 2 ≤ i 1
  · rw [if_pos h, Attn.unn_le X M (i 0) (i 1) (i 2) h]; exact congrArg Ideal.exp (EReal.coe_sub _ _).symm
  · rw [if_neg h, Attn.unn_late X M (i 0) (i 1) (i 2) h, EReal.bot_sub]; rfl

/-- The normalisers. -/
theorem ref_tot (i : S16x8192x1.Idx) : val_main_v31 (F := Ideal) x0 x1 x3 i = (tot X M (i 0) (i 1) : EReal) := by
  rw [val_main_v31_apply, val_main_v30_apply, val_main_cst_3_apply, Attn.zero_bits]
  unfold tot
  rw [coe_sum, EReal.coe_zero, zero_add]
  exact Finset.sum_congr rfl fun j _ => ref_unn H HM _

/-- The weights. -/
theorem ref_prob (i : S16x8192x8192.Idx) : val_main_v33 (F := Ideal) x0 x1 x3 i = (prob X M (i 0) (i 1) (i 2) : EReal) := by
  rw [val_main_v33_apply, ref_unn H HM, val_main_v32_apply, ref_tot H HM]
  refine (Ideal.div_coe (Attn.tot_pos X M _ _).ne' _).trans ?_
  exact (EReal.coe_mul _ _).symm.trans (congrArg _ (div_eq_mul_one_div _ _).symm)

/-- The attention's output. -/
theorem ref_o (i : S8192x2048.Idx) : val_main_v36 (F := Ideal) x0 x1 x2 x3 i = (att X M (headOf (i 1)) (i 0) (featOf (i 1)) : EReal) := by
  have h0 : (i 0).val < 8192 := (i 0).isLt
  have h1 : (i 1).val < 2048 := (i 1).isLt
  have e : idx_main_v36 i = ix3 (i 0) (headOf (i 1)) (featOf (i 1)) := funext fun a => Fin.ext (by
    match a with
    | ⟨0, _⟩ => show ((i 0).val * 2048 + (i 1).val) / 2048 = (i 0).val; omega
    | ⟨1, _⟩ => show ((i 0).val * 2048 + (i 1).val) / 128 % 16 = (i 1).val / 128; omega
    | ⟨2, _⟩ => show ((i 0).val * 2048 + (i 1).val) % 128 = (i 1).val % 128; omega)
  refine (val_main_v36_apply (F := Ideal) x0 x1 x2 x3 i).trans ((congrArg (val_main_v35 (F := Ideal) x0 x1 x2 x3) e).trans ?_)
  refine (val_main_v35_apply (F := Ideal) x0 x1 x2 x3 _).trans ((val_main_v34_apply x0 x1 x2 x3 _).trans ?_)
  unfold att
  refine Eq.trans (Finset.sum_congr rfl fun j _ => ?_) (coe_sum _ _).symm
  rw [val_main_v2_apply, ref_prob H HM, EReal.coe_mul]
  exact congrArg₂ (· * ·) (H.v _) rfl

/-- The gated output. -/
theorem ref_y (x4 : FVec Ideal S8192x8192 .bf16) (i : S8192x2048.Idx) : val_main_v40 (F := Ideal) x0 x1 x2 x3 x4 i
    = HMul.hMul (α := EReal) (β := EReal) (γ := EReal) (att X M (headOf (i 1)) (i 0) (featOf (i 1)) : EReal) (silu (x4 (idx_main_v38 i))) := by
  rw [val_main_v40_apply, ref_o H HM, val_main_v39_apply, val_main_v38_apply, val_main_v37_apply, val_main_call0_v5_apply, val_main_call0_v4_apply,
    val_main_call0_cst_0_apply, val_main_call0_v3_apply, val_main_call0_v2_apply, val_main_call0_cst_apply, val_main_call0_v1_apply,
    val_main_call0_v0_apply, val_main_v38_apply, val_main_v37_apply, Attn.one_bits]
  rfl

end
end

end Cert.Proof.Gated

end
-- ==== Proof.GatedArray.lean ====
/-
  The attention call's two result arrays at finite arguments: the output, and its product with the gate.
-/
module

public import proofs.«01_k».proof.Proof.GatedTile
public import proofs.«01_k».proof.Proof.GatedRef
public import Idealize.ShloMosaic.Lib.Pipeline.ValueKit

@[expose] public section

set_option maxRecDepth 16384

noncomputable section

namespace Cert.Proof.Gated

open Cert.Kernel18Ideal Cert.Kernel18Ideal.Gen
open Cert.Proof.Attn (Ins sc coe_sum unn tot prob col vLane)
open Idealize.ShloMosaic hiding ix0 ix1 ix2 ix3 eq_ix2 eq_ix3
open Idealize.ShloMosaic.ValueIdx Idealize.ShloMosaic.TcCoe Idealize.SL.Sem
open scoped BigOperators

/-! ## The quotient of the sums -/

/-- A key row by number. -/
abbrev at' (n : ℕ) : Fin 8192 := ⟨n % 8192, Nat.mod_lt _ (by decide)⟩

/-- A power of two as the reference's exponential, up to a factor that does not depend on the key. -/
theorem pw_eq (X : Ins) (M : Fin 16 → Fin 8192 → ℝ) (h : Fin 16) (t j : Fin 8192) (μ : ℝ) :
    pw (fun n => score2 X h t (at' n)) t.val j.val μ = Real.exp (M h t - Real.log 2 * μ) * unn X M h t j := by
  have hj : at' j.val = j := Fin.ext (Nat.mod_eq_of_lt j.isLt)
  unfold pw
  by_cases hle : j ≤ t
  · rw [if_pos (show j.val ≤ t.val from hle), Attn.unn_le X M h t j hle]
    refine (Real.rpow_def_of_pos (by norm_num) _).trans ?_
    rw [← Real.exp_add, mul_sub, score2_eq, hj]
    exact congrArg Real.exp (by ring)
  · rw [if_neg (show ¬ j.val ≤ t.val from hle), Attn.unn_late X M h t j hle, mul_zero]

/-- The weighted sum over the keys. -/
theorem sum_pw (X : Ins) (M : Fin 16 → Fin 8192 → ℝ) (h : Fin 16) (t : Fin 8192) (μ : ℝ) (l : Fin 256) :
    ∑ n ∈ Finset.range 8192, pw (fun n => score2 X h t (at' n)) t.val n μ * vals X h (at' n) l
      = Real.exp (M h t - Real.log 2 * μ) * ∑ j, unn X M h t j * vals X h j l := by
  rw [Finset.sum_range, Finset.mul_sum]
  refine Finset.sum_congr rfl fun j _ => ?_
  rw [pw_eq X M, show at' j.val = j from Fin.ext (Nat.mod_eq_of_lt j.isLt)]
  ring

theorem ratio (X : Ins) (M : Fin 16 → Fin 8192 → ℝ) (h : Fin 16) (t : Fin 8192) (μ : ℝ) (d : Fin 128) :
    Ideal.div ((∑ n ∈ Finset.range 8192, pw (fun n => score2 X h t (at' n)) t.val n μ * vals X h (at' n) ⟨d.val, by omega⟩ : ℝ) : EReal)
      ((∑ n ∈ Finset.range 8192, pw (fun n => score2 X h t (at' n)) t.val n μ * vals X h (at' n) ⟨128, by omega⟩ : ℝ) : EReal)
      = (att X M h t d : EReal) := by
  have hE := (Real.exp_pos (M h t - Real.log 2 * μ)).ne'
  have ht := (Attn.tot_pos X M h t).ne'
  have h1 : ∑ j, unn X M h t j * vals X h j ⟨128, by omega⟩ = tot X M h t := by
    unfold tot
    exact Finset.sum_congr rfl fun j _ => by simp [vals, vLane]
  have h2 : ∑ j, unn X M h t j * vals X h j ⟨d.val, by omega⟩ = ∑ j, unn X M h t j * X.v j h d :=
    Finset.sum_congr rfl fun j _ => by simp [vals]
  rw [sum_pw X M, sum_pw X M, h1, h2, Ideal.div_coe (mul_ne_zero hE ht), ← EReal.coe_mul]
  refine congrArg _ ?_
  unfold att prob
  rw [mul_one_div, mul_div_mul_left _ _ hE, Finset.sum_div]
  exact Finset.sum_congr rfl fun j _ => by ring

/-! ## The last steps of the body -/

theorem pay33_apply (o : FVec Ideal S512x256 .f32) (r : Fin 512) (d : Fin 128) :
    k0_pay33 (F := Ideal) o (ix2 r d) = Ideal.div (o (ix2 r ⟨d.val, by omega⟩)) (o (ix2 r ⟨128, by omega⟩)) := by
  unfold k0_pay33 k0_pay32
  refine congrArg₂ Ideal.div ?_ ?_
  · exact extractStridedSlice_apply ![0, 0] _ slices_S512x256_o0_0_S512x128 (ix2 r d) (ix2 r ⟨d.val, by omega⟩) (fun b => match b with
      | ⟨0, _⟩ => (Nat.zero_add _).symm
      | ⟨1, _⟩ => (Nat.zero_add _).symm)
  · refine (broadcastTo_apply _ broadcasts_S512x1_S512x128 (ix2 r d) (ix2 r (0 : Fin 1)) (fun a => match a with
      | ⟨0, _⟩ => rfl
      | ⟨1, _⟩ => rfl)).trans ?_
    exact extractStridedSlice_apply ![0, 128] _ slices_S512x256_o0_128_S512x1 (ix2 r (0 : Fin 1)) (ix2 r (⟨128, by omega⟩ : Fin 256)) (fun b => match b with
      | ⟨0, _⟩ => (Nat.zero_add _).symm
      | ⟨1, _⟩ => rfl)

theorem pay34_apply (o : FVec Ideal S512x256 .f32) (z : FVec Ideal S512x128 .bf16) (r : Fin 512) (d : Fin 128) :
    k0_pay34 (F := Ideal) o z (ix2 r d)
      = HMul.hMul (α := EReal) (β := EReal) (γ := EReal) (k0_pay33 (F := Ideal) o (ix2 r d)) (silu (z (ix2 r d))) := by
  have e : silu (z (ix2 r d)) = HMul.hMul (α := EReal) (β := EReal) (γ := EReal) (z (ix2 r d)) (Ideal.div (FloatOps.ofBits (F := Ideal) .f32 0x3F800000#32 : EReal)
      ((FloatOps.ofBits (F := Ideal) .f32 0x3F800000#32 : EReal)
        + Ideal.exp (HSub.hSub (α := EReal) (β := EReal) (γ := EReal) (FloatOps.ofBits (F := Ideal) .f32 0x00000000#32 : EReal) (z (ix2 r d))))) := by
    rw [Attn.one_bits, Attn.zero_bits, EReal.coe_zero, zero_sub]
    rfl
  rw [e]
  rfl

/-- The two halves of a block, by head and feature. -/
theorem halves_apply {e : EltTy} (j : Vec Ideal S512x256 e) (f : Fin 2 → Vec Ideal S512x128 e) (r : Fin 512) (s : Fin 256) :
    halves (e := e) j (f 0) (f 1) (ix2 r s) = f ⟨s.val / 128, by omega⟩ (ix2 r ⟨s.val % 128, by omega⟩) := by
  have hs := s.isLt
  have hr := r.isLt
  have at2 : ∀ h : ∀ a : Fin 2, (![0, 128] : Fin 2 → ℕ) a ≤ ((ix2 r s : S512x256.Idx) a).val ∧ ((ix2 r s : S512x256.Idx) a).val < (![0, 128] : Fin 2 → ℕ) a + S512x128.size a, 128 ≤ s.val :=
    fun h => (h 1).1
  unfold halves VecWindow.put
  by_cases h : 128 ≤ s.val
  · have hd : s.val / 128 = 1 := by omega
    rw [dif_pos (fun a => match a with
      | ⟨0, _⟩ => ⟨Nat.zero_le _, (Nat.zero_add 512).symm ▸ hr⟩
      | ⟨1, _⟩ => ⟨h, show s.val < 128 + 128 by omega⟩)]
    rw [show (⟨s.val / 128, by omega⟩ : Fin 2) = 1 from Fin.ext hd]
    refine congrArg (f 1) (funext fun a => Fin.ext ?_)
    match a with
    | ⟨0, _⟩ => rfl
    | ⟨1, _⟩ => show s.val - 128 = s.val % 128; omega
  · have hd : s.val / 128 = 0 := by omega
    rw [dif_neg (fun h' => h (at2 h')), dif_pos (fun a => match a with
      | ⟨0, _⟩ => ⟨Nat.zero_le _, (Nat.zero_add 512).symm ▸ hr⟩
      | ⟨1, _⟩ => ⟨Nat.zero_le _, show s.val < 0 + 128 by omega⟩)]
    rw [show (⟨s.val / 128, by omega⟩ : Fin 2) = 0 from Fin.ext hd]
    refine congrArg (f 0) (funext fun a => Fin.ext ?_)
    match a with
    | ⟨0, _⟩ => rfl
    | ⟨1, _⟩ => show s.val - 0 = s.val % 128; omega

/-! ## The blocks a point reads -/

theorem N_eq : cfg0.N = 128 := by decide +kernel
theorem coords_eq : ∀ t : Fin grid0.N, (grid0.coords t 1).val = t.val % 16 := by decide +kernel
theorem index_0 : ∀ t : Fin grid0.N, win0_0.index t 0 = t.val % 16 ∧ win0_0.index t 1 = t.val / 16 := by decide +kernel
theorem index_1 : ∀ t : Fin grid0.N, win0_1.index t 0 = 0 ∧ win0_1.index t 1 = t.val / 16 := by decide +kernel
theorem index_2 : ∀ t : Fin grid0.N, win0_2.index t 0 = 0 ∧ win0_2.index t 1 = t.val / 16 := by decide +kernel
theorem index_3 : ∀ t : Fin grid0.N, win0_3.index t 0 = t.val % 16 ∧ win0_3.index t 1 = 24 + t.val / 16 := by decide +kernel
theorem index_4 : ∀ t : Fin grid0.N, win0_4.index t 0 = t.val % 16 ∧ win0_4.index t 1 = t.val / 16 := by decide +kernel
theorem index_5 : ∀ t : Fin grid0.N, win0_5.index t 0 = t.val % 16 ∧ win0_5.index t 1 = t.val / 16 := by decide +kernel

/-- The head a point's half is. -/
abbrev hd (t : Fin cfg0.N) (h : Fin 2) : Fin 16 := ⟨t.val / 16 * 2 + h.val, by have := t.isLt; have := N_eq; omega⟩
/-- The query row a point's block row is. -/
abbrev row (t : Fin cfg0.N) (r : Fin 512) : Fin 8192 := ⟨t.val % 16 * 512 + r.val, by omega⟩

section
variable (m : (ℓ : Loc nD τ sig) → Buf (Elt Ideal) ℓ) (c : Dev nD)

/-- The gate's factor by row and column. -/
abbrev argZ : FVec Ideal S8192x8192 .bf16 := m ((c : Thread nD τ).loc main_arg4)

abbrev qB (t : Fin cfg0.N) : FVec Ideal S512x512 .bf16 := iblk m c 0 t
abbrev kB (t : Fin cfg0.N) : FVec Ideal S8192x512 .bf16 := iblk m c 1 t
abbrev vB (t : Fin cfg0.N) : FVec Ideal S8192x512 .bf16 := iblk m c 2 t
abbrev zB (t : Fin cfg0.N) : FVec Ideal S512x256 .bf16 := iblk m c 3 t

theorem qB_apply (t : Fin cfg0.N) (h : Fin 2) (r : Fin 512) (l : Fin 256) : qHead (F := Ideal) h (qB m c t) (ix2 r l) = Qa m c (hd t h) (row t r) l := by
  unfold qHead qB iblk Qa
  rw [View.read_apply]
  show V m c main_v113 _ = V m c main_v113 _
  refine congrArg _ (funext fun a => Fin.ext ?_)
  match a with
  | ⟨0, _⟩ => show win0_0.index t 0 * 512 + 1 * r.val = t.val % 16 * 512 + r.val; rw [(index_0 t).1]; omega
  | ⟨1, _⟩ => show win0_0.index t 1 * 512 + 1 * (h.val * 256 + l.val) = (t.val / 16 * 2 + h.val) * 256 + l.val; rw [(index_0 t).2]; omega

theorem kB_apply (t : Fin cfg0.N) (h : Fin 2) (n : ℕ) (u : Fin 1024) (l : Fin 256) :
    tileOf (F := Ideal) h (kB m c t) n (ix2 u l) = Ka m c (hd t h) (at' (n * 1024 + u.val)) l := by
  unfold tileOf kB iblk Ka
  rw [View.read_apply]
  show V m c main_v115 _ = V m c main_v115 _
  refine congrArg _ (funext fun a => Fin.ext ?_)
  match a with
  | ⟨0, _⟩ => show win0_1.index t 0 * 8192 + 1 * ((n * 1024 + u.val) % 8192) = (n * 1024 + u.val) % 8192; rw [(index_1 t).1]; omega
  | ⟨1, _⟩ => show win0_1.index t 1 * 512 + 1 * (h.val * 256 + l.val) = (t.val / 16 * 2 + h.val) * 256 + l.val; rw [(index_1 t).2]; omega

theorem vB_apply (t : Fin cfg0.N) (h : Fin 2) (n : ℕ) (u : Fin 1024) (l : Fin 256) :
    tileOf (F := Ideal) h (vB m c t) n (ix2 u l) = Va m c (hd t h) (at' (n * 1024 + u.val)) l := by
  unfold tileOf vB iblk Va
  rw [View.read_apply]
  show V m c main_v117 _ = V m c main_v117 _
  refine congrArg _ (funext fun a => Fin.ext ?_)
  match a with
  | ⟨0, _⟩ => show win0_2.index t 0 * 8192 + 1 * ((n * 1024 + u.val) % 8192) = (n * 1024 + u.val) % 8192; rw [(index_2 t).1]; omega
  | ⟨1, _⟩ => show win0_2.index t 1 * 512 + 1 * (h.val * 256 + l.val) = (t.val / 16 * 2 + h.val) * 256 + l.val; rw [(index_2 t).2]; omega

theorem zB_read (t : Fin cfg0.N) (h : Fin 2) (r : Fin 512) (d : Fin 128) : zHead (F := Ideal) h (zB m c t) (ix2 r d)
    = (V m c main_arg4 : FVec Ideal S8192x8192 .bf16) (ix2 (row t r) ⟨6144 + ((hd t h).val * 128 + d.val), by omega⟩) := by
  unfold zHead zB iblk
  rw [View.read_apply]
  show V m c main_arg4 _ = V m c main_arg4 _
  refine congrArg _ (funext fun a => Fin.ext ?_)
  match a with
  | ⟨0, _⟩ => show win0_3.index t 0 * 512 + 1 * r.val = t.val % 16 * 512 + r.val; rw [(index_3 t).1]; omega
  | ⟨1, _⟩ => show win0_3.index t 1 * 256 + 1 * (h.val * 128 + d.val) = 6144 + ((t.val / 16 * 2 + h.val) * 128 + d.val); rw [(index_3 t).2]; omega

theorem zB_apply (t : Fin cfg0.N) (h : Fin 2) (r : Fin 512) (d : Fin 128) : zHead (F := Ideal) h (zB m c t) (ix2 r d)
    = argZ m c (ix2 (row t r) ⟨6144 + ((hd t h).val * 128 + d.val), by omega⟩) :=
  (zB_read m c t h r d).trans (congrFun (V_main_arg4 m c) _)

/-! ## The results of a point -/

variable {m c} {X : Ins} (H : Reads m c X) (M : Fin 16 → Fin 8192 → ℝ)
include H

/-- A head's output at a point, before the gate. -/
theorem head_o (t : Fin cfg0.N) (h : Fin 2) (r : Fin 512) (d : Fin 128) :
    k0_pay33 (F := Ideal) (done (F := Ideal) (grid0.coords t) h (qB m c t) (kB m c t) (vB m c t)).2 (ix2 r d) = (att X M (hd t h) (row t r) d : EReal) := by
  obtain ⟨μ, hμ⟩ := done_met (grid0.coords t) h (qB m c t) (kB m c t) (vB m c t) r
    (σ := fun n => score2 X (hd t h) (row t r) (at' n)) (w := fun n l => vals X (hd t h) (at' n) l)
    (fun n u _ => (Finset.sum_congr rfl fun l _ => congrArg₂ (fun a b : EReal => a * b) (qB_apply m c t h r l) (kB_apply m c t h n u l)).trans (qk_eq H _ _ _))
    (fun n u l _ => (vB_apply m c t h n u l).trans (Va_eq H _ _ _))
  rw [pay33_apply, hμ, hμ, coords_eq t]
  exact ratio X M (hd t h) (row t r) μ d

theorem point_o (t : Fin cfg0.N) (r : Fin 512) (s : Fin 256) : ((outsAt0 m c t).1 : FVec Ideal S512x256 .f32) (ix2 r s)
    = (att X M (hd t ⟨s.val / 128, by omega⟩) (row t r) ⟨s.val % 128, by omega⟩ : EReal) := by
  refine (congrFun (out_o (F := Ideal) c (grid0.coords t) _ _ _ _ _ _ _ _ _ _ _ _ _ _ (qB m c t) (kB m c t) (vB m c t) (zB m c t)) (ix2 r s)).trans ?_
  exact (halves_apply (e := .f32) _ (fun h => k0_pay33 (F := Ideal) (done (F := Ideal) (grid0.coords t) h (qB m c t) (kB m c t) (vB m c t)).2) r s).trans (head_o H M t _ r _)

theorem point_y (t : Fin cfg0.N) (r : Fin 512) (s : Fin 256) : ((outsAt0 m c t).2.1 : FVec Ideal S512x256 .bf16) (ix2 r s)
    = HMul.hMul (α := EReal) (β := EReal) (γ := EReal) (att X M (hd t ⟨s.val / 128, by omega⟩) (row t r) ⟨s.val % 128, by omega⟩ : EReal)
      (silu (argZ m c (ix2 (row t r) ⟨6144 + ((hd t ⟨s.val / 128, by omega⟩).val * 128 + s.val % 128), by have := t.isLt; have := N_eq; omega⟩))) := by
  refine (congrFun (out_y (F := Ideal) c (grid0.coords t) _ _ _ _ _ _ _ _ _ _ _ _ _ _ (qB m c t) (kB m c t) (vB m c t) (zB m c t)) (ix2 r s)).trans ?_
  refine (halves_apply (e := .bf16) _ (fun h => k0_pay34 (F := Ideal) (done (F := Ideal) (grid0.coords t) h (qB m c t) (kB m c t) (vB m c t)).2 (zHead h (zB m c t))) r s).trans ?_
  refine (pay34_apply _ _ r _).trans ?_
  exact congrArg₂ (fun a b : EReal => a * silu b) (head_o H M t _ r _) (zB_apply m c t _ r _)

omit H

/-! ## The arrays -/

/-- The attention's output. -/
def oArr (X : Ins) : FVec Ideal S8192x2048 .f32 := fun i => (att X M (headOf (i 1)) (i 0) (featOf (i 1)) : EReal)

/-- Its product with the gate. -/
def yArr (z : FVec Ideal S8192x8192 .bf16) (X : Ins) : FVec Ideal S8192x2048 .bf16 := fun i =>
  HMul.hMul (α := EReal) (β := EReal) (γ := EReal) (att X M (headOf (i 1)) (i 0) (featOf (i 1)) : EReal)
    (silu (z (ix2 (i 0) ⟨6144 + (i 1).val, by have : (i 1).val < 2048 := (i 1).isLt; omega⟩)))

theorem emb_4 (t : Fin cfg0.N) (y : ((cfg0.win 4).xblock (cfg0.grid.coords t)).Idx) :
    (((cfg0.win 4).blk t).view.emb y : S8192x2048.Idx)
      = ix2 (n0 := 8192) (n1 := 2048) (row t ⟨(y 0).val, (y 0).isLt⟩) ⟨t.val / 16 * 256 + (y 1).val, by have := t.isLt; have := N_eq; have : (y 1).val < 256 := (y 1).isLt; omega⟩ := by
  funext a; apply Fin.ext
  match a with
  | ⟨0, _⟩ => show win0_4.index t 0 * 512 + 1 * (y 0).val = t.val % 16 * 512 + (y 0).val; rw [(index_4 t).1]; omega
  | ⟨1, _⟩ => show win0_4.index t 1 * 256 + 1 * (y 1).val = t.val / 16 * 256 + (y 1).val; rw [(index_4 t).2]; omega

theorem emb_5 (t : Fin cfg0.N) (y : ((cfg0.win 5).xblock (cfg0.grid.coords t)).Idx) :
    (((cfg0.win 5).blk t).view.emb y : S8192x2048.Idx)
      = ix2 (n0 := 8192) (n1 := 2048) (row t ⟨(y 0).val, (y 0).isLt⟩) ⟨t.val / 16 * 256 + (y 1).val, by have := t.isLt; have := N_eq; have : (y 1).val < 256 := (y 1).isLt; omega⟩ := by
  funext a; apply Fin.ext
  match a with
  | ⟨0, _⟩ => show win0_5.index t 0 * 512 + 1 * (y 0).val = t.val % 16 * 512 + (y 0).val; rw [(index_5 t).1]; omega
  | ⟨1, _⟩ => show win0_5.index t 1 * 256 + 1 * (y 1).val = t.val / 16 * 256 + (y 1).val; rw [(index_5 t).2]; omega

/-- The head and the feature of a block's column. -/
theorem head_col (t : Fin cfg0.N) (s : Fin 256) (hs : t.val / 16 * 256 + s.val < 2048) :
    headOf ⟨t.val / 16 * 256 + s.val, hs⟩ = hd t ⟨s.val / 128, by omega⟩ := Fin.ext (by
  show (t.val / 16 * 256 + s.val) / 128 = t.val / 16 * 2 + s.val / 128
  omega)
theorem feat_col (t : Fin cfg0.N) (s : Fin 256) (hs : t.val / 16 * 256 + s.val < 2048) :
    featOf ⟨t.val / 16 * 256 + s.val, hs⟩ = ⟨s.val % 128, by omega⟩ := Fin.ext (by
  show (t.val / 16 * 256 + s.val) % 128 = s.val % 128
  omega)

include H

theorem final_o : (dats m 0 c).arrAt 4 cfg0.N = oArr M X := by
  refine (dats m 0 c).arrAt_eq_of_covers 4 _ (by decide +kernel) fun t hf y => ?_
  have : t.val < 128 := lt_of_lt_of_eq t.isLt N_eq
  have : (y 1).val < 256 := (y 1).isLt
  have hs : t.val / 16 * 256 + (y 1).val < 2048 := by omega
  refine (cast_eq _ _).trans ((congrFun (after0_4 m c t) _).trans ?_)
  refine Eq.trans ?_ (congrArg (oArr M X) (emb_4 t y)).symm
  refine (congrArg ((outsAt0 m c t).1 : FVec Ideal S512x256 .f32) (eq_ix2 _)).trans ?_
  refine (point_o H M t (⟨(y 0).val, (y 0).isLt⟩ : Fin 512) (⟨(y 1).val, (y 1).isLt⟩ : Fin 256)).trans ?_
  unfold oArr
  exact congrArg₂ (fun a b => (att X M a _ b : EReal)) (head_col t ⟨(y 1).val, (y 1).isLt⟩ hs).symm (feat_col t ⟨(y 1).val, (y 1).isLt⟩ hs).symm

theorem final_y : (dats m 0 c).arrAt 5 cfg0.N = yArr M (argZ m c) X := by
  refine (dats m 0 c).arrAt_eq_of_covers 5 _ (by decide +kernel) fun t hf y => ?_
  have : t.val < 128 := lt_of_lt_of_eq t.isLt N_eq
  have : (y 1).val < 256 := (y 1).isLt
  have hs : t.val / 16 * 256 + (y 1).val < 2048 := by omega
  refine (cast_eq _ _).trans ((congrFun (after0_5 m c t) _).trans ?_)
  refine Eq.trans ?_ (congrArg (yArr M (argZ m c) X) (emb_5 t y)).symm
  refine (congrArg ((outsAt0 m c t).2.1 : FVec Ideal S512x256 .bf16) (eq_ix2 _)).trans ?_
  refine (point_y H M t (⟨(y 0).val, (y 0).isLt⟩ : Fin 512) (⟨(y 1).val, (y 1).isLt⟩ : Fin 256)).trans ?_
  unfold yArr
  refine congrArg₂ (fun a b : EReal => a * silu b)
    (congrArg₂ (fun a b => (att X M a _ b : EReal)) (head_col t ⟨(y 1).val, (y 1).isLt⟩ hs).symm (feat_col t ⟨(y 1).val, (y 1).isLt⟩ hs).symm) ?_
  refine congrArg (argZ m c) (funext fun a => Fin.ext ?_)
  match a with
  | ⟨0, _⟩ => rfl
  | ⟨1, _⟩ => show 6144 + ((t.val / 16 * 2 + (y 1).val / 128) * 128 + (y 1).val % 128) = 6144 + (t.val / 16 * 256 + (y 1).val); omega

omit H

/-! ## The host line after the launch -/

abbrev tail (U : Valuation τ sig (Elt Ideal)) : Valuation τ sig (Elt Ideal) := StableHlo.after (hostOps1 (F := Ideal)) U

variable (m c) in
/-- The buffers as the launch leaves them. -/
abbrev landed : Valuation τ sig (Elt Ideal) := Pipeline.withArrays spec0 c (V0 m c) fun w => (dats m 0 c).arrAt w cfg0.N

theorem tail_landed (b : Ref sig .tc) : Pipeline.afterTail₀ cfgs (dats m) 0 (V0 m) [hostOps1] c b = tail (landed m c) (Proc.devRef .tc b) := by
  unfold Pipeline.afterTail₀
  rw [List.flatten_singleton]

theorem arr_inj : Function.Injective (Pipeline.arrRef spec0) := by decide

theorem tail_y (U : Valuation τ sig (Elt Ideal)) (Y : FVec Ideal S8192x2048 .bf16) (hU : U (Proc.devRef .tc main_v118_1) = Y) :
    (tail U (Proc.devRef .tc main_v119) : FVec Ideal S8192x2048 .f32) = extf .f32 Y bitsLt_bf16_f32 := by
  unfold tail
  after_reads_simp
  rw [hU]

include H

theorem host_y : tail (landed m c) (Proc.devRef .tc main_v119) = yArr M (argZ m c) X :=
  (tail_y (landed m c) _ ((Pipeline.withArrays_arr spec0 arr_inj c (V0 m c) _ 5).trans (final_y H M))).trans rfl

end

end Cert.Proof.Gated

end
-- ==== Proof.GatedEqual.lean ====
/-
  The attention call's two results are the reference's at finite arguments.
-/
module

public import proofs.«01_k».proof.Defs
public import proofs.«01_k».proof.Proof.GatedArray
public import proofs.«01_k».proof.Proof.Equal
public import proofs.«01_k».proof.Proof.Gen.Pre_finite_heads
public import proofs.«01_k».proof.Proof.Gen.Reference18Ideal.Run

@[expose] public section

set_option maxRecDepth 16384

noncomputable section

namespace Cert.Proof.Gated

open Cert.Kernel18Ideal Cert.Kernel18Ideal.Gen
open Cert.Proof.Attn (Ins finBit finBit_eq bit_and)
open Idealize.ShloMosaic hiding ix0 ix1 ix2 ix3 eq_ix2 eq_ix3
open Idealize.ShloMosaic.ValueIdx Idealize.ShloMosaic.TcCoe Idealize.SL.Sem
open scoped BigOperators

/-! ## What the precondition says -/

section
variable {x0 x1 x2 : FVec Ideal S8192x16x128 .bf16} {x3 : FVec Ideal S8192x16 .f32} {x4 : FVec Ideal S8192x8192 .bf16}

theorem pre_bits (h : Cert.Pre_finite_heads.fn (F := Ideal) x0 x1 x2 x3 x4 = fun _ => 1#1) (n : Fin 8192) (hd : Fin 16) (d : Fin 128) :
    ((finBit (x0 (ix3 n hd d)) &&& finBit (x1 (ix3 n hd d))) &&& finBit (x2 (ix3 n hd d))) &&& finBit (x3 (ix2 n hd)) = 1#1 := by
  refine Eq.trans ?_ (congrFun h (ix3 n hd d))
  unfold Cert.Pre_finite_heads.fn
  refine congrArg₂ (fun a b : BitVec 1 => a &&& b) rfl (Eq.symm ?_)
  refine (broadcastInDim_apply _ _ _ _ (ix3 n hd 0) fun a => match a with
    | ⟨0, _⟩ => rfl
    | ⟨1, _⟩ => rfl
    | ⟨2, _⟩ => rfl).trans ?_
  exact broadcastInDim_apply _ _ _ _ (ix2 n hd) fun a => match a with
    | ⟨0, _⟩ => rfl
    | ⟨1, _⟩ => rfl

/-- Under the precondition the attention's arguments are real numbers. -/
theorem holds_of_pre (h : Cert.Pre_finite_heads.fn (F := Ideal) x0 x1 x2 x3 x4 = fun _ => 1#1) : ∃ X : Ins, Holds X x0 x1 x2 x3 := by
  refine ⟨⟨fun n h d => EReal.toReal (x0 (ix3 n h d)), fun n h d => EReal.toReal (x1 (ix3 n h d)), fun n h d => EReal.toReal (x2 (ix3 n h d)),
    fun _ _ _ => 0, fun n h => EReal.toReal (x3 (ix2 n h))⟩, ?_, ?_, ?_, ?_⟩ <;> intro i
  · rw [eq_ix3 i]; exact finBit_eq (bit_and (bit_and (bit_and (pre_bits h (i 0) (i 1) (i 2))).1).1).1
  · rw [eq_ix3 i]; exact finBit_eq (bit_and (bit_and (bit_and (pre_bits h (i 0) (i 1) (i 2))).1).1).2
  · rw [eq_ix3 i]; exact finBit_eq (bit_and (bit_and (pre_bits h (i 0) (i 1) (i 2))).1).2
  · rw [eq_ix2 i]; exact finBit_eq (bit_and (pre_bits h (i 0) (i 1) 0)).2

end

/-! ## The two programs' results -/

section
variable (m : (ℓ : Loc nD τ sig) → Buf (Elt Ideal) ℓ) (c : Dev nD) {X : Ins} (H : Reads m c X)
include H
open Cert.Reference18Ideal.Read

theorem same_o : val_main_v36 (F := Ideal) (m (c, Proc.devRef .tc main_arg0)) (m (c, Proc.devRef .tc main_arg1)) (m (c, Proc.devRef .tc main_arg2))
    (m (c, Proc.devRef .tc main_arg3)) = (dats m 0 c).arrAt 4 cfg0.N := by
  obtain ⟨M, HM⟩ := ref_max H
  exact (funext fun i => ref_o H HM i).trans (final_o H M).symm

theorem same_y : val_main_v40 (F := Ideal) (m (c, Proc.devRef .tc main_arg0)) (m (c, Proc.devRef .tc main_arg1)) (m (c, Proc.devRef .tc main_arg2))
    (m (c, Proc.devRef .tc main_arg3)) (m (c, Proc.devRef .tc main_arg4)) = tail (landed m c) (Proc.devRef .tc main_v119) := by
  obtain ⟨M, HM⟩ := ref_max H
  refine Eq.trans (funext fun i => (ref_y H HM _ i).trans ?_) (host_y H M).symm
  refine congrArg (fun z : EReal => HMul.hMul (α := EReal) (β := EReal) (γ := EReal) _ (silu z)) ?_
  refine congrArg (argZ m c) (funext fun a => Fin.ext ?_)
  match a with
  | ⟨0, _⟩ => rfl
  | ⟨1, _⟩ => first | rfl | exact Nat.add_comm _ _

end

/-- At finite arguments the kernel's output and its gated output are the reference's. -/
theorem algebraic : Cert.algebraic_Kernel18Ideal_Reference18Ideal_pre_finite_heads := fun m g m' g' hpre hargs => by
  have hR : ∀ c, ∃ X : Ins, Reads m c X := fun c => holds_of_pre (hpre c)
  refine ⟨fun c => (dats m 0 c).arrAt 4 cfg0.N, fun c => tail (landed m c) (Proc.devRef .tc main_v119), ?_, ?_⟩
  · refine (θ_run _ _ _).mono (fun r h c => ?_) (θ_run_and (run_main (F := Ideal) m g) (unchanged (F := Ideal) m g))
    exact ⟨(h.1 c).1 4,
      ((h.1 c).2 main_v119 (Pipeline.mem_restRefs_of main_v119 (by decide) (by decide))).trans (tail_landed main_v119), h.2 c⟩
  · refine (θ_run _ _ _).mono (fun r h c => ?_) (Cert.Reference18Ideal.Value.run (F := Ideal) m' g')
    obtain ⟨X, H⟩ := hR c
    obtain ⟨a0, a1, a2, a3, a4⟩ := hargs c
    obtain ⟨ho, hy, hrest⟩ := h c
    refine ⟨ho.trans ?_, hy.trans ?_, hrest⟩
    · rw [Cert.Reference18Ideal.Read.val_main_v36_eq, a0, a1, a2, a3]; exact same_o m c H
    · rw [Cert.Reference18Ideal.Read.val_main_v40_eq, a0, a1, a2, a3, a4]; exact same_y m c H

end Cert.Proof.Gated

end
-- ==== Proof.GmlpIn.lean ====
/-
  The gMLP's input projection: the call `a1_in`. Each of its blocks is one product; the
  result is the whole product, and so is the reference's.
-/
module

public import proofs.«01_k».proof.Defs
public import proofs.«01_k».proof.Proof.Gen.Kernel10Ideal.Frame
public import proofs.«01_k».proof.Proof.Gen.Reference10Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.GmlpIn

open Idealize.ShloMosaic hiding ix0 ix2 ix3 eq_ix2 eq_ix3
open Idealize.ShloMosaic.ValueIdx Idealize.ShloMosaic.TcCoe Idealize.SL.Sem
open scoped BigOperators

/-! ## The reference -/

section
open Cert.Reference10Ideal Cert.Reference10Ideal.Gen

/-- The reference's product. -/
theorem ref_at (x : FVec Ideal S8192x2048 .f32) (y : FVec Ideal S2048x12288 .f32) (i : Fin 8192) (j : Fin 12288) :
    Host.dotGeneral dot_S8192x2048_S2048x12288_S8192x12288_1_0_0_1_n_n none x y (ix2 i j)
      = ∑ k : Fin 2048, x (ix2 i k) * y (ix2 k j) := by
  refine (Ideal.dotGeneral_apply _ none _ x y (ix2 i j)).trans ?_
  rw [← Equiv.sum_comp (contrEquiv1 dot_S8192x2048_S2048x12288_S8192x12288_1_0_0_1_n_n 2048 rfl rfl).symm]
  refine Finset.sum_congr rfl fun k _ => ?_
  have hk := contrEquiv1_symm_val dot_S8192x2048_S2048x12288_S8192x12288_1_0_0_1_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

end

/-! ## The launch -/

section
open Cert.Kernel10Ideal Cert.Kernel10Ideal.Gen

variable (m : (ℓ : Loc nD τ sig) → Buf (Elt Ideal) ℓ) (c : Dev nD)

/-- The arguments. -/
abbrev argA : FVec Ideal S8192x2048 .bf16 := m ((c : Thread nD τ).loc main_arg0)
abbrev argB : FVec Ideal S2048x12288 .bf16 := m ((c : Thread nD τ).loc main_arg1)

/-- The two factors, by row and column. -/
def facA (i : Fin 8192) (k : Fin 2048) : EReal := argA m c (ix2 i k)
def facB (k : Fin 2048) (j : Fin 12288) : EReal := argB m c (ix2 k j)

/-- The whole product. -/
def result : FVec Ideal S8192x12288 .f32 := fun i => ∑ k : Fin 2048, facA m c (i 0) k * facB m c k (i 1)

theorem N_eq : cfg0.N = 96 := by decide +kernel
theorem index_0 : ∀ t : Fin grid0.N, win0_0.index t 0 = t.val / 12 ∧ win0_0.index t 1 = 0 := by decide +kernel
theorem index_1 : ∀ t : Fin grid0.N, win0_1.index t 0 = t.val % 12 / 3 ∧ win0_1.index t 1 = 0 ∧ win0_1.index t 2 = t.val % 12 % 3 := by decide +kernel
theorem index_2 : ∀ t : Fin grid0.N, win0_2.index t 0 = t.val / 12 ∧ win0_2.index t 1 = t.val % 12 := by decide +kernel

/-- One block's product. -/
theorem block_dot (x : FVec Ideal S1024x2048 .bf16) (y : FVec Ideal S2048x1024 .bf16) (r : Fin 1024) (s : Fin 1024) :
    FloatOps.matmul dot_S1024x2048_S2048x1024_S1024x1024_1_0_0_1_n_n none x y (constant S1024x1024 .f32 0x00000000#32) (ix2 r s)
      = ∑ l : Fin 2048, x (ix2 r l) * y (ix2 l s) := by
  rw [Ideal.matmul_constant_zero_apply, ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

/-- The weight's block without its leading axis of one. -/
theorem cast_block (y : FVec Ideal S1x2048x1024 .bf16) (p : Fin 2048) (q : Fin 1024) :
    shapeCast S2048x1024 y shapeCasts_S1x2048x1024_S2048x1024 (ix2 p q) = y (ix3 0 p q) :=
  shapeCast_apply _ _ _ (ix3 0 p q) (by
    rw [Shape.rowMajor_val_two, Shape.rowMajor_val_three]
    show (0 * 2048 + p.val) * 1024 + q.val = p.val * 1024 + q.val
    omega)

theorem pay1 (x : FVec Ideal S1024x2048 .bf16) (y : FVec Ideal S1x2048x1024 .bf16) (r : Fin 1024) (s : Fin 1024) :
    k0_pay1 (F := Ideal) x y (ix2 r s) = ∑ l : Fin 2048, x (ix2 r l) * y (ix3 0 l s) := by
  refine (block_dot x _ r s).trans ?_
  simp only [cast_block]

/-- The blocks a point reads. -/
abbrev aB (t : Fin cfg0.N) : FVec Ideal S1024x2048 .bf16 := iblk m c 0 t
abbrev bB (t : Fin cfg0.N) : FVec Ideal S1x2048x1024 .bf16 := iblk m c 1 t

theorem aB_read (t : Fin cfg0.N) (r : Fin 1024) (l : Fin 2048) : aB m c t (ix2 r l) = (V m c main_arg0 : FVec Ideal S8192x2048 .bf16) (ix2 ⟨t.val / 12 * 1024 + r.val, by have := t.isLt; have := N_eq; omega⟩ l) := by
  unfold aB iblk
  rw [View.read_apply]
  show V m c main_arg0 _ = V m c main_arg0 _
  refine congrArg _ (funext fun a => Fin.ext ?_)
  match a with
  | ⟨0, _⟩ => show win0_0.index t 0 * 1024 + 1 * r.val = t.val / 12 * 1024 + r.val; rw [(index_0 t).1]; omega
  | ⟨1, _⟩ => show win0_0.index t 1 * 2048 + 1 * l.val = l.val; rw [(index_0 t).2]; omega

theorem aB_apply (t : Fin cfg0.N) (r : Fin 1024) (l : Fin 2048) : aB m c t (ix2 r l) = facA m c ⟨t.val / 12 * 1024 + r.val, by have := t.isLt; have := N_eq; omega⟩ ⟨l.val, by have := t.isLt; have := N_eq; omega⟩ :=
  (aB_read m c t r l).trans ((congrFun (V_main_arg0 m c) _).trans rfl)

/-- The weight's blocks of columns. -/
theorem lay_B (b : Fin 4) (r : Fin 2048) (q : Fin 3072) :
    (V m c main_v1 : FVec Ideal S4x2048x3072 .bf16) (ix3 b r q) = argB m c (ix2 r ⟨b.val * 3072 + q.val, by omega⟩) := by
  unfold V
  after_reads_simp
  refine (transpose_apply [1, 0, 2] _ transposes_S2048x4x3072_S4x2048x3072_1_0_2 (ix3 b r q) (ix3 r b q) (fun b => match b with
    | ⟨0, _⟩ => rfl
    | ⟨1, _⟩ => rfl
    | ⟨2, _⟩ => rfl)).trans ?_
  exact shapeCast_apply _ shapeCasts_S2048x12288_S2048x4x3072 (ix3 r b q) (ix2 r ⟨b.val * 3072 + q.val, by omega⟩) (by
    rw [Shape.rowMajor_val_two, Shape.rowMajor_val_three]
    show r.val * 12288 + (b.val * 3072 + q.val) = (r.val * 4 + b.val) * 3072 + q.val
    omega)

theorem bB_read (t : Fin cfg0.N) (l : Fin 2048) (s : Fin 1024) : bB m c t (ix3 0 l s) = (V m c main_v1 : FVec Ideal S4x2048x3072 .bf16) (ix3 ⟨t.val % 12 / 3, by have := t.isLt; have := N_eq; omega⟩ l ⟨t.val % 12 % 3 * 1024 + s.val, by have := t.isLt; have := N_eq; omega⟩) := by
  unfold bB iblk
  rw [View.read_apply]
  show V m c main_v1 _ = V m c main_v1 _
  refine congrArg _ (funext fun a => Fin.ext ?_)
  match a with
  | ⟨0, _⟩ => show win0_1.index t 0 * 1 + 1 * 0 = t.val % 12 / 3; rw [(index_1 t).1]; omega
  | ⟨1, _⟩ => show win0_1.index t 1 * 2048 + 1 * l.val = l.val; rw [(index_1 t).2.1]; omega
  | ⟨2, _⟩ => show win0_1.index t 2 * 1024 + 1 * s.val = t.val % 12 % 3 * 1024 + s.val; rw [(index_1 t).2.2]; omega

theorem bB_apply (t : Fin cfg0.N) (l : Fin 2048) (s : Fin 1024) : bB m c t (ix3 0 l s) = facB m c ⟨l.val, by have := t.isLt; have := N_eq; omega⟩ ⟨t.val % 12 * 1024 + s.val, by have := t.isLt; have := N_eq; omega⟩ := by
  have := t.isLt; have := N_eq
  refine (bB_read m c t l s).trans ((lay_B m c _ _ _).trans (congrArg (argB m c) (funext fun a => Fin.ext ?_)))
  match a with
  | ⟨0, _⟩ => show l.val = l.val; omega
  | ⟨1, _⟩ => show t.val % 12 / 3 * 3072 + (t.val % 12 % 3 * 1024 + s.val) = t.val % 12 * 1024 + s.val; omega

theorem emb_out (t : Fin cfg0.N) (y : ((cfg0.win 2).xblock (cfg0.grid.coords t)).Idx) :
    (((cfg0.win 2).blk t).view.emb y : S8192x12288.Idx)
      = ix2 (n0 := 8192) (n1 := 12288) ⟨t.val / 12 * 1024 + (y 0).val, by have := t.isLt; have := N_eq; have : (y 0).val < 1024 := (y 0).isLt; have : (y 1).val < 1024 := (y 1).isLt; omega⟩ ⟨t.val % 12 * 1024 + (y 1).val, by have := t.isLt; have := N_eq; have : (y 0).val < 1024 := (y 0).isLt; have : (y 1).val < 1024 := (y 1).isLt; omega⟩ := by
  funext a; apply Fin.ext
  match a with
  | ⟨0, _⟩ => show win0_2.index t 0 * 1024 + 1 * (y 0).val = t.val / 12 * 1024 + (y 0).val; rw [(index_2 t).1]; omega
  | ⟨1, _⟩ => show win0_2.index t 1 * 1024 + 1 * (y 1).val = t.val % 12 * 1024 + (y 1).val; rw [(index_2 t).2]; omega

/-- The whole product, at the width the launch writes. -/
def landing : FVec Ideal S8192x12288 .bf16 := result m c

/-- The launch's result is the whole product. -/
theorem final : (dats m 0 c).arrAt 2 cfg0.N = landing m c := by
  refine (dats m 0 c).arrAt_eq_of_covers 2 _ (by decide +kernel) fun t hf y => ?_
  have := t.isLt; have := N_eq
  have : (y 0).val < 1024 := (y 0).isLt
  have : (y 1).val < 1024 := (y 1).isLt
  refine (cast_eq _ _).trans ((congrFun (after0_2 m c t) _).trans ?_)
  refine Eq.trans ?_ (congrArg (landing m c) (emb_out t y)).symm
  refine Eq.trans (b := ∑ l : Fin 2048, aB m c t (ix2 (⟨(y 0).val, (y 0).isLt⟩ : Fin 1024) l) * bB m c t (ix3 0 l (⟨(y 1).val, (y 1).isLt⟩ : Fin 1024))) ?_
    (Finset.sum_congr rfl fun l _ => congrArg₂ (fun a b : EReal => a * b) (aB_apply m c t (⟨(y 0).val, (y 0).isLt⟩ : Fin 1024) l) (bB_apply m c t l (⟨(y 1).val, (y 1).isLt⟩ : Fin 1024)))
  refine (congrArg (out0_2 (iblk m c 0 t) (iblk m c 1 t) : FVec Ideal S1024x1024 .bf16) (eq_ix2 _)).trans ?_
  frame_out
  exact pay1 _ _ _ _

/-! ## The host lines after it -/

abbrev tail (U : Valuation τ sig (Elt Ideal)) : Valuation τ sig (Elt Ideal) := StableHlo.after (hostOps1 (F := Ideal)) U

/-- The buffers as the launch leaves them. -/
abbrev landed : Valuation τ sig (Elt Ideal) := Pipeline.withArrays spec0 c (V0 m c) fun w => (dats m 0 c).arrAt w cfg0.N

theorem tail_landed (b : Ref sig .tc) : Pipeline.afterTail₀ cfgs (dats m) 0 (V0 m) [hostOps1] c b = tail (landed m c) (Proc.devRef .tc b) := by
  unfold Pipeline.afterTail₀
  rw [List.flatten_singleton]

theorem arr_inj : Function.Injective (Pipeline.arrRef spec0) := by decide

theorem landed_out : landed m c (Proc.devRef .tc main_v2) = landing m c :=
  (Pipeline.withArrays_arr spec0 arr_inj c (V0 m c) _ 2).trans (final m c)

theorem tail_out (U : Valuation τ sig (Elt Ideal)) (X : FVec Ideal S8192x12288 .bf16) (hU : U (Proc.devRef .tc main_v2) = X) :
    (tail U (Proc.devRef .tc main_v3) : FVec Ideal S8192x12288 .f32) = extf .f32 X bitsLt_bf16_f32 := by
  unfold tail
  after_reads_simp
  rw [hU]

theorem host_result : tail (landed m c) (Proc.devRef .tc main_v3) = result m c :=
  (tail_out (landed m c) _ (landed_out m c)).trans rfl

end

/-! ## Equal -/

/-- The launch's result is the reference's. -/
theorem algebraic : Cert.algebraic_Kernel10Ideal_Reference10Ideal := fun m g m' g' _ hargs => by
  refine ⟨fun c => result m c, ?_, ?_⟩
  · refine (θ_run _ _ _).mono (fun r h c => ?_) (θ_run_and (Cert.Kernel10Ideal.Gen.run_main (F := Ideal) m g) (Cert.Kernel10Ideal.Gen.unchanged (F := Ideal) m g))
    exact ⟨((h.1 c).2 Cert.Kernel10Ideal.main_v3 (Pipeline.mem_restRefs_of Cert.Kernel10Ideal.main_v3 (by decide) (by decide))).trans
      ((tail_landed m c _).trans (host_result m c)), h.2 c⟩
  · refine (θ_run _ _ _).mono (fun r h c => ?_) (Cert.Reference10Ideal.Value.run (F := Ideal) m' g')
    obtain ⟨a0, a1⟩ := hargs c
    refine ⟨(h c).1.trans ?_, (h c).2⟩
    rw [a0, a1]
    funext i
    rw [eq_ix2 i]
    exact ref_at _ _ (i 0) (i 1)

end Cert.Proof.GmlpIn

end
-- ==== Proof.AttnOutDw.lean ====
/-
  The gradient of the attention's output projection by its weight: the call `b1_dwout`. Its blocks are summed over 8 blocks of the contracted axis; the
  result is the whole product, and so is the reference's.
-/
module

public import proofs.«01_k».proof.Defs
public import proofs.«01_k».proof.Proof.Gen.Kernel9Ideal.Value
public import proofs.«01_k».proof.Proof.Gen.Reference9Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.AttnOutDw

open Idealize.ShloMosaic hiding ix0 ix2 ix3 eq_ix2 eq_ix3
open Idealize.ShloMosaic.ValueIdx Idealize.ShloMosaic.TcCoe Idealize.SL.Sem
open scoped BigOperators

/-! ## The reference -/

section
open Cert.Reference9Ideal Cert.Reference9Ideal.Gen

/-- The reference's product. -/
theorem ref_at (x : FVec Ideal S8192x2048 .f32) (y : FVec Ideal S8192x2048 .f32) (i : Fin 2048) (j : Fin 2048) :
    transpose S2048x2048 [1, 0] (Host.dotGeneral dot_S8192x2048_S8192x2048_S2048x2048_0_0_1_1_n_n none x y) transposes_S2048x2048_S2048x2048_1_0 (ix2 i j)
      = ∑ k : Fin 8192, y (ix2 k i) * x (ix2 k j) := by
  refine (transpose_apply [1, 0] _ transposes_S2048x2048_S2048x2048_1_0 (ix2 i j) (ix2 j i) (fun b => match b with
    | ⟨0, _⟩ => rfl
    | ⟨1, _⟩ => rfl)).trans ?_
  refine (Ideal.dotGeneral_apply _ none _ x y (ix2 j i)).trans ?_
  rw [← Equiv.sum_comp (contrEquiv1 dot_S8192x2048_S8192x2048_S2048x2048_0_0_1_1_n_n 8192 rfl rfl).symm]
  refine Finset.sum_congr rfl fun k _ => ?_
  have hk := contrEquiv1_symm_val dot_S8192x2048_S8192x2048_S2048x2048_0_0_1_1_n_n 8192 rfl rfl k
  refine Eq.trans ?_ (mul_comm _ _)
  refine congrArg₂ (· * ·) (congrArg x ?_) (congrArg y ?_) <;> funext a <;> apply Fin.ext
  · match a with
    | ⟨0, _⟩ => exact hk
    | ⟨1, _⟩ => rfl
  · match a with
    | ⟨0, _⟩ => exact hk
    | ⟨1, _⟩ => rfl

end

/-! ## The launch -/

section
open Cert.Kernel9Ideal Cert.Kernel9Ideal.Gen

variable (m : (ℓ : Loc nD τ sig) → Buf (Elt Ideal) ℓ) (c : Dev nD)

/-- The arguments. -/
abbrev argA : FVec Ideal S8192x2048 .bf16 := m ((c : Thread nD τ).loc main_arg0)
abbrev argB : FVec Ideal S8192x2048 .bf16 := m ((c : Thread nD τ).loc main_arg1)

/-- The two factors, by row and column. -/
def facA (i : Fin 2048) (k : Fin 8192) : EReal := argA m c (ix2 k i)
def facB (k : Fin 8192) (j : Fin 2048) : EReal := argB m c (ix2 k j)

/-- The whole product. -/
def result : FVec Ideal S2048x2048 .f32 := fun i => ∑ k : Fin 8192, facA m c (i 0) k * facB m c k (i 1)

theorem N_eq : cfg0.N = 16 := by decide +kernel
theorem index_0 : ∀ t : Fin grid0.N, win0_0.index t 0 = t.val % 8 ∧ win0_0.index t 1 = 0 := by decide +kernel
theorem index_1 : ∀ t : Fin grid0.N, win0_1.index t 0 = t.val % 8 ∧ win0_1.index t 1 = t.val / 8 := by decide +kernel
theorem index_2 : ∀ t : Fin grid0.N, win0_2.index t 0 = 0 ∧ win0_2.index t 1 = t.val / 8 := by decide +kernel

/-- One block's product. -/
theorem block_dot (x : FVec Ideal S1024x2048 .bf16) (y : FVec Ideal S1024x1024 .bf16) (r : Fin 2048) (s : Fin 1024) :
    FloatOps.matmul dot_S1024x2048_S1024x1024_S2048x1024_0_0_1_1_n_n none x y (constant S2048x1024 .f32 0x00000000#32) (ix2 r s)
      = ∑ l : Fin 1024, x (ix2 l r) * y (ix2 l s) := by
  rw [Ideal.matmul_constant_zero_apply, ← Equiv.sum_comp (contrEquiv1 dot_S1024x2048_S1024x1024_S2048x1024_0_0_1_1_n_n 1024 rfl rfl).symm]
  refine Finset.sum_congr rfl fun k _ => ?_
  have hk := contrEquiv1_symm_val dot_S1024x2048_S1024x1024_S2048x1024_0_0_1_1_n_n 1024 rfl rfl k
  refine congrArg₂ (· * ·) (congrArg x ?_) (congrArg y ?_) <;> funext a <;> apply Fin.ext
  · match a with
    | ⟨0, _⟩ => exact hk
    | ⟨1, _⟩ => rfl
  · match a with
    | ⟨0, _⟩ => exact hk
    | ⟨1, _⟩ => rfl

theorem pay1 (x : FVec Ideal S1024x2048 .bf16) (y : FVec Ideal S1024x1024 .bf16) (r : Fin 2048) (s : Fin 1024) :
    k0_pay1 (F := Ideal) x y (ix2 r s) = (0 : EReal) + ∑ l : Fin 1024, x (ix2 l r) * y (ix2 l s) := by
  rw [zero_add]
  refine (block_dot x _ r s).trans ?_
  rfl

theorem pay2 (v : FVec Ideal S2048x1024 .f32) (x : FVec Ideal S1024x2048 .bf16) (y : FVec Ideal S1024x1024 .bf16) (r : Fin 2048) (s : Fin 1024) :
    k0_pay2 (F := Ideal) v x y (ix2 r s) = v (ix2 r s) + ∑ l : Fin 1024, x (ix2 l r) * y (ix2 l s) := by
  unfold k0_pay2
  rw [shapeCast_self]
  refine congrArg (v (ix2 r s) + ·) ((block_dot x _ r s).trans ?_)
  rfl

/-- The blocks a point reads. -/
abbrev aB (t : Fin cfg0.N) : FVec Ideal S1024x2048 .bf16 := iblk m c 0 t
abbrev bB (t : Fin cfg0.N) : FVec Ideal S1024x1024 .bf16 := iblk m c 1 t

theorem aB_read (t : Fin cfg0.N) (r : Fin 2048) (l : Fin 1024) : aB m c t (ix2 l r) = (V m c main_arg0 : FVec Ideal S8192x2048 .bf16) (ix2 ⟨t.val % 8 * 1024 + l.val, by have := t.isLt; have := N_eq; omega⟩ r) := by
  unfold aB iblk
  rw [View.read_apply]
  show V m c main_arg0 _ = V m c main_arg0 _
  refine congrArg _ (funext fun a => Fin.ext ?_)
  match a with
  | ⟨0, _⟩ => show win0_0.index t 0 * 1024 + 1 * l.val = t.val % 8 * 1024 + l.val; rw [(index_0 t).1]; omega
  | ⟨1, _⟩ => show win0_0.index t 1 * 2048 + 1 * r.val = r.val; rw [(index_0 t).2]; omega

theorem aB_apply (t : Fin cfg0.N) (r : Fin 2048) (l : Fin 1024) : aB m c t (ix2 l r) = facA m c ⟨r.val, by have := t.isLt; have := N_eq; omega⟩ ⟨t.val % 8 * 1024 + l.val, by have := t.isLt; have := N_eq; omega⟩ :=
  (aB_read m c t r l).trans ((congrFun (V_main_arg0 m c) _).trans rfl)

theorem bB_read (t : Fin cfg0.N) (l : Fin 1024) (s : Fin 1024) : bB m c t (ix2 l s) = (V m c main_arg1 : FVec Ideal S8192x2048 .bf16) (ix2 ⟨t.val % 8 * 1024 + l.val, by have := t.isLt; have := N_eq; omega⟩ ⟨t.val / 8 * 1024 + s.val, by have := t.isLt; have := N_eq; omega⟩) := by
  unfold bB iblk
  rw [View.read_apply]
  show V m c main_arg1 _ = V m c main_arg1 _
  refine congrArg _ (funext fun a => Fin.ext ?_)
  match a with
  | ⟨0, _⟩ => show win0_1.index t 0 * 1024 + 1 * l.val = t.val % 8 * 1024 + l.val; rw [(index_1 t).1]; omega
  | ⟨1, _⟩ => show win0_1.index t 1 * 1024 + 1 * s.val = t.val / 8 * 1024 + s.val; rw [(index_1 t).2]; omega

theorem bB_apply (t : Fin cfg0.N) (l : Fin 1024) (s : Fin 1024) : bB m c t (ix2 l s) = facB m c ⟨t.val % 8 * 1024 + l.val, by have := t.isLt; have := N_eq; omega⟩ ⟨t.val / 8 * 1024 + s.val, by have := t.isLt; have := N_eq; omega⟩ :=
  (bB_read m c t l s).trans ((congrFun (V_main_arg1 m c) _).trans rfl)

/-- What the last of a block's 8 points leaves. -/
theorem out_sum (t : Fin cfg0.N) (h : t.val % 8 = 7) (i : Fin 2048 × Fin 1024) :
    (outsAt0 m c t.val t.isLt : FVec Ideal S2048x1024 .f32) (ix2 i.1 i.2)
      = ∑ s : Fin 8, ∑ l : Fin 1024, aB m c ⟨8 * (t.val / 8) + s.val, by have := t.isLt; have := N_eq; omega⟩ (ix2 l i.1) * bB m c ⟨8 * (t.val / 8) + s.val, by have := t.isLt; have := N_eq; omega⟩ (ix2 l i.2) := by
  rw [Pipeline.eq_sum_fin_of_reset_step_apply_of_flush (fun n h (i : Fin 2048 × Fin 1024) => (outsAt0 m c n h : FVec Ideal S2048x1024 .f32) (ix2 i.1 i.2)) 8
    (fun _ => (0 : EReal)) (fun t i => ∑ l : Fin 1024, aB m c t (ix2 l i.1) * bB m c t (ix2 l i.2))
    (fun t h i => by rw [outsAt0_A m c t h (by omega)]; frame_out; exact pay1 _ _ _ _)
    (fun t h i => by rw [outsAt0_B m c t h (by omega)]; frame_out; exact pay2 _ _ _ _ _) t h i]
  exact zero_add _

theorem emb_out (t : Fin cfg0.N) (y : ((cfg0.win 2).xblock (cfg0.grid.coords t)).Idx) :
    (((cfg0.win 2).blk t).view.emb y : S2048x2048.Idx)
      = ix2 (n0 := 2048) (n1 := 2048) ⟨(y 0).val, by have := t.isLt; have := N_eq; have : (y 0).val < 2048 := (y 0).isLt; have : (y 1).val < 1024 := (y 1).isLt; omega⟩ ⟨t.val / 8 * 1024 + (y 1).val, by have := t.isLt; have := N_eq; have : (y 0).val < 2048 := (y 0).isLt; have : (y 1).val < 1024 := (y 1).isLt; omega⟩ := by
  funext a; apply Fin.ext
  match a with
  | ⟨0, _⟩ => show win0_2.index t 0 * 2048 + 1 * (y 0).val = (y 0).val; rw [(index_2 t).1]; omega
  | ⟨1, _⟩ => show win0_2.index t 1 * 1024 + 1 * (y 1).val = t.val / 8 * 1024 + (y 1).val; rw [(index_2 t).2]; omega

/-- The launch's result is the whole product. -/
theorem final : (dats m 0 c).arrAt 2 cfg0.N = result m c := by
  refine (dats m 0 c).arrAt_eq_of_covers 2 _ (by decide +kernel) fun t hf y => ?_
  have := t.isLt; have := N_eq
  have : (y 0).val < 2048 := (y 0).isLt
  have : (y 1).val < 1024 := (y 1).isLt
  have hm : t.val % 8 = 7 := (flush0_2 t).mp hf
  refine (cast_eq _ _).trans ((congrFun (after0_2 m c t) _).trans ((congrArg (outsAt0 m c t.val t.isLt : FVec Ideal S2048x1024 .f32) (eq_ix2 _)).trans
    ((out_sum m c t hm ((⟨(y 0).val, (y 0).isLt⟩ : Fin 2048), (⟨(y 1).val, (y 1).isLt⟩ : Fin 1024))).trans ?_)))
  refine Eq.trans ?_ (congrArg (result m c) (emb_out t y)).symm
  refine Eq.trans ?_ (sum_blocks 8 1024 rfl _).symm
  refine Finset.sum_congr rfl fun s _ => Finset.sum_congr rfl fun l _ => ?_
  rw [aB_apply, bB_apply]
  refine congrArg₂ (· * ·) (congrArg₂ (facA m c) (Fin.ext ?_) (Fin.ext ?_)) (congrArg₂ (facB m c) (Fin.ext ?_) (Fin.ext ?_))
  · show (y 0).val = (y 0).val; omega
  · show (8 * (t.val / 8) + s.val) % 8 * 1024 + l.val = s.val * 1024 + l.val; omega
  · show (8 * (t.val / 8) + s.val) % 8 * 1024 + l.val = s.val * 1024 + l.val; omega
  · show (8 * (t.val / 8) + s.val) / 8 * 1024 + (y 1).val = t.val / 8 * 1024 + (y 1).val; omega

end

/-! ## Equal -/

/-- The launch's result is the reference's. -/
theorem algebraic : Cert.algebraic_Kernel9Ideal_Reference9Ideal := fun m g m' g' _ hargs => by
  refine ⟨fun c => result m c, ?_, ?_⟩
  · refine (θ_run _ _ _).mono (fun r h c => ?_) (Cert.Kernel9Ideal.Value.run_blocks (F := Ideal) m g)
    exact ⟨(h c).1.trans (final m c), (h c).2⟩
  · refine (θ_run _ _ _).mono (fun r h c => ?_) (Cert.Reference9Ideal.Value.run (F := Ideal) m' g')
    obtain ⟨a0, a1⟩ := hargs c
    refine ⟨(h c).1.trans ?_, (h c).2⟩
    rw [a0, a1]
    funext i
    rw [eq_ix2 i]
    exact ref_at _ _ (i 0) (i 1)

end Cert.Proof.AttnOutDw

end
-- ==== Proof.AttnOutDx.lean ====
/-
  The gradient of the attention's output projection by its input: the call `b1_dy`. Each of its blocks is one product; the
  result is the whole product, and so is the reference's.
-/
module

public import proofs.«01_k».proof.Defs
public import proofs.«01_k».proof.Proof.Gen.Kernel8Ideal.Frame
public import proofs.«01_k».proof.Proof.Gen.Reference8Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.AttnOutDx

open Idealize.ShloMosaic hiding ix0 ix2 ix3 eq_ix2 eq_ix3
open Idealize.ShloMosaic.ValueIdx Idealize.ShloMosaic.TcCoe Idealize.SL.Sem
open scoped BigOperators

/-! ## The reference -/

section
open Cert.Reference8Ideal Cert.Reference8Ideal.Gen

/-- The reference's product. -/
theorem ref_at (x : FVec Ideal S8192x2048 .f32) (y : FVec Ideal S2048x2048 .f32) (i : Fin 8192) (j : Fin 2048) :
    Host.dotGeneral dot_S8192x2048_S2048x2048_S8192x2048_1_1_0_0_n_n none x y (ix2 i j)
      = ∑ k : Fin 2048, x (ix2 i k) * y (ix2 j k) := by
  refine (Ideal.dotGeneral_apply _ none _ x y (ix2 i j)).trans ?_
  rw [← Equiv.sum_comp (contrEquiv1 dot_S8192x2048_S2048x2048_S8192x2048_1_1_0_0_n_n 2048 rfl rfl).symm]
  refine Finset.sum_congr rfl fun k _ => ?_
  have hk := contrEquiv1_symm_val dot_S8192x2048_S2048x2048_S8192x2048_1_1_0_0_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => rfl
    | ⟨1, _⟩ => exact hk

end

/-! ## The launch -/

section
open Cert.Kernel8Ideal Cert.Kernel8Ideal.Gen

variable (m : (ℓ : Loc nD τ sig) → Buf (Elt Ideal) ℓ) (c : Dev nD)

/-- The arguments. -/
abbrev argA : FVec Ideal S8192x2048 .bf16 := m ((c : Thread nD τ).loc main_arg1)
abbrev argB : FVec Ideal S2048x2048 .bf16 := m ((c : Thread nD τ).loc main_arg0)

/-- The two factors, by row and column. -/
def facA (i : Fin 8192) (k : Fin 2048) : EReal := argA m c (ix2 i k)
def facB (k : Fin 2048) (j : Fin 2048) : EReal := argB m c (ix2 j k)

/-- The whole product. -/
def result : FVec Ideal S8192x2048 .f32 := fun i => ∑ k : Fin 2048, facA m c (i 0) k * facB m c k (i 1)

theorem N_eq : cfg0.N = 32 := by decide +kernel
theorem index_0 : ∀ t : Fin grid0.N, win0_0.index t 0 = t.val / 4 ∧ win0_0.index t 1 = 0 := by decide +kernel
theorem index_1 : ∀ t : Fin grid0.N, win0_1.index t 0 = t.val % 4 ∧ win0_1.index t 1 = 0 ∧ win0_1.index t 2 = 0 := by decide +kernel
theorem index_2 : ∀ t : Fin grid0.N, win0_2.index t 0 = t.val / 4 ∧ win0_2.index t 1 = t.val % 4 := by decide +kernel

/-- One block's product. -/
theorem block_dot (x : FVec Ideal S1024x2048 .bf16) (y : FVec Ideal S512x2048 .bf16) (r : Fin 1024) (s : Fin 512) :
    FloatOps.matmul dot_S1024x2048_S512x2048_S1024x512_1_1_0_0_n_n none x y (constant S1024x512 .f32 0x00000000#32) (ix2 r s)
      = ∑ l : Fin 2048, x (ix2 r l) * y (ix2 s l) := by
  rw [Ideal.matmul_constant_zero_apply, ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => rfl
    | ⟨1, _⟩ => exact hk

/-- The weight's block without its leading axis of one. -/
theorem cast_block (y : FVec Ideal S1x512x2048 .bf16) (p : Fin 512) (q : Fin 2048) :
    shapeCast S512x2048 y shapeCasts_S1x512x2048_S512x2048 (ix2 p q) = y (ix3 0 p q) :=
  shapeCast_apply _ _ _ (ix3 0 p q) (by
    rw [Shape.rowMajor_val_two, Shape.rowMajor_val_three]
    show (0 * 512 + p.val) * 2048 + q.val = p.val * 2048 + q.val
    omega)

theorem pay1 (x : FVec Ideal S1024x2048 .bf16) (y : FVec Ideal S1x512x2048 .bf16) (r : Fin 1024) (s : Fin 512) :
    k0_pay1 (F := Ideal) x y (ix2 r s) = ∑ l : Fin 2048, x (ix2 r l) * y (ix3 0 s l) := by
  refine (block_dot x _ r s).trans ?_
  simp only [cast_block]

/-- The blocks a point reads. -/
abbrev aB (t : Fin cfg0.N) : FVec Ideal S1024x2048 .bf16 := iblk m c 0 t
abbrev bB (t : Fin cfg0.N) : FVec Ideal S1x512x2048 .bf16 := iblk m c 1 t

theorem aB_read (t : Fin cfg0.N) (r : Fin 1024) (l : Fin 2048) : aB m c t (ix2 r l) = (V m c main_arg1 : FVec Ideal S8192x2048 .bf16) (ix2 ⟨t.val / 4 * 1024 + r.val, by have := t.isLt; have := N_eq; omega⟩ l) := by
  unfold aB iblk
  rw [View.read_apply]
  show V m c main_arg1 _ = V m c main_arg1 _
  refine congrArg _ (funext fun a => Fin.ext ?_)
  match a with
  | ⟨0, _⟩ => show win0_0.index t 0 * 1024 + 1 * r.val = t.val / 4 * 1024 + r.val; rw [(index_0 t).1]; omega
  | ⟨1, _⟩ => show win0_0.index t 1 * 2048 + 1 * l.val = l.val; rw [(index_0 t).2]; omega

theorem aB_apply (t : Fin cfg0.N) (r : Fin 1024) (l : Fin 2048) : aB m c t (ix2 r l) = facA m c ⟨t.val / 4 * 1024 + r.val, by have := t.isLt; have := N_eq; omega⟩ ⟨l.val, by have := t.isLt; have := N_eq; omega⟩ :=
  (aB_read m c t r l).trans ((congrFun (V_main_arg1 m c) _).trans rfl)

/-- The weight's blocks of rows. -/
theorem lay_B (b : Fin 4) (r : Fin 512) (q : Fin 2048) :
    (V m c main_v0 : FVec Ideal S4x512x2048 .bf16) (ix3 b r q) = argB m c (ix2 ⟨b.val * 512 + r.val, by omega⟩ q) := by
  unfold V
  after_reads_simp
  exact shapeCast_apply _ shapeCasts_S2048x2048_S4x512x2048 (ix3 b r q) (ix2 ⟨b.val * 512 + r.val, by omega⟩ q) (by
    rw [Shape.rowMajor_val_two, Shape.rowMajor_val_three]
    show (b.val * 512 + r.val) * 2048 + q.val = (b.val * 512 + r.val) * 2048 + q.val
    rfl)

theorem bB_read (t : Fin cfg0.N) (l : Fin 2048) (s : Fin 512) : bB m c t (ix3 0 s l) = (V m c main_v0 : FVec Ideal S4x512x2048 .bf16) (ix3 ⟨t.val % 4, by have := t.isLt; have := N_eq; omega⟩ s l) := by
  unfold bB iblk
  rw [View.read_apply]
  show V m c main_v0 _ = V m c main_v0 _
  refine congrArg _ (funext fun a => Fin.ext ?_)
  match a with
  | ⟨0, _⟩ => show win0_1.index t 0 * 1 + 1 * 0 = t.val % 4; rw [(index_1 t).1]; omega
  | ⟨1, _⟩ => show win0_1.index t 1 * 512 + 1 * s.val = s.val; rw [(index_1 t).2.1]; omega
  | ⟨2, _⟩ => show win0_1.index t 2 * 2048 + 1 * l.val = l.val; rw [(index_1 t).2.2]; omega

theorem bB_apply (t : Fin cfg0.N) (l : Fin 2048) (s : Fin 512) : bB m c t (ix3 0 s l) = facB m c ⟨l.val, by have := t.isLt; have := N_eq; omega⟩ ⟨t.val % 4 * 512 + s.val, by have := t.isLt; have := N_eq; omega⟩ := by
  have := t.isLt; have := N_eq
  refine (bB_read m c t l s).trans ((lay_B m c _ _ _).trans (congrArg (argB m c) (funext fun a => Fin.ext ?_)))
  match a with
  | ⟨0, _⟩ => show t.val % 4 * 512 + s.val = t.val % 4 * 512 + s.val; omega
  | ⟨1, _⟩ => show l.val = l.val; omega

theorem emb_out (t : Fin cfg0.N) (y : ((cfg0.win 2).xblock (cfg0.grid.coords t)).Idx) :
    (((cfg0.win 2).blk t).view.emb y : S8192x2048.Idx)
      = ix2 (n0 := 8192) (n1 := 2048) ⟨t.val / 4 * 1024 + (y 0).val, by have := t.isLt; have := N_eq; have : (y 0).val < 1024 := (y 0).isLt; have : (y 1).val < 512 := (y 1).isLt; omega⟩ ⟨t.val % 4 * 512 + (y 1).val, by have := t.isLt; have := N_eq; have : (y 0).val < 1024 := (y 0).isLt; have : (y 1).val < 512 := (y 1).isLt; omega⟩ := by
  funext a; apply Fin.ext
  match a with
  | ⟨0, _⟩ => show win0_2.index t 0 * 1024 + 1 * (y 0).val = t.val / 4 * 1024 + (y 0).val; rw [(index_2 t).1]; omega
  | ⟨1, _⟩ => show win0_2.index t 1 * 512 + 1 * (y 1).val = t.val % 4 * 512 + (y 1).val; rw [(index_2 t).2]; omega

/-- The whole product, at the width the launch writes. -/
def landing : FVec Ideal S8192x2048 .bf16 := result m c

/-- The launch's result is the whole product. -/
theorem final : (dats m 0 c).arrAt 2 cfg0.N = landing m c := by
  refine (dats m 0 c).arrAt_eq_of_covers 2 _ (by decide +kernel) fun t hf y => ?_
  have := t.isLt; have := N_eq
  have : (y 0).val < 1024 := (y 0).isLt
  have : (y 1).val < 512 := (y 1).isLt
  refine (cast_eq _ _).trans ((congrFun (after0_2 m c t) _).trans ?_)
  refine Eq.trans ?_ (congrArg (landing m c) (emb_out t y)).symm
  refine Eq.trans (b := ∑ l : Fin 2048, aB m c t (ix2 (⟨(y 0).val, (y 0).isLt⟩ : Fin 1024) l) * bB m c t (ix3 0 (⟨(y 1).val, (y 1).isLt⟩ : Fin 512) l)) ?_
    (Finset.sum_congr rfl fun l _ => congrArg₂ (fun a b : EReal => a * b) (aB_apply m c t (⟨(y 0).val, (y 0).isLt⟩ : Fin 1024) l) (bB_apply m c t l (⟨(y 1).val, (y 1).isLt⟩ : Fin 512)))
  refine (congrArg (out0_2 (iblk m c 0 t) (iblk m c 1 t) : FVec Ideal S1024x512 .bf16) (eq_ix2 _)).trans ?_
  frame_out
  exact pay1 _ _ _ _

/-! ## The host lines after it -/

abbrev tail (U : Valuation τ sig (Elt Ideal)) : Valuation τ sig (Elt Ideal) := StableHlo.after (hostOps1 (F := Ideal)) U

/-- The buffers as the launch leaves them. -/
abbrev landed : Valuation τ sig (Elt Ideal) := Pipeline.withArrays spec0 c (V0 m c) fun w => (dats m 0 c).arrAt w cfg0.N

theorem tail_landed (b : Ref sig .tc) : Pipeline.afterTail₀ cfgs (dats m) 0 (V0 m) [hostOps1] c b = tail (landed m c) (Proc.devRef .tc b) := by
  unfold Pipeline.afterTail₀
  rw [List.flatten_singleton]

theorem arr_inj : Function.Injective (Pipeline.arrRef spec0) := by decide

theorem landed_out : landed m c (Proc.devRef .tc main_v1) = landing m c :=
  (Pipeline.withArrays_arr spec0 arr_inj c (V0 m c) _ 2).trans (final m c)

theorem tail_out (U : Valuation τ sig (Elt Ideal)) (X : FVec Ideal S8192x2048 .bf16) (hU : U (Proc.devRef .tc main_v1) = X) :
    (tail U (Proc.devRef .tc main_v2) : FVec Ideal S8192x2048 .f32) = extf .f32 X bitsLt_bf16_f32 := by
  unfold tail
  after_reads_simp
  rw [hU]

theorem host_result : tail (landed m c) (Proc.devRef .tc main_v2) = result m c :=
  (tail_out (landed m c) _ (landed_out m c)).trans rfl

end

/-! ## Equal -/

/-- The launch's result is the reference's. -/
theorem algebraic : Cert.algebraic_Kernel8Ideal_Reference8Ideal := fun m g m' g' _ hargs => by
  refine ⟨fun c => result m c, ?_, ?_⟩
  · refine (θ_run _ _ _).mono (fun r h c => ?_) (θ_run_and (Cert.Kernel8Ideal.Gen.run_main (F := Ideal) m g) (Cert.Kernel8Ideal.Gen.unchanged (F := Ideal) m g))
    exact ⟨((h.1 c).2 Cert.Kernel8Ideal.main_v2 (Pipeline.mem_restRefs_of Cert.Kernel8Ideal.main_v2 (by decide) (by decide))).trans
      ((tail_landed m c _).trans (host_result m c)), h.2 c⟩
  · refine (θ_run _ _ _).mono (fun r h c => ?_) (Cert.Reference8Ideal.Value.run (F := Ideal) m' g')
    obtain ⟨a0, a1⟩ := hargs c
    refine ⟨(h c).1.trans ?_, (h c).2⟩
    rw [a0, a1]
    funext i
    rw [eq_ix2 i]
    exact ref_at _ _ (i 0) (i 1)

end Cert.Proof.AttnOutDx

end
-- ==== Proof.AttnInDw.lean ====
/-
  The gradient of the attention's input projection by its weight: the call `b1_dwin`. Its blocks are summed over 8 blocks of the contracted axis; the
  result is the whole product, and so is the reference's.
-/
module

public import proofs.«01_k».proof.Defs
public import proofs.«01_k».proof.Proof.Gen.Kernel7Ideal.Value
public import proofs.«01_k».proof.Proof.Gen.Reference7Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.AttnInDw

open Idealize.ShloMosaic hiding ix0 ix2 ix3 eq_ix2 eq_ix3
open Idealize.ShloMosaic.ValueIdx Idealize.ShloMosaic.TcCoe Idealize.SL.Sem
open scoped BigOperators

/-! ## The reference -/

section
open Cert.Reference7Ideal Cert.Reference7Ideal.Gen

/-- The reference's product. -/
theorem ref_at (x : FVec Ideal S8192x8192 .f32) (y : FVec Ideal S8192x2048 .f32) (i : Fin 2048) (j : Fin 8192) :
    transpose S2048x8192 [1, 0] (Host.dotGeneral dot_S8192x8192_S8192x2048_S8192x2048_0_0_1_1_n_n none x y) transposes_S8192x2048_S2048x8192_1_0 (ix2 i j)
      = ∑ k : Fin 8192, y (ix2 k i) * x (ix2 k j) := by
  refine (transpose_apply [1, 0] _ transposes_S8192x2048_S2048x8192_1_0 (ix2 i j) (ix2 j i) (fun b => match b with
    | ⟨0, _⟩ => rfl
    | ⟨1, _⟩ => rfl)).trans ?_
  refine (Ideal.dotGeneral_apply _ none _ x y (ix2 j i)).trans ?_
  rw [← Equiv.sum_comp (contrEquiv1 dot_S8192x8192_S8192x2048_S8192x2048_0_0_1_1_n_n 8192 rfl rfl).symm]
  refine Finset.sum_congr rfl fun k _ => ?_
  have hk := contrEquiv1_symm_val dot_S8192x8192_S8192x2048_S8192x2048_0_0_1_1_n_n 8192 rfl rfl k
  refine Eq.trans ?_ (mul_comm _ _)
  refine congrArg₂ (· * ·) (congrArg x ?_) (congrArg y ?_) <;> funext a <;> apply Fin.ext
  · match a with
    | ⟨0, _⟩ => exact hk
    | ⟨1, _⟩ => rfl
  · match a with
    | ⟨0, _⟩ => exact hk
    | ⟨1, _⟩ => rfl

end

/-! ## The launch -/

section
open Cert.Kernel7Ideal Cert.Kernel7Ideal.Gen

variable (m : (ℓ : Loc nD τ sig) → Buf (Elt Ideal) ℓ) (c : Dev nD)

/-- The arguments. -/
abbrev argA : FVec Ideal S8192x2048 .bf16 := m ((c : Thread nD τ).loc main_arg0)
abbrev argB : FVec Ideal S8192x8192 .bf16 := m ((c : Thread nD τ).loc main_arg1)

/-- The two factors, by row and column. -/
def facA (i : Fin 2048) (k : Fin 8192) : EReal := argA m c (ix2 k i)
def facB (k : Fin 8192) (j : Fin 8192) : EReal := argB m c (ix2 k j)

/-- The whole product. -/
def result : FVec Ideal S2048x8192 .f32 := fun i => ∑ k : Fin 8192, facA m c (i 0) k * facB m c k (i 1)

theorem N_eq : cfg0.N = 64 := by decide +kernel
theorem index_0 : ∀ t : Fin grid0.N, win0_0.index t 0 = 0 ∧ win0_0.index t 1 = t.val % 8 := by decide +kernel
theorem index_1 : ∀ t : Fin grid0.N, win0_1.index t 0 = t.val % 8 ∧ win0_1.index t 1 = t.val / 8 := by decide +kernel
theorem index_2 : ∀ t : Fin grid0.N, win0_2.index t 0 = 0 ∧ win0_2.index t 1 = t.val / 8 := by decide +kernel

/-- One block's product. -/
theorem block_dot (x : FVec Ideal S2048x1024 .bf16) (y : FVec Ideal S1024x1024 .bf16) (r : Fin 2048) (s : Fin 1024) :
    FloatOps.matmul dot_S2048x1024_S1024x1024_S2048x1024_1_0_0_1_n_n none x y (constant S2048x1024 .f32 0x00000000#32) (ix2 r s)
      = ∑ l : Fin 1024, x (ix2 r l) * y (ix2 l s) := by
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

theorem pay1 (x : FVec Ideal S2048x1024 .bf16) (y : FVec Ideal S1024x1024 .bf16) (r : Fin 2048) (s : Fin 1024) :
    k0_pay1 (F := Ideal) x y (ix2 r s) = (0 : EReal) + ∑ l : Fin 1024, x (ix2 r l) * y (ix2 l s) := by
  rw [zero_add]
  unfold k0_pay1
  rw [shapeCast_self]
  refine (block_dot x _ r s).trans ?_
  rfl

theorem pay2 (v : FVec Ideal S2048x1024 .f32) (x : FVec Ideal S2048x1024 .bf16) (y : FVec Ideal S1024x1024 .bf16) (r : Fin 2048) (s : Fin 1024) :
    k0_pay2 (F := Ideal) v x y (ix2 r s) = v (ix2 r s) + ∑ l : Fin 1024, x (ix2 r l) * y (ix2 l s) := by
  unfold k0_pay2
  rw [shapeCast_self, shapeCast_self]
  refine congrArg (v (ix2 r s) + ·) ((block_dot x _ r s).trans ?_)
  rfl

/-- The blocks a point reads. -/
abbrev aB (t : Fin cfg0.N) : FVec Ideal S2048x1024 .bf16 := iblk m c 0 t
abbrev bB (t : Fin cfg0.N) : FVec Ideal S1024x1024 .bf16 := iblk m c 1 t

theorem lay_A (i : Fin 2048) (k : Fin 8192) : (V m c main_v0 : FVec Ideal S2048x8192 .bf16) (ix2 i k) = argA m c (ix2 k i) := by
  unfold V
  after_reads_simp
  exact transpose_apply [1, 0] _ transposes_S8192x2048_S2048x8192_1_0 (ix2 i k) (ix2 k i) (fun b => match b with
    | ⟨0, _⟩ => rfl
    | ⟨1, _⟩ => rfl)

theorem aB_read (t : Fin cfg0.N) (r : Fin 2048) (l : Fin 1024) : aB m c t (ix2 r l) = (V m c main_v0 : FVec Ideal S2048x8192 .bf16) (ix2 r ⟨t.val % 8 * 1024 + l.val, by have := t.isLt; have := N_eq; omega⟩) := by
  unfold aB iblk
  rw [View.read_apply]
  show V m c main_v0 _ = V m c main_v0 _
  refine congrArg _ (funext fun a => Fin.ext ?_)
  match a with
  | ⟨0, _⟩ => show win0_0.index t 0 * 2048 + 1 * r.val = r.val; rw [(index_0 t).1]; omega
  | ⟨1, _⟩ => show win0_0.index t 1 * 1024 + 1 * l.val = t.val % 8 * 1024 + l.val; rw [(index_0 t).2]; omega

theorem aB_apply (t : Fin cfg0.N) (r : Fin 2048) (l : Fin 1024) : aB m c t (ix2 r l) = facA m c ⟨r.val, by have := t.isLt; have := N_eq; omega⟩ ⟨t.val % 8 * 1024 + l.val, by have := t.isLt; have := N_eq; omega⟩ :=
  (aB_read m c t r l).trans ((lay_A m c _ _).trans rfl)

theorem bB_read (t : Fin cfg0.N) (l : Fin 1024) (s : Fin 1024) : bB m c t (ix2 l s) = (V m c main_arg1 : FVec Ideal S8192x8192 .bf16) (ix2 ⟨t.val % 8 * 1024 + l.val, by have := t.isLt; have := N_eq; omega⟩ ⟨t.val / 8 * 1024 + s.val, by have := t.isLt; have := N_eq; omega⟩) := by
  unfold bB iblk
  rw [View.read_apply]
  show V m c main_arg1 _ = V m c main_arg1 _
  refine congrArg _ (funext fun a => Fin.ext ?_)
  match a with
  | ⟨0, _⟩ => show win0_1.index t 0 * 1024 + 1 * l.val = t.val % 8 * 1024 + l.val; rw [(index_1 t).1]; omega
  | ⟨1, _⟩ => show win0_1.index t 1 * 1024 + 1 * s.val = t.val / 8 * 1024 + s.val; rw [(index_1 t).2]; omega

theorem bB_apply (t : Fin cfg0.N) (l : Fin 1024) (s : Fin 1024) : bB m c t (ix2 l s) = facB m c ⟨t.val % 8 * 1024 + l.val, by have := t.isLt; have := N_eq; omega⟩ ⟨t.val / 8 * 1024 + s.val, by have := t.isLt; have := N_eq; omega⟩ :=
  (bB_read m c t l s).trans ((congrFun (V_main_arg1 m c) _).trans rfl)

/-- What the last of a block's 8 points leaves. -/
theorem out_sum (t : Fin cfg0.N) (h : t.val % 8 = 7) (i : Fin 2048 × Fin 1024) :
    (outsAt0 m c t.val t.isLt : FVec Ideal S2048x1024 .f32) (ix2 i.1 i.2)
      = ∑ s : Fin 8, ∑ l : Fin 1024, aB m c ⟨8 * (t.val / 8) + s.val, by have := t.isLt; have := N_eq; omega⟩ (ix2 i.1 l) * bB m c ⟨8 * (t.val / 8) + s.val, by have := t.isLt; have := N_eq; omega⟩ (ix2 l i.2) := by
  rw [Pipeline.eq_sum_fin_of_reset_step_apply_of_flush (fun n h (i : Fin 2048 × Fin 1024) => (outsAt0 m c n h : FVec Ideal S2048x1024 .f32) (ix2 i.1 i.2)) 8
    (fun _ => (0 : EReal)) (fun t i => ∑ l : Fin 1024, aB m c t (ix2 i.1 l) * bB m c t (ix2 l i.2))
    (fun t h i => by rw [outsAt0_A m c t h (by omega)]; frame_out; exact pay1 _ _ _ _)
    (fun t h i => by rw [outsAt0_B m c t h (by omega)]; frame_out; exact pay2 _ _ _ _ _) t h i]
  exact zero_add _

theorem emb_out (t : Fin cfg0.N) (y : ((cfg0.win 2).xblock (cfg0.grid.coords t)).Idx) :
    (((cfg0.win 2).blk t).view.emb y : S2048x8192.Idx)
      = ix2 (n0 := 2048) (n1 := 8192) ⟨(y 0).val, by have := t.isLt; have := N_eq; have : (y 0).val < 2048 := (y 0).isLt; have : (y 1).val < 1024 := (y 1).isLt; omega⟩ ⟨t.val / 8 * 1024 + (y 1).val, by have := t.isLt; have := N_eq; have : (y 0).val < 2048 := (y 0).isLt; have : (y 1).val < 1024 := (y 1).isLt; omega⟩ := by
  funext a; apply Fin.ext
  match a with
  | ⟨0, _⟩ => show win0_2.index t 0 * 2048 + 1 * (y 0).val = (y 0).val; rw [(index_2 t).1]; omega
  | ⟨1, _⟩ => show win0_2.index t 1 * 1024 + 1 * (y 1).val = t.val / 8 * 1024 + (y 1).val; rw [(index_2 t).2]; omega

/-- The launch's result is the whole product. -/
theorem final : (dats m 0 c).arrAt 2 cfg0.N = result m c := by
  refine (dats m 0 c).arrAt_eq_of_covers 2 _ (by decide +kernel) fun t hf y => ?_
  have := t.isLt; have := N_eq
  have : (y 0).val < 2048 := (y 0).isLt
  have : (y 1).val < 1024 := (y 1).isLt
  have hm : t.val % 8 = 7 := (flush0_2 t).mp hf
  refine (cast_eq _ _).trans ((congrFun (after0_2 m c t) _).trans ((congrArg (outsAt0 m c t.val t.isLt : FVec Ideal S2048x1024 .f32) (eq_ix2 _)).trans
    ((out_sum m c t hm ((⟨(y 0).val, (y 0).isLt⟩ : Fin 2048), (⟨(y 1).val, (y 1).isLt⟩ : Fin 1024))).trans ?_)))
  refine Eq.trans ?_ (congrArg (result m c) (emb_out t y)).symm
  refine Eq.trans ?_ (sum_blocks 8 1024 rfl _).symm
  refine Finset.sum_congr rfl fun s _ => Finset.sum_congr rfl fun l _ => ?_
  rw [aB_apply, bB_apply]
  refine congrArg₂ (· * ·) (congrArg₂ (facA m c) (Fin.ext ?_) (Fin.ext ?_)) (congrArg₂ (facB m c) (Fin.ext ?_) (Fin.ext ?_))
  · show (y 0).val = (y 0).val; omega
  · show (8 * (t.val / 8) + s.val) % 8 * 1024 + l.val = s.val * 1024 + l.val; omega
  · show (8 * (t.val / 8) + s.val) % 8 * 1024 + l.val = s.val * 1024 + l.val; omega
  · show (8 * (t.val / 8) + s.val) / 8 * 1024 + (y 1).val = t.val / 8 * 1024 + (y 1).val; omega

end

/-! ## Equal -/

/-- The launch's result is the reference's. -/
theorem algebraic : Cert.algebraic_Kernel7Ideal_Reference7Ideal := fun m g m' g' _ hargs => by
  refine ⟨fun c => result m c, ?_, ?_⟩
  · refine (θ_run _ _ _).mono (fun r h c => ?_) (Cert.Kernel7Ideal.Value.run_blocks (F := Ideal) m g)
    exact ⟨(h c).1.trans (final m c), (h c).2⟩
  · refine (θ_run _ _ _).mono (fun r h c => ?_) (Cert.Reference7Ideal.Value.run (F := Ideal) m' g')
    obtain ⟨a0, a1⟩ := hargs c
    refine ⟨(h c).1.trans ?_, (h c).2⟩
    rw [a0, a1]
    funext i
    rw [eq_ix2 i]
    exact ref_at _ _ (i 0) (i 1)

end Cert.Proof.AttnInDw

end
-- ==== Proof.AttnInDx.lean ====
/-
  The gradient of the attention's input projection by its input, with the part from the forget logits: the call `b1_dh`. Its blocks are summed over 4 blocks of the contracted axis; the
  result is the whole product, and so is the reference's.
-/
module

public import proofs.«01_k».proof.Defs
public import proofs.«01_k».proof.Proof.Gen.Kernel6Ideal.Value
public import proofs.«01_k».proof.Proof.Gen.Reference6Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.AttnInDx

open Idealize.ShloMosaic hiding ix0 ix2 ix3 eq_ix2 eq_ix3
open Idealize.ShloMosaic.ValueIdx Idealize.ShloMosaic.TcCoe Idealize.SL.Sem
open scoped BigOperators

/-! ## The reference -/

section
open Cert.Reference6Ideal Cert.Reference6Ideal.Gen

/-- The reference's product. -/
theorem ref_at (x : FVec Ideal S8192x8192 .f32) (y : FVec Ideal S2048x8192 .f32) (i : Fin 8192) (j : Fin 2048) :
    Host.dotGeneral dot_S8192x8192_S2048x8192_S8192x2048_1_1_0_0_n_n none x y (ix2 i j)
      = ∑ k : Fin 8192, x (ix2 i k) * y (ix2 j k) := by
  refine (Ideal.dotGeneral_apply _ none _ x y (ix2 i j)).trans ?_
  rw [← Equiv.sum_comp (contrEquiv1 dot_S8192x8192_S2048x8192_S8192x2048_1_1_0_0_n_n 8192 rfl rfl).symm]
  refine Finset.sum_congr rfl fun k _ => ?_
  have hk := contrEquiv1_symm_val dot_S8192x8192_S2048x8192_S8192x2048_1_1_0_0_n_n 8192 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => rfl
    | ⟨1, _⟩ => exact hk

end

/-! ## The launch -/

section
open Cert.Kernel6Ideal Cert.Kernel6Ideal.Gen

variable (m : (ℓ : Loc nD τ sig) → Buf (Elt Ideal) ℓ) (c : Dev nD)

/-- The arguments. -/
abbrev argA : FVec Ideal S8192x8192 .bf16 := m ((c : Thread nD τ).loc main_arg1)
abbrev argB : FVec Ideal S2048x8192 .bf16 := m ((c : Thread nD τ).loc main_arg0)
abbrev argR : FVec Ideal S8192x2048 .f32 := m ((c : Thread nD τ).loc main_arg2)

/-- The two factors, by row and column. -/
def facA (i : Fin 8192) (k : Fin 8192) : EReal := argA m c (ix2 i k)
def facB (k : Fin 8192) (j : Fin 2048) : EReal := argB m c (ix2 j k)

/-- The whole product, added to the given rows. -/
def result : FVec Ideal S8192x2048 .f32 := fun i => argR m c i + ∑ k : Fin 8192, facA m c (i 0) k * facB m c k (i 1)

theorem N_eq : cfg0.N = 64 := by decide +kernel
theorem index_0 : ∀ t : Fin grid0.N, win0_0.index t 0 = t.val / 8 ∧ win0_0.index t 1 = t.val % 4 := by decide +kernel
theorem index_1 : ∀ t : Fin grid0.N, win0_1.index t 0 = t.val / 4 % 2 ∧ win0_1.index t 1 = t.val % 4 := by decide +kernel
theorem index_2 : ∀ t : Fin grid0.N, win0_2.index t 0 = t.val / 8 ∧ win0_2.index t 1 = t.val / 4 % 2 := by decide +kernel
theorem index_3 : ∀ t : Fin grid0.N, win0_3.index t 0 = t.val / 8 ∧ win0_3.index t 1 = t.val / 4 % 2 := by decide +kernel

/-- One block's product. -/
theorem block_dot (x : FVec Ideal S1024x2048 .bf16) (y : FVec Ideal S1024x2048 .bf16) (r : Fin 1024) (s : Fin 1024) :
    FloatOps.matmul dot_S1024x2048_S1024x2048_S1024x1024_1_1_0_0_n_n none x y (constant S1024x1024 .f32 0x00000000#32) (ix2 r s)
      = ∑ l : Fin 2048, x (ix2 r l) * y (ix2 s l) := by
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => rfl
    | ⟨1, _⟩ => exact hk

theorem pay1 (x : FVec Ideal S1024x2048 .bf16) (y : FVec Ideal S1024x2048 .bf16) (z : FVec Ideal S1024x1024 .f32) (r : Fin 1024) (s : Fin 1024) :
    k0_pay1 (F := Ideal) x y z (ix2 r s) = (0 : EReal) + (∑ l : Fin 2048, x (ix2 r l) * y (ix2 s l) + z (ix2 r s)) := by
  rw [zero_add]
  refine congrArg (· + z (ix2 r s)) ((block_dot x _ r s).trans ?_)
  rfl

theorem pay2 (v : FVec Ideal S1024x1024 .f32) (x : FVec Ideal S1024x2048 .bf16) (y : FVec Ideal S1024x2048 .bf16) (r : Fin 1024) (s : Fin 1024) :
    k0_pay2 (F := Ideal) v x y (ix2 r s) = v (ix2 r s) + ∑ l : Fin 2048, x (ix2 r l) * y (ix2 s l) := by
  unfold k0_pay2
  rw [shapeCast_self]
  refine congrArg (v (ix2 r s) + ·) ((block_dot x _ r s).trans ?_)
  rfl

/-- The blocks a point reads. -/
abbrev aB (t : Fin cfg0.N) : FVec Ideal S1024x2048 .bf16 := iblk m c 0 t
abbrev bB (t : Fin cfg0.N) : FVec Ideal S1024x2048 .bf16 := iblk m c 1 t
abbrev rB (t : Fin cfg0.N) : FVec Ideal S1024x1024 .f32 := iblk m c 2 t

theorem aB_read (t : Fin cfg0.N) (r : Fin 1024) (l : Fin 2048) : aB m c t (ix2 r l) = (V m c main_arg1 : FVec Ideal S8192x8192 .bf16) (ix2 ⟨t.val / 8 * 1024 + r.val, by have := t.isLt; have := N_eq; omega⟩ ⟨t.val % 4 * 2048 + l.val, by have := t.isLt; have := N_eq; omega⟩) := by
  unfold aB iblk
  rw [View.read_apply]
  show V m c main_arg1 _ = V m c main_arg1 _
  refine congrArg _ (funext fun a => Fin.ext ?_)
  match a with
  | ⟨0, _⟩ => show win0_0.index t 0 * 1024 + 1 * r.val = t.val / 8 * 1024 + r.val; rw [(index_0 t).1]; omega
  | ⟨1, _⟩ => show win0_0.index t 1 * 2048 + 1 * l.val = t.val % 4 * 2048 + l.val; rw [(index_0 t).2]; omega

theorem aB_apply (t : Fin cfg0.N) (r : Fin 1024) (l : Fin 2048) : aB m c t (ix2 r l) = facA m c ⟨t.val / 8 * 1024 + r.val, by have := t.isLt; have := N_eq; omega⟩ ⟨t.val % 4 * 2048 + l.val, by have := t.isLt; have := N_eq; omega⟩ :=
  (aB_read m c t r l).trans ((congrFun (V_main_arg1 m c) _).trans rfl)

theorem bB_read (t : Fin cfg0.N) (l : Fin 2048) (s : Fin 1024) : bB m c t (ix2 s l) = (V m c main_arg0 : FVec Ideal S2048x8192 .bf16) (ix2 ⟨t.val / 4 % 2 * 1024 + s.val, by have := t.isLt; have := N_eq; omega⟩ ⟨t.val % 4 * 2048 + l.val, by have := t.isLt; have := N_eq; omega⟩) := by
  unfold bB iblk
  rw [View.read_apply]
  show V m c main_arg0 _ = V m c main_arg0 _
  refine congrArg _ (funext fun a => Fin.ext ?_)
  match a with
  | ⟨0, _⟩ => show win0_1.index t 0 * 1024 + 1 * s.val = t.val / 4 % 2 * 1024 + s.val; rw [(index_1 t).1]; omega
  | ⟨1, _⟩ => show win0_1.index t 1 * 2048 + 1 * l.val = t.val % 4 * 2048 + l.val; rw [(index_1 t).2]; omega

theorem bB_apply (t : Fin cfg0.N) (l : Fin 2048) (s : Fin 1024) : bB m c t (ix2 s l) = facB m c ⟨t.val % 4 * 2048 + l.val, by have := t.isLt; have := N_eq; omega⟩ ⟨t.val / 4 % 2 * 1024 + s.val, by have := t.isLt; have := N_eq; omega⟩ :=
  (bB_read m c t l s).trans ((congrFun (V_main_arg0 m c) _).trans rfl)

theorem rB_read (t : Fin cfg0.N) (r : Fin 1024) (s : Fin 1024) : rB m c t (ix2 r s) = (V m c main_arg2 : FVec Ideal S8192x2048 .f32) (ix2 ⟨t.val / 8 * 1024 + r.val, by have := t.isLt; have := N_eq; omega⟩ ⟨t.val / 4 % 2 * 1024 + s.val, by have := t.isLt; have := N_eq; omega⟩) := by
  unfold rB iblk
  rw [View.read_apply]
  show V m c main_arg2 _ = V m c main_arg2 _
  refine congrArg _ (funext fun a => Fin.ext ?_)
  match a with
  | ⟨0, _⟩ => show win0_2.index t 0 * 1024 + 1 * r.val = t.val / 8 * 1024 + r.val; rw [(index_2 t).1]; omega
  | ⟨1, _⟩ => show win0_2.index t 1 * 1024 + 1 * s.val = t.val / 4 % 2 * 1024 + s.val; rw [(index_2 t).2]; omega

theorem rB_apply (t : Fin cfg0.N) (r : Fin 1024) (s : Fin 1024) : rB m c t (ix2 r s) = argR m c (ix2 ⟨t.val / 8 * 1024 + r.val, by have := t.isLt; have := N_eq; omega⟩ ⟨t.val / 4 % 2 * 1024 + s.val, by have := t.isLt; have := N_eq; omega⟩) :=
  (rB_read m c t r s).trans (congrFun (V_main_arg2 m c) _)

/-- What the last of a block's 4 points leaves: the first one adds the given rows. -/
theorem out_sum (t : Fin cfg0.N) (h : t.val % 4 = 3) (i : Fin 1024 × Fin 1024) :
    (outsAt0 m c t.val t.isLt : FVec Ideal S1024x1024 .f32) (ix2 i.1 i.2)
      = argR m c (ix2 ⟨t.val / 8 * 1024 + i.1.val, by have := t.isLt; have := N_eq; omega⟩ ⟨t.val / 4 % 2 * 1024 + i.2.val, by omega⟩)
        + ∑ s : Fin 4, ∑ l : Fin 2048, aB m c ⟨4 * (t.val / 4) + s.val, by have := t.isLt; have := N_eq; omega⟩ (ix2 i.1 l) * bB m c ⟨4 * (t.val / 4) + s.val, by have := t.isLt; have := N_eq; omega⟩ (ix2 i.2 l) := by
  rw [Pipeline.eq_sum_fin_of_reset_step_apply_of_flush (fun n h (i : Fin 1024 × Fin 1024) => (outsAt0 m c n h : FVec Ideal S1024x1024 .f32) (ix2 i.1 i.2)) 4
    (fun _ => (0 : EReal)) (fun t i => (∑ l : Fin 2048, aB m c t (ix2 i.1 l) * bB m c t (ix2 i.2 l)) + (if t.val % 4 = 0 then rB m c t (ix2 i.1 i.2) else 0))
    (fun t h i => by rw [outsAt0_A m c t h (by omega), if_pos h]; frame_out; exact pay1 _ _ _ _ _)
    (fun t h i => by rw [outsAt0_B m c t h (by omega), if_neg h, add_zero]; frame_out; exact pay2 _ _ _ _ _) t h i]
  rw [zero_add, Finset.sum_add_distrib, add_comm]
  refine congrArg (· + _) ?_
  rw [Finset.sum_eq_single (0 : Fin 4)]
  · rw [if_pos (by show (4 * (t.val / 4) + 0) % 4 = 0; omega), rB_apply]
    refine congrArg (argR m c) (funext fun a => Fin.ext ?_)
    match a with
    | ⟨0, _⟩ => show (4 * (t.val / 4) + 0) / 8 * 1024 + i.1.val = t.val / 8 * 1024 + i.1.val; omega
    | ⟨1, _⟩ => show (4 * (t.val / 4) + 0) / 4 % 2 * 1024 + i.2.val = t.val / 4 % 2 * 1024 + i.2.val; omega
  · intro s _ hs
    have : s.val ≠ 0 := fun e => hs (Fin.ext e)
    exact if_neg (by show ¬(4 * (t.val / 4) + s.val) % 4 = 0; omega)
  · exact fun hn => absurd (Finset.mem_univ _) hn

theorem emb_out (t : Fin cfg0.N) (y : ((cfg0.win 3).xblock (cfg0.grid.coords t)).Idx) :
    (((cfg0.win 3).blk t).view.emb y : S8192x2048.Idx)
      = ix2 (n0 := 8192) (n1 := 2048) ⟨t.val / 8 * 1024 + (y 0).val, by have := t.isLt; have := N_eq; have : (y 0).val < 1024 := (y 0).isLt; have : (y 1).val < 1024 := (y 1).isLt; omega⟩ ⟨t.val / 4 % 2 * 1024 + (y 1).val, by have := t.isLt; have := N_eq; have : (y 0).val < 1024 := (y 0).isLt; have : (y 1).val < 1024 := (y 1).isLt; omega⟩ := by
  funext a; apply Fin.ext
  match a with
  | ⟨0, _⟩ => show win0_3.index t 0 * 1024 + 1 * (y 0).val = t.val / 8 * 1024 + (y 0).val; rw [(index_3 t).1]; omega
  | ⟨1, _⟩ => show win0_3.index t 1 * 1024 + 1 * (y 1).val = t.val / 4 % 2 * 1024 + (y 1).val; rw [(index_3 t).2]; omega

/-- The launch's result is the whole product. -/
theorem final : (dats m 0 c).arrAt 3 cfg0.N = result m c := by
  refine (dats m 0 c).arrAt_eq_of_covers 3 _ (by decide +kernel) fun t hf y => ?_
  have := t.isLt; have := N_eq
  have : (y 0).val < 1024 := (y 0).isLt
  have : (y 1).val < 1024 := (y 1).isLt
  have hm : t.val % 4 = 3 := (flush0_3 t).mp hf
  refine (cast_eq _ _).trans ((congrFun (after0_3 m c t) _).trans ((congrArg (outsAt0 m c t.val t.isLt : FVec Ideal S1024x1024 .f32) (eq_ix2 _)).trans
    ((out_sum m c t hm ((⟨(y 0).val, (y 0).isLt⟩ : Fin 1024), (⟨(y 1).val, (y 1).isLt⟩ : Fin 1024))).trans ?_)))
  refine Eq.trans ?_ (congrArg (result m c) (emb_out t y)).symm
  refine congrArg (_ + ·) ?_
  refine Eq.trans ?_ (sum_blocks 4 2048 rfl _).symm
  refine Finset.sum_congr rfl fun s _ => Finset.sum_congr rfl fun l _ => ?_
  rw [aB_apply, bB_apply]
  refine congrArg₂ (· * ·) (congrArg₂ (facA m c) (Fin.ext ?_) (Fin.ext ?_)) (congrArg₂ (facB m c) (Fin.ext ?_) (Fin.ext ?_))
  · show (4 * (t.val / 4) + s.val) / 8 * 1024 + (y 0).val = t.val / 8 * 1024 + (y 0).val; omega
  · show (4 * (t.val / 4) + s.val) % 4 * 2048 + l.val = s.val * 2048 + l.val; omega
  · show (4 * (t.val / 4) + s.val) % 4 * 2048 + l.val = s.val * 2048 + l.val; omega
  · show (4 * (t.val / 4) + s.val) / 4 % 2 * 1024 + (y 1).val = t.val / 4 % 2 * 1024 + (y 1).val; omega

end

/-! ## Equal -/

/-- The launch's result is the reference's. -/
theorem algebraic : Cert.algebraic_Kernel6Ideal_Reference6Ideal := fun m g m' g' _ hargs => by
  refine ⟨fun c => result m c, ?_, ?_⟩
  · refine (θ_run _ _ _).mono (fun r h c => ?_) (Cert.Kernel6Ideal.Value.run_blocks (F := Ideal) m g)
    exact ⟨(h c).1.trans (final m c), (h c).2⟩
  · refine (θ_run _ _ _).mono (fun r h c => ?_) (Cert.Reference6Ideal.Value.run (F := Ideal) m' g')
    obtain ⟨a0, a1, a2⟩ := hargs c
    refine ⟨(h c).1.trans ?_, (h c).2⟩
    rw [a0, a1, a2]
    funext i
    rw [eq_ix2 i]
    exact congrArg (argR m c (ix2 (i 0) (i 1)) + ·) (ref_at _ _ (i 0) (i 1))

end Cert.Proof.AttnInDx

end
-- ==== Proof.GmlpOutDw.lean ====
/-
  The gradient of the gMLP's output projection by its weight: the call `a1_dwout`. Its blocks are summed over 8 blocks of the contracted axis; the
  result is the whole product, and so is the reference's.
-/
module

public import proofs.«01_k».proof.Defs
public import proofs.«01_k».proof.Proof.Gen.Kernel5Ideal.Value
public import proofs.«01_k».proof.Proof.Gen.Reference5Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.GmlpOutDw

open Idealize.ShloMosaic hiding ix0 ix2 ix3 eq_ix2 eq_ix3
open Idealize.ShloMosaic.ValueIdx Idealize.ShloMosaic.TcCoe Idealize.SL.Sem
open scoped BigOperators

/-! ## The reference -/

section
open Cert.Reference5Ideal Cert.Reference5Ideal.Gen

/-- The reference's product. -/
theorem ref_at (x : FVec Ideal S8192x2048 .f32) (y : FVec Ideal S8192x4096 .f32) (i : Fin 4096) (j : Fin 2048) :
    transpose S4096x2048 [1, 0] (Host.dotGeneral dot_S8192x2048_S8192x4096_S2048x4096_0_0_1_1_n_n none x y) transposes_S2048x4096_S4096x2048_1_0 (ix2 i j)
      = ∑ k : Fin 8192, y (ix2 k i) * x (ix2 k j) := by
  refine (transpose_apply [1, 0] _ transposes_S2048x4096_S4096x2048_1_0 (ix2 i j) (ix2 j i) (fun b => match b with
    | ⟨0, _⟩ => rfl
    | ⟨1, _⟩ => rfl)).trans ?_
  refine (Ideal.dotGeneral_apply _ none _ x y (ix2 j i)).trans ?_
  rw [← Equiv.sum_comp (contrEquiv1 dot_S8192x2048_S8192x4096_S2048x4096_0_0_1_1_n_n 8192 rfl rfl).symm]
  refine Finset.sum_congr rfl fun k _ => ?_
  have hk := contrEquiv1_symm_val dot_S8192x2048_S8192x4096_S2048x4096_0_0_1_1_n_n 8192 rfl rfl k
  refine Eq.trans ?_ (mul_comm _ _)
  refine congrArg₂ (· * ·) (congrArg x ?_) (congrArg y ?_) <;> funext a <;> apply Fin.ext
  · match a with
    | ⟨0, _⟩ => exact hk
    | ⟨1, _⟩ => rfl
  · match a with
    | ⟨0, _⟩ => exact hk
    | ⟨1, _⟩ => rfl

end

/-! ## The launch -/

section
open Cert.Kernel5Ideal Cert.Kernel5Ideal.Gen

variable (m : (ℓ : Loc nD τ sig) → Buf (Elt Ideal) ℓ) (c : Dev nD)

/-- The arguments. -/
abbrev argA : FVec Ideal S8192x4096 .bf16 := m ((c : Thread nD τ).loc main_arg0)
abbrev argB : FVec Ideal S8192x2048 .bf16 := m ((c : Thread nD τ).loc main_arg1)

/-- The two factors, by row and column. -/
def facA (i : Fin 4096) (k : Fin 8192) : EReal := argA m c (ix2 k i)
def facB (k : Fin 8192) (j : Fin 2048) : EReal := argB m c (ix2 k j)

/-- The whole product. -/
def result : FVec Ideal S4096x2048 .f32 := fun i => ∑ k : Fin 8192, facA m c (i 0) k * facB m c k (i 1)

theorem N_eq : cfg0.N = 32 := by decide +kernel
theorem index_0 : ∀ t : Fin grid0.N, win0_0.index t 0 = t.val % 8 ∧ win0_0.index t 1 = t.val / 16 := by decide +kernel
theorem index_1 : ∀ t : Fin grid0.N, win0_1.index t 0 = t.val % 8 ∧ win0_1.index t 1 = t.val / 8 % 2 := by decide +kernel
theorem index_2 : ∀ t : Fin grid0.N, win0_2.index t 0 = t.val / 16 ∧ win0_2.index t 1 = t.val / 8 % 2 := by decide +kernel

/-- One block's product. -/
theorem block_dot (x : FVec Ideal S1024x2048 .bf16) (y : FVec Ideal S1024x1024 .bf16) (r : Fin 2048) (s : Fin 1024) :
    FloatOps.matmul dot_S1024x2048_S1024x1024_S2048x1024_0_0_1_1_n_n none x y (constant S2048x1024 .f32 0x00000000#32) (ix2 r s)
      = ∑ l : Fin 1024, x (ix2 l r) * y (ix2 l s) := by
  rw [Ideal.matmul_constant_zero_apply, ← Equiv.sum_comp (contrEquiv1 dot_S1024x2048_S1024x1024_S2048x1024_0_0_1_1_n_n 1024 rfl rfl).symm]
  refine Finset.sum_congr rfl fun k _ => ?_
  have hk := contrEquiv1_symm_val dot_S1024x2048_S1024x1024_S2048x1024_0_0_1_1_n_n 1024 rfl rfl k
  refine congrArg₂ (· * ·) (congrArg x ?_) (congrArg y ?_) <;> funext a <;> apply Fin.ext
  · match a with
    | ⟨0, _⟩ => exact hk
    | ⟨1, _⟩ => rfl
  · match a with
    | ⟨0, _⟩ => exact hk
    | ⟨1, _⟩ => rfl

theorem pay1 (x : FVec Ideal S1024x2048 .bf16) (y : FVec Ideal S1024x1024 .bf16) (r : Fin 2048) (s : Fin 1024) :
    k0_pay1 (F := Ideal) x y (ix2 r s) = (0 : EReal) + ∑ l : Fin 1024, x (ix2 l r) * y (ix2 l s) := by
  rw [zero_add]
  refine (block_dot x _ r s).trans ?_
  rfl

theorem pay2 (v : FVec Ideal S2048x1024 .f32) (x : FVec Ideal S1024x2048 .bf16) (y : FVec Ideal S1024x1024 .bf16) (r : Fin 2048) (s : Fin 1024) :
    k0_pay2 (F := Ideal) v x y (ix2 r s) = v (ix2 r s) + ∑ l : Fin 1024, x (ix2 l r) * y (ix2 l s) := by
  unfold k0_pay2
  rw [shapeCast_self]
  refine congrArg (v (ix2 r s) + ·) ((block_dot x _ r s).trans ?_)
  rfl

/-- The blocks a point reads. -/
abbrev aB (t : Fin cfg0.N) : FVec Ideal S1024x2048 .bf16 := iblk m c 0 t
abbrev bB (t : Fin cfg0.N) : FVec Ideal S1024x1024 .bf16 := iblk m c 1 t

theorem aB_read (t : Fin cfg0.N) (r : Fin 2048) (l : Fin 1024) : aB m c t (ix2 l r) = (V m c main_arg0 : FVec Ideal S8192x4096 .bf16) (ix2 ⟨t.val % 8 * 1024 + l.val, by have := t.isLt; have := N_eq; omega⟩ ⟨t.val / 16 * 2048 + r.val, by have := t.isLt; have := N_eq; omega⟩) := by
  unfold aB iblk
  rw [View.read_apply]
  show V m c main_arg0 _ = V m c main_arg0 _
  refine congrArg _ (funext fun a => Fin.ext ?_)
  match a with
  | ⟨0, _⟩ => show win0_0.index t 0 * 1024 + 1 * l.val = t.val % 8 * 1024 + l.val; rw [(index_0 t).1]; omega
  | ⟨1, _⟩ => show win0_0.index t 1 * 2048 + 1 * r.val = t.val / 16 * 2048 + r.val; rw [(index_0 t).2]; omega

theorem aB_apply (t : Fin cfg0.N) (r : Fin 2048) (l : Fin 1024) : aB m c t (ix2 l r) = facA m c ⟨t.val / 16 * 2048 + r.val, by have := t.isLt; have := N_eq; omega⟩ ⟨t.val % 8 * 1024 + l.val, by have := t.isLt; have := N_eq; omega⟩ :=
  (aB_read m c t r l).trans ((congrFun (V_main_arg0 m c) _).trans rfl)

theorem bB_read (t : Fin cfg0.N) (l : Fin 1024) (s : Fin 1024) : bB m c t (ix2 l s) = (V m c main_arg1 : FVec Ideal S8192x2048 .bf16) (ix2 ⟨t.val % 8 * 1024 + l.val, by have := t.isLt; have := N_eq; omega⟩ ⟨t.val / 8 % 2 * 1024 + s.val, by have := t.isLt; have := N_eq; omega⟩) := by
  unfold bB iblk
  rw [View.read_apply]
  show V m c main_arg1 _ = V m c main_arg1 _
  refine congrArg _ (funext fun a => Fin.ext ?_)
  match a with
  | ⟨0, _⟩ => show win0_1.index t 0 * 1024 + 1 * l.val = t.val % 8 * 1024 + l.val; rw [(index_1 t).1]; omega
  | ⟨1, _⟩ => show win0_1.index t 1 * 1024 + 1 * s.val = t.val / 8 % 2 * 1024 + s.val; rw [(index_1 t).2]; omega

theorem bB_apply (t : Fin cfg0.N) (l : Fin 1024) (s : Fin 1024) : bB m c t (ix2 l s) = facB m c ⟨t.val % 8 * 1024 + l.val, by have := t.isLt; have := N_eq; omega⟩ ⟨t.val / 8 % 2 * 1024 + s.val, by have := t.isLt; have := N_eq; omega⟩ :=
  (bB_read m c t l s).trans ((congrFun (V_main_arg1 m c) _).trans rfl)

/-- What the last of a block's 8 points leaves. -/
theorem out_sum (t : Fin cfg0.N) (h : t.val % 8 = 7) (i : Fin 2048 × Fin 1024) :
    (outsAt0 m c t.val t.isLt : FVec Ideal S2048x1024 .f32) (ix2 i.1 i.2)
      = ∑ s : Fin 8, ∑ l : Fin 1024, aB m c ⟨8 * (t.val / 8) + s.val, by have := t.isLt; have := N_eq; omega⟩ (ix2 l i.1) * bB m c ⟨8 * (t.val / 8) + s.val, by have := t.isLt; have := N_eq; omega⟩ (ix2 l i.2) := by
  rw [Pipeline.eq_sum_fin_of_reset_step_apply_of_flush (fun n h (i : Fin 2048 × Fin 1024) => (outsAt0 m c n h : FVec Ideal S2048x1024 .f32) (ix2 i.1 i.2)) 8
    (fun _ => (0 : EReal)) (fun t i => ∑ l : Fin 1024, aB m c t (ix2 l i.1) * bB m c t (ix2 l i.2))
    (fun t h i => by rw [outsAt0_A m c t h (by omega)]; frame_out; exact pay1 _ _ _ _)
    (fun t h i => by rw [outsAt0_B m c t h (by omega)]; frame_out; exact pay2 _ _ _ _ _) t h i]
  exact zero_add _

theorem emb_out (t : Fin cfg0.N) (y : ((cfg0.win 2).xblock (cfg0.grid.coords t)).Idx) :
    (((cfg0.win 2).blk t).view.emb y : S4096x2048.Idx)
      = ix2 (n0 := 4096) (n1 := 2048) ⟨t.val / 16 * 2048 + (y 0).val, by have := t.isLt; have := N_eq; have : (y 0).val < 2048 := (y 0).isLt; have : (y 1).val < 1024 := (y 1).isLt; omega⟩ ⟨t.val / 8 % 2 * 1024 + (y 1).val, by have := t.isLt; have := N_eq; have : (y 0).val < 2048 := (y 0).isLt; have : (y 1).val < 1024 := (y 1).isLt; omega⟩ := by
  funext a; apply Fin.ext
  match a with
  | ⟨0, _⟩ => show win0_2.index t 0 * 2048 + 1 * (y 0).val = t.val / 16 * 2048 + (y 0).val; rw [(index_2 t).1]; omega
  | ⟨1, _⟩ => show win0_2.index t 1 * 1024 + 1 * (y 1).val = t.val / 8 % 2 * 1024 + (y 1).val; rw [(index_2 t).2]; omega

/-- The launch's result is the whole product. -/
theorem final : (dats m 0 c).arrAt 2 cfg0.N = result m c := by
  refine (dats m 0 c).arrAt_eq_of_covers 2 _ (by decide +kernel) fun t hf y => ?_
  have := t.isLt; have := N_eq
  have : (y 0).val < 2048 := (y 0).isLt
  have : (y 1).val < 1024 := (y 1).isLt
  have hm : t.val % 8 = 7 := (flush0_2 t).mp hf
  refine (cast_eq _ _).trans ((congrFun (after0_2 m c t) _).trans ((congrArg (outsAt0 m c t.val t.isLt : FVec Ideal S2048x1024 .f32) (eq_ix2 _)).trans
    ((out_sum m c t hm ((⟨(y 0).val, (y 0).isLt⟩ : Fin 2048), (⟨(y 1).val, (y 1).isLt⟩ : Fin 1024))).trans ?_)))
  refine Eq.trans ?_ (congrArg (result m c) (emb_out t y)).symm
  refine Eq.trans ?_ (sum_blocks 8 1024 rfl _).symm
  refine Finset.sum_congr rfl fun s _ => Finset.sum_congr rfl fun l _ => ?_
  rw [aB_apply, bB_apply]
  refine congrArg₂ (· * ·) (congrArg₂ (facA m c) (Fin.ext ?_) (Fin.ext ?_)) (congrArg₂ (facB m c) (Fin.ext ?_) (Fin.ext ?_))
  · show (8 * (t.val / 8) + s.val) / 16 * 2048 + (y 0).val = t.val / 16 * 2048 + (y 0).val; omega
  · show (8 * (t.val / 8) + s.val) % 8 * 1024 + l.val = s.val * 1024 + l.val; omega
  · show (8 * (t.val / 8) + s.val) % 8 * 1024 + l.val = s.val * 1024 + l.val; omega
  · show (8 * (t.val / 8) + s.val) / 8 % 2 * 1024 + (y 1).val = t.val / 8 % 2 * 1024 + (y 1).val; omega

end

/-! ## Equal -/

/-- The launch's result is the reference's. -/
theorem algebraic : Cert.algebraic_Kernel5Ideal_Reference5Ideal := fun m g m' g' _ hargs => by
  refine ⟨fun c => result m c, ?_, ?_⟩
  · refine (θ_run _ _ _).mono (fun r h c => ?_) (Cert.Kernel5Ideal.Value.run_blocks (F := Ideal) m g)
    exact ⟨(h c).1.trans (final m c), (h c).2⟩
  · refine (θ_run _ _ _).mono (fun r h c => ?_) (Cert.Reference5Ideal.Value.run (F := Ideal) m' g')
    obtain ⟨a0, a1⟩ := hargs c
    refine ⟨(h c).1.trans ?_, (h c).2⟩
    rw [a0, a1]
    funext i
    rw [eq_ix2 i]
    exact ref_at _ _ (i 0) (i 1)

end Cert.Proof.GmlpOutDw

end
-- ==== Proof.GmlpOutDx.lean ====
/-
  The gradient of the gMLP's output projection by its input: the call `a1_dy`. Each of its blocks is one product; the
  result is the whole product, and so is the reference's.
-/
module

public import proofs.«01_k».proof.Defs
public import proofs.«01_k».proof.Proof.Gen.Kernel4Ideal.Frame
public import proofs.«01_k».proof.Proof.Gen.Reference4Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.GmlpOutDx

open Idealize.ShloMosaic hiding ix0 ix2 ix3 eq_ix2 eq_ix3
open Idealize.ShloMosaic.ValueIdx Idealize.ShloMosaic.TcCoe Idealize.SL.Sem
open scoped BigOperators

/-! ## The reference -/

section
open Cert.Reference4Ideal Cert.Reference4Ideal.Gen

/-- The reference's product. -/
theorem ref_at (x : FVec Ideal S8192x2048 .f32) (y : FVec Ideal S4096x2048 .f32) (i : Fin 8192) (j : Fin 4096) :
    Host.dotGeneral dot_S8192x2048_S4096x2048_S8192x4096_1_1_0_0_n_n none x y (ix2 i j)
      = ∑ k : Fin 2048, x (ix2 i k) * y (ix2 j k) := by
  refine (Ideal.dotGeneral_apply _ none _ x y (ix2 i j)).trans ?_
  rw [← Equiv.sum_comp (contrEquiv1 dot_S8192x2048_S4096x2048_S8192x4096_1_1_0_0_n_n 2048 rfl rfl).symm]
  refine Finset.sum_congr rfl fun k _ => ?_
  have hk := contrEquiv1_symm_val dot_S8192x2048_S4096x2048_S8192x4096_1_1_0_0_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => rfl
    | ⟨1, _⟩ => exact hk

end

/-! ## The launch -/

section
open Cert.Kernel4Ideal Cert.Kernel4Ideal.Gen

variable (m : (ℓ : Loc nD τ sig) → Buf (Elt Ideal) ℓ) (c : Dev nD)

/-- The arguments. -/
abbrev argA : FVec Ideal S8192x2048 .bf16 := m ((c : Thread nD τ).loc main_arg1)
abbrev argB : FVec Ideal S4096x2048 .bf16 := m ((c : Thread nD τ).loc main_arg0)

/-- The two factors, by row and column. -/
def facA (i : Fin 8192) (k : Fin 2048) : EReal := argA m c (ix2 i k)
def facB (k : Fin 2048) (j : Fin 4096) : EReal := argB m c (ix2 j k)

/-- The whole product. -/
def result : FVec Ideal S8192x4096 .f32 := fun i => ∑ k : Fin 2048, facA m c (i 0) k * facB m c k (i 1)

theorem N_eq : cfg0.N = 32 := by decide +kernel
theorem index_0 : ∀ t : Fin grid0.N, win0_0.index t 0 = t.val / 4 ∧ win0_0.index t 1 = 0 := by decide +kernel
theorem index_1 : ∀ t : Fin grid0.N, win0_1.index t 0 = t.val % 4 ∧ win0_1.index t 1 = 0 ∧ win0_1.index t 2 = 0 := by decide +kernel
theorem index_2 : ∀ t : Fin grid0.N, win0_2.index t 0 = t.val / 4 ∧ win0_2.index t 1 = t.val % 4 := by decide +kernel

/-- One block's product. -/
theorem block_dot (x : FVec Ideal S1024x2048 .bf16) (y : FVec Ideal S1024x2048 .bf16) (r : Fin 1024) (s : Fin 1024) :
    FloatOps.matmul dot_S1024x2048_S1024x2048_S1024x1024_1_1_0_0_n_n none x y (constant S1024x1024 .f32 0x00000000#32) (ix2 r s)
      = ∑ l : Fin 2048, x (ix2 r l) * y (ix2 s l) := by
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => rfl
    | ⟨1, _⟩ => exact hk

/-- The weight's block without its leading axis of one. -/
theorem cast_block (y : FVec Ideal S1x1024x2048 .bf16) (p : Fin 1024) (q : Fin 2048) :
    shapeCast S1024x2048 y shapeCasts_S1x1024x2048_S1024x2048 (ix2 p q) = y (ix3 0 p q) :=
  shapeCast_apply _ _ _ (ix3 0 p q) (by
    rw [Shape.rowMajor_val_two, Shape.rowMajor_val_three]
    show (0 * 1024 + p.val) * 2048 + q.val = p.val * 2048 + q.val
    omega)

theorem pay1 (x : FVec Ideal S1024x2048 .bf16) (y : FVec Ideal S1x1024x2048 .bf16) (r : Fin 1024) (s : Fin 1024) :
    k0_pay1 (F := Ideal) x y (ix2 r s) = ∑ l : Fin 2048, x (ix2 r l) * y (ix3 0 s l) := by
  refine (block_dot x _ r s).trans ?_
  simp only [cast_block]

/-- The blocks a point reads. -/
abbrev aB (t : Fin cfg0.N) : FVec Ideal S1024x2048 .bf16 := iblk m c 0 t
abbrev bB (t : Fin cfg0.N) : FVec Ideal S1x1024x2048 .bf16 := iblk m c 1 t

theorem aB_read (t : Fin cfg0.N) (r : Fin 1024) (l : Fin 2048) : aB m c t (ix2 r l) = (V m c main_arg1 : FVec Ideal S8192x2048 .bf16) (ix2 ⟨t.val / 4 * 1024 + r.val, by have := t.isLt; have := N_eq; omega⟩ l) := by
  unfold aB iblk
  rw [View.read_apply]
  show V m c main_arg1 _ = V m c main_arg1 _
  refine congrArg _ (funext fun a => Fin.ext ?_)
  match a with
  | ⟨0, _⟩ => show win0_0.index t 0 * 1024 + 1 * r.val = t.val / 4 * 1024 + r.val; rw [(index_0 t).1]; omega
  | ⟨1, _⟩ => show win0_0.index t 1 * 2048 + 1 * l.val = l.val; rw [(index_0 t).2]; omega

theorem aB_apply (t : Fin cfg0.N) (r : Fin 1024) (l : Fin 2048) : aB m c t (ix2 r l) = facA m c ⟨t.val / 4 * 1024 + r.val, by have := t.isLt; have := N_eq; omega⟩ ⟨l.val, by have := t.isLt; have := N_eq; omega⟩ :=
  (aB_read m c t r l).trans ((congrFun (V_main_arg1 m c) _).trans rfl)

/-- The weight's blocks of rows. -/
theorem lay_B (b : Fin 4) (r : Fin 1024) (q : Fin 2048) :
    (V m c main_v0 : FVec Ideal S4x1024x2048 .bf16) (ix3 b r q) = argB m c (ix2 ⟨b.val * 1024 + r.val, by omega⟩ q) := by
  unfold V
  after_reads_simp
  exact shapeCast_apply _ shapeCasts_S4096x2048_S4x1024x2048 (ix3 b r q) (ix2 ⟨b.val * 1024 + r.val, by omega⟩ q) (by
    rw [Shape.rowMajor_val_two, Shape.rowMajor_val_three]
    show (b.val * 1024 + r.val) * 2048 + q.val = (b.val * 1024 + r.val) * 2048 + q.val
    rfl)

theorem bB_read (t : Fin cfg0.N) (l : Fin 2048) (s : Fin 1024) : bB m c t (ix3 0 s l) = (V m c main_v0 : FVec Ideal S4x1024x2048 .bf16) (ix3 ⟨t.val % 4, by have := t.isLt; have := N_eq; omega⟩ s l) := by
  unfold bB iblk
  rw [View.read_apply]
  show V m c main_v0 _ = V m c main_v0 _
  refine congrArg _ (funext fun a => Fin.ext ?_)
  match a with
  | ⟨0, _⟩ => show win0_1.index t 0 * 1 + 1 * 0 = t.val % 4; rw [(index_1 t).1]; omega
  | ⟨1, _⟩ => show win0_1.index t 1 * 1024 + 1 * s.val = s.val; rw [(index_1 t).2.1]; omega
  | ⟨2, _⟩ => show win0_1.index t 2 * 2048 + 1 * l.val = l.val; rw [(index_1 t).2.2]; omega

theorem bB_apply (t : Fin cfg0.N) (l : Fin 2048) (s : Fin 1024) : bB m c t (ix3 0 s l) = facB m c ⟨l.val, by have := t.isLt; have := N_eq; omega⟩ ⟨t.val % 4 * 1024 + s.val, by have := t.isLt; have := N_eq; omega⟩ := by
  have := t.isLt; have := N_eq
  refine (bB_read m c t l s).trans ((lay_B m c _ _ _).trans (congrArg (argB m c) (funext fun a => Fin.ext ?_)))
  match a with
  | ⟨0, _⟩ => show t.val % 4 * 1024 + s.val = t.val % 4 * 1024 + s.val; omega
  | ⟨1, _⟩ => show l.val = l.val; omega

theorem emb_out (t : Fin cfg0.N) (y : ((cfg0.win 2).xblock (cfg0.grid.coords t)).Idx) :
    (((cfg0.win 2).blk t).view.emb y : S8192x4096.Idx)
      = ix2 (n0 := 8192) (n1 := 4096) ⟨t.val / 4 * 1024 + (y 0).val, by have := t.isLt; have := N_eq; have : (y 0).val < 1024 := (y 0).isLt; have : (y 1).val < 1024 := (y 1).isLt; omega⟩ ⟨t.val % 4 * 1024 + (y 1).val, by have := t.isLt; have := N_eq; have : (y 0).val < 1024 := (y 0).isLt; have : (y 1).val < 1024 := (y 1).isLt; omega⟩ := by
  funext a; apply Fin.ext
  match a with
  | ⟨0, _⟩ => show win0_2.index t 0 * 1024 + 1 * (y 0).val = t.val / 4 * 1024 + (y 0).val; rw [(index_2 t).1]; omega
  | ⟨1, _⟩ => show win0_2.index t 1 * 1024 + 1 * (y 1).val = t.val % 4 * 1024 + (y 1).val; rw [(index_2 t).2]; omega

/-- The whole product, at the width the launch writes. -/
def landing : FVec Ideal S8192x4096 .bf16 := result m c

/-- The launch's result is the whole product. -/
theorem final : (dats m 0 c).arrAt 2 cfg0.N = landing m c := by
  refine (dats m 0 c).arrAt_eq_of_covers 2 _ (by decide +kernel) fun t hf y => ?_
  have := t.isLt; have := N_eq
  have : (y 0).val < 1024 := (y 0).isLt
  have : (y 1).val < 1024 := (y 1).isLt
  refine (cast_eq _ _).trans ((congrFun (after0_2 m c t) _).trans ?_)
  refine Eq.trans ?_ (congrArg (landing m c) (emb_out t y)).symm
  refine Eq.trans (b := ∑ l : Fin 2048, aB m c t (ix2 (⟨(y 0).val, (y 0).isLt⟩ : Fin 1024) l) * bB m c t (ix3 0 (⟨(y 1).val, (y 1).isLt⟩ : Fin 1024) l)) ?_
    (Finset.sum_congr rfl fun l _ => congrArg₂ (fun a b : EReal => a * b) (aB_apply m c t (⟨(y 0).val, (y 0).isLt⟩ : Fin 1024) l) (bB_apply m c t l (⟨(y 1).val, (y 1).isLt⟩ : Fin 1024)))
  refine (congrArg (out0_2 (iblk m c 0 t) (iblk m c 1 t) : FVec Ideal S1024x1024 .bf16) (eq_ix2 _)).trans ?_
  frame_out
  exact pay1 _ _ _ _

/-! ## The host lines after it -/

abbrev tail (U : Valuation τ sig (Elt Ideal)) : Valuation τ sig (Elt Ideal) := StableHlo.after (hostOps1 (F := Ideal)) U

/-- The buffers as the launch leaves them. -/
abbrev landed : Valuation τ sig (Elt Ideal) := Pipeline.withArrays spec0 c (V0 m c) fun w => (dats m 0 c).arrAt w cfg0.N

theorem tail_landed (b : Ref sig .tc) : Pipeline.afterTail₀ cfgs (dats m) 0 (V0 m) [hostOps1] c b = tail (landed m c) (Proc.devRef .tc b) := by
  unfold Pipeline.afterTail₀
  rw [List.flatten_singleton]

theorem arr_inj : Function.Injective (Pipeline.arrRef spec0) := by decide

theorem landed_out : landed m c (Proc.devRef .tc main_v1) = landing m c :=
  (Pipeline.withArrays_arr spec0 arr_inj c (V0 m c) _ 2).trans (final m c)

theorem tail_out (U : Valuation τ sig (Elt Ideal)) (X : FVec Ideal S8192x4096 .bf16) (hU : U (Proc.devRef .tc main_v1) = X) :
    (tail U (Proc.devRef .tc main_v2) : FVec Ideal S8192x4096 .f32) = extf .f32 X bitsLt_bf16_f32 := by
  unfold tail
  after_reads_simp
  rw [hU]

theorem host_result : tail (landed m c) (Proc.devRef .tc main_v2) = result m c :=
  (tail_out (landed m c) _ (landed_out m c)).trans rfl

end

/-! ## Equal -/

/-- The launch's result is the reference's. -/
theorem algebraic : Cert.algebraic_Kernel4Ideal_Reference4Ideal := fun m g m' g' _ hargs => by
  refine ⟨fun c => result m c, ?_, ?_⟩
  · refine (θ_run _ _ _).mono (fun r h c => ?_) (θ_run_and (Cert.Kernel4Ideal.Gen.run_main (F := Ideal) m g) (Cert.Kernel4Ideal.Gen.unchanged (F := Ideal) m g))
    exact ⟨((h.1 c).2 Cert.Kernel4Ideal.main_v2 (Pipeline.mem_restRefs_of Cert.Kernel4Ideal.main_v2 (by decide) (by decide))).trans
      ((tail_landed m c _).trans (host_result m c)), h.2 c⟩
  · refine (θ_run _ _ _).mono (fun r h c => ?_) (Cert.Reference4Ideal.Value.run (F := Ideal) m' g')
    obtain ⟨a0, a1⟩ := hargs c
    refine ⟨(h c).1.trans ?_, (h c).2⟩
    rw [a0, a1]
    funext i
    rw [eq_ix2 i]
    exact ref_at _ _ (i 0) (i 1)

end Cert.Proof.GmlpOutDx

end
-- ==== Proof.GmlpInDw.lean ====
/-
  The gradient of the gMLP's input projection by its weight: the call `a1_dwin`. Its blocks are summed over 8 blocks of the contracted axis; the
  result is the whole product, laid out anew on the host, and so is the reference's.
-/
module

public import proofs.«01_k».proof.Defs
public import proofs.«01_k».proof.Proof.Gen.Kernel3Ideal.Frame
public import proofs.«01_k».proof.Proof.Gen.Reference3Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.GmlpInDw

open Idealize.ShloMosaic hiding ix0 ix2 ix3 eq_ix2 eq_ix3
open Idealize.ShloMosaic.ValueIdx Idealize.ShloMosaic.TcCoe Idealize.SL.Sem
open scoped BigOperators

/-! ## The reference -/

section
open Cert.Reference3Ideal Cert.Reference3Ideal.Gen

/-- The reference's product. -/
theorem ref_at (x : FVec Ideal S8192x12288 .f32) (y : FVec Ideal S8192x2048 .f32) (i : Fin 2048) (j : Fin 12288) :
    transpose S2048x12288 [1, 0] (Host.dotGeneral dot_S8192x12288_S8192x2048_S12288x2048_0_0_1_1_n_n none x y) transposes_S12288x2048_S2048x12288_1_0 (ix2 i j)
      = ∑ k : Fin 8192, y (ix2 k i) * x (ix2 k j) := by
  refine (transpose_apply [1, 0] _ transposes_S12288x2048_S2048x12288_1_0 (ix2 i j) (ix2 j i) (fun b => match b with
    | ⟨0, _⟩ => rfl
    | ⟨1, _⟩ => rfl)).trans ?_
  refine (Ideal.dotGeneral_apply _ none _ x y (ix2 j i)).trans ?_
  rw [← Equiv.sum_comp (contrEquiv1 dot_S8192x12288_S8192x2048_S12288x2048_0_0_1_1_n_n 8192 rfl rfl).symm]
  refine Finset.sum_congr rfl fun k _ => ?_
  have hk := contrEquiv1_symm_val dot_S8192x12288_S8192x2048_S12288x2048_0_0_1_1_n_n 8192 rfl rfl k
  refine Eq.trans ?_ (mul_comm _ _)
  refine congrArg₂ (· * ·) (congrArg x ?_) (congrArg y ?_) <;> funext a <;> apply Fin.ext
  · match a with
    | ⟨0, _⟩ => exact hk
    | ⟨1, _⟩ => rfl
  · match a with
    | ⟨0, _⟩ => exact hk
    | ⟨1, _⟩ => rfl

end

/-! ## The launch -/

section
open Cert.Kernel3Ideal Cert.Kernel3Ideal.Gen

variable (m : (ℓ : Loc nD τ sig) → Buf (Elt Ideal) ℓ) (c : Dev nD)

/-- The arguments. -/
abbrev argA : FVec Ideal S8192x2048 .bf16 := m ((c : Thread nD τ).loc main_arg0)
abbrev argB : FVec Ideal S8192x12288 .bf16 := m ((c : Thread nD τ).loc main_arg1)

/-- The two factors, by row and column. -/
def facA (i : Fin 2048) (k : Fin 8192) : EReal := argA m c (ix2 k i)
def facB (k : Fin 8192) (j : Fin 12288) : EReal := argB m c (ix2 k j)

/-- The whole product. -/
def result : FVec Ideal S2048x12288 .f32 := fun i => ∑ k : Fin 8192, facA m c (i 0) k * facB m c k (i 1)

theorem N_eq : cfg0.N = 96 := by decide +kernel
theorem index_0 : ∀ t : Fin grid0.N, win0_0.index t 0 = 0 ∧ win0_0.index t 1 = t.val % 8 := by decide +kernel
theorem index_1 : ∀ t : Fin grid0.N, win0_1.index t 0 = t.val % 8 ∧ win0_1.index t 1 = t.val / 8 := by decide +kernel
theorem index_2 : ∀ t : Fin grid0.N, win0_2.index t 0 = t.val / 8 / 3 ∧ win0_2.index t 1 = 0 ∧ win0_2.index t 2 = t.val / 8 % 3 := by decide +kernel

/-- One block's product. -/
theorem block_dot (x : FVec Ideal S2048x1024 .bf16) (y : FVec Ideal S1024x1024 .bf16) (r : Fin 2048) (s : Fin 1024) :
    FloatOps.matmul dot_S2048x1024_S1024x1024_S2048x1024_1_0_0_1_n_n none x y (constant S2048x1024 .f32 0x00000000#32) (ix2 r s)
      = ∑ l : Fin 1024, x (ix2 r l) * y (ix2 l s) := by
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => exact hk
    | ⟨1, _⟩ => rfl

/-- A block with its leading axis of one put on or taken off. -/
theorem cast_on (y : FVec Ideal S2048x1024 .f32) (p : Fin 2048) (q : Fin 1024) :
    shapeCast S1x2048x1024 y shapeCasts_S2048x1024_S1x2048x1024 (ix3 0 p q) = y (ix2 p q) :=
  shapeCast_apply _ _ _ (ix2 p q) (by
    rw [Shape.rowMajor_val_two, Shape.rowMajor_val_three]
    show p.val * 1024 + q.val = (0 * 2048 + p.val) * 1024 + q.val
    omega)
theorem cast_off (y : FVec Ideal S1x2048x1024 .f32) (p : Fin 2048) (q : Fin 1024) :
    shapeCast S2048x1024 y shapeCasts_S1x2048x1024_S2048x1024 (ix2 p q) = y (ix3 0 p q) :=
  shapeCast_apply _ _ _ (ix3 0 p q) (by
    rw [Shape.rowMajor_val_two, Shape.rowMajor_val_three]
    show (0 * 2048 + p.val) * 1024 + q.val = p.val * 1024 + q.val
    omega)

theorem pay1 (x : FVec Ideal S2048x1024 .bf16) (y : FVec Ideal S1024x1024 .bf16) (r : Fin 2048) (s : Fin 1024) :
    k0_pay1 (F := Ideal) x y (ix3 0 r s) = (0 : EReal) + ∑ l : Fin 1024, x (ix2 r l) * y (ix2 l s) := by
  rw [zero_add]
  unfold k0_pay1
  rw [shapeCast_self]
  refine (cast_on _ r s).trans ?_
  refine (block_dot x _ r s).trans ?_
  rfl

theorem pay2 (v : FVec Ideal S1x2048x1024 .f32) (x : FVec Ideal S2048x1024 .bf16) (y : FVec Ideal S1024x1024 .bf16) (r : Fin 2048) (s : Fin 1024) :
    k0_pay2 (F := Ideal) v x y (ix3 0 r s) = v (ix3 0 r s) + ∑ l : Fin 1024, x (ix2 r l) * y (ix2 l s) := by
  unfold k0_pay2
  rw [shapeCast_self]
  refine (cast_on _ r s).trans ?_
  exact congrArg₂ (fun a b : EReal => a + b) (cast_off v r s) (block_dot x _ r s)

/-- The blocks a point reads. -/
abbrev aB (t : Fin cfg0.N) : FVec Ideal S2048x1024 .bf16 := iblk m c 0 t
abbrev bB (t : Fin cfg0.N) : FVec Ideal S1024x1024 .bf16 := iblk m c 1 t

theorem lay_A (i : Fin 2048) (k : Fin 8192) : (V m c main_v0 : FVec Ideal S2048x8192 .bf16) (ix2 i k) = argA m c (ix2 k i) := by
  unfold V
  after_reads_simp
  exact transpose_apply [1, 0] _ transposes_S8192x2048_S2048x8192_1_0 (ix2 i k) (ix2 k i) (fun b => match b with
    | ⟨0, _⟩ => rfl
    | ⟨1, _⟩ => rfl)

theorem aB_read (t : Fin cfg0.N) (r : Fin 2048) (l : Fin 1024) : aB m c t (ix2 r l) = (V m c main_v0 : FVec Ideal S2048x8192 .bf16) (ix2 r ⟨t.val % 8 * 1024 + l.val, by have := t.isLt; have := N_eq; omega⟩) := by
  unfold aB iblk
  rw [View.read_apply]
  show V m c main_v0 _ = V m c main_v0 _
  refine congrArg _ (funext fun a => Fin.ext ?_)
  match a with
  | ⟨0, _⟩ => show win0_0.index t 0 * 2048 + 1 * r.val = r.val; rw [(index_0 t).1]; omega
  | ⟨1, _⟩ => show win0_0.index t 1 * 1024 + 1 * l.val = t.val % 8 * 1024 + l.val; rw [(index_0 t).2]; omega

theorem aB_apply (t : Fin cfg0.N) (r : Fin 2048) (l : Fin 1024) : aB m c t (ix2 r l) = facA m c ⟨r.val, by have := t.isLt; have := N_eq; omega⟩ ⟨t.val % 8 * 1024 + l.val, by have := t.isLt; have := N_eq; omega⟩ :=
  (aB_read m c t r l).trans ((lay_A m c _ _).trans rfl)

theorem bB_read (t : Fin cfg0.N) (l : Fin 1024) (s : Fin 1024) : bB m c t (ix2 l s) = (V m c main_arg1 : FVec Ideal S8192x12288 .bf16) (ix2 ⟨t.val % 8 * 1024 + l.val, by have := t.isLt; have := N_eq; omega⟩ ⟨t.val / 8 * 1024 + s.val, by have := t.isLt; have := N_eq; omega⟩) := by
  unfold bB iblk
  rw [View.read_apply]
  show V m c main_arg1 _ = V m c main_arg1 _
  refine congrArg _ (funext fun a => Fin.ext ?_)
  match a with
  | ⟨0, _⟩ => show win0_1.index t 0 * 1024 + 1 * l.val = t.val % 8 * 1024 + l.val; rw [(index_1 t).1]; omega
  | ⟨1, _⟩ => show win0_1.index t 1 * 1024 + 1 * s.val = t.val / 8 * 1024 + s.val; rw [(index_1 t).2]; omega

theorem bB_apply (t : Fin cfg0.N) (l : Fin 1024) (s : Fin 1024) : bB m c t (ix2 l s) = facB m c ⟨t.val % 8 * 1024 + l.val, by have := t.isLt; have := N_eq; omega⟩ ⟨t.val / 8 * 1024 + s.val, by have := t.isLt; have := N_eq; omega⟩ :=
  (bB_read m c t l s).trans ((congrFun (V_main_arg1 m c) _).trans rfl)

/-- What the last of a block's 8 points leaves. -/
theorem out_sum (t : Fin cfg0.N) (h : t.val % 8 = 7) (i : Fin 2048 × Fin 1024) :
    (outsAt0 m c t.val t.isLt : FVec Ideal S1x2048x1024 .f32) (ix3 0 i.1 i.2)
      = ∑ s : Fin 8, ∑ l : Fin 1024, aB m c ⟨8 * (t.val / 8) + s.val, by have := t.isLt; have := N_eq; omega⟩ (ix2 i.1 l) * bB m c ⟨8 * (t.val / 8) + s.val, by have := t.isLt; have := N_eq; omega⟩ (ix2 l i.2) := by
  rw [Pipeline.eq_sum_fin_of_reset_step_apply_of_flush (fun n h (i : Fin 2048 × Fin 1024) => (outsAt0 m c n h : FVec Ideal S1x2048x1024 .f32) (ix3 0 i.1 i.2)) 8
    (fun _ => (0 : EReal)) (fun t i => ∑ l : Fin 1024, aB m c t (ix2 i.1 l) * bB m c t (ix2 l i.2))
    (fun t h i => by rw [outsAt0_A m c t h (by omega)]; frame_out; exact pay1 _ _ _ _)
    (fun t h i => by rw [outsAt0_B m c t h (by omega)]; frame_out; exact pay2 _ _ _ _ _) t h i]
  exact zero_add _

theorem emb_out (t : Fin cfg0.N) (y : ((cfg0.win 2).xblock (cfg0.grid.coords t)).Idx) :
    (((cfg0.win 2).blk t).view.emb y : S4x2048x3072.Idx)
      = ix3 (n0 := 4) (n1 := 2048) (n2 := 3072) ⟨t.val / 8 / 3, by have := t.isLt; have := N_eq; have : (y 0).val < 1 := (y 0).isLt; have : (y 1).val < 2048 := (y 1).isLt; have : (y 2).val < 1024 := (y 2).isLt; omega⟩ ⟨(y 1).val, by have := t.isLt; have := N_eq; have : (y 0).val < 1 := (y 0).isLt; have : (y 1).val < 2048 := (y 1).isLt; have : (y 2).val < 1024 := (y 2).isLt; omega⟩ ⟨t.val / 8 % 3 * 1024 + (y 2).val, by have := t.isLt; have := N_eq; have : (y 0).val < 1 := (y 0).isLt; have : (y 1).val < 2048 := (y 1).isLt; have : (y 2).val < 1024 := (y 2).isLt; omega⟩ := by
  funext a; apply Fin.ext
  match a with
  | ⟨0, _⟩ => show win0_2.index t 0 * 1 + 1 * (y 0).val = t.val / 8 / 3; rw [(index_2 t).1]; have : (y 0).val < 1 := (y 0).isLt; omega
  | ⟨1, _⟩ => show win0_2.index t 1 * 2048 + 1 * (y 1).val = (y 1).val; rw [(index_2 t).2.1]; omega
  | ⟨2, _⟩ => show win0_2.index t 2 * 1024 + 1 * (y 2).val = t.val / 8 % 3 * 1024 + (y 2).val; rw [(index_2 t).2.2]; omega

/-- The whole product in blocks of columns. -/
def landing : FVec Ideal S4x2048x3072 .f32 := fun i => result m c (ix2 (i 1) ⟨(i 0).val * 3072 + (i 2).val, by
  have : (i 0).val < 4 := (i 0).isLt; have : (i 2).val < 3072 := (i 2).isLt; omega⟩)

/-- The launch's result is the whole product. -/
theorem final : (dats m 0 c).arrAt 2 cfg0.N = landing m c := by
  refine (dats m 0 c).arrAt_eq_of_covers 2 _ (by decide +kernel) fun t hf y => ?_
  have := t.isLt; have := N_eq
  have : (y 0).val < 1 := (y 0).isLt
  have : (y 1).val < 2048 := (y 1).isLt
  have : (y 2).val < 1024 := (y 2).isLt
  have hm : t.val % 8 = 7 := (flush0_2 t).mp hf
  have ey : y = ix3 (n0 := 1) (n1 := 2048) (n2 := 1024) 0 ⟨(y 1).val, (y 1).isLt⟩ ⟨(y 2).val, (y 2).isLt⟩ := by
    funext a; apply Fin.ext
    match a with
    | ⟨0, _⟩ => show (y 0).val = 0; omega
    | ⟨1, _⟩ => rfl
    | ⟨2, _⟩ => rfl
  refine (cast_eq _ _).trans ((congrFun (after0_2 m c t) _).trans ((congrArg (outsAt0 m c t.val t.isLt : FVec Ideal S1x2048x1024 .f32) ey).trans
    ((out_sum m c t hm ((⟨(y 1).val, (y 1).isLt⟩ : Fin 2048), (⟨(y 2).val, (y 2).isLt⟩ : Fin 1024))).trans ?_)))
  refine Eq.trans ?_ (congrArg (landing m c) (emb_out t y)).symm
  show _ = ∑ k : Fin 8192, facA m c _ k * facB m c k _
  refine Eq.trans ?_ (sum_blocks 8 1024 rfl _).symm
  refine Finset.sum_congr rfl fun s _ => Finset.sum_congr rfl fun l _ => ?_
  rw [aB_apply, bB_apply]
  refine congrArg₂ (· * ·) (congrArg₂ (facA m c) (Fin.ext ?_) (Fin.ext ?_)) (congrArg₂ (facB m c) (Fin.ext ?_) (Fin.ext ?_))
  · show (y 1).val = (y 1).val; omega
  · show (8 * (t.val / 8) + s.val) % 8 * 1024 + l.val = s.val * 1024 + l.val; omega
  · show (8 * (t.val / 8) + s.val) % 8 * 1024 + l.val = s.val * 1024 + l.val; omega
  · show (8 * (t.val / 8) + s.val) / 8 * 1024 + (y 2).val = t.val / 8 / 3 * 3072 + (t.val / 8 % 3 * 1024 + (y 2).val); omega

/-! ## The host lines after it -/

abbrev tail (U : Valuation τ sig (Elt Ideal)) : Valuation τ sig (Elt Ideal) := StableHlo.after (hostOps1 (F := Ideal)) U

/-- The buffers as the launch leaves them. -/
abbrev landed : Valuation τ sig (Elt Ideal) := Pipeline.withArrays spec0 c (V0 m c) fun w => (dats m 0 c).arrAt w cfg0.N

theorem tail_landed (b : Ref sig .tc) : Pipeline.afterTail₀ cfgs (dats m) 0 (V0 m) [hostOps1] c b = tail (landed m c) (Proc.devRef .tc b) := by
  unfold Pipeline.afterTail₀
  rw [List.flatten_singleton]

theorem arr_inj : Function.Injective (Pipeline.arrRef spec0) := by decide

theorem landed_out : landed m c (Proc.devRef .tc main_v1) = landing m c :=
  (Pipeline.withArrays_arr spec0 arr_inj c (V0 m c) _ 2).trans (final m c)

theorem tail_out (U : Valuation τ sig (Elt Ideal)) (X : FVec Ideal S4x2048x3072 .f32) (hU : U (Proc.devRef .tc main_v1) = X)
    (i : Fin 2048) (b : Fin 4) (q : Fin 3072) :
    (tail U (Proc.devRef .tc main_v3) : FVec Ideal S2048x12288 .f32) (ix2 i ⟨b.val * 3072 + q.val, by omega⟩) = X (ix3 b i q) := by
  unfold tail
  after_reads_simp
  rw [hU]
  refine (shapeCast_apply _ shapeCasts_S2048x4x3072_S2048x12288 (ix2 i ⟨b.val * 3072 + q.val, by omega⟩) (ix3 i b q) (by
    rw [Shape.rowMajor_val_two, Shape.rowMajor_val_three]
    show (i.val * 4 + b.val) * 3072 + q.val = i.val * 12288 + (b.val * 3072 + q.val)
    omega)).trans ?_
  exact transpose_apply [1, 0, 2] _ transposes_S4x2048x3072_S2048x4x3072_1_0_2 (ix3 i b q) (ix3 b i q) (fun b => match b with
    | ⟨0, _⟩ => rfl
    | ⟨1, _⟩ => rfl
    | ⟨2, _⟩ => rfl)

theorem host_result : tail (landed m c) (Proc.devRef .tc main_v3) = result m c := by
  funext i
  have h1 : (i 1).val < 12288 := (i 1).isLt
  have e : i = ix2 (n0 := 2048) (n1 := 12288) (i 0) ⟨(⟨(i 1).val / 3072, by omega⟩ : Fin 4).val * 3072 + (⟨(i 1).val % 3072, by omega⟩ : Fin 3072).val, by
      show (i 1).val / 3072 * 3072 + (i 1).val % 3072 < 12288; omega⟩ := by
    funext a; apply Fin.ext
    match a with
    | ⟨0, _⟩ => rfl
    | ⟨1, _⟩ => show (i 1).val = (i 1).val / 3072 * 3072 + (i 1).val % 3072; omega
  rw [e]
  exact (tail_out (landed m c) _ (landed_out m c) (i 0) _ _).trans rfl

end

/-! ## Equal -/

/-- The launch's result is the reference's. -/
theorem algebraic : Cert.algebraic_Kernel3Ideal_Reference3Ideal := fun m g m' g' _ hargs => by
  refine ⟨fun c => result m c, ?_, ?_⟩
  · refine (θ_run _ _ _).mono (fun r h c => ?_) (θ_run_and (Cert.Kernel3Ideal.Gen.run_main (F := Ideal) m g) (Cert.Kernel3Ideal.Gen.unchanged (F := Ideal) m g))
    exact ⟨((h.1 c).2 Cert.Kernel3Ideal.main_v3 (Pipeline.mem_restRefs_of Cert.Kernel3Ideal.main_v3 (by decide) (by decide))).trans
      ((tail_landed m c _).trans (host_result m c)), h.2 c⟩
  · refine (θ_run _ _ _).mono (fun r h c => ?_) (Cert.Reference3Ideal.Value.run (F := Ideal) m' g')
    obtain ⟨a0, a1⟩ := hargs c
    refine ⟨(h c).1.trans ?_, (h c).2⟩
    rw [a0, a1]
    funext i
    rw [eq_ix2 i]
    exact ref_at _ _ (i 0) (i 1)

end Cert.Proof.GmlpInDw

end
-- ==== Proof.GmlpInDx.lean ====
/-
  The gradient of the gMLP's input projection by its input: the call `a1_dh`. Its blocks are summed over 4 blocks of the contracted axis; the
  result is the whole product, and so is the reference's.
-/
module

public import proofs.«01_k».proof.Defs
public import proofs.«01_k».proof.Proof.Gen.Kernel2Ideal.Value
public import proofs.«01_k».proof.Proof.Gen.Reference2Ideal.Run
public import proofs.«01_k».proof.Proof.Sums
public import Idealize.ShloMosaic.Lib.Pipeline.ValueKit
public import Idealize.ShloMosaic.Lib.ValueIdx
public import Idealize.ShloMosaic.Lib.StableHlo.RunRead
public import Idealize.ShloMosaic.PureOps.Ideal.Laws

@[expose] public section

set_option maxRecDepth 16384

noncomputable section

namespace Cert.Proof.GmlpInDx

open Idealize.ShloMosaic hiding ix0 ix2 ix3 eq_ix2 eq_ix3
open Idealize.ShloMosaic.ValueIdx Idealize.ShloMosaic.TcCoe Idealize.SL.Sem
open scoped BigOperators

/-! ## The reference -/

section
open Cert.Reference2Ideal Cert.Reference2Ideal.Gen

/-- The reference's product. -/
theorem ref_at (x : FVec Ideal S8192x12288 .f32) (y : FVec Ideal S2048x12288 .f32) (i : Fin 8192) (j : Fin 2048) :
    Host.dotGeneral dot_S8192x12288_S2048x12288_S8192x2048_1_1_0_0_n_n none x y (ix2 i j)
      = ∑ k : Fin 12288, x (ix2 i k) * y (ix2 j k) := by
  refine (Ideal.dotGeneral_apply _ none _ x y (ix2 i j)).trans ?_
  rw [← Equiv.sum_comp (contrEquiv1 dot_S8192x12288_S2048x12288_S8192x2048_1_1_0_0_n_n 12288 rfl rfl).symm]
  refine Finset.sum_congr rfl fun k _ => ?_
  have hk := contrEquiv1_symm_val dot_S8192x12288_S2048x12288_S8192x2048_1_1_0_0_n_n 12288 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => rfl
    | ⟨1, _⟩ => exact hk

end

/-! ## The launch -/

section
open Cert.Kernel2Ideal Cert.Kernel2Ideal.Gen

variable (m : (ℓ : Loc nD τ sig) → Buf (Elt Ideal) ℓ) (c : Dev nD)

/-- The arguments. -/
abbrev argA : FVec Ideal S8192x12288 .bf16 := m ((c : Thread nD τ).loc main_arg1)
abbrev argB : FVec Ideal S2048x12288 .bf16 := m ((c : Thread nD τ).loc main_arg0)

/-- The two factors, by row and column. -/
def facA (i : Fin 8192) (k : Fin 12288) : EReal := argA m c (ix2 i k)
def facB (k : Fin 12288) (j : Fin 2048) : EReal := argB m c (ix2 j k)

/-- The whole product. -/
def result : FVec Ideal S8192x2048 .f32 := fun i => ∑ k : Fin 12288, facA m c (i 0) k * facB m c k (i 1)

theorem N_eq : cfg0.N = 64 := by decide +kernel
theorem index_0 : ∀ t : Fin grid0.N, win0_0.index t 0 = t.val / 8 ∧ win0_0.index t 1 = t.val % 4 := by decide +kernel
theorem index_1 : ∀ t : Fin grid0.N, win0_1.index t 0 = t.val % 4 ∧ win0_1.index t 1 = t.val / 4 % 2 ∧ win0_1.index t 2 = 0 := by decide +kernel
theorem index_2 : ∀ t : Fin grid0.N, win0_2.index t 0 = t.val / 8 ∧ win0_2.index t 1 = t.val / 4 % 2 := by decide +kernel

/-- One block's product. -/
theorem block_dot (x : FVec Ideal S1024x3072 .bf16) (y : FVec Ideal S1024x3072 .bf16) (r : Fin 1024) (s : Fin 1024) :
    FloatOps.matmul dot_S1024x3072_S1024x3072_S1024x1024_1_1_0_0_n_n none x y (constant S1024x1024 .f32 0x00000000#32) (ix2 r s)
      = ∑ l : Fin 3072, x (ix2 r l) * y (ix2 s l) := by
  rw [Ideal.matmul_constant_zero_apply, ← Equiv.sum_comp (contrEquiv1 dot_S1024x3072_S1024x3072_S1024x1024_1_1_0_0_n_n 3072 rfl rfl).symm]
  refine Finset.sum_congr rfl fun k _ => ?_
  have hk := contrEquiv1_symm_val dot_S1024x3072_S1024x3072_S1024x1024_1_1_0_0_n_n 3072 rfl rfl k
  refine congrArg₂ (· * ·) (congrArg x ?_) (congrArg y ?_) <;> funext a <;> apply Fin.ext
  · match a with
    | ⟨0, _⟩ => rfl
    | ⟨1, _⟩ => exact hk
  · match a with
    | ⟨0, _⟩ => rfl
    | ⟨1, _⟩ => exact hk

/-- The weight's block without its leading axis of one. -/
theorem cast_block (y : FVec Ideal S1x1024x3072 .bf16) (p : Fin 1024) (q : Fin 3072) :
    shapeCast S1024x3072 y shapeCasts_S1x1024x3072_S1024x3072 (ix2 p q) = y (ix3 0 p q) :=
  shapeCast_apply _ _ _ (ix3 0 p q) (by
    rw [Shape.rowMajor_val_two, Shape.rowMajor_val_three]
    show (0 * 1024 + p.val) * 3072 + q.val = p.val * 3072 + q.val
    omega)

theorem pay1 (x : FVec Ideal S1024x3072 .bf16) (y : FVec Ideal S1x1024x3072 .bf16) (r : Fin 1024) (s : Fin 1024) :
    k0_pay1 (F := Ideal) x y (ix2 r s) = (0 : EReal) + ∑ l : Fin 3072, x (ix2 r l) * y (ix3 0 s l) := by
  rw [zero_add]
  refine (block_dot x _ r s).trans ?_
  simp only [cast_block]

theorem pay2 (v : FVec Ideal S1024x1024 .f32) (x : FVec Ideal S1024x3072 .bf16) (y : FVec Ideal S1x1024x3072 .bf16) (r : Fin 1024) (s : Fin 1024) :
    k0_pay2 (F := Ideal) v x y (ix2 r s) = v (ix2 r s) + ∑ l : Fin 3072, x (ix2 r l) * y (ix3 0 s l) := by
  unfold k0_pay2
  rw [shapeCast_self]
  refine congrArg (v (ix2 r s) + ·) ((block_dot x _ r s).trans ?_)
  simp only [cast_block]

/-- The blocks a point reads. -/
abbrev aB (t : Fin cfg0.N) : FVec Ideal S1024x3072 .bf16 := iblk m c 0 t
abbrev bB (t : Fin cfg0.N) : FVec Ideal S1x1024x3072 .bf16 := iblk m c 1 t

theorem aB_read (t : Fin cfg0.N) (r : Fin 1024) (l : Fin 3072) : aB m c t (ix2 r l) = (V m c main_arg1 : FVec Ideal S8192x12288 .bf16) (ix2 ⟨t.val / 8 * 1024 + r.val, by have := t.isLt; have := N_eq; omega⟩ ⟨t.val % 4 * 3072 + l.val, by have := t.isLt; have := N_eq; omega⟩) := by
  unfold aB iblk
  rw [View.read_apply]
  show V m c main_arg1 _ = V m c main_arg1 _
  refine congrArg _ (funext fun a => Fin.ext ?_)
  match a with
  | ⟨0, _⟩ => show win0_0.index t 0 * 1024 + 1 * r.val = t.val / 8 * 1024 + r.val; rw [(index_0 t).1]; omega
  | ⟨1, _⟩ => show win0_0.index t 1 * 3072 + 1 * l.val = t.val % 4 * 3072 + l.val; rw [(index_0 t).2]; omega

theorem aB_apply (t : Fin cfg0.N) (r : Fin 1024) (l : Fin 3072) : aB m c t (ix2 r l) = facA m c ⟨t.val / 8 * 1024 + r.val, by have := t.isLt; have := N_eq; omega⟩ ⟨t.val % 4 * 3072 + l.val, by have := t.isLt; have := N_eq; omega⟩ :=
  (aB_read m c t r l).trans ((congrFun (V_main_arg1 m c) _).trans rfl)

/-- The weight's blocks of columns. -/
theorem lay_B (b : Fin 4) (r : Fin 2048) (q : Fin 3072) :
    (V m c main_v1 : FVec Ideal S4x2048x3072 .bf16) (ix3 b r q) = argB m c (ix2 r ⟨b.val * 3072 + q.val, by omega⟩) := by
  unfold V
  after_reads_simp
  refine (transpose_apply [1, 0, 2] _ transposes_S2048x4x3072_S4x2048x3072_1_0_2 (ix3 b r q) (ix3 r b q) (fun b => match b with
    | ⟨0, _⟩ => rfl
    | ⟨1, _⟩ => rfl
    | ⟨2, _⟩ => rfl)).trans ?_
  exact shapeCast_apply _ shapeCasts_S2048x12288_S2048x4x3072 (ix3 r b q) (ix2 r ⟨b.val * 3072 + q.val, by omega⟩) (by
    rw [Shape.rowMajor_val_two, Shape.rowMajor_val_three]
    show r.val * 12288 + (b.val * 3072 + q.val) = (r.val * 4 + b.val) * 3072 + q.val
    omega)

theorem bB_read (t : Fin cfg0.N) (l : Fin 3072) (s : Fin 1024) : bB m c t (ix3 0 s l) = (V m c main_v1 : FVec Ideal S4x2048x3072 .bf16) (ix3 ⟨t.val % 4, by have := t.isLt; have := N_eq; omega⟩ ⟨t.val / 4 % 2 * 1024 + s.val, by have := t.isLt; have := N_eq; omega⟩ l) := by
  unfold bB iblk
  rw [View.read_apply]
  show V m c main_v1 _ = V m c main_v1 _
  refine congrArg _ (funext fun a => Fin.ext ?_)
  match a with
  | ⟨0, _⟩ => show win0_1.index t 0 * 1 + 1 * 0 = t.val % 4; rw [(index_1 t).1]; omega
  | ⟨1, _⟩ => show win0_1.index t 1 * 1024 + 1 * s.val = t.val / 4 % 2 * 1024 + s.val; rw [(index_1 t).2.1]; omega
  | ⟨2, _⟩ => show win0_1.index t 2 * 3072 + 1 * l.val = l.val; rw [(index_1 t).2.2]; omega

theorem bB_apply (t : Fin cfg0.N) (l : Fin 3072) (s : Fin 1024) : bB m c t (ix3 0 s l) = facB m c ⟨t.val % 4 * 3072 + l.val, by have := t.isLt; have := N_eq; omega⟩ ⟨t.val / 4 % 2 * 1024 + s.val, by have := t.isLt; have := N_eq; omega⟩ := by
  have := t.isLt; have := N_eq
  refine (bB_read m c t l s).trans ((lay_B m c _ _ _).trans (congrArg (argB m c) (funext fun a => Fin.ext ?_)))
  match a with
  | ⟨0, _⟩ => show t.val / 4 % 2 * 1024 + s.val = t.val / 4 % 2 * 1024 + s.val; omega
  | ⟨1, _⟩ => show t.val % 4 * 3072 + l.val = t.val % 4 * 3072 + l.val; omega

/-- What the last of a block's 4 points leaves. -/
theorem out_sum (t : Fin cfg0.N) (h : t.val % 4 = 3) (i : Fin 1024 × Fin 1024) :
    (outsAt0 m c t.val t.isLt : FVec Ideal S1024x1024 .f32) (ix2 i.1 i.2)
      = ∑ s : Fin 4, ∑ l : Fin 3072, aB m c ⟨4 * (t.val / 4) + s.val, by have := t.isLt; have := N_eq; omega⟩ (ix2 i.1 l) * bB m c ⟨4 * (t.val / 4) + s.val, by have := t.isLt; have := N_eq; omega⟩ (ix3 0 i.2 l) := by
  rw [Pipeline.eq_sum_fin_of_reset_step_apply_of_flush (fun n h (i : Fin 1024 × Fin 1024) => (outsAt0 m c n h : FVec Ideal S1024x1024 .f32) (ix2 i.1 i.2)) 4
    (fun _ => (0 : EReal)) (fun t i => ∑ l : Fin 3072, aB m c t (ix2 i.1 l) * bB m c t (ix3 0 i.2 l))
    (fun t h i => by rw [outsAt0_A m c t h (by omega)]; frame_out; exact pay1 _ _ _ _)
    (fun t h i => by rw [outsAt0_B m c t h (by omega)]; frame_out; exact pay2 _ _ _ _ _) t h i]
  exact zero_add _

theorem emb_out (t : Fin cfg0.N) (y : ((cfg0.win 2).xblock (cfg0.grid.coords t)).Idx) :
    (((cfg0.win 2).blk t).view.emb y : S8192x2048.Idx)
      = ix2 (n0 := 8192) (n1 := 2048) ⟨t.val / 8 * 1024 + (y 0).val, by have := t.isLt; have := N_eq; have : (y 0).val < 1024 := (y 0).isLt; have : (y 1).val < 1024 := (y 1).isLt; omega⟩ ⟨t.val / 4 % 2 * 1024 + (y 1).val, by have := t.isLt; have := N_eq; have : (y 0).val < 1024 := (y 0).isLt; have : (y 1).val < 1024 := (y 1).isLt; omega⟩ := by
  funext a; apply Fin.ext
  match a with
  | ⟨0, _⟩ => show win0_2.index t 0 * 1024 + 1 * (y 0).val = t.val / 8 * 1024 + (y 0).val; rw [(index_2 t).1]; omega
  | ⟨1, _⟩ => show win0_2.index t 1 * 1024 + 1 * (y 1).val = t.val / 4 % 2 * 1024 + (y 1).val; rw [(index_2 t).2]; omega

/-- The launch's result is the whole product. -/
theorem final : (dats m 0 c).arrAt 2 cfg0.N = result m c := by
  refine (dats m 0 c).arrAt_eq_of_covers 2 _ (by decide +kernel) fun t hf y => ?_
  have := t.isLt; have := N_eq
  have : (y 0).val < 1024 := (y 0).isLt
  have : (y 1).val < 1024 := (y 1).isLt
  have hm : t.val % 4 = 3 := (flush0_2 t).mp hf
  refine (cast_eq _ _).trans ((congrFun (after0_2 m c t) _).trans ((congrArg (outsAt0 m c t.val t.isLt : FVec Ideal S1024x1024 .f32) (eq_ix2 _)).trans
    ((out_sum m c t hm ((⟨(y 0).val, (y 0).isLt⟩ : Fin 1024), (⟨(y 1).val, (y 1).isLt⟩ : Fin 1024))).trans ?_)))
  refine Eq.trans ?_ (congrArg (result m c) (emb_out t y)).symm
  refine Eq.trans ?_ (sum_blocks 4 3072 rfl _).symm
  refine Finset.sum_congr rfl fun s _ => Finset.sum_congr rfl fun l _ => ?_
  rw [aB_apply, bB_apply]
  refine congrArg₂ (· * ·) (congrArg₂ (facA m c) (Fin.ext ?_) (Fin.ext ?_)) (congrArg₂ (facB m c) (Fin.ext ?_) (Fin.ext ?_))
  · show (4 * (t.val / 4) + s.val) / 8 * 1024 + (y 0).val = t.val / 8 * 1024 + (y 0).val; omega
  · show (4 * (t.val / 4) + s.val) % 4 * 3072 + l.val = s.val * 3072 + l.val; omega
  · show (4 * (t.val / 4) + s.val) % 4 * 3072 + l.val = s.val * 3072 + l.val; omega
  · show (4 * (t.val / 4) + s.val) / 4 % 2 * 1024 + (y 1).val = t.val / 4 % 2 * 1024 + (y 1).val; omega

end

/-! ## Equal -/

/-- The launch's result is the reference's. -/
theorem algebraic : Cert.algebraic_Kernel2Ideal_Reference2Ideal := fun m g m' g' _ hargs => by
  refine ⟨fun c => result m c, ?_, ?_⟩
  · refine (θ_run _ _ _).mono (fun r h c => ?_) (Cert.Kernel2Ideal.Value.run_blocks (F := Ideal) m g)
    exact ⟨(h c).1.trans (final m c), (h c).2⟩
  · refine (θ_run _ _ _).mono (fun r h c => ?_) (Cert.Reference2Ideal.Value.run (F := Ideal) m' g')
    obtain ⟨a0, a1⟩ := hargs c
    refine ⟨(h c).1.trans ?_, (h c).2⟩
    rw [a0, a1]
    funext i
    rw [eq_ix2 i]
    exact ref_at _ _ (i 0) (i 1)

end Cert.Proof.GmlpInDx

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_heads
public import proofs.«01_k».proof.Proof.Run
public import proofs.«01_k».proof.Proof.SameText
public import proofs.«01_k».proof.Proof.Equal
public import proofs.«01_k».proof.Proof.AdamW
public import proofs.«01_k».proof.Proof.AttnOut
public import proofs.«01_k».proof.Proof.NormGrad
public import proofs.«01_k».proof.Proof.Loss
public import proofs.«01_k».proof.Proof.Norm
public import proofs.«01_k».proof.Proof.Gate
public import proofs.«01_k».proof.Proof.QkNorms
public import proofs.«01_k».proof.Proof.GmlpOut
public import proofs.«01_k».proof.Proof.AttnIn
public import proofs.«01_k».proof.Proof.GatedEqual
public import proofs.«01_k».proof.Proof.GmlpIn
public import proofs.«01_k».proof.Proof.AttnOutDw
public import proofs.«01_k».proof.Proof.AttnOutDx
public import proofs.«01_k».proof.Proof.AttnInDw
public import proofs.«01_k».proof.Proof.AttnInDx
public import proofs.«01_k».proof.Proof.GmlpOutDw
public import proofs.«01_k».proof.Proof.GmlpOutDx
public import proofs.«01_k».proof.Proof.GmlpInDw
public import proofs.«01_k».proof.Proof.GmlpInDx
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Loops
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Loops
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel runs, keeps its arguments and ends with every counter at zero. -/
theorem frame_kernel : Cert.quiescent_Kernel := fun m ρ _ => by
  rw [SameText.defs_eq, show Cert.Kernel.main (F := Bits) = Cert.KernelIdeal.main (F := Bits) from funext SameText.main_eq]
  exact Attn.run_frame (F := Bits) m ρ

/-- The same of its idealization: the same text over the extended reals. -/
theorem frame_ideal : Cert.quiescent_KernelIdeal := fun m ρ _ => Attn.run_frame (F := Ideal) m ρ

/-- The same under the precondition. -/
theorem frame_ideal_pre : Cert.quiescent_KernelIdeal_pre_finite := fun m ρ _ => Attn.run_frame (F := Ideal) m ρ

/-- The reference runs and keeps its arguments; it has no counters. -/
theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The products' references run and keep their arguments; they have no counters. -/
theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem frame_ref6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem frame_ref7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_ref8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem frame_ref9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
theorem frame_ref10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
theorem frame_ref11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem frame_ref12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
theorem frame_ref13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)
theorem frame_ref14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)
theorem frame_ref15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)
theorem frame_ref16 : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)
theorem frame_ref17 : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)
theorem frame_ref18 : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)
theorem frame_ref19 : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)
theorem frame_ref20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)
theorem frame_ref21 : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)
theorem frame_ref22 : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run (F := Ideal) m ρ)
theorem frame_ref23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)
theorem frame_ref24 : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.Gen.facts, Cert.Pre_finite_heads.Gen.facts,
  frame_kernel, frame_ideal, frame_ideal_pre, frame_ref, fun m ρ _ => frame_ref m ρ trivial,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ, frame_ref11,
  fun m ρ _ => Cert.Kernel12.Gen.frame m ρ, fun m ρ _ => Cert.Kernel12Ideal.Gen.frame m ρ, frame_ref12,
  fun m ρ _ => Cert.Kernel13.Gen.frame m ρ, fun m ρ _ => Cert.Kernel13Ideal.Gen.frame m ρ, frame_ref13,
  fun m ρ _ => Cert.Kernel14.Gen.frame m ρ, fun m ρ _ => Cert.Kernel14Ideal.Gen.frame m ρ, frame_ref14,
  fun m ρ _ => Cert.Kernel15.Gen.frame m ρ, fun m ρ _ => Cert.Kernel15Ideal.Gen.frame m ρ, frame_ref15,
  fun m ρ _ => Cert.Kernel16.Gen.frame m ρ, fun m ρ _ => Cert.Kernel16Ideal.Gen.frame m ρ, frame_ref16,
  fun m ρ _ => Cert.Kernel17.Gen.frame m ρ, fun m ρ _ => Cert.Kernel17Ideal.Gen.frame m ρ, frame_ref17,
  fun m ρ _ => Cert.Kernel18.Gen.frame m ρ, fun m ρ _ => Cert.Kernel18Ideal.Gen.frame m ρ, fun m ρ _ => Cert.Kernel18Ideal.Gen.frame m ρ,
  frame_ref18, fun m ρ _ => frame_ref18 m ρ trivial,
  fun m ρ _ => Cert.Kernel19.Gen.frame m ρ, fun m ρ _ => Cert.Kernel19Ideal.Gen.frame m ρ, frame_ref19,
  fun m ρ _ => Cert.Kernel20.Gen.frame m ρ, fun m ρ _ => Cert.Kernel20Ideal.Gen.frame m ρ, frame_ref20,
  fun m ρ _ => Cert.Kernel21.Gen.frame m ρ, fun m ρ _ => Cert.Kernel21Ideal.Gen.frame m ρ, frame_ref21,
  fun m ρ _ => Cert.Kernel22.Gen.frame m ρ, fun m ρ _ => Cert.Kernel22Ideal.Gen.frame m ρ, frame_ref22,
  fun m ρ _ => Cert.Kernel23.Gen.frame m ρ, fun m ρ _ => Cert.Kernel23Ideal.Gen.frame m ρ, frame_ref23,
  fun m ρ _ => Cert.Kernel24.Gen.frame m ρ, fun m ρ _ => Cert.Kernel24Ideal.Gen.frame m ρ, frame_ref24,
  trivial, Attn.algebraic,
  trivial, GmlpInDx.algebraic,
  trivial, GmlpInDw.algebraic,
  trivial, GmlpOutDx.algebraic,
  trivial, GmlpOutDw.algebraic,
  trivial, AttnInDx.algebraic,
  trivial, AttnInDw.algebraic,
  trivial, AttnOutDx.algebraic,
  trivial, AttnOutDw.algebraic,
  trivial, GmlpIn.algebraic,
  trivial, AttnIn.algebraic,
  trivial, GmlpOut.algebraic,
  trivial, AttnOut.algebraic,
  trivial, AdamW.algebraic14,
  trivial, AdamW.algebraic15,
  trivial, AdamW.algebraic16,
  trivial, AdamW.algebraic17,
  trivial, Gated.algebraic,
  trivial, AdamW.algebraic19,
  trivial, NormGrad.algebraic,
  trivial, Loss.algebraic,
  trivial, NormBoth.algebraic,
  trivial, Gate.algebraic,
  trivial, QkNorms.algebraic⟩

end Cert.Proof

end
